-- ==== Defs.lean ====
def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0_0)) (v1 : (c : Dev Cert.KernelOutIdeal.nD) → Buf (Elt Ideal) ((c.tc : Thread Cert.KernelOutIdeal.nD Cert.KernelOutIdeal.τ).loc Cert.KernelOutIdeal.main_v0_1)) (v2 : (c : Dev Cert.KernelOutIdeal.nD) → Buf (Elt Ideal) ((c.tc : Thread Cert.KernelOutIdeal.nD Cert.KernelOutIdeal.τ).loc Cert.KernelOutIdeal.main_v0_2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0_0) = v0 c
          ∧ r.2.mem ((c.tc : Thread Cert.KernelOutIdeal.nD Cert.KernelOutIdeal.τ).loc Cert.KernelOutIdeal.main_v0_1) = v1 c
          ∧ r.2.mem ((c.tc : Thread Cert.KernelOutIdeal.nD Cert.KernelOutIdeal.τ).loc Cert.KernelOutIdeal.main_v0_2) = v2 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v0_0) = v0 c
          ∧ r.2.mem ((c.tc : Thread Cert.ReferenceOutIdeal.nD Cert.ReferenceOutIdeal.τ).loc Cert.ReferenceOutIdeal.main_v0_1) = v1 c
          ∧ r.2.mem ((c.tc : Thread Cert.ReferenceOutIdeal.nD Cert.ReferenceOutIdeal.τ).loc Cert.ReferenceOutIdeal.main_v0_2) = v2 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v4_0)) (v1 : (c : Dev Cert.KernelInIdeal.nD) → Buf (Elt Ideal) ((c.tc : Thread Cert.KernelInIdeal.nD Cert.KernelInIdeal.τ).loc Cert.KernelInIdeal.main_v4_1)) (v2 : (c : Dev Cert.KernelInIdeal.nD) → Buf (Elt Ideal) ((c.tc : Thread Cert.KernelInIdeal.nD Cert.KernelInIdeal.τ).loc Cert.KernelInIdeal.main_v4_2)) (v3 : (c : Dev Cert.KernelInIdeal.nD) → Buf (Elt Ideal) ((c.tc : Thread Cert.KernelInIdeal.nD Cert.KernelInIdeal.τ).loc Cert.KernelInIdeal.main_v4_3)) (v4 : (c : Dev Cert.KernelInIdeal.nD) → Buf (Elt Ideal) ((c.tc : Thread Cert.KernelInIdeal.nD Cert.KernelInIdeal.τ).loc Cert.KernelInIdeal.main_v4_4)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v4_0) = v0 c
          ∧ r.2.mem ((c.tc : Thread Cert.KernelInIdeal.nD Cert.KernelInIdeal.τ).loc Cert.KernelInIdeal.main_v4_1) = v1 c
          ∧ r.2.mem ((c.tc : Thread Cert.KernelInIdeal.nD Cert.KernelInIdeal.τ).loc Cert.KernelInIdeal.main_v4_2) = v2 c
          ∧ r.2.mem ((c.tc : Thread Cert.KernelInIdeal.nD Cert.KernelInIdeal.τ).loc Cert.KernelInIdeal.main_v4_3) = v3 c
          ∧ r.2.mem ((c.tc : Thread Cert.KernelInIdeal.nD Cert.KernelInIdeal.τ).loc Cert.KernelInIdeal.main_v4_4) = v4 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v3_0) = v0 c
          ∧ r.2.mem ((c.tc : Thread Cert.ReferenceInIdeal.nD Cert.ReferenceInIdeal.τ).loc Cert.ReferenceInIdeal.main_v3_1) = v1 c
          ∧ r.2.mem ((c.tc : Thread Cert.ReferenceInIdeal.nD Cert.ReferenceInIdeal.τ).loc Cert.ReferenceInIdeal.main_v3_2) = v2 c
          ∧ r.2.mem ((c.tc : Thread Cert.ReferenceInIdeal.nD Cert.ReferenceInIdeal.τ).loc Cert.ReferenceInIdeal.main_v3_3) = v3 c
          ∧ r.2.mem ((c.tc : Thread Cert.ReferenceInIdeal.nD Cert.ReferenceInIdeal.τ).loc Cert.ReferenceInIdeal.main_v3_4) = v4 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def Claim : Prop :=
  ∃ (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts),
    quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
-- ==== KernelOut.lean ====
abbrev S72x12288 : Shape := ⟨2, ![72, 12288]⟩
abbrev S12288x6144 : Shape := ⟨2, ![12288, 6144]⟩
abbrev S1x6144 : Shape := ⟨2, ![1, 6144]⟩
abbrev S72x6144 : Shape := ⟨2, ![72, 6144]⟩
abbrev S72x1 : Shape := ⟨2, ![72, 1]⟩
abbrev S4x512x6144 : Shape := ⟨3, ![4, 512, 6144]⟩
abbrev S72x128 : Shape := ⟨2, ![72, 128]⟩
abbrev S24x72x512 : Shape := ⟨3, ![24, 72, 512]⟩
abbrev S4 : Shape := ⟨1, ![4]⟩
abbrev S1 : Shape := ⟨1, ![1]⟩
abbrev S_ : Shape := ⟨0, ![]⟩
abbrev S1x512x6144 : Shape := ⟨3, ![1, 512, 6144]⟩
abbrev S512x6144 : Shape := ⟨2, ![512, 6144]⟩
abbrev S72x512 : Shape := ⟨2, ![72, 512]⟩
abbrev S72 : Shape := ⟨1, ![72]⟩
abbrev S1x72x512 : Shape := ⟨3, ![1, 72, 512]⟩

abbrev nBuf : Space → Nat
  | .hbm => 6
  | .vmem => 9
  | .smem => 0
  | _ => 0

abbrev bufTy : (tb : Table) → Fin (tcTables nBuf tb) → BufTy
  | .hbm, ⟨0, _⟩ => ⟨S72x12288, .f32⟩
  | .hbm, ⟨1, _⟩ => ⟨S12288x6144, .i8⟩
  | .hbm, ⟨2, _⟩ => ⟨S1x6144, .f32⟩
  | .hbm, ⟨3, _⟩ => ⟨S72x6144, .bf16⟩
  | .hbm, ⟨4, _⟩ => ⟨S72x12288, .i8⟩
  | .hbm, ⟨5, _⟩ => ⟨S72x1, .f32⟩
  | .local _ .vmem, ⟨0, _⟩ => ⟨S72x12288, .f32⟩
  | .local _ .vmem, ⟨1, _⟩ => ⟨S1x6144, .f32⟩
  | .local _ .vmem, ⟨2, _⟩ => ⟨S72x6144, .bf16⟩
  | .local _ .vmem, ⟨3, _⟩ => ⟨S72x12288, .i8⟩
  | .local _ .vmem, ⟨4, _⟩ => ⟨S72x1, .f32⟩
  | .local _ .vmem, ⟨5, _⟩ => ⟨S4x512x6144, .i8⟩
  | .local _ .vmem, ⟨6, _⟩ => ⟨S72x128, .f32⟩
  | .local _ .vmem, ⟨7, _⟩ => ⟨S24x72x512, .bf16⟩
  | .local _ .vmem, ⟨8, _⟩ => ⟨S72x6144, .f32⟩
  | _, _ => ⟨S72x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_mult1 : BitVec 32 :=
  let c0_i32_1 : BitVec 32 := 0#32
  let c512_i32 : BitVec 32 := 512#32
  let v5 : BitVec 32 := Scalar.muli c0_i32_1 c512_i32
  v5
def k0_off1 (c0_i32 : BitVec 32) : Fin 1 → Nat :=
  let c4_i32 : BitVec 32 := 4#32
  let v4 : BitVec 32 := Scalar.remsi c0_i32 c4_i32
  ![v4.toNat]
def k0_off2 (c0_i32 : BitVec 32) : Fin 3 → Nat :=
  let c4_i32 : BitVec 32 := 4#32
  let v4 : BitVec 32 := Scalar.remsi c0_i32 c4_i32
  let c0_i32_2 : BitVec 32 := 0#32
  let c0_i32_3 : BitVec 32 := 0#32
  ![v4.toNat, 0, 0]
def k0_off3 (c0_i32_1 : BitVec 32) : Fin 2 → Nat :=
  let c512_i32 : BitVec 32 := 512#32
  let v5 : BitVec 32 := Scalar.muli c0_i32_1 c512_i32
  let v6 : BitVec 32 := v5
  let c0_i32_4 : BitVec 32 := 0#32
  ![v6.toNat, 0]
def k0_mult2 : BitVec 32 :=
  let c1_i32_6 : BitVec 32 := 1#32
  let c512_i32_7 : BitVec 32 := 512#32
  let v13 : BitVec 32 := Scalar.muli c1_i32_6 c512_i32_7
  v13
def k0_mult3 : BitVec 32 :=
  let c2_i32_12 : BitVec 32 := 2#32
  let c512_i32_13 : BitVec 32 := 512#32
  let v21 : BitVec 32 := Scalar.muli c2_i32_12 c512_i32_13
  v21
@[reducible] def k0_t1_loop : Scf.Loop 32 :=
  let c0_i32_17 : BitVec 32 := 0#32
  let c8_i32 : BitVec 32 := 8#32
  let v28 : BitVec 32 := Scalar.addi c0_i32_17 c8_i32
  let c1_i32_18 : BitVec 32 := 1#32
  ⟨c0_i32_17, v28, c1_i32_18⟩
def k0_mult4 (k0_t1 : Fin k0_t1_loop.trips) : BitVec 32 :=
  let c0_i32_17 : BitVec 32 := 0#32
  let c1_i32_18 : BitVec 32 := 1#32
  let arg11 : BitVec 32 := Scf.iv c0_i32_17 c1_i32_18 k0_t1
  let c3_i32 : BitVec 32 := 3#32
  let v390 : BitVec 32 := Scalar.muli arg11 c3_i32
  let c0_i32_212 : BitVec 32 := 0#32
  let v391 : BitVec 32 := Scalar.addi v390 c0_i32_212
  let c512_i32_213 : BitVec 32 := 512#32
  let v392 : BitVec 32 := Scalar.muli v391 c512_i32_213
  v392
def k0_off4 (k0_t1 : Fin k0_t1_loop.trips) (c0_i32_212 : BitVec 32) : Fin 2 → Nat :=
  let c0_214 : Index := 0#32
  let c0_i32_17 : BitVec 32 := 0#32
  let c1_i32_18 : BitVec 32 := 1#32
  let arg11 : BitVec 32 := Scf.iv c0_i32_17 c1_i32_18 k0_t1
  let c3_i32 : BitVec 32 := 3#32
  let v390 : BitVec 32 := Scalar.muli arg11 c3_i32
  let v391 : BitVec 32 := Scalar.addi v390 c0_i32_212
  let c512_i32_213 : BitVec 32 := 512#32
  let v392 : BitVec 32 := Scalar.muli v391 c512_i32_213
  let v393 : BitVec 32 := v392
  let v394 : Index := Scalar.indexCast v393
  ![0, v394.toNat]
def k0_mult5 (k0_t1 : Fin k0_t1_loop.trips) : BitVec 32 :=
  let c0_i32_17 : BitVec 32 := 0#32
  let c1_i32_18 : BitVec 32 := 1#32
  let arg11 : BitVec 32 := Scf.iv c0_i32_17 c1_i32_18 k0_t1
  let c3_i32_231 : BitVec 32 := 3#32
  let v424 : BitVec 32 := Scalar.muli arg11 c3_i32_231
  let c1_i32_232 : BitVec 32 := 1#32
  let v425 : BitVec 32 := Scalar.addi v424 c1_i32_232
  let c512_i32_233 : BitVec 32 := 512#32
  let v426 : BitVec 32 := Scalar.muli v425 c512_i32_233
  v426
def k0_mult6 (k0_t1 : Fin k0_t1_loop.trips) : BitVec 32 :=
  let c0_i32_17 : BitVec 32 := 0#32
  let c1_i32_18 : BitVec 32 := 1#32
  let arg11 : BitVec 32 := Scf.iv c0_i32_17 c1_i32_18 k0_t1
  let c3_i32_251 : BitVec 32 := 3#32
  let v458 : BitVec 32 := Scalar.muli arg11 c3_i32_251
  let c2_i32_252 : BitVec 32 := 2#32
  let v459 : BitVec 32 := Scalar.addi v458 c2_i32_252
  let c512_i32_253 : BitVec 32 := 512#32
  let v460 : BitVec 32 := Scalar.muli v459 c512_i32_253
  v460
@[reducible] def k0_t2_loop : Scf.Loop 32 :=
  let c0_i32_201 : BitVec 32 := 0#32
  let c24_i32 : BitVec 32 := 24#32
  let v379 : BitVec 32 := Scalar.addi c0_i32_201 c24_i32
  let c1_i32_202 : BitVec 32 := 1#32
  ⟨c0_i32_201, v379, c1_i32_202⟩
def k0_cond1 (k0_t2 : Fin k0_t2_loop.trips) : BitVec 1 :=
  let c0_i32_201 : BitVec 32 := 0#32
  let c1_i32_202 : BitVec 32 := 1#32
  let arg11 : BitVec 32 := Scf.iv c0_i32_201 c1_i32_202 k0_t2
  let c4_i32_212 : BitVec 32 := 4#32
  let v390 : BitVec 32 := Scalar.addi arg11 c4_i32_212
  let c1_i32_213 : BitVec 32 := 1#32
  let v391 : BitVec 32 := Scalar.subi v390 c1_i32_213
  let c24_i32_214 : BitVec 32 := 24#32
  let v392 : BitVec 1 := Scalar.cmpi .slt v391 c24_i32_214
  let v393 : BitVec 32 := Scalar.extui v392
  let c0_i32_215 : BitVec 32 := 0#32
  let v394 : BitVec 1 := Scalar.cmpi .ne v393 c0_i32_215
  v394

def k0_mult7 (k0_t2 : Fin k0_t2_loop.trips) : BitVec 32 :=
  let c0_i32_201 : BitVec 32 := 0#32
  let c1_i32_202 : BitVec 32 := 1#32
  let arg11 : BitVec 32 := Scf.iv c0_i32_201 c1_i32_202 k0_t2
  let c4_i32_231 : BitVec 32 := 4#32
  let v417 : BitVec 32 := Scalar.addi arg11 c4_i32_231
  let c1_i32_232 : BitVec 32 := 1#32
  let v418 : BitVec 32 := Scalar.subi v417 c1_i32_232
  let c512_i32_234 : BitVec 32 := 512#32
  let v420 : BitVec 32 := Scalar.muli v418 c512_i32_234
  v420
def k0_off5 (k0_t2 : Fin k0_t2_loop.trips) : Fin 1 → Nat :=
  let c0_i32_201 : BitVec 32 := 0#32
  let c1_i32_202 : BitVec 32 := 1#32
  let arg11 : BitVec 32 := Scf.iv c0_i32_201 c1_i32_202 k0_t2
  let c4_i32_231 : BitVec 32 := 4#32
  let v417 : BitVec 32 := Scalar.addi arg11 c4_i32_231
  let c1_i32_232 : BitVec 32 := 1#32
  let v418 : BitVec 32 := Scalar.subi v417 c1_i32_232
  let c4_i32_233 : BitVec 32 := 4#32
  let v419 : BitVec 32 := Scalar.remsi v418 c4_i32_233
  ![v419.toNat]
def k0_off6 (k0_t2 : Fin k0_t2_loop.trips) : Fin 3 → Nat :=
  let c0_i32_201 : BitVec 32 := 0#32
  let c1_i32_202 : BitVec 32 := 1#32
  let arg11 : BitVec 32 := Scf.iv c0_i32_201 c1_i32_202 k0_t2
  let c4_i32_231 : BitVec 32 := 4#32
  let v417 : BitVec 32 := Scalar.addi arg11 c4_i32_231
  let c1_i32_232 : BitVec 32 := 1#32
  let v418 : BitVec 32 := Scalar.subi v417 c1_i32_232
  let c4_i32_233 : BitVec 32 := 4#32
  let v419 : BitVec 32 := Scalar.remsi v418 c4_i32_233
  let c0_i32_235 : BitVec 32 := 0#32
  let c0_i32_236 : BitVec 32 := 0#32
  ![v419.toNat, 0, 0]
def k0_off7 (k0_t2 : Fin k0_t2_loop.trips) : Fin 2 → Nat :=
  let c0_i32_201 : BitVec 32 := 0#32
  let c1_i32_202 : BitVec 32 := 1#32
  let arg11 : BitVec 32 := Scf.iv c0_i32_201 c1_i32_202 k0_t2
  let c4_i32_231 : BitVec 32 := 4#32
  let v417 : BitVec 32 := Scalar.addi arg11 c4_i32_231
  let c1_i32_232 : BitVec 32 := 1#32
  let v418 : BitVec 32 := Scalar.subi v417 c1_i32_232
  let c512_i32_234 : BitVec 32 := 512#32
  let v420 : BitVec 32 := Scalar.muli v418 c512_i32_234
  let v421 : BitVec 32 := v420
  let c0_i32_237 : BitVec 32 := 0#32
  ![v421.toNat, 0]
def k0_mult8 (k0_t2 : Fin k0_t2_loop.trips) : BitVec 32 :=
  let c0_i32_201 : BitVec 32 := 0#32
  let c1_i32_202 : BitVec 32 := 1#32
  let arg11 : BitVec 32 := Scf.iv c0_i32_201 c1_i32_202 k0_t2
  let c512_i32_217 : BitVec 32 := 512#32
  let v396 : BitVec 32 := Scalar.muli arg11 c512_i32_217
  v396
def k0_off8 (k0_t2 : Fin k0_t2_loop.trips) : Fin 1 → Nat :=
  let c0_i32_201 : BitVec 32 := 0#32
  let c1_i32_202 : BitVec 32 := 1#32
  let arg11 : BitVec 32 := Scf.iv c0_i32_201 c1_i32_202 k0_t2
  let c4_i32_216 : BitVec 32 := 4#32
  let v395 : BitVec 32 := Scalar.remsi arg11 c4_i32_216
  ![v395.toNat]
def k0_off9 (k0_t2 : Fin k0_t2_loop.trips) : Fin 3 → Nat :=
  let c0_i32_201 : BitVec 32 := 0#32
  let c1_i32_202 : BitVec 32 := 1#32
  let arg11 : BitVec 32 := Scf.iv c0_i32_201 c1_i32_202 k0_t2
  let c4_i32_216 : BitVec 32 := 4#32
  let v395 : BitVec 32 := Scalar.remsi arg11 c4_i32_216
  let c0_i32_218 : BitVec 32 := 0#32
  let c0_i32_219 : BitVec 32 := 0#32
  ![v395.toNat, 0, 0]
def k0_off10 (k0_t2 : Fin k0_t2_loop.trips) : Fin 2 → Nat :=
  let c0_i32_201 : BitVec 32 := 0#32
  let c1_i32_202 : BitVec 32 := 1#32
  let arg11 : BitVec 32 := Scf.iv c0_i32_201 c1_i32_202 k0_t2
  let c512_i32_217 : BitVec 32 := 512#32
  let v396 : BitVec 32 := Scalar.muli arg11 c512_i32_217
  let v397 : BitVec 32 := v396
  let c0_i32_220 : BitVec 32 := 0#32
  ![v397.toNat, 0]
def k0_off11 (k0_t2 : Fin k0_t2_loop.trips) : Fin 3 → Nat :=
  let c0_i32_201 : BitVec 32 := 0#32
  let c1_i32_202 : BitVec 32 := 1#32
  let arg11 : BitVec 32 := Scf.iv c0_i32_201 c1_i32_202 k0_t2
  let v404 : Index := Scalar.indexCast arg11
  let c0_223 : Index := 0#32
  let c0_224 : Index := 0#32
  ![v404.toNat, 0, 0]
def k0_off12 (k0_t2 : Fin k0_t2_loop.trips) : Fin 3 → Nat :=
  let c0_i32_201 : BitVec 32 := 0#32
  let c1_i32_202 : BitVec 32 := 1#32
  let arg11 : BitVec 32 := Scf.iv c0_i32_201 c1_i32_202 k0_t2
  let c4_i32_225 : BitVec 32 := 4#32
  let v407 : BitVec 32 := Scalar.remsi arg11 c4_i32_225
  let v408 : Index := Scalar.indexCast v407
  let c0_226 : Index := 0#32
  let c0_227 : Index := 0#32
  ![v408.toNat, 0, 0]
abbrev stage0_0 : Fin 1 → Memref sig .tc .vmem S72x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S72x12288 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S72x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceOutIdeal.lean ====
abbrev S72x12288 : Shape := ⟨2, ![72, 12288]⟩
abbrev S12288x6144 : Shape := ⟨2, ![12288, 6144]⟩
abbrev S1x6144 : Shape := ⟨2, ![1, 6144]⟩
abbrev S72x6144 : Shape := ⟨2, ![72, 6144]⟩
abbrev S72x1 : Shape := ⟨2, ![72, 1]⟩
abbrev S72 : Shape := ⟨1, ![72]⟩

abbrev nBuf : Space → Nat
  | .hbm => 6
  | .vmem => 6
  | .smem => 0
  | _ => 0

abbrev bufTy : (tb : Table) → Fin (tcTables nBuf tb) → BufTy
  | .hbm, ⟨0, _⟩ => ⟨S72x12288, .f32⟩
  | .hbm, ⟨1, _⟩ => ⟨S12288x6144, .i8⟩
  | .hbm, ⟨2, _⟩ => ⟨S1x6144, .f32⟩
  | .hbm, ⟨3, _⟩ => ⟨S72x6144, .bf16⟩
  | .hbm, ⟨4, _⟩ => ⟨S72x12288, .i8⟩
  | .hbm, ⟨5, _⟩ => ⟨S72x1, .f32⟩
  | .local _ .vmem, ⟨0, _⟩ => ⟨S72x12288, .f32⟩
  | .local _ .vmem, ⟨1, _⟩ => ⟨S12288x6144, .i8⟩
  | .local _ .vmem, ⟨2, _⟩ => ⟨S1x6144, .f32⟩
  | .local _ .vmem, ⟨3, _⟩ => ⟨S72x6144, .bf16⟩
  | .local _ .vmem, ⟨4, _⟩ => ⟨S72x12288, .i8⟩
  | .local _ .vmem, ⟨5, _⟩ => ⟨S72x1, .f32⟩
  | _, _ => ⟨S72x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S72x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x6144 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S72x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S72x12288 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S72x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIn.lean ====
abbrev S72x1x6144 : Shape := ⟨3, ![72, 1, 6144]⟩
abbrev S6144x26816 : Shape := ⟨2, ![6144, 26816]⟩
abbrev S26816 : Shape := ⟨1, ![26816]⟩
abbrev S192 : Shape := ⟨1, ![192]⟩
abbrev S72x6144 : Shape := ⟨2, ![72, 6144]⟩
abbrev S1x26816 : Shape := ⟨2, ![1, 26816]⟩
abbrev S1x192 : Shape := ⟨2, ![1, 192]⟩
abbrev S26816x6144 : Shape := ⟨2, ![26816, 6144]⟩
abbrev S72x12288 : Shape := ⟨2, ![72, 12288]⟩
abbrev S72x14336 : Shape := ⟨2, ![72, 14336]⟩
abbrev S72x192 : Shape := ⟨2, ![72, 192]⟩
abbrev S72x1 : Shape := ⟨2, ![72, 1]⟩
abbrev S3x72x2048 : Shape := ⟨3, ![3, 72, 2048]⟩
abbrev S4x1024x2048 : Shape := ⟨3, ![4, 1024, 2048]⟩
abbrev S192x6144 : Shape := ⟨2, ![192, 6144]⟩
abbrev S72x1024 : Shape := ⟨2, ![72, 1024]⟩
abbrev S4 : Shape := ⟨1, ![4]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S72x128 : Shape := ⟨2, ![72, 128]⟩
abbrev S72 : Shape := ⟨1, ![72]⟩
abbrev S72x2048 : Shape := ⟨2, ![72, 2048]⟩
abbrev S1x72x2048 : Shape := ⟨3, ![1, 72, 2048]⟩
abbrev S1x1024x2048 : Shape := ⟨3, ![1, 1024, 2048]⟩
abbrev S1024x2048 : Shape := ⟨2, ![1024, 2048]⟩
abbrev S72x512 : Shape := ⟨2, ![72, 512]⟩
abbrev S1x512 : Shape := ⟨2, ![1, 512]⟩
abbrev S192x2048 : Shape := ⟨2, ![192, 2048]⟩

abbrev nBuf : Space → Nat
  | .hbm => 13
  | .vmem => 12
  | .smem => 0
  | _ => 0

abbrev bufTy : (tb : Table) → Fin (tcTables nBuf tb) → BufTy
  | .hbm, ⟨0, _⟩ => ⟨S72x1x6144, .bf16⟩
  | .hbm, ⟨1, _⟩ => ⟨S6144x26816, .i8⟩
  | .hbm, ⟨2, _⟩ => ⟨S26816, .f32⟩
  | .hbm, ⟨3, _⟩ => ⟨S192, .f32⟩
  | .hbm, ⟨4, _⟩ => ⟨S72x6144, .bf16⟩
  | .hbm, ⟨5, _⟩ => ⟨S1x26816, .f32⟩
  | .hbm, ⟨6, _⟩ => ⟨S1x192, .f32⟩
  | .hbm, ⟨7, _⟩ => ⟨S26816x6144, .i8⟩
  | .hbm, ⟨8, _⟩ => ⟨S72x12288, .f32⟩
  | .hbm, ⟨9, _⟩ => ⟨S72x14336, .f32⟩
  | .hbm, ⟨10, _⟩ => ⟨S72x192, .f32⟩
  | .hbm, ⟨11, _⟩ => ⟨S72x6144, .i8⟩
  | .hbm, ⟨12, _⟩ => ⟨S72x1, .f32⟩
  | .local _ .vmem, ⟨0, _⟩ => ⟨S72x6144, .bf16⟩
  | .local _ .vmem, ⟨1, _⟩ => ⟨S1x26816, .f32⟩
  | .local _ .vmem, ⟨2, _⟩ => ⟨S1x192, .f32⟩
  | .local _ .vmem, ⟨3, _⟩ => ⟨S72x12288, .f32⟩
  | .local _ .vmem, ⟨4, _⟩ => ⟨S72x14336, .f32⟩
  | .local _ .vmem, ⟨5, _⟩ => ⟨S72x192, .f32⟩
  | .local _ .vmem, ⟨6, _⟩ => ⟨S72x6144, .i8⟩
  | .local _ .vmem, ⟨7, _⟩ => ⟨S72x1, .f32⟩
  | .local _ .vmem, ⟨8, _⟩ => ⟨S3x72x2048, .bf16⟩
  | .local _ .vmem, ⟨9, _⟩ => ⟨S4x1024x2048, .i8⟩
  | .local _ .vmem, ⟨10, _⟩ => ⟨S192x6144, .i8⟩
  | .local _ .vmem, ⟨11, _⟩ => ⟨S72x1024, .f32⟩
  | _, _ => ⟨S72x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

def k0_mult1 : BitVec 32 :=
  let c0_i32_6 : BitVec 32 := 0#32
  let c0_i32 : BitVec 32 := 0#32
  let c0_i32_0 : BitVec 32 := 0#32
  let v1 : BitVec 1 := Scalar.cmpi .sgt c0_i32 c0_i32_0
  let v2 : BitVec 32 := Scalar.extui v1
  let c0_i32_1 : BitVec 32 := 0#32
  let v3 : BitVec 1 := Scalar.cmpi .slt c0_i32 c0_i32_1
  let v4 : BitVec 32 := Scalar.extui v3
  let v5 : BitVec 32 := Scalar.subi v2 v4
  let c3_i32 : BitVec 32 := 3#32
  let c0_i32_2 : BitVec 32 := 0#32
  let v6 : BitVec 1 := Scalar.cmpi .sgt c3_i32 c0_i32_2
  let v7 : BitVec 32 := Scalar.extui v6
  let c0_i32_3 : BitVec 32 := 0#32
  let v8 : BitVec 1 := Scalar.cmpi .slt c3_i32 c0_i32_3
  let v9 : BitVec 32 := Scalar.extui v8
  let v10 : BitVec 32 := Scalar.subi v7 v9
  let v11 : BitVec 1 := Scalar.cmpi .ne v5 v10
  let v12 : BitVec 32 := Scalar.remsi c0_i32 c3_i32
  let c0_i32_4 : BitVec 32 := 0#32
  let v13 : BitVec 1 := Scalar.cmpi .ne v12 c0_i32_4
  let v14 : BitVec 1 := Scalar.andi v11 v13
  let v0 : BitVec 32 := Scalar.divsi c0_i32 c3_i32
  let c1_i32 : BitVec 32 := 1#32
  let v15 : BitVec 32 := Scalar.subi v0 c1_i32
  let v16 : BitVec 32 := Scalar.select v14 v15 v0
  let c3_i32_5 : BitVec 32 := 3#32
  let v17 : BitVec 32 := Scalar.muli v16 c3_i32_5
  let v18 : BitVec 32 := Scalar.subi c0_i32_6 v17
  let c2048_i32 : BitVec 32 := 2048#32
  let v32 : BitVec 32 := Scalar.muli v18 c2048_i32
  v32
def k0_mult2 : BitVec 32 :=
  let c0_i32 : BitVec 32 := 0#32
  let c0_i32_0 : BitVec 32 := 0#32
  let v1 : BitVec 1 := Scalar.cmpi .sgt c0_i32 c0_i32_0
  let v2 : BitVec 32 := Scalar.extui v1
  let c0_i32_1 : BitVec 32 := 0#32
  let v3 : BitVec 1 := Scalar.cmpi .slt c0_i32 c0_i32_1
  let v4 : BitVec 32 := Scalar.extui v3
  let v5 : BitVec 32 := Scalar.subi v2 v4
  let c3_i32 : BitVec 32 := 3#32
  let c0_i32_2 : BitVec 32 := 0#32
  let v6 : BitVec 1 := Scalar.cmpi .sgt c3_i32 c0_i32_2
  let v7 : BitVec 32 := Scalar.extui v6
  let c0_i32_3 : BitVec 32 := 0#32
  let v8 : BitVec 1 := Scalar.cmpi .slt c3_i32 c0_i32_3
  let v9 : BitVec 32 := Scalar.extui v8
  let v10 : BitVec 32 := Scalar.subi v7 v9
  let v11 : BitVec 1 := Scalar.cmpi .ne v5 v10
  let v12 : BitVec 32 := Scalar.remsi c0_i32 c3_i32
  let c0_i32_4 : BitVec 32 := 0#32
  let v13 : BitVec 1 := Scalar.cmpi .ne v12 c0_i32_4
  let v14 : BitVec 1 := Scalar.andi v11 v13
  let v0 : BitVec 32 := Scalar.divsi c0_i32 c3_i32
  let c1_i32 : BitVec 32 := 1#32
  let v15 : BitVec 32 := Scalar.subi v0 c1_i32
  let v16 : BitVec 32 := Scalar.select v14 v15 v0
  let c2_i32_8 : BitVec 32 := 2#32
  let v21 : BitVec 1 := Scalar.cmpi .slt v16 c2_i32_8
  let c24576_i32 : BitVec 32 := 24576#32
  let c1024_i32 : BitVec 32 := 1024#32
  let v22 : BitVec 32 := Scalar.muli c1024_i32 v16
  let v23 : BitVec 32 := Scalar.addi c24576_i32 v22
  let c512_i32 : BitVec 32 := 512#32
  let c2_i32 : BitVec 32 := 2#32
  let v20 : BitVec 32 := Scalar.subi v16 c2_i32
  let v24 : BitVec 32 := Scalar.muli c512_i32 v20
  let v25 : BitVec 32 := Scalar.select v21 v23 v24
  v25
def k0_mult3 : BitVec 32 :=
  let c0_i32 : BitVec 32 := 0#32
  let c0_i32_0 : BitVec 32 := 0#32
  let v1 : BitVec 1 := Scalar.cmpi .sgt c0_i32 c0_i32_0
  let v2 : BitVec 32 := Scalar.extui v1
  let c0_i32_1 : BitVec 32 := 0#32
  let v3 : BitVec 1 := Scalar.cmpi .slt c0_i32 c0_i32_1
  let v4 : BitVec 32 := Scalar.extui v3
  let v5 : BitVec 32 := Scalar.subi v2 v4
  let c3_i32 : BitVec 32 := 3#32
  let c0_i32_2 : BitVec 32 := 0#32
  let v6 : BitVec 1 := Scalar.cmpi .sgt c3_i32 c0_i32_2
  let v7 : BitVec 32 := Scalar.extui v6
  let c0_i32_3 : BitVec 32 := 0#32
  let v8 : BitVec 1 := Scalar.cmpi .slt c3_i32 c0_i32_3
  let v9 : BitVec 32 := Scalar.extui v8
  let v10 : BitVec 32 := Scalar.subi v7 v9
  let v11 : BitVec 1 := Scalar.cmpi .ne v5 v10
  let v12 : BitVec 32 := Scalar.remsi c0_i32 c3_i32
  let c0_i32_4 : BitVec 32 := 0#32
  let v13 : BitVec 1 := Scalar.cmpi .ne v12 c0_i32_4
  let v14 : BitVec 1 := Scalar.andi v11 v13
  let v0 : BitVec 32 := Scalar.divsi c0_i32 c3_i32
  let c1_i32 : BitVec 32 := 1#32
  let v15 : BitVec 32 := Scalar.subi v0 c1_i32
  let v16 : BitVec 32 := Scalar.select v14 v15 v0
  let c2_i32_8 : BitVec 32 := 2#32
  let v21 : BitVec 1 := Scalar.cmpi .slt v16 c2_i32_8
  let c24576_i32_10 : BitVec 32 := 24576#32
  let c1024_i32_9 : BitVec 32 := 1024#32
  let v26 : BitVec 32 := Scalar.muli c1024_i32_9 v16
  let v27 : BitVec 32 := Scalar.addi c24576_i32_10 v26
  let c512_i32_11 : BitVec 32 := 512#32
  let v28 : BitVec 32 := Scalar.addi v27 c512_i32_11
  let c12288_i32 : BitVec 32 := 12288#32
  let c512_i32_12 : BitVec 32 := 512#32
  let c2_i32 : BitVec 32 := 2#32
  let v20 : BitVec 32 := Scalar.subi v16 c2_i32
  let v29 : BitVec 32 := Scalar.muli c512_i32_12 v20
  let v30 : BitVec 32 := Scalar.addi c12288_i32 v29
  let v31 : BitVec 32 := Scalar.select v21 v28 v30
  v31
def k0_off1 (c0_i32_7 : BitVec 32) : Fin 1 → Nat :=
  let c4_i32 : BitVec 32 := 4#32
  let v19 : BitVec 32 := Scalar.remsi c0_i32_7 c4_i32
  ![v19.toNat]
def k0_off2 (c0_i32_7 : BitVec 32) : Fin 3 → Nat :=
  let c4_i32 : BitVec 32 := 4#32
  let v19 : BitVec 32 := Scalar.remsi c0_i32_7 c4_i32
  let c0_i32_13 : BitVec 32 := 0#32
  let c0_i32_14 : BitVec 32 := 0#32
  ![v19.toNat, 0, 0]
def k0_off3 (c0_i32 : BitVec 32) (c0_i32_6 : BitVec 32) : Fin 2 → Nat :=
  let c0_i32_0 : BitVec 32 := 0#32
  let v1 : BitVec 1 := Scalar.cmpi .sgt c0_i32 c0_i32_0
  let v2 : BitVec 32 := Scalar.extui v1
  let c0_i32_1 : BitVec 32 := 0#32
  let v3 : BitVec 1 := Scalar.cmpi .slt c0_i32 c0_i32_1
  let v4 : BitVec 32 := Scalar.extui v3
  let v5 : BitVec 32 := Scalar.subi v2 v4
  let c3_i32 : BitVec 32 := 3#32
  let c0_i32_2 : BitVec 32 := 0#32
  let v6 : BitVec 1 := Scalar.cmpi .sgt c3_i32 c0_i32_2
  let v7 : BitVec 32 := Scalar.extui v6
  let c0_i32_3 : BitVec 32 := 0#32
  let v8 : BitVec 1 := Scalar.cmpi .slt c3_i32 c0_i32_3
  let v9 : BitVec 32 := Scalar.extui v8
  let v10 : BitVec 32 := Scalar.subi v7 v9
  let v11 : BitVec 1 := Scalar.cmpi .ne v5 v10
  let v12 : BitVec 32 := Scalar.remsi c0_i32 c3_i32
  let c0_i32_4 : BitVec 32 := 0#32
  let v13 : BitVec 1 := Scalar.cmpi .ne v12 c0_i32_4
  let v14 : BitVec 1 := Scalar.andi v11 v13
  let v0 : BitVec 32 := Scalar.divsi c0_i32 c3_i32
  let c1_i32 : BitVec 32 := 1#32
  let v15 : BitVec 32 := Scalar.subi v0 c1_i32
  let v16 : BitVec 32 := Scalar.select v14 v15 v0
  let c2_i32_8 : BitVec 32 := 2#32
  let v21 : BitVec 1 := Scalar.cmpi .slt v16 c2_i32_8
  let c24576_i32 : BitVec 32 := 24576#32
  let c1024_i32 : BitVec 32 := 1024#32
  let v22 : BitVec 32 := Scalar.muli c1024_i32 v16
  let v23 : BitVec 32 := Scalar.addi c24576_i32 v22
  let c512_i32 : BitVec 32 := 512#32
  let c2_i32 : BitVec 32 := 2#32
  let v20 : BitVec 32 := Scalar.subi v16 c2_i32
  let v24 : BitVec 32 := Scalar.muli c512_i32 v20
  let v25 : BitVec 32 := Scalar.select v21 v23 v24
  let v34 : BitVec 32 := v25
  let c3_i32_5 : BitVec 32 := 3#32
  let v17 : BitVec 32 := Scalar.muli v16 c3_i32_5
  let v18 : BitVec 32 := Scalar.subi c0_i32_6 v17
  let c2048_i32 : BitVec 32 := 2048#32
  let v32 : BitVec 32 := Scalar.muli v18 c2048_i32
  let v33 : BitVec 32 := v32
  ![v34.toNat, v33.toNat]
def k0_off3_at (r : Fin 9) : BitVec 32 × BitVec 32 :=
  if r.val < 4 then
    if r.val < 2 then
      if r.val < 1 then
        (0#32, 0#32)
      else
        (1#32, 1#32)
    else
      if r.val < 3 then
        (2#32, 2#32)
      else
        (3#32, 3#32)
  else
    if r.val < 6 then
      if r.val < 5 then
        (4#32, 4#32)
      else
        (5#32, 5#32)
    else
      if r.val < 7 then
        (6#32, 6#32)
      else
        if r.val < 8 then
          (7#32, 7#32)
        else
          (8#32, 8#32)
def k0_off4 (c0_i32_7 : BitVec 32) : Fin 3 → Nat :=
  let c4_i32 : BitVec 32 := 4#32
  let v19 : BitVec 32 := Scalar.remsi c0_i32_7 c4_i32
  let c512_i32_15 : BitVec 32 := 512#32
  let c0_i32_16 : BitVec 32 := 0#32
  ![v19.toNat, 512, 0]
def k0_off5 (c0_i32 : BitVec 32) (c0_i32_6 : BitVec 32) : Fin 2 → Nat :=
  let c0_i32_0 : BitVec 32 := 0#32
  let v1 : BitVec 1 := Scalar.cmpi .sgt c0_i32 c0_i32_0
  let v2 : BitVec 32 := Scalar.extui v1
  let c0_i32_1 : BitVec 32 := 0#32
  let v3 : BitVec 1 := Scalar.cmpi .slt c0_i32 c0_i32_1
  let v4 : BitVec 32 := Scalar.extui v3
  let v5 : BitVec 32 := Scalar.subi v2 v4
  let c3_i32 : BitVec 32 := 3#32
  let c0_i32_2 : BitVec 32 := 0#32
  let v6 : BitVec 1 := Scalar.cmpi .sgt c3_i32 c0_i32_2
  let v7 : BitVec 32 := Scalar.extui v6
  let c0_i32_3 : BitVec 32 := 0#32
  let v8 : BitVec 1 := Scalar.cmpi .slt c3_i32 c0_i32_3
  let v9 : BitVec 32 := Scalar.extui v8
  let v10 : BitVec 32 := Scalar.subi v7 v9
  let v11 : BitVec 1 := Scalar.cmpi .ne v5 v10
  let v12 : BitVec 32 := Scalar.remsi c0_i32 c3_i32
  let c0_i32_4 : BitVec 32 := 0#32
  let v13 : BitVec 1 := Scalar.cmpi .ne v12 c0_i32_4
  let v14 : BitVec 1 := Scalar.andi v11 v13
  let v0 : BitVec 32 := Scalar.divsi c0_i32 c3_i32
  let c1_i32 : BitVec 32 := 1#32
  let v15 : BitVec 32 := Scalar.subi v0 c1_i32
  let v16 : BitVec 32 := Scalar.select v14 v15 v0
  let c2_i32_8 : BitVec 32 := 2#32
  let v21 : BitVec 1 := Scalar.cmpi .slt v16 c2_i32_8
  let c24576_i32_10 : BitVec 32 := 24576#32
  let c1024_i32_9 : BitVec 32 := 1024#32
  let v26 : BitVec 32 := Scalar.muli c1024_i32_9 v16
  let v27 : BitVec 32 := Scalar.addi c24576_i32_10 v26
  let c512_i32_11 : BitVec 32 := 512#32
  let v28 : BitVec 32 := Scalar.addi v27 c512_i32_11
  let c12288_i32 : BitVec 32 := 12288#32
  let c512_i32_12 : BitVec 32 := 512#32
  let c2_i32 : BitVec 32 := 2#32
  let v20 : BitVec 32 := Scalar.subi v16 c2_i32
  let v29 : BitVec 32 := Scalar.muli c512_i32_12 v20
  let v30 : BitVec 32 := Scalar.addi c12288_i32 v29
  let v31 : BitVec 32 := Scalar.select v21 v28 v30
  let v35 : BitVec 32 := v31
  let c3_i32_5 : BitVec 32 := 3#32
  let v17 : BitVec 32 := Scalar.muli v16 c3_i32_5
  let v18 : BitVec 32 := Scalar.subi c0_i32_6 v17
  let c2048_i32 : BitVec 32 := 2048#32
  let v32 : BitVec 32 := Scalar.muli v18 c2048_i32
  let v33 : BitVec 32 := v32
  ![v35.toNat, v33.toNat]
def k0_off5_at (r : Fin 9) : BitVec 32 × BitVec 32 :=
  if r.val < 4 then
    if r.val < 2 then
      if r.val < 1 then
        (0#32, 0#32)
      else
        (1#32, 1#32)
    else
      if r.val < 3 then
        (2#32, 2#32)
      else
        (3#32, 3#32)
  else
    if r.val < 6 then
      if r.val < 5 then
        (4#32, 4#32)
      else
        (5#32, 5#32)
    else
      if r.val < 7 then
        (6#32, 6#32)
      else
        if r.val < 8 then
          (7#32, 7#32)
        else
          (8#32, 8#32)
def k0_mult4 : BitVec 32 :=
  let c1_i32_26 : BitVec 32 := 1#32
  let c1_i32_17 : BitVec 32 := 1#32
  let c0_i32_19 : BitVec 32 := 0#32
  let v47 : BitVec 1 := Scalar.cmpi .sgt c1_i32_17 c0_i32_19
  let v48 : BitVec 32 := Scalar.extui v47
  let c0_i32_20 : BitVec 32 := 0#32
  let v49 : BitVec 1 := Scalar.cmpi .slt c1_i32_17 c0_i32_20
  let v50 : BitVec 32 := Scalar.extui v49
  let v51 : BitVec 32 := Scalar.subi v48 v50
  let c3_i32_18 : BitVec 32 := 3#32
  let c0_i32_21 : BitVec 32 := 0#32
  let v52 : BitVec 1 := Scalar.cmpi .sgt c3_i32_18 c0_i32_21
  let v53 : BitVec 32 := Scalar.extui v52
  let c0_i32_22 : BitVec 32 := 0#32
  let v54 : BitVec 1 := Scalar.cmpi .slt c3_i32_18 c0_i32_22
  let v55 : BitVec 32 := Scalar.extui v54
  let v56 : BitVec 32 := Scalar.subi v53 v55
  let v57 : BitVec 1 := Scalar.cmpi .ne v51 v56
  let v58 : BitVec 32 := Scalar.remsi c1_i32_17 c3_i32_18
  let c0_i32_23 : BitVec 32 := 0#32
  let v59 : BitVec 1 := Scalar.cmpi .ne v58 c0_i32_23
  let v60 : BitVec 1 := Scalar.andi v57 v59
  let v46 : BitVec 32 := Scalar.divsi c1_i32_17 c3_i32_18
  let c1_i32_24 : BitVec 32 := 1#32
  let v61 : BitVec 32 := Scalar.subi v46 c1_i32_24
  let v62 : BitVec 32 := Scalar.select v60 v61 v46
  let c3_i32_25 : BitVec 32 := 3#32
  let v63 : BitVec 32 := Scalar.muli v62 c3_i32_25
  let v64 : BitVec 32 := Scalar.subi c1_i32_26 v63
  let c2048_i32_39 : BitVec 32 := 2048#32
  let v78 : BitVec 32 := Scalar.muli v64 c2048_i32_39
  v78
def k0_mult5 : BitVec 32 :=
  let c1_i32_17 : BitVec 32 := 1#32
  let c0_i32_19 : BitVec 32 := 0#32
  let v47 : BitVec 1 := Scalar.cmpi .sgt c1_i32_17 c0_i32_19
  let v48 : BitVec 32 := Scalar.extui v47
  let c0_i32_20 : BitVec 32 := 0#32
  let v49 : BitVec 1 := Scalar.cmpi .slt c1_i32_17 c0_i32_20
  let v50 : BitVec 32 := Scalar.extui v49
  let v51 : BitVec 32 := Scalar.subi v48 v50
  let c3_i32_18 : BitVec 32 := 3#32
  let c0_i32_21 : BitVec 32 := 0#32
  let v52 : BitVec 1 := Scalar.cmpi .sgt c3_i32_18 c0_i32_21
  let v53 : BitVec 32 := Scalar.extui v52
  let c0_i32_22 : BitVec 32 := 0#32
  let v54 : BitVec 1 := Scalar.cmpi .slt c3_i32_18 c0_i32_22
  let v55 : BitVec 32 := Scalar.extui v54
  let v56 : BitVec 32 := Scalar.subi v53 v55
  let v57 : BitVec 1 := Scalar.cmpi .ne v51 v56
  let v58 : BitVec 32 := Scalar.remsi c1_i32_17 c3_i32_18
  let c0_i32_23 : BitVec 32 := 0#32
  let v59 : BitVec 1 := Scalar.cmpi .ne v58 c0_i32_23
  let v60 : BitVec 1 := Scalar.andi v57 v59
  let v46 : BitVec 32 := Scalar.divsi c1_i32_17 c3_i32_18
  let c1_i32_24 : BitVec 32 := 1#32
  let v61 : BitVec 32 := Scalar.subi v46 c1_i32_24
  let v62 : BitVec 32 := Scalar.select v60 v61 v46
  let c2_i32_30 : BitVec 32 := 2#32
  let v67 : BitVec 1 := Scalar.cmpi .slt v62 c2_i32_30
  let c24576_i32_32 : BitVec 32 := 24576#32
  let c1024_i32_31 : BitVec 32 := 1024#32
  let v68 : BitVec 32 := Scalar.muli c1024_i32_31 v62
  let v69 : BitVec 32 := Scalar.addi c24576_i32_32 v68
  let c512_i32_33 : BitVec 32 := 512#32
  let c2_i32_29 : BitVec 32 := 2#32
  let v66 : BitVec 32 := Scalar.subi v62 c2_i32_29
  let v70 : BitVec 32 := Scalar.muli c512_i32_33 v66
  let v71 : BitVec 32 := Scalar.select v67 v69 v70
  v71
def k0_mult6 : BitVec 32 :=
  let c1_i32_17 : BitVec 32 := 1#32
  let c0_i32_19 : BitVec 32 := 0#32
  let v47 : BitVec 1 := Scalar.cmpi .sgt c1_i32_17 c0_i32_19
  let v48 : BitVec 32 := Scalar.extui v47
  let c0_i32_20 : BitVec 32 := 0#32
  let v49 : BitVec 1 := Scalar.cmpi .slt c1_i32_17 c0_i32_20
  let v50 : BitVec 32 := Scalar.extui v49
  let v51 : BitVec 32 := Scalar.subi v48 v50
  let c3_i32_18 : BitVec 32 := 3#32
  let c0_i32_21 : BitVec 32 := 0#32
  let v52 : BitVec 1 := Scalar.cmpi .sgt c3_i32_18 c0_i32_21
  let v53 : BitVec 32 := Scalar.extui v52
  let c0_i32_22 : BitVec 32 := 0#32
  let v54 : BitVec 1 := Scalar.cmpi .slt c3_i32_18 c0_i32_22
  let v55 : BitVec 32 := Scalar.extui v54
  let v56 : BitVec 32 := Scalar.subi v53 v55
  let v57 : BitVec 1 := Scalar.cmpi .ne v51 v56
  let v58 : BitVec 32 := Scalar.remsi c1_i32_17 c3_i32_18
  let c0_i32_23 : BitVec 32 := 0#32
  let v59 : BitVec 1 := Scalar.cmpi .ne v58 c0_i32_23
  let v60 : BitVec 1 := Scalar.andi v57 v59
  let v46 : BitVec 32 := Scalar.divsi c1_i32_17 c3_i32_18
  let c1_i32_24 : BitVec 32 := 1#32
  let v61 : BitVec 32 := Scalar.subi v46 c1_i32_24
  let v62 : BitVec 32 := Scalar.select v60 v61 v46
  let c2_i32_30 : BitVec 32 := 2#32
  let v67 : BitVec 1 := Scalar.cmpi .slt v62 c2_i32_30
  let c24576_i32_35 : BitVec 32 := 24576#32
  let c1024_i32_34 : BitVec 32 := 1024#32
  let v72 : BitVec 32 := Scalar.muli c1024_i32_34 v62
  let v73 : BitVec 32 := Scalar.addi c24576_i32_35 v72
  let c512_i32_36 : BitVec 32 := 512#32
  let v74 : BitVec 32 := Scalar.addi v73 c512_i32_36
  let c12288_i32_38 : BitVec 32 := 12288#32
  let c512_i32_37 : BitVec 32 := 512#32
  let c2_i32_29 : BitVec 32 := 2#32
  let v66 : BitVec 32 := Scalar.subi v62 c2_i32_29
  let v75 : BitVec 32 := Scalar.muli c512_i32_37 v66
  let v76 : BitVec 32 := Scalar.addi c12288_i32_38 v75
  let v77 : BitVec 32 := Scalar.select v67 v74 v76
  v77
def k0_mult7 : BitVec 32 :=
  let c2_i32_53 : BitVec 32 := 2#32
  let c2_i32_44 : BitVec 32 := 2#32
  let c0_i32_46 : BitVec 32 := 0#32
  let v93 : BitVec 1 := Scalar.cmpi .sgt c2_i32_44 c0_i32_46
  let v94 : BitVec 32 := Scalar.extui v93
  let c0_i32_47 : BitVec 32 := 0#32
  let v95 : BitVec 1 := Scalar.cmpi .slt c2_i32_44 c0_i32_47
  let v96 : BitVec 32 := Scalar.extui v95
  let v97 : BitVec 32 := Scalar.subi v94 v96
  let c3_i32_45 : BitVec 32 := 3#32
  let c0_i32_48 : BitVec 32 := 0#32
  let v98 : BitVec 1 := Scalar.cmpi .sgt c3_i32_45 c0_i32_48
  let v99 : BitVec 32 := Scalar.extui v98
  let c0_i32_49 : BitVec 32 := 0#32
  let v100 : BitVec 1 := Scalar.cmpi .slt c3_i32_45 c0_i32_49
  let v101 : BitVec 32 := Scalar.extui v100
  let v102 : BitVec 32 := Scalar.subi v99 v101
  let v103 : BitVec 1 := Scalar.cmpi .ne v97 v102
  let v104 : BitVec 32 := Scalar.remsi c2_i32_44 c3_i32_45
  let c0_i32_50 : BitVec 32 := 0#32
  let v105 : BitVec 1 := Scalar.cmpi .ne v104 c0_i32_50
  let v106 : BitVec 1 := Scalar.andi v103 v105
  let v92 : BitVec 32 := Scalar.divsi c2_i32_44 c3_i32_45
  let c1_i32_51 : BitVec 32 := 1#32
  let v107 : BitVec 32 := Scalar.subi v92 c1_i32_51
  let v108 : BitVec 32 := Scalar.select v106 v107 v92
  let c3_i32_52 : BitVec 32 := 3#32
  let v109 : BitVec 32 := Scalar.muli v108 c3_i32_52
  let v110 : BitVec 32 := Scalar.subi c2_i32_53 v109
  let c2048_i32_66 : BitVec 32 := 2048#32
  let v124 : BitVec 32 := Scalar.muli v110 c2048_i32_66
  v124
def k0_mult8 : BitVec 32 :=
  let c2_i32_44 : BitVec 32 := 2#32
  let c0_i32_46 : BitVec 32 := 0#32
  let v93 : BitVec 1 := Scalar.cmpi .sgt c2_i32_44 c0_i32_46
  let v94 : BitVec 32 := Scalar.extui v93
  let c0_i32_47 : BitVec 32 := 0#32
  let v95 : BitVec 1 := Scalar.cmpi .slt c2_i32_44 c0_i32_47
  let v96 : BitVec 32 := Scalar.extui v95
  let v97 : BitVec 32 := Scalar.subi v94 v96
  let c3_i32_45 : BitVec 32 := 3#32
  let c0_i32_48 : BitVec 32 := 0#32
  let v98 : BitVec 1 := Scalar.cmpi .sgt c3_i32_45 c0_i32_48
  let v99 : BitVec 32 := Scalar.extui v98
  let c0_i32_49 : BitVec 32 := 0#32
  let v100 : BitVec 1 := Scalar.cmpi .slt c3_i32_45 c0_i32_49
  let v101 : BitVec 32 := Scalar.extui v100
  let v102 : BitVec 32 := Scalar.subi v99 v101
  let v103 : BitVec 1 := Scalar.cmpi .ne v97 v102
  let v104 : BitVec 32 := Scalar.remsi c2_i32_44 c3_i32_45
  let c0_i32_50 : BitVec 32 := 0#32
  let v105 : BitVec 1 := Scalar.cmpi .ne v104 c0_i32_50
  let v106 : BitVec 1 := Scalar.andi v103 v105
  let v92 : BitVec 32 := Scalar.divsi c2_i32_44 c3_i32_45
  let c1_i32_51 : BitVec 32 := 1#32
  let v107 : BitVec 32 := Scalar.subi v92 c1_i32_51
  let v108 : BitVec 32 := Scalar.select v106 v107 v92
  let c2_i32_57 : BitVec 32 := 2#32
  let v113 : BitVec 1 := Scalar.cmpi .slt v108 c2_i32_57
  let c24576_i32_59 : BitVec 32 := 24576#32
  let c1024_i32_58 : BitVec 32 := 1024#32
  let v114 : BitVec 32 := Scalar.muli c1024_i32_58 v108
  let v115 : BitVec 32 := Scalar.addi c24576_i32_59 v114
  let c512_i32_60 : BitVec 32 := 512#32
  let c2_i32_56 : BitVec 32 := 2#32
  let v112 : BitVec 32 := Scalar.subi v108 c2_i32_56
  let v116 : BitVec 32 := Scalar.muli c512_i32_60 v112
  let v117 : BitVec 32 := Scalar.select v113 v115 v116
  v117
def k0_mult9 : BitVec 32 :=
  let c2_i32_44 : BitVec 32 := 2#32
  let c0_i32_46 : BitVec 32 := 0#32
  let v93 : BitVec 1 := Scalar.cmpi .sgt c2_i32_44 c0_i32_46
  let v94 : BitVec 32 := Scalar.extui v93
  let c0_i32_47 : BitVec 32 := 0#32
  let v95 : BitVec 1 := Scalar.cmpi .slt c2_i32_44 c0_i32_47
  let v96 : BitVec 32 := Scalar.extui v95
  let v97 : BitVec 32 := Scalar.subi v94 v96
  let c3_i32_45 : BitVec 32 := 3#32
  let c0_i32_48 : BitVec 32 := 0#32
  let v98 : BitVec 1 := Scalar.cmpi .sgt c3_i32_45 c0_i32_48
  let v99 : BitVec 32 := Scalar.extui v98
  let c0_i32_49 : BitVec 32 := 0#32
  let v100 : BitVec 1 := Scalar.cmpi .slt c3_i32_45 c0_i32_49
  let v101 : BitVec 32 := Scalar.extui v100
  let v102 : BitVec 32 := Scalar.subi v99 v101
  let v103 : BitVec 1 := Scalar.cmpi .ne v97 v102
  let v104 : BitVec 32 := Scalar.remsi c2_i32_44 c3_i32_45
  let c0_i32_50 : BitVec 32 := 0#32
  let v105 : BitVec 1 := Scalar.cmpi .ne v104 c0_i32_50
  let v106 : BitVec 1 := Scalar.andi v103 v105
  let v92 : BitVec 32 := Scalar.divsi c2_i32_44 c3_i32_45
  let c1_i32_51 : BitVec 32 := 1#32
  let v107 : BitVec 32 := Scalar.subi v92 c1_i32_51
  let v108 : BitVec 32 := Scalar.select v106 v107 v92
  let c2_i32_57 : BitVec 32 := 2#32
  let v113 : BitVec 1 := Scalar.cmpi .slt v108 c2_i32_57
  let c24576_i32_62 : BitVec 32 := 24576#32
  let c1024_i32_61 : BitVec 32 := 1024#32
  let v118 : BitVec 32 := Scalar.muli c1024_i32_61 v108
  let v119 : BitVec 32 := Scalar.addi c24576_i32_62 v118
  let c512_i32_63 : BitVec 32 := 512#32
  let v120 : BitVec 32 := Scalar.addi v119 c512_i32_63
  let c12288_i32_65 : BitVec 32 := 12288#32
  let c512_i32_64 : BitVec 32 := 512#32
  let c2_i32_56 : BitVec 32 := 2#32
  let v112 : BitVec 32 := Scalar.subi v108 c2_i32_56
  let v121 : BitVec 32 := Scalar.muli c512_i32_64 v112
  let v122 : BitVec 32 := Scalar.addi c12288_i32_65 v121
  let v123 : BitVec 32 := Scalar.select v113 v120 v122
  v123
def k0_mult10 : BitVec 32 :=
  let c3_i32_80 : BitVec 32 := 3#32
  let c3_i32_71 : BitVec 32 := 3#32
  let c0_i32_73 : BitVec 32 := 0#32
  let v139 : BitVec 1 := Scalar.cmpi .sgt c3_i32_71 c0_i32_73
  let v140 : BitVec 32 := Scalar.extui v139
  let c0_i32_74 : BitVec 32 := 0#32
  let v141 : BitVec 1 := Scalar.cmpi .slt c3_i32_71 c0_i32_74
  let v142 : BitVec 32 := Scalar.extui v141
  let v143 : BitVec 32 := Scalar.subi v140 v142
  let c3_i32_72 : BitVec 32 := 3#32
  let c0_i32_75 : BitVec 32 := 0#32
  let v144 : BitVec 1 := Scalar.cmpi .sgt c3_i32_72 c0_i32_75
  let v145 : BitVec 32 := Scalar.extui v144
  let c0_i32_76 : BitVec 32 := 0#32
  let v146 : BitVec 1 := Scalar.cmpi .slt c3_i32_72 c0_i32_76
  let v147 : BitVec 32 := Scalar.extui v146
  let v148 : BitVec 32 := Scalar.subi v145 v147
  let v149 : BitVec 1 := Scalar.cmpi .ne v143 v148
  let v150 : BitVec 32 := Scalar.remsi c3_i32_71 c3_i32_72
  let c0_i32_77 : BitVec 32 := 0#32
  let v151 : BitVec 1 := Scalar.cmpi .ne v150 c0_i32_77
  let v152 : BitVec 1 := Scalar.andi v149 v151
  let v138 : BitVec 32 := Scalar.divsi c3_i32_71 c3_i32_72
  let c1_i32_78 : BitVec 32 := 1#32
  let v153 : BitVec 32 := Scalar.subi v138 c1_i32_78
  let v154 : BitVec 32 := Scalar.select v152 v153 v138
  let c3_i32_79 : BitVec 32 := 3#32
  let v155 : BitVec 32 := Scalar.muli v154 c3_i32_79
  let v156 : BitVec 32 := Scalar.subi c3_i32_80 v155
  let c2048_i32_93 : BitVec 32 := 2048#32
  let v170 : BitVec 32 := Scalar.muli v156 c2048_i32_93
  v170
def k0_mult11 : BitVec 32 :=
  let c3_i32_71 : BitVec 32 := 3#32
  let c0_i32_73 : BitVec 32 := 0#32
  let v139 : BitVec 1 := Scalar.cmpi .sgt c3_i32_71 c0_i32_73
  let v140 : BitVec 32 := Scalar.extui v139
  let c0_i32_74 : BitVec 32 := 0#32
  let v141 : BitVec 1 := Scalar.cmpi .slt c3_i32_71 c0_i32_74
  let v142 : BitVec 32 := Scalar.extui v141
  let v143 : BitVec 32 := Scalar.subi v140 v142
  let c3_i32_72 : BitVec 32 := 3#32
  let c0_i32_75 : BitVec 32 := 0#32
  let v144 : BitVec 1 := Scalar.cmpi .sgt c3_i32_72 c0_i32_75
  let v145 : BitVec 32 := Scalar.extui v144
  let c0_i32_76 : BitVec 32 := 0#32
  let v146 : BitVec 1 := Scalar.cmpi .slt c3_i32_72 c0_i32_76
  let v147 : BitVec 32 := Scalar.extui v146
  let v148 : BitVec 32 := Scalar.subi v145 v147
  let v149 : BitVec 1 := Scalar.cmpi .ne v143 v148
  let v150 : BitVec 32 := Scalar.remsi c3_i32_71 c3_i32_72
  let c0_i32_77 : BitVec 32 := 0#32
  let v151 : BitVec 1 := Scalar.cmpi .ne v150 c0_i32_77
  let v152 : BitVec 1 := Scalar.andi v149 v151
  let v138 : BitVec 32 := Scalar.divsi c3_i32_71 c3_i32_72
  let c1_i32_78 : BitVec 32 := 1#32
  let v153 : BitVec 32 := Scalar.subi v138 c1_i32_78
  let v154 : BitVec 32 := Scalar.select v152 v153 v138
  let c2_i32_84 : BitVec 32 := 2#32
  let v159 : BitVec 1 := Scalar.cmpi .slt v154 c2_i32_84
  let c24576_i32_86 : BitVec 32 := 24576#32
  let c1024_i32_85 : BitVec 32 := 1024#32
  let v160 : BitVec 32 := Scalar.muli c1024_i32_85 v154
  let v161 : BitVec 32 := Scalar.addi c24576_i32_86 v160
  let c512_i32_87 : BitVec 32 := 512#32
  let c2_i32_83 : BitVec 32 := 2#32
  let v158 : BitVec 32 := Scalar.subi v154 c2_i32_83
  let v162 : BitVec 32 := Scalar.muli c512_i32_87 v158
  let v163 : BitVec 32 := Scalar.select v159 v161 v162
  v163
def k0_mult12 : BitVec 32 :=
  let c3_i32_71 : BitVec 32 := 3#32
  let c0_i32_73 : BitVec 32 := 0#32
  let v139 : BitVec 1 := Scalar.cmpi .sgt c3_i32_71 c0_i32_73
  let v140 : BitVec 32 := Scalar.extui v139
  let c0_i32_74 : BitVec 32 := 0#32
  let v141 : BitVec 1 := Scalar.cmpi .slt c3_i32_71 c0_i32_74
  let v142 : BitVec 32 := Scalar.extui v141
  let v143 : BitVec 32 := Scalar.subi v140 v142
  let c3_i32_72 : BitVec 32 := 3#32
  let c0_i32_75 : BitVec 32 := 0#32
  let v144 : BitVec 1 := Scalar.cmpi .sgt c3_i32_72 c0_i32_75
  let v145 : BitVec 32 := Scalar.extui v144
  let c0_i32_76 : BitVec 32 := 0#32
  let v146 : BitVec 1 := Scalar.cmpi .slt c3_i32_72 c0_i32_76
  let v147 : BitVec 32 := Scalar.extui v146
  let v148 : BitVec 32 := Scalar.subi v145 v147
  let v149 : BitVec 1 := Scalar.cmpi .ne v143 v148
  let v150 : BitVec 32 := Scalar.remsi c3_i32_71 c3_i32_72
  let c0_i32_77 : BitVec 32 := 0#32
  let v151 : BitVec 1 := Scalar.cmpi .ne v150 c0_i32_77
  let v152 : BitVec 1 := Scalar.andi v149 v151
  let v138 : BitVec 32 := Scalar.divsi c3_i32_71 c3_i32_72
  let c1_i32_78 : BitVec 32 := 1#32
  let v153 : BitVec 32 := Scalar.subi v138 c1_i32_78
  let v154 : BitVec 32 := Scalar.select v152 v153 v138
  let c2_i32_84 : BitVec 32 := 2#32
  let v159 : BitVec 1 := Scalar.cmpi .slt v154 c2_i32_84
  let c24576_i32_89 : BitVec 32 := 24576#32
  let c1024_i32_88 : BitVec 32 := 1024#32
  let v164 : BitVec 32 := Scalar.muli c1024_i32_88 v154
  let v165 : BitVec 32 := Scalar.addi c24576_i32_89 v164
  let c512_i32_90 : BitVec 32 := 512#32
  let v166 : BitVec 32 := Scalar.addi v165 c512_i32_90
  let c12288_i32_92 : BitVec 32 := 12288#32
  let c512_i32_91 : BitVec 32 := 512#32
  let c2_i32_83 : BitVec 32 := 2#32
  let v158 : BitVec 32 := Scalar.subi v154 c2_i32_83
  let v167 : BitVec 32 := Scalar.muli c512_i32_91 v158
  let v168 : BitVec 32 := Scalar.addi c12288_i32_92 v167
  let v169 : BitVec 32 := Scalar.select v159 v166 v168
  v169
def k0_cond1 : BitVec 1 :=
  let c0_i32_179 : BitVec 32 := 0#32
  let c0_i32_180 : BitVec 32 := 0#32
  let v485 : BitVec 1 := Scalar.cmpi .sgt c0_i32_179 c0_i32_180
  let v486 : BitVec 32 := Scalar.extui v485
  let c0_i32_182 : BitVec 32 := 0#32
  let v487 : BitVec 1 := Scalar.cmpi .ne v486 c0_i32_182
  v487

def k0_mult13 : BitVec 32 :=
  let c0_i32_181 : BitVec 32 := 0#32
  let c1_i32_653 : BitVec 32 := 1#32
  let v1191 : BitVec 32 := Scalar.subi c0_i32_181 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  v1225
def k0_mult14 : BitVec 32 :=
  let c0_i32_181 : BitVec 32 := 0#32
  let c1_i32_653 : BitVec 32 := 1#32
  let v1191 : BitVec 32 := Scalar.subi c0_i32_181 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  v1218
def k0_mult15 : BitVec 32 :=
  let c0_i32_181 : BitVec 32 := 0#32
  let c1_i32_653 : BitVec 32 := 1#32
  let v1191 : BitVec 32 := Scalar.subi c0_i32_181 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  v1224
def k0_off6 : Fin 1 → Nat :=
  let c0_i32_181 : BitVec 32 := 0#32
  let c1_i32_653 : BitVec 32 := 1#32
  let v1191 : BitVec 32 := Scalar.subi c0_i32_181 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  ![v1212.toNat]
def k0_off7 : Fin 3 → Nat :=
  let c0_i32_181 : BitVec 32 := 0#32
  let c1_i32_653 : BitVec 32 := 1#32
  let v1191 : BitVec 32 := Scalar.subi c0_i32_181 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c0_i32_675 : BitVec 32 := 0#32
  let c0_i32_676 : BitVec 32 := 0#32
  ![v1212.toNat, 0, 0]
def k0_off8 : Fin 2 → Nat :=
  let c0_i32_181 : BitVec 32 := 0#32
  let c1_i32_653 : BitVec 32 := 1#32
  let v1191 : BitVec 32 := Scalar.subi c0_i32_181 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  let v1227 : BitVec 32 := v1218
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1227.toNat, v1226.toNat]
def k0_off9 : Fin 3 → Nat :=
  let c0_i32_181 : BitVec 32 := 0#32
  let c1_i32_653 : BitVec 32 := 1#32
  let v1191 : BitVec 32 := Scalar.subi c0_i32_181 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c512_i32_677 : BitVec 32 := 512#32
  let c0_i32_678 : BitVec 32 := 0#32
  ![v1212.toNat, 512, 0]
def k0_off10 : Fin 2 → Nat :=
  let c0_i32_181 : BitVec 32 := 0#32
  let c1_i32_653 : BitVec 32 := 1#32
  let v1191 : BitVec 32 := Scalar.subi c0_i32_181 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  let v1228 : BitVec 32 := v1224
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1228.toNat, v1226.toNat]
def k0_mult16 : BitVec 32 :=
  let c0_i32_192 : BitVec 32 := 0#32
  let c0_i32_183 : BitVec 32 := 0#32
  let c0_i32_185 : BitVec 32 := 0#32
  let v489 : BitVec 1 := Scalar.cmpi .sgt c0_i32_183 c0_i32_185
  let v490 : BitVec 32 := Scalar.extui v489
  let c0_i32_186 : BitVec 32 := 0#32
  let v491 : BitVec 1 := Scalar.cmpi .slt c0_i32_183 c0_i32_186
  let v492 : BitVec 32 := Scalar.extui v491
  let v493 : BitVec 32 := Scalar.subi v490 v492
  let c3_i32_184 : BitVec 32 := 3#32
  let c0_i32_187 : BitVec 32 := 0#32
  let v494 : BitVec 1 := Scalar.cmpi .sgt c3_i32_184 c0_i32_187
  let v495 : BitVec 32 := Scalar.extui v494
  let c0_i32_188 : BitVec 32 := 0#32
  let v496 : BitVec 1 := Scalar.cmpi .slt c3_i32_184 c0_i32_188
  let v497 : BitVec 32 := Scalar.extui v496
  let v498 : BitVec 32 := Scalar.subi v495 v497
  let v499 : BitVec 1 := Scalar.cmpi .ne v493 v498
  let v500 : BitVec 32 := Scalar.remsi c0_i32_183 c3_i32_184
  let c0_i32_189 : BitVec 32 := 0#32
  let v501 : BitVec 1 := Scalar.cmpi .ne v500 c0_i32_189
  let v502 : BitVec 1 := Scalar.andi v499 v501
  let v488 : BitVec 32 := Scalar.divsi c0_i32_183 c3_i32_184
  let c1_i32_190 : BitVec 32 := 1#32
  let v503 : BitVec 32 := Scalar.subi v488 c1_i32_190
  let v504 : BitVec 32 := Scalar.select v502 v503 v488
  let c3_i32_191 : BitVec 32 := 3#32
  let v505 : BitVec 32 := Scalar.muli v504 c3_i32_191
  let v506 : BitVec 32 := Scalar.subi c0_i32_192 v505
  let c2048_i32_205 : BitVec 32 := 2048#32
  let v520 : BitVec 32 := Scalar.muli v506 c2048_i32_205
  v520
def k0_mult17 : BitVec 32 :=
  let c0_i32_183 : BitVec 32 := 0#32
  let c0_i32_185 : BitVec 32 := 0#32
  let v489 : BitVec 1 := Scalar.cmpi .sgt c0_i32_183 c0_i32_185
  let v490 : BitVec 32 := Scalar.extui v489
  let c0_i32_186 : BitVec 32 := 0#32
  let v491 : BitVec 1 := Scalar.cmpi .slt c0_i32_183 c0_i32_186
  let v492 : BitVec 32 := Scalar.extui v491
  let v493 : BitVec 32 := Scalar.subi v490 v492
  let c3_i32_184 : BitVec 32 := 3#32
  let c0_i32_187 : BitVec 32 := 0#32
  let v494 : BitVec 1 := Scalar.cmpi .sgt c3_i32_184 c0_i32_187
  let v495 : BitVec 32 := Scalar.extui v494
  let c0_i32_188 : BitVec 32 := 0#32
  let v496 : BitVec 1 := Scalar.cmpi .slt c3_i32_184 c0_i32_188
  let v497 : BitVec 32 := Scalar.extui v496
  let v498 : BitVec 32 := Scalar.subi v495 v497
  let v499 : BitVec 1 := Scalar.cmpi .ne v493 v498
  let v500 : BitVec 32 := Scalar.remsi c0_i32_183 c3_i32_184
  let c0_i32_189 : BitVec 32 := 0#32
  let v501 : BitVec 1 := Scalar.cmpi .ne v500 c0_i32_189
  let v502 : BitVec 1 := Scalar.andi v499 v501
  let v488 : BitVec 32 := Scalar.divsi c0_i32_183 c3_i32_184
  let c1_i32_190 : BitVec 32 := 1#32
  let v503 : BitVec 32 := Scalar.subi v488 c1_i32_190
  let v504 : BitVec 32 := Scalar.select v502 v503 v488
  let c2_i32_196 : BitVec 32 := 2#32
  let v509 : BitVec 1 := Scalar.cmpi .slt v504 c2_i32_196
  let c24576_i32_198 : BitVec 32 := 24576#32
  let c1024_i32_197 : BitVec 32 := 1024#32
  let v510 : BitVec 32 := Scalar.muli c1024_i32_197 v504
  let v511 : BitVec 32 := Scalar.addi c24576_i32_198 v510
  let c512_i32_199 : BitVec 32 := 512#32
  let c2_i32_195 : BitVec 32 := 2#32
  let v508 : BitVec 32 := Scalar.subi v504 c2_i32_195
  let v512 : BitVec 32 := Scalar.muli c512_i32_199 v508
  let v513 : BitVec 32 := Scalar.select v509 v511 v512
  v513
def k0_mult18 : BitVec 32 :=
  let c0_i32_183 : BitVec 32 := 0#32
  let c0_i32_185 : BitVec 32 := 0#32
  let v489 : BitVec 1 := Scalar.cmpi .sgt c0_i32_183 c0_i32_185
  let v490 : BitVec 32 := Scalar.extui v489
  let c0_i32_186 : BitVec 32 := 0#32
  let v491 : BitVec 1 := Scalar.cmpi .slt c0_i32_183 c0_i32_186
  let v492 : BitVec 32 := Scalar.extui v491
  let v493 : BitVec 32 := Scalar.subi v490 v492
  let c3_i32_184 : BitVec 32 := 3#32
  let c0_i32_187 : BitVec 32 := 0#32
  let v494 : BitVec 1 := Scalar.cmpi .sgt c3_i32_184 c0_i32_187
  let v495 : BitVec 32 := Scalar.extui v494
  let c0_i32_188 : BitVec 32 := 0#32
  let v496 : BitVec 1 := Scalar.cmpi .slt c3_i32_184 c0_i32_188
  let v497 : BitVec 32 := Scalar.extui v496
  let v498 : BitVec 32 := Scalar.subi v495 v497
  let v499 : BitVec 1 := Scalar.cmpi .ne v493 v498
  let v500 : BitVec 32 := Scalar.remsi c0_i32_183 c3_i32_184
  let c0_i32_189 : BitVec 32 := 0#32
  let v501 : BitVec 1 := Scalar.cmpi .ne v500 c0_i32_189
  let v502 : BitVec 1 := Scalar.andi v499 v501
  let v488 : BitVec 32 := Scalar.divsi c0_i32_183 c3_i32_184
  let c1_i32_190 : BitVec 32 := 1#32
  let v503 : BitVec 32 := Scalar.subi v488 c1_i32_190
  let v504 : BitVec 32 := Scalar.select v502 v503 v488
  let c2_i32_196 : BitVec 32 := 2#32
  let v509 : BitVec 1 := Scalar.cmpi .slt v504 c2_i32_196
  let c24576_i32_201 : BitVec 32 := 24576#32
  let c1024_i32_200 : BitVec 32 := 1024#32
  let v514 : BitVec 32 := Scalar.muli c1024_i32_200 v504
  let v515 : BitVec 32 := Scalar.addi c24576_i32_201 v514
  let c512_i32_202 : BitVec 32 := 512#32
  let v516 : BitVec 32 := Scalar.addi v515 c512_i32_202
  let c12288_i32_204 : BitVec 32 := 12288#32
  let c512_i32_203 : BitVec 32 := 512#32
  let c2_i32_195 : BitVec 32 := 2#32
  let v508 : BitVec 32 := Scalar.subi v504 c2_i32_195
  let v517 : BitVec 32 := Scalar.muli c512_i32_203 v508
  let v518 : BitVec 32 := Scalar.addi c12288_i32_204 v517
  let v519 : BitVec 32 := Scalar.select v509 v516 v518
  v519
def k0_off11 (c0_i32_210 : BitVec 32) : Fin 3 → Nat :=
  let c3_i32_211 : BitVec 32 := 3#32
  let v534 : BitVec 32 := Scalar.remsi c0_i32_210 c3_i32_211
  let v535 : Index := Scalar.indexCast v534
  let c0_212 : Index := 0#32
  let c0_213 : Index := 0#32
  ![v535.toNat, 0, 0]
def k0_off12 (c0_i32_214 : BitVec 32) : Fin 3 → Nat :=
  let c4_i32_215 : BitVec 32 := 4#32
  let v538 : BitVec 32 := Scalar.remsi c0_i32_214 c4_i32_215
  let v539 : Index := Scalar.indexCast v538
  let c0_216 : Index := 0#32
  let c0_217 : Index := 0#32
  ![v539.toNat, 0, 0]
def k0_cond2 : BitVec 1 :=
  let c1_i32_224 : BitVec 32 := 1#32
  let c0_i32_225 : BitVec 32 := 0#32
  let v551 : BitVec 1 := Scalar.cmpi .sgt c1_i32_224 c0_i32_225
  let v552 : BitVec 32 := Scalar.extui v551
  let c0_i32_227 : BitVec 32 := 0#32
  let v553 : BitVec 1 := Scalar.cmpi .ne v552 c0_i32_227
  v553

def k0_mult19 : BitVec 32 :=
  let c1_i32_226 : BitVec 32 := 1#32
  let c1_i32_653 : BitVec 32 := 1#32
  let v1191 : BitVec 32 := Scalar.subi c1_i32_226 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  v1225
def k0_mult20 : BitVec 32 :=
  let c1_i32_226 : BitVec 32 := 1#32
  let c1_i32_653 : BitVec 32 := 1#32
  let v1191 : BitVec 32 := Scalar.subi c1_i32_226 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  v1218
def k0_mult21 : BitVec 32 :=
  let c1_i32_226 : BitVec 32 := 1#32
  let c1_i32_653 : BitVec 32 := 1#32
  let v1191 : BitVec 32 := Scalar.subi c1_i32_226 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  v1224
def k0_off13 : Fin 1 → Nat :=
  let c1_i32_226 : BitVec 32 := 1#32
  let c1_i32_653 : BitVec 32 := 1#32
  let v1191 : BitVec 32 := Scalar.subi c1_i32_226 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  ![v1212.toNat]
def k0_off14 : Fin 3 → Nat :=
  let c1_i32_226 : BitVec 32 := 1#32
  let c1_i32_653 : BitVec 32 := 1#32
  let v1191 : BitVec 32 := Scalar.subi c1_i32_226 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c0_i32_675 : BitVec 32 := 0#32
  let c0_i32_676 : BitVec 32 := 0#32
  ![v1212.toNat, 0, 0]
def k0_off15 : Fin 2 → Nat :=
  let c1_i32_226 : BitVec 32 := 1#32
  let c1_i32_653 : BitVec 32 := 1#32
  let v1191 : BitVec 32 := Scalar.subi c1_i32_226 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  let v1227 : BitVec 32 := v1218
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1227.toNat, v1226.toNat]
def k0_off16 : Fin 3 → Nat :=
  let c1_i32_226 : BitVec 32 := 1#32
  let c1_i32_653 : BitVec 32 := 1#32
  let v1191 : BitVec 32 := Scalar.subi c1_i32_226 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c512_i32_677 : BitVec 32 := 512#32
  let c0_i32_678 : BitVec 32 := 0#32
  ![v1212.toNat, 512, 0]
def k0_off17 : Fin 2 → Nat :=
  let c1_i32_226 : BitVec 32 := 1#32
  let c1_i32_653 : BitVec 32 := 1#32
  let v1191 : BitVec 32 := Scalar.subi c1_i32_226 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  let v1228 : BitVec 32 := v1224
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1228.toNat, v1226.toNat]
def k0_mult22 : BitVec 32 :=
  let c1_i32_237 : BitVec 32 := 1#32
  let c1_i32_228 : BitVec 32 := 1#32
  let c0_i32_230 : BitVec 32 := 0#32
  let v555 : BitVec 1 := Scalar.cmpi .sgt c1_i32_228 c0_i32_230
  let v556 : BitVec 32 := Scalar.extui v555
  let c0_i32_231 : BitVec 32 := 0#32
  let v557 : BitVec 1 := Scalar.cmpi .slt c1_i32_228 c0_i32_231
  let v558 : BitVec 32 := Scalar.extui v557
  let v559 : BitVec 32 := Scalar.subi v556 v558
  let c3_i32_229 : BitVec 32 := 3#32
  let c0_i32_232 : BitVec 32 := 0#32
  let v560 : BitVec 1 := Scalar.cmpi .sgt c3_i32_229 c0_i32_232
  let v561 : BitVec 32 := Scalar.extui v560
  let c0_i32_233 : BitVec 32 := 0#32
  let v562 : BitVec 1 := Scalar.cmpi .slt c3_i32_229 c0_i32_233
  let v563 : BitVec 32 := Scalar.extui v562
  let v564 : BitVec 32 := Scalar.subi v561 v563
  let v565 : BitVec 1 := Scalar.cmpi .ne v559 v564
  let v566 : BitVec 32 := Scalar.remsi c1_i32_228 c3_i32_229
  let c0_i32_234 : BitVec 32 := 0#32
  let v567 : BitVec 1 := Scalar.cmpi .ne v566 c0_i32_234
  let v568 : BitVec 1 := Scalar.andi v565 v567
  let v554 : BitVec 32 := Scalar.divsi c1_i32_228 c3_i32_229
  let c1_i32_235 : BitVec 32 := 1#32
  let v569 : BitVec 32 := Scalar.subi v554 c1_i32_235
  let v570 : BitVec 32 := Scalar.select v568 v569 v554
  let c3_i32_236 : BitVec 32 := 3#32
  let v571 : BitVec 32 := Scalar.muli v570 c3_i32_236
  let v572 : BitVec 32 := Scalar.subi c1_i32_237 v571
  let c2048_i32_250 : BitVec 32 := 2048#32
  let v586 : BitVec 32 := Scalar.muli v572 c2048_i32_250
  v586
def k0_mult23 : BitVec 32 :=
  let c1_i32_228 : BitVec 32 := 1#32
  let c0_i32_230 : BitVec 32 := 0#32
  let v555 : BitVec 1 := Scalar.cmpi .sgt c1_i32_228 c0_i32_230
  let v556 : BitVec 32 := Scalar.extui v555
  let c0_i32_231 : BitVec 32 := 0#32
  let v557 : BitVec 1 := Scalar.cmpi .slt c1_i32_228 c0_i32_231
  let v558 : BitVec 32 := Scalar.extui v557
  let v559 : BitVec 32 := Scalar.subi v556 v558
  let c3_i32_229 : BitVec 32 := 3#32
  let c0_i32_232 : BitVec 32 := 0#32
  let v560 : BitVec 1 := Scalar.cmpi .sgt c3_i32_229 c0_i32_232
  let v561 : BitVec 32 := Scalar.extui v560
  let c0_i32_233 : BitVec 32 := 0#32
  let v562 : BitVec 1 := Scalar.cmpi .slt c3_i32_229 c0_i32_233
  let v563 : BitVec 32 := Scalar.extui v562
  let v564 : BitVec 32 := Scalar.subi v561 v563
  let v565 : BitVec 1 := Scalar.cmpi .ne v559 v564
  let v566 : BitVec 32 := Scalar.remsi c1_i32_228 c3_i32_229
  let c0_i32_234 : BitVec 32 := 0#32
  let v567 : BitVec 1 := Scalar.cmpi .ne v566 c0_i32_234
  let v568 : BitVec 1 := Scalar.andi v565 v567
  let v554 : BitVec 32 := Scalar.divsi c1_i32_228 c3_i32_229
  let c1_i32_235 : BitVec 32 := 1#32
  let v569 : BitVec 32 := Scalar.subi v554 c1_i32_235
  let v570 : BitVec 32 := Scalar.select v568 v569 v554
  let c2_i32_241 : BitVec 32 := 2#32
  let v575 : BitVec 1 := Scalar.cmpi .slt v570 c2_i32_241
  let c24576_i32_243 : BitVec 32 := 24576#32
  let c1024_i32_242 : BitVec 32 := 1024#32
  let v576 : BitVec 32 := Scalar.muli c1024_i32_242 v570
  let v577 : BitVec 32 := Scalar.addi c24576_i32_243 v576
  let c512_i32_244 : BitVec 32 := 512#32
  let c2_i32_240 : BitVec 32 := 2#32
  let v574 : BitVec 32 := Scalar.subi v570 c2_i32_240
  let v578 : BitVec 32 := Scalar.muli c512_i32_244 v574
  let v579 : BitVec 32 := Scalar.select v575 v577 v578
  v579
def k0_mult24 : BitVec 32 :=
  let c1_i32_228 : BitVec 32 := 1#32
  let c0_i32_230 : BitVec 32 := 0#32
  let v555 : BitVec 1 := Scalar.cmpi .sgt c1_i32_228 c0_i32_230
  let v556 : BitVec 32 := Scalar.extui v555
  let c0_i32_231 : BitVec 32 := 0#32
  let v557 : BitVec 1 := Scalar.cmpi .slt c1_i32_228 c0_i32_231
  let v558 : BitVec 32 := Scalar.extui v557
  let v559 : BitVec 32 := Scalar.subi v556 v558
  let c3_i32_229 : BitVec 32 := 3#32
  let c0_i32_232 : BitVec 32 := 0#32
  let v560 : BitVec 1 := Scalar.cmpi .sgt c3_i32_229 c0_i32_232
  let v561 : BitVec 32 := Scalar.extui v560
  let c0_i32_233 : BitVec 32 := 0#32
  let v562 : BitVec 1 := Scalar.cmpi .slt c3_i32_229 c0_i32_233
  let v563 : BitVec 32 := Scalar.extui v562
  let v564 : BitVec 32 := Scalar.subi v561 v563
  let v565 : BitVec 1 := Scalar.cmpi .ne v559 v564
  let v566 : BitVec 32 := Scalar.remsi c1_i32_228 c3_i32_229
  let c0_i32_234 : BitVec 32 := 0#32
  let v567 : BitVec 1 := Scalar.cmpi .ne v566 c0_i32_234
  let v568 : BitVec 1 := Scalar.andi v565 v567
  let v554 : BitVec 32 := Scalar.divsi c1_i32_228 c3_i32_229
  let c1_i32_235 : BitVec 32 := 1#32
  let v569 : BitVec 32 := Scalar.subi v554 c1_i32_235
  let v570 : BitVec 32 := Scalar.select v568 v569 v554
  let c2_i32_241 : BitVec 32 := 2#32
  let v575 : BitVec 1 := Scalar.cmpi .slt v570 c2_i32_241
  let c24576_i32_246 : BitVec 32 := 24576#32
  let c1024_i32_245 : BitVec 32 := 1024#32
  let v580 : BitVec 32 := Scalar.muli c1024_i32_245 v570
  let v581 : BitVec 32 := Scalar.addi c24576_i32_246 v580
  let c512_i32_247 : BitVec 32 := 512#32
  let v582 : BitVec 32 := Scalar.addi v581 c512_i32_247
  let c12288_i32_249 : BitVec 32 := 12288#32
  let c512_i32_248 : BitVec 32 := 512#32
  let c2_i32_240 : BitVec 32 := 2#32
  let v574 : BitVec 32 := Scalar.subi v570 c2_i32_240
  let v583 : BitVec 32 := Scalar.muli c512_i32_248 v574
  let v584 : BitVec 32 := Scalar.addi c12288_i32_249 v583
  let v585 : BitVec 32 := Scalar.select v575 v582 v584
  v585
def k0_cond3 : BitVec 1 :=
  let c2_i32_269 : BitVec 32 := 2#32
  let c0_i32_270 : BitVec 32 := 0#32
  let v617 : BitVec 1 := Scalar.cmpi .sgt c2_i32_269 c0_i32_270
  let v618 : BitVec 32 := Scalar.extui v617
  let c0_i32_272 : BitVec 32 := 0#32
  let v619 : BitVec 1 := Scalar.cmpi .ne v618 c0_i32_272
  v619

def k0_mult25 : BitVec 32 :=
  let c2_i32_271 : BitVec 32 := 2#32
  let c1_i32_653 : BitVec 32 := 1#32
  let v1191 : BitVec 32 := Scalar.subi c2_i32_271 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  v1225
def k0_mult26 : BitVec 32 :=
  let c2_i32_271 : BitVec 32 := 2#32
  let c1_i32_653 : BitVec 32 := 1#32
  let v1191 : BitVec 32 := Scalar.subi c2_i32_271 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  v1218
def k0_mult27 : BitVec 32 :=
  let c2_i32_271 : BitVec 32 := 2#32
  let c1_i32_653 : BitVec 32 := 1#32
  let v1191 : BitVec 32 := Scalar.subi c2_i32_271 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  v1224
def k0_off18 : Fin 1 → Nat :=
  let c2_i32_271 : BitVec 32 := 2#32
  let c1_i32_653 : BitVec 32 := 1#32
  let v1191 : BitVec 32 := Scalar.subi c2_i32_271 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  ![v1212.toNat]
def k0_off19 : Fin 3 → Nat :=
  let c2_i32_271 : BitVec 32 := 2#32
  let c1_i32_653 : BitVec 32 := 1#32
  let v1191 : BitVec 32 := Scalar.subi c2_i32_271 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c0_i32_675 : BitVec 32 := 0#32
  let c0_i32_676 : BitVec 32 := 0#32
  ![v1212.toNat, 0, 0]
def k0_off20 : Fin 2 → Nat :=
  let c2_i32_271 : BitVec 32 := 2#32
  let c1_i32_653 : BitVec 32 := 1#32
  let v1191 : BitVec 32 := Scalar.subi c2_i32_271 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  let v1227 : BitVec 32 := v1218
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1227.toNat, v1226.toNat]
def k0_off21 : Fin 3 → Nat :=
  let c2_i32_271 : BitVec 32 := 2#32
  let c1_i32_653 : BitVec 32 := 1#32
  let v1191 : BitVec 32 := Scalar.subi c2_i32_271 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c512_i32_677 : BitVec 32 := 512#32
  let c0_i32_678 : BitVec 32 := 0#32
  ![v1212.toNat, 512, 0]
def k0_off22 : Fin 2 → Nat :=
  let c2_i32_271 : BitVec 32 := 2#32
  let c1_i32_653 : BitVec 32 := 1#32
  let v1191 : BitVec 32 := Scalar.subi c2_i32_271 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  let v1228 : BitVec 32 := v1224
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1228.toNat, v1226.toNat]
def k0_mult28 : BitVec 32 :=
  let c2_i32_282 : BitVec 32 := 2#32
  let c2_i32_273 : BitVec 32 := 2#32
  let c0_i32_275 : BitVec 32 := 0#32
  let v621 : BitVec 1 := Scalar.cmpi .sgt c2_i32_273 c0_i32_275
  let v622 : BitVec 32 := Scalar.extui v621
  let c0_i32_276 : BitVec 32 := 0#32
  let v623 : BitVec 1 := Scalar.cmpi .slt c2_i32_273 c0_i32_276
  let v624 : BitVec 32 := Scalar.extui v623
  let v625 : BitVec 32 := Scalar.subi v622 v624
  let c3_i32_274 : BitVec 32 := 3#32
  let c0_i32_277 : BitVec 32 := 0#32
  let v626 : BitVec 1 := Scalar.cmpi .sgt c3_i32_274 c0_i32_277
  let v627 : BitVec 32 := Scalar.extui v626
  let c0_i32_278 : BitVec 32 := 0#32
  let v628 : BitVec 1 := Scalar.cmpi .slt c3_i32_274 c0_i32_278
  let v629 : BitVec 32 := Scalar.extui v628
  let v630 : BitVec 32 := Scalar.subi v627 v629
  let v631 : BitVec 1 := Scalar.cmpi .ne v625 v630
  let v632 : BitVec 32 := Scalar.remsi c2_i32_273 c3_i32_274
  let c0_i32_279 : BitVec 32 := 0#32
  let v633 : BitVec 1 := Scalar.cmpi .ne v632 c0_i32_279
  let v634 : BitVec 1 := Scalar.andi v631 v633
  let v620 : BitVec 32 := Scalar.divsi c2_i32_273 c3_i32_274
  let c1_i32_280 : BitVec 32 := 1#32
  let v635 : BitVec 32 := Scalar.subi v620 c1_i32_280
  let v636 : BitVec 32 := Scalar.select v634 v635 v620
  let c3_i32_281 : BitVec 32 := 3#32
  let v637 : BitVec 32 := Scalar.muli v636 c3_i32_281
  let v638 : BitVec 32 := Scalar.subi c2_i32_282 v637
  let c2048_i32_295 : BitVec 32 := 2048#32
  let v652 : BitVec 32 := Scalar.muli v638 c2048_i32_295
  v652
def k0_mult29 : BitVec 32 :=
  let c2_i32_273 : BitVec 32 := 2#32
  let c0_i32_275 : BitVec 32 := 0#32
  let v621 : BitVec 1 := Scalar.cmpi .sgt c2_i32_273 c0_i32_275
  let v622 : BitVec 32 := Scalar.extui v621
  let c0_i32_276 : BitVec 32 := 0#32
  let v623 : BitVec 1 := Scalar.cmpi .slt c2_i32_273 c0_i32_276
  let v624 : BitVec 32 := Scalar.extui v623
  let v625 : BitVec 32 := Scalar.subi v622 v624
  let c3_i32_274 : BitVec 32 := 3#32
  let c0_i32_277 : BitVec 32 := 0#32
  let v626 : BitVec 1 := Scalar.cmpi .sgt c3_i32_274 c0_i32_277
  let v627 : BitVec 32 := Scalar.extui v626
  let c0_i32_278 : BitVec 32 := 0#32
  let v628 : BitVec 1 := Scalar.cmpi .slt c3_i32_274 c0_i32_278
  let v629 : BitVec 32 := Scalar.extui v628
  let v630 : BitVec 32 := Scalar.subi v627 v629
  let v631 : BitVec 1 := Scalar.cmpi .ne v625 v630
  let v632 : BitVec 32 := Scalar.remsi c2_i32_273 c3_i32_274
  let c0_i32_279 : BitVec 32 := 0#32
  let v633 : BitVec 1 := Scalar.cmpi .ne v632 c0_i32_279
  let v634 : BitVec 1 := Scalar.andi v631 v633
  let v620 : BitVec 32 := Scalar.divsi c2_i32_273 c3_i32_274
  let c1_i32_280 : BitVec 32 := 1#32
  let v635 : BitVec 32 := Scalar.subi v620 c1_i32_280
  let v636 : BitVec 32 := Scalar.select v634 v635 v620
  let c2_i32_286 : BitVec 32 := 2#32
  let v641 : BitVec 1 := Scalar.cmpi .slt v636 c2_i32_286
  let c24576_i32_288 : BitVec 32 := 24576#32
  let c1024_i32_287 : BitVec 32 := 1024#32
  let v642 : BitVec 32 := Scalar.muli c1024_i32_287 v636
  let v643 : BitVec 32 := Scalar.addi c24576_i32_288 v642
  let c512_i32_289 : BitVec 32 := 512#32
  let c2_i32_285 : BitVec 32 := 2#32
  let v640 : BitVec 32 := Scalar.subi v636 c2_i32_285
  let v644 : BitVec 32 := Scalar.muli c512_i32_289 v640
  let v645 : BitVec 32 := Scalar.select v641 v643 v644
  v645
def k0_mult30 : BitVec 32 :=
  let c2_i32_273 : BitVec 32 := 2#32
  let c0_i32_275 : BitVec 32 := 0#32
  let v621 : BitVec 1 := Scalar.cmpi .sgt c2_i32_273 c0_i32_275
  let v622 : BitVec 32 := Scalar.extui v621
  let c0_i32_276 : BitVec 32 := 0#32
  let v623 : BitVec 1 := Scalar.cmpi .slt c2_i32_273 c0_i32_276
  let v624 : BitVec 32 := Scalar.extui v623
  let v625 : BitVec 32 := Scalar.subi v622 v624
  let c3_i32_274 : BitVec 32 := 3#32
  let c0_i32_277 : BitVec 32 := 0#32
  let v626 : BitVec 1 := Scalar.cmpi .sgt c3_i32_274 c0_i32_277
  let v627 : BitVec 32 := Scalar.extui v626
  let c0_i32_278 : BitVec 32 := 0#32
  let v628 : BitVec 1 := Scalar.cmpi .slt c3_i32_274 c0_i32_278
  let v629 : BitVec 32 := Scalar.extui v628
  let v630 : BitVec 32 := Scalar.subi v627 v629
  let v631 : BitVec 1 := Scalar.cmpi .ne v625 v630
  let v632 : BitVec 32 := Scalar.remsi c2_i32_273 c3_i32_274
  let c0_i32_279 : BitVec 32 := 0#32
  let v633 : BitVec 1 := Scalar.cmpi .ne v632 c0_i32_279
  let v634 : BitVec 1 := Scalar.andi v631 v633
  let v620 : BitVec 32 := Scalar.divsi c2_i32_273 c3_i32_274
  let c1_i32_280 : BitVec 32 := 1#32
  let v635 : BitVec 32 := Scalar.subi v620 c1_i32_280
  let v636 : BitVec 32 := Scalar.select v634 v635 v620
  let c2_i32_286 : BitVec 32 := 2#32
  let v641 : BitVec 1 := Scalar.cmpi .slt v636 c2_i32_286
  let c24576_i32_291 : BitVec 32 := 24576#32
  let c1024_i32_290 : BitVec 32 := 1024#32
  let v646 : BitVec 32 := Scalar.muli c1024_i32_290 v636
  let v647 : BitVec 32 := Scalar.addi c24576_i32_291 v646
  let c512_i32_292 : BitVec 32 := 512#32
  let v648 : BitVec 32 := Scalar.addi v647 c512_i32_292
  let c12288_i32_294 : BitVec 32 := 12288#32
  let c512_i32_293 : BitVec 32 := 512#32
  let c2_i32_285 : BitVec 32 := 2#32
  let v640 : BitVec 32 := Scalar.subi v636 c2_i32_285
  let v649 : BitVec 32 := Scalar.muli c512_i32_293 v640
  let v650 : BitVec 32 := Scalar.addi c12288_i32_294 v649
  let v651 : BitVec 32 := Scalar.select v641 v648 v650
  v651
def k0_cond4 : BitVec 1 :=
  let c3_i32_326 : BitVec 32 := 3#32
  let c0_i32_327 : BitVec 32 := 0#32
  let v703 : BitVec 1 := Scalar.cmpi .sgt c3_i32_326 c0_i32_327
  let v704 : BitVec 32 := Scalar.extui v703
  let c0_i32_329 : BitVec 32 := 0#32
  let v705 : BitVec 1 := Scalar.cmpi .ne v704 c0_i32_329
  v705

def k0_mult31 : BitVec 32 :=
  let c3_i32_328 : BitVec 32 := 3#32
  let c1_i32_653 : BitVec 32 := 1#32
  let v1191 : BitVec 32 := Scalar.subi c3_i32_328 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  v1225
def k0_mult32 : BitVec 32 :=
  let c3_i32_328 : BitVec 32 := 3#32
  let c1_i32_653 : BitVec 32 := 1#32
  let v1191 : BitVec 32 := Scalar.subi c3_i32_328 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  v1218
def k0_mult33 : BitVec 32 :=
  let c3_i32_328 : BitVec 32 := 3#32
  let c1_i32_653 : BitVec 32 := 1#32
  let v1191 : BitVec 32 := Scalar.subi c3_i32_328 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  v1224
def k0_off23 : Fin 1 → Nat :=
  let c3_i32_328 : BitVec 32 := 3#32
  let c1_i32_653 : BitVec 32 := 1#32
  let v1191 : BitVec 32 := Scalar.subi c3_i32_328 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  ![v1212.toNat]
def k0_off24 : Fin 3 → Nat :=
  let c3_i32_328 : BitVec 32 := 3#32
  let c1_i32_653 : BitVec 32 := 1#32
  let v1191 : BitVec 32 := Scalar.subi c3_i32_328 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c0_i32_675 : BitVec 32 := 0#32
  let c0_i32_676 : BitVec 32 := 0#32
  ![v1212.toNat, 0, 0]
def k0_off25 : Fin 2 → Nat :=
  let c3_i32_328 : BitVec 32 := 3#32
  let c1_i32_653 : BitVec 32 := 1#32
  let v1191 : BitVec 32 := Scalar.subi c3_i32_328 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  let v1227 : BitVec 32 := v1218
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1227.toNat, v1226.toNat]
def k0_off26 : Fin 3 → Nat :=
  let c3_i32_328 : BitVec 32 := 3#32
  let c1_i32_653 : BitVec 32 := 1#32
  let v1191 : BitVec 32 := Scalar.subi c3_i32_328 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c512_i32_677 : BitVec 32 := 512#32
  let c0_i32_678 : BitVec 32 := 0#32
  ![v1212.toNat, 512, 0]
def k0_off27 : Fin 2 → Nat :=
  let c3_i32_328 : BitVec 32 := 3#32
  let c1_i32_653 : BitVec 32 := 1#32
  let v1191 : BitVec 32 := Scalar.subi c3_i32_328 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  let v1228 : BitVec 32 := v1224
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1228.toNat, v1226.toNat]
def k0_mult34 : BitVec 32 :=
  let c3_i32_339 : BitVec 32 := 3#32
  let c3_i32_330 : BitVec 32 := 3#32
  let c0_i32_332 : BitVec 32 := 0#32
  let v707 : BitVec 1 := Scalar.cmpi .sgt c3_i32_330 c0_i32_332
  let v708 : BitVec 32 := Scalar.extui v707
  let c0_i32_333 : BitVec 32 := 0#32
  let v709 : BitVec 1 := Scalar.cmpi .slt c3_i32_330 c0_i32_333
  let v710 : BitVec 32 := Scalar.extui v709
  let v711 : BitVec 32 := Scalar.subi v708 v710
  let c3_i32_331 : BitVec 32 := 3#32
  let c0_i32_334 : BitVec 32 := 0#32
  let v712 : BitVec 1 := Scalar.cmpi .sgt c3_i32_331 c0_i32_334
  let v713 : BitVec 32 := Scalar.extui v712
  let c0_i32_335 : BitVec 32 := 0#32
  let v714 : BitVec 1 := Scalar.cmpi .slt c3_i32_331 c0_i32_335
  let v715 : BitVec 32 := Scalar.extui v714
  let v716 : BitVec 32 := Scalar.subi v713 v715
  let v717 : BitVec 1 := Scalar.cmpi .ne v711 v716
  let v718 : BitVec 32 := Scalar.remsi c3_i32_330 c3_i32_331
  let c0_i32_336 : BitVec 32 := 0#32
  let v719 : BitVec 1 := Scalar.cmpi .ne v718 c0_i32_336
  let v720 : BitVec 1 := Scalar.andi v717 v719
  let v706 : BitVec 32 := Scalar.divsi c3_i32_330 c3_i32_331
  let c1_i32_337 : BitVec 32 := 1#32
  let v721 : BitVec 32 := Scalar.subi v706 c1_i32_337
  let v722 : BitVec 32 := Scalar.select v720 v721 v706
  let c3_i32_338 : BitVec 32 := 3#32
  let v723 : BitVec 32 := Scalar.muli v722 c3_i32_338
  let v724 : BitVec 32 := Scalar.subi c3_i32_339 v723
  let c2048_i32_352 : BitVec 32 := 2048#32
  let v738 : BitVec 32 := Scalar.muli v724 c2048_i32_352
  v738
def k0_mult35 : BitVec 32 :=
  let c3_i32_330 : BitVec 32 := 3#32
  let c0_i32_332 : BitVec 32 := 0#32
  let v707 : BitVec 1 := Scalar.cmpi .sgt c3_i32_330 c0_i32_332
  let v708 : BitVec 32 := Scalar.extui v707
  let c0_i32_333 : BitVec 32 := 0#32
  let v709 : BitVec 1 := Scalar.cmpi .slt c3_i32_330 c0_i32_333
  let v710 : BitVec 32 := Scalar.extui v709
  let v711 : BitVec 32 := Scalar.subi v708 v710
  let c3_i32_331 : BitVec 32 := 3#32
  let c0_i32_334 : BitVec 32 := 0#32
  let v712 : BitVec 1 := Scalar.cmpi .sgt c3_i32_331 c0_i32_334
  let v713 : BitVec 32 := Scalar.extui v712
  let c0_i32_335 : BitVec 32 := 0#32
  let v714 : BitVec 1 := Scalar.cmpi .slt c3_i32_331 c0_i32_335
  let v715 : BitVec 32 := Scalar.extui v714
  let v716 : BitVec 32 := Scalar.subi v713 v715
  let v717 : BitVec 1 := Scalar.cmpi .ne v711 v716
  let v718 : BitVec 32 := Scalar.remsi c3_i32_330 c3_i32_331
  let c0_i32_336 : BitVec 32 := 0#32
  let v719 : BitVec 1 := Scalar.cmpi .ne v718 c0_i32_336
  let v720 : BitVec 1 := Scalar.andi v717 v719
  let v706 : BitVec 32 := Scalar.divsi c3_i32_330 c3_i32_331
  let c1_i32_337 : BitVec 32 := 1#32
  let v721 : BitVec 32 := Scalar.subi v706 c1_i32_337
  let v722 : BitVec 32 := Scalar.select v720 v721 v706
  let c2_i32_343 : BitVec 32 := 2#32
  let v727 : BitVec 1 := Scalar.cmpi .slt v722 c2_i32_343
  let c24576_i32_345 : BitVec 32 := 24576#32
  let c1024_i32_344 : BitVec 32 := 1024#32
  let v728 : BitVec 32 := Scalar.muli c1024_i32_344 v722
  let v729 : BitVec 32 := Scalar.addi c24576_i32_345 v728
  let c512_i32_346 : BitVec 32 := 512#32
  let c2_i32_342 : BitVec 32 := 2#32
  let v726 : BitVec 32 := Scalar.subi v722 c2_i32_342
  let v730 : BitVec 32 := Scalar.muli c512_i32_346 v726
  let v731 : BitVec 32 := Scalar.select v727 v729 v730
  v731
def k0_mult36 : BitVec 32 :=
  let c3_i32_330 : BitVec 32 := 3#32
  let c0_i32_332 : BitVec 32 := 0#32
  let v707 : BitVec 1 := Scalar.cmpi .sgt c3_i32_330 c0_i32_332
  let v708 : BitVec 32 := Scalar.extui v707
  let c0_i32_333 : BitVec 32 := 0#32
  let v709 : BitVec 1 := Scalar.cmpi .slt c3_i32_330 c0_i32_333
  let v710 : BitVec 32 := Scalar.extui v709
  let v711 : BitVec 32 := Scalar.subi v708 v710
  let c3_i32_331 : BitVec 32 := 3#32
  let c0_i32_334 : BitVec 32 := 0#32
  let v712 : BitVec 1 := Scalar.cmpi .sgt c3_i32_331 c0_i32_334
  let v713 : BitVec 32 := Scalar.extui v712
  let c0_i32_335 : BitVec 32 := 0#32
  let v714 : BitVec 1 := Scalar.cmpi .slt c3_i32_331 c0_i32_335
  let v715 : BitVec 32 := Scalar.extui v714
  let v716 : BitVec 32 := Scalar.subi v713 v715
  let v717 : BitVec 1 := Scalar.cmpi .ne v711 v716
  let v718 : BitVec 32 := Scalar.remsi c3_i32_330 c3_i32_331
  let c0_i32_336 : BitVec 32 := 0#32
  let v719 : BitVec 1 := Scalar.cmpi .ne v718 c0_i32_336
  let v720 : BitVec 1 := Scalar.andi v717 v719
  let v706 : BitVec 32 := Scalar.divsi c3_i32_330 c3_i32_331
  let c1_i32_337 : BitVec 32 := 1#32
  let v721 : BitVec 32 := Scalar.subi v706 c1_i32_337
  let v722 : BitVec 32 := Scalar.select v720 v721 v706
  let c2_i32_343 : BitVec 32 := 2#32
  let v727 : BitVec 1 := Scalar.cmpi .slt v722 c2_i32_343
  let c24576_i32_348 : BitVec 32 := 24576#32
  let c1024_i32_347 : BitVec 32 := 1024#32
  let v732 : BitVec 32 := Scalar.muli c1024_i32_347 v722
  let v733 : BitVec 32 := Scalar.addi c24576_i32_348 v732
  let c512_i32_349 : BitVec 32 := 512#32
  let v734 : BitVec 32 := Scalar.addi v733 c512_i32_349
  let c12288_i32_351 : BitVec 32 := 12288#32
  let c512_i32_350 : BitVec 32 := 512#32
  let c2_i32_342 : BitVec 32 := 2#32
  let v726 : BitVec 32 := Scalar.subi v722 c2_i32_342
  let v735 : BitVec 32 := Scalar.muli c512_i32_350 v726
  let v736 : BitVec 32 := Scalar.addi c12288_i32_351 v735
  let v737 : BitVec 32 := Scalar.select v727 v734 v736
  v737
def k0_cond5 : BitVec 1 :=
  let c4_i32_371 : BitVec 32 := 4#32
  let c0_i32_372 : BitVec 32 := 0#32
  let v769 : BitVec 1 := Scalar.cmpi .sgt c4_i32_371 c0_i32_372
  let v770 : BitVec 32 := Scalar.extui v769
  let c0_i32_374 : BitVec 32 := 0#32
  let v771 : BitVec 1 := Scalar.cmpi .ne v770 c0_i32_374
  v771

def k0_mult37 : BitVec 32 :=
  let c4_i32_373 : BitVec 32 := 4#32
  let c1_i32_653 : BitVec 32 := 1#32
  let v1191 : BitVec 32 := Scalar.subi c4_i32_373 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  v1225
def k0_mult38 : BitVec 32 :=
  let c4_i32_373 : BitVec 32 := 4#32
  let c1_i32_653 : BitVec 32 := 1#32
  let v1191 : BitVec 32 := Scalar.subi c4_i32_373 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  v1218
def k0_mult39 : BitVec 32 :=
  let c4_i32_373 : BitVec 32 := 4#32
  let c1_i32_653 : BitVec 32 := 1#32
  let v1191 : BitVec 32 := Scalar.subi c4_i32_373 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  v1224
def k0_off28 : Fin 1 → Nat :=
  let c4_i32_373 : BitVec 32 := 4#32
  let c1_i32_653 : BitVec 32 := 1#32
  let v1191 : BitVec 32 := Scalar.subi c4_i32_373 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  ![v1212.toNat]
def k0_off29 : Fin 3 → Nat :=
  let c4_i32_373 : BitVec 32 := 4#32
  let c1_i32_653 : BitVec 32 := 1#32
  let v1191 : BitVec 32 := Scalar.subi c4_i32_373 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c0_i32_675 : BitVec 32 := 0#32
  let c0_i32_676 : BitVec 32 := 0#32
  ![v1212.toNat, 0, 0]
def k0_off30 : Fin 2 → Nat :=
  let c4_i32_373 : BitVec 32 := 4#32
  let c1_i32_653 : BitVec 32 := 1#32
  let v1191 : BitVec 32 := Scalar.subi c4_i32_373 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  let v1227 : BitVec 32 := v1218
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1227.toNat, v1226.toNat]
def k0_off31 : Fin 3 → Nat :=
  let c4_i32_373 : BitVec 32 := 4#32
  let c1_i32_653 : BitVec 32 := 1#32
  let v1191 : BitVec 32 := Scalar.subi c4_i32_373 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c512_i32_677 : BitVec 32 := 512#32
  let c0_i32_678 : BitVec 32 := 0#32
  ![v1212.toNat, 512, 0]
def k0_off32 : Fin 2 → Nat :=
  let c4_i32_373 : BitVec 32 := 4#32
  let c1_i32_653 : BitVec 32 := 1#32
  let v1191 : BitVec 32 := Scalar.subi c4_i32_373 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  let v1228 : BitVec 32 := v1224
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1228.toNat, v1226.toNat]
def k0_mult40 : BitVec 32 :=
  let c4_i32_384 : BitVec 32 := 4#32
  let c4_i32_375 : BitVec 32 := 4#32
  let c0_i32_377 : BitVec 32 := 0#32
  let v773 : BitVec 1 := Scalar.cmpi .sgt c4_i32_375 c0_i32_377
  let v774 : BitVec 32 := Scalar.extui v773
  let c0_i32_378 : BitVec 32 := 0#32
  let v775 : BitVec 1 := Scalar.cmpi .slt c4_i32_375 c0_i32_378
  let v776 : BitVec 32 := Scalar.extui v775
  let v777 : BitVec 32 := Scalar.subi v774 v776
  let c3_i32_376 : BitVec 32 := 3#32
  let c0_i32_379 : BitVec 32 := 0#32
  let v778 : BitVec 1 := Scalar.cmpi .sgt c3_i32_376 c0_i32_379
  let v779 : BitVec 32 := Scalar.extui v778
  let c0_i32_380 : BitVec 32 := 0#32
  let v780 : BitVec 1 := Scalar.cmpi .slt c3_i32_376 c0_i32_380
  let v781 : BitVec 32 := Scalar.extui v780
  let v782 : BitVec 32 := Scalar.subi v779 v781
  let v783 : BitVec 1 := Scalar.cmpi .ne v777 v782
  let v784 : BitVec 32 := Scalar.remsi c4_i32_375 c3_i32_376
  let c0_i32_381 : BitVec 32 := 0#32
  let v785 : BitVec 1 := Scalar.cmpi .ne v784 c0_i32_381
  let v786 : BitVec 1 := Scalar.andi v783 v785
  let v772 : BitVec 32 := Scalar.divsi c4_i32_375 c3_i32_376
  let c1_i32_382 : BitVec 32 := 1#32
  let v787 : BitVec 32 := Scalar.subi v772 c1_i32_382
  let v788 : BitVec 32 := Scalar.select v786 v787 v772
  let c3_i32_383 : BitVec 32 := 3#32
  let v789 : BitVec 32 := Scalar.muli v788 c3_i32_383
  let v790 : BitVec 32 := Scalar.subi c4_i32_384 v789
  let c2048_i32_397 : BitVec 32 := 2048#32
  let v804 : BitVec 32 := Scalar.muli v790 c2048_i32_397
  v804
def k0_mult41 : BitVec 32 :=
  let c4_i32_375 : BitVec 32 := 4#32
  let c0_i32_377 : BitVec 32 := 0#32
  let v773 : BitVec 1 := Scalar.cmpi .sgt c4_i32_375 c0_i32_377
  let v774 : BitVec 32 := Scalar.extui v773
  let c0_i32_378 : BitVec 32 := 0#32
  let v775 : BitVec 1 := Scalar.cmpi .slt c4_i32_375 c0_i32_378
  let v776 : BitVec 32 := Scalar.extui v775
  let v777 : BitVec 32 := Scalar.subi v774 v776
  let c3_i32_376 : BitVec 32 := 3#32
  let c0_i32_379 : BitVec 32 := 0#32
  let v778 : BitVec 1 := Scalar.cmpi .sgt c3_i32_376 c0_i32_379
  let v779 : BitVec 32 := Scalar.extui v778
  let c0_i32_380 : BitVec 32 := 0#32
  let v780 : BitVec 1 := Scalar.cmpi .slt c3_i32_376 c0_i32_380
  let v781 : BitVec 32 := Scalar.extui v780
  let v782 : BitVec 32 := Scalar.subi v779 v781
  let v783 : BitVec 1 := Scalar.cmpi .ne v777 v782
  let v784 : BitVec 32 := Scalar.remsi c4_i32_375 c3_i32_376
  let c0_i32_381 : BitVec 32 := 0#32
  let v785 : BitVec 1 := Scalar.cmpi .ne v784 c0_i32_381
  let v786 : BitVec 1 := Scalar.andi v783 v785
  let v772 : BitVec 32 := Scalar.divsi c4_i32_375 c3_i32_376
  let c1_i32_382 : BitVec 32 := 1#32
  let v787 : BitVec 32 := Scalar.subi v772 c1_i32_382
  let v788 : BitVec 32 := Scalar.select v786 v787 v772
  let c2_i32_388 : BitVec 32 := 2#32
  let v793 : BitVec 1 := Scalar.cmpi .slt v788 c2_i32_388
  let c24576_i32_390 : BitVec 32 := 24576#32
  let c1024_i32_389 : BitVec 32 := 1024#32
  let v794 : BitVec 32 := Scalar.muli c1024_i32_389 v788
  let v795 : BitVec 32 := Scalar.addi c24576_i32_390 v794
  let c512_i32_391 : BitVec 32 := 512#32
  let c2_i32_387 : BitVec 32 := 2#32
  let v792 : BitVec 32 := Scalar.subi v788 c2_i32_387
  let v796 : BitVec 32 := Scalar.muli c512_i32_391 v792
  let v797 : BitVec 32 := Scalar.select v793 v795 v796
  v797
def k0_mult42 : BitVec 32 :=
  let c4_i32_375 : BitVec 32 := 4#32
  let c0_i32_377 : BitVec 32 := 0#32
  let v773 : BitVec 1 := Scalar.cmpi .sgt c4_i32_375 c0_i32_377
  let v774 : BitVec 32 := Scalar.extui v773
  let c0_i32_378 : BitVec 32 := 0#32
  let v775 : BitVec 1 := Scalar.cmpi .slt c4_i32_375 c0_i32_378
  let v776 : BitVec 32 := Scalar.extui v775
  let v777 : BitVec 32 := Scalar.subi v774 v776
  let c3_i32_376 : BitVec 32 := 3#32
  let c0_i32_379 : BitVec 32 := 0#32
  let v778 : BitVec 1 := Scalar.cmpi .sgt c3_i32_376 c0_i32_379
  let v779 : BitVec 32 := Scalar.extui v778
  let c0_i32_380 : BitVec 32 := 0#32
  let v780 : BitVec 1 := Scalar.cmpi .slt c3_i32_376 c0_i32_380
  let v781 : BitVec 32 := Scalar.extui v780
  let v782 : BitVec 32 := Scalar.subi v779 v781
  let v783 : BitVec 1 := Scalar.cmpi .ne v777 v782
  let v784 : BitVec 32 := Scalar.remsi c4_i32_375 c3_i32_376
  let c0_i32_381 : BitVec 32 := 0#32
  let v785 : BitVec 1 := Scalar.cmpi .ne v784 c0_i32_381
  let v786 : BitVec 1 := Scalar.andi v783 v785
  let v772 : BitVec 32 := Scalar.divsi c4_i32_375 c3_i32_376
  let c1_i32_382 : BitVec 32 := 1#32
  let v787 : BitVec 32 := Scalar.subi v772 c1_i32_382
  let v788 : BitVec 32 := Scalar.select v786 v787 v772
  let c2_i32_388 : BitVec 32 := 2#32
  let v793 : BitVec 1 := Scalar.cmpi .slt v788 c2_i32_388
  let c24576_i32_393 : BitVec 32 := 24576#32
  let c1024_i32_392 : BitVec 32 := 1024#32
  let v798 : BitVec 32 := Scalar.muli c1024_i32_392 v788
  let v799 : BitVec 32 := Scalar.addi c24576_i32_393 v798
  let c512_i32_394 : BitVec 32 := 512#32
  let v800 : BitVec 32 := Scalar.addi v799 c512_i32_394
  let c12288_i32_396 : BitVec 32 := 12288#32
  let c512_i32_395 : BitVec 32 := 512#32
  let c2_i32_387 : BitVec 32 := 2#32
  let v792 : BitVec 32 := Scalar.subi v788 c2_i32_387
  let v801 : BitVec 32 := Scalar.muli c512_i32_395 v792
  let v802 : BitVec 32 := Scalar.addi c12288_i32_396 v801
  let v803 : BitVec 32 := Scalar.select v793 v800 v802
  v803
def k0_cond6 : BitVec 1 :=
  let c5_i32 : BitVec 32 := 5#32
  let c0_i32_416 : BitVec 32 := 0#32
  let v835 : BitVec 1 := Scalar.cmpi .sgt c5_i32 c0_i32_416
  let v836 : BitVec 32 := Scalar.extui v835
  let c0_i32_418 : BitVec 32 := 0#32
  let v837 : BitVec 1 := Scalar.cmpi .ne v836 c0_i32_418
  v837

def k0_mult43 : BitVec 32 :=
  let c5_i32_417 : BitVec 32 := 5#32
  let c1_i32_653 : BitVec 32 := 1#32
  let v1191 : BitVec 32 := Scalar.subi c5_i32_417 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  v1225
def k0_mult44 : BitVec 32 :=
  let c5_i32_417 : BitVec 32 := 5#32
  let c1_i32_653 : BitVec 32 := 1#32
  let v1191 : BitVec 32 := Scalar.subi c5_i32_417 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  v1218
def k0_mult45 : BitVec 32 :=
  let c5_i32_417 : BitVec 32 := 5#32
  let c1_i32_653 : BitVec 32 := 1#32
  let v1191 : BitVec 32 := Scalar.subi c5_i32_417 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  v1224
def k0_off33 : Fin 1 → Nat :=
  let c5_i32_417 : BitVec 32 := 5#32
  let c1_i32_653 : BitVec 32 := 1#32
  let v1191 : BitVec 32 := Scalar.subi c5_i32_417 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  ![v1212.toNat]
def k0_off34 : Fin 3 → Nat :=
  let c5_i32_417 : BitVec 32 := 5#32
  let c1_i32_653 : BitVec 32 := 1#32
  let v1191 : BitVec 32 := Scalar.subi c5_i32_417 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c0_i32_675 : BitVec 32 := 0#32
  let c0_i32_676 : BitVec 32 := 0#32
  ![v1212.toNat, 0, 0]
def k0_off35 : Fin 2 → Nat :=
  let c5_i32_417 : BitVec 32 := 5#32
  let c1_i32_653 : BitVec 32 := 1#32
  let v1191 : BitVec 32 := Scalar.subi c5_i32_417 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  let v1227 : BitVec 32 := v1218
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1227.toNat, v1226.toNat]
def k0_off36 : Fin 3 → Nat :=
  let c5_i32_417 : BitVec 32 := 5#32
  let c1_i32_653 : BitVec 32 := 1#32
  let v1191 : BitVec 32 := Scalar.subi c5_i32_417 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c512_i32_677 : BitVec 32 := 512#32
  let c0_i32_678 : BitVec 32 := 0#32
  ![v1212.toNat, 512, 0]
def k0_off37 : Fin 2 → Nat :=
  let c5_i32_417 : BitVec 32 := 5#32
  let c1_i32_653 : BitVec 32 := 1#32
  let v1191 : BitVec 32 := Scalar.subi c5_i32_417 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  let v1228 : BitVec 32 := v1224
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1228.toNat, v1226.toNat]
def k0_mult46 : BitVec 32 :=
  let c5_i32_428 : BitVec 32 := 5#32
  let c5_i32_419 : BitVec 32 := 5#32
  let c0_i32_421 : BitVec 32 := 0#32
  let v839 : BitVec 1 := Scalar.cmpi .sgt c5_i32_419 c0_i32_421
  let v840 : BitVec 32 := Scalar.extui v839
  let c0_i32_422 : BitVec 32 := 0#32
  let v841 : BitVec 1 := Scalar.cmpi .slt c5_i32_419 c0_i32_422
  let v842 : BitVec 32 := Scalar.extui v841
  let v843 : BitVec 32 := Scalar.subi v840 v842
  let c3_i32_420 : BitVec 32 := 3#32
  let c0_i32_423 : BitVec 32 := 0#32
  let v844 : BitVec 1 := Scalar.cmpi .sgt c3_i32_420 c0_i32_423
  let v845 : BitVec 32 := Scalar.extui v844
  let c0_i32_424 : BitVec 32 := 0#32
  let v846 : BitVec 1 := Scalar.cmpi .slt c3_i32_420 c0_i32_424
  let v847 : BitVec 32 := Scalar.extui v846
  let v848 : BitVec 32 := Scalar.subi v845 v847
  let v849 : BitVec 1 := Scalar.cmpi .ne v843 v848
  let v850 : BitVec 32 := Scalar.remsi c5_i32_419 c3_i32_420
  let c0_i32_425 : BitVec 32 := 0#32
  let v851 : BitVec 1 := Scalar.cmpi .ne v850 c0_i32_425
  let v852 : BitVec 1 := Scalar.andi v849 v851
  let v838 : BitVec 32 := Scalar.divsi c5_i32_419 c3_i32_420
  let c1_i32_426 : BitVec 32 := 1#32
  let v853 : BitVec 32 := Scalar.subi v838 c1_i32_426
  let v854 : BitVec 32 := Scalar.select v852 v853 v838
  let c3_i32_427 : BitVec 32 := 3#32
  let v855 : BitVec 32 := Scalar.muli v854 c3_i32_427
  let v856 : BitVec 32 := Scalar.subi c5_i32_428 v855
  let c2048_i32_441 : BitVec 32 := 2048#32
  let v870 : BitVec 32 := Scalar.muli v856 c2048_i32_441
  v870
def k0_mult47 : BitVec 32 :=
  let c5_i32_419 : BitVec 32 := 5#32
  let c0_i32_421 : BitVec 32 := 0#32
  let v839 : BitVec 1 := Scalar.cmpi .sgt c5_i32_419 c0_i32_421
  let v840 : BitVec 32 := Scalar.extui v839
  let c0_i32_422 : BitVec 32 := 0#32
  let v841 : BitVec 1 := Scalar.cmpi .slt c5_i32_419 c0_i32_422
  let v842 : BitVec 32 := Scalar.extui v841
  let v843 : BitVec 32 := Scalar.subi v840 v842
  let c3_i32_420 : BitVec 32 := 3#32
  let c0_i32_423 : BitVec 32 := 0#32
  let v844 : BitVec 1 := Scalar.cmpi .sgt c3_i32_420 c0_i32_423
  let v845 : BitVec 32 := Scalar.extui v844
  let c0_i32_424 : BitVec 32 := 0#32
  let v846 : BitVec 1 := Scalar.cmpi .slt c3_i32_420 c0_i32_424
  let v847 : BitVec 32 := Scalar.extui v846
  let v848 : BitVec 32 := Scalar.subi v845 v847
  let v849 : BitVec 1 := Scalar.cmpi .ne v843 v848
  let v850 : BitVec 32 := Scalar.remsi c5_i32_419 c3_i32_420
  let c0_i32_425 : BitVec 32 := 0#32
  let v851 : BitVec 1 := Scalar.cmpi .ne v850 c0_i32_425
  let v852 : BitVec 1 := Scalar.andi v849 v851
  let v838 : BitVec 32 := Scalar.divsi c5_i32_419 c3_i32_420
  let c1_i32_426 : BitVec 32 := 1#32
  let v853 : BitVec 32 := Scalar.subi v838 c1_i32_426
  let v854 : BitVec 32 := Scalar.select v852 v853 v838
  let c2_i32_432 : BitVec 32 := 2#32
  let v859 : BitVec 1 := Scalar.cmpi .slt v854 c2_i32_432
  let c24576_i32_434 : BitVec 32 := 24576#32
  let c1024_i32_433 : BitVec 32 := 1024#32
  let v860 : BitVec 32 := Scalar.muli c1024_i32_433 v854
  let v861 : BitVec 32 := Scalar.addi c24576_i32_434 v860
  let c512_i32_435 : BitVec 32 := 512#32
  let c2_i32_431 : BitVec 32 := 2#32
  let v858 : BitVec 32 := Scalar.subi v854 c2_i32_431
  let v862 : BitVec 32 := Scalar.muli c512_i32_435 v858
  let v863 : BitVec 32 := Scalar.select v859 v861 v862
  v863
def k0_mult48 : BitVec 32 :=
  let c5_i32_419 : BitVec 32 := 5#32
  let c0_i32_421 : BitVec 32 := 0#32
  let v839 : BitVec 1 := Scalar.cmpi .sgt c5_i32_419 c0_i32_421
  let v840 : BitVec 32 := Scalar.extui v839
  let c0_i32_422 : BitVec 32 := 0#32
  let v841 : BitVec 1 := Scalar.cmpi .slt c5_i32_419 c0_i32_422
  let v842 : BitVec 32 := Scalar.extui v841
  let v843 : BitVec 32 := Scalar.subi v840 v842
  let c3_i32_420 : BitVec 32 := 3#32
  let c0_i32_423 : BitVec 32 := 0#32
  let v844 : BitVec 1 := Scalar.cmpi .sgt c3_i32_420 c0_i32_423
  let v845 : BitVec 32 := Scalar.extui v844
  let c0_i32_424 : BitVec 32 := 0#32
  let v846 : BitVec 1 := Scalar.cmpi .slt c3_i32_420 c0_i32_424
  let v847 : BitVec 32 := Scalar.extui v846
  let v848 : BitVec 32 := Scalar.subi v845 v847
  let v849 : BitVec 1 := Scalar.cmpi .ne v843 v848
  let v850 : BitVec 32 := Scalar.remsi c5_i32_419 c3_i32_420
  let c0_i32_425 : BitVec 32 := 0#32
  let v851 : BitVec 1 := Scalar.cmpi .ne v850 c0_i32_425
  let v852 : BitVec 1 := Scalar.andi v849 v851
  let v838 : BitVec 32 := Scalar.divsi c5_i32_419 c3_i32_420
  let c1_i32_426 : BitVec 32 := 1#32
  let v853 : BitVec 32 := Scalar.subi v838 c1_i32_426
  let v854 : BitVec 32 := Scalar.select v852 v853 v838
  let c2_i32_432 : BitVec 32 := 2#32
  let v859 : BitVec 1 := Scalar.cmpi .slt v854 c2_i32_432
  let c24576_i32_437 : BitVec 32 := 24576#32
  let c1024_i32_436 : BitVec 32 := 1024#32
  let v864 : BitVec 32 := Scalar.muli c1024_i32_436 v854
  let v865 : BitVec 32 := Scalar.addi c24576_i32_437 v864
  let c512_i32_438 : BitVec 32 := 512#32
  let v866 : BitVec 32 := Scalar.addi v865 c512_i32_438
  let c12288_i32_440 : BitVec 32 := 12288#32
  let c512_i32_439 : BitVec 32 := 512#32
  let c2_i32_431 : BitVec 32 := 2#32
  let v858 : BitVec 32 := Scalar.subi v854 c2_i32_431
  let v867 : BitVec 32 := Scalar.muli c512_i32_439 v858
  let v868 : BitVec 32 := Scalar.addi c12288_i32_440 v867
  let v869 : BitVec 32 := Scalar.select v859 v866 v868
  v869
def k0_cond7 : BitVec 1 :=
  let c6_i32 : BitVec 32 := 6#32
  let c0_i32_503 : BitVec 32 := 0#32
  let v964 : BitVec 1 := Scalar.cmpi .sgt c6_i32 c0_i32_503
  let v965 : BitVec 32 := Scalar.extui v964
  let c0_i32_505 : BitVec 32 := 0#32
  let v966 : BitVec 1 := Scalar.cmpi .ne v965 c0_i32_505
  v966

def k0_mult49 : BitVec 32 :=
  let c6_i32_504 : BitVec 32 := 6#32
  let c1_i32_653 : BitVec 32 := 1#32
  let v1191 : BitVec 32 := Scalar.subi c6_i32_504 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  v1225
def k0_mult50 : BitVec 32 :=
  let c6_i32_504 : BitVec 32 := 6#32
  let c1_i32_653 : BitVec 32 := 1#32
  let v1191 : BitVec 32 := Scalar.subi c6_i32_504 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  v1218
def k0_mult51 : BitVec 32 :=
  let c6_i32_504 : BitVec 32 := 6#32
  let c1_i32_653 : BitVec 32 := 1#32
  let v1191 : BitVec 32 := Scalar.subi c6_i32_504 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  v1224
def k0_off38 : Fin 1 → Nat :=
  let c6_i32_504 : BitVec 32 := 6#32
  let c1_i32_653 : BitVec 32 := 1#32
  let v1191 : BitVec 32 := Scalar.subi c6_i32_504 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  ![v1212.toNat]
def k0_off39 : Fin 3 → Nat :=
  let c6_i32_504 : BitVec 32 := 6#32
  let c1_i32_653 : BitVec 32 := 1#32
  let v1191 : BitVec 32 := Scalar.subi c6_i32_504 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c0_i32_675 : BitVec 32 := 0#32
  let c0_i32_676 : BitVec 32 := 0#32
  ![v1212.toNat, 0, 0]
def k0_off40 : Fin 2 → Nat :=
  let c6_i32_504 : BitVec 32 := 6#32
  let c1_i32_653 : BitVec 32 := 1#32
  let v1191 : BitVec 32 := Scalar.subi c6_i32_504 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  let v1227 : BitVec 32 := v1218
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1227.toNat, v1226.toNat]
def k0_off41 : Fin 3 → Nat :=
  let c6_i32_504 : BitVec 32 := 6#32
  let c1_i32_653 : BitVec 32 := 1#32
  let v1191 : BitVec 32 := Scalar.subi c6_i32_504 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c512_i32_677 : BitVec 32 := 512#32
  let c0_i32_678 : BitVec 32 := 0#32
  ![v1212.toNat, 512, 0]
def k0_off42 : Fin 2 → Nat :=
  let c6_i32_504 : BitVec 32 := 6#32
  let c1_i32_653 : BitVec 32 := 1#32
  let v1191 : BitVec 32 := Scalar.subi c6_i32_504 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  let v1228 : BitVec 32 := v1224
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1228.toNat, v1226.toNat]
def k0_mult52 : BitVec 32 :=
  let c6_i32_515 : BitVec 32 := 6#32
  let c6_i32_506 : BitVec 32 := 6#32
  let c0_i32_508 : BitVec 32 := 0#32
  let v968 : BitVec 1 := Scalar.cmpi .sgt c6_i32_506 c0_i32_508
  let v969 : BitVec 32 := Scalar.extui v968
  let c0_i32_509 : BitVec 32 := 0#32
  let v970 : BitVec 1 := Scalar.cmpi .slt c6_i32_506 c0_i32_509
  let v971 : BitVec 32 := Scalar.extui v970
  let v972 : BitVec 32 := Scalar.subi v969 v971
  let c3_i32_507 : BitVec 32 := 3#32
  let c0_i32_510 : BitVec 32 := 0#32
  let v973 : BitVec 1 := Scalar.cmpi .sgt c3_i32_507 c0_i32_510
  let v974 : BitVec 32 := Scalar.extui v973
  let c0_i32_511 : BitVec 32 := 0#32
  let v975 : BitVec 1 := Scalar.cmpi .slt c3_i32_507 c0_i32_511
  let v976 : BitVec 32 := Scalar.extui v975
  let v977 : BitVec 32 := Scalar.subi v974 v976
  let v978 : BitVec 1 := Scalar.cmpi .ne v972 v977
  let v979 : BitVec 32 := Scalar.remsi c6_i32_506 c3_i32_507
  let c0_i32_512 : BitVec 32 := 0#32
  let v980 : BitVec 1 := Scalar.cmpi .ne v979 c0_i32_512
  let v981 : BitVec 1 := Scalar.andi v978 v980
  let v967 : BitVec 32 := Scalar.divsi c6_i32_506 c3_i32_507
  let c1_i32_513 : BitVec 32 := 1#32
  let v982 : BitVec 32 := Scalar.subi v967 c1_i32_513
  let v983 : BitVec 32 := Scalar.select v981 v982 v967
  let c3_i32_514 : BitVec 32 := 3#32
  let v984 : BitVec 32 := Scalar.muli v983 c3_i32_514
  let v985 : BitVec 32 := Scalar.subi c6_i32_515 v984
  let c2048_i32_528 : BitVec 32 := 2048#32
  let v999 : BitVec 32 := Scalar.muli v985 c2048_i32_528
  v999
def k0_mult53 : BitVec 32 :=
  let c6_i32_506 : BitVec 32 := 6#32
  let c0_i32_508 : BitVec 32 := 0#32
  let v968 : BitVec 1 := Scalar.cmpi .sgt c6_i32_506 c0_i32_508
  let v969 : BitVec 32 := Scalar.extui v968
  let c0_i32_509 : BitVec 32 := 0#32
  let v970 : BitVec 1 := Scalar.cmpi .slt c6_i32_506 c0_i32_509
  let v971 : BitVec 32 := Scalar.extui v970
  let v972 : BitVec 32 := Scalar.subi v969 v971
  let c3_i32_507 : BitVec 32 := 3#32
  let c0_i32_510 : BitVec 32 := 0#32
  let v973 : BitVec 1 := Scalar.cmpi .sgt c3_i32_507 c0_i32_510
  let v974 : BitVec 32 := Scalar.extui v973
  let c0_i32_511 : BitVec 32 := 0#32
  let v975 : BitVec 1 := Scalar.cmpi .slt c3_i32_507 c0_i32_511
  let v976 : BitVec 32 := Scalar.extui v975
  let v977 : BitVec 32 := Scalar.subi v974 v976
  let v978 : BitVec 1 := Scalar.cmpi .ne v972 v977
  let v979 : BitVec 32 := Scalar.remsi c6_i32_506 c3_i32_507
  let c0_i32_512 : BitVec 32 := 0#32
  let v980 : BitVec 1 := Scalar.cmpi .ne v979 c0_i32_512
  let v981 : BitVec 1 := Scalar.andi v978 v980
  let v967 : BitVec 32 := Scalar.divsi c6_i32_506 c3_i32_507
  let c1_i32_513 : BitVec 32 := 1#32
  let v982 : BitVec 32 := Scalar.subi v967 c1_i32_513
  let v983 : BitVec 32 := Scalar.select v981 v982 v967
  let c2_i32_519 : BitVec 32 := 2#32
  let v988 : BitVec 1 := Scalar.cmpi .slt v983 c2_i32_519
  let c24576_i32_521 : BitVec 32 := 24576#32
  let c1024_i32_520 : BitVec 32 := 1024#32
  let v989 : BitVec 32 := Scalar.muli c1024_i32_520 v983
  let v990 : BitVec 32 := Scalar.addi c24576_i32_521 v989
  let c512_i32_522 : BitVec 32 := 512#32
  let c2_i32_518 : BitVec 32 := 2#32
  let v987 : BitVec 32 := Scalar.subi v983 c2_i32_518
  let v991 : BitVec 32 := Scalar.muli c512_i32_522 v987
  let v992 : BitVec 32 := Scalar.select v988 v990 v991
  v992
def k0_mult54 : BitVec 32 :=
  let c6_i32_506 : BitVec 32 := 6#32
  let c0_i32_508 : BitVec 32 := 0#32
  let v968 : BitVec 1 := Scalar.cmpi .sgt c6_i32_506 c0_i32_508
  let v969 : BitVec 32 := Scalar.extui v968
  let c0_i32_509 : BitVec 32 := 0#32
  let v970 : BitVec 1 := Scalar.cmpi .slt c6_i32_506 c0_i32_509
  let v971 : BitVec 32 := Scalar.extui v970
  let v972 : BitVec 32 := Scalar.subi v969 v971
  let c3_i32_507 : BitVec 32 := 3#32
  let c0_i32_510 : BitVec 32 := 0#32
  let v973 : BitVec 1 := Scalar.cmpi .sgt c3_i32_507 c0_i32_510
  let v974 : BitVec 32 := Scalar.extui v973
  let c0_i32_511 : BitVec 32 := 0#32
  let v975 : BitVec 1 := Scalar.cmpi .slt c3_i32_507 c0_i32_511
  let v976 : BitVec 32 := Scalar.extui v975
  let v977 : BitVec 32 := Scalar.subi v974 v976
  let v978 : BitVec 1 := Scalar.cmpi .ne v972 v977
  let v979 : BitVec 32 := Scalar.remsi c6_i32_506 c3_i32_507
  let c0_i32_512 : BitVec 32 := 0#32
  let v980 : BitVec 1 := Scalar.cmpi .ne v979 c0_i32_512
  let v981 : BitVec 1 := Scalar.andi v978 v980
  let v967 : BitVec 32 := Scalar.divsi c6_i32_506 c3_i32_507
  let c1_i32_513 : BitVec 32 := 1#32
  let v982 : BitVec 32 := Scalar.subi v967 c1_i32_513
  let v983 : BitVec 32 := Scalar.select v981 v982 v967
  let c2_i32_519 : BitVec 32 := 2#32
  let v988 : BitVec 1 := Scalar.cmpi .slt v983 c2_i32_519
  let c24576_i32_524 : BitVec 32 := 24576#32
  let c1024_i32_523 : BitVec 32 := 1024#32
  let v993 : BitVec 32 := Scalar.muli c1024_i32_523 v983
  let v994 : BitVec 32 := Scalar.addi c24576_i32_524 v993
  let c512_i32_525 : BitVec 32 := 512#32
  let v995 : BitVec 32 := Scalar.addi v994 c512_i32_525
  let c12288_i32_527 : BitVec 32 := 12288#32
  let c512_i32_526 : BitVec 32 := 512#32
  let c2_i32_518 : BitVec 32 := 2#32
  let v987 : BitVec 32 := Scalar.subi v983 c2_i32_518
  let v996 : BitVec 32 := Scalar.muli c512_i32_526 v987
  let v997 : BitVec 32 := Scalar.addi c12288_i32_527 v996
  let v998 : BitVec 32 := Scalar.select v988 v995 v997
  v998
def k0_cond8 : BitVec 1 :=
  let c7_i32 : BitVec 32 := 7#32
  let c0_i32_547 : BitVec 32 := 0#32
  let v1030 : BitVec 1 := Scalar.cmpi .sgt c7_i32 c0_i32_547
  let v1031 : BitVec 32 := Scalar.extui v1030
  let c0_i32_549 : BitVec 32 := 0#32
  let v1032 : BitVec 1 := Scalar.cmpi .ne v1031 c0_i32_549
  v1032

def k0_mult55 : BitVec 32 :=
  let c7_i32_548 : BitVec 32 := 7#32
  let c1_i32_653 : BitVec 32 := 1#32
  let v1191 : BitVec 32 := Scalar.subi c7_i32_548 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  v1225
def k0_mult56 : BitVec 32 :=
  let c7_i32_548 : BitVec 32 := 7#32
  let c1_i32_653 : BitVec 32 := 1#32
  let v1191 : BitVec 32 := Scalar.subi c7_i32_548 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  v1218
def k0_mult57 : BitVec 32 :=
  let c7_i32_548 : BitVec 32 := 7#32
  let c1_i32_653 : BitVec 32 := 1#32
  let v1191 : BitVec 32 := Scalar.subi c7_i32_548 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  v1224
def k0_off43 : Fin 1 → Nat :=
  let c7_i32_548 : BitVec 32 := 7#32
  let c1_i32_653 : BitVec 32 := 1#32
  let v1191 : BitVec 32 := Scalar.subi c7_i32_548 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  ![v1212.toNat]
def k0_off44 : Fin 3 → Nat :=
  let c7_i32_548 : BitVec 32 := 7#32
  let c1_i32_653 : BitVec 32 := 1#32
  let v1191 : BitVec 32 := Scalar.subi c7_i32_548 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c0_i32_675 : BitVec 32 := 0#32
  let c0_i32_676 : BitVec 32 := 0#32
  ![v1212.toNat, 0, 0]
def k0_off45 : Fin 2 → Nat :=
  let c7_i32_548 : BitVec 32 := 7#32
  let c1_i32_653 : BitVec 32 := 1#32
  let v1191 : BitVec 32 := Scalar.subi c7_i32_548 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  let v1227 : BitVec 32 := v1218
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1227.toNat, v1226.toNat]
def k0_off46 : Fin 3 → Nat :=
  let c7_i32_548 : BitVec 32 := 7#32
  let c1_i32_653 : BitVec 32 := 1#32
  let v1191 : BitVec 32 := Scalar.subi c7_i32_548 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c512_i32_677 : BitVec 32 := 512#32
  let c0_i32_678 : BitVec 32 := 0#32
  ![v1212.toNat, 512, 0]
def k0_off47 : Fin 2 → Nat :=
  let c7_i32_548 : BitVec 32 := 7#32
  let c1_i32_653 : BitVec 32 := 1#32
  let v1191 : BitVec 32 := Scalar.subi c7_i32_548 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  let v1228 : BitVec 32 := v1224
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1228.toNat, v1226.toNat]
def k0_mult58 : BitVec 32 :=
  let c7_i32_559 : BitVec 32 := 7#32
  let c7_i32_550 : BitVec 32 := 7#32
  let c0_i32_552 : BitVec 32 := 0#32
  let v1034 : BitVec 1 := Scalar.cmpi .sgt c7_i32_550 c0_i32_552
  let v1035 : BitVec 32 := Scalar.extui v1034
  let c0_i32_553 : BitVec 32 := 0#32
  let v1036 : BitVec 1 := Scalar.cmpi .slt c7_i32_550 c0_i32_553
  let v1037 : BitVec 32 := Scalar.extui v1036
  let v1038 : BitVec 32 := Scalar.subi v1035 v1037
  let c3_i32_551 : BitVec 32 := 3#32
  let c0_i32_554 : BitVec 32 := 0#32
  let v1039 : BitVec 1 := Scalar.cmpi .sgt c3_i32_551 c0_i32_554
  let v1040 : BitVec 32 := Scalar.extui v1039
  let c0_i32_555 : BitVec 32 := 0#32
  let v1041 : BitVec 1 := Scalar.cmpi .slt c3_i32_551 c0_i32_555
  let v1042 : BitVec 32 := Scalar.extui v1041
  let v1043 : BitVec 32 := Scalar.subi v1040 v1042
  let v1044 : BitVec 1 := Scalar.cmpi .ne v1038 v1043
  let v1045 : BitVec 32 := Scalar.remsi c7_i32_550 c3_i32_551
  let c0_i32_556 : BitVec 32 := 0#32
  let v1046 : BitVec 1 := Scalar.cmpi .ne v1045 c0_i32_556
  let v1047 : BitVec 1 := Scalar.andi v1044 v1046
  let v1033 : BitVec 32 := Scalar.divsi c7_i32_550 c3_i32_551
  let c1_i32_557 : BitVec 32 := 1#32
  let v1048 : BitVec 32 := Scalar.subi v1033 c1_i32_557
  let v1049 : BitVec 32 := Scalar.select v1047 v1048 v1033
  let c3_i32_558 : BitVec 32 := 3#32
  let v1050 : BitVec 32 := Scalar.muli v1049 c3_i32_558
  let v1051 : BitVec 32 := Scalar.subi c7_i32_559 v1050
  let c2048_i32_572 : BitVec 32 := 2048#32
  let v1065 : BitVec 32 := Scalar.muli v1051 c2048_i32_572
  v1065
def k0_mult59 : BitVec 32 :=
  let c7_i32_550 : BitVec 32 := 7#32
  let c0_i32_552 : BitVec 32 := 0#32
  let v1034 : BitVec 1 := Scalar.cmpi .sgt c7_i32_550 c0_i32_552
  let v1035 : BitVec 32 := Scalar.extui v1034
  let c0_i32_553 : BitVec 32 := 0#32
  let v1036 : BitVec 1 := Scalar.cmpi .slt c7_i32_550 c0_i32_553
  let v1037 : BitVec 32 := Scalar.extui v1036
  let v1038 : BitVec 32 := Scalar.subi v1035 v1037
  let c3_i32_551 : BitVec 32 := 3#32
  let c0_i32_554 : BitVec 32 := 0#32
  let v1039 : BitVec 1 := Scalar.cmpi .sgt c3_i32_551 c0_i32_554
  let v1040 : BitVec 32 := Scalar.extui v1039
  let c0_i32_555 : BitVec 32 := 0#32
  let v1041 : BitVec 1 := Scalar.cmpi .slt c3_i32_551 c0_i32_555
  let v1042 : BitVec 32 := Scalar.extui v1041
  let v1043 : BitVec 32 := Scalar.subi v1040 v1042
  let v1044 : BitVec 1 := Scalar.cmpi .ne v1038 v1043
  let v1045 : BitVec 32 := Scalar.remsi c7_i32_550 c3_i32_551
  let c0_i32_556 : BitVec 32 := 0#32
  let v1046 : BitVec 1 := Scalar.cmpi .ne v1045 c0_i32_556
  let v1047 : BitVec 1 := Scalar.andi v1044 v1046
  let v1033 : BitVec 32 := Scalar.divsi c7_i32_550 c3_i32_551
  let c1_i32_557 : BitVec 32 := 1#32
  let v1048 : BitVec 32 := Scalar.subi v1033 c1_i32_557
  let v1049 : BitVec 32 := Scalar.select v1047 v1048 v1033
  let c2_i32_563 : BitVec 32 := 2#32
  let v1054 : BitVec 1 := Scalar.cmpi .slt v1049 c2_i32_563
  let c24576_i32_565 : BitVec 32 := 24576#32
  let c1024_i32_564 : BitVec 32 := 1024#32
  let v1055 : BitVec 32 := Scalar.muli c1024_i32_564 v1049
  let v1056 : BitVec 32 := Scalar.addi c24576_i32_565 v1055
  let c512_i32_566 : BitVec 32 := 512#32
  let c2_i32_562 : BitVec 32 := 2#32
  let v1053 : BitVec 32 := Scalar.subi v1049 c2_i32_562
  let v1057 : BitVec 32 := Scalar.muli c512_i32_566 v1053
  let v1058 : BitVec 32 := Scalar.select v1054 v1056 v1057
  v1058
def k0_mult60 : BitVec 32 :=
  let c7_i32_550 : BitVec 32 := 7#32
  let c0_i32_552 : BitVec 32 := 0#32
  let v1034 : BitVec 1 := Scalar.cmpi .sgt c7_i32_550 c0_i32_552
  let v1035 : BitVec 32 := Scalar.extui v1034
  let c0_i32_553 : BitVec 32 := 0#32
  let v1036 : BitVec 1 := Scalar.cmpi .slt c7_i32_550 c0_i32_553
  let v1037 : BitVec 32 := Scalar.extui v1036
  let v1038 : BitVec 32 := Scalar.subi v1035 v1037
  let c3_i32_551 : BitVec 32 := 3#32
  let c0_i32_554 : BitVec 32 := 0#32
  let v1039 : BitVec 1 := Scalar.cmpi .sgt c3_i32_551 c0_i32_554
  let v1040 : BitVec 32 := Scalar.extui v1039
  let c0_i32_555 : BitVec 32 := 0#32
  let v1041 : BitVec 1 := Scalar.cmpi .slt c3_i32_551 c0_i32_555
  let v1042 : BitVec 32 := Scalar.extui v1041
  let v1043 : BitVec 32 := Scalar.subi v1040 v1042
  let v1044 : BitVec 1 := Scalar.cmpi .ne v1038 v1043
  let v1045 : BitVec 32 := Scalar.remsi c7_i32_550 c3_i32_551
  let c0_i32_556 : BitVec 32 := 0#32
  let v1046 : BitVec 1 := Scalar.cmpi .ne v1045 c0_i32_556
  let v1047 : BitVec 1 := Scalar.andi v1044 v1046
  let v1033 : BitVec 32 := Scalar.divsi c7_i32_550 c3_i32_551
  let c1_i32_557 : BitVec 32 := 1#32
  let v1048 : BitVec 32 := Scalar.subi v1033 c1_i32_557
  let v1049 : BitVec 32 := Scalar.select v1047 v1048 v1033
  let c2_i32_563 : BitVec 32 := 2#32
  let v1054 : BitVec 1 := Scalar.cmpi .slt v1049 c2_i32_563
  let c24576_i32_568 : BitVec 32 := 24576#32
  let c1024_i32_567 : BitVec 32 := 1024#32
  let v1059 : BitVec 32 := Scalar.muli c1024_i32_567 v1049
  let v1060 : BitVec 32 := Scalar.addi c24576_i32_568 v1059
  let c512_i32_569 : BitVec 32 := 512#32
  let v1061 : BitVec 32 := Scalar.addi v1060 c512_i32_569
  let c12288_i32_571 : BitVec 32 := 12288#32
  let c512_i32_570 : BitVec 32 := 512#32
  let c2_i32_562 : BitVec 32 := 2#32
  let v1053 : BitVec 32 := Scalar.subi v1049 c2_i32_562
  let v1062 : BitVec 32 := Scalar.muli c512_i32_570 v1053
  let v1063 : BitVec 32 := Scalar.addi c12288_i32_571 v1062
  let v1064 : BitVec 32 := Scalar.select v1054 v1061 v1063
  v1064
def k0_cond9 : BitVec 1 :=
  let c8_i32 : BitVec 32 := 8#32
  let c0_i32_591 : BitVec 32 := 0#32
  let v1096 : BitVec 1 := Scalar.cmpi .sgt c8_i32 c0_i32_591
  let v1097 : BitVec 32 := Scalar.extui v1096
  let c0_i32_593 : BitVec 32 := 0#32
  let v1098 : BitVec 1 := Scalar.cmpi .ne v1097 c0_i32_593
  v1098

def k0_mult61 : BitVec 32 :=
  let c8_i32_592 : BitVec 32 := 8#32
  let c1_i32_653 : BitVec 32 := 1#32
  let v1191 : BitVec 32 := Scalar.subi c8_i32_592 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  v1225
def k0_mult62 : BitVec 32 :=
  let c8_i32_592 : BitVec 32 := 8#32
  let c1_i32_653 : BitVec 32 := 1#32
  let v1191 : BitVec 32 := Scalar.subi c8_i32_592 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  v1218
def k0_mult63 : BitVec 32 :=
  let c8_i32_592 : BitVec 32 := 8#32
  let c1_i32_653 : BitVec 32 := 1#32
  let v1191 : BitVec 32 := Scalar.subi c8_i32_592 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  v1224
def k0_off48 : Fin 1 → Nat :=
  let c8_i32_592 : BitVec 32 := 8#32
  let c1_i32_653 : BitVec 32 := 1#32
  let v1191 : BitVec 32 := Scalar.subi c8_i32_592 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  ![v1212.toNat]
def k0_off49 : Fin 3 → Nat :=
  let c8_i32_592 : BitVec 32 := 8#32
  let c1_i32_653 : BitVec 32 := 1#32
  let v1191 : BitVec 32 := Scalar.subi c8_i32_592 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c0_i32_675 : BitVec 32 := 0#32
  let c0_i32_676 : BitVec 32 := 0#32
  ![v1212.toNat, 0, 0]
def k0_off50 : Fin 2 → Nat :=
  let c8_i32_592 : BitVec 32 := 8#32
  let c1_i32_653 : BitVec 32 := 1#32
  let v1191 : BitVec 32 := Scalar.subi c8_i32_592 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_667 : BitVec 32 := 24576#32
  let c1024_i32_666 : BitVec 32 := 1024#32
  let v1215 : BitVec 32 := Scalar.muli c1024_i32_666 v1209
  let v1216 : BitVec 32 := Scalar.addi c24576_i32_667 v1215
  let c512_i32_668 : BitVec 32 := 512#32
  let c2_i32_664 : BitVec 32 := 2#32
  let v1213 : BitVec 32 := Scalar.subi v1209 c2_i32_664
  let v1217 : BitVec 32 := Scalar.muli c512_i32_668 v1213
  let v1218 : BitVec 32 := Scalar.select v1214 v1216 v1217
  let v1227 : BitVec 32 := v1218
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1227.toNat, v1226.toNat]
def k0_off51 : Fin 3 → Nat :=
  let c8_i32_592 : BitVec 32 := 8#32
  let c1_i32_653 : BitVec 32 := 1#32
  let v1191 : BitVec 32 := Scalar.subi c8_i32_592 c1_i32_653
  let c4_i32_654 : BitVec 32 := 4#32
  let v1192 : BitVec 32 := Scalar.addi v1191 c4_i32_654
  let c4_i32_663 : BitVec 32 := 4#32
  let v1212 : BitVec 32 := Scalar.remsi v1192 c4_i32_663
  let c512_i32_677 : BitVec 32 := 512#32
  let c0_i32_678 : BitVec 32 := 0#32
  ![v1212.toNat, 512, 0]
def k0_off52 : Fin 2 → Nat :=
  let c8_i32_592 : BitVec 32 := 8#32
  let c1_i32_653 : BitVec 32 := 1#32
  let v1191 : BitVec 32 := Scalar.subi c8_i32_592 c1_i32_653
  let c4_i32_654 : BitVec 32 := 4#32
  let v1192 : BitVec 32 := Scalar.addi v1191 c4_i32_654
  let c0_i32_656 : BitVec 32 := 0#32
  let v1194 : BitVec 1 := Scalar.cmpi .sgt v1192 c0_i32_656
  let v1195 : BitVec 32 := Scalar.extui v1194
  let c0_i32_657 : BitVec 32 := 0#32
  let v1196 : BitVec 1 := Scalar.cmpi .slt v1192 c0_i32_657
  let v1197 : BitVec 32 := Scalar.extui v1196
  let v1198 : BitVec 32 := Scalar.subi v1195 v1197
  let c3_i32_655 : BitVec 32 := 3#32
  let c0_i32_658 : BitVec 32 := 0#32
  let v1199 : BitVec 1 := Scalar.cmpi .sgt c3_i32_655 c0_i32_658
  let v1200 : BitVec 32 := Scalar.extui v1199
  let c0_i32_659 : BitVec 32 := 0#32
  let v1201 : BitVec 1 := Scalar.cmpi .slt c3_i32_655 c0_i32_659
  let v1202 : BitVec 32 := Scalar.extui v1201
  let v1203 : BitVec 32 := Scalar.subi v1200 v1202
  let v1204 : BitVec 1 := Scalar.cmpi .ne v1198 v1203
  let v1205 : BitVec 32 := Scalar.remsi v1192 c3_i32_655
  let c0_i32_660 : BitVec 32 := 0#32
  let v1206 : BitVec 1 := Scalar.cmpi .ne v1205 c0_i32_660
  let v1207 : BitVec 1 := Scalar.andi v1204 v1206
  let v1193 : BitVec 32 := Scalar.divsi v1192 c3_i32_655
  let c1_i32_661 : BitVec 32 := 1#32
  let v1208 : BitVec 32 := Scalar.subi v1193 c1_i32_661
  let v1209 : BitVec 32 := Scalar.select v1207 v1208 v1193
  let c2_i32_665 : BitVec 32 := 2#32
  let v1214 : BitVec 1 := Scalar.cmpi .slt v1209 c2_i32_665
  let c24576_i32_670 : BitVec 32 := 24576#32
  let c1024_i32_669 : BitVec 32 := 1024#32
  let v1219 : BitVec 32 := Scalar.muli c1024_i32_669 v1209
  let v1220 : BitVec 32 := Scalar.addi c24576_i32_670 v1219
  let c512_i32_671 : BitVec 32 := 512#32
  let v1221 : BitVec 32 := Scalar.addi v1220 c512_i32_671
  let c12288_i32_673 : BitVec 32 := 12288#32
  let c512_i32_672 : BitVec 32 := 512#32
  let c2_i32_664 : BitVec 32 := 2#32
  let v1213 : BitVec 32 := Scalar.subi v1209 c2_i32_664
  let v1222 : BitVec 32 := Scalar.muli c512_i32_672 v1213
  let v1223 : BitVec 32 := Scalar.addi c12288_i32_673 v1222
  let v1224 : BitVec 32 := Scalar.select v1214 v1221 v1223
  let v1228 : BitVec 32 := v1224
  let c3_i32_662 : BitVec 32 := 3#32
  let v1210 : BitVec 32 := Scalar.muli v1209 c3_i32_662
  let v1211 : BitVec 32 := Scalar.subi v1192 v1210
  let c2048_i32_674 : BitVec 32 := 2048#32
  let v1225 : BitVec 32 := Scalar.muli v1211 c2048_i32_674
  let v1226 : BitVec 32 := v1225
  ![v1228.toNat, v1226.toNat]
def k0_mult64 : BitVec 32 :=
  let c8_i32_603 : BitVec 32 := 8#32
  let c8_i32_594 : BitVec 32 := 8#32
  let c0_i32_596 : BitVec 32 := 0#32
  let v1100 : BitVec 1 := Scalar.cmpi .sgt c8_i32_594 c0_i32_596
  let v1101 : BitVec 32 := Scalar.extui v1100
  let c0_i32_597 : BitVec 32 := 0#32
  let v1102 : BitVec 1 := Scalar.cmpi .slt c8_i32_594 c0_i32_597
  let v1103 : BitVec 32 := Scalar.extui v1102
  let v1104 : BitVec 32 := Scalar.subi v1101 v1103
  let c3_i32_595 : BitVec 32 := 3#32
  let c0_i32_598 : BitVec 32 := 0#32
  let v1105 : BitVec 1 := Scalar.cmpi .sgt c3_i32_595 c0_i32_598
  let v1106 : BitVec 32 := Scalar.extui v1105
  let c0_i32_599 : BitVec 32 := 0#32
  let v1107 : BitVec 1 := Scalar.cmpi .slt c3_i32_595 c0_i32_599
  let v1108 : BitVec 32 := Scalar.extui v1107
  let v1109 : BitVec 32 := Scalar.subi v1106 v1108
  let v1110 : BitVec 1 := Scalar.cmpi .ne v1104 v1109
  let v1111 : BitVec 32 := Scalar.remsi c8_i32_594 c3_i32_595
  let c0_i32_600 : BitVec 32 := 0#32
  let v1112 : BitVec 1 := Scalar.cmpi .ne v1111 c0_i32_600
  let v1113 : BitVec 1 := Scalar.andi v1110 v1112
  let v1099 : BitVec 32 := Scalar.divsi c8_i32_594 c3_i32_595
  let c1_i32_601 : BitVec 32 := 1#32
  let v1114 : BitVec 32 := Scalar.subi v1099 c1_i32_601
  let v1115 : BitVec 32 := Scalar.select v1113 v1114 v1099
  let c3_i32_602 : BitVec 32 := 3#32
  let v1116 : BitVec 32 := Scalar.muli v1115 c3_i32_602
  let v1117 : BitVec 32 := Scalar.subi c8_i32_603 v1116
  let c2048_i32_616 : BitVec 32 := 2048#32
  let v1131 : BitVec 32 := Scalar.muli v1117 c2048_i32_616
  v1131
def k0_mult65 : BitVec 32 :=
  let c8_i32_594 : BitVec 32 := 8#32
  let c0_i32_596 : BitVec 32 := 0#32
  let v1100 : BitVec 1 := Scalar.cmpi .sgt c8_i32_594 c0_i32_596
  let v1101 : BitVec 32 := Scalar.extui v1100
  let c0_i32_597 : BitVec 32 := 0#32
  let v1102 : BitVec 1 := Scalar.cmpi .slt c8_i32_594 c0_i32_597
  let v1103 : BitVec 32 := Scalar.extui v1102
  let v1104 : BitVec 32 := Scalar.subi v1101 v1103
  let c3_i32_595 : BitVec 32 := 3#32
  let c0_i32_598 : BitVec 32 := 0#32
  let v1105 : BitVec 1 := Scalar.cmpi .sgt c3_i32_595 c0_i32_598
  let v1106 : BitVec 32 := Scalar.extui v1105
  let c0_i32_599 : BitVec 32 := 0#32
  let v1107 : BitVec 1 := Scalar.cmpi .slt c3_i32_595 c0_i32_599
  let v1108 : BitVec 32 := Scalar.extui v1107
  let v1109 : BitVec 32 := Scalar.subi v1106 v1108
  let v1110 : BitVec 1 := Scalar.cmpi .ne v1104 v1109
  let v1111 : BitVec 32 := Scalar.remsi c8_i32_594 c3_i32_595
  let c0_i32_600 : BitVec 32 := 0#32
  let v1112 : BitVec 1 := Scalar.cmpi .ne v1111 c0_i32_600
  let v1113 : BitVec 1 := Scalar.andi v1110 v1112
  let v1099 : BitVec 32 := Scalar.divsi c8_i32_594 c3_i32_595
  let c1_i32_601 : BitVec 32 := 1#32
  let v1114 : BitVec 32 := Scalar.subi v1099 c1_i32_601
  let v1115 : BitVec 32 := Scalar.select v1113 v1114 v1099
  let c2_i32_607 : BitVec 32 := 2#32
  let v1120 : BitVec 1 := Scalar.cmpi .slt v1115 c2_i32_607
  let c24576_i32_609 : BitVec 32 := 24576#32
  let c1024_i32_608 : BitVec 32 := 1024#32
  let v1121 : BitVec 32 := Scalar.muli c1024_i32_608 v1115
  let v1122 : BitVec 32 := Scalar.addi c24576_i32_609 v1121
  let c512_i32_610 : BitVec 32 := 512#32
  let c2_i32_606 : BitVec 32 := 2#32
  let v1119 : BitVec 32 := Scalar.subi v1115 c2_i32_606
  let v1123 : BitVec 32 := Scalar.muli c512_i32_610 v1119
  let v1124 : BitVec 32 := Scalar.select v1120 v1122 v1123
  v1124
def k0_mult66 : BitVec 32 :=
  let c8_i32_594 : BitVec 32 := 8#32
  let c0_i32_596 : BitVec 32 := 0#32
  let v1100 : BitVec 1 := Scalar.cmpi .sgt c8_i32_594 c0_i32_596
  let v1101 : BitVec 32 := Scalar.extui v1100
  let c0_i32_597 : BitVec 32 := 0#32
  let v1102 : BitVec 1 := Scalar.cmpi .slt c8_i32_594 c0_i32_597
  let v1103 : BitVec 32 := Scalar.extui v1102
  let v1104 : BitVec 32 := Scalar.subi v1101 v1103
  let c3_i32_595 : BitVec 32 := 3#32
  let c0_i32_598 : BitVec 32 := 0#32
  let v1105 : BitVec 1 := Scalar.cmpi .sgt c3_i32_595 c0_i32_598
  let v1106 : BitVec 32 := Scalar.extui v1105
  let c0_i32_599 : BitVec 32 := 0#32
  let v1107 : BitVec 1 := Scalar.cmpi .slt c3_i32_595 c0_i32_599
  let v1108 : BitVec 32 := Scalar.extui v1107
  let v1109 : BitVec 32 := Scalar.subi v1106 v1108
  let v1110 : BitVec 1 := Scalar.cmpi .ne v1104 v1109
  let v1111 : BitVec 32 := Scalar.remsi c8_i32_594 c3_i32_595
  let c0_i32_600 : BitVec 32 := 0#32
  let v1112 : BitVec 1 := Scalar.cmpi .ne v1111 c0_i32_600
  let v1113 : BitVec 1 := Scalar.andi v1110 v1112
  let v1099 : BitVec 32 := Scalar.divsi c8_i32_594 c3_i32_595
  let c1_i32_601 : BitVec 32 := 1#32
  let v1114 : BitVec 32 := Scalar.subi v1099 c1_i32_601
  let v1115 : BitVec 32 := Scalar.select v1113 v1114 v1099
  let c2_i32_607 : BitVec 32 := 2#32
  let v1120 : BitVec 1 := Scalar.cmpi .slt v1115 c2_i32_607
  let c24576_i32_612 : BitVec 32 := 24576#32
  let c1024_i32_611 : BitVec 32 := 1024#32
  let v1125 : BitVec 32 := Scalar.muli c1024_i32_611 v1115
  let v1126 : BitVec 32 := Scalar.addi c24576_i32_612 v1125
  let c512_i32_613 : BitVec 32 := 512#32
  let v1127 : BitVec 32 := Scalar.addi v1126 c512_i32_613
  let c12288_i32_615 : BitVec 32 := 12288#32
  let c512_i32_614 : BitVec 32 := 512#32
  let c2_i32_606 : BitVec 32 := 2#32
  let v1119 : BitVec 32 := Scalar.subi v1115 c2_i32_606
  let v1128 : BitVec 32 := Scalar.muli c512_i32_614 v1119
  let v1129 : BitVec 32 := Scalar.addi c12288_i32_615 v1128
  let v1130 : BitVec 32 := Scalar.select v1120 v1127 v1129
  v1130
def k0_mult67 : BitVec 32 :=
  let c0_i32_635 : BitVec 32 := 0#32
  let c512_i32_636 : BitVec 32 := 512#32
  let v1162 : BitVec 32 := Scalar.muli c0_i32_635 c512_i32_636
  v1162
def k0_off53 : Fin 2 → Nat :=
  let c0_641 : Index := 0#32
  let c0_i32_635 : BitVec 32 := 0#32
  let c512_i32_636 : BitVec 32 := 512#32
  let v1162 : BitVec 32 := Scalar.muli c0_i32_635 c512_i32_636
  let v1163 : BitVec 32 := v1162
  let v1167 : Index := Scalar.indexCast v1163
  ![0, v1167.toNat]
def k0_off54 : Fin 2 → Nat :=
  let c0_642 : Index := 0#32
  let c0_i32_635 : BitVec 32 := 0#32
  let c512_i32_636 : BitVec 32 := 512#32
  let v1162 : BitVec 32 := Scalar.muli c0_i32_635 c512_i32_636
  let v1163 : BitVec 32 := v1162
  let v1174 : Index := Scalar.indexCast v1163
  ![0, v1174.toNat]
def k0_mult68 : BitVec 32 :=
  let c12288_i32_643 : BitVec 32 := 12288#32
  let c0_i32_635 : BitVec 32 := 0#32
  let c512_i32_636 : BitVec 32 := 512#32
  let v1162 : BitVec 32 := Scalar.muli c0_i32_635 c512_i32_636
  let v1163 : BitVec 32 := v1162
  let v1176 : BitVec 32 := Scalar.addi c12288_i32_643 v1163
  v1176
def k0_off55 : Fin 2 → Nat :=
  let c0_648 : Index := 0#32
  let c12288_i32_643 : BitVec 32 := 12288#32
  let c0_i32_635 : BitVec 32 := 0#32
  let c512_i32_636 : BitVec 32 := 512#32
  let v1162 : BitVec 32 := Scalar.muli c0_i32_635 c512_i32_636
  let v1163 : BitVec 32 := v1162
  let v1176 : BitVec 32 := Scalar.addi c12288_i32_643 v1163
  let v1177 : BitVec 32 := v1176
  let v1181 : Index := Scalar.indexCast v1177
  ![0, v1181.toNat]
def k0_off56 : Fin 2 → Nat :=
  let c0_649 : Index := 0#32
  let c0_i32_635 : BitVec 32 := 0#32
  let c512_i32_636 : BitVec 32 := 512#32
  let v1162 : BitVec 32 := Scalar.muli c0_i32_635 c512_i32_636
  let v1163 : BitVec 32 := v1162
  let v1188 : Index := Scalar.indexCast v1163
  ![0, v1188.toNat]
@[reducible] def k0_t1_loop : Scf.Loop 32 :=
  let c0_i32_650 : BitVec 32 := 0#32
  let c69_i32 : BitVec 32 := 69#32
  let v1190 : BitVec 32 := Scalar.addi c0_i32_650 c69_i32
  let c1_i32_651 : BitVec 32 := 1#32
  ⟨c0_i32_650, v1190, c1_i32_651⟩
def k0_cond10 (k0_t1 : Fin k0_t1_loop.trips) : BitVec 1 :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c1_i32_661 : BitVec 32 := 1#32
  let v1211 : BitVec 32 := Scalar.subi v1210 c1_i32_661
  let c4_i32_662 : BitVec 32 := 4#32
  let v1212 : BitVec 32 := Scalar.addi v1211 c4_i32_662
  let c78_i32 : BitVec 32 := 78#32
  let v1213 : BitVec 1 := Scalar.cmpi .slt v1212 c78_i32
  let v1214 : BitVec 32 := Scalar.extui v1213
  let c0_i32_663 : BitVec 32 := 0#32
  let v1215 : BitVec 1 := Scalar.cmpi .ne v1214 c0_i32_663
  v1215

def k0_mult69 (k0_t1 : Fin k0_t1_loop.trips) : BitVec 32 :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c1_i32_702 : BitVec 32 := 1#32
  let v1282 : BitVec 32 := Scalar.subi v1210 c1_i32_702
  let c4_i32_703 : BitVec 32 := 4#32
  let v1283 : BitVec 32 := Scalar.addi v1282 c4_i32_703
  let c0_i32_705 : BitVec 32 := 0#32
  let v1285 : BitVec 1 := Scalar.cmpi .sgt v1283 c0_i32_705
  let v1286 : BitVec 32 := Scalar.extui v1285
  let c0_i32_706 : BitVec 32 := 0#32
  let v1287 : BitVec 1 := Scalar.cmpi .slt v1283 c0_i32_706
  let v1288 : BitVec 32 := Scalar.extui v1287
  let v1289 : BitVec 32 := Scalar.subi v1286 v1288
  let c3_i32_704 : BitVec 32 := 3#32
  let c0_i32_707 : BitVec 32 := 0#32
  let v1290 : BitVec 1 := Scalar.cmpi .sgt c3_i32_704 c0_i32_707
  let v1291 : BitVec 32 := Scalar.extui v1290
  let c0_i32_708 : BitVec 32 := 0#32
  let v1292 : BitVec 1 := Scalar.cmpi .slt c3_i32_704 c0_i32_708
  let v1293 : BitVec 32 := Scalar.extui v1292
  let v1294 : BitVec 32 := Scalar.subi v1291 v1293
  let v1295 : BitVec 1 := Scalar.cmpi .ne v1289 v1294
  let v1296 : BitVec 32 := Scalar.remsi v1283 c3_i32_704
  let c0_i32_709 : BitVec 32 := 0#32
  let v1297 : BitVec 1 := Scalar.cmpi .ne v1296 c0_i32_709
  let v1298 : BitVec 1 := Scalar.andi v1295 v1297
  let v1284 : BitVec 32 := Scalar.divsi v1283 c3_i32_704
  let c1_i32_710 : BitVec 32 := 1#32
  let v1299 : BitVec 32 := Scalar.subi v1284 c1_i32_710
  let v1300 : BitVec 32 := Scalar.select v1298 v1299 v1284
  let c3_i32_711 : BitVec 32 := 3#32
  let v1301 : BitVec 32 := Scalar.muli v1300 c3_i32_711
  let v1302 : BitVec 32 := Scalar.subi v1283 v1301
  let c2048_i32_723 : BitVec 32 := 2048#32
  let v1316 : BitVec 32 := Scalar.muli v1302 c2048_i32_723
  v1316
def k0_mult70 (k0_t1 : Fin k0_t1_loop.trips) : BitVec 32 :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c1_i32_702 : BitVec 32 := 1#32
  let v1282 : BitVec 32 := Scalar.subi v1210 c1_i32_702
  let c4_i32_703 : BitVec 32 := 4#32
  let v1283 : BitVec 32 := Scalar.addi v1282 c4_i32_703
  let c0_i32_705 : BitVec 32 := 0#32
  let v1285 : BitVec 1 := Scalar.cmpi .sgt v1283 c0_i32_705
  let v1286 : BitVec 32 := Scalar.extui v1285
  let c0_i32_706 : BitVec 32 := 0#32
  let v1287 : BitVec 1 := Scalar.cmpi .slt v1283 c0_i32_706
  let v1288 : BitVec 32 := Scalar.extui v1287
  let v1289 : BitVec 32 := Scalar.subi v1286 v1288
  let c3_i32_704 : BitVec 32 := 3#32
  let c0_i32_707 : BitVec 32 := 0#32
  let v1290 : BitVec 1 := Scalar.cmpi .sgt c3_i32_704 c0_i32_707
  let v1291 : BitVec 32 := Scalar.extui v1290
  let c0_i32_708 : BitVec 32 := 0#32
  let v1292 : BitVec 1 := Scalar.cmpi .slt c3_i32_704 c0_i32_708
  let v1293 : BitVec 32 := Scalar.extui v1292
  let v1294 : BitVec 32 := Scalar.subi v1291 v1293
  let v1295 : BitVec 1 := Scalar.cmpi .ne v1289 v1294
  let v1296 : BitVec 32 := Scalar.remsi v1283 c3_i32_704
  let c0_i32_709 : BitVec 32 := 0#32
  let v1297 : BitVec 1 := Scalar.cmpi .ne v1296 c0_i32_709
  let v1298 : BitVec 1 := Scalar.andi v1295 v1297
  let v1284 : BitVec 32 := Scalar.divsi v1283 c3_i32_704
  let c1_i32_710 : BitVec 32 := 1#32
  let v1299 : BitVec 32 := Scalar.subi v1284 c1_i32_710
  let v1300 : BitVec 32 := Scalar.select v1298 v1299 v1284
  let c2_i32_714 : BitVec 32 := 2#32
  let v1305 : BitVec 1 := Scalar.cmpi .slt v1300 c2_i32_714
  let c24576_i32_716 : BitVec 32 := 24576#32
  let c1024_i32_715 : BitVec 32 := 1024#32
  let v1306 : BitVec 32 := Scalar.muli c1024_i32_715 v1300
  let v1307 : BitVec 32 := Scalar.addi c24576_i32_716 v1306
  let c512_i32_717 : BitVec 32 := 512#32
  let c2_i32_713 : BitVec 32 := 2#32
  let v1304 : BitVec 32 := Scalar.subi v1300 c2_i32_713
  let v1308 : BitVec 32 := Scalar.muli c512_i32_717 v1304
  let v1309 : BitVec 32 := Scalar.select v1305 v1307 v1308
  v1309
def k0_mult71 (k0_t1 : Fin k0_t1_loop.trips) : BitVec 32 :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c1_i32_702 : BitVec 32 := 1#32
  let v1282 : BitVec 32 := Scalar.subi v1210 c1_i32_702
  let c4_i32_703 : BitVec 32 := 4#32
  let v1283 : BitVec 32 := Scalar.addi v1282 c4_i32_703
  let c0_i32_705 : BitVec 32 := 0#32
  let v1285 : BitVec 1 := Scalar.cmpi .sgt v1283 c0_i32_705
  let v1286 : BitVec 32 := Scalar.extui v1285
  let c0_i32_706 : BitVec 32 := 0#32
  let v1287 : BitVec 1 := Scalar.cmpi .slt v1283 c0_i32_706
  let v1288 : BitVec 32 := Scalar.extui v1287
  let v1289 : BitVec 32 := Scalar.subi v1286 v1288
  let c3_i32_704 : BitVec 32 := 3#32
  let c0_i32_707 : BitVec 32 := 0#32
  let v1290 : BitVec 1 := Scalar.cmpi .sgt c3_i32_704 c0_i32_707
  let v1291 : BitVec 32 := Scalar.extui v1290
  let c0_i32_708 : BitVec 32 := 0#32
  let v1292 : BitVec 1 := Scalar.cmpi .slt c3_i32_704 c0_i32_708
  let v1293 : BitVec 32 := Scalar.extui v1292
  let v1294 : BitVec 32 := Scalar.subi v1291 v1293
  let v1295 : BitVec 1 := Scalar.cmpi .ne v1289 v1294
  let v1296 : BitVec 32 := Scalar.remsi v1283 c3_i32_704
  let c0_i32_709 : BitVec 32 := 0#32
  let v1297 : BitVec 1 := Scalar.cmpi .ne v1296 c0_i32_709
  let v1298 : BitVec 1 := Scalar.andi v1295 v1297
  let v1284 : BitVec 32 := Scalar.divsi v1283 c3_i32_704
  let c1_i32_710 : BitVec 32 := 1#32
  let v1299 : BitVec 32 := Scalar.subi v1284 c1_i32_710
  let v1300 : BitVec 32 := Scalar.select v1298 v1299 v1284
  let c2_i32_714 : BitVec 32 := 2#32
  let v1305 : BitVec 1 := Scalar.cmpi .slt v1300 c2_i32_714
  let c24576_i32_719 : BitVec 32 := 24576#32
  let c1024_i32_718 : BitVec 32 := 1024#32
  let v1310 : BitVec 32 := Scalar.muli c1024_i32_718 v1300
  let v1311 : BitVec 32 := Scalar.addi c24576_i32_719 v1310
  let c512_i32_720 : BitVec 32 := 512#32
  let v1312 : BitVec 32 := Scalar.addi v1311 c512_i32_720
  let c12288_i32_722 : BitVec 32 := 12288#32
  let c512_i32_721 : BitVec 32 := 512#32
  let c2_i32_713 : BitVec 32 := 2#32
  let v1304 : BitVec 32 := Scalar.subi v1300 c2_i32_713
  let v1313 : BitVec 32 := Scalar.muli c512_i32_721 v1304
  let v1314 : BitVec 32 := Scalar.addi c12288_i32_722 v1313
  let v1315 : BitVec 32 := Scalar.select v1305 v1312 v1314
  v1315
def k0_off57 (k0_t1 : Fin k0_t1_loop.trips) : Fin 1 → Nat :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c1_i32_702 : BitVec 32 := 1#32
  let v1282 : BitVec 32 := Scalar.subi v1210 c1_i32_702
  let c4_i32_703 : BitVec 32 := 4#32
  let v1283 : BitVec 32 := Scalar.addi v1282 c4_i32_703
  let c4_i32_712 : BitVec 32 := 4#32
  let v1303 : BitVec 32 := Scalar.remsi v1283 c4_i32_712
  ![v1303.toNat]
def k0_off58 (k0_t1 : Fin k0_t1_loop.trips) : Fin 3 → Nat :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c1_i32_702 : BitVec 32 := 1#32
  let v1282 : BitVec 32 := Scalar.subi v1210 c1_i32_702
  let c4_i32_703 : BitVec 32 := 4#32
  let v1283 : BitVec 32 := Scalar.addi v1282 c4_i32_703
  let c4_i32_712 : BitVec 32 := 4#32
  let v1303 : BitVec 32 := Scalar.remsi v1283 c4_i32_712
  let c0_i32_724 : BitVec 32 := 0#32
  let c0_i32_725 : BitVec 32 := 0#32
  ![v1303.toNat, 0, 0]
def k0_off59 (k0_t1 : Fin k0_t1_loop.trips) : Fin 2 → Nat :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c1_i32_702 : BitVec 32 := 1#32
  let v1282 : BitVec 32 := Scalar.subi v1210 c1_i32_702
  let c4_i32_703 : BitVec 32 := 4#32
  let v1283 : BitVec 32 := Scalar.addi v1282 c4_i32_703
  let c0_i32_705 : BitVec 32 := 0#32
  let v1285 : BitVec 1 := Scalar.cmpi .sgt v1283 c0_i32_705
  let v1286 : BitVec 32 := Scalar.extui v1285
  let c0_i32_706 : BitVec 32 := 0#32
  let v1287 : BitVec 1 := Scalar.cmpi .slt v1283 c0_i32_706
  let v1288 : BitVec 32 := Scalar.extui v1287
  let v1289 : BitVec 32 := Scalar.subi v1286 v1288
  let c3_i32_704 : BitVec 32 := 3#32
  let c0_i32_707 : BitVec 32 := 0#32
  let v1290 : BitVec 1 := Scalar.cmpi .sgt c3_i32_704 c0_i32_707
  let v1291 : BitVec 32 := Scalar.extui v1290
  let c0_i32_708 : BitVec 32 := 0#32
  let v1292 : BitVec 1 := Scalar.cmpi .slt c3_i32_704 c0_i32_708
  let v1293 : BitVec 32 := Scalar.extui v1292
  let v1294 : BitVec 32 := Scalar.subi v1291 v1293
  let v1295 : BitVec 1 := Scalar.cmpi .ne v1289 v1294
  let v1296 : BitVec 32 := Scalar.remsi v1283 c3_i32_704
  let c0_i32_709 : BitVec 32 := 0#32
  let v1297 : BitVec 1 := Scalar.cmpi .ne v1296 c0_i32_709
  let v1298 : BitVec 1 := Scalar.andi v1295 v1297
  let v1284 : BitVec 32 := Scalar.divsi v1283 c3_i32_704
  let c1_i32_710 : BitVec 32 := 1#32
  let v1299 : BitVec 32 := Scalar.subi v1284 c1_i32_710
  let v1300 : BitVec 32 := Scalar.select v1298 v1299 v1284
  let c2_i32_714 : BitVec 32 := 2#32
  let v1305 : BitVec 1 := Scalar.cmpi .slt v1300 c2_i32_714
  let c24576_i32_716 : BitVec 32 := 24576#32
  let c1024_i32_715 : BitVec 32 := 1024#32
  let v1306 : BitVec 32 := Scalar.muli c1024_i32_715 v1300
  let v1307 : BitVec 32 := Scalar.addi c24576_i32_716 v1306
  let c512_i32_717 : BitVec 32 := 512#32
  let c2_i32_713 : BitVec 32 := 2#32
  let v1304 : BitVec 32 := Scalar.subi v1300 c2_i32_713
  let v1308 : BitVec 32 := Scalar.muli c512_i32_717 v1304
  let v1309 : BitVec 32 := Scalar.select v1305 v1307 v1308
  let v1318 : BitVec 32 := v1309
  let c3_i32_711 : BitVec 32 := 3#32
  let v1301 : BitVec 32 := Scalar.muli v1300 c3_i32_711
  let v1302 : BitVec 32 := Scalar.subi v1283 v1301
  let c2048_i32_723 : BitVec 32 := 2048#32
  let v1316 : BitVec 32 := Scalar.muli v1302 c2048_i32_723
  let v1317 : BitVec 32 := v1316
  ![v1318.toNat, v1317.toNat]
def k0_off60 (k0_t1 : Fin k0_t1_loop.trips) : Fin 3 → Nat :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c1_i32_702 : BitVec 32 := 1#32
  let v1282 : BitVec 32 := Scalar.subi v1210 c1_i32_702
  let c4_i32_703 : BitVec 32 := 4#32
  let v1283 : BitVec 32 := Scalar.addi v1282 c4_i32_703
  let c4_i32_712 : BitVec 32 := 4#32
  let v1303 : BitVec 32 := Scalar.remsi v1283 c4_i32_712
  let c512_i32_726 : BitVec 32 := 512#32
  let c0_i32_727 : BitVec 32 := 0#32
  ![v1303.toNat, 512, 0]
def k0_off61 (k0_t1 : Fin k0_t1_loop.trips) : Fin 2 → Nat :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c1_i32_702 : BitVec 32 := 1#32
  let v1282 : BitVec 32 := Scalar.subi v1210 c1_i32_702
  let c4_i32_703 : BitVec 32 := 4#32
  let v1283 : BitVec 32 := Scalar.addi v1282 c4_i32_703
  let c0_i32_705 : BitVec 32 := 0#32
  let v1285 : BitVec 1 := Scalar.cmpi .sgt v1283 c0_i32_705
  let v1286 : BitVec 32 := Scalar.extui v1285
  let c0_i32_706 : BitVec 32 := 0#32
  let v1287 : BitVec 1 := Scalar.cmpi .slt v1283 c0_i32_706
  let v1288 : BitVec 32 := Scalar.extui v1287
  let v1289 : BitVec 32 := Scalar.subi v1286 v1288
  let c3_i32_704 : BitVec 32 := 3#32
  let c0_i32_707 : BitVec 32 := 0#32
  let v1290 : BitVec 1 := Scalar.cmpi .sgt c3_i32_704 c0_i32_707
  let v1291 : BitVec 32 := Scalar.extui v1290
  let c0_i32_708 : BitVec 32 := 0#32
  let v1292 : BitVec 1 := Scalar.cmpi .slt c3_i32_704 c0_i32_708
  let v1293 : BitVec 32 := Scalar.extui v1292
  let v1294 : BitVec 32 := Scalar.subi v1291 v1293
  let v1295 : BitVec 1 := Scalar.cmpi .ne v1289 v1294
  let v1296 : BitVec 32 := Scalar.remsi v1283 c3_i32_704
  let c0_i32_709 : BitVec 32 := 0#32
  let v1297 : BitVec 1 := Scalar.cmpi .ne v1296 c0_i32_709
  let v1298 : BitVec 1 := Scalar.andi v1295 v1297
  let v1284 : BitVec 32 := Scalar.divsi v1283 c3_i32_704
  let c1_i32_710 : BitVec 32 := 1#32
  let v1299 : BitVec 32 := Scalar.subi v1284 c1_i32_710
  let v1300 : BitVec 32 := Scalar.select v1298 v1299 v1284
  let c2_i32_714 : BitVec 32 := 2#32
  let v1305 : BitVec 1 := Scalar.cmpi .slt v1300 c2_i32_714
  let c24576_i32_719 : BitVec 32 := 24576#32
  let c1024_i32_718 : BitVec 32 := 1024#32
  let v1310 : BitVec 32 := Scalar.muli c1024_i32_718 v1300
  let v1311 : BitVec 32 := Scalar.addi c24576_i32_719 v1310
  let c512_i32_720 : BitVec 32 := 512#32
  let v1312 : BitVec 32 := Scalar.addi v1311 c512_i32_720
  let c12288_i32_722 : BitVec 32 := 12288#32
  let c512_i32_721 : BitVec 32 := 512#32
  let c2_i32_713 : BitVec 32 := 2#32
  let v1304 : BitVec 32 := Scalar.subi v1300 c2_i32_713
  let v1313 : BitVec 32 := Scalar.muli c512_i32_721 v1304
  let v1314 : BitVec 32 := Scalar.addi c12288_i32_722 v1313
  let v1315 : BitVec 32 := Scalar.select v1305 v1312 v1314
  let v1319 : BitVec 32 := v1315
  let c3_i32_711 : BitVec 32 := 3#32
  let v1301 : BitVec 32 := Scalar.muli v1300 c3_i32_711
  let v1302 : BitVec 32 := Scalar.subi v1283 v1301
  let c2048_i32_723 : BitVec 32 := 2048#32
  let v1316 : BitVec 32 := Scalar.muli v1302 c2048_i32_723
  let v1317 : BitVec 32 := v1316
  ![v1319.toNat, v1317.toNat]
def k0_mult72 (k0_t1 : Fin k0_t1_loop.trips) : BitVec 32 :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c0_i32_665 : BitVec 32 := 0#32
  let v1217 : BitVec 1 := Scalar.cmpi .sgt v1210 c0_i32_665
  let v1218 : BitVec 32 := Scalar.extui v1217
  let c0_i32_666 : BitVec 32 := 0#32
  let v1219 : BitVec 1 := Scalar.cmpi .slt v1210 c0_i32_666
  let v1220 : BitVec 32 := Scalar.extui v1219
  let v1221 : BitVec 32 := Scalar.subi v1218 v1220
  let c3_i32_664 : BitVec 32 := 3#32
  let c0_i32_667 : BitVec 32 := 0#32
  let v1222 : BitVec 1 := Scalar.cmpi .sgt c3_i32_664 c0_i32_667
  let v1223 : BitVec 32 := Scalar.extui v1222
  let c0_i32_668 : BitVec 32 := 0#32
  let v1224 : BitVec 1 := Scalar.cmpi .slt c3_i32_664 c0_i32_668
  let v1225 : BitVec 32 := Scalar.extui v1224
  let v1226 : BitVec 32 := Scalar.subi v1223 v1225
  let v1227 : BitVec 1 := Scalar.cmpi .ne v1221 v1226
  let v1228 : BitVec 32 := Scalar.remsi v1210 c3_i32_664
  let c0_i32_669 : BitVec 32 := 0#32
  let v1229 : BitVec 1 := Scalar.cmpi .ne v1228 c0_i32_669
  let v1230 : BitVec 1 := Scalar.andi v1227 v1229
  let v1216 : BitVec 32 := Scalar.divsi v1210 c3_i32_664
  let c1_i32_670 : BitVec 32 := 1#32
  let v1231 : BitVec 32 := Scalar.subi v1216 c1_i32_670
  let v1232 : BitVec 32 := Scalar.select v1230 v1231 v1216
  let c3_i32_671 : BitVec 32 := 3#32
  let v1233 : BitVec 32 := Scalar.muli v1232 c3_i32_671
  let v1234 : BitVec 32 := Scalar.subi v1210 v1233
  let c2048_i32_683 : BitVec 32 := 2048#32
  let v1248 : BitVec 32 := Scalar.muli v1234 c2048_i32_683
  v1248
def k0_mult73 (k0_t1 : Fin k0_t1_loop.trips) : BitVec 32 :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c0_i32_665 : BitVec 32 := 0#32
  let v1217 : BitVec 1 := Scalar.cmpi .sgt v1210 c0_i32_665
  let v1218 : BitVec 32 := Scalar.extui v1217
  let c0_i32_666 : BitVec 32 := 0#32
  let v1219 : BitVec 1 := Scalar.cmpi .slt v1210 c0_i32_666
  let v1220 : BitVec 32 := Scalar.extui v1219
  let v1221 : BitVec 32 := Scalar.subi v1218 v1220
  let c3_i32_664 : BitVec 32 := 3#32
  let c0_i32_667 : BitVec 32 := 0#32
  let v1222 : BitVec 1 := Scalar.cmpi .sgt c3_i32_664 c0_i32_667
  let v1223 : BitVec 32 := Scalar.extui v1222
  let c0_i32_668 : BitVec 32 := 0#32
  let v1224 : BitVec 1 := Scalar.cmpi .slt c3_i32_664 c0_i32_668
  let v1225 : BitVec 32 := Scalar.extui v1224
  let v1226 : BitVec 32 := Scalar.subi v1223 v1225
  let v1227 : BitVec 1 := Scalar.cmpi .ne v1221 v1226
  let v1228 : BitVec 32 := Scalar.remsi v1210 c3_i32_664
  let c0_i32_669 : BitVec 32 := 0#32
  let v1229 : BitVec 1 := Scalar.cmpi .ne v1228 c0_i32_669
  let v1230 : BitVec 1 := Scalar.andi v1227 v1229
  let v1216 : BitVec 32 := Scalar.divsi v1210 c3_i32_664
  let c1_i32_670 : BitVec 32 := 1#32
  let v1231 : BitVec 32 := Scalar.subi v1216 c1_i32_670
  let v1232 : BitVec 32 := Scalar.select v1230 v1231 v1216
  let c2_i32_674 : BitVec 32 := 2#32
  let v1237 : BitVec 1 := Scalar.cmpi .slt v1232 c2_i32_674
  let c24576_i32_676 : BitVec 32 := 24576#32
  let c1024_i32_675 : BitVec 32 := 1024#32
  let v1238 : BitVec 32 := Scalar.muli c1024_i32_675 v1232
  let v1239 : BitVec 32 := Scalar.addi c24576_i32_676 v1238
  let c512_i32_677 : BitVec 32 := 512#32
  let c2_i32_673 : BitVec 32 := 2#32
  let v1236 : BitVec 32 := Scalar.subi v1232 c2_i32_673
  let v1240 : BitVec 32 := Scalar.muli c512_i32_677 v1236
  let v1241 : BitVec 32 := Scalar.select v1237 v1239 v1240
  v1241
def k0_mult74 (k0_t1 : Fin k0_t1_loop.trips) : BitVec 32 :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c0_i32_665 : BitVec 32 := 0#32
  let v1217 : BitVec 1 := Scalar.cmpi .sgt v1210 c0_i32_665
  let v1218 : BitVec 32 := Scalar.extui v1217
  let c0_i32_666 : BitVec 32 := 0#32
  let v1219 : BitVec 1 := Scalar.cmpi .slt v1210 c0_i32_666
  let v1220 : BitVec 32 := Scalar.extui v1219
  let v1221 : BitVec 32 := Scalar.subi v1218 v1220
  let c3_i32_664 : BitVec 32 := 3#32
  let c0_i32_667 : BitVec 32 := 0#32
  let v1222 : BitVec 1 := Scalar.cmpi .sgt c3_i32_664 c0_i32_667
  let v1223 : BitVec 32 := Scalar.extui v1222
  let c0_i32_668 : BitVec 32 := 0#32
  let v1224 : BitVec 1 := Scalar.cmpi .slt c3_i32_664 c0_i32_668
  let v1225 : BitVec 32 := Scalar.extui v1224
  let v1226 : BitVec 32 := Scalar.subi v1223 v1225
  let v1227 : BitVec 1 := Scalar.cmpi .ne v1221 v1226
  let v1228 : BitVec 32 := Scalar.remsi v1210 c3_i32_664
  let c0_i32_669 : BitVec 32 := 0#32
  let v1229 : BitVec 1 := Scalar.cmpi .ne v1228 c0_i32_669
  let v1230 : BitVec 1 := Scalar.andi v1227 v1229
  let v1216 : BitVec 32 := Scalar.divsi v1210 c3_i32_664
  let c1_i32_670 : BitVec 32 := 1#32
  let v1231 : BitVec 32 := Scalar.subi v1216 c1_i32_670
  let v1232 : BitVec 32 := Scalar.select v1230 v1231 v1216
  let c2_i32_674 : BitVec 32 := 2#32
  let v1237 : BitVec 1 := Scalar.cmpi .slt v1232 c2_i32_674
  let c24576_i32_679 : BitVec 32 := 24576#32
  let c1024_i32_678 : BitVec 32 := 1024#32
  let v1242 : BitVec 32 := Scalar.muli c1024_i32_678 v1232
  let v1243 : BitVec 32 := Scalar.addi c24576_i32_679 v1242
  let c512_i32_680 : BitVec 32 := 512#32
  let v1244 : BitVec 32 := Scalar.addi v1243 c512_i32_680
  let c12288_i32_682 : BitVec 32 := 12288#32
  let c512_i32_681 : BitVec 32 := 512#32
  let c2_i32_673 : BitVec 32 := 2#32
  let v1236 : BitVec 32 := Scalar.subi v1232 c2_i32_673
  let v1245 : BitVec 32 := Scalar.muli c512_i32_681 v1236
  let v1246 : BitVec 32 := Scalar.addi c12288_i32_682 v1245
  let v1247 : BitVec 32 := Scalar.select v1237 v1244 v1246
  v1247
def k0_off62 (k0_t1 : Fin k0_t1_loop.trips) : Fin 1 → Nat :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c4_i32_672 : BitVec 32 := 4#32
  let v1235 : BitVec 32 := Scalar.remsi v1210 c4_i32_672
  ![v1235.toNat]
def k0_off63 (k0_t1 : Fin k0_t1_loop.trips) : Fin 3 → Nat :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c4_i32_672 : BitVec 32 := 4#32
  let v1235 : BitVec 32 := Scalar.remsi v1210 c4_i32_672
  let c0_i32_684 : BitVec 32 := 0#32
  let c0_i32_685 : BitVec 32 := 0#32
  ![v1235.toNat, 0, 0]
def k0_off64 (k0_t1 : Fin k0_t1_loop.trips) : Fin 2 → Nat :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c0_i32_665 : BitVec 32 := 0#32
  let v1217 : BitVec 1 := Scalar.cmpi .sgt v1210 c0_i32_665
  let v1218 : BitVec 32 := Scalar.extui v1217
  let c0_i32_666 : BitVec 32 := 0#32
  let v1219 : BitVec 1 := Scalar.cmpi .slt v1210 c0_i32_666
  let v1220 : BitVec 32 := Scalar.extui v1219
  let v1221 : BitVec 32 := Scalar.subi v1218 v1220
  let c3_i32_664 : BitVec 32 := 3#32
  let c0_i32_667 : BitVec 32 := 0#32
  let v1222 : BitVec 1 := Scalar.cmpi .sgt c3_i32_664 c0_i32_667
  let v1223 : BitVec 32 := Scalar.extui v1222
  let c0_i32_668 : BitVec 32 := 0#32
  let v1224 : BitVec 1 := Scalar.cmpi .slt c3_i32_664 c0_i32_668
  let v1225 : BitVec 32 := Scalar.extui v1224
  let v1226 : BitVec 32 := Scalar.subi v1223 v1225
  let v1227 : BitVec 1 := Scalar.cmpi .ne v1221 v1226
  let v1228 : BitVec 32 := Scalar.remsi v1210 c3_i32_664
  let c0_i32_669 : BitVec 32 := 0#32
  let v1229 : BitVec 1 := Scalar.cmpi .ne v1228 c0_i32_669
  let v1230 : BitVec 1 := Scalar.andi v1227 v1229
  let v1216 : BitVec 32 := Scalar.divsi v1210 c3_i32_664
  let c1_i32_670 : BitVec 32 := 1#32
  let v1231 : BitVec 32 := Scalar.subi v1216 c1_i32_670
  let v1232 : BitVec 32 := Scalar.select v1230 v1231 v1216
  let c2_i32_674 : BitVec 32 := 2#32
  let v1237 : BitVec 1 := Scalar.cmpi .slt v1232 c2_i32_674
  let c24576_i32_676 : BitVec 32 := 24576#32
  let c1024_i32_675 : BitVec 32 := 1024#32
  let v1238 : BitVec 32 := Scalar.muli c1024_i32_675 v1232
  let v1239 : BitVec 32 := Scalar.addi c24576_i32_676 v1238
  let c512_i32_677 : BitVec 32 := 512#32
  let c2_i32_673 : BitVec 32 := 2#32
  let v1236 : BitVec 32 := Scalar.subi v1232 c2_i32_673
  let v1240 : BitVec 32 := Scalar.muli c512_i32_677 v1236
  let v1241 : BitVec 32 := Scalar.select v1237 v1239 v1240
  let v1250 : BitVec 32 := v1241
  let c3_i32_671 : BitVec 32 := 3#32
  let v1233 : BitVec 32 := Scalar.muli v1232 c3_i32_671
  let v1234 : BitVec 32 := Scalar.subi v1210 v1233
  let c2048_i32_683 : BitVec 32 := 2048#32
  let v1248 : BitVec 32 := Scalar.muli v1234 c2048_i32_683
  let v1249 : BitVec 32 := v1248
  ![v1250.toNat, v1249.toNat]
def k0_off65 (k0_t1 : Fin k0_t1_loop.trips) : Fin 3 → Nat :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c4_i32_672 : BitVec 32 := 4#32
  let v1235 : BitVec 32 := Scalar.remsi v1210 c4_i32_672
  let c512_i32_686 : BitVec 32 := 512#32
  let c0_i32_687 : BitVec 32 := 0#32
  ![v1235.toNat, 512, 0]
def k0_off66 (k0_t1 : Fin k0_t1_loop.trips) : Fin 2 → Nat :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c0_i32_665 : BitVec 32 := 0#32
  let v1217 : BitVec 1 := Scalar.cmpi .sgt v1210 c0_i32_665
  let v1218 : BitVec 32 := Scalar.extui v1217
  let c0_i32_666 : BitVec 32 := 0#32
  let v1219 : BitVec 1 := Scalar.cmpi .slt v1210 c0_i32_666
  let v1220 : BitVec 32 := Scalar.extui v1219
  let v1221 : BitVec 32 := Scalar.subi v1218 v1220
  let c3_i32_664 : BitVec 32 := 3#32
  let c0_i32_667 : BitVec 32 := 0#32
  let v1222 : BitVec 1 := Scalar.cmpi .sgt c3_i32_664 c0_i32_667
  let v1223 : BitVec 32 := Scalar.extui v1222
  let c0_i32_668 : BitVec 32 := 0#32
  let v1224 : BitVec 1 := Scalar.cmpi .slt c3_i32_664 c0_i32_668
  let v1225 : BitVec 32 := Scalar.extui v1224
  let v1226 : BitVec 32 := Scalar.subi v1223 v1225
  let v1227 : BitVec 1 := Scalar.cmpi .ne v1221 v1226
  let v1228 : BitVec 32 := Scalar.remsi v1210 c3_i32_664
  let c0_i32_669 : BitVec 32 := 0#32
  let v1229 : BitVec 1 := Scalar.cmpi .ne v1228 c0_i32_669
  let v1230 : BitVec 1 := Scalar.andi v1227 v1229
  let v1216 : BitVec 32 := Scalar.divsi v1210 c3_i32_664
  let c1_i32_670 : BitVec 32 := 1#32
  let v1231 : BitVec 32 := Scalar.subi v1216 c1_i32_670
  let v1232 : BitVec 32 := Scalar.select v1230 v1231 v1216
  let c2_i32_674 : BitVec 32 := 2#32
  let v1237 : BitVec 1 := Scalar.cmpi .slt v1232 c2_i32_674
  let c24576_i32_679 : BitVec 32 := 24576#32
  let c1024_i32_678 : BitVec 32 := 1024#32
  let v1242 : BitVec 32 := Scalar.muli c1024_i32_678 v1232
  let v1243 : BitVec 32 := Scalar.addi c24576_i32_679 v1242
  let c512_i32_680 : BitVec 32 := 512#32
  let v1244 : BitVec 32 := Scalar.addi v1243 c512_i32_680
  let c12288_i32_682 : BitVec 32 := 12288#32
  let c512_i32_681 : BitVec 32 := 512#32
  let c2_i32_673 : BitVec 32 := 2#32
  let v1236 : BitVec 32 := Scalar.subi v1232 c2_i32_673
  let v1245 : BitVec 32 := Scalar.muli c512_i32_681 v1236
  let v1246 : BitVec 32 := Scalar.addi c12288_i32_682 v1245
  let v1247 : BitVec 32 := Scalar.select v1237 v1244 v1246
  let v1251 : BitVec 32 := v1247
  let c3_i32_671 : BitVec 32 := 3#32
  let v1233 : BitVec 32 := Scalar.muli v1232 c3_i32_671
  let v1234 : BitVec 32 := Scalar.subi v1210 v1233
  let c2048_i32_683 : BitVec 32 := 2048#32
  let v1248 : BitVec 32 := Scalar.muli v1234 c2048_i32_683
  let v1249 : BitVec 32 := v1248
  ![v1251.toNat, v1249.toNat]
def k0_off67 (k0_t1 : Fin k0_t1_loop.trips) : Fin 3 → Nat :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c3_i32_688 : BitVec 32 := 3#32
  let v1262 : BitVec 32 := Scalar.remsi v1210 c3_i32_688
  let v1263 : Index := Scalar.indexCast v1262
  let c0_689 : Index := 0#32
  let c0_690 : Index := 0#32
  ![v1263.toNat, 0, 0]
def k0_off68 (k0_t1 : Fin k0_t1_loop.trips) : Fin 3 → Nat :=
  let c0_i32_650 : BitVec 32 := 0#32
  let c1_i32_651 : BitVec 32 := 1#32
  let arg15 : BitVec 32 := Scf.iv c0_i32_650 c1_i32_651 k0_t1
  let c9_i32 : BitVec 32 := 9#32
  let v1210 : BitVec 32 := Scalar.addi arg15 c9_i32
  let c4_i32_691 : BitVec 32 := 4#32
  let v1266 : BitVec 32 := Scalar.remsi v1210 c4_i32_691
  let v1267 : Index := Scalar.indexCast v1266
  let c0_692 : Index := 0#32
  let c0_693 : Index := 0#32
  ![v1267.toNat, 0, 0]
def k0_cond11 (k0_t1 : Fin k0_t1_loop.trips) : BitVec 1 :=
  let c0_i32_650 : BitVec 32 := 0#32
  let c1_i32_651 : BitVec 32 := 1#32
  let arg15 : BitVec 32 := Scf.iv c0_i32_650 c1_i32_651 k0_t1
  let c0_i32_654 : BitVec 32 := 0#32
  let v1192 : BitVec 1 := Scalar.cmpi .sgt arg15 c0_i32_654
  let v1193 : BitVec 32 := Scalar.extui v1192
  let c0_i32_655 : BitVec 32 := 0#32
  let v1194 : BitVec 1 := Scalar.cmpi .slt arg15 c0_i32_655
  let v1195 : BitVec 32 := Scalar.extui v1194
  let v1196 : BitVec 32 := Scalar.subi v1193 v1195
  let c3_i32_653 : BitVec 32 := 3#32
  let c0_i32_656 : BitVec 32 := 0#32
  let v1197 : BitVec 1 := Scalar.cmpi .sgt c3_i32_653 c0_i32_656
  let v1198 : BitVec 32 := Scalar.extui v1197
  let c0_i32_657 : BitVec 32 := 0#32
  let v1199 : BitVec 1 := Scalar.cmpi .slt c3_i32_653 c0_i32_657
  let v1200 : BitVec 32 := Scalar.extui v1199
  let v1201 : BitVec 32 := Scalar.subi v1198 v1200
  let v1202 : BitVec 1 := Scalar.cmpi .ne v1196 v1201
  let v1203 : BitVec 32 := Scalar.remsi arg15 c3_i32_653
  let c0_i32_658 : BitVec 32 := 0#32
  let v1204 : BitVec 1 := Scalar.cmpi .ne v1203 c0_i32_658
  let v1205 : BitVec 1 := Scalar.andi v1202 v1204
  let v1191 : BitVec 32 := Scalar.divsi arg15 c3_i32_653
  let c1_i32_659 : BitVec 32 := 1#32
  let v1206 : BitVec 32 := Scalar.subi v1191 c1_i32_659
  let v1207 : BitVec 32 := Scalar.select v1205 v1206 v1191
  let c3_i32_660 : BitVec 32 := 3#32
  let v1208 : BitVec 32 := Scalar.muli v1207 c3_i32_660
  let v1209 : BitVec 32 := Scalar.subi arg15 v1208
  let c2_i32_700 : BitVec 32 := 2#32
  let v1279 : BitVec 1 := Scalar.cmpi .eq v1209 c2_i32_700
  let v1280 : BitVec 32 := Scalar.extui v1279
  let c0_i32_701 : BitVec 32 := 0#32
  let v1281 : BitVec 1 := Scalar.cmpi .ne v1280 c0_i32_701
  v1281

def k0_mult75 (k0_t1 : Fin k0_t1_loop.trips) : BitVec 32 :=
  let c0_i32_650 : BitVec 32 := 0#32
  let c1_i32_651 : BitVec 32 := 1#32
  let arg15 : BitVec 32 := Scf.iv c0_i32_650 c1_i32_651 k0_t1
  let c0_i32_654 : BitVec 32 := 0#32
  let v1192 : BitVec 1 := Scalar.cmpi .sgt arg15 c0_i32_654
  let v1193 : BitVec 32 := Scalar.extui v1192
  let c0_i32_655 : BitVec 32 := 0#32
  let v1194 : BitVec 1 := Scalar.cmpi .slt arg15 c0_i32_655
  let v1195 : BitVec 32 := Scalar.extui v1194
  let v1196 : BitVec 32 := Scalar.subi v1193 v1195
  let c3_i32_653 : BitVec 32 := 3#32
  let c0_i32_656 : BitVec 32 := 0#32
  let v1197 : BitVec 1 := Scalar.cmpi .sgt c3_i32_653 c0_i32_656
  let v1198 : BitVec 32 := Scalar.extui v1197
  let c0_i32_657 : BitVec 32 := 0#32
  let v1199 : BitVec 1 := Scalar.cmpi .slt c3_i32_653 c0_i32_657
  let v1200 : BitVec 32 := Scalar.extui v1199
  let v1201 : BitVec 32 := Scalar.subi v1198 v1200
  let v1202 : BitVec 1 := Scalar.cmpi .ne v1196 v1201
  let v1203 : BitVec 32 := Scalar.remsi arg15 c3_i32_653
  let c0_i32_658 : BitVec 32 := 0#32
  let v1204 : BitVec 1 := Scalar.cmpi .ne v1203 c0_i32_658
  let v1205 : BitVec 1 := Scalar.andi v1202 v1204
  let v1191 : BitVec 32 := Scalar.divsi arg15 c3_i32_653
  let c1_i32_659 : BitVec 32 := 1#32
  let v1206 : BitVec 32 := Scalar.subi v1191 c1_i32_659
  let v1207 : BitVec 32 := Scalar.select v1205 v1206 v1191
  let c1_i32_702 : BitVec 32 := 1#32
  let v1282 : BitVec 32 := Scalar.addi v1207 c1_i32_702
  let c512_i32_703 : BitVec 32 := 512#32
  let v1283 : BitVec 32 := Scalar.muli v1282 c512_i32_703
  v1283
def k0_off69 (k0_t1 : Fin k0_t1_loop.trips) : Fin 2 → Nat :=
  let c0_708 : Index := 0#32
  let c0_i32_650 : BitVec 32 := 0#32
  let c1_i32_651 : BitVec 32 := 1#32
  let arg15 : BitVec 32 := Scf.iv c0_i32_650 c1_i32_651 k0_t1
  let c0_i32_654 : BitVec 32 := 0#32
  let v1192 : BitVec 1 := Scalar.cmpi .sgt arg15 c0_i32_654
  let v1193 : BitVec 32 := Scalar.extui v1192
  let c0_i32_655 : BitVec 32 := 0#32
  let v1194 : BitVec 1 := Scalar.cmpi .slt arg15 c0_i32_655
  let v1195 : BitVec 32 := Scalar.extui v1194
  let v1196 : BitVec 32 := Scalar.subi v1193 v1195
  let c3_i32_653 : BitVec 32 := 3#32
  let c0_i32_656 : BitVec 32 := 0#32
  let v1197 : BitVec 1 := Scalar.cmpi .sgt c3_i32_653 c0_i32_656
  let v1198 : BitVec 32 := Scalar.extui v1197
  let c0_i32_657 : BitVec 32 := 0#32
  let v1199 : BitVec 1 := Scalar.cmpi .slt c3_i32_653 c0_i32_657
  let v1200 : BitVec 32 := Scalar.extui v1199
  let v1201 : BitVec 32 := Scalar.subi v1198 v1200
  let v1202 : BitVec 1 := Scalar.cmpi .ne v1196 v1201
  let v1203 : BitVec 32 := Scalar.remsi arg15 c3_i32_653
  let c0_i32_658 : BitVec 32 := 0#32
  let v1204 : BitVec 1 := Scalar.cmpi .ne v1203 c0_i32_658
  let v1205 : BitVec 1 := Scalar.andi v1202 v1204
  let v1191 : BitVec 32 := Scalar.divsi arg15 c3_i32_653
  let c1_i32_659 : BitVec 32 := 1#32
  let v1206 : BitVec 32 := Scalar.subi v1191 c1_i32_659
  let v1207 : BitVec 32 := Scalar.select v1205 v1206 v1191
  let c1_i32_702 : BitVec 32 := 1#32
  let v1282 : BitVec 32 := Scalar.addi v1207 c1_i32_702
  let c512_i32_703 : BitVec 32 := 512#32
  let v1283 : BitVec 32 := Scalar.muli v1282 c512_i32_703
  let v1284 : BitVec 32 := v1283
  let v1288 : Index := Scalar.indexCast v1284
  ![0, v1288.toNat]
def k0_off70 (k0_t1 : Fin k0_t1_loop.trips) : Fin 2 → Nat :=
  let c0_709 : Index := 0#32
  let c0_i32_650 : BitVec 32 := 0#32
  let c1_i32_651 : BitVec 32 := 1#32
  let arg15 : BitVec 32 := Scf.iv c0_i32_650 c1_i32_651 k0_t1
  let c0_i32_654 : BitVec 32 := 0#32
  let v1192 : BitVec 1 := Scalar.cmpi .sgt arg15 c0_i32_654
  let v1193 : BitVec 32 := Scalar.extui v1192
  let c0_i32_655 : BitVec 32 := 0#32
  let v1194 : BitVec 1 := Scalar.cmpi .slt arg15 c0_i32_655
  let v1195 : BitVec 32 := Scalar.extui v1194
  let v1196 : BitVec 32 := Scalar.subi v1193 v1195
  let c3_i32_653 : BitVec 32 := 3#32
  let c0_i32_656 : BitVec 32 := 0#32
  let v1197 : BitVec 1 := Scalar.cmpi .sgt c3_i32_653 c0_i32_656
  let v1198 : BitVec 32 := Scalar.extui v1197
  let c0_i32_657 : BitVec 32 := 0#32
  let v1199 : BitVec 1 := Scalar.cmpi .slt c3_i32_653 c0_i32_657
  let v1200 : BitVec 32 := Scalar.extui v1199
  let v1201 : BitVec 32 := Scalar.subi v1198 v1200
  let v1202 : BitVec 1 := Scalar.cmpi .ne v1196 v1201
  let v1203 : BitVec 32 := Scalar.remsi arg15 c3_i32_653
  let c0_i32_658 : BitVec 32 := 0#32
  let v1204 : BitVec 1 := Scalar.cmpi .ne v1203 c0_i32_658
  let v1205 : BitVec 1 := Scalar.andi v1202 v1204
  let v1191 : BitVec 32 := Scalar.divsi arg15 c3_i32_653
  let c1_i32_659 : BitVec 32 := 1#32
  let v1206 : BitVec 32 := Scalar.subi v1191 c1_i32_659
  let v1207 : BitVec 32 := Scalar.select v1205 v1206 v1191
  let c1_i32_702 : BitVec 32 := 1#32
  let v1282 : BitVec 32 := Scalar.addi v1207 c1_i32_702
  let c512_i32_703 : BitVec 32 := 512#32
  let v1283 : BitVec 32 := Scalar.muli v1282 c512_i32_703
  let v1284 : BitVec 32 := v1283
  let v1295 : Index := Scalar.indexCast v1284
  ![0, v1295.toNat]
def k0_mult76 (k0_t1 : Fin k0_t1_loop.trips) : BitVec 32 :=
  let c12288_i32_710 : BitVec 32 := 12288#32
  let c0_i32_650 : BitVec 32 := 0#32
  let c1_i32_651 : BitVec 32 := 1#32
  let arg15 : BitVec 32 := Scf.iv c0_i32_650 c1_i32_651 k0_t1
  let c0_i32_654 : BitVec 32 := 0#32
  let v1192 : BitVec 1 := Scalar.cmpi .sgt arg15 c0_i32_654
  let v1193 : BitVec 32 := Scalar.extui v1192
  let c0_i32_655 : BitVec 32 := 0#32
  let v1194 : BitVec 1 := Scalar.cmpi .slt arg15 c0_i32_655
  let v1195 : BitVec 32 := Scalar.extui v1194
  let v1196 : BitVec 32 := Scalar.subi v1193 v1195
  let c3_i32_653 : BitVec 32 := 3#32
  let c0_i32_656 : BitVec 32 := 0#32
  let v1197 : BitVec 1 := Scalar.cmpi .sgt c3_i32_653 c0_i32_656
  let v1198 : BitVec 32 := Scalar.extui v1197
  let c0_i32_657 : BitVec 32 := 0#32
  let v1199 : BitVec 1 := Scalar.cmpi .slt c3_i32_653 c0_i32_657
  let v1200 : BitVec 32 := Scalar.extui v1199
  let v1201 : BitVec 32 := Scalar.subi v1198 v1200
  let v1202 : BitVec 1 := Scalar.cmpi .ne v1196 v1201
  let v1203 : BitVec 32 := Scalar.remsi arg15 c3_i32_653
  let c0_i32_658 : BitVec 32 := 0#32
  let v1204 : BitVec 1 := Scalar.cmpi .ne v1203 c0_i32_658
  let v1205 : BitVec 1 := Scalar.andi v1202 v1204
  let v1191 : BitVec 32 := Scalar.divsi arg15 c3_i32_653
  let c1_i32_659 : BitVec 32 := 1#32
  let v1206 : BitVec 32 := Scalar.subi v1191 c1_i32_659
  let v1207 : BitVec 32 := Scalar.select v1205 v1206 v1191
  let c1_i32_702 : BitVec 32 := 1#32
  let v1282 : BitVec 32 := Scalar.addi v1207 c1_i32_702
  let c512_i32_703 : BitVec 32 := 512#32
  let v1283 : BitVec 32 := Scalar.muli v1282 c512_i32_703
  let v1284 : BitVec 32 := v1283
  let v1297 : BitVec 32 := Scalar.addi c12288_i32_710 v1284
  v1297
def k0_off71 (k0_t1 : Fin k0_t1_loop.trips) : Fin 2 → Nat :=
  let c0_715 : Index := 0#32
  let c12288_i32_710 : BitVec 32 := 12288#32
  let c0_i32_650 : BitVec 32 := 0#32
  let c1_i32_651 : BitVec 32 := 1#32
  let arg15 : BitVec 32 := Scf.iv c0_i32_650 c1_i32_651 k0_t1
  let c0_i32_654 : BitVec 32 := 0#32
  let v1192 : BitVec 1 := Scalar.cmpi .sgt arg15 c0_i32_654
  let v1193 : BitVec 32 := Scalar.extui v1192
  let c0_i32_655 : BitVec 32 := 0#32
  let v1194 : BitVec 1 := Scalar.cmpi .slt arg15 c0_i32_655
  let v1195 : BitVec 32 := Scalar.extui v1194
  let v1196 : BitVec 32 := Scalar.subi v1193 v1195
  let c3_i32_653 : BitVec 32 := 3#32
  let c0_i32_656 : BitVec 32 := 0#32
  let v1197 : BitVec 1 := Scalar.cmpi .sgt c3_i32_653 c0_i32_656
  let v1198 : BitVec 32 := Scalar.extui v1197
  let c0_i32_657 : BitVec 32 := 0#32
  let v1199 : BitVec 1 := Scalar.cmpi .slt c3_i32_653 c0_i32_657
  let v1200 : BitVec 32 := Scalar.extui v1199
  let v1201 : BitVec 32 := Scalar.subi v1198 v1200
  let v1202 : BitVec 1 := Scalar.cmpi .ne v1196 v1201
  let v1203 : BitVec 32 := Scalar.remsi arg15 c3_i32_653
  let c0_i32_658 : BitVec 32 := 0#32
  let v1204 : BitVec 1 := Scalar.cmpi .ne v1203 c0_i32_658
  let v1205 : BitVec 1 := Scalar.andi v1202 v1204
  let v1191 : BitVec 32 := Scalar.divsi arg15 c3_i32_653
  let c1_i32_659 : BitVec 32 := 1#32
  let v1206 : BitVec 32 := Scalar.subi v1191 c1_i32_659
  let v1207 : BitVec 32 := Scalar.select v1205 v1206 v1191
  let c1_i32_702 : BitVec 32 := 1#32
  let v1282 : BitVec 32 := Scalar.addi v1207 c1_i32_702
  let c512_i32_703 : BitVec 32 := 512#32
  let v1283 : BitVec 32 := Scalar.muli v1282 c512_i32_703
  let v1284 : BitVec 32 := v1283
  let v1297 : BitVec 32 := Scalar.addi c12288_i32_710 v1284
  let v1298 : BitVec 32 := v1297
  let v1302 : Index := Scalar.indexCast v1298
  ![0, v1302.toNat]
def k0_off72 (k0_t1 : Fin k0_t1_loop.trips) : Fin 2 → Nat :=
  let c0_716 : Index := 0#32
  let c0_i32_650 : BitVec 32 := 0#32
  let c1_i32_651 : BitVec 32 := 1#32
  let arg15 : BitVec 32 := Scf.iv c0_i32_650 c1_i32_651 k0_t1
  let c0_i32_654 : BitVec 32 := 0#32
  let v1192 : BitVec 1 := Scalar.cmpi .sgt arg15 c0_i32_654
  let v1193 : BitVec 32 := Scalar.extui v1192
  let c0_i32_655 : BitVec 32 := 0#32
  let v1194 : BitVec 1 := Scalar.cmpi .slt arg15 c0_i32_655
  let v1195 : BitVec 32 := Scalar.extui v1194
  let v1196 : BitVec 32 := Scalar.subi v1193 v1195
  let c3_i32_653 : BitVec 32 := 3#32
  let c0_i32_656 : BitVec 32 := 0#32
  let v1197 : BitVec 1 := Scalar.cmpi .sgt c3_i32_653 c0_i32_656
  let v1198 : BitVec 32 := Scalar.extui v1197
  let c0_i32_657 : BitVec 32 := 0#32
  let v1199 : BitVec 1 := Scalar.cmpi .slt c3_i32_653 c0_i32_657
  let v1200 : BitVec 32 := Scalar.extui v1199
  let v1201 : BitVec 32 := Scalar.subi v1198 v1200
  let v1202 : BitVec 1 := Scalar.cmpi .ne v1196 v1201
  let v1203 : BitVec 32 := Scalar.remsi arg15 c3_i32_653
  let c0_i32_658 : BitVec 32 := 0#32
  let v1204 : BitVec 1 := Scalar.cmpi .ne v1203 c0_i32_658
  let v1205 : BitVec 1 := Scalar.andi v1202 v1204
  let v1191 : BitVec 32 := Scalar.divsi arg15 c3_i32_653
  let c1_i32_659 : BitVec 32 := 1#32
  let v1206 : BitVec 32 := Scalar.subi v1191 c1_i32_659
  let v1207 : BitVec 32 := Scalar.select v1205 v1206 v1191
  let c1_i32_702 : BitVec 32 := 1#32
  let v1282 : BitVec 32 := Scalar.addi v1207 c1_i32_702
  let c512_i32_703 : BitVec 32 := 512#32
  let v1283 : BitVec 32 := Scalar.muli v1282 c512_i32_703
  let v1284 : BitVec 32 := v1283
  let v1309 : Index := Scalar.indexCast v1284
  ![0, v1309.toNat]
abbrev stage0_0 : Fin 1 → Memref sig .tc .vmem S72x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x26816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S72x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S72x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S72x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S72x6144 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S72x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceInIdeal.lean ====
abbrev S72x1x6144 : Shape := ⟨3, ![72, 1, 6144]⟩
abbrev S6144x26816 : Shape := ⟨2, ![6144, 26816]⟩
abbrev S26816 : Shape := ⟨1, ![26816]⟩
abbrev S192 : Shape := ⟨1, ![192]⟩
abbrev S72x6144 : Shape := ⟨2, ![72, 6144]⟩
abbrev S1x26816 : Shape := ⟨2, ![1, 26816]⟩
abbrev S1x192 : Shape := ⟨2, ![1, 192]⟩
abbrev S72x12288 : Shape := ⟨2, ![72, 12288]⟩
abbrev S72x14336 : Shape := ⟨2, ![72, 14336]⟩
abbrev S72x192 : Shape := ⟨2, ![72, 192]⟩
abbrev S72x1 : Shape := ⟨2, ![72, 1]⟩
abbrev S72 : Shape := ⟨1, ![72]⟩
abbrev S72x26816 : Shape := ⟨2, ![72, 26816]⟩

abbrev nBuf : Space → Nat
  | .hbm => 12
  | .vmem => 9
  | .smem => 0
  | _ => 0

abbrev bufTy : (tb : Table) → Fin (tcTables nBuf tb) → BufTy
  | .hbm, ⟨0, _⟩ => ⟨S72x1x6144, .bf16⟩
  | .hbm, ⟨1, _⟩ => ⟨S6144x26816, .i8⟩
  | .hbm, ⟨2, _⟩ => ⟨S26816, .f32⟩
  | .hbm, ⟨3, _⟩ => ⟨S192, .f32⟩
  | .hbm, ⟨4, _⟩ => ⟨S72x6144, .bf16⟩
  | .hbm, ⟨5, _⟩ => ⟨S1x26816, .f32⟩
  | .hbm, ⟨6, _⟩ => ⟨S1x192, .f32⟩
  | .hbm, ⟨7, _⟩ => ⟨S72x12288, .f32⟩
  | .hbm, ⟨8, _⟩ => ⟨S72x14336, .f32⟩
  | .hbm, ⟨9, _⟩ => ⟨S72x192, .f32⟩
  | .hbm, ⟨10, _⟩ => ⟨S72x6144, .i8⟩
  | .hbm, ⟨11, _⟩ => ⟨S72x1, .f32⟩
  | .local _ .vmem, ⟨0, _⟩ => ⟨S72x6144, .bf16⟩
  | .local _ .vmem, ⟨1, _⟩ => ⟨S6144x26816, .i8⟩
  | .local _ .vmem, ⟨2, _⟩ => ⟨S1x26816, .f32⟩
  | .local _ .vmem, ⟨3, _⟩ => ⟨S1x192, .f32⟩
  | .local _ .vmem, ⟨4, _⟩ => ⟨S72x12288, .f32⟩
  | .local _ .vmem, ⟨5, _⟩ => ⟨S72x14336, .f32⟩
  | .local _ .vmem, ⟨6, _⟩ => ⟨S72x192, .f32⟩
  | .local _ .vmem, ⟨7, _⟩ => ⟨S72x6144, .i8⟩
  | .local _ .vmem, ⟨8, _⟩ => ⟨S72x1, .f32⟩
  | _, _ => ⟨S72x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S72x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x26816 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x26816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S72x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S72x14336 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S72x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S72x6144 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S72x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.OutTrip.lean ====
module

public import proofs.«01_k».proof.Defs
public import proofs.«01_k».proof.Proof.Gen.KernelOut.Launch
public import proofs.«01_k».proof.Proof.Gen.KernelOut.Skeleton
public import proofs.«01_k».proof.Proof.Gen.KernelOut.Loops
public import proofs.«01_k».proof.Proof.Gen.KernelOut.Points
public import Idealize.ShloMosaic.Lib.Pipeline.KitQuiescent
public import Idealize.ShloMosaic.Lib.Ring
public import Idealize.ShloMosaic.Lib.Ring.AtN
public import Idealize.ShloMosaic.Lib.Affine
public import Idealize.ShloMosaic.Lib.Tactic
public import Idealize.ShloMosaic.Lib.ValueIdxCore
public import Idealize.ShloMosaic.Lib.VecWindow
public import Idealize.ShloMosaic.Lib.Pipeline.Value

@[expose] public section

noncomputable section

namespace Cert.Proof.Out

open Cert.KernelOut Cert.KernelOut.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The resource algebra: the pipeline library's, beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## Canonical names: row block `b` of the weights, slot `s` of the ring buffer, slot `s`'s semaphore -/

abbrev wM : Memref sig .tc .hbm S12288x6144 .i8 := Memref.whole main_arg1
abbrev bufM : Memref sig .tc .vmem S4x512x6144 .i8 := Memref.whole cc0_scratch0
abbrev mxM : Memref sig .tc .vmem S72x128 .f32 := Memref.whole cc0_scratch1
abbrev gqM : Memref sig .tc .vmem S24x72x512 .bf16 := Memref.whole cc0_scratch2
abbrev accM : Memref sig .tc .vmem S72x6144 .f32 := Memref.whole cc0_scratch3

abbrev blkOff (b : Fin 24) : Fin 2 → Nat := ![512 * b.val, 0]
theorem blkOff_inb (b : Fin 24) : ∀ a, blkOff b a + S512x6144.size a ≤ S12288x6144.size a := by
  have := b.isLt; intro a; fin_cases a
  · show 512 * b.val + 512 ≤ 12288; omega
  · show 0 + 6144 ≤ 6144; omega
abbrev slotOff (s : Fin 4) : Fin 3 → Nat := ![s.val, 0, 0]
theorem slotOff_inb (s : Fin 4) : ∀ a, slotOff s a + S1x512x6144.size a ≤ S4x512x6144.size a := by
  have := s.isLt; intro a; fin_cases a
  · show s.val + 1 ≤ 4; omega
  · show 0 + 512 ≤ 512; omega
  · show 0 + 6144 ≤ 6144; omega
abbrev semOff (s : Fin 4) : Fin 1 → Nat := ![s.val]
theorem semOff_inb (s : Fin 4) : ∀ a, semOff s a + S1.size a ≤ S4.size a := by
  have := s.isLt; intro a; fin_cases a; show s.val + 1 ≤ 4; omega

/-- Row block `b` of the weights (512 rows), as the body slices it. -/
def blk (b : Fin 24) : Memref sig .tc .hbm S512x6144 .i8 :=
  wM.slice (Rect.unit (s := S12288x6144) (blkOff b) S512x6144.size (blkOff_inb b)) (fun _ => rfl)
/-- Slot `s` of the ring buffer, as the body slices and squeezes it. -/
def rslot (s : Fin 4) : Memref sig .tc .vmem S512x6144 .i8 :=
  (bufM.slice (Rect.unit (s := S4x512x6144) (slotOff s) S1x512x6144.size (slotOff_inb s)) (fun _ => rfl)).squeeze S512x6144 squeezes_S1x512x6144_S512x6144
/-- Slot `s`'s semaphore. -/
def csm (s : Fin 4) : DmaSems sig S_ := (cc0_scratch4.slice (Rect.unit (s := S4) (semOff s) S1.size (semOff_inb s))).squeeze S_ squeezes_S1_S_

instance (s : Fin 4) : ClosedOff (slotOff s) := ⟨slotOff s, rfl⟩
instance (b : Fin 24) : ClosedOff (blkOff b) := ⟨blkOff b, rfl⟩

/-! ### The printed offsets in closed form, checked trip by trip -/

theorem off1_eq : ∀ r : Fin 3, k0_off1 (BitVec.ofNat 32 r.val) = semOff (Ring.sl 4 r.val) := by decide +kernel
theorem off2_eq : ∀ r : Fin 3, k0_off2 (BitVec.ofNat 32 r.val) = slotOff (Ring.sl 4 r.val) := by decide +kernel
theorem off3_eq : ∀ r : Fin 3, k0_off3 (BitVec.ofNat 32 r.val) = blkOff (Ring.bk 24 r.val) := by decide +kernel
theorem off5_eq : ∀ k : Fin k0_t2_loop.trips, k0_off5 k = semOff (Ring.sl 4 (k.val + 3)) := by decide +kernel
theorem off6_eq : ∀ k : Fin k0_t2_loop.trips, k0_off6 k = slotOff (Ring.sl 4 (k.val + 3)) := by decide +kernel
theorem off7_eq : ∀ k : Fin k0_t2_loop.trips, k.val + 3 < 24 → k0_off7 k = blkOff (Ring.bk 24 (k.val + 3)) := by decide +kernel
theorem off8_eq : ∀ k : Fin k0_t2_loop.trips, k0_off8 k = semOff (Ring.sl 4 k.val) := by decide +kernel
theorem off9_eq : ∀ k : Fin k0_t2_loop.trips, k0_off9 k = slotOff (Ring.sl 4 k.val) := by decide +kernel
theorem off10_eq : ∀ k : Fin k0_t2_loop.trips, k0_off10 k = blkOff (Ring.bk 24 k.val) := by decide +kernel
theorem off11_eq : ∀ k : Fin k0_t2_loop.trips, k0_off11 k = ![k.val, 0, 0] := by decide +kernel
theorem off12_eq : ∀ k : Fin k0_t2_loop.trips, k0_off12 k = slotOff (Ring.sl 4 k.val) := by decide +kernel
theorem cond1_pos : ∀ k : Fin k0_t2_loop.trips, k.val + 3 < 24 → k0_cond1 k = 1#1 := by decide +kernel
theorem cond1_neg : ∀ k : Fin k0_t2_loop.trips, 24 ≤ k.val + 3 → ¬k0_cond1 k = 1#1 := by decide +kernel
theorem trips2 : k0_t2_loop.trips = 24 := by decide +kernel

instance (k : Fin k0_t2_loop.trips) : ClosedOff (k0_off11 k) := ⟨![k.val, 0, 0], off11_eq k⟩
instance (k : Fin k0_t2_loop.trips) : ClosedOff (k0_off12 k) := ⟨slotOff (Ring.sl 4 k.val), off12_eq k⟩

private theorem csm_congr {off : Fin 1 → Nat} {s : Fin 4} (e : off = semOff s) (hh) :
    (cc0_scratch4.slice (Rect.unit (s := S4) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 4} (e : off = slotOff s) (hh hs) :
    (bufM.slice (Rect.unit (s := S4x512x6144) off S1x512x6144.size hh) hs).squeeze S512x6144 squeezes_S1x512x6144_S512x6144 = rslot s :=
  congrArg (fun M : Memref sig .tc .vmem S1x512x6144 .i8 => M.squeeze S512x6144 squeezes_S1x512x6144_S512x6144) (Memref.slice_unit_congr _ e _ _ _ _)
private theorem blk_congr {off : Fin 2 → Nat} {b : Fin 24} (e : off = blkOff b) (hh hs) :
    wM.slice (Rect.unit (s := S12288x6144) off S512x6144.size hh) hs = blk b := Memref.slice_unit_congr _ e _ _ hs (fun _ => rfl)

@[sl_canon] theorem semP0 (hh) : (cc0_scratch4.slice (Rect.unit (s := S4) (k0_off1 0#32) S1.size hh)).squeeze S_ squeezes_S1_S_ = csm 0 := csm_congr (off1_eq 0) _
@[sl_canon] theorem semP1 (hh) : (cc0_scratch4.slice (Rect.unit (s := S4) (k0_off1 1#32) S1.size hh)).squeeze S_ squeezes_S1_S_ = csm 1 := csm_congr (off1_eq 1) _
@[sl_canon] theorem semP2 (hh) : (cc0_scratch4.slice (Rect.unit (s := S4) (k0_off1 2#32) S1.size hh)).squeeze S_ squeezes_S1_S_ = csm 2 := csm_congr (off1_eq 2) _
@[sl_canon] theorem slotP0 (hh hs) : (bufM.slice (Rect.unit (s := S4x512x6144) (k0_off2 0#32) S1x512x6144.size hh) hs).squeeze S512x6144 squeezes_S1x512x6144_S512x6144 = rslot 0 := rslot_congr (off2_eq 0) _ _
@[sl_canon] theorem slotP1 (hh hs) : (bufM.slice (Rect.unit (s := S4x512x6144) (k0_off2 1#32) S1x512x6144.size hh) hs).squeeze S512x6144 squeezes_S1x512x6144_S512x6144 = rslot 1 := rslot_congr (off2_eq 1) _ _
@[sl_canon] theorem slotP2 (hh hs) : (bufM.slice (Rect.unit (s := S4x512x6144) (k0_off2 2#32) S1x512x6144.size hh) hs).squeeze S512x6144 squeezes_S1x512x6144_S512x6144 = rslot 2 := rslot_congr (off2_eq 2) _ _
@[sl_canon] theorem blkP0 (hh hs) : wM.slice (Rect.unit (s := S12288x6144) (k0_off3 0#32) S512x6144.size hh) hs = blk 0 := blk_congr (off3_eq 0) _ _
@[sl_canon] theorem blkP1 (hh hs) : wM.slice (Rect.unit (s := S12288x6144) (k0_off3 1#32) S512x6144.size hh) hs = blk 1 := blk_congr (off3_eq 1) _ _
@[sl_canon] theorem blkP2 (hh hs) : wM.slice (Rect.unit (s := S12288x6144) (k0_off3 2#32) S512x6144.size hh) hs = blk 2 := blk_congr (off3_eq 2) _ _
@[sl_canon] theorem semI (k : Fin k0_t2_loop.trips) (hh) :
    (cc0_scratch4.slice (Rect.unit (s := S4) (k0_off5 k) S1.size hh)).squeeze S_ squeezes_S1_S_ = csm (Ring.sl 4 (k.val + 3)) := csm_congr (off5_eq k) _
@[sl_canon] theorem slotI (k : Fin k0_t2_loop.trips) (hh hs) :
    (bufM.slice (Rect.unit (s := S4x512x6144) (k0_off6 k) S1x512x6144.size hh) hs).squeeze S512x6144 squeezes_S1x512x6144_S512x6144 = rslot (Ring.sl 4 (k.val + 3)) := rslot_congr (off6_eq k) _ _
@[sl_canon] theorem blkI (k : Fin k0_t2_loop.trips) (hk : k.val + 3 < 24) (hh hs) :
    wM.slice (Rect.unit (s := S12288x6144) (k0_off7 k) S512x6144.size hh) hs = blk (Ring.bk 24 (k.val + 3)) := blk_congr (off7_eq k hk) _ _
@[sl_canon] theorem semW (k : Fin k0_t2_loop.trips) (hh) :
    (cc0_scratch4.slice (Rect.unit (s := S4) (k0_off8 k) S1.size hh)).squeeze S_ squeezes_S1_S_ = csm (Ring.sl 4 k.val) := csm_congr (off8_eq k) _
@[sl_canon] theorem slotW (k : Fin k0_t2_loop.trips) (hh hs) :
    (bufM.slice (Rect.unit (s := S4x512x6144) (k0_off9 k) S1x512x6144.size hh) hs).squeeze S512x6144 squeezes_S1x512x6144_S512x6144 = rslot (Ring.sl 4 k.val) := rslot_congr (off9_eq k) _ _
@[sl_canon] theorem blkW (k : Fin k0_t2_loop.trips) (hh hs) :
    wM.slice (Rect.unit (s := S12288x6144) (k0_off10 k) S512x6144.size hh) hs = blk (Ring.bk 24 k.val) := blk_congr (off10_eq k) _ _

/-! ## The pieces: a row block home, a slot held, a slot's semaphore at zero, a slot in flight -/

section Pieces
variable (c : Dev nD) (XW : Buf (Elt F) (wM.view.loc (c : Thread nD τ)))

abbrev cellP (s : Fin 4) : sProp 𝕄 := semVal ((c : Thread nD τ), SemLoc.dma (csm s).sem) 0
abbrev slotP (s : Fin 4) (f : Buf (Elt F) ((rslot s).view.loc (c : Thread nD τ))) : sProp 𝕄 :=
  (rslot s).view.loc (c : Thread nD τ) ↦[(rslot s).view.set]{fullShare} f
abbrev homeP (b : Fin 24) : sProp 𝕄 := (blk b).view.loc (c : Thread nD τ) ↦[(blk b).view.set]{fullShare} XW
/-- Row block `b`'s words as a slot's payload. -/
abbrev payload (b : Fin 24) : S512x6144.Idx → Elt F .i8 := ReadAs.same.apply ((blk b).view.read (Elt F) XW)
/-- What row block `b`'s transfer leaves in slot `s` over prior contents `f`. -/
abbrev landed (s : Fin 4) (b : Fin 24) (f : Buf (Elt F) ((rslot s).view.loc (c : Thread nD τ))) : Buf (Elt F) ((rslot s).view.loc (c : Thread nD τ)) :=
  (rslot s).view.writes (Elt F) f [⟨Rect.whole S512x6144, payload c XW b⟩]
/-- The units one transfer puts on its semaphore. -/
abbrev NN : ℕ := 98304
/-- Slot `s` in flight with row block `b`, issued over `f`. -/
abbrev flightP (s : Fin 4) (b : Fin 24) (f : Buf (Elt F) ((rslot s).view.loc (c : Thread nD τ))) : sProp 𝕄 :=
  Transfers.Flight countersEmb (c : Thread nD τ) (SemLoc.dma (csm s).sem) () NN iprop(slotP c s (landed c XW s b f) ∗ homeP c XW b)

/-- The ring before trip `k` of the product loop: blocks `k`, `k + 1`, `k + 2` in flight, the others home. -/
abbrev ringAt (k : ℕ) : sProp 𝕄 := Ring.At 3 (cellP c) (slotP c) (homeP c XW) (flightP c XW) k

end Pieces

/-! ## One trip of the product loop -/

section Trip2

variable (c : Dev nD) (XW : Buf (Elt F) (wM.view.loc (c : Thread nD τ)))
  (arg0 : Memref sig .tc .vmem S72x12288 .f32) (harg0 : arg0.IsWhole)
  (arg1 : Memref sig .tc .vmem S1x6144 .f32) (harg1 : arg1.IsWhole)
  (arg3 : Memref sig .tc .vmem S72x6144 .bf16) (harg3 : arg3.IsWhole)
  (arg4 : Memref sig .tc .vmem S72x12288 .i8) (harg4 : arg4.IsWhole)
  (arg5 : Memref sig .tc .vmem S72x1 .f32) (harg5 : arg5.IsWhole)

abbrev accP (f : Buf (Elt F) (accM.view.loc (c : Thread nD τ))) : sProp 𝕄 := accM.view.loc (c : Thread nD τ) ↦[accM.view.set]{fullShare} f
abbrev gqP (f : Buf (Elt F) (gqM.view.loc (c : Thread nD τ))) : sProp 𝕄 := gqM.view.loc (c : Thread nD τ) ↦[gqM.view.set]{fullShare} f

abbrev trip2 (k : Fin k0_t2_loop.trips) : Prog (TpuEff nD τ sig (Elt F) Λ₀ .tc) Unit :=
  k0_t2_body (F := F) arg0 harg0 arg1 harg1 wM (Memref.isWhole_whole _) arg3 harg3 arg4 harg4 arg5 harg5 bufM (Memref.isWhole_whole _) mxM (Memref.isWhole_whole _) gqM (Memref.isWhole_whole _) accM (Memref.isWhole_whole _) cc0_scratch4 k ()

/-- Row block `b` of the quantised rows, as the trip loads it. -/
abbrev gqBlk (fq : Buf (Elt F) (gqM.view.loc (c : Thread nD τ))) (b : ℕ) : Vec F S1x72x512 .bf16 :=
  fun i => gqM.view.read (Elt F) fq (ix3 (⟨b % 24, Nat.mod_lt _ (by decide)⟩ : Fin 24) (i 1) (i 2))
/-- Row block `b` of the weights, as the trip loads it from its slot. -/
abbrev wBlk (b : ℕ) : Vec F S1x512x6144 .i8 :=
  shapeCast S1x512x6144 ((blk (Ring.bk 24 b)).view.read (Elt F) XW) rfl
/-- The accumulator before trip `k`, from `A0` on, the quantised row blocks being `G`. -/
def accAt (G : ℕ → Vec F S1x72x512 .bf16) (A0 : Vec F S72x6144 .f32) : ℕ → Vec F S72x6144 .f32
  | 0 => A0
  | k + 1 => k0_pay97 (accAt G A0 k) (G k) (wBlk c XW k)

theorem accAt_congr (G G' : ℕ → Vec F S1x72x512 .bf16) (A0 : Vec F S72x6144 .f32) (n : ℕ) (h : ∀ b, b < n → G b = G' b) :
    accAt c XW G A0 n = accAt c XW G' A0 n := by
  induction n with
  | zero => rfl
  | succ n ih => rw [accAt, accAt, ih fun b hb => h b (by omega), h n (by omega)]

omit [FloatOps F] in
theorem gq_readAt (k : Fin k0_t2_loop.trips) (inb) (fq : Buf (Elt F) (gqM.view.loc (c : Thread nD τ))) :
    View.readAt (Elt F) gqM.view (Rect.unit (s := S24x72x512) (k0_off11 k) S1x72x512.size inb).toLoadRect fq = gqBlk c fq k := by
  funext i
  refine congrArg (gqM.view.read (Elt F) fq) (funext fun a => Fin.ext ?_)
  have hk : k.val < 24 := trips2 ▸ k.isLt
  have h0 : (i 0).val < 1 := (i 0).isLt
  refine (congrArg (· + 1 * (i a).val) (congrFun (off11_eq k) a)).trans ?_
  fin_cases a
  · show k.val + 1 * (i 0).val = k.val % 24; rw [Nat.mod_eq_of_lt hk]; omega
  · show 0 + 1 * (i 1).val = (i 1).val; omega
  · show 0 + 1 * (i 2).val = (i 2).val; omega

omit [FloatOps F] in
theorem slot_readAt (k : Fin k0_t2_loop.trips) (inb) (b : Fin 24) (f : Buf (Elt F) ((rslot (Ring.sl 4 k.val)).view.loc (c : Thread nD τ))) :
    View.readAt (Elt F) bufM.view (Rect.unit (s := S4x512x6144) (k0_off12 k) S1x512x6144.size inb).toLoadRect (landed c XW (Ring.sl 4 k.val) b f)
      = shapeCast S1x512x6144 ((blk b).view.read (Elt F) XW) rfl := by
  have key : shapeCast S512x6144 (View.readAt (Elt F) bufM.view (Rect.unit (s := S4x512x6144) (k0_off12 k) S1x512x6144.size inb).toLoadRect (landed c XW (Ring.sl 4 k.val) b f)) shapeCasts_S1x512x6144_S512x6144
      = (blk b).view.read (Elt F) XW := by
    have h1 : (rslot (Ring.sl 4 k.val)).view.read (Elt F) (landed c XW (Ring.sl 4 k.val) b f) = (blk b).view.read (Elt F) XW := View.read_writes_whole _ _ _
    have h2 : ∀ (off : Fin 3 → Nat) (e : off = slotOff (Ring.sl 4 k.val)) (inb), shapeCast S512x6144 (View.readAt (Elt F) bufM.view (Rect.unit (s := S4x512x6144) off S1x512x6144.size inb).toLoadRect (landed c XW (Ring.sl 4 k.val) b f)) shapeCasts_S1x512x6144_S512x6144
        = (rslot (Ring.sl 4 k.val)).view.read (Elt F) (landed c XW (Ring.sl 4 k.val) b f) := by
      intro off e inb; subst e; rfl
    rw [h2 _ (off12_eq k), h1]
  rw [← key]
  exact (shapeCast_shapeCast _ _ _).symm

def resAt2 (fq : Buf (Elt F) (gqM.view.loc (c : Thread nD τ))) (A : Vec F S72x6144 .f32) (k : ℕ) : sProp 𝕄 :=
  iprop((∃ fo, accP c fo ∗ ⌜accM.view.read (Elt F) fo = A⌝) ∗ gqP c fq ∗ (∃ W, owes (c : Thread nD τ) 0 W) ∗ ringAt c XW k)

theorem trip2_start (k : Fin k0_t2_loop.trips) (hk : k.val + 3 < 24) (fq) (A : Vec F S72x6144 .f32) :
    resAt2 c XW fq A k ⊢ wp frame (wpE (defs₀ (F := F)) 𝒱₀ (c : Thread nD τ) none) Set.univ (trip2 arg0 harg0 arg1 harg1 arg3 harg3 arg4 harg4 arg5 harg5 k)
        (fun _ => resAt2 c XW fq (k0_pay97 A (gqBlk c fq k) (wBlk c XW k)) (k.val + 1)) := by
  have hc := cond1_pos k hk
  unfold resAt2 ringAt
  rw [Ring.At4_here _ _ _ _ k.val hk, Ring.At4_next _ _ _ _ k.val hk, Ring.slotAt4_next0 _ _ _ _ (by omega), Ring.slotAt4_next1 _ _ _ _ (by omega), Ring.slotAt4_next2 _ _ _ _ (by omega)]
  iintro ⟨⟨%fo, HO, %hfo⟩, HQ, ⟨%W, HW⟩, ⟨Hg, Hrest⟩, ⟨%f0, HF0⟩, ⟨%f1, HF1⟩, ⟨%f2, HF2⟩, ⟨Hc, ⟨%f3, Hs⟩⟩⟩
  dsimp only [trip2]
  sl_unfold [k0_t2_body]
  sl_exec
  sl_step
  isplitl [HO]
  · iexists _; isplitl [HO]; · iexact HO
    ipureintro
    subst hfo
    rw [View.read_writes_full]
    unfold trip2_start.sl.v409
    rw [View.readAt_full, gq_readAt, slot_readAt]
  isplitl [HQ]; · iexact HQ
  isplitl [HW]; · iexists _; iexact HW
  isplitl [HF0_src Hrest]
  · isplitl [HF0_src]; · iexact HF0_src
    iexact Hrest
  isplitl [HF1]; · iexists f1; iexact HF1
  isplitl [HF2]; · iexists f2; iexact HF2
  isplitl [Hc]; · iexists f3; iexact Hc
  isplitl [HF0]; · iexact HF0
  iexists _; iexact HF0_dst

theorem trip2_tail (k : Fin k0_t2_loop.trips) (hk : 24 ≤ k.val + 3) (fq) (A : Vec F S72x6144 .f32) :
    resAt2 c XW fq A k ⊢ wp frame (wpE (defs₀ (F := F)) 𝒱₀ (c : Thread nD τ) none) Set.univ (trip2 arg0 harg0 arg1 harg1 arg3 harg3 arg4 harg4 arg5 harg5 k)
        (fun _ => resAt2 c XW fq (k0_pay97 A (gqBlk c fq k) (wBlk c XW k)) (k.val + 1)) := by
  have hc := cond1_neg k hk
  unfold resAt2 ringAt
  have hk24 : k.val < 24 := trips2 ▸ k.isLt
  rw [Ring.At4_here_tail _ _ _ _ k.val hk24, Ring.At4_next_tail _ _ _ _ k.val hk hk24, Ring.slotAt4_tail_role, Ring.slotAt4_tail_role1]
  iintro ⟨⟨%fo, HO, %hfo⟩, HQ, ⟨%W, HW⟩, Hrest, ⟨%f0, HF0⟩, Hs1, Hs2, Hfr⟩
  dsimp only [trip2]
  sl_unfold [k0_t2_body]
  sl_exec
  sl_step
  isplitl [HO]
  · iexists _; isplitl [HO]; · iexact HO
    ipureintro
    subst hfo
    rw [View.read_writes_full]
    unfold trip2_tail.sl.v409
    rw [View.readAt_full, gq_readAt, slot_readAt]
  isplitl [HQ]; · iexact HQ
  isplitl [HW]; · iexists _; iexact HW
  isplitl [HF0_src Hrest]
  · isplitl [HF0_src]; · iexact HF0_src
    iexact Hrest
  isplitl [Hs1]; · iexact Hs1
  isplitl [Hs2]; · iexact Hs2
  isplitl [Hfr]; · iexact Hfr
  isplitl [HF0]; · iexact HF0
  iexists _; iexact HF0_dst

/-- Any trip of the product loop: one more block product in the accumulator, the ring moved on by one. -/
theorem trip2_any (k : Fin k0_t2_loop.trips) (fq) (A : Vec F S72x6144 .f32) :
    resAt2 c XW fq A k ⊢ wp frame (wpE (defs₀ (F := F)) 𝒱₀ (c : Thread nD τ) none) Set.univ (trip2 arg0 harg0 arg1 harg1 arg3 harg3 arg4 harg4 arg5 harg5 k)
        (fun _ => resAt2 c XW fq (k0_pay97 A (gqBlk c fq k) (wBlk c XW k)) (k.val + 1)) := by
  rcases Nat.lt_or_ge (k.val + 3) 24 with hk | hk
  · exact trip2_start c XW arg0 harg0 arg1 harg1 arg3 harg3 arg4 harg4 arg5 harg5 k hk fq A
  · exact trip2_tail c XW arg0 harg0 arg1 harg1 arg3 harg3 arg4 harg4 arg5 harg5 k hk fq A
/-- The accumulator's buffer before trip `k`: as the loop finds it, then what `accAt` says. -/
def accC (fq : Buf (Elt F) (gqM.view.loc (c : Thread nD τ))) (fo : Buf (Elt F) (accM.view.loc (c : Thread nD τ))) : ℕ → Buf (Elt F) (accM.view.loc (c : Thread nD τ))
  | 0 => fo
  | k + 1 => accM.view.rep (accAt c XW (gqBlk c fq) (accM.view.read (Elt F) fo) (k + 1))

theorem read_accC (fq) (fo : Buf (Elt F) (accM.view.loc (c : Thread nD τ))) (k : ℕ) :
    accM.view.read (Elt F) (accC c XW fq fo k) = accAt c XW (gqBlk c fq) (accM.view.read (Elt F) fo) k := by
  cases k with
  | zero => rfl
  | succ k => exact View.read_rep _ _

/-- The product loop's resources before trip `k`. -/
def invAt2 (fq : Buf (Elt F) (gqM.view.loc (c : Thread nD τ))) (fo : Buf (Elt F) (accM.view.loc (c : Thread nD τ))) (k : ℕ) : sProp 𝕄 :=
  iprop(accP c fo ∗ gqP c fq ∗ (∃ W, owes (c : Thread nD τ) 0 W) ∗ ringAt c XW k)

theorem invAt2_step (k : Fin k0_t2_loop.trips) (fq) (fo : Buf (Elt F) (accM.view.loc (c : Thread nD τ))) :
    invAt2 c XW fq (accC c XW fq fo k) k ⊢ wp frame (wpE (defs₀ (F := F)) 𝒱₀ (c : Thread nD τ) none) Set.univ (trip2 arg0 harg0 arg1 harg1 arg3 harg3 arg4 harg4 arg5 harg5 k)
        (fun _ => invAt2 c XW fq (accC c XW fq fo (k.val + 1)) (k.val + 1)) := by
  iintro H
  iapply (wp_wand_r Idealize.ShloMosaic.frame (wpE (defs₀ (F := F)) 𝒱₀ (c : Thread nD τ) none) Set.univ)
  isplitl [H]
  · iapply (trip2_any c XW arg0 harg0 arg1 harg1 arg3 harg3 arg4 harg4 arg5 harg5 k fq (accM.view.read (Elt F) (accC c XW fq fo k)))
    unfold resAt2 invAt2
    icases H with ⟨HO, H⟩
    isplitl [HO]
    · iexists _; isplitl [HO]; · iexact HO
      ipureintro; rfl
    iexact H
  · iintro %_ H'
    unfold resAt2 invAt2
    icases H' with ⟨⟨%f, HO, %hf⟩, H⟩
    isplitl [HO]
    · iapply (pointsTo_rep_of_read (c : Thread nD τ) accM f fullShare (accAt c XW (gqBlk c fq) (accM.view.read (Elt F) fo) (k.val + 1)) (by rw [hf, read_accC]; rfl))
      iexact HO
    iexact H

/-! ## The running maximum's loop -/

abbrev gP (f : Buf (Elt F) (arg0.view.loc (c : Thread nD τ))) : sProp 𝕄 := arg0.view.loc (c : Thread nD τ) ↦[arg0.view.set]{fullShare} f
abbrev mxP (f : Buf (Elt F) (mxM.view.loc (c : Thread nD τ))) : sProp 𝕄 := mxM.view.loc (c : Thread nD τ) ↦[mxM.view.set]{fullShare} f

/-- Lane tile `t` (512 columns) of the rows. -/
def gTile (X : Vec F S72x12288 .f32) (t : ℕ) : Vec F S72x512 .f32 :=
  fun i => X (ix2 (i 0 : Fin 72) (⟨(512 * t + (i 1).val) % 12288, Nat.mod_lt _ (by decide)⟩ : Fin 12288))

omit [FloatOps F] in
theorem g_readAt (off : Fin 2 → Nat) (t : ℕ) (e : off = ![0, 512 * t]) (ht : t < 24) (inb) (f : Buf (Elt F) (arg0.view.loc (c : Thread nD τ))) :
    View.readAt (Elt F) arg0.view (Rect.unit (s := S72x12288) off S72x512.size inb).toLoadRect f = gTile (arg0.view.read (Elt F) f) t := by
  subst e
  funext i
  refine congrArg (arg0.view.read (Elt F) f) (funext fun a => Fin.ext ?_)
  have h1 : (i 1).val < 512 := (i 1).isLt
  fin_cases a
  · show 0 + 1 * (i 0).val = (i 0).val; omega
  · show 512 * t + 1 * (i 1).val = (512 * t + (i 1).val) % 12288; rw [Nat.mod_eq_of_lt (by omega)]; omega

theorem off4_eq : ∀ (k : Fin k0_t1_loop.trips) (r : Fin 3), k0_off4 k (BitVec.ofNat 32 r.val) = ![0, 512 * (3 * k.val + r.val)] := by decide +kernel
theorem trips1 : k0_t1_loop.trips = 8 := by decide +kernel

/-- One trip of the running maximum: three tiles, four lane chunks of each. -/
def mxStep (X : Vec F S72x12288 .f32) (M : Vec F S72x128 .f32) (k : ℕ) : Vec F S72x128 .f32 :=
  k0_pay14 (gTile X (3 * k + 2)) (k0_pay13 (gTile X (3 * k + 2)) (k0_pay12 (gTile X (3 * k + 2)) (k0_pay11 (gTile X (3 * k + 2))
    (k0_pay9 (gTile X (3 * k + 1)) (k0_pay8 (gTile X (3 * k + 1)) (k0_pay7 (gTile X (3 * k + 1)) (k0_pay6 (gTile X (3 * k + 1))
      (k0_pay5 (gTile X (3 * k + 0)) (k0_pay4 (gTile X (3 * k + 0)) (k0_pay3 (gTile X (3 * k + 0)) (k0_pay2 (gTile X (3 * k + 0)) M)))))))))))

/-- The running maximum before trip `k`, from `M0` on. -/
def mxAt (X : Vec F S72x12288 .f32) (M0 : Vec F S72x128 .f32) : ℕ → Vec F S72x128 .f32
  | 0 => M0
  | k + 1 => mxStep X (mxAt X M0 k) k

def mxC (X : Vec F S72x12288 .f32) (f : Buf (Elt F) (mxM.view.loc (c : Thread nD τ))) : ℕ → Buf (Elt F) (mxM.view.loc (c : Thread nD τ))
  | 0 => f
  | k + 1 => mxM.view.rep (mxAt X (mxM.view.read (Elt F) f) (k + 1))

theorem read_mxC (X : Vec F S72x12288 .f32) (f : Buf (Elt F) (mxM.view.loc (c : Thread nD τ))) (k : ℕ) :
    mxM.view.read (Elt F) (mxC c X f k) = mxAt X (mxM.view.read (Elt F) f) k := by
  cases k with
  | zero => rfl
  | succ k => exact View.read_rep _ _

abbrev trip1 (k : Fin k0_t1_loop.trips) (c0 c1 : BitVec 32) : Prog (TpuEff nD τ sig (Elt F) Λ₀ .tc) Unit :=
  k0_t1_body (F := F) arg0 harg0 arg1 harg1 wM (Memref.isWhole_whole _) arg3 harg3 arg4 harg4 arg5 harg5 bufM (Memref.isWhole_whole _) mxM (Memref.isWhole_whole _) gqM (Memref.isWhole_whole _) accM (Memref.isWhole_whole _) cc0_scratch4 c0 c1 k ()

theorem trip1_any (k : Fin k0_t1_loop.trips) (c0 c1 : BitVec 32) (g0) (f : Buf (Elt F) (mxM.view.loc (c : Thread nD τ))) :
    iprop(gP c arg0 g0 ∗ mxP c f) ⊢ wp frame (wpE (defs₀ (F := F)) 𝒱₀ (c : Thread nD τ) none) Set.univ (trip1 arg0 harg0 arg1 harg1 arg3 harg3 arg4 harg4 arg5 harg5 k c0 c1)
        (fun _ => iprop(gP c arg0 g0 ∗ ∃ f', mxP c f' ∗ ⌜mxM.view.read (Elt F) f' = mxStep (arg0.view.read (Elt F) g0) (mxM.view.read (Elt F) f) k⌝)) := by
  have hk8 : k.val < 8 := trips1 ▸ k.isLt
  iintro ⟨HG, HM⟩
  dsimp only [trip1]
  sl_unfold [k0_t1_body]
  sl_exec
  sl_step
  isplitl [HG]; · iexact HG
  iexists _; isplitl [HM]; · iexact HM
  ipureintro
  rw [View.read_writes_full]
  have e0 : ∀ inb, View.readAt (Elt F) arg0.view (Rect.unit (s := S72x12288) (k0_off4 k 0#32) S72x512.size inb).toLoadRect g0 = gTile (arg0.view.read (Elt F) g0) (3 * k.val + 0) :=
    fun inb => g_readAt c arg0 _ _ (off4_eq k 0) (by omega) inb g0
  have e1 : ∀ inb, View.readAt (Elt F) arg0.view (Rect.unit (s := S72x12288) (k0_off4 k 1#32) S72x512.size inb).toLoadRect g0 = gTile (arg0.view.read (Elt F) g0) (3 * k.val + 1) :=
    fun inb => g_readAt c arg0 _ _ (off4_eq k 1) (by omega) inb g0
  have e2 : ∀ inb, View.readAt (Elt F) arg0.view (Rect.unit (s := S72x12288) (k0_off4 k 2#32) S72x512.size inb).toLoadRect g0 = gTile (arg0.view.read (Elt F) g0) (3 * k.val + 2) :=
    fun inb => g_readAt c arg0 _ _ (off4_eq k 2) (by omega) inb g0
  delta trip1_any.sl.v485 trip1_any.sl.HM_11; rw [View.readCov_full]
  delta trip1_any.sl.v478 trip1_any.sl.HM_10; rw [View.readCov_full]
  delta trip1_any.sl.v471 trip1_any.sl.HM_9; rw [View.readCov_full]
  delta trip1_any.sl.v464 trip1_any.sl.HM_8; rw [View.readCov_full]
  delta trip1_any.sl.v451 trip1_any.sl.HM_7; rw [View.readCov_full]
  delta trip1_any.sl.v444 trip1_any.sl.HM_6; rw [View.readCov_full]
  delta trip1_any.sl.v437 trip1_any.sl.HM_5; rw [View.readCov_full]
  delta trip1_any.sl.v430 trip1_any.sl.HM_4; rw [View.readCov_full]
  delta trip1_any.sl.v417 trip1_any.sl.HM_3; rw [View.readCov_full]
  delta trip1_any.sl.v410 trip1_any.sl.HM_2; rw [View.readCov_full]
  delta trip1_any.sl.v403 trip1_any.sl.HM_1; rw [View.readCov_full]
  rw [View.readAt_full, e0, e1, e2]; rfl
/-- The running maximum's loop: its resources before trip `k`. -/
def invAt1 (g0 : Buf (Elt F) (arg0.view.loc (c : Thread nD τ))) (f : Buf (Elt F) (mxM.view.loc (c : Thread nD τ))) : sProp 𝕄 :=
  iprop(gP c arg0 g0 ∗ mxP c f)

theorem invAt1_step (k : Fin k0_t1_loop.trips) (c0 c1 : BitVec 32) (g0) (f : Buf (Elt F) (mxM.view.loc (c : Thread nD τ))) :
    invAt1 c arg0 g0 (mxC c (arg0.view.read (Elt F) g0) f k) ⊢ wp frame (wpE (defs₀ (F := F)) 𝒱₀ (c : Thread nD τ) none) Set.univ (trip1 arg0 harg0 arg1 harg1 arg3 harg3 arg4 harg4 arg5 harg5 k c0 c1)
        (fun _ => invAt1 c arg0 g0 (mxC c (arg0.view.read (Elt F) g0) f (k.val + 1))) := by
  iintro H
  iapply (wp_wand_r Idealize.ShloMosaic.frame (wpE (defs₀ (F := F)) 𝒱₀ (c : Thread nD τ) none) Set.univ)
  isplitl [H]
  · iapply (trip1_any c arg0 harg0 arg1 harg1 arg3 harg3 arg4 harg4 arg5 harg5 k c0 c1 g0)
    unfold invAt1
    iexact H
  · iintro %_ H'
    unfold invAt1
    icases H' with ⟨HG, ⟨%f', HM, %hf⟩⟩
    isplitl [HG]; · iexact HG
    iapply (pointsTo_rep_of_read (c : Thread nD τ) mxM f' fullShare (mxAt (arg0.view.read (Elt F) g0) (mxM.view.read (Elt F) f) (k.val + 1)) (by rw [hf, read_mxC]; rfl))
    iexact HM

set_option warn.classDefReducibility false in
/-- The running maximum's loop, by `mxC`. -/
@[sl_loop] def loopInv1 (c0 c1 : BitVec 32) (g0 : Buf (Elt F) (arg0.view.loc (c : Thread nD τ))) (f : Buf (Elt F) (mxM.view.loc (c : Thread nD τ))) :
    LoopInvTy_k0_t1 (F := F) Unit ℕ (UU nD τ) ℕ 𝒱₀ c none Set.univ arg0 harg0 arg1 harg1 wM (Memref.isWhole_whole _) arg3 harg3 arg4 harg4 arg5 harg5 bufM (Memref.isWhole_whole _) mxM (Memref.isWhole_whole _) gqM (Memref.isWhole_whole _) accM (Memref.isWhole_whole _) cc0_scratch4 c0 c1 where
  inv k _ := invAt1 c arg0 g0 (mxC c (arg0.view.read (Elt F) g0) f k)
  step k _ := invAt1_step c arg0 harg0 arg1 harg1 arg3 harg3 arg4 harg4 arg5 harg5 k c0 c1 g0 f

set_option warn.classDefReducibility false in
/-- The product loop, by `accC` and the ring. -/
def loopInv2 (fq : Buf (Elt F) (gqM.view.loc (c : Thread nD τ))) (fo : Buf (Elt F) (accM.view.loc (c : Thread nD τ))) :
    LoopInvTy_k0_t2 (F := F) Unit ℕ (UU nD τ) ℕ 𝒱₀ c none Set.univ arg0 harg0 arg1 harg1 wM (Memref.isWhole_whole _) arg3 harg3 arg4 harg4 arg5 harg5 bufM (Memref.isWhole_whole _) mxM (Memref.isWhole_whole _) gqM (Memref.isWhole_whole _) accM (Memref.isWhole_whole _) cc0_scratch4 where
  inv k _ := invAt2 c XW fq (accC c XW fq fo k) k
  step k _ := invAt2_step c XW arg0 harg0 arg1 harg1 arg3 harg3 arg4 harg4 arg5 harg5 k fq fo

end Trip2

end Cert.Proof.Out

end
-- ==== Proof.OutBody.lean ====
module

public import proofs.«01_k».proof.Proof.OutTrip

@[expose] public section

noncomputable section

namespace Cert.Proof.Out

open Cert.KernelOut Cert.KernelOut.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UU nD τ) ℕ

/-! ## What the body computes -/

/-- The rows' running maximum over all 24 lane tiles. -/
def MX (X : Vec F S72x12288 .f32) : Vec F S72x128 .f32 := mxAt X (k0_pay10 (F := F)) 8
/-- The rows' scales. -/
def SC (X : Vec F S72x12288 .f32) : Vec F S72x1 .f32 := k0_pay15 (MX X)
/-- The codes of lane tile `t`, as floats. -/
def qT (X : Vec F S72x12288 .f32) (t : ℕ) : Vec F S72x512 .f32 := k0_pay22 (SC X) (gTile X t)
/-- The int8 codes. -/
def CODES (X : Vec F S72x12288 .f32) : Vec F S72x12288 .i8 :=
  fun i => fptosi 8 (qT X ((i 1).val / 512)) (ix2 (i 0 : Fin 72) (⟨(i 1).val % 512, Nat.mod_lt _ (by decide)⟩ : Fin 512))
/-- Row block `b` of the codes as the product loop multiplies them. -/
def GQ (X : Vec F S72x12288 .f32) (b : ℕ) : Vec F S1x72x512 .bf16 := k0_pay21 (qT X b)

section Body

variable (c : Dev nD) (XW : Buf (Elt F) (wM.view.loc (c : Thread nD τ)))
  (arg0 : Memref sig .tc .vmem S72x12288 .f32) (harg0 : arg0.IsWhole)
  (arg1 : Memref sig .tc .vmem S1x6144 .f32) (harg1 : arg1.IsWhole)
  (arg3 : Memref sig .tc .vmem S72x6144 .bf16) (harg3 : arg3.IsWhole)
  (arg4 : Memref sig .tc .vmem S72x12288 .i8) (harg4 : arg4.IsWhole)
  (arg5 : Memref sig .tc .vmem S72x1 .f32) (harg5 : arg5.IsWhole)

/-- The projected rows. -/
def OUT (X : Vec F S72x12288 .f32) (ws : Vec F S1x6144 .f32) : Vec F S72x6144 .bf16 :=
  k0_pay1 (k0_pay98 (accAt c XW (GQ X) (k0_pay96 (F := F)) 24) (SC X) ws)

abbrev bodyG : Prog (TpuEff nD τ sig (Elt F) Λ₀ .tc) PUnit :=
  cc0_mamba2_decode_out arg0 harg0 arg1 harg1 wM (Memref.isWhole_whole _) arg3 harg3 arg4 harg4 arg5 harg5 bufM (Memref.isWhole_whole _) mxM (Memref.isWhole_whole _) gqM (Memref.isWhole_whole _) accM (Memref.isWhole_whole _) cc0_scratch4

abbrev wsP (f : Buf (Elt F) (arg1.view.loc (c : Thread nD τ))) : sProp 𝕄 := arg1.view.loc (c : Thread nD τ) ↦[arg1.view.set]{fullShare} f
abbrev oP (f : Buf (Elt F) (arg3.view.loc (c : Thread nD τ))) : sProp 𝕄 := arg3.view.loc (c : Thread nD τ) ↦[arg3.view.set]{fullShare} f
abbrev cdP (f : Buf (Elt F) (arg4.view.loc (c : Thread nD τ))) : sProp 𝕄 := arg4.view.loc (c : Thread nD τ) ↦[arg4.view.set]{fullShare} f
abbrev scP (f : Buf (Elt F) (arg5.view.loc (c : Thread nD τ))) : sProp 𝕄 := arg5.view.loc (c : Thread nD τ) ↦[arg5.view.set]{fullShare} f

/-- The kernel's own buffers at anything and its semaphores at zero. -/
abbrev OWN : sProp 𝕄 :=
  iprop((∃ f, slotP c 0 f) ∗ (∃ f, slotP c 1 f) ∗ (∃ f, slotP c 2 f) ∗ (∃ f, slotP c 3 f)
    ∗ cellP c 0 ∗ cellP c 1 ∗ cellP c 2 ∗ cellP c 3 ∗ (∃ f, mxP c f) ∗ (∃ f, gqP c f) ∗ (∃ f, accP c f))
/-- What the body is handed. -/
abbrev PRE (g0 : Buf (Elt F) (arg0.view.loc (c : Thread nD τ))) (g1 : Buf (Elt F) (arg1.view.loc (c : Thread nD τ))) (W : Waits sig Unit) : sProp 𝕄 :=
  iprop(gP c arg0 g0 ∗ wsP c arg1 g1 ∗ (∃ f, oP c arg3 f) ∗ (∃ f, cdP c arg4 f) ∗ (∃ f, scP c arg5 f)
    ∗ homeP c XW 0 ∗ homeP c XW 1 ∗ homeP c XW 2 ∗ bigSep (Ring.homeSet 3 0) (homeP c XW) ∗ OWN c ∗ owes (c : Thread nD τ) 0 W)
/-- What it hands back. -/
abbrev POST (g0 : Buf (Elt F) (arg0.view.loc (c : Thread nD τ))) (g1 : Buf (Elt F) (arg1.view.loc (c : Thread nD τ))) : sProp 𝕄 :=
  iprop(gP c arg0 g0 ∗ wsP c arg1 g1
    ∗ (∃ f, oP c arg3 f ∗ ⌜arg3.view.read (Elt F) f = OUT c XW (arg0.view.read (Elt F) g0) (arg1.view.read (Elt F) g1)⌝)
    ∗ (∃ f, cdP c arg4 f ∗ ⌜arg4.view.read (Elt F) f = CODES (arg0.view.read (Elt F) g0)⌝)
    ∗ (∃ f, scP c arg5 f ∗ ⌜arg5.view.read (Elt F) f = SC (arg0.view.read (Elt F) g0)⌝)
    ∗ bigSep Finset.univ (homeP c XW) ∗ OWN c ∗ ∃ W, owes (c : Thread nD τ) 0 W)

/-- After the three starts the ring is as before trip 0. -/
theorem ring_zero (f0 : Buf (Elt F) ((rslot 0).view.loc (c : Thread nD τ))) (f1 : Buf (Elt F) ((rslot 1).view.loc (c : Thread nD τ)))
    (f2 : Buf (Elt F) ((rslot 2).view.loc (c : Thread nD τ))) (f3 : Buf (Elt F) ((rslot 3).view.loc (c : Thread nD τ))) :
    iprop(flightP c XW 0 0 f0 ∗ flightP c XW 1 1 f1 ∗ flightP c XW 2 2 f2 ∗ bigSep (Ring.homeSet 3 0) (homeP c XW) ∗ cellP c 3 ∗ slotP c 3 f3) ⊢ ringAt c XW 0 := by
  unfold ringAt
  rw [Ring.At4_here _ _ _ _ 0 (by decide)]
  have hh : bigSep (Ring.homeSet 3 0) (homeP c XW) = iprop(homeP c XW (Ring.bk 24 (0 + 3)) ∗ bigSep ((Ring.homeSet 3 0).erase (Ring.bk 24 (0 + 3))) (homeP c XW)) := by
    conv_lhs => rw [Ring.homeSet_out 3 0 (by decide), bigSep_insert (Ring.bkL_not_mem_erase 3 0)]
    rfl
  rw [hh]
  iintro ⟨H0, H1, H2, Hh, Hc, Hs⟩
  isplitl [Hh]; · iexact Hh
  isplitl [H0]; · iexists f0; iexact H0
  isplitl [H1]; · iexists f1; iexact H1
  isplitl [H2]; · iexists f2; iexact H2
  isplitl [Hc]; · iexact Hc
  iexists f3; iexact Hs

/-- Pieces that write the codes of the first `n` lane tiles. -/
def CDGood (X : Vec F S72x12288 .f32) (n : ℕ) (L : List (View.Piece (Elt F) S72x12288 .i8)) : Prop :=
  (∀ p ∈ L, ∀ x : p.1.shape.Idx, p.2 x = CODES X (p.1.emb x)) ∧ ∀ y : S72x12288.Idx, (y 1).val < 512 * n → ∃ p ∈ L, y ∈ p.1.set

theorem cd_nil (X : Vec F S72x12288 .f32) : CDGood X 0 [] := ⟨fun p hp => absurd hp (by simp), fun y hy => absurd hy (by omega)⟩

theorem cd_step (g0 : Buf (Elt F) (arg0.view.loc (c : Thread nD τ))) (s : Vec F S72x1 .f32) (hs : s = SC (arg0.view.read (Elt F) g0))
    (n : ℕ) (hn : n < 24) (off : Fin 2 → Nat) (e : off = ![0, 512 * n]) (inb) (pay : S72x512.Idx → Elt F .i8)
    (hp : pay = fptosi 8 (k0_pay22 s (View.readAt (Elt F) arg0.view (Rect.unit (s := S72x12288) off S72x512.size inb).toLoadRect g0)))
    (L : List (View.Piece (Elt F) S72x12288 .i8)) (h : CDGood (arg0.view.read (Elt F) g0) n L) :
    CDGood (arg0.view.read (Elt F) g0) (n + 1) (⟨Rect.unit (s := S72x12288) off S72x512.size inb, pay⟩ :: L) := by
  rw [g_readAt c arg0 off n e hn] at hp
  subst e hs hp
  refine ⟨fun p hpm => ?_, fun y hy => ?_⟩
  · rcases List.mem_cons.mp hpm with rfl | hpm
    · intro x
      have h1 : (x 1).val < 512 := (x 1).isLt
      have e1 : ((Rect.unit (s := S72x12288) ![0, 512 * n] S72x512.size inb).emb x 1).val = 512 * n + (x 1).val := by
        show 512 * n + 1 * (x 1).val = _; omega
      have ed : ((Rect.unit (s := S72x12288) ![0, 512 * n] S72x512.size inb).emb x 1).val / 512 = n := by omega
      have em : ((Rect.unit (s := S72x12288) ![0, 512 * n] S72x512.size inb).emb x 1).val % 512 = (x 1).val := by omega
      show fptosi 8 (k0_pay22 (SC (arg0.view.read (Elt F) g0)) (gTile (arg0.view.read (Elt F) g0) n)) x = _
      unfold CODES qT
      rw [ed]
      refine congrArg _ (funext fun a => Fin.ext ?_)
      fin_cases a
      · show (x 0).val = 0 + 1 * (x 0).val; omega
      · exact em.symm
    · exact h.1 p hpm
  · by_cases hlt : (y 1).val < 512 * n
    · obtain ⟨p, hpm, hy'⟩ := h.2 y hlt
      exact ⟨p, List.mem_cons_of_mem _ hpm, hy'⟩
    · refine ⟨_, List.mem_cons_self, ?_⟩
      rw [Rect.mem_set_unit]
      have h0 : (y 0).val < 72 := (y 0).isLt
      intro a; fin_cases a
      · show 0 ≤ (y 0).val ∧ (y 0).val < 0 + 72; omega
      · show 512 * n ≤ (y 1).val ∧ (y 1).val < 512 * n + 512; omega

theorem cd_read (X : Vec F S72x12288 .f32) (f : Buf (Elt F) (arg4.view.loc (c : Thread nD τ))) (L) (h : CDGood X 24 L) :
    arg4.view.read (Elt F) (arg4.view.writes (Elt F) f L) = CODES X := by
  have hc : ∀ y : S72x12288.Idx, ∃ p ∈ L, y ∈ p.1.set := fun y => h.2 y (y 1).isLt
  rw [View.read_writes_eq_canon arg4.view f L hc]
  exact funext fun y => View.canon_apply_of_pieces (CODES X) L h.1 y (hc y)

/-- Pieces that write the first `n` row blocks of the product's codes. -/
def GQGood (X : Vec F S72x12288 .f32) (n : ℕ) (L : List (View.Piece (Elt F) S24x72x512 .bf16)) : Prop :=
  (∀ p ∈ L, ∀ x : p.1.shape.Idx, p.2 x = GQ X (p.1.emb x 0).val (ix3 (0 : Fin 1) (p.1.emb x 1 : Fin 72) (p.1.emb x 2 : Fin 512)))
    ∧ ∀ y : S24x72x512.Idx, (y 0).val < n → ∃ p ∈ L, y ∈ p.1.set

theorem gq_nil (X : Vec F S72x12288 .f32) : GQGood X 0 [] := ⟨fun p hp => absurd hp (by simp), fun y hy => absurd hy (by omega)⟩

theorem gq_step (g0 : Buf (Elt F) (arg0.view.loc (c : Thread nD τ))) (s : Vec F S72x1 .f32) (hs : s = SC (arg0.view.read (Elt F) g0))
    (n : ℕ) (hn : n < 24) (off : Fin 3 → Nat) (e : off = ![n, 0, 0]) (inb) (inb0) (pay : S1x72x512.Idx → Elt F .bf16)
    (hp : pay = k0_pay21 (k0_pay22 s (View.readAt (Elt F) arg0.view (Rect.unit (s := S72x12288) ![0, 512 * n] S72x512.size inb0).toLoadRect g0)))
    (L : List (View.Piece (Elt F) S24x72x512 .bf16)) (h : GQGood (arg0.view.read (Elt F) g0) n L) :
    GQGood (arg0.view.read (Elt F) g0) (n + 1) (⟨Rect.unit (s := S24x72x512) off S1x72x512.size inb, pay⟩ :: L) := by
  rw [g_readAt c arg0 _ n rfl hn] at hp
  subst e hs hp
  refine ⟨fun p hpm => ?_, fun y hy => ?_⟩
  · rcases List.mem_cons.mp hpm with rfl | hpm
    · intro x
      have h0 : (x 0).val < 1 := (x 0).isLt
      have e0 : ((Rect.unit (s := S24x72x512) ![n, 0, 0] S1x72x512.size inb).emb x 0).val = n := by
        show n + 1 * (x 0).val = _; omega
      show GQ (arg0.view.read (Elt F) g0) n x = _
      rw [e0]
      refine congrArg _ (funext fun a => Fin.ext ?_)
      fin_cases a
      · show (x 0).val = 0; omega
      · show (x 1).val = 0 + 1 * (x 1).val; omega
      · show (x 2).val = 0 + 1 * (x 2).val; omega
    · exact h.1 p hpm
  · by_cases hlt : (y 0).val < n
    · obtain ⟨p, hpm, hy'⟩ := h.2 y hlt
      exact ⟨p, List.mem_cons_of_mem _ hpm, hy'⟩
    · refine ⟨_, List.mem_cons_self, ?_⟩
      rw [Rect.mem_set_unit]
      have h1 : (y 1).val < 72 := (y 1).isLt
      have h2 : (y 2).val < 512 := (y 2).isLt
      intro a; fin_cases a
      · show n ≤ (y 0).val ∧ (y 0).val < n + 1; omega
      · show 0 ≤ (y 1).val ∧ (y 1).val < 0 + 72; omega
      · show 0 ≤ (y 2).val ∧ (y 2).val < 0 + 512; omega

theorem gq_read (X : Vec F S72x12288 .f32) (f : Buf (Elt F) (gqM.view.loc (c : Thread nD τ))) (L) (h : GQGood X 24 L) (b : ℕ) (hb : b < 24) :
    gqBlk c (gqM.view.writes (Elt F) f L) b = GQ X b := by
  have hc : ∀ y : S24x72x512.Idx, ∃ p ∈ L, y ∈ p.1.set := fun y => h.2 y (y 0).isLt
  unfold gqBlk
  rw [View.read_writes_eq_canon gqM.view f L hc]
  funext i
  rw [View.canon_apply_of_pieces (fun y : S24x72x512.Idx => GQ X (y 0).val (ix3 (0 : Fin 1) (y 1 : Fin 72) (y 2 : Fin 512))) L h.1 _ (hc _)]
  have h0 : (i 0).val < 1 := (i 0).isLt
  refine congrArg₂ (GQ X) (Nat.mod_eq_of_lt hb) (funext fun a => Fin.ext ?_)
  fin_cases a
  · show 0 = (i 0).val; omega
  · rfl
  · rfl

theorem bodyRun (g0 g1) (W) (Q : PUnit → sProp 𝕄) :
    iprop(PRE c XW arg0 arg1 arg3 arg4 arg5 g0 g1 W ∗ (POST c XW arg0 arg1 arg3 arg4 arg5 g0 g1 -∗ Q ⟨⟩))
      ⊢ wp frame (wpE (defs₀ (F := F)) 𝒱₀ (c : Thread nD τ) none) Set.univ (bodyG arg0 harg0 arg1 harg1 arg3 harg3 arg4 harg4 arg5 harg5) Q := by
  iintro ⟨⟨HG, HWS, ⟨%fo3, HO⟩, ⟨%fo4, HCD⟩, ⟨%fo5, HSC⟩, Hh0, Hh1, Hh2, Hh, ⟨⟨%f0, Hs0⟩, ⟨%f1, Hs1⟩, ⟨%f2, Hs2⟩, ⟨%f3, Hs3⟩, Hc0, Hc1, Hc2, Hc3, ⟨%fm, HM⟩, ⟨%fq, HQ⟩, ⟨%fa, HA⟩⟩, HW⟩, Hk⟩
  sl_exec
  ihave Hring := (ring_zero c XW f0 f1 f2 f3) $$ [Hc0 Hc1 Hc2 Hh Hc3 Hs3]
  · isplitl [Hc0]; · iexact Hc0
    isplitl [Hc1]; · iexact Hc1
    isplitl [Hc2]; · iexact Hc2
    isplitl [Hh]; · iexact Hh
    isplitl [Hc3]; · iexact Hc3
    iexact Hs3
  unfold ringAt Ring.At
  icases Hring with ⟨Hh, Hsl⟩
  let L2 := loopInv2 c XW arg0 harg0 arg1 harg1 arg3 harg3 arg4 harg4 arg5 harg5
  sl_exec
  sl_step
  iapply Hk
  have hs : bodyRun.sl.r c arg0 g0 = SC (arg0.view.read (Elt F) g0) := by
    delta bodyRun.sl.r bodyRun.sl.v29
    rw [View.readAt_full, read_mxC, show Scf.trips k0_t1_loop.lb k0_t1_loop.ub k0_t1_loop.st = 8 from trips1]
    unfold SC MX
    exact congrArg (fun M => k0_pay15 (mxAt _ M 8)) (View.read_writes_full mxM.view _ _ _ [])
  isplitl [HG]; · iexact HG
  isplitl [HWS]; · iexact HWS
  isplitl [HO]
  · iexists _; isplitl [HO]; · iexact HO
    ipureintro
    rw [View.read_writes_full]
    delta bodyRun.sl.r_15 bodyRun.sl.v380 bodyRun.sl.v381 bodyRun.sl.HSC_1
    rw [View.readAt_full, View.readAt_full, View.readCov_full, read_accC, show Scf.trips k0_t2_loop.lb k0_t2_loop.ub k0_t2_loop.st = 24 from trips2, show k0_pay15 (bodyRun.sl.v29 c arg0 g0) = SC (arg0.view.read (Elt F) g0) from hs]
    have hq : GQGood (arg0.view.read (Elt F) g0) 24 (bodyRun.sl.HQ_24 c arg0 g0) := by
      delta bodyRun.sl.HQ_24
      iterate 24 refine gq_step c arg0 g0 (bodyRun.sl.r c arg0 g0) hs _ (by decide) _ (by rfl) _ (by decide) _ (by rfl) _ ?_
      exact gq_nil _
    rw [accAt_congr c XW _ (GQ (arg0.view.read (Elt F) g0)) _ 24 fun b hb => gq_read c _ _ _ hq b hb]
    unfold OUT
    exact congrArg (fun A => k0_pay1 (k0_pay98 (accAt c XW (GQ (arg0.view.read (Elt F) g0)) A 24) (SC (arg0.view.read (Elt F) g0)) _)) (View.read_writes_full accM.view _ _ _ [])
  isplitl [HCD]
  · iexists _; isplitl [HCD]; · iexact HCD
    ipureintro
    refine cd_read c arg4 _ _ _ ?_
    delta bodyRun.sl.HCD_24
    iterate 24 refine cd_step c arg0 g0 (bodyRun.sl.r c arg0 g0) hs _ (by decide) _ (by rfl) _ _ (by rfl) _ ?_
    exact cd_nil _
  isplitl [HSC]
  · iexists _; isplitl [HSC]; · iexact HSC
    ipureintro
    delta bodyRun.sl.HSC_1
    rw [View.read_writes_full]
    exact hs
  ihave Hring := (show iprop(bigSep (Ring.homeSet 3 (Scf.trips k0_t2_loop.lb k0_t2_loop.ub k0_t2_loop.st)) (homeP c XW)
      ∗ bigSep Finset.univ (Ring.slotAt 3 (cellP c) (slotP c) (flightP c XW) (Scf.trips k0_t2_loop.lb k0_t2_loop.ub k0_t2_loop.st)))
      ⊢ iprop(bigSep Finset.univ (homeP c XW) ∗ Ring.free (cellP c) (slotP c) 0 ∗ Ring.free (cellP c) (slotP c) 1 ∗ Ring.free (cellP c) (slotP c) 2 ∗ Ring.free (cellP c) (slotP c) 3)
      from by rw [show Scf.trips k0_t2_loop.lb k0_t2_loop.ub k0_t2_loop.st = 24 from trips2]; exact Ring.free4_of_At_last _ _ _ _) $$ [Hh Hsl]
  · isplitl [Hh]; · iexact Hh
    iexact Hsl
  icases Hring with ⟨Hh, ⟨Hc0, Hs0⟩, ⟨Hc1, Hs1⟩, ⟨Hc2, Hs2⟩, ⟨Hc3, Hs3⟩⟩
  isplitl [Hh]; · iexact Hh
  isplitr [HW]
  · isplitl [Hs0]; · iexact Hs0
    isplitl [Hs1]; · iexact Hs1
    isplitl [Hs2]; · iexact Hs2
    isplitl [Hs3]; · iexact Hs3
    isplitl [Hc0]; · iexact Hc0
    isplitl [Hc1]; · iexact Hc1
    isplitl [Hc2]; · iexact Hc2
    isplitl [Hc3]; · iexact Hc3
    isplitl [HM]; · iexists _; iexact HM
    isplitl [HQ]; · iexists _; iexact HQ
    iexists _; iexact HA
  iexists _; iexact HW

end Body

end Cert.Proof.Out

end
-- ==== Proof.OutLaunch.lean ====
module

public import proofs.«01_k».proof.Proof.OutBody

@[expose] public section

noncomputable section

namespace Cert.Proof.Out

open Cert.KernelOut Cert.KernelOut.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

private theorem entails_of_eq {P Q : sProp 𝕄} (e : P = Q) : P ⊢ Q := e ▸ .rfl

/-! ## The launch: the one region on every core -/

/-- A buffer's contents at launch. -/
abbrev V (c : Dev nD) (b : Ref sig .tc) : Buf (Elt F) ((c : Thread nD τ).loc b) := m ((c : Thread nD τ).loc b)
/-- The weight's, as the blocks read it. -/
abbrev XA (c : Dev nD) : Buf (Elt F) (wM.view.loc (c : Thread nD τ)) := m _

/-- The kernel's own semaphores: the four slots' cells. -/
abbrev osem : Fin 4 → SemLoc sig := fun s => .dma (csm s).sem
theorem ownSemFacts : Pipeline.OwnSemFacts spec0 osem := by decide

/-! ## Element sets: the weight's 24 row blocks, the ring's four slots -/

abbrev G24 (b : Fin 24) : Finset S12288x6144.Idx := (Rect.unit (s := S12288x6144) (blkOff b) S512x6144.size (blkOff_inb b)).set
abbrev S4s (s : Fin 4) : Finset S4x512x6144.Idx := (Rect.unit (s := S4x512x6144) (slotOff s) S1x512x6144.size (slotOff_inb s)).set

omit [FloatOps F] in
theorem blk_set (b : Fin 24) : (blk b : Memref sig .tc .hbm _ _).view.set = G24 b := View.set_slice_whole _ _
omit [FloatOps F] in
theorem rslot_set (s : Fin 4) : (rslot s : Memref sig .tc .vmem _ _).view.set = S4s s := (View.set_reshape _ _).trans (View.set_slice_whole _ _)

theorem mem_G24 (b : Fin 24) (y : S12288x6144.Idx) : y ∈ G24 b ↔ 512 * b.val ≤ (y 0).val ∧ (y 0).val < 512 * b.val + 512 := by
  rw [Rect.mem_set_unit]
  have h1 : (y 1).val < 6144 := (y 1).isLt
  constructor
  · intro H; exact H 0
  · intro H i; fin_cases i
    · exact H
    · show 0 ≤ (y 1).val ∧ (y 1).val < 0 + 6144; omega
theorem mem_S4s (s : Fin 4) (y : S4x512x6144.Idx) : y ∈ S4s s ↔ (y 0).val = s.val := by
  rw [Rect.mem_set_unit]
  have h1 : (y 1).val < 512 := (y 1).isLt
  have h2 : (y 2).val < 6144 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 6144; omega
theorem G24_disjoint : ∀ b b' : Fin 24, b ≠ b' → Disjoint (G24 b) (G24 b') := by
  intro b b' hne; rw [Finset.disjoint_left]; intro y hy hy'; rw [mem_G24] at hy hy'; exact hne (Fin.ext (by omega))
theorem G24_cover : (Finset.univ : Finset (Fin 24)).biUnion G24 = Finset.univ := by
  ext y; simp only [Finset.mem_biUnion, Finset.mem_univ, true_and, iff_true]
  have h0 : (y 0).val < 12288 := (y 0).isLt
  exact ⟨⟨(y 0).val / 512, by omega⟩, by rw [mem_G24]; dsimp only; omega⟩
theorem S4s_disjoint : ∀ s s' : Fin 4, s ≠ s' → Disjoint (S4s s) (S4s s') := by
  intro s s' hne; rw [Finset.disjoint_left]; intro y hy hy'; rw [mem_S4s] at hy hy'; exact hne (Fin.ext (hy.symm.trans hy'))
theorem S4s_cover : (Finset.univ : Finset (Fin 4)).biUnion S4s = Finset.univ := by
  ext y; simp only [Finset.mem_biUnion, Finset.mem_univ, true_and, iff_true]; exact ⟨(y 0).cast (by decide), by rw [mem_S4s]; rfl⟩

/-- The weight whole is its 24 row blocks home; -/
theorem w_eq (c : Dev nD) :
    (((c : Thread nD τ).loc main_arg1) ↦{fullShare} m ((c : Thread nD τ).loc main_arg1) : sProp 𝕄) = bigSep Finset.univ (homeP c (XA m c)) := by
  rw [Ring.pointsTo_blocks (ℓ := (c : Thread nD τ).loc main_arg1) G24 G24_disjoint G24_cover]
  exact bigSep_congr fun b _ => by rw [← blk_set]; rfl
/-- at the body's entry, blocks 0, 1 and 2 apart from the rest. -/
theorem homes_zero (c : Dev nD) (XA : Buf (Elt F) (wM.view.loc (c : Thread nD τ))) :
    bigSep Finset.univ (homeP c XA) = iprop(homeP c XA 0 ∗ homeP c XA 1 ∗ homeP c XA 2 ∗ bigSep (Ring.homeSet 3 0) (homeP c XA)) := by
  have e : (Finset.univ : Finset (Fin 24)) = insert 0 (insert 1 (insert 2 (Ring.homeSet (NB := 24) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]), bigSep_insert (by simp [Ring.mem_homeSet])]; rfl

omit [FloatOps F] in
theorem slotP_eq (c : Dev nD) (s : Fin 4) (f) : slotP c s f = (((c : Thread nD τ).loc cc0_scratch0) ↦[S4s s]{fullShare} f : sProp 𝕄) :=
  congrArg (fun S => (_ ↦[S]{fullShare} f : sProp 𝕄)) (rslot_set s)
/-- The ring's buffer whole is its four slots, and back. -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ (∃ f, slotP c 2 f) ∗ ∃ f, slotP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) S4s S4s_disjoint S4s_cover f).trans (Ring.bigSep_fin4 _))) $$ H
  icases H2 with ⟨H0, H1, H2, H3⟩
  isplitl [H0]
  · iexists f; iapply (entails_of_eq (slotP_eq c 0 f).symm); iexact H0
  isplitl [H1]
  · iexists f; iapply (entails_of_eq (slotP_eq c 1 f).symm); iexact H1
  isplitl [H2]
  · iexists f; iapply (entails_of_eq (slotP_eq c 2 f).symm); iexact H2
  · iexists f; iapply (entails_of_eq (slotP_eq c 3 f).symm); iexact H3
theorem buf_join (c : Dev nD) :
    iprop((∃ f, slotP c 0 f) ∗ (∃ f, slotP c 1 f) ∗ (∃ f, slotP c 2 f) ∗ ∃ f, slotP c 3 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) S4s S4s_disjoint S4s_cover f0)
  irw [Ring.bigSep_fin4]
  isplitl [H0]
  · iexists f0; iapply (entails_of_eq (slotP_eq c 0 f0)); iexact H0
  isplitl [H1]
  · iexists f1; iapply (entails_of_eq (slotP_eq c 1 f1)); iexact H1
  isplitl [H2]
  · iexists f2; iapply (entails_of_eq (slotP_eq c 2 f2)); iexact H2
  · iexists f3; iapply (entails_of_eq (slotP_eq c 3 f3)); iexact H3

omit [FloatOps F] in
/-- A scratch buffer whole, as its memref states it. -/
theorem mx_whole (c : Dev nD) (f) : mxP c f = (((c : Thread nD τ).loc cc0_scratch1) ↦{fullShare} f : sProp 𝕄) :=
  congrArg (fun S => (_ ↦[S]{fullShare} f : sProp 𝕄)) (View.set_whole _)
omit [FloatOps F] in
/-- A scratch buffer whole, as its memref states it. -/
theorem gq_whole (c : Dev nD) (f) : gqP c f = (((c : Thread nD τ).loc cc0_scratch2) ↦{fullShare} f : sProp 𝕄) :=
  congrArg (fun S => (_ ↦[S]{fullShare} f : sProp 𝕄)) (View.set_whole _)
omit [FloatOps F] in
/-- A scratch buffer whole, as its memref states it. -/
theorem acc_whole (c : Dev nD) (f) : accP c f = (((c : Thread nD τ).loc cc0_scratch3) ↦{fullShare} f : sProp 𝕄) :=
  congrArg (fun S => (_ ↦[S]{fullShare} f : sProp 𝕄)) (View.set_whole _)

omit [FloatOps F] in
/-- The kernel's own cells at zero are the four slots' cells. -/
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2 ∗ cellP c 3) := by
  unfold Pipeline.ownSems0; rw [Ring.bigSep_fin4]

/-! ## The pipeline's proof data -/

/-- The region invariant, the same before and after the one point: the weight home, the kernel's own buffers at
    anything, its cells at zero. -/
def Φ (c : Dev nD) : sProp 𝕄 := iprop(bigSep Finset.univ (homeP c (XA m c)) ∗ OWN c)

/-- Window `w`'s block at point `t`, read off its array at launch. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => OUT c (XA m c) (iblk m c 0 t) (iblk m c 1 t)
    | ⟨3, _⟩ => CODES (iblk m c 0 t)
    | ⟨4, _⟩ => SC (iblk m c 0 t)
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = OUT c (XA m c) (iblk m c 0 t) (iblk m c 1 t) := by dsimp only [dats]
theorem after_w3 (c : Dev nD) (t : Fin cfg0.N) : (dats m 0 c).after 3 t = CODES (iblk m c 0 t) := by dsimp only [dats]
theorem after_w4 (c : Dev nD) (t : Fin cfg0.N) : (dats m 0 c).after 4 t = SC (iblk m c 0 t) := by dsimp only [dats]

/-! ## The body obligation -/

/-- The body table's entry is the kernel on the point's staging memrefs. -/
theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) (st0_4 t) (hstage0_4 0) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, after_w0, after_w1, after_w2, after_w3, after_w4]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hh24, HOWN⟩, ⟨%W, -, HW⟩, ⟨%d0, %g0, %hg0, H0⟩, ⟨%d1, %g1, %hg1, H1⟩, ⟨%d2, %g2, -, H2⟩, ⟨%d3, %g3, -, H3⟩, ⟨%d4, %g4, -, H4⟩⟩
  ihave Hh3 := (entails_of_eq (homes_zero c (XA m c))) $$ Hh24
  icases Hh3 with ⟨Hg0, Hg1, Hg2, Hh⟩
  sl_rw [prog_eq t]
  iapply (bodyRun c (XA m c) (st0_0 t) (hstage0_0 0) (st0_1 t) (hstage0_1 0) (st0_2 t) (hstage0_2 0) (st0_3 t) (hstage0_3 0) (st0_4 t) (hstage0_4 0) g0 g1 W)
  isplitl [H0 H1 H2 H3 H4 Hg0 Hg1 Hg2 Hh HOWN HW]
  · isplitl [H0]; · iexact H0
    isplitl [H1]; · iexact H1
    isplitl [H2]; · iexists g2; iexact H2
    isplitl [H3]; · iexists g3; iexact H3
    isplitl [H4]; · iexists g4; iexact H4
    isplitl [Hg0]; · iexact Hg0
    isplitl [Hg1]; · iexact Hg1
    isplitl [Hg2]; · iexact Hg2
    isplitl [Hh]; · iexact Hh
    isplitl [HOWN]; · iexact HOWN
    iexact HW
  · iintro ⟨H0, H1, ⟨%f2, H2, %h2⟩, ⟨%f3, H3, %h3⟩, ⟨%f4, H4, %h4⟩, Hh, HOWN, ⟨%W', HW⟩⟩
    isplitl [Hh HOWN]
    · isplitl [Hh]; · iexact Hh
      iexact HOWN
    isplitl [HW]
    · iexists W'; isplitr; · ipureintro; exact fun _ _ => Or.inl trivial
      iexact HW
    isplitl [H0]
    · iexists g0; isplitr; · ipureintro; exact hg0
      iexact H0
    isplitl [H1]
    · iexists g1; isplitr; · ipureintro; exact hg1
      iexact H1
    isplitl [H2]
    · iexists f2; isplitr; · ipureintro; exact h2.trans (congrArg₂ (OUT c (XA m c)) hg0 hg1)
      iexact H2
    isplitl [H3]
    · iexists f3; isplitr; · ipureintro; exact h3.trans (congrArg CODES hg0)
      iexact H3
    · iexists f4; isplitr; · ipureintro; exact h4.trans (congrArg SC hg0)
      iexact H4

/-! ## The run -/

def intoΦ (c : Dev nD) : sProp 𝕄 := iprop(bigSep Finset.univ (homeP c (XA m c)) ∗ Pipeline.ownSems0 osem c)
def outOfΦ (c : Dev nD) : sProp 𝕄 := ((c : Thread nD τ).loc main_arg1) ↦{fullShare} m ((c : Thread nD τ).loc main_arg1)
def u₀ : UU nD τ := (initOf (Pipeline.cells cfgs Cert.KernelOut.Gen.cellOf_inj) (Pipeline.launchToks cfgs Cert.KernelOut.Gen.cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop := s.mem ((c : Thread nD τ).loc main_arg1) = m ((c : Thread nD τ).loc main_arg1)
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- For any float values, from any memory with zero counters: every weakly fair execution of @main on the TensorCores
    terminates, and every final state has each window's array at its computed contents, the weight unchanged, every
    semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_region cfgs 0 defs₀ 𝒱₀ m main fun c => (main_chain c).trans rfl)
    (hA := fun _ _ => rfl)
    (X := intoΦ m) (Y := outOfΦ m) (Z := fun _ => iprop(emp))
    (hX := fun c => by
      rw [unscopedRest0_eq, w_eq m c]
      unfold intoΦ
      iintro ⟨H0, HS, -, -, -⟩; imodintro
      isplitl [H0 HS]
      · isplitl [H0]; · iexact H0
        iexact HS
      iempintro)
    (hin := fun c => by
      rw [scopedRest0_eq, show (dats m 0 c).Φ 0 = Φ m c from rfl]
      unfold intoΦ Φ; rw [ownSems0_eq]
      iintro ⟨⟨H0, Hc0, Hc1, Hc2, Hc3⟩, Hb, ⟨%f1, Hm⟩, ⟨%f2, Hq⟩, ⟨%f3, Ha⟩⟩
      ihave Hs := (buf_split c) $$ Hb
      icases Hs with ⟨Hs0, Hs1, Hs2, Hs3⟩
      isplitl [H0]; · iexact H0
      isplitl [Hs0]; · iexact Hs0
      isplitl [Hs1]; · iexact Hs1
      isplitl [Hs2]; · iexact Hs2
      isplitl [Hs3]; · iexact Hs3
      isplitl [Hc0]; · iexact Hc0
      isplitl [Hc1]; · iexact Hc1
      isplitl [Hc2]; · iexact Hc2
      isplitl [Hc3]; · iexact Hc3
      isplitl [Hm]; · iexists f1; iapply (entails_of_eq (mx_whole c f1).symm); iexact Hm
      isplitl [Hq]; · iexists f2; iapply (entails_of_eq (gq_whole c f2).symm); iexact Hq
      iexists f3; iapply (entails_of_eq (acc_whole c f3).symm); iexact Ha)
    (hout := fun c => by
      rw [scopedRest0_eq, show (dats m 0 c).Φ (Fin.last cfg0.N) = Φ m c from rfl, ownSems0_eq]
      unfold Φ outOfΦ; rw [← w_eq m c]
      iintro ⟨H0, Hs0, Hs1, Hs2, Hs3, Hc0, Hc1, Hc2, Hc3, ⟨%f1, Hm⟩, ⟨%f2, Hq⟩, ⟨%f3, Ha⟩⟩
      isplitl [H0]; · iexact H0
      isplitl [Hc0 Hc1 Hc2 Hc3]
      · isplitl [Hc0]; · iexact Hc0
        isplitl [Hc1]; · iexact Hc1
        isplitl [Hc2]; · iexact Hc2
        iexact Hc3
      isplitl [Hs0 Hs1 Hs2 Hs3]
      · iapply (buf_join c)
        isplitl [Hs0]; · iexact Hs0
        isplitl [Hs1]; · iexact Hs1
        isplitl [Hs2]; · iexact Hs2
        iexact Hs3
      isplitl [Hm]; · iexists f1; iapply (entails_of_eq (mx_whole c f1)); iexact Hm
      isplitl [Hq]; · iexists f2; iapply (entails_of_eq (gq_whole c f2)); iexact Hq
      iexists f3; iapply (entails_of_eq (acc_whole c f3)); iexact Ha)
    (QY := QY m)
    (hY := fun c s' => by
      unfold outOfΦ
      iintro ⟨H0, -, HSI⟩
      icombine HSI H0 gives %h0
      imodintro
      isplitr; · ipureintro; exact Buf.eq_of_forall_mem_univ h0
      iexact HSI)
    (hQ := fun _ hh hz => ⟨hh, hz⟩)

theorem finalA_in (c : Dev nD) (w : Fin cfg0.W) (hw : (cfg0.win w).isOut = false) :
    finalA m c w = m ((cfg0.win w).arr.view.loc (c : Thread nD τ)) :=
  (dats (F := F) m 0 c).arrAt_in w hw _

/-! ## The claim -/

/-- The kernel terminates from every memory, leaves its arguments as they were and every semaphore at zero. -/
theorem frame : Cert.quiescent_KernelOut := fun m ρ _ =>
  (θ_run defs _ _).mono (fun _ hh => ⟨fun c => ⟨((hh.1 c).1 0).trans (finalA_in m c 0 rfl), (hh.1 c).2, ((hh.1 c).1 1).trans (finalA_in m c 1 rfl)⟩, hh.2⟩) (run_main m ρ)

end Cert.Proof.Out

end
-- ==== Proof.OutIdealTrip.lean ====
module

public import proofs.«01_k».proof.Defs
public import proofs.«01_k».proof.Proof.Gen.KernelOutIdeal.Launch
public import proofs.«01_k».proof.Proof.Gen.KernelOutIdeal.Skeleton
public import proofs.«01_k».proof.Proof.Gen.KernelOutIdeal.Loops
public import proofs.«01_k».proof.Proof.Gen.KernelOutIdeal.Points
public import Idealize.ShloMosaic.Lib.Pipeline.KitQuiescent
public import Idealize.ShloMosaic.Lib.Ring
public import Idealize.ShloMosaic.Lib.Ring.AtN
public import Idealize.ShloMosaic.Lib.Affine
public import Idealize.ShloMosaic.Lib.Tactic
public import Idealize.ShloMosaic.Lib.ValueIdxCore
public import Idealize.ShloMosaic.Lib.VecWindow
public import Idealize.ShloMosaic.Lib.Pipeline.Value
public import proofs.«01_k».proof.Proof.OutTrip

@[expose] public section

noncomputable section

namespace Cert.Proof.OutIdeal

open Cert.KernelOutIdeal Cert.KernelOutIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The resource algebra: the pipeline library's, beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## Canonical names: row block `b` of the weights, slot `s` of the ring buffer, slot `s`'s semaphore -/

abbrev wM : Memref sig .tc .hbm S12288x6144 .i8 := Memref.whole main_arg1
abbrev bufM : Memref sig .tc .vmem S4x512x6144 .i8 := Memref.whole cc0_scratch0
abbrev mxM : Memref sig .tc .vmem S72x128 .f32 := Memref.whole cc0_scratch1
abbrev gqM : Memref sig .tc .vmem S24x72x512 .bf16 := Memref.whole cc0_scratch2
abbrev accM : Memref sig .tc .vmem S72x6144 .f32 := Memref.whole cc0_scratch3

abbrev blkOff (b : Fin 24) : Fin 2 → Nat := ![512 * b.val, 0]
theorem blkOff_inb (b : Fin 24) : ∀ a, blkOff b a + S512x6144.size a ≤ S12288x6144.size a := by
  have := b.isLt; intro a; fin_cases a
  · show 512 * b.val + 512 ≤ 12288; omega
  · show 0 + 6144 ≤ 6144; omega
abbrev slotOff (s : Fin 4) : Fin 3 → Nat := ![s.val, 0, 0]
theorem slotOff_inb (s : Fin 4) : ∀ a, slotOff s a + S1x512x6144.size a ≤ S4x512x6144.size a := by
  have := s.isLt; intro a; fin_cases a
  · show s.val + 1 ≤ 4; omega
  · show 0 + 512 ≤ 512; omega
  · show 0 + 6144 ≤ 6144; omega
abbrev semOff (s : Fin 4) : Fin 1 → Nat := ![s.val]
theorem semOff_inb (s : Fin 4) : ∀ a, semOff s a + S1.size a ≤ S4.size a := by
  have := s.isLt; intro a; fin_cases a; show s.val + 1 ≤ 4; omega

/-- Row block `b` of the weights (512 rows), as the body slices it. -/
def blk (b : Fin 24) : Memref sig .tc .hbm S512x6144 .i8 :=
  wM.slice (Rect.unit (s := S12288x6144) (blkOff b) S512x6144.size (blkOff_inb b)) (fun _ => rfl)
/-- Slot `s` of the ring buffer, as the body slices and squeezes it. -/
def rslot (s : Fin 4) : Memref sig .tc .vmem S512x6144 .i8 :=
  (bufM.slice (Rect.unit (s := S4x512x6144) (slotOff s) S1x512x6144.size (slotOff_inb s)) (fun _ => rfl)).squeeze S512x6144 squeezes_S1x512x6144_S512x6144
/-- Slot `s`'s semaphore. -/
def csm (s : Fin 4) : DmaSems sig S_ := (cc0_scratch4.slice (Rect.unit (s := S4) (semOff s) S1.size (semOff_inb s))).squeeze S_ squeezes_S1_S_

instance (s : Fin 4) : ClosedOff (slotOff s) := ⟨slotOff s, rfl⟩
instance (b : Fin 24) : ClosedOff (blkOff b) := ⟨blkOff b, rfl⟩

/-! ### The printed offsets in closed form, checked trip by trip -/

theorem off1_eq : ∀ r : Fin 3, k0_off1 (BitVec.ofNat 32 r.val) = semOff (Ring.sl 4 r.val) := by decide +kernel
theorem off2_eq : ∀ r : Fin 3, k0_off2 (BitVec.ofNat 32 r.val) = slotOff (Ring.sl 4 r.val) := by decide +kernel
theorem off3_eq : ∀ r : Fin 3, k0_off3 (BitVec.ofNat 32 r.val) = blkOff (Ring.bk 24 r.val) := by decide +kernel
theorem off5_eq : ∀ k : Fin k0_t2_loop.trips, k0_off5 k = semOff (Ring.sl 4 (k.val + 3)) := by decide +kernel
theorem off6_eq : ∀ k : Fin k0_t2_loop.trips, k0_off6 k = slotOff (Ring.sl 4 (k.val + 3)) := by decide +kernel
theorem off7_eq : ∀ k : Fin k0_t2_loop.trips, k.val + 3 < 24 → k0_off7 k = blkOff (Ring.bk 24 (k.val + 3)) := by decide +kernel
theorem off8_eq : ∀ k : Fin k0_t2_loop.trips, k0_off8 k = semOff (Ring.sl 4 k.val) := by decide +kernel
theorem off9_eq : ∀ k : Fin k0_t2_loop.trips, k0_off9 k = slotOff (Ring.sl 4 k.val) := by decide +kernel
theorem off10_eq : ∀ k : Fin k0_t2_loop.trips, k0_off10 k = blkOff (Ring.bk 24 k.val) := by decide +kernel
theorem off11_eq : ∀ k : Fin k0_t2_loop.trips, k0_off11 k = ![k.val, 0, 0] := by decide +kernel
theorem off12_eq : ∀ k : Fin k0_t2_loop.trips, k0_off12 k = slotOff (Ring.sl 4 k.val) := by decide +kernel
theorem cond1_pos : ∀ k : Fin k0_t2_loop.trips, k.val + 3 < 24 → k0_cond1 k = 1#1 := by decide +kernel
theorem cond1_neg : ∀ k : Fin k0_t2_loop.trips, 24 ≤ k.val + 3 → ¬k0_cond1 k = 1#1 := by decide +kernel
theorem trips2 : k0_t2_loop.trips = 24 := by decide +kernel

instance (k : Fin k0_t2_loop.trips) : ClosedOff (k0_off11 k) := ⟨![k.val, 0, 0], off11_eq k⟩
instance (k : Fin k0_t2_loop.trips) : ClosedOff (k0_off12 k) := ⟨slotOff (Ring.sl 4 k.val), off12_eq k⟩

private theorem csm_congr {off : Fin 1 → Nat} {s : Fin 4} (e : off = semOff s) (hh) :
    (cc0_scratch4.slice (Rect.unit (s := S4) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 4} (e : off = slotOff s) (hh hs) :
    (bufM.slice (Rect.unit (s := S4x512x6144) off S1x512x6144.size hh) hs).squeeze S512x6144 squeezes_S1x512x6144_S512x6144 = rslot s :=
  congrArg (fun M : Memref sig .tc .vmem S1x512x6144 .i8 => M.squeeze S512x6144 squeezes_S1x512x6144_S512x6144) (Memref.slice_unit_congr _ e _ _ _ _)
private theorem blk_congr {off : Fin 2 → Nat} {b : Fin 24} (e : off = blkOff b) (hh hs) :
    wM.slice (Rect.unit (s := S12288x6144) off S512x6144.size hh) hs = blk b := Memref.slice_unit_congr _ e _ _ hs (fun _ => rfl)

@[sl_canon] theorem semP0 (hh) : (cc0_scratch4.slice (Rect.unit (s := S4) (k0_off1 0#32) S1.size hh)).squeeze S_ squeezes_S1_S_ = csm 0 := csm_congr (off1_eq 0) _
@[sl_canon] theorem semP1 (hh) : (cc0_scratch4.slice (Rect.unit (s := S4) (k0_off1 1#32) S1.size hh)).squeeze S_ squeezes_S1_S_ = csm 1 := csm_congr (off1_eq 1) _
@[sl_canon] theorem semP2 (hh) : (cc0_scratch4.slice (Rect.unit (s := S4) (k0_off1 2#32) S1.size hh)).squeeze S_ squeezes_S1_S_ = csm 2 := csm_congr (off1_eq 2) _
@[sl_canon] theorem slotP0 (hh hs) : (bufM.slice (Rect.unit (s := S4x512x6144) (k0_off2 0#32) S1x512x6144.size hh) hs).squeeze S512x6144 squeezes_S1x512x6144_S512x6144 = rslot 0 := rslot_congr (off2_eq 0) _ _
@[sl_canon] theorem slotP1 (hh hs) : (bufM.slice (Rect.unit (s := S4x512x6144) (k0_off2 1#32) S1x512x6144.size hh) hs).squeeze S512x6144 squeezes_S1x512x6144_S512x6144 = rslot 1 := rslot_congr (off2_eq 1) _ _
@[sl_canon] theorem slotP2 (hh hs) : (bufM.slice (Rect.unit (s := S4x512x6144) (k0_off2 2#32) S1x512x6144.size hh) hs).squeeze S512x6144 squeezes_S1x512x6144_S512x6144 = rslot 2 := rslot_congr (off2_eq 2) _ _
@[sl_canon] theorem blkP0 (hh hs) : wM.slice (Rect.unit (s := S12288x6144) (k0_off3 0#32) S512x6144.size hh) hs = blk 0 := blk_congr (off3_eq 0) _ _
@[sl_canon] theorem blkP1 (hh hs) : wM.slice (Rect.unit (s := S12288x6144) (k0_off3 1#32) S512x6144.size hh) hs = blk 1 := blk_congr (off3_eq 1) _ _
@[sl_canon] theorem blkP2 (hh hs) : wM.slice (Rect.unit (s := S12288x6144) (k0_off3 2#32) S512x6144.size hh) hs = blk 2 := blk_congr (off3_eq 2) _ _
@[sl_canon] theorem semI (k : Fin k0_t2_loop.trips) (hh) :
    (cc0_scratch4.slice (Rect.unit (s := S4) (k0_off5 k) S1.size hh)).squeeze S_ squeezes_S1_S_ = csm (Ring.sl 4 (k.val + 3)) := csm_congr (off5_eq k) _
@[sl_canon] theorem slotI (k : Fin k0_t2_loop.trips) (hh hs) :
    (bufM.slice (Rect.unit (s := S4x512x6144) (k0_off6 k) S1x512x6144.size hh) hs).squeeze S512x6144 squeezes_S1x512x6144_S512x6144 = rslot (Ring.sl 4 (k.val + 3)) := rslot_congr (off6_eq k) _ _
@[sl_canon] theorem blkI (k : Fin k0_t2_loop.trips) (hk : k.val + 3 < 24) (hh hs) :
    wM.slice (Rect.unit (s := S12288x6144) (k0_off7 k) S512x6144.size hh) hs = blk (Ring.bk 24 (k.val + 3)) := blk_congr (off7_eq k hk) _ _
@[sl_canon] theorem semW (k : Fin k0_t2_loop.trips) (hh) :
    (cc0_scratch4.slice (Rect.unit (s := S4) (k0_off8 k) S1.size hh)).squeeze S_ squeezes_S1_S_ = csm (Ring.sl 4 k.val) := csm_congr (off8_eq k) _
@[sl_canon] theorem slotW (k : Fin k0_t2_loop.trips) (hh hs) :
    (bufM.slice (Rect.unit (s := S4x512x6144) (k0_off9 k) S1x512x6144.size hh) hs).squeeze S512x6144 squeezes_S1x512x6144_S512x6144 = rslot (Ring.sl 4 k.val) := rslot_congr (off9_eq k) _ _
@[sl_canon] theorem blkW (k : Fin k0_t2_loop.trips) (hh hs) :
    wM.slice (Rect.unit (s := S12288x6144) (k0_off10 k) S512x6144.size hh) hs = blk (Ring.bk 24 k.val) := blk_congr (off10_eq k) _ _

/-! ## The pieces: a row block home, a slot held, a slot's semaphore at zero, a slot in flight -/

section Pieces
variable (c : Dev nD) (XW : Buf (Elt F) (wM.view.loc (c : Thread nD τ)))

abbrev cellP (s : Fin 4) : sProp 𝕄 := semVal ((c : Thread nD τ), SemLoc.dma (csm s).sem) 0
abbrev slotP (s : Fin 4) (f : Buf (Elt F) ((rslot s).view.loc (c : Thread nD τ))) : sProp 𝕄 :=
  (rslot s).view.loc (c : Thread nD τ) ↦[(rslot s).view.set]{fullShare} f
abbrev homeP (b : Fin 24) : sProp 𝕄 := (blk b).view.loc (c : Thread nD τ) ↦[(blk b).view.set]{fullShare} XW
/-- Row block `b`'s words as a slot's payload. -/
abbrev payload (b : Fin 24) : S512x6144.Idx → Elt F .i8 := ReadAs.same.apply ((blk b).view.read (Elt F) XW)
/-- What row block `b`'s transfer leaves in slot `s` over prior contents `f`. -/
abbrev landed (s : Fin 4) (b : Fin 24) (f : Buf (Elt F) ((rslot s).view.loc (c : Thread nD τ))) : Buf (Elt F) ((rslot s).view.loc (c : Thread nD τ)) :=
  (rslot s).view.writes (Elt F) f [⟨Rect.whole S512x6144, payload c XW b⟩]
/-- The units one transfer puts on its semaphore. -/
abbrev NN : ℕ := 98304
/-- Slot `s` in flight with row block `b`, issued over `f`. -/
abbrev flightP (s : Fin 4) (b : Fin 24) (f : Buf (Elt F) ((rslot s).view.loc (c : Thread nD τ))) : sProp 𝕄 :=
  Transfers.Flight countersEmb (c : Thread nD τ) (SemLoc.dma (csm s).sem) () NN iprop(slotP c s (landed c XW s b f) ∗ homeP c XW b)

/-- The ring before trip `k` of the product loop: blocks `k`, `k + 1`, `k + 2` in flight, the others home. -/
abbrev ringAt (k : ℕ) : sProp 𝕄 := Ring.At 3 (cellP c) (slotP c) (homeP c XW) (flightP c XW) k

end Pieces

/-! ## One trip of the product loop -/

section Trip2

variable (c : Dev nD) (XW : Buf (Elt F) (wM.view.loc (c : Thread nD τ)))
  (arg0 : Memref sig .tc .vmem S72x12288 .f32) (harg0 : arg0.IsWhole)
  (arg1 : Memref sig .tc .vmem S1x6144 .f32) (harg1 : arg1.IsWhole)
  (arg3 : Memref sig .tc .vmem S72x6144 .bf16) (harg3 : arg3.IsWhole)
  (arg4 : Memref sig .tc .vmem S72x12288 .i8) (harg4 : arg4.IsWhole)
  (arg5 : Memref sig .tc .vmem S72x1 .f32) (harg5 : arg5.IsWhole)

abbrev accP (f : Buf (Elt F) (accM.view.loc (c : Thread nD τ))) : sProp 𝕄 := accM.view.loc (c : Thread nD τ) ↦[accM.view.set]{fullShare} f
abbrev gqP (f : Buf (Elt F) (gqM.view.loc (c : Thread nD τ))) : sProp 𝕄 := gqM.view.loc (c : Thread nD τ) ↦[gqM.view.set]{fullShare} f

abbrev trip2 (k : Fin k0_t2_loop.trips) : Prog (TpuEff nD τ sig (Elt F) Λ₀ .tc) Unit :=
  k0_t2_body (F := F) arg0 harg0 arg1 harg1 wM (Memref.isWhole_whole _) arg3 harg3 arg4 harg4 arg5 harg5 bufM (Memref.isWhole_whole _) mxM (Memref.isWhole_whole _) gqM (Memref.isWhole_whole _) accM (Memref.isWhole_whole _) cc0_scratch4 k ()

/-- Row block `b` of the quantised rows, as the trip loads it. -/
abbrev gqBlk (fq : Buf (Elt F) (gqM.view.loc (c : Thread nD τ))) (b : ℕ) : Vec F S1x72x512 .bf16 :=
  fun i => gqM.view.read (Elt F) fq (ix3 (⟨b % 24, Nat.mod_lt _ (by decide)⟩ : Fin 24) (i 1) (i 2))
/-- Row block `b` of the weights, as the trip loads it from its slot. -/
abbrev wBlk (b : ℕ) : Vec F S1x512x6144 .i8 :=
  shapeCast S1x512x6144 ((blk (Ring.bk 24 b)).view.read (Elt F) XW) rfl
/-- The accumulator before trip `k`, from `A0` on, the quantised row blocks being `G`. -/
def accAt (G : ℕ → Vec F S1x72x512 .bf16) (A0 : Vec F S72x6144 .f32) : ℕ → Vec F S72x6144 .f32
  | 0 => A0
  | k + 1 => k0_pay97 (accAt G A0 k) (G k) (wBlk c XW k)

theorem accAt_congr (G G' : ℕ → Vec F S1x72x512 .bf16) (A0 : Vec F S72x6144 .f32) (n : ℕ) (h : ∀ b, b < n → G b = G' b) :
    accAt c XW G A0 n = accAt c XW G' A0 n := by
  induction n with
  | zero => rfl
  | succ n ih => rw [accAt, accAt, ih fun b hb => h b (by omega), h n (by omega)]

omit [FloatOps F] in
theorem gq_readAt (k : Fin k0_t2_loop.trips) (inb) (fq : Buf (Elt F) (gqM.view.loc (c : Thread nD τ))) :
    View.readAt (Elt F) gqM.view (Rect.unit (s := S24x72x512) (k0_off11 k) S1x72x512.size inb).toLoadRect fq = gqBlk c fq k := by
  funext i
  refine congrArg (gqM.view.read (Elt F) fq) (funext fun a => Fin.ext ?_)
  have hk : k.val < 24 := trips2 ▸ k.isLt
  have h0 : (i 0).val < 1 := (i 0).isLt
  refine (congrArg (· + 1 * (i a).val) (congrFun (off11_eq k) a)).trans ?_
  fin_cases a
  · show k.val + 1 * (i 0).val = k.val % 24; rw [Nat.mod_eq_of_lt hk]; omega
  · show 0 + 1 * (i 1).val = (i 1).val; omega
  · show 0 + 1 * (i 2).val = (i 2).val; omega

omit [FloatOps F] in
theorem slot_readAt (k : Fin k0_t2_loop.trips) (inb) (b : Fin 24) (f : Buf (Elt F) ((rslot (Ring.sl 4 k.val)).view.loc (c : Thread nD τ))) :
    View.readAt (Elt F) bufM.view (Rect.unit (s := S4x512x6144) (k0_off12 k) S1x512x6144.size inb).toLoadRect (landed c XW (Ring.sl 4 k.val) b f)
      = shapeCast S1x512x6144 ((blk b).view.read (Elt F) XW) rfl := by
  have key : shapeCast S512x6144 (View.readAt (Elt F) bufM.view (Rect.unit (s := S4x512x6144) (k0_off12 k) S1x512x6144.size inb).toLoadRect (landed c XW (Ring.sl 4 k.val) b f)) shapeCasts_S1x512x6144_S512x6144
      = (blk b).view.read (Elt F) XW := by
    have h1 : (rslot (Ring.sl 4 k.val)).view.read (Elt F) (landed c XW (Ring.sl 4 k.val) b f) = (blk b).view.read (Elt F) XW := View.read_writes_whole _ _ _
    have h2 : ∀ (off : Fin 3 → Nat) (e : off = slotOff (Ring.sl 4 k.val)) (inb), shapeCast S512x6144 (View.readAt (Elt F) bufM.view (Rect.unit (s := S4x512x6144) off S1x512x6144.size inb).toLoadRect (landed c XW (Ring.sl 4 k.val) b f)) shapeCasts_S1x512x6144_S512x6144
        = (rslot (Ring.sl 4 k.val)).view.read (Elt F) (landed c XW (Ring.sl 4 k.val) b f) := by
      intro off e inb; subst e; rfl
    rw [h2 _ (off12_eq k), h1]
  rw [← key]
  exact (shapeCast_shapeCast _ _ _).symm

def resAt2 (fq : Buf (Elt F) (gqM.view.loc (c : Thread nD τ))) (A : Vec F S72x6144 .f32) (k : ℕ) : sProp 𝕄 :=
  iprop((∃ fo, accP c fo ∗ ⌜accM.view.read (Elt F) fo = A⌝) ∗ gqP c fq ∗ (∃ W, owes (c : Thread nD τ) 0 W) ∗ ringAt c XW k)

theorem trip2_start (k : Fin k0_t2_loop.trips) (hk : k.val + 3 < 24) (fq) (A : Vec F S72x6144 .f32) :
    resAt2 c XW fq A k ⊢ wp frame (wpE (defs₀ (F := F)) 𝒱₀ (c : Thread nD τ) none) Set.univ (trip2 arg0 harg0 arg1 harg1 arg3 harg3 arg4 harg4 arg5 harg5 k)
        (fun _ => resAt2 c XW fq (k0_pay97 A (gqBlk c fq k) (wBlk c XW k)) (k.val + 1)) := by
  have hc := cond1_pos k hk
  unfold resAt2 ringAt
  rw [Ring.At4_here _ _ _ _ k.val hk, Ring.At4_next _ _ _ _ k.val hk, Ring.slotAt4_next0 _ _ _ _ (by omega), Ring.slotAt4_next1 _ _ _ _ (by omega), Ring.slotAt4_next2 _ _ _ _ (by omega)]
  iintro ⟨⟨%fo, HO, %hfo⟩, HQ, ⟨%W, HW⟩, ⟨Hg, Hrest⟩, ⟨%f0, HF0⟩, ⟨%f1, HF1⟩, ⟨%f2, HF2⟩, ⟨Hc, ⟨%f3, Hs⟩⟩⟩
  dsimp only [trip2]
  sl_unfold [k0_t2_body]
  sl_exec
  sl_step
  isplitl [HO]
  · iexists _; isplitl [HO]; · iexact HO
    ipureintro
    subst hfo
    rw [View.read_writes_full]
    unfold trip2_start.sl.v409
    rw [View.readAt_full, gq_readAt, slot_readAt]
  isplitl [HQ]; · iexact HQ
  isplitl [HW]; · iexists _; iexact HW
  isplitl [HF0_src Hrest]
  · isplitl [HF0_src]; · iexact HF0_src
    iexact Hrest
  isplitl [HF1]; · iexists f1; iexact HF1
  isplitl [HF2]; · iexists f2; iexact HF2
  isplitl [Hc]; · iexists f3; iexact Hc
  isplitl [HF0]; · iexact HF0
  iexists _; iexact HF0_dst

theorem trip2_tail (k : Fin k0_t2_loop.trips) (hk : 24 ≤ k.val + 3) (fq) (A : Vec F S72x6144 .f32) :
    resAt2 c XW fq A k ⊢ wp frame (wpE (defs₀ (F := F)) 𝒱₀ (c : Thread nD τ) none) Set.univ (trip2 arg0 harg0 arg1 harg1 arg3 harg3 arg4 harg4 arg5 harg5 k)
        (fun _ => resAt2 c XW fq (k0_pay97 A (gqBlk c fq k) (wBlk c XW k)) (k.val + 1)) := by
  have hc := cond1_neg k hk
  unfold resAt2 ringAt
  have hk24 : k.val < 24 := trips2 ▸ k.isLt
  rw [Ring.At4_here_tail _ _ _ _ k.val hk24, Ring.At4_next_tail _ _ _ _ k.val hk hk24, Ring.slotAt4_tail_role, Ring.slotAt4_tail_role1]
  iintro ⟨⟨%fo, HO, %hfo⟩, HQ, ⟨%W, HW⟩, Hrest, ⟨%f0, HF0⟩, Hs1, Hs2, Hfr⟩
  dsimp only [trip2]
  sl_unfold [k0_t2_body]
  sl_exec
  sl_step
  isplitl [HO]
  · iexists _; isplitl [HO]; · iexact HO
    ipureintro
    subst hfo
    rw [View.read_writes_full]
    unfold trip2_tail.sl.v409
    rw [View.readAt_full, gq_readAt, slot_readAt]
  isplitl [HQ]; · iexact HQ
  isplitl [HW]; · iexists _; iexact HW
  isplitl [HF0_src Hrest]
  · isplitl [HF0_src]; · iexact HF0_src
    iexact Hrest
  isplitl [Hs1]; · iexact Hs1
  isplitl [Hs2]; · iexact Hs2
  isplitl [Hfr]; · iexact Hfr
  isplitl [HF0]; · iexact HF0
  iexists _; iexact HF0_dst

/-- Any trip of the product loop: one more block product in the accumulator, the ring moved on by one. -/
theorem trip2_any (k : Fin k0_t2_loop.trips) (fq) (A : Vec F S72x6144 .f32) :
    resAt2 c XW fq A k ⊢ wp frame (wpE (defs₀ (F := F)) 𝒱₀ (c : Thread nD τ) none) Set.univ (trip2 arg0 harg0 arg1 harg1 arg3 harg3 arg4 harg4 arg5 harg5 k)
        (fun _ => resAt2 c XW fq (k0_pay97 A (gqBlk c fq k) (wBlk c XW k)) (k.val + 1)) := by
  rcases Nat.lt_or_ge (k.val + 3) 24 with hk | hk
  · exact trip2_start c XW arg0 harg0 arg1 harg1 arg3 harg3 arg4 harg4 arg5 harg5 k hk fq A
  · exact trip2_tail c XW arg0 harg0 arg1 harg1 arg3 harg3 arg4 harg4 arg5 harg5 k hk fq A
/-- The accumulator's buffer before trip `k`: as the loop finds it, then what `accAt` says. -/
def accC (fq : Buf (Elt F) (gqM.view.loc (c : Thread nD τ))) (fo : Buf (Elt F) (accM.view.loc (c : Thread nD τ))) : ℕ → Buf (Elt F) (accM.view.loc (c : Thread nD τ))
  | 0 => fo
  | k + 1 => accM.view.rep (accAt c XW (gqBlk c fq) (accM.view.read (Elt F) fo) (k + 1))

theorem read_accC (fq) (fo : Buf (Elt F) (accM.view.loc (c : Thread nD τ))) (k : ℕ) :
    accM.view.read (Elt F) (accC c XW fq fo k) = accAt c XW (gqBlk c fq) (accM.view.read (Elt F) fo) k := by
  cases k with
  | zero => rfl
  | succ k => exact View.read_rep _ _

/-- The product loop's resources before trip `k`. -/
def invAt2 (fq : Buf (Elt F) (gqM.view.loc (c : Thread nD τ))) (fo : Buf (Elt F) (accM.view.loc (c : Thread nD τ))) (k : ℕ) : sProp 𝕄 :=
  iprop(accP c fo ∗ gqP c fq ∗ (∃ W, owes (c : Thread nD τ) 0 W) ∗ ringAt c XW k)

theorem invAt2_step (k : Fin k0_t2_loop.trips) (fq) (fo : Buf (Elt F) (accM.view.loc (c : Thread nD τ))) :
    invAt2 c XW fq (accC c XW fq fo k) k ⊢ wp frame (wpE (defs₀ (F := F)) 𝒱₀ (c : Thread nD τ) none) Set.univ (trip2 arg0 harg0 arg1 harg1 arg3 harg3 arg4 harg4 arg5 harg5 k)
        (fun _ => invAt2 c XW fq (accC c XW fq fo (k.val + 1)) (k.val + 1)) := by
  iintro H
  iapply (wp_wand_r Idealize.ShloMosaic.frame (wpE (defs₀ (F := F)) 𝒱₀ (c : Thread nD τ) none) Set.univ)
  isplitl [H]
  · iapply (trip2_any c XW arg0 harg0 arg1 harg1 arg3 harg3 arg4 harg4 arg5 harg5 k fq (accM.view.read (Elt F) (accC c XW fq fo k)))
    unfold resAt2 invAt2
    icases H with ⟨HO, H⟩
    isplitl [HO]
    · iexists _; isplitl [HO]; · iexact HO
      ipureintro; rfl
    iexact H
  · iintro %_ H'
    unfold resAt2 invAt2
    icases H' with ⟨⟨%f, HO, %hf⟩, H⟩
    isplitl [HO]
    · iapply (pointsTo_rep_of_read (c : Thread nD τ) accM f fullShare (accAt c XW (gqBlk c fq) (accM.view.read (Elt F) fo) (k.val + 1)) (by rw [hf, read_accC]; rfl))
      iexact HO
    iexact H

/-! ## The running maximum's loop -/

abbrev gP (f : Buf (Elt F) (arg0.view.loc (c : Thread nD τ))) : sProp 𝕄 := arg0.view.loc (c : Thread nD τ) ↦[arg0.view.set]{fullShare} f
abbrev mxP (f : Buf (Elt F) (mxM.view.loc (c : Thread nD τ))) : sProp 𝕄 := mxM.view.loc (c : Thread nD τ) ↦[mxM.view.set]{fullShare} f

/-- Lane tile `t` (512 columns) of the rows. -/
def gTile (X : Vec F S72x12288 .f32) (t : ℕ) : Vec F S72x512 .f32 :=
  fun i => X (ix2 (i 0 : Fin 72) (⟨(512 * t + (i 1).val) % 12288, Nat.mod_lt _ (by decide)⟩ : Fin 12288))

omit [FloatOps F] in
theorem g_readAt (off : Fin 2 → Nat) (t : ℕ) (e : off = ![0, 512 * t]) (ht : t < 24) (inb) (f : Buf (Elt F) (arg0.view.loc (c : Thread nD τ))) :
    View.readAt (Elt F) arg0.view (Rect.unit (s := S72x12288) off S72x512.size inb).toLoadRect f = gTile (arg0.view.read (Elt F) f) t := by
  subst e
  funext i
  refine congrArg (arg0.view.read (Elt F) f) (funext fun a => Fin.ext ?_)
  have h1 : (i 1).val < 512 := (i 1).isLt
  fin_cases a
  · show 0 + 1 * (i 0).val = (i 0).val; omega
  · show 512 * t + 1 * (i 1).val = (512 * t + (i 1).val) % 12288; rw [Nat.mod_eq_of_lt (by omega)]; omega

theorem off4_eq : ∀ (k : Fin k0_t1_loop.trips) (r : Fin 3), k0_off4 k (BitVec.ofNat 32 r.val) = ![0, 512 * (3 * k.val + r.val)] := by decide +kernel
theorem trips1 : k0_t1_loop.trips = 8 := by decide +kernel

/-- One trip of the running maximum: three tiles, four lane chunks of each. -/
def mxStep (X : Vec F S72x12288 .f32) (M : Vec F S72x128 .f32) (k : ℕ) : Vec F S72x128 .f32 :=
  k0_pay14 (gTile X (3 * k + 2)) (k0_pay13 (gTile X (3 * k + 2)) (k0_pay12 (gTile X (3 * k + 2)) (k0_pay11 (gTile X (3 * k + 2))
    (k0_pay9 (gTile X (3 * k + 1)) (k0_pay8 (gTile X (3 * k + 1)) (k0_pay7 (gTile X (3 * k + 1)) (k0_pay6 (gTile X (3 * k + 1))
      (k0_pay5 (gTile X (3 * k + 0)) (k0_pay4 (gTile X (3 * k + 0)) (k0_pay3 (gTile X (3 * k + 0)) (k0_pay2 (gTile X (3 * k + 0)) M)))))))))))

/-- The running maximum before trip `k`, from `M0` on. -/
def mxAt (X : Vec F S72x12288 .f32) (M0 : Vec F S72x128 .f32) : ℕ → Vec F S72x128 .f32
  | 0 => M0
  | k + 1 => mxStep X (mxAt X M0 k) k

def mxC (X : Vec F S72x12288 .f32) (f : Buf (Elt F) (mxM.view.loc (c : Thread nD τ))) : ℕ → Buf (Elt F) (mxM.view.loc (c : Thread nD τ))
  | 0 => f
  | k + 1 => mxM.view.rep (mxAt X (mxM.view.read (Elt F) f) (k + 1))

theorem read_mxC (X : Vec F S72x12288 .f32) (f : Buf (Elt F) (mxM.view.loc (c : Thread nD τ))) (k : ℕ) :
    mxM.view.read (Elt F) (mxC c X f k) = mxAt X (mxM.view.read (Elt F) f) k := by
  cases k with
  | zero => rfl
  | succ k => exact View.read_rep _ _

abbrev trip1 (k : Fin k0_t1_loop.trips) (c0 c1 : BitVec 32) : Prog (TpuEff nD τ sig (Elt F) Λ₀ .tc) Unit :=
  k0_t1_body (F := F) arg0 harg0 arg1 harg1 wM (Memref.isWhole_whole _) arg3 harg3 arg4 harg4 arg5 harg5 bufM (Memref.isWhole_whole _) mxM (Memref.isWhole_whole _) gqM (Memref.isWhole_whole _) accM (Memref.isWhole_whole _) cc0_scratch4 c0 c1 k ()

theorem trip1_any (k : Fin k0_t1_loop.trips) (c0 c1 : BitVec 32) (g0) (f : Buf (Elt F) (mxM.view.loc (c : Thread nD τ))) :
    iprop(gP c arg0 g0 ∗ mxP c f) ⊢ wp frame (wpE (defs₀ (F := F)) 𝒱₀ (c : Thread nD τ) none) Set.univ (trip1 arg0 harg0 arg1 harg1 arg3 harg3 arg4 harg4 arg5 harg5 k c0 c1)
        (fun _ => iprop(gP c arg0 g0 ∗ ∃ f', mxP c f' ∗ ⌜mxM.view.read (Elt F) f' = mxStep (arg0.view.read (Elt F) g0) (mxM.view.read (Elt F) f) k⌝)) := by
  have hk8 : k.val < 8 := trips1 ▸ k.isLt
  iintro ⟨HG, HM⟩
  dsimp only [trip1]
  sl_unfold [k0_t1_body]
  sl_exec
  sl_step
  isplitl [HG]; · iexact HG
  iexists _; isplitl [HM]; · iexact HM
  ipureintro
  rw [View.read_writes_full]
  have e0 : ∀ inb, View.readAt (Elt F) arg0.view (Rect.unit (s := S72x12288) (k0_off4 k 0#32) S72x512.size inb).toLoadRect g0 = gTile (arg0.view.read (Elt F) g0) (3 * k.val + 0) :=
    fun inb => g_readAt c arg0 _ _ (off4_eq k 0) (by omega) inb g0
  have e1 : ∀ inb, View.readAt (Elt F) arg0.view (Rect.unit (s := S72x12288) (k0_off4 k 1#32) S72x512.size inb).toLoadRect g0 = gTile (arg0.view.read (Elt F) g0) (3 * k.val + 1) :=
    fun inb => g_readAt c arg0 _ _ (off4_eq k 1) (by omega) inb g0
  have e2 : ∀ inb, View.readAt (Elt F) arg0.view (Rect.unit (s := S72x12288) (k0_off4 k 2#32) S72x512.size inb).toLoadRect g0 = gTile (arg0.view.read (Elt F) g0) (3 * k.val + 2) :=
    fun inb => g_readAt c arg0 _ _ (off4_eq k 2) (by omega) inb g0
  delta trip1_any.sl.v485 trip1_any.sl.HM_11; rw [View.readCov_full]
  delta trip1_any.sl.v478 trip1_any.sl.HM_10; rw [View.readCov_full]
  delta trip1_any.sl.v471 trip1_any.sl.HM_9; rw [View.readCov_full]
  delta trip1_any.sl.v464 trip1_any.sl.HM_8; rw [View.readCov_full]
  delta trip1_any.sl.v451 trip1_any.sl.HM_7; rw [View.readCov_full]
  delta trip1_any.sl.v444 trip1_any.sl.HM_6; rw [View.readCov_full]
  delta trip1_any.sl.v437 trip1_any.sl.HM_5; rw [View.readCov_full]
  delta trip1_any.sl.v430 trip1_any.sl.HM_4; rw [View.readCov_full]
  delta trip1_any.sl.v417 trip1_any.sl.HM_3; rw [View.readCov_full]
  delta trip1_any.sl.v410 trip1_any.sl.HM_2; rw [View.readCov_full]
  delta trip1_any.sl.v403 trip1_any.sl.HM_1; rw [View.readCov_full]
  rw [View.readAt_full, e0, e1, e2]; rfl
/-- The running maximum's loop: its resources before trip `k`. -/
def invAt1 (g0 : Buf (Elt F) (arg0.view.loc (c : Thread nD τ))) (f : Buf (Elt F) (mxM.view.loc (c : Thread nD τ))) : sProp 𝕄 :=
  iprop(gP c arg0 g0 ∗ mxP c f)

theorem invAt1_step (k : Fin k0_t1_loop.trips) (c0 c1 : BitVec 32) (g0) (f : Buf (Elt F) (mxM.view.loc (c : Thread nD τ))) :
    invAt1 c arg0 g0 (mxC c (arg0.view.read (Elt F) g0) f k) ⊢ wp frame (wpE (defs₀ (F := F)) 𝒱₀ (c : Thread nD τ) none) Set.univ (trip1 arg0 harg0 arg1 harg1 arg3 harg3 arg4 harg4 arg5 harg5 k c0 c1)
        (fun _ => invAt1 c arg0 g0 (mxC c (arg0.view.read (Elt F) g0) f (k.val + 1))) := by
  iintro H
  iapply (wp_wand_r Idealize.ShloMosaic.frame (wpE (defs₀ (F := F)) 𝒱₀ (c : Thread nD τ) none) Set.univ)
  isplitl [H]
  · iapply (trip1_any c arg0 harg0 arg1 harg1 arg3 harg3 arg4 harg4 arg5 harg5 k c0 c1 g0)
    unfold invAt1
    iexact H
  · iintro %_ H'
    unfold invAt1
    icases H' with ⟨HG, ⟨%f', HM, %hf⟩⟩
    isplitl [HG]; · iexact HG
    iapply (pointsTo_rep_of_read (c : Thread nD τ) mxM f' fullShare (mxAt (arg0.view.read (Elt F) g0) (mxM.view.read (Elt F) f) (k.val + 1)) (by rw [hf, read_mxC]; rfl))
    iexact HM

set_option warn.classDefReducibility false in
/-- The running maximum's loop, by `mxC`. -/
@[sl_loop] def loopInv1 (c0 c1 : BitVec 32) (g0 : Buf (Elt F) (arg0.view.loc (c : Thread nD τ))) (f : Buf (Elt F) (mxM.view.loc (c : Thread nD τ))) :
    LoopInvTy_k0_t1 (F := F) Unit ℕ (UU nD τ) ℕ 𝒱₀ c none Set.univ arg0 harg0 arg1 harg1 wM (Memref.isWhole_whole _) arg3 harg3 arg4 harg4 arg5 harg5 bufM (Memref.isWhole_whole _) mxM (Memref.isWhole_whole _) gqM (Memref.isWhole_whole _) accM (Memref.isWhole_whole _) cc0_scratch4 c0 c1 where
  inv k _ := invAt1 c arg0 g0 (mxC c (arg0.view.read (Elt F) g0) f k)
  step k _ := invAt1_step c arg0 harg0 arg1 harg1 arg3 harg3 arg4 harg4 arg5 harg5 k c0 c1 g0 f

set_option warn.classDefReducibility false in
/-- The product loop, by `accC` and the ring. -/
def loopInv2 (fq : Buf (Elt F) (gqM.view.loc (c : Thread nD τ))) (fo : Buf (Elt F) (accM.view.loc (c : Thread nD τ))) :
    LoopInvTy_k0_t2 (F := F) Unit ℕ (UU nD τ) ℕ 𝒱₀ c none Set.univ arg0 harg0 arg1 harg1 wM (Memref.isWhole_whole _) arg3 harg3 arg4 harg4 arg5 harg5 bufM (Memref.isWhole_whole _) mxM (Memref.isWhole_whole _) gqM (Memref.isWhole_whole _) accM (Memref.isWhole_whole _) cc0_scratch4 where
  inv k _ := invAt2 c XW fq (accC c XW fq fo k) k
  step k _ := invAt2_step c XW arg0 harg0 arg1 harg1 arg3 harg3 arg4 harg4 arg5 harg5 k fq fo

end Trip2

end Cert.Proof.OutIdeal

end
-- ==== Proof.OutIdealBody.lean ====
module

public import proofs.«01_k».proof.Proof.OutIdealTrip
public import proofs.«01_k».proof.Proof.OutBody

@[expose] public section

noncomputable section

namespace Cert.Proof.OutIdeal

open Cert.KernelOutIdeal Cert.KernelOutIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UU nD τ) ℕ

/-! ## What the body computes -/

/-- The rows' running maximum over all 24 lane tiles. -/
def MX (X : Vec F S72x12288 .f32) : Vec F S72x128 .f32 := mxAt X (k0_pay10 (F := F)) 8
/-- The rows' scales. -/
def SC (X : Vec F S72x12288 .f32) : Vec F S72x1 .f32 := k0_pay15 (MX X)
/-- The codes of lane tile `t`, as floats. -/
def qT (X : Vec F S72x12288 .f32) (t : ℕ) : Vec F S72x512 .f32 := k0_pay22 (SC X) (gTile X t)
/-- The int8 codes. -/
def CODES (X : Vec F S72x12288 .f32) : Vec F S72x12288 .i8 :=
  fun i => fptosi 8 (qT X ((i 1).val / 512)) (ix2 (i 0 : Fin 72) (⟨(i 1).val % 512, Nat.mod_lt _ (by decide)⟩ : Fin 512))
/-- Row block `b` of the codes as the product loop multiplies them. -/
def GQ (X : Vec F S72x12288 .f32) (b : ℕ) : Vec F S1x72x512 .bf16 := k0_pay21 (qT X b)

section Body

variable (c : Dev nD) (XW : Buf (Elt F) (wM.view.loc (c : Thread nD τ)))
  (arg0 : Memref sig .tc .vmem S72x12288 .f32) (harg0 : arg0.IsWhole)
  (arg1 : Memref sig .tc .vmem S1x6144 .f32) (harg1 : arg1.IsWhole)
  (arg3 : Memref sig .tc .vmem S72x6144 .bf16) (harg3 : arg3.IsWhole)
  (arg4 : Memref sig .tc .vmem S72x12288 .i8) (harg4 : arg4.IsWhole)
  (arg5 : Memref sig .tc .vmem S72x1 .f32) (harg5 : arg5.IsWhole)

/-- The projected rows. -/
def OUT (X : Vec F S72x12288 .f32) (ws : Vec F S1x6144 .f32) : Vec F S72x6144 .bf16 :=
  k0_pay1 (k0_pay98 (accAt c XW (GQ X) (k0_pay96 (F := F)) 24) (SC X) ws)

abbrev bodyG : Prog (TpuEff nD τ sig (Elt F) Λ₀ .tc) PUnit :=
  cc0_mamba2_decode_out arg0 harg0 arg1 harg1 wM (Memref.isWhole_whole _) arg3 harg3 arg4 harg4 arg5 harg5 bufM (Memref.isWhole_whole _) mxM (Memref.isWhole_whole _) gqM (Memref.isWhole_whole _) accM (Memref.isWhole_whole _) cc0_scratch4

abbrev wsP (f : Buf (Elt F) (arg1.view.loc (c : Thread nD τ))) : sProp 𝕄 := arg1.view.loc (c : Thread nD τ) ↦[arg1.view.set]{fullShare} f
abbrev oP (f : Buf (Elt F) (arg3.view.loc (c : Thread nD τ))) : sProp 𝕄 := arg3.view.loc (c : Thread nD τ) ↦[arg3.view.set]{fullShare} f
abbrev cdP (f : Buf (Elt F) (arg4.view.loc (c : Thread nD τ))) : sProp 𝕄 := arg4.view.loc (c : Thread nD τ) ↦[arg4.view.set]{fullShare} f
abbrev scP (f : Buf (Elt F) (arg5.view.loc (c : Thread nD τ))) : sProp 𝕄 := arg5.view.loc (c : Thread nD τ) ↦[arg5.view.set]{fullShare} f

/-- The kernel's own buffers at anything and its semaphores at zero. -/
abbrev OWN : sProp 𝕄 :=
  iprop((∃ f, slotP c 0 f) ∗ (∃ f, slotP c 1 f) ∗ (∃ f, slotP c 2 f) ∗ (∃ f, slotP c 3 f)
    ∗ cellP c 0 ∗ cellP c 1 ∗ cellP c 2 ∗ cellP c 3 ∗ (∃ f, mxP c f) ∗ (∃ f, gqP c f) ∗ (∃ f, accP c f))
/-- What the body is handed. -/
abbrev PRE (g0 : Buf (Elt F) (arg0.view.loc (c : Thread nD τ))) (g1 : Buf (Elt F) (arg1.view.loc (c : Thread nD τ))) (W : Waits sig Unit) : sProp 𝕄 :=
  iprop(gP c arg0 g0 ∗ wsP c arg1 g1 ∗ (∃ f, oP c arg3 f) ∗ (∃ f, cdP c arg4 f) ∗ (∃ f, scP c arg5 f)
    ∗ homeP c XW 0 ∗ homeP c XW 1 ∗ homeP c XW 2 ∗ bigSep (Ring.homeSet 3 0) (homeP c XW) ∗ OWN c ∗ owes (c : Thread nD τ) 0 W)
/-- What it hands back. -/
abbrev POST (g0 : Buf (Elt F) (arg0.view.loc (c : Thread nD τ))) (g1 : Buf (Elt F) (arg1.view.loc (c : Thread nD τ))) : sProp 𝕄 :=
  iprop(gP c arg0 g0 ∗ wsP c arg1 g1
    ∗ (∃ f, oP c arg3 f ∗ ⌜arg3.view.read (Elt F) f = OUT c XW (arg0.view.read (Elt F) g0) (arg1.view.read (Elt F) g1)⌝)
    ∗ (∃ f, cdP c arg4 f ∗ ⌜arg4.view.read (Elt F) f = CODES (arg0.view.read (Elt F) g0)⌝)
    ∗ (∃ f, scP c arg5 f ∗ ⌜arg5.view.read (Elt F) f = SC (arg0.view.read (Elt F) g0)⌝)
    ∗ bigSep Finset.univ (homeP c XW) ∗ OWN c ∗ ∃ W, owes (c : Thread nD τ) 0 W)

/-- After the three starts the ring is as before trip 0. -/
theorem ring_zero (f0 : Buf (Elt F) ((rslot 0).view.loc (c : Thread nD τ))) (f1 : Buf (Elt F) ((rslot 1).view.loc (c : Thread nD τ)))
    (f2 : Buf (Elt F) ((rslot 2).view.loc (c : Thread nD τ))) (f3 : Buf (Elt F) ((rslot 3).view.loc (c : Thread nD τ))) :
    iprop(flightP c XW 0 0 f0 ∗ flightP c XW 1 1 f1 ∗ flightP c XW 2 2 f2 ∗ bigSep (Ring.homeSet 3 0) (homeP c XW) ∗ cellP c 3 ∗ slotP c 3 f3) ⊢ ringAt c XW 0 := by
  unfold ringAt
  rw [Ring.At4_here _ _ _ _ 0 (by decide)]
  have hh : bigSep (Ring.homeSet 3 0) (homeP c XW) = iprop(homeP c XW (Ring.bk 24 (0 + 3)) ∗ bigSep ((Ring.homeSet 3 0).erase (Ring.bk 24 (0 + 3))) (homeP c XW)) := by
    conv_lhs => rw [Ring.homeSet_out 3 0 (by decide), bigSep_insert (Ring.bkL_not_mem_erase 3 0)]
    rfl
  rw [hh]
  iintro ⟨H0, H1, H2, Hh, Hc, Hs⟩
  isplitl [Hh]; · iexact Hh
  isplitl [H0]; · iexists f0; iexact H0
  isplitl [H1]; · iexists f1; iexact H1
  isplitl [H2]; · iexists f2; iexact H2
  isplitl [Hc]; · iexact Hc
  iexists f3; iexact Hs

/-- Pieces that write the codes of the first `n` lane tiles. -/
def CDGood (X : Vec F S72x12288 .f32) (n : ℕ) (L : List (View.Piece (Elt F) S72x12288 .i8)) : Prop :=
  (∀ p ∈ L, ∀ x : p.1.shape.Idx, p.2 x = CODES X (p.1.emb x)) ∧ ∀ y : S72x12288.Idx, (y 1).val < 512 * n → ∃ p ∈ L, y ∈ p.1.set

theorem cd_nil (X : Vec F S72x12288 .f32) : CDGood X 0 [] := ⟨fun p hp => absurd hp (by simp), fun y hy => absurd hy (by omega)⟩

theorem cd_step (g0 : Buf (Elt F) (arg0.view.loc (c : Thread nD τ))) (s : Vec F S72x1 .f32) (hs : s = SC (arg0.view.read (Elt F) g0))
    (n : ℕ) (hn : n < 24) (off : Fin 2 → Nat) (e : off = ![0, 512 * n]) (inb) (pay : S72x512.Idx → Elt F .i8)
    (hp : pay = fptosi 8 (k0_pay22 s (View.readAt (Elt F) arg0.view (Rect.unit (s := S72x12288) off S72x512.size inb).toLoadRect g0)))
    (L : List (View.Piece (Elt F) S72x12288 .i8)) (h : CDGood (arg0.view.read (Elt F) g0) n L) :
    CDGood (arg0.view.read (Elt F) g0) (n + 1) (⟨Rect.unit (s := S72x12288) off S72x512.size inb, pay⟩ :: L) := by
  rw [g_readAt c arg0 off n e hn] at hp
  subst e hs hp
  refine ⟨fun p hpm => ?_, fun y hy => ?_⟩
  · rcases List.mem_cons.mp hpm with rfl | hpm
    · intro x
      have h1 : (x 1).val < 512 := (x 1).isLt
      have e1 : ((Rect.unit (s := S72x12288) ![0, 512 * n] S72x512.size inb).emb x 1).val = 512 * n + (x 1).val := by
        show 512 * n + 1 * (x 1).val = _; omega
      have ed : ((Rect.unit (s := S72x12288) ![0, 512 * n] S72x512.size inb).emb x 1).val / 512 = n := by omega
      have em : ((Rect.unit (s := S72x12288) ![0, 512 * n] S72x512.size inb).emb x 1).val % 512 = (x 1).val := by omega
      show fptosi 8 (k0_pay22 (SC (arg0.view.read (Elt F) g0)) (gTile (arg0.view.read (Elt F) g0) n)) x = _
      unfold CODES qT
      rw [ed]
      refine congrArg _ (funext fun a => Fin.ext ?_)
      fin_cases a
      · show (x 0).val = 0 + 1 * (x 0).val; omega
      · exact em.symm
    · exact h.1 p hpm
  · by_cases hlt : (y 1).val < 512 * n
    · obtain ⟨p, hpm, hy'⟩ := h.2 y hlt
      exact ⟨p, List.mem_cons_of_mem _ hpm, hy'⟩
    · refine ⟨_, List.mem_cons_self, ?_⟩
      rw [Rect.mem_set_unit]
      have h0 : (y 0).val < 72 := (y 0).isLt
      intro a; fin_cases a
      · show 0 ≤ (y 0).val ∧ (y 0).val < 0 + 72; omega
      · show 512 * n ≤ (y 1).val ∧ (y 1).val < 512 * n + 512; omega

theorem cd_read (X : Vec F S72x12288 .f32) (f : Buf (Elt F) (arg4.view.loc (c : Thread nD τ))) (L) (h : CDGood X 24 L) :
    arg4.view.read (Elt F) (arg4.view.writes (Elt F) f L) = CODES X := by
  have hc : ∀ y : S72x12288.Idx, ∃ p ∈ L, y ∈ p.1.set := fun y => h.2 y (y 1).isLt
  rw [View.read_writes_eq_canon arg4.view f L hc]
  exact funext fun y => View.canon_apply_of_pieces (CODES X) L h.1 y (hc y)

/-- Pieces that write the first `n` row blocks of the product's codes. -/
def GQGood (X : Vec F S72x12288 .f32) (n : ℕ) (L : List (View.Piece (Elt F) S24x72x512 .bf16)) : Prop :=
  (∀ p ∈ L, ∀ x : p.1.shape.Idx, p.2 x = GQ X (p.1.emb x 0).val (ix3 (0 : Fin 1) (p.1.emb x 1 : Fin 72) (p.1.emb x 2 : Fin 512)))
    ∧ ∀ y : S24x72x512.Idx, (y 0).val < n → ∃ p ∈ L, y ∈ p.1.set

theorem gq_nil (X : Vec F S72x12288 .f32) : GQGood X 0 [] := ⟨fun p hp => absurd hp (by simp), fun y hy => absurd hy (by omega)⟩

theorem gq_step (g0 : Buf (Elt F) (arg0.view.loc (c : Thread nD τ))) (s : Vec F S72x1 .f32) (hs : s = SC (arg0.view.read (Elt F) g0))
    (n : ℕ) (hn : n < 24) (off : Fin 3 → Nat) (e : off = ![n, 0, 0]) (inb) (inb0) (pay : S1x72x512.Idx → Elt F .bf16)
    (hp : pay = k0_pay21 (k0_pay22 s (View.readAt (Elt F) arg0.view (Rect.unit (s := S72x12288) ![0, 512 * n] S72x512.size inb0).toLoadRect g0)))
    (L : List (View.Piece (Elt F) S24x72x512 .bf16)) (h : GQGood (arg0.view.read (Elt F) g0) n L) :
    GQGood (arg0.view.read (Elt F) g0) (n + 1) (⟨Rect.unit (s := S24x72x512) off S1x72x512.size inb, pay⟩ :: L) := by
  rw [g_readAt c arg0 _ n rfl hn] at hp
  subst e hs hp
  refine ⟨fun p hpm => ?_, fun y hy => ?_⟩
  · rcases List.mem_cons.mp hpm with rfl | hpm
    · intro x
      have h0 : (x 0).val < 1 := (x 0).isLt
      have e0 : ((Rect.unit (s := S24x72x512) ![n, 0, 0] S1x72x512.size inb).emb x 0).val = n := by
        show n + 1 * (x 0).val = _; omega
      show GQ (arg0.view.read (Elt F) g0) n x = _
      rw [e0]
      refine congrArg _ (funext fun a => Fin.ext ?_)
      fin_cases a
      · show (x 0).val = 0; omega
      · show (x 1).val = 0 + 1 * (x 1).val; omega
      · show (x 2).val = 0 + 1 * (x 2).val; omega
    · exact h.1 p hpm
  · by_cases hlt : (y 0).val < n
    · obtain ⟨p, hpm, hy'⟩ := h.2 y hlt
      exact ⟨p, List.mem_cons_of_mem _ hpm, hy'⟩
    · refine ⟨_, List.mem_cons_self, ?_⟩
      rw [Rect.mem_set_unit]
      have h1 : (y 1).val < 72 := (y 1).isLt
      have h2 : (y 2).val < 512 := (y 2).isLt
      intro a; fin_cases a
      · show n ≤ (y 0).val ∧ (y 0).val < n + 1; omega
      · show 0 ≤ (y 1).val ∧ (y 1).val < 0 + 72; omega
      · show 0 ≤ (y 2).val ∧ (y 2).val < 0 + 512; omega

theorem gq_read (X : Vec F S72x12288 .f32) (f : Buf (Elt F) (gqM.view.loc (c : Thread nD τ))) (L) (h : GQGood X 24 L) (b : ℕ) (hb : b < 24) :
    gqBlk c (gqM.view.writes (Elt F) f L) b = GQ X b := by
  have hc : ∀ y : S24x72x512.Idx, ∃ p ∈ L, y ∈ p.1.set := fun y => h.2 y (y 0).isLt
  unfold gqBlk
  rw [View.read_writes_eq_canon gqM.view f L hc]
  funext i
  rw [View.canon_apply_of_pieces (fun y : S24x72x512.Idx => GQ X (y 0).val (ix3 (0 : Fin 1) (y 1 : Fin 72) (y 2 : Fin 512))) L h.1 _ (hc _)]
  have h0 : (i 0).val < 1 := (i 0).isLt
  refine congrArg₂ (GQ X) (Nat.mod_eq_of_lt hb) (funext fun a => Fin.ext ?_)
  fin_cases a
  · show 0 = (i 0).val; omega
  · rfl
  · rfl

theorem bodyRun (g0 g1) (W) (Q : PUnit → sProp 𝕄) :
    iprop(PRE c XW arg0 arg1 arg3 arg4 arg5 g0 g1 W ∗ (POST c XW arg0 arg1 arg3 arg4 arg5 g0 g1 -∗ Q ⟨⟩))
      ⊢ wp frame (wpE (defs₀ (F := F)) 𝒱₀ (c : Thread nD τ) none) Set.univ (bodyG arg0 harg0 arg1 harg1 arg3 harg3 arg4 harg4 arg5 harg5) Q := by
  iintro ⟨⟨HG, HWS, ⟨%fo3, HO⟩, ⟨%fo4, HCD⟩, ⟨%fo5, HSC⟩, Hh0, Hh1, Hh2, Hh, ⟨⟨%f0, Hs0⟩, ⟨%f1, Hs1⟩, ⟨%f2, Hs2⟩, ⟨%f3, Hs3⟩, Hc0, Hc1, Hc2, Hc3, ⟨%fm, HM⟩, ⟨%fq, HQ⟩, ⟨%fa, HA⟩⟩, HW⟩, Hk⟩
  sl_exec
  ihave Hring := (ring_zero c XW f0 f1 f2 f3) $$ [Hc0 Hc1 Hc2 Hh Hc3 Hs3]
  · isplitl [Hc0]; · iexact Hc0
    isplitl [Hc1]; · iexact Hc1
    isplitl [Hc2]; · iexact Hc2
    isplitl [Hh]; · iexact Hh
    isplitl [Hc3]; · iexact Hc3
    iexact Hs3
  unfold ringAt Ring.At
  icases Hring with ⟨Hh, Hsl⟩
  let L2 := loopInv2 c XW arg0 harg0 arg1 harg1 arg3 harg3 arg4 harg4 arg5 harg5
  sl_exec
  sl_step
  iapply Hk
  have hs : bodyRun.sl.r c arg0 g0 = SC (arg0.view.read (Elt F) g0) := by
    delta bodyRun.sl.r bodyRun.sl.v29
    rw [View.readAt_full, read_mxC, show Scf.trips k0_t1_loop.lb k0_t1_loop.ub k0_t1_loop.st = 8 from trips1]
    unfold SC MX
    exact congrArg (fun M => k0_pay15 (mxAt _ M 8)) (View.read_writes_full mxM.view _ _ _ [])
  isplitl [HG]; · iexact HG
  isplitl [HWS]; · iexact HWS
  isplitl [HO]
  · iexists _; isplitl [HO]; · iexact HO
    ipureintro
    rw [View.read_writes_full]
    delta bodyRun.sl.r_15 bodyRun.sl.v380 bodyRun.sl.v381 bodyRun.sl.HSC_1
    rw [View.readAt_full, View.readAt_full, View.readCov_full, read_accC, show Scf.trips k0_t2_loop.lb k0_t2_loop.ub k0_t2_loop.st = 24 from trips2, show k0_pay15 (bodyRun.sl.v29 c arg0 g0) = SC (arg0.view.read (Elt F) g0) from hs]
    have hq : GQGood (arg0.view.read (Elt F) g0) 24 (bodyRun.sl.HQ_24 c arg0 g0) := by
      delta bodyRun.sl.HQ_24
      iterate 24 refine gq_step c arg0 g0 (bodyRun.sl.r c arg0 g0) hs _ (by decide) _ (by rfl) _ (by decide) _ (by rfl) _ ?_
      exact gq_nil _
    rw [accAt_congr c XW _ (GQ (arg0.view.read (Elt F) g0)) _ 24 fun b hb => gq_read c _ _ _ hq b hb]
    unfold OUT
    exact congrArg (fun A => k0_pay1 (k0_pay98 (accAt c XW (GQ (arg0.view.read (Elt F) g0)) A 24) (SC (arg0.view.read (Elt F) g0)) _)) (View.read_writes_full accM.view _ _ _ [])
  isplitl [HCD]
  · iexists _; isplitl [HCD]; · iexact HCD
    ipureintro
    refine cd_read c arg4 _ _ _ ?_
    delta bodyRun.sl.HCD_24
    iterate 24 refine cd_step c arg0 g0 (bodyRun.sl.r c arg0 g0) hs _ (by decide) _ (by rfl) _ _ (by rfl) _ ?_
    exact cd_nil _
  isplitl [HSC]
  · iexists _; isplitl [HSC]; · iexact HSC
    ipureintro
    delta bodyRun.sl.HSC_1
    rw [View.read_writes_full]
    exact hs
  ihave Hring := (show iprop(bigSep (Ring.homeSet 3 (Scf.trips k0_t2_loop.lb k0_t2_loop.ub k0_t2_loop.st)) (homeP c XW)
      ∗ bigSep Finset.univ (Ring.slotAt 3 (cellP c) (slotP c) (flightP c XW) (Scf.trips k0_t2_loop.lb k0_t2_loop.ub k0_t2_loop.st)))
      ⊢ iprop(bigSep Finset.univ (homeP c XW) ∗ Ring.free (cellP c) (slotP c) 0 ∗ Ring.free (cellP c) (slotP c) 1 ∗ Ring.free (cellP c) (slotP c) 2 ∗ Ring.free (cellP c) (slotP c) 3)
      from by rw [show Scf.trips k0_t2_loop.lb k0_t2_loop.ub k0_t2_loop.st = 24 from trips2]; exact Ring.free4_of_At_last _ _ _ _) $$ [Hh Hsl]
  · isplitl [Hh]; · iexact Hh
    iexact Hsl
  icases Hring with ⟨Hh, ⟨Hc0, Hs0⟩, ⟨Hc1, Hs1⟩, ⟨Hc2, Hs2⟩, ⟨Hc3, Hs3⟩⟩
  isplitl [Hh]; · iexact Hh
  isplitr [HW]
  · isplitl [Hs0]; · iexact Hs0
    isplitl [Hs1]; · iexact Hs1
    isplitl [Hs2]; · iexact Hs2
    isplitl [Hs3]; · iexact Hs3
    isplitl [Hc0]; · iexact Hc0
    isplitl [Hc1]; · iexact Hc1
    isplitl [Hc2]; · iexact Hc2
    isplitl [Hc3]; · iexact Hc3
    isplitl [HM]; · iexists _; iexact HM
    isplitl [HQ]; · iexists _; iexact HQ
    iexists _; iexact HA
  iexists _; iexact HW

end Body

end Cert.Proof.OutIdeal

end
-- ==== Proof.OutIdealLaunch.lean ====
module

public import proofs.«01_k».proof.Proof.OutIdealBody
public import proofs.«01_k».proof.Proof.OutLaunch

@[expose] public section

noncomputable section

namespace Cert.Proof.OutIdeal

open Cert.KernelOutIdeal Cert.KernelOutIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

private theorem entails_of_eq {P Q : sProp 𝕄} (e : P = Q) : P ⊢ Q := e ▸ .rfl

/-! ## The launch: the one region on every core -/

/-- A buffer's contents at launch. -/
abbrev V (c : Dev nD) (b : Ref sig .tc) : Buf (Elt F) ((c : Thread nD τ).loc b) := m ((c : Thread nD τ).loc b)
/-- The weight's, as the blocks read it. -/
abbrev XA (c : Dev nD) : Buf (Elt F) (wM.view.loc (c : Thread nD τ)) := m _

/-- The kernel's own semaphores: the four slots' cells. -/
abbrev osem : Fin 4 → SemLoc sig := fun s => .dma (csm s).sem
theorem ownSemFacts : Pipeline.OwnSemFacts spec0 osem := by decide

/-! ## Element sets: the weight's 24 row blocks, the ring's four slots -/

abbrev G24 (b : Fin 24) : Finset S12288x6144.Idx := (Rect.unit (s := S12288x6144) (blkOff b) S512x6144.size (blkOff_inb b)).set
abbrev S4s (s : Fin 4) : Finset S4x512x6144.Idx := (Rect.unit (s := S4x512x6144) (slotOff s) S1x512x6144.size (slotOff_inb s)).set

omit [FloatOps F] in
theorem blk_set (b : Fin 24) : (blk b : Memref sig .tc .hbm _ _).view.set = G24 b := View.set_slice_whole _ _
omit [FloatOps F] in
theorem rslot_set (s : Fin 4) : (rslot s : Memref sig .tc .vmem _ _).view.set = S4s s := (View.set_reshape _ _).trans (View.set_slice_whole _ _)

theorem mem_G24 (b : Fin 24) (y : S12288x6144.Idx) : y ∈ G24 b ↔ 512 * b.val ≤ (y 0).val ∧ (y 0).val < 512 * b.val + 512 := by
  rw [Rect.mem_set_unit]
  have h1 : (y 1).val < 6144 := (y 1).isLt
  constructor
  · intro H; exact H 0
  · intro H i; fin_cases i
    · exact H
    · show 0 ≤ (y 1).val ∧ (y 1).val < 0 + 6144; omega
theorem mem_S4s (s : Fin 4) (y : S4x512x6144.Idx) : y ∈ S4s s ↔ (y 0).val = s.val := by
  rw [Rect.mem_set_unit]
  have h1 : (y 1).val < 512 := (y 1).isLt
  have h2 : (y 2).val < 6144 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 6144; omega
theorem G24_disjoint : ∀ b b' : Fin 24, b ≠ b' → Disjoint (G24 b) (G24 b') := by
  intro b b' hne; rw [Finset.disjoint_left]; intro y hy hy'; rw [mem_G24] at hy hy'; exact hne (Fin.ext (by omega))
theorem G24_cover : (Finset.univ : Finset (Fin 24)).biUnion G24 = Finset.univ := by
  ext y; simp only [Finset.mem_biUnion, Finset.mem_univ, true_and, iff_true]
  have h0 : (y 0).val < 12288 := (y 0).isLt
  exact ⟨⟨(y 0).val / 512, by omega⟩, by rw [mem_G24]; dsimp only; omega⟩
theorem S4s_disjoint : ∀ s s' : Fin 4, s ≠ s' → Disjoint (S4s s) (S4s s') := by
  intro s s' hne; rw [Finset.disjoint_left]; intro y hy hy'; rw [mem_S4s] at hy hy'; exact hne (Fin.ext (hy.symm.trans hy'))
theorem S4s_cover : (Finset.univ : Finset (Fin 4)).biUnion S4s = Finset.univ := by
  ext y; simp only [Finset.mem_biUnion, Finset.mem_univ, true_and, iff_true]; exact ⟨(y 0).cast (by decide), by rw [mem_S4s]; rfl⟩

/-- The weight whole is its 24 row blocks home; -/
theorem w_eq (c : Dev nD) :
    (((c : Thread nD τ).loc main_arg1) ↦{fullShare} m ((c : Thread nD τ).loc main_arg1) : sProp 𝕄) = bigSep Finset.univ (homeP c (XA m c)) := by
  rw [Ring.pointsTo_blocks (ℓ := (c : Thread nD τ).loc main_arg1) G24 G24_disjoint G24_cover]
  exact bigSep_congr fun b _ => by rw [← blk_set]; rfl
/-- at the body's entry, blocks 0, 1 and 2 apart from the rest. -/
theorem homes_zero (c : Dev nD) (XA : Buf (Elt F) (wM.view.loc (c : Thread nD τ))) :
    bigSep Finset.univ (homeP c XA) = iprop(homeP c XA 0 ∗ homeP c XA 1 ∗ homeP c XA 2 ∗ bigSep (Ring.homeSet 3 0) (homeP c XA)) := by
  have e : (Finset.univ : Finset (Fin 24)) = insert 0 (insert 1 (insert 2 (Ring.homeSet (NB := 24) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]), bigSep_insert (by simp [Ring.mem_homeSet])]; rfl

omit [FloatOps F] in
theorem slotP_eq (c : Dev nD) (s : Fin 4) (f) : slotP c s f = (((c : Thread nD τ).loc cc0_scratch0) ↦[S4s s]{fullShare} f : sProp 𝕄) :=
  congrArg (fun S => (_ ↦[S]{fullShare} f : sProp 𝕄)) (rslot_set s)
/-- The ring's buffer whole is its four slots, and back. -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ (∃ f, slotP c 2 f) ∗ ∃ f, slotP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) S4s S4s_disjoint S4s_cover f).trans (Ring.bigSep_fin4 _))) $$ H
  icases H2 with ⟨H0, H1, H2, H3⟩
  isplitl [H0]
  · iexists f; iapply (entails_of_eq (slotP_eq c 0 f).symm); iexact H0
  isplitl [H1]
  · iexists f; iapply (entails_of_eq (slotP_eq c 1 f).symm); iexact H1
  isplitl [H2]
  · iexists f; iapply (entails_of_eq (slotP_eq c 2 f).symm); iexact H2
  · iexists f; iapply (entails_of_eq (slotP_eq c 3 f).symm); iexact H3
theorem buf_join (c : Dev nD) :
    iprop((∃ f, slotP c 0 f) ∗ (∃ f, slotP c 1 f) ∗ (∃ f, slotP c 2 f) ∗ ∃ f, slotP c 3 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) S4s S4s_disjoint S4s_cover f0)
  irw [Ring.bigSep_fin4]
  isplitl [H0]
  · iexists f0; iapply (entails_of_eq (slotP_eq c 0 f0)); iexact H0
  isplitl [H1]
  · iexists f1; iapply (entails_of_eq (slotP_eq c 1 f1)); iexact H1
  isplitl [H2]
  · iexists f2; iapply (entails_of_eq (slotP_eq c 2 f2)); iexact H2
  · iexists f3; iapply (entails_of_eq (slotP_eq c 3 f3)); iexact H3

omit [FloatOps F] in
/-- A scratch buffer whole, as its memref states it. -/
theorem mx_whole (c : Dev nD) (f) : mxP c f = (((c : Thread nD τ).loc cc0_scratch1) ↦{fullShare} f : sProp 𝕄) :=
  congrArg (fun S => (_ ↦[S]{fullShare} f : sProp 𝕄)) (View.set_whole _)
omit [FloatOps F] in
/-- A scratch buffer whole, as its memref states it. -/
theorem gq_whole (c : Dev nD) (f) : gqP c f = (((c : Thread nD τ).loc cc0_scratch2) ↦{fullShare} f : sProp 𝕄) :=
  congrArg (fun S => (_ ↦[S]{fullShare} f : sProp 𝕄)) (View.set_whole _)
omit [FloatOps F] in
/-- A scratch buffer whole, as its memref states it. -/
theorem acc_whole (c : Dev nD) (f) : accP c f = (((c : Thread nD τ).loc cc0_scratch3) ↦{fullShare} f : sProp 𝕄) :=
  congrArg (fun S => (_ ↦[S]{fullShare} f : sProp 𝕄)) (View.set_whole _)

omit [FloatOps F] in
/-- The kernel's own cells at zero are the four slots' cells. -/
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2 ∗ cellP c 3) := by
  unfold Pipeline.ownSems0; rw [Ring.bigSep_fin4]

/-! ## The pipeline's proof data -/

/-- The region invariant, the same before and after the one point: the weight home, the kernel's own buffers at
    anything, its cells at zero. -/
def Φ (c : Dev nD) : sProp 𝕄 := iprop(bigSep Finset.univ (homeP c (XA m c)) ∗ OWN c)

/-- Window `w`'s block at point `t`, read off its array at launch. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => OUT c (XA m c) (iblk m c 0 t) (iblk m c 1 t)
    | ⟨3, _⟩ => CODES (iblk m c 0 t)
    | ⟨4, _⟩ => SC (iblk m c 0 t)
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = OUT c (XA m c) (iblk m c 0 t) (iblk m c 1 t) := by dsimp only [dats]
theorem after_w3 (c : Dev nD) (t : Fin cfg0.N) : (dats m 0 c).after 3 t = CODES (iblk m c 0 t) := by dsimp only [dats]
theorem after_w4 (c : Dev nD) (t : Fin cfg0.N) : (dats m 0 c).after 4 t = SC (iblk m c 0 t) := by dsimp only [dats]

/-! ## The body obligation -/

/-- The body table's entry is the kernel on the point's staging memrefs. -/
theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) (st0_4 t) (hstage0_4 0) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, after_w0, after_w1, after_w2, after_w3, after_w4]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hh24, HOWN⟩, ⟨%W, -, HW⟩, ⟨%d0, %g0, %hg0, H0⟩, ⟨%d1, %g1, %hg1, H1⟩, ⟨%d2, %g2, -, H2⟩, ⟨%d3, %g3, -, H3⟩, ⟨%d4, %g4, -, H4⟩⟩
  ihave Hh3 := (entails_of_eq (homes_zero c (XA m c))) $$ Hh24
  icases Hh3 with ⟨Hg0, Hg1, Hg2, Hh⟩
  sl_rw [prog_eq t]
  iapply (bodyRun c (XA m c) (st0_0 t) (hstage0_0 0) (st0_1 t) (hstage0_1 0) (st0_2 t) (hstage0_2 0) (st0_3 t) (hstage0_3 0) (st0_4 t) (hstage0_4 0) g0 g1 W)
  isplitl [H0 H1 H2 H3 H4 Hg0 Hg1 Hg2 Hh HOWN HW]
  · isplitl [H0]; · iexact H0
    isplitl [H1]; · iexact H1
    isplitl [H2]; · iexists g2; iexact H2
    isplitl [H3]; · iexists g3; iexact H3
    isplitl [H4]; · iexists g4; iexact H4
    isplitl [Hg0]; · iexact Hg0
    isplitl [Hg1]; · iexact Hg1
    isplitl [Hg2]; · iexact Hg2
    isplitl [Hh]; · iexact Hh
    isplitl [HOWN]; · iexact HOWN
    iexact HW
  · iintro ⟨H0, H1, ⟨%f2, H2, %h2⟩, ⟨%f3, H3, %h3⟩, ⟨%f4, H4, %h4⟩, Hh, HOWN, ⟨%W', HW⟩⟩
    isplitl [Hh HOWN]
    · isplitl [Hh]; · iexact Hh
      iexact HOWN
    isplitl [HW]
    · iexists W'; isplitr; · ipureintro; exact fun _ _ => Or.inl trivial
      iexact HW
    isplitl [H0]
    · iexists g0; isplitr; · ipureintro; exact hg0
      iexact H0
    isplitl [H1]
    · iexists g1; isplitr; · ipureintro; exact hg1
      iexact H1
    isplitl [H2]
    · iexists f2; isplitr; · ipureintro; exact h2.trans (congrArg₂ (OUT c (XA m c)) hg0 hg1)
      iexact H2
    isplitl [H3]
    · iexists f3; isplitr; · ipureintro; exact h3.trans (congrArg CODES hg0)
      iexact H3
    · iexists f4; isplitr; · ipureintro; exact h4.trans (congrArg SC hg0)
      iexact H4

/-! ## The run -/

def intoΦ (c : Dev nD) : sProp 𝕄 := iprop(bigSep Finset.univ (homeP c (XA m c)) ∗ Pipeline.ownSems0 osem c)
def outOfΦ (c : Dev nD) : sProp 𝕄 := ((c : Thread nD τ).loc main_arg1) ↦{fullShare} m ((c : Thread nD τ).loc main_arg1)
def u₀ : UU nD τ := (initOf (Pipeline.cells cfgs Cert.KernelOutIdeal.Gen.cellOf_inj) (Pipeline.launchToks cfgs Cert.KernelOutIdeal.Gen.cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop := s.mem ((c : Thread nD τ).loc main_arg1) = m ((c : Thread nD τ).loc main_arg1)
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- For any float values, from any memory with zero counters: every weakly fair execution of @main on the TensorCores
    terminates, and every final state has each window's array at its computed contents, the weight unchanged, every
    semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_region cfgs 0 defs₀ 𝒱₀ m main fun c => (main_chain c).trans rfl)
    (hA := fun _ _ => rfl)
    (X := intoΦ m) (Y := outOfΦ m) (Z := fun _ => iprop(emp))
    (hX := fun c => by
      rw [unscopedRest0_eq, w_eq m c]
      unfold intoΦ
      iintro ⟨H0, HS, -, -, -⟩; imodintro
      isplitl [H0 HS]
      · isplitl [H0]; · iexact H0
        iexact HS
      iempintro)
    (hin := fun c => by
      rw [scopedRest0_eq, show (dats m 0 c).Φ 0 = Φ m c from rfl]
      unfold intoΦ Φ; rw [ownSems0_eq]
      iintro ⟨⟨H0, Hc0, Hc1, Hc2, Hc3⟩, Hb, ⟨%f1, Hm⟩, ⟨%f2, Hq⟩, ⟨%f3, Ha⟩⟩
      ihave Hs := (buf_split c) $$ Hb
      icases Hs with ⟨Hs0, Hs1, Hs2, Hs3⟩
      isplitl [H0]; · iexact H0
      isplitl [Hs0]; · iexact Hs0
      isplitl [Hs1]; · iexact Hs1
      isplitl [Hs2]; · iexact Hs2
      isplitl [Hs3]; · iexact Hs3
      isplitl [Hc0]; · iexact Hc0
      isplitl [Hc1]; · iexact Hc1
      isplitl [Hc2]; · iexact Hc2
      isplitl [Hc3]; · iexact Hc3
      isplitl [Hm]; · iexists f1; iapply (entails_of_eq (mx_whole c f1).symm); iexact Hm
      isplitl [Hq]; · iexists f2; iapply (entails_of_eq (gq_whole c f2).symm); iexact Hq
      iexists f3; iapply (entails_of_eq (acc_whole c f3).symm); iexact Ha)
    (hout := fun c => by
      rw [scopedRest0_eq, show (dats m 0 c).Φ (Fin.last cfg0.N) = Φ m c from rfl, ownSems0_eq]
      unfold Φ outOfΦ; rw [← w_eq m c]
      iintro ⟨H0, Hs0, Hs1, Hs2, Hs3, Hc0, Hc1, Hc2, Hc3, ⟨%f1, Hm⟩, ⟨%f2, Hq⟩, ⟨%f3, Ha⟩⟩
      isplitl [H0]; · iexact H0
      isplitl [Hc0 Hc1 Hc2 Hc3]
      · isplitl [Hc0]; · iexact Hc0
        isplitl [Hc1]; · iexact Hc1
        isplitl [Hc2]; · iexact Hc2
        iexact Hc3
      isplitl [Hs0 Hs1 Hs2 Hs3]
      · iapply (buf_join c)
        isplitl [Hs0]; · iexact Hs0
        isplitl [Hs1]; · iexact Hs1
        isplitl [Hs2]; · iexact Hs2
        iexact Hs3
      isplitl [Hm]; · iexists f1; iapply (entails_of_eq (mx_whole c f1)); iexact Hm
      isplitl [Hq]; · iexists f2; iapply (entails_of_eq (gq_whole c f2)); iexact Hq
      iexists f3; iapply (entails_of_eq (acc_whole c f3)); iexact Ha)
    (QY := QY m)
    (hY := fun c s' => by
      unfold outOfΦ
      iintro ⟨H0, -, HSI⟩
      icombine HSI H0 gives %h0
      imodintro
      isplitr; · ipureintro; exact Buf.eq_of_forall_mem_univ h0
      iexact HSI)
    (hQ := fun _ hh hz => ⟨hh, hz⟩)

theorem finalA_in (c : Dev nD) (w : Fin cfg0.W) (hw : (cfg0.win w).isOut = false) :
    finalA m c w = m ((cfg0.win w).arr.view.loc (c : Thread nD τ)) :=
  (dats (F := F) m 0 c).arrAt_in w hw _

/-! ## The claim -/

/-- The kernel terminates from every memory, leaves its arguments as they were and every semaphore at zero. -/
theorem frame : Cert.quiescent_KernelOutIdeal := fun m ρ _ =>
  (θ_run defs _ _).mono (fun _ hh => ⟨fun c => ⟨((hh.1 c).1 0).trans (finalA_in m c 0 rfl), (hh.1 c).2, ((hh.1 c).1 1).trans (finalA_in m c 1 rfl)⟩, hh.2⟩) (run_main m ρ)

end Cert.Proof.OutIdeal

end
-- ==== Proof.Quant.lean ====
module

public import Idealize.ShloMosaic.Lib.ValueIdx
public import Idealize.ShloMosaic.Lib.ValueIdxCore
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.PureOps.Ideal.Laws

@[expose] public section

noncomputable section

/-! General facts over the reals that the comparison of the kernel with its reference rests on: the
symmetric int8 quantiser at one entry, the maximum of a row, a sum split in blocks. -/

namespace Cert.Proof.Quant

open Idealize.ShloMosaic Idealize.ShloMosaic.ValueIdx

/-- The word of 127 means the real 127. -/
theorem bits127 : Ideal.ofBits .f32 0x42FE0000#32 = ((127 : ℝ) : EReal) := by
  simp [Ideal.ofBits, Ideal.ieee, -EReal.coe_mul]; norm_num

/-- The word of -127 means the real -127. -/
theorem bitsNeg127 : Ideal.ofBits .f32 0xC2FE0000#32 = ((-127 : ℝ) : EReal) := by
  simp [Ideal.ofBits, Ideal.ieee, -EReal.coe_mul, -EReal.coe_neg]; norm_num

/-- One entry `x` divided by the scale `s`, rounded half to even, and clipped to [-127, 127]. -/
def qz (x s : EReal) : EReal :=
  min (Ideal.ofBits .f32 0x42FE0000#32)
    (max (Ideal.ofBits .f32 0xC2FE0000#32) (Ideal.liftRound Ideal.roundHalfEven (Ideal.div x s)))

/-- The quantiser's operations, read at one entry. -/
theorem clip_apply {s : Shape} (x b : FVec Ideal s .f32) (i : s.Idx) :
    (minimumf (broadcast s (Scalar.ofBits .f32 0x42FE0000#32)) (maximumf (broadcast s (Scalar.ofBits .f32 0xC2FE0000#32)) (roundeven (divf x b)))
      : FVec Ideal s .f32) i = qz (x i) (b i) := rfl

/-- A rounded and clipped entry is an integer between -127 and 127. -/
theorem qz_int (x s : EReal) : ∃ z : ℤ, -127 ≤ z ∧ z ≤ 127 ∧ qz x s = ((z : ℝ) : EReal) := by
  unfold qz
  rw [bits127, bitsNeg127]
  generalize Ideal.div x s = w
  induction w using EReal.rec with
  | bot =>
    refine ⟨-127, le_refl _, by omega, ?_⟩
    rw [Ideal.liftRound_bot, max_eq_left bot_le, min_eq_right (by exact_mod_cast (by norm_num : (-127 : ℝ) ≤ 127))]
    norm_num
  | top =>
    refine ⟨127, by omega, le_refl _, ?_⟩
    rw [Ideal.liftRound_top, max_eq_right le_top, min_eq_left le_top]
    norm_num
  | coe r =>
    rw [Ideal.liftRound_coe]
    generalize Ideal.roundHalfEven r = n
    refine ⟨min 127 (max (-127) n), by omega, by omega, ?_⟩
    have hm := EReal.coe_strictMono.monotone
    rw [← hm.map_max, ← hm.map_min]
    push_cast
    rfl

/-- Writing a rounded and clipped entry as an int8 and reading it back gives the entry. -/
theorem code_fix (x s : EReal) : (((Ideal.fptosi 8 (qz x s)).toInt : ℝ) : EReal) = qz x s := by
  obtain ⟨z, h1, h2, e⟩ := qz_int x s
  rw [e]
  have hz : (Ideal.fptosi 8 ((z : ℝ) : EReal)).toInt = z := by
    unfold Ideal.fptosi
    rw [Ideal.toIntClamped_coe, BitVec.toInt_ofInt]
    simp only [Int.floor_intCast, Int.ceil_intCast, ite_self]
    rw [Int.bmod_def]
    norm_num
    split <;> omega
  rw [hz]

/-- The absolute value as the kernels take it. -/
def ab (x : EReal) : EReal := max x (-x)

theorem ab_nonneg (x : EReal) : 0 ≤ ab x := by
  unfold ab
  rcases le_total 0 x with h | h
  · exact le_max_of_le_left h
  · exact le_max_of_le_right (by simpa using EReal.neg_le_neg_iff.mpr h)

/-- The maximum over a row lies below `c` exactly when the row's entries do. -/
theorem rowMax_le {R N : ℕ} (v : FVec Ideal ⟨2, ![R, N]⟩ .f32) (acc : BitVec FTy.f32.bits)
    (h : Shape.Reduces ⟨2, ![R, N]⟩ [1] ⟨1, ![R]⟩) (hφ : FKind.Formats .f32) (hacc : acc = FKind.maximumf.neutral .f32 hφ)
    (r : Fin R) (c : EReal) :
    multiReduction .maximumf [1] ⟨1, ![R]⟩ v acc h hφ hacc (ix1 r) ≤ c
      ↔ Ideal.ofBits .f32 acc ≤ c ∧ ∀ k : Fin N, v (ix2 r k) ≤ c := by
  rw [Ideal.multiReduction_maximumf_single, Finset.fold_max_le]
  have hl : ∀ k : Fin N, (v ∘ h.lift (ix1 r)) k = v (ix2 r k) := by
    intro k; refine congrArg v (funext fun a => Fin.ext ?_)
    show h.liftVal (ix1 r) k.val a = _
    fin_cases a <;> rfl
  exact and_congr Iff.rfl ⟨fun H k => (hl k) ▸ H k (Finset.mem_univ _), fun H k _ => (hl k).trans_le (H k)⟩

/-- A sum over `512 * n` terms, taken 512 at a time. -/
theorem sum_blocks (f : ℕ → EReal) (n : ℕ) :
    ∑ b ∈ Finset.range n, ∑ k ∈ Finset.range 512, f (512 * b + k) = ∑ K ∈ Finset.range (512 * n), f K := by
  induction n with
  | zero => rfl
  | succ n ih => rw [Finset.sum_range_succ, ih, Nat.mul_succ, Finset.sum_range_add]

/-- Broadcasting a column along its rows. -/
theorem bcCol {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r 0) := by
  refine broadcastTo_apply v h (ix2 r c) (ix2 r 0) ?_
  intro d
  fin_cases d
  · by_cases h1 : a = 1
    · subst h1; simp
    · simp [h1]
  · simp

end Cert.Proof.Quant
-- ==== Proof.OutValue.lean ====
module

public import proofs.«01_k».proof.Proof.OutIdealLaunch
public import proofs.«01_k».proof.Proof.Gen.ReferenceOutIdeal.Value
public import proofs.«01_k».proof.Proof.Quant

@[expose] public section

noncomputable section

/-! The kernel's three results, over the extended reals, are the reference's. -/

namespace Cert.Proof.OutIdeal

open Cert.KernelOutIdeal Cert.KernelOutIdeal.Gen Cert.Proof.Quant
open Idealize.ShloMosaic Idealize.ShloMosaic.TcCoe Idealize.ShloMosaic.ValueIdx Idealize.SL.Sem

theorem eta2 {a b : ℕ} (i : (⟨2, ![a, b]⟩ : Shape).Idx) : ∃ (r : Fin a) (k : Fin b), i = ix2 r k :=
  ⟨i 0, i 1, by funext d; fin_cases d <;> rfl⟩

/-! ## The scale -/

/-- One lane group of a tile taken into the running maximum. -/
theorem grp_apply (o : ℕ) (v : Vec Ideal S72x512 .f32) (M : Vec Ideal S72x128 .f32) (hs : S72x512.Slices ![0, o] S72x128)
    (hc : S72x128.ShapeCasts S72x128) (r : Fin 72) (l : Fin 128) (k : Fin 512) (hk : k.val = o + l.val) :
    shapeCast S72x128 (maximumf M (absf (extractStridedSlice S72x128 ![0, o] v hs)) : FVec Ideal S72x128 .f32) hc (ix2 r l)
      = max (M (ix2 r l)) (ab (v (ix2 r k))) := by
  rw [shapeCast_self]
  show max (M (ix2 r l)) (ab (extractStridedSlice S72x128 ![0, o] v hs (ix2 r l))) = _
  rw [extractStridedSlice_apply ![0, o] v hs (ix2 r l) (ix2 r k)]
  intro a
  fin_cases a
  · show r.val = 0 + r.val; omega
  · show k.val = o + l.val; exact hk

/-- The four lane groups of a tile taken into the running maximum. -/
def tile4 (v : Vec Ideal S72x512 .f32) (M : Vec Ideal S72x128 .f32) : Vec Ideal S72x128 .f32 :=
  k0_pay5 v (k0_pay4 v (k0_pay3 v (k0_pay2 v M)))

theorem tile4_le (v : Vec Ideal S72x512 .f32) (M : Vec Ideal S72x128 .f32) (r : Fin 72) (l : Fin 128) (c : EReal) :
    tile4 v M (ix2 r l) ≤ c ↔ M (ix2 r l) ≤ c ∧ ∀ j : Fin 4, ab (v (ix2 r (⟨128 * j.val + l.val, by omega⟩ : Fin 512))) ≤ c := by
  have e5 : ∀ M, k0_pay5 (F := Ideal) v M (ix2 r l) = max (M (ix2 r l)) (ab (v (ix2 r (⟨128 * 3 + l.val, by omega⟩ : Fin 512)))) :=
    fun M => grp_apply 384 v M _ _ r l _ rfl
  have e4 : ∀ M, k0_pay4 (F := Ideal) v M (ix2 r l) = max (M (ix2 r l)) (ab (v (ix2 r (⟨128 * 2 + l.val, by omega⟩ : Fin 512)))) :=
    fun M => grp_apply 256 v M _ _ r l _ rfl
  have e3 : ∀ M, k0_pay3 (F := Ideal) v M (ix2 r l) = max (M (ix2 r l)) (ab (v (ix2 r (⟨128 * 1 + l.val, by omega⟩ : Fin 512)))) :=
    fun M => grp_apply 128 v M _ _ r l _ rfl
  have e2 : ∀ M, k0_pay2 (F := Ideal) v M (ix2 r l) = max (M (ix2 r l)) (ab (v (ix2 r (⟨128 * 0 + l.val, by omega⟩ : Fin 512)))) :=
    fun M => grp_apply 0 v M _ _ r l _ (by show 128 * 0 + l.val = 0 + l.val; omega)
  unfold tile4
  rw [e5, e4, e3, e2]
  simp only [max_le_iff]
  constructor
  · rintro ⟨⟨⟨⟨h, h0⟩, h1⟩, h2⟩, h3⟩
    refine ⟨h, fun j => ?_⟩
    fin_cases j
    exacts [h0, h1, h2, h3]
  · rintro ⟨h, H⟩
    exact ⟨⟨⟨⟨h, H 0⟩, H 1⟩, H 2⟩, H 3⟩

/-- Entry `K` of row `r`, the columns counted around the row. -/
def at_ (X : Vec Ideal S72x12288 .f32) (r : Fin 72) (K : ℕ) : EReal := X (ix2 r (⟨K % 12288, Nat.mod_lt _ (by decide)⟩ : Fin 12288))

theorem mxStep_eq (X : Vec Ideal S72x12288 .f32) (M : Vec Ideal S72x128 .f32) (k : ℕ) :
    mxStep X M k = tile4 (gTile X (3 * k + 2)) (tile4 (gTile X (3 * k + 1)) (tile4 (gTile X (3 * k + 0)) M)) := rfl

theorem mxAt_le (X : Vec Ideal S72x12288 .f32) (M : Vec Ideal S72x128 .f32) (r : Fin 72) (l : Fin 128) (c : EReal) (n : ℕ) :
    mxAt X M n (ix2 r l) ≤ c ↔ M (ix2 r l) ≤ c ∧ ∀ j : ℕ, j < 12 * n → ab (at_ X r (128 * j + l.val)) ≤ c := by
  induction n with
  | zero => exact ⟨fun h => ⟨h, fun j hj => absurd hj (by omega)⟩, fun h => h.1⟩
  | succ n ih =>
    have hg : ∀ (t : ℕ) (j : Fin 4), gTile X t (ix2 r (⟨128 * j.val + l.val, by omega⟩ : Fin 512)) = at_ X r (128 * (4 * t + j.val) + l.val) := by
      intro t j
      refine congrArg X (funext fun a => Fin.ext ?_)
      fin_cases a
      · rfl
      · show (512 * t + (128 * j.val + l.val)) % 12288 = (128 * (4 * t + j.val) + l.val) % 12288
        congr 1; omega
    rw [mxAt, mxStep_eq, tile4_le, tile4_le, tile4_le, ih]
    simp only [hg]
    constructor
    · rintro ⟨⟨⟨⟨h, h0⟩, h1⟩, h2⟩, h3⟩
      refine ⟨h, fun j hj => ?_⟩
      by_cases hlt : j < 12 * n
      · exact h0 j hlt
      by_cases q1 : j < 12 * n + 4
      · have := h1 ⟨j - 12 * n, by omega⟩
        rwa [show 4 * (3 * n + 0) + (j - 12 * n) = j by omega] at this
      by_cases q2 : j < 12 * n + 8
      · have := h2 ⟨j - (12 * n + 4), by omega⟩
        rwa [show 4 * (3 * n + 1) + (j - (12 * n + 4)) = j by omega] at this
      · have := h3 ⟨j - (12 * n + 8), by omega⟩
        rwa [show 4 * (3 * n + 2) + (j - (12 * n + 8)) = j by omega] at this
    · rintro ⟨h, H⟩
      exact ⟨⟨⟨⟨h, fun j hj => H j (by omega)⟩, fun j => H _ (by omega)⟩, fun j => H _ (by omega)⟩, fun j => H _ (by omega)⟩

/-- The running maximum over the lane groups, maximised over the lanes, is the row's maximum. -/
theorem rowMax_eq (X : Vec Ideal S72x12288 .f32) (r : Fin 72) :
    multiReduction .maximumf [1] S72 (MX X : FVec Ideal S72x128 .f32) 0xFF800000#32 reduces_S72x128_S72 (.inl rfl) rfl (ix1 r)
      = multiReduction .maximumf [1] Cert.ReferenceOutIdeal.S72 (absf X : FVec Ideal Cert.ReferenceOutIdeal.S72x12288 .f32) 0xFF800000#32
          Cert.ReferenceOutIdeal.Gen.reduces_S72x12288_S72 (.inl rfl) rfl (ix1 r) := by
  refine eq_of_forall_ge_iff fun c => ?_
  refine (rowMax_le (R := 72) (N := 128) _ _ _ _ _ r c).trans ((and_congr Iff.rfl ?_).trans (rowMax_le (R := 72) (N := 12288) _ _ _ _ _ r c).symm)
  have h0 : (k0_pay10 (F := Ideal)) = fun _ => (0 : EReal) := by
    funext i
    show Ideal.ofBits .f32 0x00000000#32 = 0
    exact Ideal.ofBits_zero_f32
  unfold MX
  rw [h0]
  constructor
  · intro H K
    have h1 := ((mxAt_le X _ r ⟨K.val % 128, Nat.mod_lt _ (by decide)⟩ c 8).1 (H _)).2 (K.val / 128) (by have := K.isLt; omega)
    refine le_of_eq_of_le ?_ h1
    show ab (X (ix2 r K)) = _
    refine congrArg (fun z => ab (X (ix2 r z))) (Fin.ext ?_)
    show K.val = (128 * (K.val / 128) + K.val % 128) % 12288
    have := K.isLt; omega
  · intro H l
    exact (mxAt_le X _ r l c 8).2 ⟨(ab_nonneg (X (ix2 r 0))).trans (H 0), fun j _ => H _⟩

/-- The scales are the reference's. -/
theorem SC_eq (X : Vec Ideal S72x12288 .f32) : SC X = Cert.ReferenceOutIdeal.Gen.k0_pay1 (F := Ideal) X := by
  have e : (multiReduction .maximumf [1] S72 (MX X : FVec Ideal S72x128 .f32) 0xFF800000#32 reduces_S72x128_S72 (.inl rfl) rfl)
      = multiReduction .maximumf [1] Cert.ReferenceOutIdeal.S72 (absf X : FVec Ideal Cert.ReferenceOutIdeal.S72x12288 .f32) 0xFF800000#32
          Cert.ReferenceOutIdeal.Gen.reduces_S72x12288_S72 (.inl rfl) rfl := by
    funext i
    obtain ⟨r, rfl⟩ : ∃ r : Fin 72, i = ix1 r := ⟨i 0, by funext d; fin_cases d; rfl⟩
    exact rowMax_eq X r
  unfold SC k0_pay15 Cert.ReferenceOutIdeal.Gen.k0_pay1
  dsimp only
  rw [e]

/-! ## The codes -/

theorem qT_apply (X : Vec Ideal S72x12288 .f32) (t : ℕ) (r : Fin 72) (j : Fin 512) :
    qT X t (ix2 r j) = qz (at_ X r (512 * t + j.val)) (SC X (ix2 r 0)) := by
  unfold qT k0_pay22
  refine (clip_apply (gTile X t) (broadcastTo S72x512 (SC X) broadcasts_S72x1_S72x512) (ix2 r j)).trans ?_
  exact congrArg (qz (at_ X r (512 * t + j.val))) (bcCol (a := 72) (b := 512) (SC X) _ r j)

theorem ref_code (X : Vec Ideal S72x12288 .f32) (r : Fin 72) (K : Fin 12288) :
    Cert.ReferenceOutIdeal.Gen.k0_pay2 (F := Ideal) X (ix2 r K) = Ideal.fptosi 8 (qz (X (ix2 r K)) (SC X (ix2 r 0))) := by
  rw [SC_eq]
  unfold Cert.ReferenceOutIdeal.Gen.k0_pay2
  refine congrArg (Ideal.fptosi 8) ((clip_apply X (broadcastTo Cert.ReferenceOutIdeal.S72x12288 (Cert.ReferenceOutIdeal.Gen.k0_pay1 (F := Ideal) X)
    Cert.ReferenceOutIdeal.Gen.broadcasts_S72x1_S72x12288) (ix2 r K)).trans ?_)
  exact congrArg (qz (X (ix2 r K))) (bcCol (a := 72) (b := 12288) _ _ r K)

theorem at_lt (X : Vec Ideal S72x12288 .f32) (r : Fin 72) (K : Fin 12288) : at_ X r K.val = X (ix2 r K) :=
  congrArg (fun z => X (ix2 r z)) (Fin.ext (Nat.mod_eq_of_lt K.isLt))

/-- The int8 codes are the reference's. -/
theorem CODES_eq (X : Vec Ideal S72x12288 .f32) : CODES X = Cert.ReferenceOutIdeal.Gen.k0_pay2 (F := Ideal) X := by
  funext i
  obtain ⟨r, K, rfl⟩ := eta2 (a := 72) (b := 12288) i
  rw [ref_code]
  show Ideal.fptosi 8 (qT X (K.val / 512) (ix2 r (⟨K.val % 512, Nat.mod_lt _ (by decide)⟩ : Fin 512))) = _
  rw [qT_apply, ← at_lt X r K]
  have e : 512 * (K.val / 512) + K.val % 512 = K.val := by omega
  exact congrArg (fun z => Ideal.fptosi 8 (qz (at_ X r z) (SC X (ix2 r 0)))) e

/-! ## The product -/

section Product

variable (c : Dev nD) (XW : Buf (Elt Ideal) (wM.view.loc (c : Thread nD τ)))

/-- Weight `(K, j)` as a real, the rows counted around. -/
def wAt (K : ℕ) (j : Fin 6144) : EReal :=
  ((((show Vec Ideal S12288x6144 .i8 from XW) (ix2 (⟨K % 12288, Nat.mod_lt _ (by decide)⟩ : Fin 12288) j) : BitVec 8).toInt : ℝ) : EReal)

theorem wBlk_apply (b : ℕ) (hb : b < 24) (k : Fin 512) (j : Fin 6144) :
    (sitofp .bf16 (shapeCast S512x6144 (wBlk c XW b) shapeCasts_S1x512x6144_S512x6144 : IVec S512x6144 8) : FVec Ideal S512x6144 .bf16) (ix2 k j)
      = wAt c XW (512 * b + k.val) j := by
  show (((shapeCast S512x6144 (wBlk c XW b) shapeCasts_S1x512x6144_S512x6144 (ix2 k j) : BitVec 8).toInt : ℝ) : EReal) = _
  refine (congrArg (fun z : BitVec 8 => ((z.toInt : ℝ) : EReal)) ((shapeCast_1ab_ab_apply (a := 512) (b := 6144) _ _ k j).trans
    (shapeCast_ab_1ab_apply (a := 512) (b := 6144) ((blk (Ring.bk 24 b)).view.read (Elt Ideal) XW) rfl 0 k j))).trans ?_
  unfold wAt
  refine congrArg (fun z : BitVec 8 => ((z.toInt : ℝ) : EReal)) ?_
  refine congrArg (show Vec Ideal S12288x6144 .i8 from XW) (funext fun a => Fin.ext ?_)
  have := k.isLt
  fin_cases a
  · show 512 * (Ring.bk 24 b).val + 1 * k.val = (512 * b + k.val) % 12288
    rw [Ring.bk_val, Nat.mod_eq_of_lt (by omega : 512 * b + k.val < 12288)]
    · omega
    · exact hb
  · show 0 + 1 * j.val = j.val; omega

theorem accAt_apply (X : Vec Ideal S72x12288 .f32) (r : Fin 72) (j : Fin 6144) (n : ℕ) (hn : n ≤ 24) :
    accAt c XW (GQ X) (k0_pay96 (F := Ideal)) n (ix2 r j)
      = ∑ b ∈ Finset.range n, ∑ k ∈ Finset.range 512, qz (at_ X r (512 * b + k)) (SC X (ix2 r 0)) * wAt c XW (512 * b + k) j := by
  induction n with
  | zero =>
    show Ideal.ofBits .f32 0x00000000#32 = 0
    exact Ideal.ofBits_zero_f32
  | succ n ih =>
    rw [Finset.sum_range_succ, ← ih (by omega), accAt]
    unfold k0_pay97
    rw [shapeCast_self]
    show accAt c XW (GQ X) (k0_pay96 (F := Ideal)) n (ix2 r j) + FloatOps.matmul (DotDims.plain 72 512 6144) none
      (shapeCast S72x512 (GQ X n) shapeCasts_S1x72x512_S72x512)
      (sitofp .bf16 (shapeCast S512x6144 (wBlk c XW n) shapeCasts_S1x512x6144_S512x6144 : IVec S512x6144 8)) (constant S72x6144 .f32 0x00000000#32) (ix2 r j) = _
    refine congrArg (fun z : EReal => accAt c XW (GQ X) (k0_pay96 (F := Ideal)) n (ix2 r j) + z) ?_
    rw [Ideal.matmul_plain_apply]
    have hz : (constant S72x6144 .f32 0x00000000#32 : FVec Ideal S72x6144 .f32) (ix2 r j) = 0 := Ideal.ofBits_zero_f32
    rw [hz, zero_add, Finset.sum_range]
    refine Finset.sum_congr rfl fun k _ => ?_
    rw [wBlk_apply c XW n (by omega)]
    refine congrArg (fun z : EReal => z * wAt c XW (512 * n + k.val) j) ?_
    unfold GQ k0_pay21
    rw [shapeCast_1ab_ab_apply (a := 72) (b := 512), shapeCast_ab_1ab_apply (a := 72) (b := 512)]
    exact qT_apply X n r k

theorem refDot_apply (X : Vec Ideal S72x12288 .f32) (r : Fin 72) (j : Fin 6144) :
    FloatOps.matmul (DotDims.plain 72 12288 6144) none
      (sitofp .bf16 (Cert.ReferenceOutIdeal.Gen.k0_pay2 (F := Ideal) X) : FVec Ideal S72x12288 .bf16)
      (sitofp .bf16 (show Vec Ideal S12288x6144 .i8 from XW) : FVec Ideal S12288x6144 .bf16)
      (constant S72x6144 .f32 0x00000000#32) (ix2 r j)
      = ∑ K ∈ Finset.range 12288, qz (at_ X r K) (SC X (ix2 r 0)) * wAt c XW K j := by
  rw [Ideal.matmul_plain_apply]
  have hz : (constant S72x6144 .f32 0x00000000#32 : FVec Ideal S72x6144 .f32) (ix2 r j) = 0 := Ideal.ofBits_zero_f32
  rw [hz, zero_add, Finset.sum_range]
  refine Finset.sum_congr rfl fun K _ => ?_
  have h1 : (sitofp .bf16 (Cert.ReferenceOutIdeal.Gen.k0_pay2 (F := Ideal) X) : FVec Ideal S72x12288 .bf16) (ix2 r K)
      = qz (at_ X r K.val) (SC X (ix2 r 0)) := by
    show (((Cert.ReferenceOutIdeal.Gen.k0_pay2 (F := Ideal) X (ix2 r K) : BitVec 8).toInt : ℝ) : EReal) = _
    rw [ref_code, code_fix, at_lt]
  have h2 : (sitofp .bf16 (show Vec Ideal S12288x6144 .i8 from XW) : FVec Ideal S12288x6144 .bf16) (ix2 K j) = wAt c XW K.val j := by
    unfold wAt
    exact congrArg (fun z => ((((show Vec Ideal S12288x6144 .i8 from XW) (ix2 z j) : BitVec 8).toInt : ℝ) : EReal))
      (Fin.ext (Nat.mod_eq_of_lt K.isLt).symm)
  rw [h1, h2]

/-- The kernel's product, scaled, is the reference's. -/
theorem OUT_eq (X : Vec Ideal S72x12288 .f32) (ws : Vec Ideal S1x6144 .f32) :
    OUT c XW X ws = Cert.ReferenceOutIdeal.Gen.k0_pay3 (F := Ideal) X (show Vec Ideal S12288x6144 .i8 from XW) ws := by
  funext i
  obtain ⟨r, j, rfl⟩ := eta2 (a := 72) (b := 6144) i
  unfold OUT k0_pay1 k0_pay98 Cert.ReferenceOutIdeal.Gen.k0_pay3
  dsimp only
  rw [shapeCast_self, SC_eq]
  refine congrArg (fun z : EReal => z * (mulf (broadcastTo S72x6144 (Cert.ReferenceOutIdeal.Gen.k0_pay1 (F := Ideal) X) broadcasts_S72x1_S72x6144)
    (broadcastTo S72x6144 ws broadcasts_S1x6144_S72x6144) : FVec Ideal S72x6144 .f32) (ix2 r j)) ?_
  refine (accAt_apply c XW X r j 24 (le_refl _)).trans ?_
  refine Eq.trans ?_ (refDot_apply c XW X r j).symm
  exact sum_blocks (fun K => qz (at_ X r K) (SC X (ix2 r 0)) * wAt c XW K j) 24

end Product

end Cert.Proof.OutIdeal

end
-- ==== Proof.OutAlgebraic.lean ====
module

public import proofs.«01_k».proof.Proof.OutValue

@[expose] public section

noncomputable section

/-! The arrays the kernel leaves are the reference's results. -/

namespace Cert.Proof.OutIdeal

open Cert.KernelOutIdeal Cert.KernelOutIdeal.Gen
open Idealize.ShloMosaic Idealize.ShloMosaic.TcCoe Idealize.ShloMosaic.ValueIdx Idealize.SL.Sem
open Idealize.ShloMosaic.Pipeline

variable (m : (ℓ : Loc nD τ sig) → Buf (Elt Ideal) ℓ) (ρ : Dev nD → PrngReg)

theorem idx_zero0 : ∀ t : Fin cfg0.N, win0_0.index t 0 = 0 ∧ win0_0.index t 1 = 0 :=
  (by decide +kernel : ∀ t : Fin grid0.N, win0_0.index t 0 = 0 ∧ win0_0.index t 1 = 0)
theorem emb0 (t : Fin cfg0.N) (j : ((cfg0.win 0).xblock (cfg0.grid.coords t)).Idx) : ((cfg0.win 0).blk t).view.emb j = j := by
  obtain ⟨e0, e1⟩ := idx_zero0 t
  funext a
  refine Fin.ext ?_
  match a with
  | ⟨0, _⟩ => show win0_0.index t (0 : Fin 2) * 72 + 1 * (j (0 : Fin 2)).val = (j (0 : Fin 2)).val; omega
  | ⟨1, _⟩ => show win0_0.index t (1 : Fin 2) * 12288 + 1 * (j (1 : Fin 2)).val = (j (1 : Fin 2)).val; omega

theorem idx_zero1 : ∀ t : Fin cfg0.N, win0_1.index t 0 = 0 ∧ win0_1.index t 1 = 0 :=
  (by decide +kernel : ∀ t : Fin grid0.N, win0_1.index t 0 = 0 ∧ win0_1.index t 1 = 0)
theorem emb1 (t : Fin cfg0.N) (j : ((cfg0.win 1).xblock (cfg0.grid.coords t)).Idx) : ((cfg0.win 1).blk t).view.emb j = j := by
  obtain ⟨e0, e1⟩ := idx_zero1 t
  funext a
  refine Fin.ext ?_
  match a with
  | ⟨0, _⟩ => show win0_1.index t (0 : Fin 2) * 1 + 1 * (j (0 : Fin 2)).val = (j (0 : Fin 2)).val; omega
  | ⟨1, _⟩ => show win0_1.index t (1 : Fin 2) * 6144 + 1 * (j (1 : Fin 2)).val = (j (1 : Fin 2)).val; omega

theorem idx_zero2 : ∀ t : Fin cfg0.N, win0_2.index t 0 = 0 ∧ win0_2.index t 1 = 0 :=
  (by decide +kernel : ∀ t : Fin grid0.N, win0_2.index t 0 = 0 ∧ win0_2.index t 1 = 0)
theorem emb2 (t : Fin cfg0.N) (j : ((cfg0.win 2).xblock (cfg0.grid.coords t)).Idx) : ((cfg0.win 2).blk t).view.emb j = j := by
  obtain ⟨e0, e1⟩ := idx_zero2 t
  funext a
  refine Fin.ext ?_
  match a with
  | ⟨0, _⟩ => show win0_2.index t (0 : Fin 2) * 72 + 1 * (j (0 : Fin 2)).val = (j (0 : Fin 2)).val; omega
  | ⟨1, _⟩ => show win0_2.index t (1 : Fin 2) * 6144 + 1 * (j (1 : Fin 2)).val = (j (1 : Fin 2)).val; omega

theorem idx_zero3 : ∀ t : Fin cfg0.N, win0_3.index t 0 = 0 ∧ win0_3.index t 1 = 0 :=
  (by decide +kernel : ∀ t : Fin grid0.N, win0_3.index t 0 = 0 ∧ win0_3.index t 1 = 0)
theorem emb3 (t : Fin cfg0.N) (j : ((cfg0.win 3).xblock (cfg0.grid.coords t)).Idx) : ((cfg0.win 3).blk t).view.emb j = j := by
  obtain ⟨e0, e1⟩ := idx_zero3 t
  funext a
  refine Fin.ext ?_
  match a with
  | ⟨0, _⟩ => show win0_3.index t (0 : Fin 2) * 72 + 1 * (j (0 : Fin 2)).val = (j (0 : Fin 2)).val; omega
  | ⟨1, _⟩ => show win0_3.index t (1 : Fin 2) * 12288 + 1 * (j (1 : Fin 2)).val = (j (1 : Fin 2)).val; omega

theorem idx_zero4 : ∀ t : Fin cfg0.N, win0_4.index t 0 = 0 ∧ win0_4.index t 1 = 0 :=
  (by decide +kernel : ∀ t : Fin grid0.N, win0_4.index t 0 = 0 ∧ win0_4.index t 1 = 0)
theorem emb4 (t : Fin cfg0.N) (j : ((cfg0.win 4).xblock (cfg0.grid.coords t)).Idx) : ((cfg0.win 4).blk t).view.emb j = j := by
  obtain ⟨e0, e1⟩ := idx_zero4 t
  funext a
  refine Fin.ext ?_
  match a with
  | ⟨0, _⟩ => show win0_4.index t (0 : Fin 2) * 72 + 1 * (j (0 : Fin 2)).val = (j (0 : Fin 2)).val; omega
  | ⟨1, _⟩ => show win0_4.index t (1 : Fin 2) * 1 + 1 * (j (1 : Fin 2)).val = (j (1 : Fin 2)).val; omega

theorem iblk0_eq (c : Dev nD) (t : Fin cfg0.N) : iblk m c 0 t = m ((c : Thread nD τ).loc main_arg0) := by
  funext j
  show m ((c : Thread nD τ).loc main_arg0) (((cfg0.win 0).blk t).view.emb j) = m ((c : Thread nD τ).loc main_arg0) j
  rw [emb0]

theorem iblk1_eq (c : Dev nD) (t : Fin cfg0.N) : iblk m c 1 t = m ((c : Thread nD τ).loc main_arg2) := by
  funext j
  show m ((c : Thread nD τ).loc main_arg2) (((cfg0.win 1).blk t).view.emb j) = m ((c : Thread nD τ).loc main_arg2) j
  rw [emb1]

theorem cut2 (t : Fin cfg0.N) (X : Vec Ideal S72x6144 .bf16) :
    (cfg0.win 2).cut (grid0.coords t) X = ((cfg0.win 2).blk t).view.read (Elt Ideal) X := by
  funext j
  show X j = X (((cfg0.win 2).blk t).view.emb j)
  rw [emb2]
theorem flushed2 (c : Dev nD) (t : Fin cfg0.N) :
    (dats m 0 c).flushed 2 t = ((cfg0.win 2).blk t).view.read (Elt Ideal) (OUT c (XA m c) (m ((c : Thread nD τ).loc main_arg0)) (m ((c : Thread nD τ).loc main_arg2))) := by
  show (cfg0.win 2).cut (grid0.coords t) ((dats m 0 c).after 2 t) = _
  rw [after_w2, iblk0_eq, iblk1_eq]
  exact cut2 t _
theorem covered2 (i : S72x6144.Idx) : ∃ t : Fin cfg0.N, (cfg0.win 2).flush t = true ∧ i ∈ ((cfg0.win 2).blk t).view.set := by
  refine ⟨⟨0, by decide⟩, flush0_2 _, ?_⟩
  have h := ((cfg0.win 2).blk (⟨0, by decide⟩ : Fin cfg0.N)).view.emb_mem_set i
  rwa [emb2] at h
theorem final2 (c : Dev nD) : finalA m c 2 = OUT c (XA m c) (m ((c : Thread nD τ).loc main_arg0)) (m ((c : Thread nD τ).loc main_arg2)) :=
  (dats m 0 c).arrAt_eq_of_cover 2 (OUT c (XA m c) (m ((c : Thread nD τ).loc main_arg0)) (m ((c : Thread nD τ).loc main_arg2))) (fun t _ => flushed2 m c t) covered2

theorem cut3 (t : Fin cfg0.N) (X : Vec Ideal S72x12288 .i8) :
    (cfg0.win 3).cut (grid0.coords t) X = ((cfg0.win 3).blk t).view.read (Elt Ideal) X := by
  funext j
  show X j = X (((cfg0.win 3).blk t).view.emb j)
  rw [emb3]
theorem flushed3 (c : Dev nD) (t : Fin cfg0.N) :
    (dats m 0 c).flushed 3 t = ((cfg0.win 3).blk t).view.read (Elt Ideal) (CODES (m ((c : Thread nD τ).loc main_arg0))) := by
  show (cfg0.win 3).cut (grid0.coords t) ((dats m 0 c).after 3 t) = _
  rw [after_w3, iblk0_eq]
  exact cut3 t _
theorem covered3 (i : S72x12288.Idx) : ∃ t : Fin cfg0.N, (cfg0.win 3).flush t = true ∧ i ∈ ((cfg0.win 3).blk t).view.set := by
  refine ⟨⟨0, by decide⟩, flush0_3 _, ?_⟩
  have h := ((cfg0.win 3).blk (⟨0, by decide⟩ : Fin cfg0.N)).view.emb_mem_set i
  rwa [emb3] at h
theorem final3 (c : Dev nD) : finalA m c 3 = CODES (m ((c : Thread nD τ).loc main_arg0)) :=
  (dats m 0 c).arrAt_eq_of_cover 3 (CODES (m ((c : Thread nD τ).loc main_arg0))) (fun t _ => flushed3 m c t) covered3

theorem cut4 (t : Fin cfg0.N) (X : Vec Ideal S72x1 .f32) :
    (cfg0.win 4).cut (grid0.coords t) X = ((cfg0.win 4).blk t).view.read (Elt Ideal) X := by
  funext j
  show X j = X (((cfg0.win 4).blk t).view.emb j)
  rw [emb4]
theorem flushed4 (c : Dev nD) (t : Fin cfg0.N) :
    (dats m 0 c).flushed 4 t = ((cfg0.win 4).blk t).view.read (Elt Ideal) (SC (m ((c : Thread nD τ).loc main_arg0))) := by
  show (cfg0.win 4).cut (grid0.coords t) ((dats m 0 c).after 4 t) = _
  rw [after_w4, iblk0_eq]
  exact cut4 t _
theorem covered4 (i : S72x1.Idx) : ∃ t : Fin cfg0.N, (cfg0.win 4).flush t = true ∧ i ∈ ((cfg0.win 4).blk t).view.set := by
  refine ⟨⟨0, by decide⟩, flush0_4 _, ?_⟩
  have h := ((cfg0.win 4).blk (⟨0, by decide⟩ : Fin cfg0.N)).view.emb_mem_set i
  rwa [emb4] at h
theorem final4 (c : Dev nD) : finalA m c 4 = SC (m ((c : Thread nD τ).loc main_arg0)) :=
  (dats m 0 c).arrAt_eq_of_cover 4 (SC (m ((c : Thread nD τ).loc main_arg0))) (fun t _ => flushed4 m c t) covered4

/-- Over the extended reals, from the same arguments, the kernel's three results — the projected rows, the int8
codes and the scales — are the reference's, on every device. -/
theorem algebraic : Cert.algebraic_KernelOutIdeal_ReferenceOutIdeal (hKernelOutIdeal := Cert.KernelOutIdeal.Gen.facts)
    (hReferenceOutIdeal := Cert.ReferenceOutIdeal.Gen.facts) := fun m g m' g' _ hargs =>
  ⟨fun c => OUT c (XA m c) (m ((c : Thread nD τ).loc main_arg0)) (m ((c : Thread nD τ).loc main_arg2)), fun c => CODES (m ((c : Thread nD τ).loc main_arg0)), fun c => SC (m ((c : Thread nD τ).loc main_arg0)),
    (θ_run defs _ _).mono (fun r hh c => ⟨((hh.1 c).1 2).trans (final2 m c), ((hh.1 c).1 3).trans (final3 m c), ((hh.1 c).1 4).trans (final4 m c),
      ((hh.1 c).1 0).trans (finalA_in m c 0 rfl), (hh.1 c).2, ((hh.1 c).1 1).trans (finalA_in m c 1 rfl)⟩) (run_main m g),
    (θ_run _ _ _).mono (fun r hh c => by
      obtain ⟨h0, h1, h2, k⟩ := hh c
      obtain ⟨a0, a1, a2⟩ := hargs c
      rw [a0, a1, a2] at h0
      rw [a0] at h1 h2
      exact ⟨h0.trans (OUT_eq c (XA m c) _ _).symm, h1.trans (CODES_eq _).symm, h2.trans (SC_eq _).symm, k⟩)
      (Cert.ReferenceOutIdeal.Value.run (F := Ideal) m' g')⟩

end Cert.Proof.OutIdeal

end
-- ==== Proof.InBase.lean ====
module

public import proofs.«01_k».proof.Defs
public import proofs.«01_k».proof.Proof.Gen.KernelIn.Launch
public import proofs.«01_k».proof.Proof.Gen.KernelIn.Skeleton
public import proofs.«01_k».proof.Proof.Gen.KernelIn.Loops
public import proofs.«01_k».proof.Proof.Gen.KernelIn.Points
public import Idealize.ShloMosaic.Lib.Pipeline.KitQuiescent
public import Idealize.ShloMosaic.Lib.Ring
public import Idealize.ShloMosaic.Lib.Ring.AtN
public import Idealize.ShloMosaic.Lib.Batch
public import Idealize.ShloMosaic.Lib.Affine
public import Idealize.ShloMosaic.Lib.Tactic
public import Idealize.ShloMosaic.Lib.ValueIdxCore
public import Idealize.ShloMosaic.Lib.VecWindow
public import Idealize.ShloMosaic.Lib.Pipeline.Value

@[expose] public section

noncomputable section

namespace Cert.Proof.In

open Cert.KernelIn Cert.KernelIn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The resource algebra: the pipeline library's, beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## Canonical names: half `i` of chunk `b` of the weights, half `i` of ring slot `s`, the slot whole, its semaphore -/

abbrev wM : Memref sig .tc .hbm S26816x6144 .i8 := Memref.whole main_v3
abbrev xqM : Memref sig .tc .vmem S3x72x2048 .bf16 := Memref.whole cc0_scratch0
abbrev bufM : Memref sig .tc .vmem S4x1024x2048 .i8 := Memref.whole cc0_scratch1
abbrev wdtM : Memref sig .tc .vmem S192x6144 .i8 := Memref.whole cc0_scratch2
abbrev accM : Memref sig .tc .vmem S72x1024 .f32 := Memref.whole cc0_scratch3

/-- The first weight row of half `i` of chunk `b`: chunks 0 to 5 read rows 24576 on, two adjacent halves each; chunk `3 (2 + t) + k`
    reads rows `512 t` on and `12288 + 512 t` on. -/
abbrev rowOff (b i : ℕ) : ℕ := if b < 6 then 24576 + 1024 * (b / 3) + 512 * i else 512 * (b / 3 - 2) + 12288 * i
abbrev blkOff (b : Fin 78) (i : Fin 2) : Fin 2 → Nat := ![rowOff b.val i.val, 2048 * (b.val % 3)]
theorem blkOff_inb (b : Fin 78) (i : Fin 2) : ∀ a, blkOff b i a + S512x2048.size a ≤ S26816x6144.size a := by
  have := b.isLt; have := i.isLt; intro a; fin_cases a
  · show (if b.val < 6 then 24576 + 1024 * (b.val / 3) + 512 * i.val else 512 * (b.val / 3 - 2) + 12288 * i.val) + 512 ≤ 26816
    split <;> omega
  · show 2048 * (b.val % 3) + 2048 ≤ 6144; omega
abbrev halfOff (s : Fin 4) (i : Fin 2) : Fin 3 → Nat := ![s.val, 512 * i.val, 0]
theorem halfOff_inb (s : Fin 4) (i : Fin 2) : ∀ a, halfOff s i a + S1x512x2048.size a ≤ S4x1024x2048.size a := by
  have := s.isLt; have := i.isLt; intro a; fin_cases a
  · show s.val + 1 ≤ 4; omega
  · show 512 * i.val + 512 ≤ 1024; omega
  · show 0 + 2048 ≤ 2048; omega
abbrev slotOff (s : Fin 4) : Fin 3 → Nat := ![s.val, 0, 0]
theorem slotOff_inb (s : Fin 4) : ∀ a, slotOff s a + S1x1024x2048.size a ≤ S4x1024x2048.size a := by
  have := s.isLt; intro a; fin_cases a
  · show s.val + 1 ≤ 4; omega
  · show 0 + 1024 ≤ 1024; omega
  · show 0 + 2048 ≤ 2048; omega
abbrev semOff (s : Fin 4) : Fin 1 → Nat := ![s.val]
theorem semOff_inb (s : Fin 4) : ∀ a, semOff s a + S1.size a ≤ S4.size a := by
  have := s.isLt; intro a; fin_cases a; show s.val + 1 ≤ 4; omega

/-- Half `i` of chunk `b` of the weights (512 rows by 2048 columns), as the body slices it. -/
def blk (b : Fin 78) (i : Fin 2) : Memref sig .tc .hbm S512x2048 .i8 :=
  wM.slice (Rect.unit (s := S26816x6144) (blkOff b i) S512x2048.size (blkOff_inb b i)) (fun _ => rfl)
/-- Half `i` of slot `s` of the ring buffer, as the body slices and squeezes it. -/
def half (s : Fin 4) (i : Fin 2) : Memref sig .tc .vmem S512x2048 .i8 :=
  (bufM.slice (Rect.unit (s := S4x1024x2048) (halfOff s i) S1x512x2048.size (halfOff_inb s i)) (fun _ => rfl)).squeeze S512x2048 squeezes_S1x512x2048_S512x2048
/-- Slot `s` of the ring buffer. -/
def rslot (s : Fin 4) : Memref sig .tc .vmem S1x1024x2048 .i8 :=
  bufM.slice (Rect.unit (s := S4x1024x2048) (slotOff s) S1x1024x2048.size (slotOff_inb s)) (fun _ => rfl)
/-- Slot `s`'s semaphore. -/
def csm (s : Fin 4) : DmaSems sig S_ := (cc0_scratch4.slice (Rect.unit (s := S4) (semOff s) S1.size (semOff_inb s))).squeeze S_ squeezes_S1_S_

instance (s : Fin 4) : ClosedOff (slotOff s) := ⟨slotOff s, rfl⟩
instance (s : Fin 4) (i : Fin 2) : ClosedOff (halfOff s i) := ⟨halfOff s i, rfl⟩
instance (b : Fin 78) (i : Fin 2) : ClosedOff (blkOff b i) := ⟨blkOff b i, rfl⟩

/-! ### The printed offsets in closed form, checked trip by trip -/

theorem trips1 : k0_t1_loop.trips = 69 := by decide +kernel
theorem off57_eq : ∀ k : Fin k0_t1_loop.trips, k.val + 12 < 78 → k0_off57 k = semOff (Ring.sl 4 (9 + k.val + 3)) := by decide +kernel
theorem off58_eq : ∀ k : Fin k0_t1_loop.trips, k.val + 12 < 78 → k0_off58 k = halfOff (Ring.sl 4 (9 + k.val + 3)) 0 := by decide +kernel
theorem off59_eq : ∀ k : Fin k0_t1_loop.trips, k.val + 12 < 78 → k0_off59 k = blkOff (Ring.bk 78 (9 + k.val + 3)) 0 := by decide +kernel
theorem off60_eq : ∀ k : Fin k0_t1_loop.trips, k.val + 12 < 78 → k0_off60 k = halfOff (Ring.sl 4 (9 + k.val + 3)) 1 := by decide +kernel
theorem off61_eq : ∀ k : Fin k0_t1_loop.trips, k.val + 12 < 78 → k0_off61 k = blkOff (Ring.bk 78 (9 + k.val + 3)) 1 := by decide +kernel
theorem off62_eq : ∀ k : Fin k0_t1_loop.trips, k0_off62 k = semOff (Ring.sl 4 (9 + k.val)) := by decide +kernel
theorem off63_eq : ∀ k : Fin k0_t1_loop.trips, k0_off63 k = halfOff (Ring.sl 4 (9 + k.val)) 0 := by decide +kernel
theorem off64_eq : ∀ k : Fin k0_t1_loop.trips, k0_off64 k = blkOff (Ring.bk 78 (9 + k.val)) 0 := by decide +kernel
theorem off65_eq : ∀ k : Fin k0_t1_loop.trips, k0_off65 k = halfOff (Ring.sl 4 (9 + k.val)) 1 := by decide +kernel
theorem off66_eq : ∀ k : Fin k0_t1_loop.trips, k0_off66 k = blkOff (Ring.bk 78 (9 + k.val)) 1 := by decide +kernel
theorem off67_eq : ∀ k : Fin k0_t1_loop.trips, k0_off67 k = ![k.val % 3, 0, 0] := by decide +kernel
theorem off68_eq : ∀ k : Fin k0_t1_loop.trips, k0_off68 k = slotOff (Ring.sl 4 (9 + k.val)) := by decide +kernel
theorem off69_eq : ∀ k : Fin k0_t1_loop.trips, k.val % 3 = 2 → k0_off69 k = ![0, 512 * (k.val / 3 + 1)] := by decide +kernel
theorem off70_eq : ∀ k : Fin k0_t1_loop.trips, k.val % 3 = 2 → k0_off70 k = ![0, 512 * (k.val / 3 + 1)] := by decide +kernel
theorem off71_eq : ∀ k : Fin k0_t1_loop.trips, k.val % 3 = 2 → k0_off71 k = ![0, 12288 + 512 * (k.val / 3 + 1)] := by decide +kernel
theorem off72_eq : ∀ k : Fin k0_t1_loop.trips, k.val % 3 = 2 → k0_off72 k = ![0, 512 * (k.val / 3 + 1)] := by decide +kernel
theorem cond10_pos : ∀ k : Fin k0_t1_loop.trips, k.val + 12 < 78 → k0_cond10 k = 1#1 := by decide +kernel
theorem cond10_neg : ∀ k : Fin k0_t1_loop.trips, 78 ≤ k.val + 12 → ¬k0_cond10 k = 1#1 := by decide +kernel
theorem cond11_pos : ∀ k : Fin k0_t1_loop.trips, k.val % 3 = 2 → k0_cond11 k = 1#1 := by decide +kernel
theorem cond11_neg : ∀ k : Fin k0_t1_loop.trips, k.val % 3 ≠ 2 → ¬k0_cond11 k = 1#1 := by decide +kernel

theorem off1_eq : ∀ r : Fin 9, k0_off1 (BitVec.ofNat 32 r.val) = semOff (Ring.sl 4 r.val) := by decide +kernel
theorem off2_eq : ∀ r : Fin 9, k0_off2 (BitVec.ofNat 32 r.val) = halfOff (Ring.sl 4 r.val) 0 := by decide +kernel
theorem off3_eq : ∀ r : Fin 9, k0_off3 (BitVec.ofNat 32 r.val) (BitVec.ofNat 32 r.val) = blkOff (Ring.bk 78 r.val) 0 := by decide +kernel
theorem off4_eq : ∀ r : Fin 9, k0_off4 (BitVec.ofNat 32 r.val) = halfOff (Ring.sl 4 r.val) 1 := by decide +kernel
theorem off5_eq : ∀ r : Fin 9, k0_off5 (BitVec.ofNat 32 r.val) (BitVec.ofNat 32 r.val) = blkOff (Ring.bk 78 r.val) 1 := by decide +kernel
theorem off11_eq : ∀ r : Fin 9, k0_off11 (BitVec.ofNat 32 r.val) = ![r.val % 3, 0, 0] := by decide +kernel
theorem off12_eq : ∀ r : Fin 9, k0_off12 (BitVec.ofNat 32 r.val) = slotOff (Ring.sl 4 r.val) := by decide +kernel

theorem off13_eq : k0_off13 = semOff 0 := by decide +kernel
theorem off14_eq : k0_off14 = halfOff 0 0 := by decide +kernel
theorem off15_eq : k0_off15 = blkOff 4 0 := by decide +kernel
theorem off16_eq : k0_off16 = halfOff 0 1 := by decide +kernel
theorem off17_eq : k0_off17 = blkOff 4 1 := by decide +kernel
theorem off18_eq : k0_off18 = semOff 1 := by decide +kernel
theorem off19_eq : k0_off19 = halfOff 1 0 := by decide +kernel
theorem off20_eq : k0_off20 = blkOff 5 0 := by decide +kernel
theorem off21_eq : k0_off21 = halfOff 1 1 := by decide +kernel
theorem off22_eq : k0_off22 = blkOff 5 1 := by decide +kernel
theorem off23_eq : k0_off23 = semOff 2 := by decide +kernel
theorem off24_eq : k0_off24 = halfOff 2 0 := by decide +kernel
theorem off25_eq : k0_off25 = blkOff 6 0 := by decide +kernel
theorem off26_eq : k0_off26 = halfOff 2 1 := by decide +kernel
theorem off27_eq : k0_off27 = blkOff 6 1 := by decide +kernel
theorem off28_eq : k0_off28 = semOff 3 := by decide +kernel
theorem off29_eq : k0_off29 = halfOff 3 0 := by decide +kernel
theorem off30_eq : k0_off30 = blkOff 7 0 := by decide +kernel
theorem off31_eq : k0_off31 = halfOff 3 1 := by decide +kernel
theorem off32_eq : k0_off32 = blkOff 7 1 := by decide +kernel
theorem off33_eq : k0_off33 = semOff 0 := by decide +kernel
theorem off34_eq : k0_off34 = halfOff 0 0 := by decide +kernel
theorem off35_eq : k0_off35 = blkOff 8 0 := by decide +kernel
theorem off36_eq : k0_off36 = halfOff 0 1 := by decide +kernel
theorem off37_eq : k0_off37 = blkOff 8 1 := by decide +kernel
theorem off38_eq : k0_off38 = semOff 1 := by decide +kernel
theorem off39_eq : k0_off39 = halfOff 1 0 := by decide +kernel
theorem off40_eq : k0_off40 = blkOff 9 0 := by decide +kernel
theorem off41_eq : k0_off41 = halfOff 1 1 := by decide +kernel
theorem off42_eq : k0_off42 = blkOff 9 1 := by decide +kernel
theorem off43_eq : k0_off43 = semOff 2 := by decide +kernel
theorem off44_eq : k0_off44 = halfOff 2 0 := by decide +kernel
theorem off45_eq : k0_off45 = blkOff 10 0 := by decide +kernel
theorem off46_eq : k0_off46 = halfOff 2 1 := by decide +kernel
theorem off47_eq : k0_off47 = blkOff 10 1 := by decide +kernel
theorem off48_eq : k0_off48 = semOff 3 := by decide +kernel
theorem off49_eq : k0_off49 = halfOff 3 0 := by decide +kernel
theorem off50_eq : k0_off50 = blkOff 11 0 := by decide +kernel
theorem off51_eq : k0_off51 = halfOff 3 1 := by decide +kernel
theorem off52_eq : k0_off52 = blkOff 11 1 := by decide +kernel

private theorem csm_congr {off : Fin 1 → Nat} {s : Fin 4} (e : off = semOff s) (hh) :
    (cc0_scratch4.slice (Rect.unit (s := S4) off S1.size hh)).squeeze S_ squeezes_S1_S_ = csm s :=
  congrArg (fun A : DmaSems sig S1 => A.squeeze S_ squeezes_S1_S_) (SemArray.slice_unit_congr _ e _ _)
private theorem half_congr {off : Fin 3 → Nat} {s : Fin 4} {i : Fin 2} (e : off = halfOff s i) (hh hs) :
    (bufM.slice (Rect.unit (s := S4x1024x2048) off S1x512x2048.size hh) hs).squeeze S512x2048 squeezes_S1x512x2048_S512x2048 = half s i :=
  congrArg (fun M : Memref sig .tc .vmem S1x512x2048 .i8 => M.squeeze S512x2048 squeezes_S1x512x2048_S512x2048) (Memref.slice_unit_congr _ e _ _ _ _)
private theorem blk_congr {off : Fin 2 → Nat} {b : Fin 78} {i : Fin 2} (e : off = blkOff b i) (hh hs) :
    wM.slice (Rect.unit (s := S26816x6144) off S512x2048.size hh) hs = blk b i := Memref.slice_unit_congr _ e _ _ hs (fun _ => rfl)

@[sl_canon] theorem semP0 (hh) : (cc0_scratch4.slice (Rect.unit (s := S4) (k0_off1 0#32) S1.size hh)).squeeze S_ squeezes_S1_S_ = csm 0 := csm_congr (off1_eq 0) _
@[sl_canon] theorem half0P0 (hh hs) : (bufM.slice (Rect.unit (s := S4x1024x2048) (k0_off2 0#32) S1x512x2048.size hh) hs).squeeze S512x2048 squeezes_S1x512x2048_S512x2048 = half 0 0 := half_congr (off2_eq 0) _ _
@[sl_canon] theorem blk0P0 (hh hs) : wM.slice (Rect.unit (s := S26816x6144) (k0_off3 0#32 0#32) S512x2048.size hh) hs = blk 0 0 := blk_congr (off3_eq 0) _ _
@[sl_canon] theorem half1P0 (hh hs) : (bufM.slice (Rect.unit (s := S4x1024x2048) (k0_off4 0#32) S1x512x2048.size hh) hs).squeeze S512x2048 squeezes_S1x512x2048_S512x2048 = half 0 1 := half_congr (off4_eq 0) _ _
@[sl_canon] theorem blk1P0 (hh hs) : wM.slice (Rect.unit (s := S26816x6144) (k0_off5 0#32 0#32) S512x2048.size hh) hs = blk 0 1 := blk_congr (off5_eq 0) _ _
@[sl_canon] theorem semP1 (hh) : (cc0_scratch4.slice (Rect.unit (s := S4) (k0_off1 1#32) S1.size hh)).squeeze S_ squeezes_S1_S_ = csm 1 := csm_congr (off1_eq 1) _
@[sl_canon] theorem half0P1 (hh hs) : (bufM.slice (Rect.unit (s := S4x1024x2048) (k0_off2 1#32) S1x512x2048.size hh) hs).squeeze S512x2048 squeezes_S1x512x2048_S512x2048 = half 1 0 := half_congr (off2_eq 1) _ _
@[sl_canon] theorem blk0P1 (hh hs) : wM.slice (Rect.unit (s := S26816x6144) (k0_off3 1#32 1#32) S512x2048.size hh) hs = blk 1 0 := blk_congr (off3_eq 1) _ _
@[sl_canon] theorem half1P1 (hh hs) : (bufM.slice (Rect.unit (s := S4x1024x2048) (k0_off4 1#32) S1x512x2048.size hh) hs).squeeze S512x2048 squeezes_S1x512x2048_S512x2048 = half 1 1 := half_congr (off4_eq 1) _ _
@[sl_canon] theorem blk1P1 (hh hs) : wM.slice (Rect.unit (s := S26816x6144) (k0_off5 1#32 1#32) S512x2048.size hh) hs = blk 1 1 := blk_congr (off5_eq 1) _ _
@[sl_canon] theorem semP2 (hh) : (cc0_scratch4.slice (Rect.unit (s := S4) (k0_off1 2#32) S1.size hh)).squeeze S_ squeezes_S1_S_ = csm 2 := csm_congr (off1_eq 2) _
@[sl_canon] theorem half0P2 (hh hs) : (bufM.slice (Rect.unit (s := S4x1024x2048) (k0_off2 2#32) S1x512x2048.size hh) hs).squeeze S512x2048 squeezes_S1x512x2048_S512x2048 = half 2 0 := half_congr (off2_eq 2) _ _
@[sl_canon] theorem blk0P2 (hh hs) : wM.slice (Rect.unit (s := S26816x6144) (k0_off3 2#32 2#32) S512x2048.size hh) hs = blk 2 0 := blk_congr (off3_eq 2) _ _
@[sl_canon] theorem half1P2 (hh hs) : (bufM.slice (Rect.unit (s := S4x1024x2048) (k0_off4 2#32) S1x512x2048.size hh) hs).squeeze S512x2048 squeezes_S1x512x2048_S512x2048 = half 2 1 := half_congr (off4_eq 2) _ _
@[sl_canon] theorem blk1P2 (hh hs) : wM.slice (Rect.unit (s := S26816x6144) (k0_off5 2#32 2#32) S512x2048.size hh) hs = blk 2 1 := blk_congr (off5_eq 2) _ _
@[sl_canon] theorem semP3 (hh) : (cc0_scratch4.slice (Rect.unit (s := S4) (k0_off1 3#32) S1.size hh)).squeeze S_ squeezes_S1_S_ = csm 3 := csm_congr (off1_eq 3) _
@[sl_canon] theorem half0P3 (hh hs) : (bufM.slice (Rect.unit (s := S4x1024x2048) (k0_off2 3#32) S1x512x2048.size hh) hs).squeeze S512x2048 squeezes_S1x512x2048_S512x2048 = half 3 0 := half_congr (off2_eq 3) _ _
@[sl_canon] theorem blk0P3 (hh hs) : wM.slice (Rect.unit (s := S26816x6144) (k0_off3 3#32 3#32) S512x2048.size hh) hs = blk 3 0 := blk_congr (off3_eq 3) _ _
@[sl_canon] theorem half1P3 (hh hs) : (bufM.slice (Rect.unit (s := S4x1024x2048) (k0_off4 3#32) S1x512x2048.size hh) hs).squeeze S512x2048 squeezes_S1x512x2048_S512x2048 = half 3 1 := half_congr (off4_eq 3) _ _
@[sl_canon] theorem blk1P3 (hh hs) : wM.slice (Rect.unit (s := S26816x6144) (k0_off5 3#32 3#32) S512x2048.size hh) hs = blk 3 1 := blk_congr (off5_eq 3) _ _
@[sl_canon] theorem semP4 (hh) : (cc0_scratch4.slice (Rect.unit (s := S4) (k0_off1 4#32) S1.size hh)).squeeze S_ squeezes_S1_S_ = csm 0 := csm_congr (off1_eq 4) _
@[sl_canon] theorem half0P4 (hh hs) : (bufM.slice (Rect.unit (s := S4x1024x2048) (k0_off2 4#32) S1x512x2048.size hh) hs).squeeze S512x2048 squeezes_S1x512x2048_S512x2048 = half 0 0 := half_congr (off2_eq 4) _ _
@[sl_canon] theorem blk0P4 (hh hs) : wM.slice (Rect.unit (s := S26816x6144) (k0_off3 4#32 4#32) S512x2048.size hh) hs = blk 4 0 := blk_congr (off3_eq 4) _ _
@[sl_canon] theorem half1P4 (hh hs) : (bufM.slice (Rect.unit (s := S4x1024x2048) (k0_off4 4#32) S1x512x2048.size hh) hs).squeeze S512x2048 squeezes_S1x512x2048_S512x2048 = half 0 1 := half_congr (off4_eq 4) _ _
@[sl_canon] theorem blk1P4 (hh hs) : wM.slice (Rect.unit (s := S26816x6144) (k0_off5 4#32 4#32) S512x2048.size hh) hs = blk 4 1 := blk_congr (off5_eq 4) _ _
@[sl_canon] theorem semP5 (hh) : (cc0_scratch4.slice (Rect.unit (s := S4) (k0_off1 5#32) S1.size hh)).squeeze S_ squeezes_S1_S_ = csm 1 := csm_congr (off1_eq 5) _
@[sl_canon] theorem half0P5 (hh hs) : (bufM.slice (Rect.unit (s := S4x1024x2048) (k0_off2 5#32) S1x512x2048.size hh) hs).squeeze S512x2048 squeezes_S1x512x2048_S512x2048 = half 1 0 := half_congr (off2_eq 5) _ _
@[sl_canon] theorem blk0P5 (hh hs) : wM.slice (Rect.unit (s := S26816x6144) (k0_off3 5#32 5#32) S512x2048.size hh) hs = blk 5 0 := blk_congr (off3_eq 5) _ _
@[sl_canon] theorem half1P5 (hh hs) : (bufM.slice (Rect.unit (s := S4x1024x2048) (k0_off4 5#32) S1x512x2048.size hh) hs).squeeze S512x2048 squeezes_S1x512x2048_S512x2048 = half 1 1 := half_congr (off4_eq 5) _ _
@[sl_canon] theorem blk1P5 (hh hs) : wM.slice (Rect.unit (s := S26816x6144) (k0_off5 5#32 5#32) S512x2048.size hh) hs = blk 5 1 := blk_congr (off5_eq 5) _ _
@[sl_canon] theorem semP6 (hh) : (cc0_scratch4.slice (Rect.unit (s := S4) (k0_off1 6#32) S1.size hh)).squeeze S_ squeezes_S1_S_ = csm 2 := csm_congr (off1_eq 6) _
@[sl_canon] theorem half0P6 (hh hs) : (bufM.slice (Rect.unit (s := S4x1024x2048) (k0_off2 6#32) S1x512x2048.size hh) hs).squeeze S512x2048 squeezes_S1x512x2048_S512x2048 = half 2 0 := half_congr (off2_eq 6) _ _
@[sl_canon] theorem blk0P6 (hh hs) : wM.slice (Rect.unit (s := S26816x6144) (k0_off3 6#32 6#32) S512x2048.size hh) hs = blk 6 0 := blk_congr (off3_eq 6) _ _
@[sl_canon] theorem half1P6 (hh hs) : (bufM.slice (Rect.unit (s := S4x1024x2048) (k0_off4 6#32) S1x512x2048.size hh) hs).squeeze S512x2048 squeezes_S1x512x2048_S512x2048 = half 2 1 := half_congr (off4_eq 6) _ _
@[sl_canon] theorem blk1P6 (hh hs) : wM.slice (Rect.unit (s := S26816x6144) (k0_off5 6#32 6#32) S512x2048.size hh) hs = blk 6 1 := blk_congr (off5_eq 6) _ _
@[sl_canon] theorem semP7 (hh) : (cc0_scratch4.slice (Rect.unit (s := S4) (k0_off1 7#32) S1.size hh)).squeeze S_ squeezes_S1_S_ = csm 3 := csm_congr (off1_eq 7) _
@[sl_canon] theorem half0P7 (hh hs) : (bufM.slice (Rect.unit (s := S4x1024x2048) (k0_off2 7#32) S1x512x2048.size hh) hs).squeeze S512x2048 squeezes_S1x512x2048_S512x2048 = half 3 0 := half_congr (off2_eq 7) _ _
@[sl_canon] theorem blk0P7 (hh hs) : wM.slice (Rect.unit (s := S26816x6144) (k0_off3 7#32 7#32) S512x2048.size hh) hs = blk 7 0 := blk_congr (off3_eq 7) _ _
@[sl_canon] theorem half1P7 (hh hs) : (bufM.slice (Rect.unit (s := S4x1024x2048) (k0_off4 7#32) S1x512x2048.size hh) hs).squeeze S512x2048 squeezes_S1x512x2048_S512x2048 = half 3 1 := half_congr (off4_eq 7) _ _
@[sl_canon] theorem blk1P7 (hh hs) : wM.slice (Rect.unit (s := S26816x6144) (k0_off5 7#32 7#32) S512x2048.size hh) hs = blk 7 1 := blk_congr (off5_eq 7) _ _
@[sl_canon] theorem semP8 (hh) : (cc0_scratch4.slice (Rect.unit (s := S4) (k0_off1 8#32) S1.size hh)).squeeze S_ squeezes_S1_S_ = csm 0 := csm_congr (off1_eq 8) _
@[sl_canon] theorem half0P8 (hh hs) : (bufM.slice (Rect.unit (s := S4x1024x2048) (k0_off2 8#32) S1x512x2048.size hh) hs).squeeze S512x2048 squeezes_S1x512x2048_S512x2048 = half 0 0 := half_congr (off2_eq 8) _ _
@[sl_canon] theorem blk0P8 (hh hs) : wM.slice (Rect.unit (s := S26816x6144) (k0_off3 8#32 8#32) S512x2048.size hh) hs = blk 8 0 := blk_congr (off3_eq 8) _ _
@[sl_canon] theorem half1P8 (hh hs) : (bufM.slice (Rect.unit (s := S4x1024x2048) (k0_off4 8#32) S1x512x2048.size hh) hs).squeeze S512x2048 squeezes_S1x512x2048_S512x2048 = half 0 1 := half_congr (off4_eq 8) _ _
@[sl_canon] theorem blk1P8 (hh hs) : wM.slice (Rect.unit (s := S26816x6144) (k0_off5 8#32 8#32) S512x2048.size hh) hs = blk 8 1 := blk_congr (off5_eq 8) _ _
@[sl_canon] theorem semS4 (hh) : (cc0_scratch4.slice (Rect.unit (s := S4) k0_off13 S1.size hh)).squeeze S_ squeezes_S1_S_ = csm 0 := csm_congr off13_eq _
@[sl_canon] theorem half0S4 (hh hs) : (bufM.slice (Rect.unit (s := S4x1024x2048) k0_off14 S1x512x2048.size hh) hs).squeeze S512x2048 squeezes_S1x512x2048_S512x2048 = half 0 0 := half_congr off14_eq _ _
@[sl_canon] theorem blk0S4 (hh hs) : wM.slice (Rect.unit (s := S26816x6144) k0_off15 S512x2048.size hh) hs = blk 4 0 := blk_congr off15_eq _ _
@[sl_canon] theorem half1S4 (hh hs) : (bufM.slice (Rect.unit (s := S4x1024x2048) k0_off16 S1x512x2048.size hh) hs).squeeze S512x2048 squeezes_S1x512x2048_S512x2048 = half 0 1 := half_congr off16_eq _ _
@[sl_canon] theorem blk1S4 (hh hs) : wM.slice (Rect.unit (s := S26816x6144) k0_off17 S512x2048.size hh) hs = blk 4 1 := blk_congr off17_eq _ _
@[sl_canon] theorem semS5 (hh) : (cc0_scratch4.slice (Rect.unit (s := S4) k0_off18 S1.size hh)).squeeze S_ squeezes_S1_S_ = csm 1 := csm_congr off18_eq _
@[sl_canon] theorem half0S5 (hh hs) : (bufM.slice (Rect.unit (s := S4x1024x2048) k0_off19 S1x512x2048.size hh) hs).squeeze S512x2048 squeezes_S1x512x2048_S512x2048 = half 1 0 := half_congr off19_eq _ _
@[sl_canon] theorem blk0S5 (hh hs) : wM.slice (Rect.unit (s := S26816x6144) k0_off20 S512x2048.size hh) hs = blk 5 0 := blk_congr off20_eq _ _
@[sl_canon] theorem half1S5 (hh hs) : (bufM.slice (Rect.unit (s := S4x1024x2048) k0_off21 S1x512x2048.size hh) hs).squeeze S512x2048 squeezes_S1x512x2048_S512x2048 = half 1 1 := half_congr off21_eq _ _
@[sl_canon] theorem blk1S5 (hh hs) : wM.slice (Rect.unit (s := S26816x6144) k0_off22 S512x2048.size hh) hs = blk 5 1 := blk_congr off22_eq _ _
@[sl_canon] theorem semS6 (hh) : (cc0_scratch4.slice (Rect.unit (s := S4) k0_off23 S1.size hh)).squeeze S_ squeezes_S1_S_ = csm 2 := csm_congr off23_eq _
@[sl_canon] theorem half0S6 (hh hs) : (bufM.slice (Rect.unit (s := S4x1024x2048) k0_off24 S1x512x2048.size hh) hs).squeeze S512x2048 squeezes_S1x512x2048_S512x2048 = half 2 0 := half_congr off24_eq _ _
@[sl_canon] theorem blk0S6 (hh hs) : wM.slice (Rect.unit (s := S26816x6144) k0_off25 S512x2048.size hh) hs = blk 6 0 := blk_congr off25_eq _ _
@[sl_canon] theorem half1S6 (hh hs) : (bufM.slice (Rect.unit (s := S4x1024x2048) k0_off26 S1x512x2048.size hh) hs).squeeze S512x2048 squeezes_S1x512x2048_S512x2048 = half 2 1 := half_congr off26_eq _ _
@[sl_canon] theorem blk1S6 (hh hs) : wM.slice (Rect.unit (s := S26816x6144) k0_off27 S512x2048.size hh) hs = blk 6 1 := blk_congr off27_eq _ _
@[sl_canon] theorem semS7 (hh) : (cc0_scratch4.slice (Rect.unit (s := S4) k0_off28 S1.size hh)).squeeze S_ squeezes_S1_S_ = csm 3 := csm_congr off28_eq _
@[sl_canon] theorem half0S7 (hh hs) : (bufM.slice (Rect.unit (s := S4x1024x2048) k0_off29 S1x512x2048.size hh) hs).squeeze S512x2048 squeezes_S1x512x2048_S512x2048 = half 3 0 := half_congr off29_eq _ _
@[sl_canon] theorem blk0S7 (hh hs) : wM.slice (Rect.unit (s := S26816x6144) k0_off30 S512x2048.size hh) hs = blk 7 0 := blk_congr off30_eq _ _
@[sl_canon] theorem half1S7 (hh hs) : (bufM.slice (Rect.unit (s := S4x1024x2048) k0_off31 S1x512x2048.size hh) hs).squeeze S512x2048 squeezes_S1x512x2048_S512x2048 = half 3 1 := half_congr off31_eq _ _
@[sl_canon] theorem blk1S7 (hh hs) : wM.slice (Rect.unit (s := S26816x6144) k0_off32 S512x2048.size hh) hs = blk 7 1 := blk_congr off32_eq _ _
@[sl_canon] theorem semS8 (hh) : (cc0_scratch4.slice (Rect.unit (s := S4) k0_off33 S1.size hh)).squeeze S_ squeezes_S1_S_ = csm 0 := csm_congr off33_eq _
@[sl_canon] theorem half0S8 (hh hs) : (bufM.slice (Rect.unit (s := S4x1024x2048) k0_off34 S1x512x2048.size hh) hs).squeeze S512x2048 squeezes_S1x512x2048_S512x2048 = half 0 0 := half_congr off34_eq _ _
@[sl_canon] theorem blk0S8 (hh hs) : wM.slice (Rect.unit (s := S26816x6144) k0_off35 S512x2048.size hh) hs = blk 8 0 := blk_congr off35_eq _ _
@[sl_canon] theorem half1S8 (hh hs) : (bufM.slice (Rect.unit (s := S4x1024x2048) k0_off36 S1x512x2048.size hh) hs).squeeze S512x2048 squeezes_S1x512x2048_S512x2048 = half 0 1 := half_congr off36_eq _ _
@[sl_canon] theorem blk1S8 (hh hs) : wM.slice (Rect.unit (s := S26816x6144) k0_off37 S512x2048.size hh) hs = blk 8 1 := blk_congr off37_eq _ _
@[sl_canon] theorem semS9 (hh) : (cc0_scratch4.slice (Rect.unit (s := S4) k0_off38 S1.size hh)).squeeze S_ squeezes_S1_S_ = csm 1 := csm_congr off38_eq _
@[sl_canon] theorem half0S9 (hh hs) : (bufM.slice (Rect.unit (s := S4x1024x2048) k0_off39 S1x512x2048.size hh) hs).squeeze S512x2048 squeezes_S1x512x2048_S512x2048 = half 1 0 := half_congr off39_eq _ _
@[sl_canon] theorem blk0S9 (hh hs) : wM.slice (Rect.unit (s := S26816x6144) k0_off40 S512x2048.size hh) hs = blk 9 0 := blk_congr off40_eq _ _
@[sl_canon] theorem half1S9 (hh hs) : (bufM.slice (Rect.unit (s := S4x1024x2048) k0_off41 S1x512x2048.size hh) hs).squeeze S512x2048 squeezes_S1x512x2048_S512x2048 = half 1 1 := half_congr off41_eq _ _
@[sl_canon] theorem blk1S9 (hh hs) : wM.slice (Rect.unit (s := S26816x6144) k0_off42 S512x2048.size hh) hs = blk 9 1 := blk_congr off42_eq _ _
@[sl_canon] theorem semS10 (hh) : (cc0_scratch4.slice (Rect.unit (s := S4) k0_off43 S1.size hh)).squeeze S_ squeezes_S1_S_ = csm 2 := csm_congr off43_eq _
@[sl_canon] theorem half0S10 (hh hs) : (bufM.slice (Rect.unit (s := S4x1024x2048) k0_off44 S1x512x2048.size hh) hs).squeeze S512x2048 squeezes_S1x512x2048_S512x2048 = half 2 0 := half_congr off44_eq _ _
@[sl_canon] theorem blk0S10 (hh hs) : wM.slice (Rect.unit (s := S26816x6144) k0_off45 S512x2048.size hh) hs = blk 10 0 := blk_congr off45_eq _ _
@[sl_canon] theorem half1S10 (hh hs) : (bufM.slice (Rect.unit (s := S4x1024x2048) k0_off46 S1x512x2048.size hh) hs).squeeze S512x2048 squeezes_S1x512x2048_S512x2048 = half 2 1 := half_congr off46_eq _ _
@[sl_canon] theorem blk1S10 (hh hs) : wM.slice (Rect.unit (s := S26816x6144) k0_off47 S512x2048.size hh) hs = blk 10 1 := blk_congr off47_eq _ _
@[sl_canon] theorem semS11 (hh) : (cc0_scratch4.slice (Rect.unit (s := S4) k0_off48 S1.size hh)).squeeze S_ squeezes_S1_S_ = csm 3 := csm_congr off48_eq _
@[sl_canon] theorem half0S11 (hh hs) : (bufM.slice (Rect.unit (s := S4x1024x2048) k0_off49 S1x512x2048.size hh) hs).squeeze S512x2048 squeezes_S1x512x2048_S512x2048 = half 3 0 := half_congr off49_eq _ _
@[sl_canon] theorem blk0S11 (hh hs) : wM.slice (Rect.unit (s := S26816x6144) k0_off50 S512x2048.size hh) hs = blk 11 0 := blk_congr off50_eq _ _
@[sl_canon] theorem half1S11 (hh hs) : (bufM.slice (Rect.unit (s := S4x1024x2048) k0_off51 S1x512x2048.size hh) hs).squeeze S512x2048 squeezes_S1x512x2048_S512x2048 = half 3 1 := half_congr off51_eq _ _
@[sl_canon] theorem blk1S11 (hh hs) : wM.slice (Rect.unit (s := S26816x6144) k0_off52 S512x2048.size hh) hs = blk 11 1 := blk_congr off52_eq _ _
@[sl_canon] theorem semI (k : Fin k0_t1_loop.trips) (hk : k.val + 12 < 78) (hh) : (cc0_scratch4.slice (Rect.unit (s := S4) (k0_off57 k) S1.size hh)).squeeze S_ squeezes_S1_S_ = csm (Ring.sl 4 (9 + k.val + 3)) := csm_congr (off57_eq k hk) _
@[sl_canon] theorem half0I (k : Fin k0_t1_loop.trips) (hk : k.val + 12 < 78) (hh hs) : (bufM.slice (Rect.unit (s := S4x1024x2048) (k0_off58 k) S1x512x2048.size hh) hs).squeeze S512x2048 squeezes_S1x512x2048_S512x2048 = half (Ring.sl 4 (9 + k.val + 3)) 0 := half_congr (off58_eq k hk) _ _
@[sl_canon] theorem blk0I (k : Fin k0_t1_loop.trips) (hk : k.val + 12 < 78) (hh hs) : wM.slice (Rect.unit (s := S26816x6144) (k0_off59 k) S512x2048.size hh) hs = blk (Ring.bk 78 (9 + k.val + 3)) 0 := blk_congr (off59_eq k hk) _ _
@[sl_canon] theorem half1I (k : Fin k0_t1_loop.trips) (hk : k.val + 12 < 78) (hh hs) : (bufM.slice (Rect.unit (s := S4x1024x2048) (k0_off60 k) S1x512x2048.size hh) hs).squeeze S512x2048 squeezes_S1x512x2048_S512x2048 = half (Ring.sl 4 (9 + k.val + 3)) 1 := half_congr (off60_eq k hk) _ _
@[sl_canon] theorem blk1I (k : Fin k0_t1_loop.trips) (hk : k.val + 12 < 78) (hh hs) : wM.slice (Rect.unit (s := S26816x6144) (k0_off61 k) S512x2048.size hh) hs = blk (Ring.bk 78 (9 + k.val + 3)) 1 := blk_congr (off61_eq k hk) _ _
@[sl_canon] theorem semW (k : Fin k0_t1_loop.trips) (hh) : (cc0_scratch4.slice (Rect.unit (s := S4) (k0_off62 k) S1.size hh)).squeeze S_ squeezes_S1_S_ = csm (Ring.sl 4 (9 + k.val)) := csm_congr (off62_eq k) _
@[sl_canon] theorem half0W (k : Fin k0_t1_loop.trips) (hh hs) : (bufM.slice (Rect.unit (s := S4x1024x2048) (k0_off63 k) S1x512x2048.size hh) hs).squeeze S512x2048 squeezes_S1x512x2048_S512x2048 = half (Ring.sl 4 (9 + k.val)) 0 := half_congr (off63_eq k) _ _
@[sl_canon] theorem blk0W (k : Fin k0_t1_loop.trips) (hh hs) : wM.slice (Rect.unit (s := S26816x6144) (k0_off64 k) S512x2048.size hh) hs = blk (Ring.bk 78 (9 + k.val)) 0 := blk_congr (off64_eq k) _ _
@[sl_canon] theorem half1W (k : Fin k0_t1_loop.trips) (hh hs) : (bufM.slice (Rect.unit (s := S4x1024x2048) (k0_off65 k) S1x512x2048.size hh) hs).squeeze S512x2048 squeezes_S1x512x2048_S512x2048 = half (Ring.sl 4 (9 + k.val)) 1 := half_congr (off65_eq k) _ _
@[sl_canon] theorem blk1W (k : Fin k0_t1_loop.trips) (hh hs) : wM.slice (Rect.unit (s := S26816x6144) (k0_off66 k) S512x2048.size hh) hs = blk (Ring.bk 78 (9 + k.val)) 1 := blk_congr (off66_eq k) _ _

instance (k : Fin k0_t1_loop.trips) : ClosedOff (k0_off67 k) := ⟨![k.val % 3, 0, 0], off67_eq k⟩
instance (k : Fin k0_t1_loop.trips) : ClosedOff (k0_off68 k) := ⟨slotOff (Ring.sl 4 (9 + k.val)), off68_eq k⟩

/-! ## The pieces: the two halves of a chunk home, a slot held, a slot's semaphore at zero, a slot in flight -/

abbrev S4s (s : Fin 4) : Finset S4x1024x2048.Idx := (Rect.unit (s := S4x1024x2048) (slotOff s) S1x1024x2048.size (slotOff_inb s)).set
abbrev H4s (s : Fin 4) (i : Fin 2) : Finset S4x1024x2048.Idx := (Rect.unit (s := S4x1024x2048) (halfOff s i) S1x512x2048.size (halfOff_inb s i)).set
abbrev G156 (b : Fin 78) (i : Fin 2) : Finset S26816x6144.Idx := (Rect.unit (s := S26816x6144) (blkOff b i) S512x2048.size (blkOff_inb b i)).set

theorem blk_set (b : Fin 78) (i : Fin 2) : (blk b i : Memref sig .tc .hbm _ _).view.set = G156 b i := View.set_slice_whole _ _
theorem rslot_set (s : Fin 4) : (rslot s : Memref sig .tc .vmem _ _).view.set = S4s s := View.set_slice_whole _ _
theorem half_set (s : Fin 4) (i : Fin 2) : (half s i : Memref sig .tc .vmem _ _).view.set = H4s s i := (View.set_reshape _ _).trans (View.set_slice_whole _ _)

theorem mem_S4s (s : Fin 4) (y : S4x1024x2048.Idx) : y ∈ S4s s ↔ (y 0).val = s.val := by
  rw [Rect.mem_set_unit]
  have h1 : (y 1).val < 1024 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 2048; omega
theorem mem_H4s (s : Fin 4) (i : Fin 2) (y : S4x1024x2048.Idx) : y ∈ H4s s i ↔ (y 0).val = s.val ∧ 512 * i.val ≤ (y 1).val ∧ (y 1).val < 512 * i.val + 512 := by
  rw [Rect.mem_set_unit]
  have h2 : (y 2).val < 2048 := (y 2).isLt
  constructor
  · intro H
    have a0 : s.val ≤ (y 0).val ∧ (y 0).val < s.val + 1 := H 0
    have a1 : 512 * i.val ≤ (y 1).val ∧ (y 1).val < 512 * i.val + 512 := H 1
    omega
  · intro H a; fin_cases a
    · show s.val ≤ (y 0).val ∧ (y 0).val < s.val + 1; omega
    · show 512 * i.val ≤ (y 1).val ∧ (y 1).val < 512 * i.val + 512; omega
    · show 0 ≤ (y 2).val ∧ (y 2).val < 0 + 2048; omega
theorem H4s_disjoint (s : Fin 4) : Disjoint (H4s s 0) (H4s s 1) := by
  rw [Finset.disjoint_left]; intro y h h'; rw [mem_H4s] at h h'
  have a : (y 1).val < 512 * 0 + 512 := h.2.2
  have b : 512 * 1 ≤ (y 1).val := h'.2.1
  omega
theorem H4s_union (s : Fin 4) : H4s s 0 ∪ H4s s 1 = S4s s := by
  ext y; rw [Finset.mem_union, mem_H4s, mem_H4s, mem_S4s]
  have h1 : (y 1).val < 1024 := (y 1).isLt
  show ((y 0).val = s.val ∧ 512 * 0 ≤ (y 1).val ∧ (y 1).val < 512 * 0 + 512) ∨ ((y 0).val = s.val ∧ 512 * 1 ≤ (y 1).val ∧ (y 1).val < 512 * 1 + 512) ↔ _
  omega

/-- The place in the ring buffer of element `x` of half `i` of slot `s`. -/
def halfIdx (s : Fin 4) (i : Fin 2) (x : S512x2048.Idx) : S4x1024x2048.Idx :=
  ix3 (s : Fin 4) (⟨512 * i.val + (x 0).val, by have := i.isLt; have h1 : (x 0).val < 512 := (x 0).isLt; omega⟩ : Fin 1024) (x 1 : Fin 2048)
theorem half_emb (s : Fin 4) (i : Fin 2) (x : S512x2048.Idx) : ((half s i : Memref sig .tc .vmem _ _).view.emb x : S4x1024x2048.Idx) = halfIdx s i x := by
  have e : (Shape.reshapeEquiv squeezes_S1x512x2048_S512x2048.numel_eq x : S1x512x2048.Idx) = ix3 (0 : Fin 1) (x 0 : Fin 512) (x 1 : Fin 2048) :=
    Shape.reshapeEquiv_eq_of_rowMajor _ ((Shape.rowMajor_val_three (d := S1x512x2048.size) _).trans (Eq.trans (by show ((0 : ℕ) * 512 + (x 0).val) * 2048 + (x 1).val = (x 0).val * 2048 + (x 1).val; omega) (Shape.rowMajor_val_two (d := S512x2048.size) x).symm))
  have e2 : ((half s i : Memref sig .tc .vmem _ _).view.emb x : S4x1024x2048.Idx)
      = (Rect.unit (s := S4x1024x2048) (halfOff s i) S1x512x2048.size (halfOff_inb s i)).emb (Shape.reshapeEquiv squeezes_S1x512x2048_S512x2048.numel_eq x) := rfl
  rw [e2, e]
  funext a; apply Fin.ext; fin_cases a
  · show s.val + 1 * 0 = s.val; omega
  · show 512 * i.val + 1 * (x 0).val = 512 * i.val + (x 0).val; omega
  · show 0 + 1 * (x 1).val = (x 1).val; omega

/-- The place in the weights of element `i` of chunk `b`. -/
def wIdx (b : Fin 78) (i : S1x1024x2048.Idx) : S26816x6144.Idx :=
  ix2 (⟨rowOff b.val ((i 1).val / 512) + (i 1).val % 512, by
        have := b.isLt; have h1 : (i 1).val < 1024 := (i 1).isLt
        show (if b.val < 6 then 24576 + 1024 * (b.val / 3) + 512 * ((i 1).val / 512) else 512 * (b.val / 3 - 2) + 12288 * ((i 1).val / 512)) + (i 1).val % 512 < 26816
        split <;> omega⟩ : Fin 26816)
    (⟨2048 * (b.val % 3) + (i 2).val, by have h2 : (i 2).val < 2048 := (i 2).isLt; omega⟩ : Fin 6144)

section Pieces
variable (c : Dev nD) (XW : Buf (Elt F) (wM.view.loc (c : Thread nD τ)))

abbrev cellP (s : Fin 4) : sProp 𝕄 := semVal ((c : Thread nD τ), SemLoc.dma (csm s).sem) 0
abbrev slotP (s : Fin 4) (f : Buf (Elt F) ((rslot s).view.loc (c : Thread nD τ))) : sProp 𝕄 :=
  (rslot s).view.loc (c : Thread nD τ) ↦[(rslot s).view.set]{fullShare} f
abbrev halfP (s : Fin 4) (i : Fin 2) (f : Buf (Elt F) ((half s i).view.loc (c : Thread nD τ))) : sProp 𝕄 :=
  (half s i).view.loc (c : Thread nD τ) ↦[(half s i).view.set]{fullShare} f
/-- Slot `s` held as its two halves. -/
abbrev pairP (s : Fin 4) (f : (i : Fin 2) → Buf (Elt F) ((half s i).view.loc (c : Thread nD τ))) : sProp 𝕄 := iprop(halfP c s 0 (f 0) ∗ halfP c s 1 (f 1))
abbrev blkP (b : Fin 78) (i : Fin 2) : sProp 𝕄 := (blk b i).view.loc (c : Thread nD τ) ↦[(blk b i).view.set]{fullShare} XW
abbrev homeP (b : Fin 78) : sProp 𝕄 := iprop(blkP c XW b 0 ∗ blkP c XW b 1)
/-- Half `i` of chunk `b` as a copy's payload. -/
abbrev payload (b : Fin 78) (i : Fin 2) : S512x2048.Idx → Elt F .i8 := ReadAs.same.apply ((blk b i).view.read (Elt F) XW)
/-- What that copy leaves in half `i` of slot `s` over prior contents `f`. -/
abbrev landed (s : Fin 4) (b : Fin 78) (i : Fin 2) (f : Buf (Elt F) ((half s i).view.loc (c : Thread nD τ))) : Buf (Elt F) ((half s i).view.loc (c : Thread nD τ)) :=
  (half s i).view.writes (Elt F) f [⟨Rect.whole S512x2048, payload c XW b i⟩]
/-- The units one copy puts on its semaphore. -/
abbrev NN : ℕ := (half 0 0).view.amount (SemLoc.dma (sig := sig) (csm 0).sem)
abbrev deliv (s : Fin 4) (b : Fin 78) (f : (i : Fin 2) → Buf (Elt F) ((half s i).view.loc (c : Thread nD τ))) (i : Fin 2) : sProp 𝕄 :=
  iprop(halfP c s i (landed c XW s b i (f i)) ∗ blkP c XW b i)
/-- Slot `s` in flight with chunk `b`: both copies issued, none waited for. -/
abbrev flightP (s : Fin 4) (b : Fin 78) (f : (i : Fin 2) → Buf (Elt F) ((half s i).view.loc (c : Thread nD τ))) : sProp 𝕄 :=
  Transfers.Batch countersEmb (c : Thread nD τ) (SemLoc.dma (csm s).sem) () NN (deliv c XW s b f) 2 0
/-- The ring before chunk `k` is multiplied: chunks `k`, `k + 1`, `k + 2` in flight, the others home. -/
abbrev ringAt (k : ℕ) : sProp 𝕄 := Ring.At 3 (cellP c) (pairP c) (homeP c XW) (flightP c XW) k

theorem blkP_storable (b i) : Storable (upEmb : UEmb _ 𝕄) (blkP c XW b i) :=
  (fun f : Buf (Elt F) ((blk b i).view.loc (c : Thread nD τ)) => (inferInstance : Storable (upEmb : UEmb _ 𝕄) ((blk b i).view.loc (c : Thread nD τ) ↦[(blk b i).view.set]{fullShare} f : sProp 𝕄))) XW
theorem deliv_storable (s b f) (i) : Storable (upEmb : UEmb _ 𝕄) (deliv c XW s b f i) :=
  haveI : Storable (upEmb : UEmb _ 𝕄) (halfP c s i (landed c XW s b i (f i))) := inferInstance
  haveI := blkP_storable c XW b i
  inferInstance
/-- A slot's semaphore at zero becomes the plan for the two copies of a chunk. -/
theorem alloc (s b f) : (cellP c s : sProp 𝕄) ⊢ |={Set.univ}=> Transfers.Batch countersEmb (c : Thread nD τ) (SemLoc.dma (csm s).sem) () NN (deliv c XW s b f) 0 0 :=
  haveI : ∀ t, Storable (upEmb : UEmb _ 𝕄) (deliv c XW s b f t) := fun t => deliv_storable c XW s b f t
  Transfers.batch_alloc' (Lvl := ℕ) countersEmb (c : Thread nD τ) () NN (deliv c XW s b f) (sm := .dma (csm s).sem) (E := Set.univ)

/-- Chunk `b` of the weights. -/
def wChunk (b : Fin 78) : Vec F S1x1024x2048 .i8 := fun i => XW (wIdx b i)
/-- The ring buffer's contents where chunk `b` has landed. -/
def LC (b : Fin 78) : Buf (Elt F) (bufM.view.loc (c : Thread nD τ)) := fun y : S4x1024x2048.Idx => wChunk c XW b (ix3 (0 : Fin 1) (y 1 : Fin 1024) (y 2 : Fin 2048))

omit [FloatOps F] in
theorem at_of_read {κ sp S e} (v : View sig κ sp S e) (f g : v.ty.Contents (Elt F)) (h : v.read (Elt F) f = v.read (Elt F) g) : ∀ i ∈ v.set, f i = g i := by
  intro i hi
  obtain ⟨x, -, rfl⟩ := Finset.mem_map.mp hi
  have := congrFun h x
  rw [View.read_apply, View.read_apply] at this
  exact (cast_bijective (congrArg (Elt F) v.elt_eq)).1 this

omit [FloatOps F] in
theorem payload_eq (s : Fin 4) (b : Fin 78) (i : Fin 2) (x : S512x2048.Idx) : payload c XW b i x = LC c XW b (halfIdx s i x) := by
  have hx0 : (x 0).val < 512 := (x 0).isLt
  have hi : i.val < 2 := i.isLt
  have e : ((blk b i).view.emb x : S26816x6144.Idx) = wIdx b (ix3 (0 : Fin 1) (halfIdx s i x 1 : Fin 1024) (halfIdx s i x 2 : Fin 2048)) := by
    refine funext fun a => Fin.ext ?_
    fin_cases a
    · show rowOff b.val i.val + 1 * (x 0).val = rowOff b.val ((512 * i.val + (x 0).val) / 512) + (512 * i.val + (x 0).val) % 512
      rw [show (512 * i.val + (x 0).val) / 512 = i.val by omega, show (512 * i.val + (x 0).val) % 512 = (x 0).val by omega]; omega
    · show 2048 * (b.val % 3) + 1 * (x 1).val = 2048 * (b.val % 3) + (x 1).val
      omega
  exact congrArg XW e

omit [FloatOps F] in
theorem landed_eq (s : Fin 4) (b : Fin 78) (i : Fin 2) (f : Buf (Elt F) ((half s i).view.loc (c : Thread nD τ))) :
    (halfP c s i (landed c XW s b i f) : sProp 𝕄) = (bufM.view.loc (c : Thread nD τ) ↦[H4s s i]{fullShare} LC c XW b) := by
  have h1 : (halfP c s i (landed c XW s b i f) : sProp 𝕄) = halfP c s i (LC c XW b) := by
    have e1 := View.read_writes_whole (half s i).view f (payload c XW b i)
    have e2 : (half s i).view.read (Elt F) (LC c XW b) = payload c XW b i := funext fun x =>
      (View.read_apply (Val := Elt F) (v := (half s i).view) (LC c XW b) x).trans ((cast_eq _ _).trans ((congrArg (LC c XW b) (half_emb s i x)).trans (payload_eq c XW s b i x).symm))
    exact pointsTo_congr (at_of_read (half s i).view _ _ (e1.trans e2.symm))
  exact h1.trans (congrArg (fun S => (bufM.view.loc (c : Thread nD τ) ↦[S]{fullShare} LC c XW b : sProp 𝕄)) (half_set s i))

omit [FloatOps F] in
/-- Both copies landed: the slot whole, at the chunk. -/
theorem slot_join (s : Fin 4) (b : Fin 78) (f0 : Buf (Elt F) ((half s 0).view.loc (c : Thread nD τ))) (f1 : Buf (Elt F) ((half s 1).view.loc (c : Thread nD τ))) :
    iprop(halfP c s 0 (landed c XW s b 0 f0) ∗ halfP c s 1 (landed c XW s b 1 f1)) ⊢ (slotP c s (LC c XW b) : sProp 𝕄) := by
  rw [landed_eq, landed_eq]
  refine (pointsTo_union (H4s_disjoint s)).2.trans (Entails.of_eq ?_)
  exact congrArg (fun S => (bufM.view.loc (c : Thread nD τ) ↦[S]{fullShare} LC c XW b : sProp 𝕄)) ((H4s_union s).trans (rslot_set s).symm)
omit [FloatOps F] in
/-- The slot whole is its two halves. -/
theorem slot_split (s : Fin 4) (g : Buf (Elt F) (bufM.view.loc (c : Thread nD τ))) : (slotP c s g : sProp 𝕄) ⊢ iprop(∃ f, pairP c s f) := by
  have e : (slotP c s g : sProp 𝕄) = (bufM.view.loc (c : Thread nD τ) ↦[H4s s 0 ∪ H4s s 1]{fullShare} g) :=
    congrArg (fun S => (bufM.view.loc (c : Thread nD τ) ↦[S]{fullShare} g : sProp 𝕄)) ((rslot_set s).trans (H4s_union s).symm)
  rw [e]
  refine (pointsTo_union (H4s_disjoint s)).1.trans ?_
  iintro ⟨H0, H1⟩
  iexists (fun _ => g)
  isplitl [H0]
  · iapply (Entails.of_eq (congrArg (fun S => (bufM.view.loc (c : Thread nD τ) ↦[S]{fullShare} g : sProp 𝕄)) (half_set s 0).symm)); iexact H0
  · iapply (Entails.of_eq (congrArg (fun S => (bufM.view.loc (c : Thread nD τ) ↦[S]{fullShare} g : sProp 𝕄)) (half_set s 1).symm)); iexact H1
end Pieces

end Cert.Proof.In

end
-- ==== Proof.InTrip.lean ====
module

public import proofs.«01_k».proof.Defs
public import proofs.«01_k».proof.Proof.Gen.KernelIn.Launch
public import proofs.«01_k».proof.Proof.Gen.KernelIn.Skeleton
public import proofs.«01_k».proof.Proof.Gen.KernelIn.Loops
public import proofs.«01_k».proof.Proof.Gen.KernelIn.Points
public import Idealize.ShloMosaic.Lib.Pipeline.KitQuiescent
public import Idealize.ShloMosaic.Lib.Ring
public import Idealize.ShloMosaic.Lib.Ring.AtN
public import Idealize.ShloMosaic.Lib.Batch
public import Idealize.ShloMosaic.Lib.Affine
public import Idealize.ShloMosaic.Lib.Tactic
public import Idealize.ShloMosaic.Lib.ValueIdxCore
public import Idealize.ShloMosaic.Lib.VecWindow
public import Idealize.ShloMosaic.Lib.Pipeline.Value
public import proofs.«01_k».proof.Proof.InBase

@[expose] public section

noncomputable section

namespace Cert.Proof.In

open Cert.KernelIn Cert.KernelIn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UU nD τ) ℕ

section Trip
variable (c : Dev nD) (XW : Buf (Elt F) (wM.view.loc (c : Thread nD τ)))
  (arg0 : Memref sig .tc .vmem S72x6144 .bf16) (harg0 : arg0.IsWhole)
  (arg1 : Memref sig .tc .vmem S1x26816 .f32) (harg1 : arg1.IsWhole)
  (arg2 : Memref sig .tc .vmem S1x192 .f32) (harg2 : arg2.IsWhole)
  (arg4 : Memref sig .tc .vmem S72x12288 .f32) (harg4 : arg4.IsWhole)
  (arg5 : Memref sig .tc .vmem S72x14336 .f32) (harg5 : arg5.IsWhole)
  (arg6 : Memref sig .tc .vmem S72x192 .f32) (harg6 : arg6.IsWhole)
  (arg7 : Memref sig .tc .vmem S72x6144 .i8) (harg7 : arg7.IsWhole)
  (arg8 : Memref sig .tc .vmem S72x1 .f32) (harg8 : arg8.IsWhole)
  (v1154 : FVec F S72x1024 .f32) (v1155 : BitVec 1)

abbrev accP (f : Buf (Elt F) (accM.view.loc (c : Thread nD τ))) : sProp 𝕄 := accM.view.loc (c : Thread nD τ) ↦[accM.view.set]{fullShare} f
abbrev xqP (f : Buf (Elt F) (xqM.view.loc (c : Thread nD τ))) : sProp 𝕄 := xqM.view.loc (c : Thread nD τ) ↦[xqM.view.set]{fullShare} f

abbrev trip1 (k : Fin k0_t1_loop.trips) : Prog (TpuEff nD τ sig (Elt F) Λ₀ .tc) Unit :=
  k0_t1_body (F := F) arg0 harg0 arg1 harg1 arg2 harg2 wM (Memref.isWhole_whole _) arg4 harg4 arg5 harg5 arg6 harg6 arg7 harg7 arg8 harg8 xqM (Memref.isWhole_whole _) bufM (Memref.isWhole_whole _) wdtM (Memref.isWhole_whole _) accM (Memref.isWhole_whole _) cc0_scratch4 cc0_scratch5 v1154 v1155 k ()

/-- Column block `j` (2048 columns) of the quantised rows, as the trip loads it. -/
abbrev xqBlk (fq : Buf (Elt F) (xqM.view.loc (c : Thread nD τ))) (j : ℕ) : Vec F S1x72x2048 .bf16 :=
  fun i => xqM.view.read (Elt F) fq (ix3 (⟨j % 3, Nat.mod_lt _ (by decide)⟩ : Fin 3) (i 1) (i 2))
/-- The left 512 columns of the accumulator. -/
def accLo (A : Vec F S72x1024 .f32) : Vec F S72x512 .f32 :=
  fun i => A (ix2 (i 0 : Fin 72) (⟨(i 1).val, by have h : (i 1).val < 512 := (i 1).isLt; omega⟩ : Fin 1024))
/-- The right 512 columns of the accumulator. -/
def accHi (A : Vec F S72x1024 .f32) : Vec F S72x512 .f32 :=
  fun i => A (ix2 (i 0 : Fin 72) (⟨512 + (i 1).val, by have h : (i 1).val < 512 := (i 1).isLt; omega⟩ : Fin 1024))
/-- The 512 weight scales from column `o` on. -/
def wscT (W : Vec F S1x26816 .f32) (o : ℕ) : Vec F S1x512 .f32 :=
  fun i => W (ix2 (0 : Fin 1) (⟨(o + (i 1).val) % 26816, Nat.mod_lt _ (by decide)⟩ : Fin 26816))

/-- One chunk's product added into the accumulator (the first of a tile's three replaces it). -/
def accStep (X : Vec F S1x72x2048 .bf16) (b : ℕ) (A : Vec F S72x1024 .f32) : Vec F S72x1024 .f32 :=
  k0_pay48 (BitVec.ofNat 32 (b % 3)) (k0_pay1 X) (wChunk c XW (Ring.bk 78 b)) A
/-- The first output after a chunk: the left half of a finished tile is scaled into its columns. -/
def zStep (W : Vec F S1x26816 .f32) (xs : Vec F S72x1 .f32) (A : Vec F S72x1024 .f32) (k : ℕ) (Z : Vec F S72x12288 .f32) : Vec F S72x12288 .f32 :=
  if k % 3 = 2 then VecWindow.put (s := S72x12288) Z ![0, 512 * (k / 3 + 1)] S72x512.size (k0_pay49 (accLo A) xs (wscT W (512 * (k / 3 + 1)))) else Z
/-- The second output after a chunk: the right half of a finished tile is scaled into its columns. -/
def yStep (W : Vec F S1x26816 .f32) (xs : Vec F S72x1 .f32) (A : Vec F S72x1024 .f32) (k : ℕ) (Y : Vec F S72x14336 .f32) : Vec F S72x14336 .f32 :=
  if k % 3 = 2 then VecWindow.put (s := S72x14336) Y ![0, 512 * (k / 3 + 1)] S72x512.size (k0_pay50 (accHi A) xs (wscT W (12288 + 512 * (k / 3 + 1)))) else Y

abbrev arg1P (f : Buf (Elt F) (arg1.view.loc (c : Thread nD τ))) : sProp 𝕄 := arg1.view.loc (c : Thread nD τ) ↦[arg1.view.set]{fullShare} f
abbrev arg4P (f : Buf (Elt F) (arg4.view.loc (c : Thread nD τ))) : sProp 𝕄 := arg4.view.loc (c : Thread nD τ) ↦[arg4.view.set]{fullShare} f
abbrev arg5P (f : Buf (Elt F) (arg5.view.loc (c : Thread nD τ))) : sProp 𝕄 := arg5.view.loc (c : Thread nD τ) ↦[arg5.view.set]{fullShare} f
abbrev arg8P (f : Buf (Elt F) (arg8.view.loc (c : Thread nD τ))) : sProp 𝕄 := arg8.view.loc (c : Thread nD τ) ↦[arg8.view.set]{fullShare} f

/-- What the loop of the tiles holds before trip `k`: the accumulator at `A`, the outputs at `Z` and `Y`. -/
def resAt (f1 : Buf (Elt F) (arg1.view.loc (c : Thread nD τ))) (f8 : Buf (Elt F) (arg8.view.loc (c : Thread nD τ))) (fq : Buf (Elt F) (xqM.view.loc (c : Thread nD τ)))
    (A : Vec F S72x1024 .f32) (Z : Vec F S72x12288 .f32) (Y : Vec F S72x14336 .f32) (k : ℕ) : sProp 𝕄 :=
  iprop((∃ fo, accP c fo ∗ ⌜accM.view.read (Elt F) fo = A⌝) ∗ (∃ f4, arg4P c arg4 f4 ∗ ⌜arg4.view.read (Elt F) f4 = Z⌝) ∗ (∃ f5, arg5P c arg5 f5 ∗ ⌜arg5.view.read (Elt F) f5 = Y⌝)
    ∗ arg1P c arg1 f1 ∗ arg8P c arg8 f8 ∗ xqP c fq ∗ (∃ W, owes (c : Thread nD τ) 0 W) ∗ ringAt c XW (9 + k))

omit [FloatOps F] in
theorem xq_readAt (off : Fin 3 → Nat) (j : ℕ) (e : off = ![j % 3, 0, 0]) (inb) (fq : Buf (Elt F) (xqM.view.loc (c : Thread nD τ))) :
    View.readAt (Elt F) xqM.view (Rect.unit (s := S3x72x2048) off S1x72x2048.size inb).toLoadRect fq = xqBlk c fq j := by
  subst e
  funext i
  refine congrArg (xqM.view.read (Elt F) fq) (funext fun a => Fin.ext ?_)
  have h0 : (i 0).val < 1 := (i 0).isLt
  fin_cases a
  · show j % 3 + 1 * (i 0).val = j % 3; omega
  · show 0 + 1 * (i 1).val = (i 1).val; omega
  · show 0 + 1 * (i 2).val = (i 2).val; omega

omit [FloatOps F] in
theorem slot_readAt (off : Fin 3 → Nat) (s : Fin 4) (e : off = slotOff s) (inb) (b : Fin 78) :
    View.readAt (Elt F) bufM.view (Rect.unit (s := S4x1024x2048) off S1x1024x2048.size inb).toLoadRect (LC c XW b) = wChunk c XW b := by
  subst e
  funext i
  have h0 : (i 0).val < 1 := (i 0).isLt
  refine congrArg (wChunk c XW b) (funext fun a => Fin.ext ?_)
  fin_cases a
  · show 0 = (i 0).val; omega
  · show 0 + 1 * (i 1).val = (i 1).val; omega
  · show 0 + 1 * (i 2).val = (i 2).val; omega

theorem put_congr {S : Shape} {α : Type} {x x' : S.Idx → α} (off size : Fin S.rank → ℕ) {w w' : ((a : Fin S.rank) → Fin (size a)) → α} (hx : x = x') (hw : w = w') :
    VecWindow.put x off size w = VecWindow.put x' off size w' := by subst hx hw; rfl
theorem acc_lo (v : View sig .tc .vmem S72x1024 .f32) (w : Vec F S72x1024 .f32) (inb inb') : v.readCov (Val := Elt F) [⟨Rect.unit (s := S72x1024) ![0, 0] S72x1024.size inb, w⟩] (Rect.unit (s := S72x1024) ![0, 0] S72x512.size inb').toLoadRect = accLo w := by
  funext i
  refine (congrFun (View.read_writes_full v _ inb w []) _).trans ?_
  refine congrArg w (funext fun a => Fin.ext ?_)
  fin_cases a
  · show 0 + 1 * (i 0).val = (i 0).val; omega
  · show 0 + 1 * (i 1).val = (i 1).val; omega
theorem acc_hi (v : View sig .tc .vmem S72x1024 .f32) (w : Vec F S72x1024 .f32) (inb inb') : v.readCov (Val := Elt F) [⟨Rect.unit (s := S72x1024) ![0, 0] S72x1024.size inb, w⟩] (Rect.unit (s := S72x1024) ![0, 512] S72x512.size inb').toLoadRect = accHi w := by
  funext i
  refine (congrFun (View.read_writes_full v _ inb w []) _).trans ?_
  refine congrArg w (funext fun a => Fin.ext ?_)
  fin_cases a
  · show 0 + 1 * (i 0).val = (i 0).val; omega
  · show 512 + 1 * (i 1).val = 512 + (i 1).val; omega

omit [FloatOps F] in
theorem wsc_readAt (off : Fin 2 → Nat) (o : ℕ) (e : off = ![0, o]) (ho : o + 512 ≤ 26816) (inb) (f : Buf (Elt F) (arg1.view.loc (c : Thread nD τ))) :
    View.readAt (Elt F) arg1.view (Rect.unit (s := S1x26816) off S1x512.size inb).toLoadRect f = wscT (arg1.view.read (Elt F) f) o := by
  subst e
  funext i
  refine congrArg (arg1.view.read (Elt F) f) (funext fun a => Fin.ext ?_)
  have h0 : (i 0).val < 1 := (i 0).isLt
  have h1 : (i 1).val < 512 := (i 1).isLt
  fin_cases a
  · show 0 + 1 * (i 0).val = 0; omega
  · show o + 1 * (i 1).val = (o + (i 1).val) % 26816; rw [Nat.mod_eq_of_lt (by omega)]; omega

theorem acc_new (k : Fin k0_t1_loop.trips) (w : BitVec 32) (hw : w = BitVec.ofNat 32 ((9 + k.val) % 3)) (fq fo) (A : Vec F S72x1024 .f32) (hfo : accM.view.read (Elt F) fo = A) (i67 i68 i0) :
    k0_pay48 w (k0_pay1 (View.readAt (Elt F) xqM.view (Rect.unit (s := S3x72x2048) (k0_off67 k) S1x72x2048.size i67).toLoadRect fq))
      (View.readAt (Elt F) bufM.view (Rect.unit (s := S4x1024x2048) (k0_off68 k) S1x1024x2048.size i68).toLoadRect (LC c XW (Ring.bk 78 (9 + k.val))))
      (View.readAt (Elt F) accM.view (Rect.unit (s := S72x1024) ![0, 0] S72x1024.size i0).toLoadRect fo) = accStep c XW (xqBlk c fq k) (9 + k.val) A := by
  subst hw hfo
  rw [xq_readAt c _ k.val (off67_eq k), slot_readAt c XW _ _ (off68_eq k), View.readAt_full]; rfl

theorem trip_start_mid (k : Fin k0_t1_loop.trips) (hk : 9 + k.val + 3 < 78) (hj : k.val % 3 ≠ 2) (f1 f8 fq) (A : Vec F S72x1024 .f32) (Z Y) :
    resAt c XW arg1 arg4 arg5 arg8 f1 f8 fq A Z Y k ⊢ wp frame (wpE (defs₀ (F := F)) 𝒱₀ (c : Thread nD τ) none) Set.univ (trip1 arg0 harg0 arg1 harg1 arg2 harg2 arg4 harg4 arg5 harg5 arg6 harg6 arg7 harg7 arg8 harg8 v1154 v1155 k)
      (fun _ => resAt c XW arg1 arg4 arg5 arg8 f1 f8 fq (accStep c XW (xqBlk c fq k) (9 + k.val) A)
        (zStep (arg1.view.read (Elt F) f1) (arg8.view.read (Elt F) f8) (accStep c XW (xqBlk c fq k) (9 + k.val) A) k Z)
        (yStep (arg1.view.read (Elt F) f1) (arg8.view.read (Elt F) f8) (accStep c XW (xqBlk c fq k) (9 + k.val) A) k Y) (k.val + 1)) := by
  have hk69 : k.val < 69 := trips1 ▸ k.isLt
  have hc := cond10_pos k (by omega)
  have hc' := cond11_neg k hj
  unfold resAt ringAt
  rw [show 9 + (k.val + 1) = 9 + k.val + 1 from rfl]
  rw [Ring.At4_here _ _ _ _ (9 + k.val) hk, Ring.At4_next _ _ _ _ (9 + k.val) hk, Ring.slotAt4_next0 _ _ _ _ (by omega), Ring.slotAt4_next1 _ _ _ _ (by omega), Ring.slotAt4_next2 _ _ _ _ (by omega)]
  iintro ⟨⟨%fo, HO, %hfo⟩, ⟨%f4, H4, %hf4⟩, ⟨%f5, H5, %hf5⟩, H1, H8, HQ, ⟨%W, HW⟩, ⟨⟨Hb0, Hb1⟩, Hrest⟩, ⟨%g0, HF0⟩, ⟨%g1, HF1⟩, ⟨%g2, HF2⟩, ⟨Hc, ⟨%f3, Hs0, Hs1⟩⟩⟩
  imod (alloc c XW (Ring.sl 4 (9 + k.val + 3)) (Ring.bk 78 (9 + k.val + 3)) f3) $$ Hc with HB
  dsimp only [trip1]
  sl_unfold [k0_t1_body]
  sl_exec
  ihave HS := slot_join c XW (Ring.sl 4 (9 + k.val)) (Ring.bk 78 (9 + k.val)) (g0 0) (g0 1) $$ [HF0_dst0 HF0_dst1]
  · isplitl [HF0_dst0]; · iexact HF0_dst0
    iexact HF0_dst1
  sl_exec
  sl_step
  have hw : ∀ k : Fin k0_t1_loop.trips, Scalar.remsi (trip_start_mid.sl.v1210 k) 3#32 = BitVec.ofNat 32 ((9 + k.val) % 3) := by decide +kernel
  have ea := fun i67 i68 i0 => acc_new c XW k _ (hw k) fq fo A hfo i67 i68 i0
  try delta trip_start_mid.sl.v1228 trip_start_mid.sl.v1265
  isplitl [HO]
  · iexists _; isplitl [HO]; · iexact HO
    ipureintro
    rw [View.read_writes_full]
    exact ea _ _ _
  isplitl [H4]
  · iexists _; isplitl [H4]; · iexact H4
    ipureintro; unfold zStep; rw [if_neg hj]; exact hf4
  isplitl [H5]
  · iexists _; isplitl [H5]; · iexact H5
    ipureintro; unfold yStep; rw [if_neg hj]; exact hf5
  isplitl [H1]; · iexact H1
  isplitl [H8]; · iexact H8
  isplitl [HQ]; · iexact HQ
  isplitl [HW]; · iexists _; iexact HW
  isplitl [HF0_src0 HF0_src1 Hrest]
  · isplitl [HF0_src0 HF0_src1]
    · isplitl [HF0_src0]; · iexact HF0_src0
      iexact HF0_src1
    iexact Hrest
  isplitl [HF1]; · iexists g1; iexact HF1
  isplitl [HF2]; · iexists g2; iexact HF2
  isplitl [HB]; · iexists f3; iexact HB
  isplitl [HF0]; · iexact HF0
  iapply (slot_split c); iexact HS

theorem trip_start_end (k : Fin k0_t1_loop.trips) (hk : 9 + k.val + 3 < 78) (hj : k.val % 3 = 2) (f1 f8 fq) (A : Vec F S72x1024 .f32) (Z Y) :
    resAt c XW arg1 arg4 arg5 arg8 f1 f8 fq A Z Y k ⊢ wp frame (wpE (defs₀ (F := F)) 𝒱₀ (c : Thread nD τ) none) Set.univ (trip1 arg0 harg0 arg1 harg1 arg2 harg2 arg4 harg4 arg5 harg5 arg6 harg6 arg7 harg7 arg8 harg8 v1154 v1155 k)
      (fun _ => resAt c XW arg1 arg4 arg5 arg8 f1 f8 fq (accStep c XW (xqBlk c fq k) (9 + k.val) A)
        (zStep (arg1.view.read (Elt F) f1) (arg8.view.read (Elt F) f8) (accStep c XW (xqBlk c fq k) (9 + k.val) A) k Z)
        (yStep (arg1.view.read (Elt F) f1) (arg8.view.read (Elt F) f8) (accStep c XW (xqBlk c fq k) (9 + k.val) A) k Y) (k.val + 1)) := by
  have hk69 : k.val < 69 := trips1 ▸ k.isLt
  have hc := cond10_pos k (by omega)
  have hc' := cond11_pos k hj
  unfold resAt ringAt
  rw [show 9 + (k.val + 1) = 9 + k.val + 1 from rfl]
  rw [Ring.At4_here _ _ _ _ (9 + k.val) hk, Ring.At4_next _ _ _ _ (9 + k.val) hk, Ring.slotAt4_next0 _ _ _ _ (by omega), Ring.slotAt4_next1 _ _ _ _ (by omega), Ring.slotAt4_next2 _ _ _ _ (by omega)]
  iintro ⟨⟨%fo, HO, %hfo⟩, ⟨%f4, H4, %hf4⟩, ⟨%f5, H5, %hf5⟩, H1, H8, HQ, ⟨%W, HW⟩, ⟨⟨Hb0, Hb1⟩, Hrest⟩, ⟨%g0, HF0⟩, ⟨%g1, HF1⟩, ⟨%g2, HF2⟩, ⟨Hc, ⟨%f3, Hs0, Hs1⟩⟩⟩
  imod (alloc c XW (Ring.sl 4 (9 + k.val + 3)) (Ring.bk 78 (9 + k.val + 3)) f3) $$ Hc with HB
  dsimp only [trip1]
  sl_unfold [k0_t1_body]
  sl_exec
  ihave HS := slot_join c XW (Ring.sl 4 (9 + k.val)) (Ring.bk 78 (9 + k.val)) (g0 0) (g0 1) $$ [HF0_dst0 HF0_dst1]
  · isplitl [HF0_dst0]; · iexact HF0_dst0
    iexact HF0_dst1
  sl_exec
  sl_step
  have hw : ∀ k : Fin k0_t1_loop.trips, Scalar.remsi (trip_start_end.sl.v1210 k) 3#32 = BitVec.ofNat 32 ((9 + k.val) % 3) := by decide +kernel
  have ea := fun i67 i68 i0 => acc_new c XW k _ (hw k) fq fo A hfo i67 i68 i0
  try delta trip_start_end.sl.v1285 trip_start_end.sl.v1299 trip_start_end.sl.HO_1 trip_start_end.sl.v1228 trip_start_end.sl.v1265
  isplitl [HO]
  · iexists _; isplitl [HO]; · iexact HO
    ipureintro
    rw [View.read_writes_full]
    exact ea _ _ _
  isplitl [H4]
  · iexists _; isplitl [H4]; · iexact H4
    ipureintro
    refine (View.read_writes_cons_put _ _ _ _ _ (off70_eq k hj)).trans ?_
    unfold zStep; rw [if_pos hj]
    refine put_congr _ _ hf4 ?_
    refine congr (congr (congrArg k0_pay49 ((acc_lo _ _ _ _).trans (congrArg accLo (ea _ _ _)))) (View.readAt_full _ _ _)) (wsc_readAt c arg1 _ _ (off69_eq k hj) (by omega) _ _)
  isplitl [H5]
  · iexists _; isplitl [H5]; · iexact H5
    ipureintro
    refine (View.read_writes_cons_put _ _ _ _ _ (off72_eq k hj)).trans ?_
    unfold yStep; rw [if_pos hj]
    refine put_congr _ _ hf5 ?_
    refine congr (congr (congrArg k0_pay50 ((acc_hi _ _ _ _).trans (congrArg accHi (ea _ _ _)))) (View.readAt_full _ _ _)) (wsc_readAt c arg1 _ _ (off71_eq k hj) (by omega) _ _)
  isplitl [H1]; · iexact H1
  isplitl [H8]; · iexact H8
  isplitl [HQ]; · iexact HQ
  isplitl [HW]; · iexists _; iexact HW
  isplitl [HF0_src0 HF0_src1 Hrest]
  · isplitl [HF0_src0 HF0_src1]
    · isplitl [HF0_src0]; · iexact HF0_src0
      iexact HF0_src1
    iexact Hrest
  isplitl [HF1]; · iexists g1; iexact HF1
  isplitl [HF2]; · iexists g2; iexact HF2
  isplitl [HB]; · iexists f3; iexact HB
  isplitl [HF0]; · iexact HF0
  iapply (slot_split c); iexact HS

theorem trip_tail_mid (k : Fin k0_t1_loop.trips) (hk : 78 ≤ 9 + k.val + 3) (hj : k.val % 3 ≠ 2) (f1 f8 fq) (A : Vec F S72x1024 .f32) (Z Y) :
    resAt c XW arg1 arg4 arg5 arg8 f1 f8 fq A Z Y k ⊢ wp frame (wpE (defs₀ (F := F)) 𝒱₀ (c : Thread nD τ) none) Set.univ (trip1 arg0 harg0 arg1 harg1 arg2 harg2 arg4 harg4 arg5 harg5 arg6 harg6 arg7 harg7 arg8 harg8 v1154 v1155 k)
      (fun _ => resAt c XW arg1 arg4 arg5 arg8 f1 f8 fq (accStep c XW (xqBlk c fq k) (9 + k.val) A)
        (zStep (arg1.view.read (Elt F) f1) (arg8.view.read (Elt F) f8) (accStep c XW (xqBlk c fq k) (9 + k.val) A) k Z)
        (yStep (arg1.view.read (Elt F) f1) (arg8.view.read (Elt F) f8) (accStep c XW (xqBlk c fq k) (9 + k.val) A) k Y) (k.val + 1)) := by
  have hk69 : k.val < 69 := trips1 ▸ k.isLt
  have hc := cond10_neg k (by omega)
  have hc' := cond11_neg k hj
  unfold resAt ringAt
  rw [show 9 + (k.val + 1) = 9 + k.val + 1 from rfl]
  rw [Ring.At4_here_tail _ _ _ _ (9 + k.val) (by omega), Ring.At4_next_tail _ _ _ _ (9 + k.val) hk (by omega), Ring.slotAt4_tail_role, Ring.slotAt4_tail_role1]
  iintro ⟨⟨%fo, HO, %hfo⟩, ⟨%f4, H4, %hf4⟩, ⟨%f5, H5, %hf5⟩, H1, H8, HQ, ⟨%W, HW⟩, Hrest, ⟨%g0, HF0⟩, HF1, HF2, Hfr⟩
  dsimp only [trip1]
  sl_unfold [k0_t1_body]
  sl_exec
  ihave HS := slot_join c XW (Ring.sl 4 (9 + k.val)) (Ring.bk 78 (9 + k.val)) (g0 0) (g0 1) $$ [HF0_dst0 HF0_dst1]
  · isplitl [HF0_dst0]; · iexact HF0_dst0
    iexact HF0_dst1
  sl_exec
  sl_step
  have hw : ∀ k : Fin k0_t1_loop.trips, Scalar.remsi (trip_tail_mid.sl.v1210 k) 3#32 = BitVec.ofNat 32 ((9 + k.val) % 3) := by decide +kernel
  have ea := fun i67 i68 i0 => acc_new c XW k _ (hw k) fq fo A hfo i67 i68 i0
  try delta trip_tail_mid.sl.v1228 trip_tail_mid.sl.v1265
  isplitl [HO]
  · iexists _; isplitl [HO]; · iexact HO
    ipureintro
    rw [View.read_writes_full]
    exact ea _ _ _
  isplitl [H4]
  · iexists _; isplitl [H4]; · iexact H4
    ipureintro; unfold zStep; rw [if_neg hj]; exact hf4
  isplitl [H5]
  · iexists _; isplitl [H5]; · iexact H5
    ipureintro; unfold yStep; rw [if_neg hj]; exact hf5
  isplitl [H1]; · iexact H1
  isplitl [H8]; · iexact H8
  isplitl [HQ]; · iexact HQ
  isplitl [HW]; · iexists _; iexact HW
  isplitl [HF0_src0 HF0_src1 Hrest]
  · isplitl [HF0_src0 HF0_src1]
    · isplitl [HF0_src0]; · iexact HF0_src0
      iexact HF0_src1
    iexact Hrest
  isplitl [HF1]; · iexact HF1
  isplitl [HF2]; · iexact HF2
  isplitl [Hfr]; · iexact Hfr
  isplitl [HF0]; · iexact HF0
  iapply (slot_split c); iexact HS

theorem trip_tail_end (k : Fin k0_t1_loop.trips) (hk : 78 ≤ 9 + k.val + 3) (hj : k.val % 3 = 2) (f1 f8 fq) (A : Vec F S72x1024 .f32) (Z Y) :
    resAt c XW arg1 arg4 arg5 arg8 f1 f8 fq A Z Y k ⊢ wp frame (wpE (defs₀ (F := F)) 𝒱₀ (c : Thread nD τ) none) Set.univ (trip1 arg0 harg0 arg1 harg1 arg2 harg2 arg4 harg4 arg5 harg5 arg6 harg6 arg7 harg7 arg8 harg8 v1154 v1155 k)
      (fun _ => resAt c XW arg1 arg4 arg5 arg8 f1 f8 fq (accStep c XW (xqBlk c fq k) (9 + k.val) A)
        (zStep (arg1.view.read (Elt F) f1) (arg8.view.read (Elt F) f8) (accStep c XW (xqBlk c fq k) (9 + k.val) A) k Z)
        (yStep (arg1.view.read (Elt F) f1) (arg8.view.read (Elt F) f8) (accStep c XW (xqBlk c fq k) (9 + k.val) A) k Y) (k.val + 1)) := by
  have hk69 : k.val < 69 := trips1 ▸ k.isLt
  have hc := cond10_neg k (by omega)
  have hc' := cond11_pos k hj
  unfold resAt ringAt
  rw [show 9 + (k.val + 1) = 9 + k.val + 1 from rfl]
  rw [Ring.At4_here_tail _ _ _ _ (9 + k.val) (by omega), Ring.At4_next_tail _ _ _ _ (9 + k.val) hk (by omega), Ring.slotAt4_tail_role, Ring.slotAt4_tail_role1]
  iintro ⟨⟨%fo, HO, %hfo⟩, ⟨%f4, H4, %hf4⟩, ⟨%f5, H5, %hf5⟩, H1, H8, HQ, ⟨%W, HW⟩, Hrest, ⟨%g0, HF0⟩, HF1, HF2, Hfr⟩
  dsimp only [trip1]
  sl_unfold [k0_t1_body]
  sl_exec
  ihave HS := slot_join c XW (Ring.sl 4 (9 + k.val)) (Ring.bk 78 (9 + k.val)) (g0 0) (g0 1) $$ [HF0_dst0 HF0_dst1]
  · isplitl [HF0_dst0]; · iexact HF0_dst0
    iexact HF0_dst1
  sl_exec
  sl_step
  have hw : ∀ k : Fin k0_t1_loop.trips, Scalar.remsi (trip_tail_end.sl.v1210 k) 3#32 = BitVec.ofNat 32 ((9 + k.val) % 3) := by decide +kernel
  have ea := fun i67 i68 i0 => acc_new c XW k _ (hw k) fq fo A hfo i67 i68 i0
  try delta trip_tail_end.sl.v1285 trip_tail_end.sl.v1299 trip_tail_end.sl.HO_1 trip_tail_end.sl.v1228 trip_tail_end.sl.v1265
  isplitl [HO]
  · iexists _; isplitl [HO]; · iexact HO
    ipureintro
    rw [View.read_writes_full]
    exact ea _ _ _
  isplitl [H4]
  · iexists _; isplitl [H4]; · iexact H4
    ipureintro
    refine (View.read_writes_cons_put _ _ _ _ _ (off70_eq k hj)).trans ?_
    unfold zStep; rw [if_pos hj]
    refine put_congr _ _ hf4 ?_
    refine congr (congr (congrArg k0_pay49 ((acc_lo _ _ _ _).trans (congrArg accLo (ea _ _ _)))) (View.readAt_full _ _ _)) (wsc_readAt c arg1 _ _ (off69_eq k hj) (by omega) _ _)
  isplitl [H5]
  · iexists _; isplitl [H5]; · iexact H5
    ipureintro
    refine (View.read_writes_cons_put _ _ _ _ _ (off72_eq k hj)).trans ?_
    unfold yStep; rw [if_pos hj]
    refine put_congr _ _ hf5 ?_
    refine congr (congr (congrArg k0_pay50 ((acc_hi _ _ _ _).trans (congrArg accHi (ea _ _ _)))) (View.readAt_full _ _ _)) (wsc_readAt c arg1 _ _ (off71_eq k hj) (by omega) _ _)
  isplitl [H1]; · iexact H1
  isplitl [H8]; · iexact H8
  isplitl [HQ]; · iexact HQ
  isplitl [HW]; · iexists _; iexact HW
  isplitl [HF0_src0 HF0_src1 Hrest]
  · isplitl [HF0_src0 HF0_src1]
    · isplitl [HF0_src0]; · iexact HF0_src0
      iexact HF0_src1
    iexact Hrest
  isplitl [HF1]; · iexact HF1
  isplitl [HF2]; · iexact HF2
  isplitl [Hfr]; · iexact Hfr
  isplitl [HF0]; · iexact HF0
  iapply (slot_split c); iexact HS

end Trip

end Cert.Proof.In

end
-- ==== Proof.InLoop.lean ====
module

public import proofs.«01_k».proof.Defs
public import proofs.«01_k».proof.Proof.Gen.KernelIn.Launch
public import proofs.«01_k».proof.Proof.Gen.KernelIn.Skeleton
public import proofs.«01_k».proof.Proof.Gen.KernelIn.Loops
public import proofs.«01_k».proof.Proof.Gen.KernelIn.Points
public import Idealize.ShloMosaic.Lib.Pipeline.KitQuiescent
public import Idealize.ShloMosaic.Lib.Ring
public import Idealize.ShloMosaic.Lib.Ring.AtN
public import Idealize.ShloMosaic.Lib.Batch
public import Idealize.ShloMosaic.Lib.Affine
public import Idealize.ShloMosaic.Lib.Tactic
public import Idealize.ShloMosaic.Lib.ValueIdxCore
public import Idealize.ShloMosaic.Lib.VecWindow
public import Idealize.ShloMosaic.Lib.Pipeline.Value
public import proofs.«01_k».proof.Proof.InTrip

@[expose] public section

noncomputable section

namespace Cert.Proof.In

open Cert.KernelIn Cert.KernelIn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UU nD τ) ℕ

section Trip
variable (c : Dev nD) (XW : Buf (Elt F) (wM.view.loc (c : Thread nD τ)))
  (arg0 : Memref sig .tc .vmem S72x6144 .bf16) (harg0 : arg0.IsWhole)
  (arg1 : Memref sig .tc .vmem S1x26816 .f32) (harg1 : arg1.IsWhole)
  (arg2 : Memref sig .tc .vmem S1x192 .f32) (harg2 : arg2.IsWhole)
  (arg4 : Memref sig .tc .vmem S72x12288 .f32) (harg4 : arg4.IsWhole)
  (arg5 : Memref sig .tc .vmem S72x14336 .f32) (harg5 : arg5.IsWhole)
  (arg6 : Memref sig .tc .vmem S72x192 .f32) (harg6 : arg6.IsWhole)
  (arg7 : Memref sig .tc .vmem S72x6144 .i8) (harg7 : arg7.IsWhole)
  (arg8 : Memref sig .tc .vmem S72x1 .f32) (harg8 : arg8.IsWhole)
  (v1154 : FVec F S72x1024 .f32) (v1155 : BitVec 1)

set_option maxHeartbeats 1600000 in
/-- Any trip of the loop: one more chunk multiplied, a finished tile scaled out, the ring moved on by one. -/
theorem trip_any (k : Fin k0_t1_loop.trips) (f1 : Buf (Elt F) (arg1.view.loc (c : Thread nD τ))) (f8 : Buf (Elt F) (arg8.view.loc (c : Thread nD τ))) (fq : Buf (Elt F) (xqM.view.loc (c : Thread nD τ))) (A : Vec F S72x1024 .f32) (Z : Vec F S72x12288 .f32) (Y : Vec F S72x14336 .f32) :
    resAt c XW arg1 arg4 arg5 arg8 f1 f8 fq A Z Y k ⊢ wp frame (wpE (defs₀ (F := F)) 𝒱₀ (c : Thread nD τ) none) Set.univ (trip1 arg0 harg0 arg1 harg1 arg2 harg2 arg4 harg4 arg5 harg5 arg6 harg6 arg7 harg7 arg8 harg8 v1154 v1155 k)
      (fun _ => resAt c XW arg1 arg4 arg5 arg8 f1 f8 fq (accStep c XW (xqBlk c fq k) (9 + k.val) A)
        (zStep (arg1.view.read (Elt F) f1) (arg8.view.read (Elt F) f8) (accStep c XW (xqBlk c fq k) (9 + k.val) A) k Z)
        (yStep (arg1.view.read (Elt F) f1) (arg8.view.read (Elt F) f8) (accStep c XW (xqBlk c fq k) (9 + k.val) A) k Y) (k.val + 1)) := by
  by_cases hk : 9 + k.val + 3 < 78
  · by_cases hj : k.val % 3 = 2
    · exact @trip_start_end F _ c XW arg0 harg0 arg1 harg1 arg2 harg2 arg4 harg4 arg5 harg5 arg6 harg6 arg7 harg7 arg8 harg8 v1154 v1155 k hk hj f1 f8 fq A Z Y
    · exact @trip_start_mid F _ c XW arg0 harg0 arg1 harg1 arg2 harg2 arg4 harg4 arg5 harg5 arg6 harg6 arg7 harg7 arg8 harg8 v1154 v1155 k hk hj f1 f8 fq A Z Y
  · by_cases hj : k.val % 3 = 2
    · exact @trip_tail_end F _ c XW arg0 harg0 arg1 harg1 arg2 harg2 arg4 harg4 arg5 harg5 arg6 harg6 arg7 harg7 arg8 harg8 v1154 v1155 k (Nat.le_of_not_lt hk) hj f1 f8 fq A Z Y
    · exact @trip_tail_mid F _ c XW arg0 harg0 arg1 harg1 arg2 harg2 arg4 harg4 arg5 harg5 arg6 harg6 arg7 harg7 arg8 harg8 v1154 v1155 k (Nat.le_of_not_lt hk) hj f1 f8 fq A Z Y

/-- The accumulator before trip `k`, from `A0` on, the quantised column blocks being `G`. -/
def accAt (G : ℕ → Vec F S1x72x2048 .bf16) (A0 : Vec F S72x1024 .f32) : ℕ → Vec F S72x1024 .f32
  | 0 => A0
  | k + 1 => accStep c XW (G k) (9 + k) (accAt G A0 k)
/-- The first output before trip `k`. -/
def zAt (G : ℕ → Vec F S1x72x2048 .bf16) (W : Vec F S1x26816 .f32) (xs : Vec F S72x1 .f32) (A0 : Vec F S72x1024 .f32) (Z0 : Vec F S72x12288 .f32) : ℕ → Vec F S72x12288 .f32
  | 0 => Z0
  | k + 1 => zStep W xs (accAt c XW G A0 (k + 1)) k (zAt G W xs A0 Z0 k)
/-- The second output before trip `k`. -/
def yAt (G : ℕ → Vec F S1x72x2048 .bf16) (W : Vec F S1x26816 .f32) (xs : Vec F S72x1 .f32) (A0 : Vec F S72x1024 .f32) (Y0 : Vec F S72x14336 .f32) : ℕ → Vec F S72x14336 .f32
  | 0 => Y0
  | k + 1 => yStep W xs (accAt c XW G A0 (k + 1)) k (yAt G W xs A0 Y0 k)

/-- The accumulator's buffer before trip `k`. -/
def accC (fq : Buf (Elt F) (xqM.view.loc (c : Thread nD τ))) (fo : Buf (Elt F) (accM.view.loc (c : Thread nD τ))) : ℕ → Buf (Elt F) (accM.view.loc (c : Thread nD τ))
  | 0 => fo
  | k + 1 => accM.view.rep (accAt c XW (xqBlk c fq) (accM.view.read (Elt F) fo) (k + 1))
theorem read_accC (fq) (fo : Buf (Elt F) (accM.view.loc (c : Thread nD τ))) (k : ℕ) : accM.view.read (Elt F) (accC c XW fq fo k) = accAt c XW (xqBlk c fq) (accM.view.read (Elt F) fo) k := by
  cases k with
  | zero => rfl
  | succ k => exact View.read_rep _ _
/-- The first output's buffer before trip `k`. -/
def zC (f1 : Buf (Elt F) (arg1.view.loc (c : Thread nD τ))) (f8 : Buf (Elt F) (arg8.view.loc (c : Thread nD τ))) (fq : Buf (Elt F) (xqM.view.loc (c : Thread nD τ))) (fo : Buf (Elt F) (accM.view.loc (c : Thread nD τ))) (f4 : Buf (Elt F) (arg4.view.loc (c : Thread nD τ))) : ℕ → Buf (Elt F) (arg4.view.loc (c : Thread nD τ))
  | 0 => f4
  | k + 1 => arg4.view.rep (zAt c XW (xqBlk c fq) (arg1.view.read (Elt F) f1) (arg8.view.read (Elt F) f8) (accM.view.read (Elt F) fo) (arg4.view.read (Elt F) f4) (k + 1))
theorem read_zC (f1 : Buf (Elt F) (arg1.view.loc (c : Thread nD τ))) (f8 : Buf (Elt F) (arg8.view.loc (c : Thread nD τ))) (fq : Buf (Elt F) (xqM.view.loc (c : Thread nD τ))) (fo : Buf (Elt F) (accM.view.loc (c : Thread nD τ))) (f4 : Buf (Elt F) (arg4.view.loc (c : Thread nD τ))) (k : ℕ) : arg4.view.read (Elt F) (zC c XW arg1 arg4 arg8 f1 f8 fq fo f4 k)
    = zAt c XW (xqBlk c fq) (arg1.view.read (Elt F) f1) (arg8.view.read (Elt F) f8) (accM.view.read (Elt F) fo) (arg4.view.read (Elt F) f4) k := by
  cases k with
  | zero => rfl
  | succ k => exact View.read_rep _ _
/-- The second output's buffer before trip `k`. -/
def yC (f1 : Buf (Elt F) (arg1.view.loc (c : Thread nD τ))) (f8 : Buf (Elt F) (arg8.view.loc (c : Thread nD τ))) (fq : Buf (Elt F) (xqM.view.loc (c : Thread nD τ))) (fo : Buf (Elt F) (accM.view.loc (c : Thread nD τ))) (f5 : Buf (Elt F) (arg5.view.loc (c : Thread nD τ))) : ℕ → Buf (Elt F) (arg5.view.loc (c : Thread nD τ))
  | 0 => f5
  | k + 1 => arg5.view.rep (yAt c XW (xqBlk c fq) (arg1.view.read (Elt F) f1) (arg8.view.read (Elt F) f8) (accM.view.read (Elt F) fo) (arg5.view.read (Elt F) f5) (k + 1))
theorem read_yC (f1 : Buf (Elt F) (arg1.view.loc (c : Thread nD τ))) (f8 : Buf (Elt F) (arg8.view.loc (c : Thread nD τ))) (fq : Buf (Elt F) (xqM.view.loc (c : Thread nD τ))) (fo : Buf (Elt F) (accM.view.loc (c : Thread nD τ))) (f5 : Buf (Elt F) (arg5.view.loc (c : Thread nD τ))) (k : ℕ) : arg5.view.read (Elt F) (yC c XW arg1 arg5 arg8 f1 f8 fq fo f5 k)
    = yAt c XW (xqBlk c fq) (arg1.view.read (Elt F) f1) (arg8.view.read (Elt F) f8) (accM.view.read (Elt F) fo) (arg5.view.read (Elt F) f5) k := by
  cases k with
  | zero => rfl
  | succ k => exact View.read_rep _ _

/-- The loop's resources before trip `k`, the buffers at named contents. -/
def invAt (f1 : Buf (Elt F) (arg1.view.loc (c : Thread nD τ))) (f8 : Buf (Elt F) (arg8.view.loc (c : Thread nD τ))) (fq : Buf (Elt F) (xqM.view.loc (c : Thread nD τ))) (fo : Buf (Elt F) (accM.view.loc (c : Thread nD τ))) (f4 : Buf (Elt F) (arg4.view.loc (c : Thread nD τ))) (f5 : Buf (Elt F) (arg5.view.loc (c : Thread nD τ))) (k : ℕ) : sProp 𝕄 :=
  iprop(accP c fo ∗ arg4P c arg4 f4 ∗ arg5P c arg5 f5 ∗ arg1P c arg1 f1 ∗ arg8P c arg8 f8 ∗ xqP c fq ∗ (∃ W, owes (c : Thread nD τ) 0 W) ∗ ringAt c XW (9 + k))

theorem invAt_step (k : Fin k0_t1_loop.trips) (f1 : Buf (Elt F) (arg1.view.loc (c : Thread nD τ))) (f8 : Buf (Elt F) (arg8.view.loc (c : Thread nD τ))) (fq : Buf (Elt F) (xqM.view.loc (c : Thread nD τ))) (fo : Buf (Elt F) (accM.view.loc (c : Thread nD τ))) (f4 : Buf (Elt F) (arg4.view.loc (c : Thread nD τ))) (f5 : Buf (Elt F) (arg5.view.loc (c : Thread nD τ))) :
    invAt c XW arg1 arg4 arg5 arg8 f1 f8 fq (accC c XW fq fo k) (zC c XW arg1 arg4 arg8 f1 f8 fq fo f4 k) (yC c XW arg1 arg5 arg8 f1 f8 fq fo f5 k) k
      ⊢ wp frame (wpE (defs₀ (F := F)) 𝒱₀ (c : Thread nD τ) none) Set.univ (trip1 arg0 harg0 arg1 harg1 arg2 harg2 arg4 harg4 arg5 harg5 arg6 harg6 arg7 harg7 arg8 harg8 v1154 v1155 k)
        (fun _ => invAt c XW arg1 arg4 arg5 arg8 f1 f8 fq (accC c XW fq fo (k.val + 1)) (zC c XW arg1 arg4 arg8 f1 f8 fq fo f4 (k.val + 1)) (yC c XW arg1 arg5 arg8 f1 f8 fq fo f5 (k.val + 1)) (k.val + 1)) := by
  iintro H
  iapply (wp_wand_r Idealize.ShloMosaic.frame (wpE (defs₀ (F := F)) 𝒱₀ (c : Thread nD τ) none) Set.univ)
  isplitl [H]
  · iapply (@trip_any F _ c XW arg0 harg0 arg1 harg1 arg2 harg2 arg4 harg4 arg5 harg5 arg6 harg6 arg7 harg7 arg8 harg8 v1154 v1155 k f1 f8 fq (accM.view.read (Elt F) (accC c XW fq fo k)) (arg4.view.read (Elt F) (zC c XW arg1 arg4 arg8 f1 f8 fq fo f4 k)) (arg5.view.read (Elt F) (yC c XW arg1 arg5 arg8 f1 f8 fq fo f5 k)))
    unfold resAt invAt
    icases H with ⟨HO, H4, H5, H⟩
    isplitl [HO]
    · iexists _; isplitl [HO]; · iexact HO
      ipureintro; rfl
    isplitl [H4]
    · iexists _; isplitl [H4]; · iexact H4
      ipureintro; rfl
    isplitl [H5]
    · iexists _; isplitl [H5]; · iexact H5
      ipureintro; rfl
    iexact H
  · iintro %_ H'
    unfold resAt invAt
    icases H' with ⟨⟨%f, HO, %hf⟩, ⟨%g, H4, %hg⟩, ⟨%h, H5, %hh⟩, H⟩
    have hA : accStep c XW (xqBlk c fq k) (9 + k.val) (accM.view.read (Elt F) (accC c XW fq fo k)) = accAt c XW (xqBlk c fq) (accM.view.read (Elt F) fo) (k.val + 1) := by rw [read_accC]; rfl
    rw [hA] at hf hg hh
    isplitl [HO]
    · iapply (pointsTo_rep_of_read (c : Thread nD τ) accM f fullShare (accAt c XW (xqBlk c fq) (accM.view.read (Elt F) fo) (k.val + 1)) hf)
      iexact HO
    isplitl [H4]
    · iapply (pointsTo_rep_of_read (c : Thread nD τ) arg4 g fullShare (zAt c XW (xqBlk c fq) (arg1.view.read (Elt F) f1) (arg8.view.read (Elt F) f8) (accM.view.read (Elt F) fo) (arg4.view.read (Elt F) f4) (k.val + 1)) (by rw [hg, read_zC]; rfl))
      iexact H4
    isplitl [H5]
    · iapply (pointsTo_rep_of_read (c : Thread nD τ) arg5 h fullShare (yAt c XW (xqBlk c fq) (arg1.view.read (Elt F) f1) (arg8.view.read (Elt F) f8) (accM.view.read (Elt F) fo) (arg5.view.read (Elt F) f5) (k.val + 1)) (by rw [hh, read_yC]; rfl))
      iexact H5
    iexact H

set_option maxHeartbeats 1600000 in
set_option warn.classDefReducibility false in
/-- The loop of the tiles, by `accC`, `zC`, `yC` and the ring. -/
def loopInv (f1 : Buf (Elt F) (arg1.view.loc (c : Thread nD τ))) (f8 : Buf (Elt F) (arg8.view.loc (c : Thread nD τ))) (fq : Buf (Elt F) (xqM.view.loc (c : Thread nD τ))) (fo : Buf (Elt F) (accM.view.loc (c : Thread nD τ))) (f4 : Buf (Elt F) (arg4.view.loc (c : Thread nD τ))) (f5 : Buf (Elt F) (arg5.view.loc (c : Thread nD τ))) :
    LoopInvTy_k0_t1 (F := F) Unit ℕ (UU nD τ) ℕ 𝒱₀ c none Set.univ arg0 harg0 arg1 harg1 arg2 harg2 wM (Memref.isWhole_whole _) arg4 harg4 arg5 harg5 arg6 harg6 arg7 harg7 arg8 harg8 xqM (Memref.isWhole_whole _) bufM (Memref.isWhole_whole _) wdtM (Memref.isWhole_whole _) accM (Memref.isWhole_whole _) cc0_scratch4 cc0_scratch5 v1154 v1155 where
  inv k _ := invAt c XW arg1 arg4 arg5 arg8 f1 f8 fq (accC c XW fq fo k) (zC c XW arg1 arg4 arg8 f1 f8 fq fo f4 k) (yC c XW arg1 arg5 arg8 f1 f8 fq fo f5 k) k
  step k _ := @invAt_step F _ c XW arg0 harg0 arg1 harg1 arg2 harg2 arg4 harg4 arg5 harg5 arg6 harg6 arg7 harg7 arg8 harg8 v1154 v1155 k f1 f8 fq fo f4 f5

end Trip

end Cert.Proof.In

end
-- ==== Proof.InBody.lean ====
module

public import proofs.«01_k».proof.Defs
public import proofs.«01_k».proof.Proof.Gen.KernelIn.Launch
public import proofs.«01_k».proof.Proof.Gen.KernelIn.Skeleton
public import proofs.«01_k».proof.Proof.Gen.KernelIn.Loops
public import proofs.«01_k».proof.Proof.Gen.KernelIn.Points
public import Idealize.ShloMosaic.Lib.Pipeline.KitQuiescent
public import Idealize.ShloMosaic.Lib.Ring
public import Idealize.ShloMosaic.Lib.Ring.AtN
public import Idealize.ShloMosaic.Lib.Batch
public import Idealize.ShloMosaic.Lib.Affine
public import Idealize.ShloMosaic.Lib.Tactic
public import Idealize.ShloMosaic.Lib.ValueIdxCore
public import Idealize.ShloMosaic.Lib.VecWindow
public import Idealize.ShloMosaic.Lib.Pipeline.Value
public import proofs.«01_k».proof.Proof.InLoop

@[expose] public section

noncomputable section

namespace Cert.Proof.In

open Cert.KernelIn Cert.KernelIn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UU nD τ) ℕ

section Body
variable (c : Dev nD) (XW : Buf (Elt F) (wM.view.loc (c : Thread nD τ)))
  (arg0 : Memref sig .tc .vmem S72x6144 .bf16) (harg0 : arg0.IsWhole)
  (arg1 : Memref sig .tc .vmem S1x26816 .f32) (harg1 : arg1.IsWhole)
  (arg2 : Memref sig .tc .vmem S1x192 .f32) (harg2 : arg2.IsWhole)
  (arg4 : Memref sig .tc .vmem S72x12288 .f32) (harg4 : arg4.IsWhole)
  (arg5 : Memref sig .tc .vmem S72x14336 .f32) (harg5 : arg5.IsWhole)
  (arg6 : Memref sig .tc .vmem S72x192 .f32) (harg6 : arg6.IsWhole)
  (arg7 : Memref sig .tc .vmem S72x6144 .i8) (harg7 : arg7.IsWhole)
  (arg8 : Memref sig .tc .vmem S72x1 .f32) (harg8 : arg8.IsWhole)
instance : ClosedOff (k0_off11 0#32) := ⟨![0, 0, 0], off11_eq 0⟩
instance : ClosedOff (k0_off12 0#32) := ⟨slotOff 0, off12_eq 0⟩
instance : ClosedOff (k0_off11 1#32) := ⟨![1, 0, 0], off11_eq 1⟩
instance : ClosedOff (k0_off12 1#32) := ⟨slotOff 1, off12_eq 1⟩
instance : ClosedOff (k0_off11 2#32) := ⟨![2, 0, 0], off11_eq 2⟩
instance : ClosedOff (k0_off12 2#32) := ⟨slotOff 2, off12_eq 2⟩
instance : ClosedOff (k0_off11 3#32) := ⟨![0, 0, 0], off11_eq 3⟩
instance : ClosedOff (k0_off12 3#32) := ⟨slotOff 3, off12_eq 3⟩
instance : ClosedOff (k0_off11 4#32) := ⟨![1, 0, 0], off11_eq 4⟩
instance : ClosedOff (k0_off12 4#32) := ⟨slotOff 0, off12_eq 4⟩
instance : ClosedOff (k0_off11 5#32) := ⟨![2, 0, 0], off11_eq 5⟩
instance : ClosedOff (k0_off12 5#32) := ⟨slotOff 1, off12_eq 5⟩
instance : ClosedOff (k0_off11 6#32) := ⟨![0, 0, 0], off11_eq 6⟩
instance : ClosedOff (k0_off12 6#32) := ⟨slotOff 2, off12_eq 6⟩
instance : ClosedOff (k0_off11 7#32) := ⟨![1, 0, 0], off11_eq 7⟩
instance : ClosedOff (k0_off12 7#32) := ⟨slotOff 3, off12_eq 7⟩
instance : ClosedOff (k0_off11 8#32) := ⟨![2, 0, 0], off11_eq 8⟩
instance : ClosedOff (k0_off12 8#32) := ⟨slotOff 0, off12_eq 8⟩
instance : ClosedOff k0_off53 := ⟨![0, 0], by decide +kernel⟩
instance : ClosedOff k0_off54 := ⟨![0, 0], by decide +kernel⟩
instance : ClosedOff k0_off55 := ⟨![0, 12288], by decide +kernel⟩
instance : ClosedOff k0_off56 := ⟨![0, 0], by decide +kernel⟩

abbrev bodyG : Prog (TpuEff nD τ sig (Elt F) Λ₀ .tc) PUnit :=
  cc0_mamba2_decode_in arg0 harg0 arg1 harg1 arg2 harg2 wM (Memref.isWhole_whole _) arg4 harg4 arg5 harg5 arg6 harg6 arg7 harg7 arg8 harg8 xqM (Memref.isWhole_whole _) bufM (Memref.isWhole_whole _) wdtM (Memref.isWhole_whole _) accM (Memref.isWhole_whole _) cc0_scratch4 cc0_scratch5

abbrev arg0P (f : Buf (Elt F) (arg0.view.loc (c : Thread nD τ))) : sProp 𝕄 := arg0.view.loc (c : Thread nD τ) ↦[arg0.view.set]{fullShare} f
abbrev arg2P (f : Buf (Elt F) (arg2.view.loc (c : Thread nD τ))) : sProp 𝕄 := arg2.view.loc (c : Thread nD τ) ↦[arg2.view.set]{fullShare} f
abbrev arg6P (f : Buf (Elt F) (arg6.view.loc (c : Thread nD τ))) : sProp 𝕄 := arg6.view.loc (c : Thread nD τ) ↦[arg6.view.set]{fullShare} f
abbrev arg7P (f : Buf (Elt F) (arg7.view.loc (c : Thread nD τ))) : sProp 𝕄 := arg7.view.loc (c : Thread nD τ) ↦[arg7.view.set]{fullShare} f
abbrev wdtP (f : Buf (Elt F) (wdtM.view.loc (c : Thread nD τ))) : sProp 𝕄 := wdtM.view.loc (c : Thread nD τ) ↦[wdtM.view.set]{fullShare} f

/-- The last 192 weight rows, as the body slices them. -/
abbrev dtM : Memref sig .tc .hbm S192x6144 .i8 := wM.slice (Rect.unit (s := S26816x6144) ![26624, 0] S192x6144.size inb_S26816x6144_S192x6144_26624_0) (fun _ => rfl)
abbrev dsm : DmaSems sig S_ := (cc0_scratch5.slice (Rect.unit (s := S1) ![0] S1.size inb_S1_S1_0)).squeeze S_ squeezes_S1_S_
abbrev dtP : sProp 𝕄 := dtM.view.loc (c : Thread nD τ) ↦[dtM.view.set]{fullShare} XW
abbrev dcellP : sProp 𝕄 := semVal ((c : Thread nD τ), SemLoc.dma dsm.sem) 0

/-! ## What the body computes -/

/-- 128 columns of the rows from column `o` on. -/
def ld (X : Vec F S72x6144 .bf16) (o : ℕ) : Vec F S72x128 .bf16 :=
  fun i => X (ix2 (i 0 : Fin 72) (⟨(o + (i 1).val) % 6144, Nat.mod_lt _ (by decide)⟩ : Fin 6144))
/-- 2048 columns of the rows from column `o` on. -/
def ldB (X : Vec F S72x6144 .bf16) (o : ℕ) : Vec F S72x2048 .bf16 :=
  fun i => X (ix2 (i 0 : Fin 72) (⟨(o + (i 1).val) % 6144, Nat.mod_lt _ (by decide)⟩ : Fin 6144))
/-- The rows' running maximum over the first 33 groups of 128 columns. -/
def MX (X : Vec F S72x6144 .bf16) : Vec F S72x128 .f32 :=
  k0_pay6 (k0_pay5 (k0_pay3 (k0_pay2 (ld X 0) (ld X 128) (ld X 256) (ld X 384) (ld X 512) (ld X 640) (ld X 768))
      (ld X 896) (ld X 1024) (ld X 1152) (ld X 1280) (ld X 1408) (ld X 1536) (ld X 1664) (ld X 1792))
      (k0_pay4 (ld X 1920)) (ld X 2048) (ld X 2176) (ld X 2304) (ld X 2432) (ld X 2560) (ld X 2688) (ld X 2816) (ld X 2944))
    (ld X 3072) (ld X 3200) (ld X 3328) (ld X 3456) (ld X 3584) (ld X 3712) (ld X 3840) (ld X 3968) (ld X 4096)
/-- The rows' scales. -/
def SC (X : Vec F S72x6144 .bf16) : Vec F S72x1 .f32 :=
  k0_pay9 (k0_pay7 (MX X) (ld X 4224) (ld X 4352) (ld X 4480) (ld X 4608) (ld X 4736) (ld X 4864) (ld X 4992) (ld X 5120))
    (k0_pay8 (ld X 5248)) (ld X 5376) (ld X 5504) (ld X 5632) (ld X 5760) (ld X 5888) (ld X 6016)
/-- The int8 codes. -/
def CODES (X : Vec F S72x6144 .bf16) : Vec F S72x6144 .i8 :=
  fun i => k0_pay11 (SC X) (ldB X (2048 * ((i 1).val / 2048))) (ix2 (i 0 : Fin 72) (⟨(i 1).val % 2048, Nat.mod_lt _ (by decide)⟩ : Fin 2048))
/-- Column block `j` of the codes, as they are multiplied. -/
def XQ (X : Vec F S72x6144 .bf16) (j : ℕ) : Vec F S1x72x2048 .bf16 := k0_pay12 (SC X) (ldB X (2048 * (j % 3)))
/-- The last 192 weight rows, 2048 columns from `o` on. -/
def dtW (o : ℕ) : Vec F S192x2048 .i8 :=
  fun i => XW (ix2 (⟨26624 + (i 0).val, by have h : (i 0).val < 192 := (i 0).isLt; omega⟩ : Fin 26816) (⟨(o + (i 1).val) % 6144, Nat.mod_lt _ (by decide)⟩ : Fin 6144))
/-- The last 192 weight scales. -/
def wscD (W : Vec F S1x26816 .f32) : Vec F S1x192 .f32 :=
  fun i => W (ix2 (0 : Fin 1) (⟨26624 + (i 1).val, by have h : (i 1).val < 192 := (i 1).isLt; omega⟩ : Fin 26816))
/-- The third output. -/
def DT (X : Vec F S72x6144 .bf16) (W : Vec F S1x26816 .f32) (B : Vec F S1x192 .f32) : Vec F S72x192 .f32 :=
  k0_pay38 (k0_pay36 (XQ X 0) (dtW c XW 0) (XQ X 1) (dtW c XW 2048) (XQ X 2) (dtW c XW 4096)) (k0_pay37 (SC X)) (wscD W) B
/-- The accumulator after the first `n` chunks. -/
def AL (X : Vec F S72x6144 .bf16) (A0 : Vec F S72x1024 .f32) : ℕ → Vec F S72x1024 .f32
  | 0 => A0
  | n + 1 => accStep c XW (XQ X n) n (AL X A0 n)
/-- The first output, over prior contents `Z0` and `A0`. -/
def ZF (X : Vec F S72x6144 .bf16) (W : Vec F S1x26816 .f32) (A0 : Vec F S72x1024 .f32) (Z0 : Vec F S72x12288 .f32) : Vec F S72x12288 .f32 :=
  zAt c XW (XQ X) W (SC X) (AL c XW X A0 9)
    (VecWindow.put (s := S72x12288) Z0 ![0, 0] S72x512.size (k0_pay49 (accLo (AL c XW X A0 9)) (SC X) (wscT W 0))) 69
/-- The second output before the loop, over prior contents `Y0` and `A0`. -/
def Y9 (X : Vec F S72x6144 .bf16) (W : Vec F S1x26816 .f32) (A0 : Vec F S72x1024 .f32) (Y0 : Vec F S72x14336 .f32) : Vec F S72x14336 .f32 :=
  VecWindow.put (s := S72x14336) (VecWindow.put (s := S72x14336) (VecWindow.put (s := S72x14336) (VecWindow.put (s := S72x14336) (VecWindow.put (s := S72x14336) Y0
    ![0, 12288] S72x512.size (k0_pay50 (accLo (AL c XW X A0 3)) (SC X) (wscT W 24576)))
    ![0, 12800] S72x512.size (k0_pay50 (accHi (AL c XW X A0 3)) (SC X) (wscT W 25088)))
    ![0, 13312] S72x512.size (k0_pay50 (accLo (AL c XW X A0 6)) (SC X) (wscT W 25600)))
    ![0, 13824] S72x512.size (k0_pay50 (accHi (AL c XW X A0 6)) (SC X) (wscT W 26112)))
    ![0, 0] S72x512.size (k0_pay50 (accHi (AL c XW X A0 9)) (SC X) (wscT W 12288))
/-- The second output, over prior contents `Y0` and `A0`. -/
def YF (X : Vec F S72x6144 .bf16) (W : Vec F S1x26816 .f32) (A0 : Vec F S72x1024 .f32) (Y0 : Vec F S72x14336 .f32) : Vec F S72x14336 .f32 :=
  yAt c XW (XQ X) W (SC X) (AL c XW X A0 9) (Y9 c XW X W A0 Y0) 69

theorem accAt_congr (G G' : ℕ → Vec F S1x72x2048 .bf16) (A0 : Vec F S72x1024 .f32) (n : ℕ) (h : ∀ k, k < n → G k = G' k) : accAt c XW G A0 n = accAt c XW G' A0 n := by
  induction n with
  | zero => rfl
  | succ n ih => show accStep c XW (G n) (9 + n) _ = accStep c XW (G' n) (9 + n) _; rw [h n (by omega), ih fun k hk => h k (by omega)]
theorem zAt_congr (G G' : ℕ → Vec F S1x72x2048 .bf16) (W xs) (A0 : Vec F S72x1024 .f32) (Z0) (n : ℕ) (h : ∀ k, k < n → G k = G' k) : zAt c XW G W xs A0 Z0 n = zAt c XW G' W xs A0 Z0 n := by
  induction n with
  | zero => rfl
  | succ n ih => show zStep W xs (accAt c XW G A0 (n + 1)) n _ = zStep W xs (accAt c XW G' A0 (n + 1)) n _; rw [accAt_congr c XW G G' A0 (n + 1) h, ih fun k hk => h k (by omega)]
theorem yAt_congr (G G' : ℕ → Vec F S1x72x2048 .bf16) (W xs) (A0 : Vec F S72x1024 .f32) (Y0) (n : ℕ) (h : ∀ k, k < n → G k = G' k) : yAt c XW G W xs A0 Y0 n = yAt c XW G' W xs A0 Y0 n := by
  induction n with
  | zero => rfl
  | succ n ih => show yStep W xs (accAt c XW G A0 (n + 1)) n _ = yStep W xs (accAt c XW G' A0 (n + 1)) n _; rw [accAt_congr c XW G G' A0 (n + 1) h, ih fun k hk => h k (by omega)]

omit [FloatOps F] in
theorem x_ld (o : ℕ) (inb) (g0 : Buf (Elt F) (arg0.view.loc (c : Thread nD τ))) :
    View.readAt (Elt F) arg0.view (Rect.unit (s := S72x6144) ![0, o] S72x128.size inb).toLoadRect g0 = ld (arg0.view.read (Elt F) g0) o := by
  have ho : o + 128 ≤ 6144 := inb 1
  funext i
  refine congrArg (arg0.view.read (Elt F) g0) (funext fun a => Fin.ext ?_)
  have h1 : (i 1).val < 128 := (i 1).isLt
  fin_cases a
  · show 0 + 1 * (i 0).val = (i 0).val; omega
  · show o + 1 * (i 1).val = (o + (i 1).val) % 6144; rw [Nat.mod_eq_of_lt (by omega)]; omega
omit [FloatOps F] in
theorem x_ldB (o : ℕ) (inb) (g0 : Buf (Elt F) (arg0.view.loc (c : Thread nD τ))) :
    View.readAt (Elt F) arg0.view (Rect.unit (s := S72x6144) ![0, o] S72x2048.size inb).toLoadRect g0 = ldB (arg0.view.read (Elt F) g0) o := by
  have ho : o + 2048 ≤ 6144 := inb 1
  funext i
  refine congrArg (arg0.view.read (Elt F) g0) (funext fun a => Fin.ext ?_)
  have h1 : (i 1).val < 2048 := (i 1).isLt
  fin_cases a
  · show 0 + 1 * (i 0).val = (i 0).val; omega
  · show o + 1 * (i 1).val = (o + (i 1).val) % 6144; rw [Nat.mod_eq_of_lt (by omega)]; omega
theorem wdt_covV (v : View sig .tc .vmem S192x6144 .i8) (o : ℕ) (inb) (pay : S192x6144.Idx → Elt F .i8) :
    v.readCov (Val := Elt F) [⟨Rect.whole S192x6144, pay⟩] (Rect.unit (s := S192x6144) ![0, o] S192x2048.size inb).toLoadRect
      = fun i => pay ((Rect.unit (s := S192x6144) ![0, o] S192x2048.size inb).emb i) := by
  funext i
  exact congrFun (View.read_writes_whole v _ pay) _
theorem dt_cov (o : ℕ) (inb) (pay : S192x6144.Idx → Elt F .i8) (hp : pay = ReadAs.same.apply (dtM.view.read (Elt F) XW)) :
    wdtM.view.readCov (Val := Elt F) [⟨Rect.whole S192x6144, pay⟩] (Rect.unit (s := S192x6144) ![0, o] S192x2048.size inb).toLoadRect = dtW c XW o := by
  have ho : o + 2048 ≤ 6144 := inb 1
  rw [wdt_covV, hp]
  funext i
  have h1 : (i 1).val < 2048 := (i 1).isLt
  have e : (dtM.view.emb ((Rect.unit (s := S192x6144) ![0, o] S192x2048.size inb).emb i) : S26816x6144.Idx)
      = ix2 (⟨26624 + (i 0).val, by have h : (i 0).val < 192 := (i 0).isLt; omega⟩ : Fin 26816) (⟨(o + (i 1).val) % 6144, Nat.mod_lt _ (by decide)⟩ : Fin 6144) := by
    refine funext fun a => Fin.ext ?_
    fin_cases a
    · show 26624 + 1 * (0 + 1 * (i 0).val) = 26624 + (i 0).val; omega
    · show 0 + 1 * (o + 1 * (i 1).val) = (o + (i 1).val) % 6144; rw [Nat.mod_eq_of_lt (by omega)]; omega
  exact congrArg XW e
omit [FloatOps F] in
theorem wscD_readAt (inb) (f : Buf (Elt F) (arg1.view.loc (c : Thread nD τ))) :
    View.readAt (Elt F) arg1.view (Rect.unit (s := S1x26816) ![0, 26624] S1x192.size inb).toLoadRect f = wscD (arg1.view.read (Elt F) f) := by
  funext i
  refine congrArg (arg1.view.read (Elt F) f) (funext fun a => Fin.ext ?_)
  have h0 : (i 0).val < 1 := (i 0).isLt
  fin_cases a
  · show 0 + 1 * (i 0).val = 0; omega
  · show 26624 + 1 * (i 1).val = 26624 + (i 1).val; omega
theorem acc_loL (v : View sig .tc .vmem S72x1024 .f32) (w : Vec F S72x1024 .f32) (L) (inb inb') : v.readCov (Val := Elt F) (⟨Rect.unit (s := S72x1024) ![0, 0] S72x1024.size inb, w⟩ :: L) (Rect.unit (s := S72x1024) ![0, 0] S72x512.size inb').toLoadRect = accLo w := by
  funext i
  refine (congrFun (View.read_writes_full v _ inb w L) _).trans ?_
  refine congrArg w (funext fun a => Fin.ext ?_)
  fin_cases a
  · show 0 + 1 * (i 0).val = (i 0).val; omega
  · show 0 + 1 * (i 1).val = (i 1).val; omega
theorem acc_hiL (v : View sig .tc .vmem S72x1024 .f32) (w : Vec F S72x1024 .f32) (L) (inb inb') : v.readCov (Val := Elt F) (⟨Rect.unit (s := S72x1024) ![0, 0] S72x1024.size inb, w⟩ :: L) (Rect.unit (s := S72x1024) ![0, 512] S72x512.size inb').toLoadRect = accHi w := by
  funext i
  refine (congrFun (View.read_writes_full v _ inb w L) _).trans ?_
  refine congrArg w (funext fun a => Fin.ext ?_)
  fin_cases a
  · show 0 + 1 * (i 0).val = (i 0).val; omega
  · show 512 + 1 * (i 1).val = 512 + (i 1).val; omega

/-- Pieces that write the codes of the first `n` column blocks. -/
def CDGood (X : Vec F S72x6144 .bf16) (n : ℕ) (L : List (View.Piece (Elt F) S72x6144 .i8)) : Prop :=
  (∀ p ∈ L, ∀ x : p.1.shape.Idx, p.2 x = CODES X (p.1.emb x)) ∧ ∀ y : S72x6144.Idx, (y 1).val < 2048 * n → ∃ p ∈ L, y ∈ p.1.set

theorem cd_nil (X : Vec F S72x6144 .bf16) : CDGood X 0 [] := ⟨fun p hp => absurd hp (by simp), fun y hy => absurd hy (by omega)⟩

theorem cd_step (X : Vec F S72x6144 .bf16) (n : ℕ) (hn : n < 3) (off : Fin 2 → Nat) (e : off = ![0, 2048 * n]) (inb) (pay : S72x2048.Idx → Elt F .i8)
    (hp : pay = k0_pay11 (SC X) (ldB X (2048 * n)))
    (L : List (View.Piece (Elt F) S72x6144 .i8)) (h : CDGood X n L) :
    CDGood X (n + 1) (⟨Rect.unit (s := S72x6144) off S72x2048.size inb, pay⟩ :: L) := by
  subst e hp
  refine ⟨fun p hpm => ?_, fun y hy => ?_⟩
  · rcases List.mem_cons.mp hpm with rfl | hpm
    · intro x
      have h1 : (x 1).val < 2048 := (x 1).isLt
      have e1 : ((Rect.unit (s := S72x6144) ![0, 2048 * n] S72x2048.size inb).emb x 1).val = 2048 * n + (x 1).val := by
        show 2048 * n + 1 * (x 1).val = _; omega
      have ed : ((Rect.unit (s := S72x6144) ![0, 2048 * n] S72x2048.size inb).emb x 1).val / 2048 = n := by omega
      have em : ((Rect.unit (s := S72x6144) ![0, 2048 * n] S72x2048.size inb).emb x 1).val % 2048 = (x 1).val := by omega
      show k0_pay11 (SC X) (ldB X (2048 * n)) x = _
      unfold CODES
      rw [ed]
      refine congrArg _ (funext fun a => Fin.ext ?_)
      fin_cases a
      · show (x 0).val = 0 + 1 * (x 0).val; omega
      · exact em.symm
    · exact h.1 p hpm
  · by_cases hlt : (y 1).val < 2048 * n
    · obtain ⟨p, hpm, hy'⟩ := h.2 y hlt
      exact ⟨p, List.mem_cons_of_mem _ hpm, hy'⟩
    · refine ⟨_, List.mem_cons_self, ?_⟩
      rw [Rect.mem_set_unit]
      have h0 : (y 0).val < 72 := (y 0).isLt
      intro a; fin_cases a
      · show 0 ≤ (y 0).val ∧ (y 0).val < 0 + 72; omega
      · show 2048 * n ≤ (y 1).val ∧ (y 1).val < 2048 * n + 2048; omega

theorem cd_read (X : Vec F S72x6144 .bf16) (f : Buf (Elt F) (arg7.view.loc (c : Thread nD τ))) (L) (h : CDGood X 3 L) :
    arg7.view.read (Elt F) (arg7.view.writes (Elt F) f L) = CODES X := by
  have hc : ∀ y : S72x6144.Idx, ∃ p ∈ L, y ∈ p.1.set := fun y => h.2 y (y 1).isLt
  rw [View.read_writes_eq_canon arg7.view f L hc]
  exact funext fun y => View.canon_apply_of_pieces (CODES X) L h.1 y (hc y)

/-- Pieces that write the first `n` column blocks of the product's codes. -/
def GQGood (X : Vec F S72x6144 .bf16) (n : ℕ) (L : List (View.Piece (Elt F) S3x72x2048 .bf16)) : Prop :=
  (∀ p ∈ L, ∀ x : p.1.shape.Idx, p.2 x = XQ X (p.1.emb x 0).val (ix3 (0 : Fin 1) (p.1.emb x 1 : Fin 72) (p.1.emb x 2 : Fin 2048)))
    ∧ ∀ y : S3x72x2048.Idx, (y 0).val < n → ∃ p ∈ L, y ∈ p.1.set

theorem gq_nil (X : Vec F S72x6144 .bf16) : GQGood X 0 [] := ⟨fun p hp => absurd hp (by simp), fun y hy => absurd hy (by omega)⟩

theorem gq_step (X : Vec F S72x6144 .bf16) (n : ℕ) (hn : n < 3) (off : Fin 3 → Nat) (e : off = ![n, 0, 0]) (inb) (pay : S1x72x2048.Idx → Elt F .bf16)
    (hp : pay = k0_pay12 (SC X) (ldB X (2048 * n)))
    (L : List (View.Piece (Elt F) S3x72x2048 .bf16)) (h : GQGood X n L) :
    GQGood X (n + 1) (⟨Rect.unit (s := S3x72x2048) off S1x72x2048.size inb, pay⟩ :: L) := by
  subst e hp
  refine ⟨fun p hpm => ?_, fun y hy => ?_⟩
  · rcases List.mem_cons.mp hpm with rfl | hpm
    · intro x
      have h0 : (x 0).val < 1 := (x 0).isLt
      have e0 : ((Rect.unit (s := S3x72x2048) ![n, 0, 0] S1x72x2048.size inb).emb x 0).val = n := by
        show n + 1 * (x 0).val = _; omega
      show k0_pay12 (SC X) (ldB X (2048 * n)) x = _
      rw [e0]
      unfold XQ
      rw [Nat.mod_eq_of_lt hn]
      refine congrArg _ (funext fun a => Fin.ext ?_)
      fin_cases a
      · show (x 0).val = 0; omega
      · show (x 1).val = 0 + 1 * (x 1).val; omega
      · show (x 2).val = 0 + 1 * (x 2).val; omega
    · exact h.1 p hpm
  · by_cases hlt : (y 0).val < n
    · obtain ⟨p, hpm, hy'⟩ := h.2 y hlt
      exact ⟨p, List.mem_cons_of_mem _ hpm, hy'⟩
    · refine ⟨_, List.mem_cons_self, ?_⟩
      rw [Rect.mem_set_unit]
      have h1 : (y 1).val < 72 := (y 1).isLt
      have h2 : (y 2).val < 2048 := (y 2).isLt
      intro a; fin_cases a
      · show n ≤ (y 0).val ∧ (y 0).val < n + 1; omega
      · show 0 ≤ (y 1).val ∧ (y 1).val < 0 + 72; omega
      · show 0 ≤ (y 2).val ∧ (y 2).val < 0 + 2048; omega

theorem gq_read (X : Vec F S72x6144 .bf16) (f : Buf (Elt F) (xqM.view.loc (c : Thread nD τ))) (L) (h : GQGood X 3 L) (b : ℕ) :
    xqBlk c (xqM.view.writes (Elt F) f L) b = XQ X b := by
  have hc : ∀ y : S3x72x2048.Idx, ∃ p ∈ L, y ∈ p.1.set := fun y => h.2 y (y 0).isLt
  unfold xqBlk
  rw [View.read_writes_eq_canon xqM.view f L hc]
  funext i
  rw [View.canon_apply_of_pieces (fun y : S3x72x2048.Idx => XQ X (y 0).val (ix3 (0 : Fin 1) (y 1 : Fin 72) (y 2 : Fin 2048))) L h.1 _ (hc _)]
  have h0 : (i 0).val < 1 := (i 0).isLt
  show k0_pay12 (SC X) (ldB X (2048 * (b % 3 % 3))) _ = k0_pay12 (SC X) (ldB X (2048 * (b % 3))) i
  rw [Nat.mod_mod]
  refine congrArg _ (funext fun a => Fin.ext ?_)
  fin_cases a
  · show 0 = (i 0).val; omega
  · rfl
  · rfl

theorem xq_cov (c : Dev nD) (X : Vec F S72x6144 .bf16) (L) (h : GQGood X 3 L) (off : Fin 3 → Nat) (j : ℕ) (e : off = ![j % 3, 0, 0]) (inb) :
    xqM.view.readCov (Val := Elt F) L (Rect.unit (s := S3x72x2048) off S1x72x2048.size inb).toLoadRect = XQ X j :=
  (xq_readAt c off j e inb _).trans (gq_read c X _ L h j)

/-! ### One lead's product is one step of the accumulator -/

theorem lead0 (q : Vec F S1x72x2048 .bf16) (h) (w : Vec F S1x1024x2048 .i8) (A : Vec F S72x1024 .f32) : k0_pay21 0#32 (shapeCast S72x2048 q h) w A = k0_pay48 0#32 (k0_pay1 q) w A := rfl
theorem lead1 (q : Vec F S1x72x2048 .bf16) (w : Vec F S1x1024x2048 .i8) (A : Vec F S72x1024 .f32) : k0_pay23 1#32 (k0_pay22 q w) 0#32 A = k0_pay48 1#32 (k0_pay1 q) w A := rfl
theorem lead2 (q : Vec F S1x72x2048 .bf16) (w : Vec F S1x1024x2048 .i8) (A : Vec F S72x1024 .f32) : k0_pay26 (k0_pay24 q w) 0#1 (k0_pay25 q w A) = k0_pay48 2#32 (k0_pay1 q) w A := by
  show k0_pay26 (k0_pay24 q w) (Scalar.cmpi .eq 2#32 0#32) (k0_pay25 q w A) = _
  rfl
theorem lead3 (q : Vec F S1x72x2048 .bf16) (w : Vec F S1x1024x2048 .i8) (A : Vec F S72x1024 .f32) : k0_pay29 q w A = k0_pay48 (Scalar.remsi 3#32 3#32) (k0_pay1 q) w A := rfl
theorem lead4 (q : Vec F S1x72x2048 .bf16) (w : Vec F S1x1024x2048 .i8) (A : Vec F S72x1024 .f32) : k0_pay30 q w A = k0_pay48 (Scalar.remsi 4#32 3#32) (k0_pay1 q) w A := rfl
theorem lead5 (q : Vec F S1x72x2048 .bf16) (w : Vec F S1x1024x2048 .i8) (A : Vec F S72x1024 .f32) : k0_pay31 5#32 3#32 q w A = k0_pay48 (Scalar.remsi 5#32 3#32) (k0_pay1 q) w A := rfl
theorem lead6 (q : Vec F S1x72x2048 .bf16) (h) (w : Vec F S1x1024x2048 .i8) (A : Vec F S72x1024 .f32) : k0_pay40 0#32 (shapeCast S72x2048 q h) w A = k0_pay48 0#32 (k0_pay1 q) w A := rfl
theorem lead7 (q : Vec F S1x72x2048 .bf16) (w : Vec F S1x1024x2048 .i8) (A : Vec F S72x1024 .f32) : k0_pay43 1#32 (k0_pay41 q) (k0_pay42 w) A = k0_pay48 1#32 (k0_pay1 q) w A := rfl
theorem lead8 (q : Vec F S1x72x2048 .bf16) (w : Vec F S1x1024x2048 .i8) (A : Vec F S72x1024 .f32) : k0_pay45 (k0_pay44 q w) 0#1 A = k0_pay48 2#32 (k0_pay1 q) w A := by
  show k0_pay45 (k0_pay44 q w) (Scalar.cmpi .eq 2#32 0#32) A = _
  rfl
theorem rem3 : Scalar.remsi 3#32 3#32 = 0#32 := by decide
theorem rem4 : Scalar.remsi 4#32 3#32 = 1#32 := by decide
theorem rem5 : Scalar.remsi 5#32 3#32 = 2#32 := by decide

/-- The kernel's own buffers at anything and its semaphores at zero. -/
abbrev OWN : sProp 𝕄 :=
  iprop((∃ f, slotP c 0 f) ∗ (∃ f, slotP c 1 f) ∗ (∃ f, slotP c 2 f) ∗ (∃ f, slotP c 3 f)
    ∗ cellP c 0 ∗ cellP c 1 ∗ cellP c 2 ∗ cellP c 3 ∗ dcellP c ∗ (∃ f, xqP c f) ∗ (∃ f, accP c f) ∗ (∃ f, wdtP c f))
/-- The chunks from the thirteenth on. -/
def REST : Finset (Fin 78) := Finset.univ.filter fun b => 12 ≤ b.val
/-- What the body is handed. -/
abbrev PRE (g0 : Buf (Elt F) (arg0.view.loc (c : Thread nD τ))) (g1 : Buf (Elt F) (arg1.view.loc (c : Thread nD τ))) (g2 : Buf (Elt F) (arg2.view.loc (c : Thread nD τ))) (W : Waits sig Unit) : sProp 𝕄 :=
  iprop(arg0P c arg0 g0 ∗ arg1P c arg1 g1 ∗ arg2P c arg2 g2 ∗ (∃ f, arg4P c arg4 f) ∗ (∃ f, arg5P c arg5 f) ∗ (∃ f, arg6P c arg6 f) ∗ (∃ f, arg7P c arg7 f) ∗ (∃ f, arg8P c arg8 f)
    ∗ (bigSep Finset.univ (homeP c XW) ∗ dtP c XW) ∗ OWN c ∗ owes (c : Thread nD τ) 0 W)
/-- What it hands back. -/
abbrev POST (g0 : Buf (Elt F) (arg0.view.loc (c : Thread nD τ))) (g1 : Buf (Elt F) (arg1.view.loc (c : Thread nD τ))) (g2 : Buf (Elt F) (arg2.view.loc (c : Thread nD τ))) : sProp 𝕄 :=
  iprop(arg0P c arg0 g0 ∗ arg1P c arg1 g1 ∗ arg2P c arg2 g2
    ∗ (∃ f, arg4P c arg4 f ∗ ⌜∃ A0 Z0, arg4.view.read (Elt F) f = ZF c XW (arg0.view.read (Elt F) g0) (arg1.view.read (Elt F) g1) A0 Z0⌝)
    ∗ (∃ f, arg5P c arg5 f ∗ ⌜∃ A0 Y0, arg5.view.read (Elt F) f = YF c XW (arg0.view.read (Elt F) g0) (arg1.view.read (Elt F) g1) A0 Y0⌝)
    ∗ (∃ f, arg6P c arg6 f ∗ ⌜arg6.view.read (Elt F) f = DT c XW (arg0.view.read (Elt F) g0) (arg1.view.read (Elt F) g1) (arg2.view.read (Elt F) g2)⌝)
    ∗ (∃ f, arg7P c arg7 f ∗ ⌜arg7.view.read (Elt F) f = CODES (arg0.view.read (Elt F) g0)⌝)
    ∗ (∃ f, arg8P c arg8 f ∗ ⌜arg8.view.read (Elt F) f = SC (arg0.view.read (Elt F) g0)⌝)
    ∗ (bigSep Finset.univ (homeP c XW) ∗ dtP c XW) ∗ OWN c ∗ ∃ W, owes (c : Thread nD τ) 0 W)
theorem univ_12 : (Finset.univ : Finset (Fin 78)) = (insert (0 : Fin 78) (insert (1 : Fin 78) (insert (2 : Fin 78) (insert (3 : Fin 78) (insert (4 : Fin 78) (insert (5 : Fin 78) (insert (6 : Fin 78) (insert (7 : Fin 78) (insert (8 : Fin 78) (insert (9 : Fin 78) (insert (10 : Fin 78) (insert (11 : Fin 78) REST)))))))))))) := by decide +kernel
theorem homeSet_9 : Ring.homeSet (NB := 78) 3 9 = (insert (0 : Fin 78) (insert (1 : Fin 78) (insert (2 : Fin 78) (insert (3 : Fin 78) (insert (4 : Fin 78) (insert (5 : Fin 78) (insert (6 : Fin 78) (insert (7 : Fin 78) (insert (8 : Fin 78) REST))))))))) := by decide +kernel
omit [FloatOps F] in
theorem homes_12 : (bigSep (Finset.univ : Finset (Fin 78)) (homeP c XW) : sProp 𝕄) = iprop(homeP c XW 0 ∗ homeP c XW 1 ∗ homeP c XW 2 ∗ homeP c XW 3 ∗ homeP c XW 4 ∗ homeP c XW 5 ∗ homeP c XW 6 ∗ homeP c XW 7 ∗ homeP c XW 8 ∗ homeP c XW 9 ∗ homeP c XW 10 ∗ homeP c XW 11 ∗ bigSep REST (homeP c XW)) := by
  rw [univ_12]
  rw [bigSep_insert (show (0 : Fin 78) ∉ (insert (1 : Fin 78) (insert (2 : Fin 78) (insert (3 : Fin 78) (insert (4 : Fin 78) (insert (5 : Fin 78) (insert (6 : Fin 78) (insert (7 : Fin 78) (insert (8 : Fin 78) (insert (9 : Fin 78) (insert (10 : Fin 78) (insert (11 : Fin 78) REST))))))))))) from by decide +kernel)]
  rw [bigSep_insert (show (1 : Fin 78) ∉ (insert (2 : Fin 78) (insert (3 : Fin 78) (insert (4 : Fin 78) (insert (5 : Fin 78) (insert (6 : Fin 78) (insert (7 : Fin 78) (insert (8 : Fin 78) (insert (9 : Fin 78) (insert (10 : Fin 78) (insert (11 : Fin 78) REST)))))))))) from by decide +kernel)]
  rw [bigSep_insert (show (2 : Fin 78) ∉ (insert (3 : Fin 78) (insert (4 : Fin 78) (insert (5 : Fin 78) (insert (6 : Fin 78) (insert (7 : Fin 78) (insert (8 : Fin 78) (insert (9 : Fin 78) (insert (10 : Fin 78) (insert (11 : Fin 78) REST))))))))) from by decide +kernel)]
  rw [bigSep_insert (show (3 : Fin 78) ∉ (insert (4 : Fin 78) (insert (5 : Fin 78) (insert (6 : Fin 78) (insert (7 : Fin 78) (insert (8 : Fin 78) (insert (9 : Fin 78) (insert (10 : Fin 78) (insert (11 : Fin 78) REST)))))))) from by decide +kernel)]
  rw [bigSep_insert (show (4 : Fin 78) ∉ (insert (5 : Fin 78) (insert (6 : Fin 78) (insert (7 : Fin 78) (insert (8 : Fin 78) (insert (9 : Fin 78) (insert (10 : Fin 78) (insert (11 : Fin 78) REST))))))) from by decide +kernel)]
  rw [bigSep_insert (show (5 : Fin 78) ∉ (insert (6 : Fin 78) (insert (7 : Fin 78) (insert (8 : Fin 78) (insert (9 : Fin 78) (insert (10 : Fin 78) (insert (11 : Fin 78) REST)))))) from by decide +kernel)]
  rw [bigSep_insert (show (6 : Fin 78) ∉ (insert (7 : Fin 78) (insert (8 : Fin 78) (insert (9 : Fin 78) (insert (10 : Fin 78) (insert (11 : Fin 78) REST))))) from by decide +kernel)]
  rw [bigSep_insert (show (7 : Fin 78) ∉ (insert (8 : Fin 78) (insert (9 : Fin 78) (insert (10 : Fin 78) (insert (11 : Fin 78) REST)))) from by decide +kernel)]
  rw [bigSep_insert (show (8 : Fin 78) ∉ (insert (9 : Fin 78) (insert (10 : Fin 78) (insert (11 : Fin 78) REST))) from by decide +kernel)]
  rw [bigSep_insert (show (9 : Fin 78) ∉ (insert (10 : Fin 78) (insert (11 : Fin 78) REST)) from by decide +kernel)]
  rw [bigSep_insert (show (10 : Fin 78) ∉ (insert (11 : Fin 78) REST) from by decide +kernel)]
  rw [bigSep_insert (show (11 : Fin 78) ∉ REST from by decide +kernel)]
  rfl

omit [FloatOps F] in
theorem homes_9 : (bigSep (Ring.homeSet (NB := 78) 3 9) (homeP c XW) : sProp 𝕄) = iprop(homeP c XW 0 ∗ homeP c XW 1 ∗ homeP c XW 2 ∗ homeP c XW 3 ∗ homeP c XW 4 ∗ homeP c XW 5 ∗ homeP c XW 6 ∗ homeP c XW 7 ∗ homeP c XW 8 ∗ bigSep REST (homeP c XW)) := by
  rw [homeSet_9]
  rw [bigSep_insert (show (0 : Fin 78) ∉ (insert (1 : Fin 78) (insert (2 : Fin 78) (insert (3 : Fin 78) (insert (4 : Fin 78) (insert (5 : Fin 78) (insert (6 : Fin 78) (insert (7 : Fin 78) (insert (8 : Fin 78) REST)))))))) from by decide +kernel)]
  rw [bigSep_insert (show (1 : Fin 78) ∉ (insert (2 : Fin 78) (insert (3 : Fin 78) (insert (4 : Fin 78) (insert (5 : Fin 78) (insert (6 : Fin 78) (insert (7 : Fin 78) (insert (8 : Fin 78) REST))))))) from by decide +kernel)]
  rw [bigSep_insert (show (2 : Fin 78) ∉ (insert (3 : Fin 78) (insert (4 : Fin 78) (insert (5 : Fin 78) (insert (6 : Fin 78) (insert (7 : Fin 78) (insert (8 : Fin 78) REST)))))) from by decide +kernel)]
  rw [bigSep_insert (show (3 : Fin 78) ∉ (insert (4 : Fin 78) (insert (5 : Fin 78) (insert (6 : Fin 78) (insert (7 : Fin 78) (insert (8 : Fin 78) REST))))) from by decide +kernel)]
  rw [bigSep_insert (show (4 : Fin 78) ∉ (insert (5 : Fin 78) (insert (6 : Fin 78) (insert (7 : Fin 78) (insert (8 : Fin 78) REST)))) from by decide +kernel)]
  rw [bigSep_insert (show (5 : Fin 78) ∉ (insert (6 : Fin 78) (insert (7 : Fin 78) (insert (8 : Fin 78) REST))) from by decide +kernel)]
  rw [bigSep_insert (show (6 : Fin 78) ∉ (insert (7 : Fin 78) (insert (8 : Fin 78) REST)) from by decide +kernel)]
  rw [bigSep_insert (show (7 : Fin 78) ∉ (insert (8 : Fin 78) REST) from by decide +kernel)]
  rw [bigSep_insert (show (8 : Fin 78) ∉ REST from by decide +kernel)]
  rfl

omit [FloatOps F] in
theorem home_mk (b : Fin 78) : iprop(blkP c XW b 0 ∗ blkP c XW b 1) ⊢ (homeP c XW b : sProp 𝕄) := .rfl
omit [FloatOps F] in
theorem slot_cut (s : Fin 4) (b : Fin 78) : (slotP c s (LC c XW b) : sProp 𝕄) ⊢ iprop(∃ f, pairP c s f) := slot_split c s _

/-- After nine chunks the ring is as before trip 0. -/
theorem ring_nine (f0 : (i : Fin 2) → Buf (Elt F) ((half 0 i).view.loc (c : Thread nD τ))) (f1 : (i : Fin 2) → Buf (Elt F) ((half 1 i).view.loc (c : Thread nD τ)))
    (f2 : (i : Fin 2) → Buf (Elt F) ((half 2 i).view.loc (c : Thread nD τ))) (f3 : (i : Fin 2) → Buf (Elt F) ((half 3 i).view.loc (c : Thread nD τ))) :
    iprop(flightP c XW 1 9 f1 ∗ flightP c XW 2 10 f2 ∗ flightP c XW 3 11 f3 ∗ (homeP c XW 0 ∗ homeP c XW 1 ∗ homeP c XW 2 ∗ homeP c XW 3 ∗ homeP c XW 4 ∗ homeP c XW 5 ∗ homeP c XW 6 ∗ homeP c XW 7 ∗ homeP c XW 8 ∗ bigSep REST (homeP c XW)) ∗ cellP c 0 ∗ pairP c 0 f0) ⊢ ringAt c XW (9 + 0) := by
  rw [← homes_9 c XW]
  unfold ringAt
  rw [Ring.At4_here _ _ _ _ (9 + 0) (by decide)]
  have hh : bigSep (Ring.homeSet 3 9) (homeP c XW) = iprop(homeP c XW (Ring.bk 78 (9 + 0 + 3)) ∗ bigSep ((Ring.homeSet 3 (9 + 0)).erase (Ring.bk 78 (9 + 0 + 3))) (homeP c XW)) := by
    conv_lhs => rw [Ring.homeSet_out 3 9 (by decide), bigSep_insert (Ring.bkL_not_mem_erase 3 9)]
    rfl
  rw [hh]
  iintro ⟨H0, H1, H2, Hh, Hc, Hs⟩
  isplitl [Hh]; · iexact Hh
  isplitl [H0]; · iexists f1; iexact H0
  isplitl [H1]; · iexists f2; iexact H1
  isplitl [H2]; · iexists f3; iexact H2
  isplitl [Hc]; · iexact Hc
  iexists f0; iexact Hs

theorem zAt_args (G : ℕ → Vec F S1x72x2048 .bf16) (W : Vec F S1x26816 .f32) {xs xs' : Vec F S72x1 .f32} {A A' : Vec F S72x1024 .f32} {Z Z' : Vec F S72x12288 .f32} {n : ℕ} (hx : xs = xs') (hA : A = A') (hZ : Z = Z') :
    zAt c XW G W xs A Z n = zAt c XW G W xs' A' Z' n := by subst hx hA hZ; rfl
theorem yAt_args (G : ℕ → Vec F S1x72x2048 .bf16) (W : Vec F S1x26816 .f32) {xs xs' : Vec F S72x1 .f32} {A A' : Vec F S72x1024 .f32} {Y Y' : Vec F S72x14336 .f32} {n : ℕ} (hx : xs = xs') (hA : A = A') (hY : Y = Y') :
    yAt c XW G W xs A Y n = yAt c XW G W xs' A' Y' n := by subst hx hA hY; rfl
/-- Before a slot is halved: its two halves, whatever they hold, are the slot. -/
theorem pair_whole (s : Fin 4) (f : (i : Fin 2) → Buf (Elt F) ((half s i).view.loc (c : Thread nD τ))) : (pairP c s f : sProp 𝕄) ⊢ iprop(∃ g, slotP c s g) := by
  unfold pairP
  iintro ⟨H0, H1⟩
  ihave H0' := (show (((half s 0).view.loc (c : Thread nD τ)) ↦[(half s 0).view.set]{fullShare} f 0 : sProp 𝕄) ⊢ ((bufM.view.loc (c : Thread nD τ)) ↦[H4s s 0]{fullShare} f 0) from by rw [half_set]; exact .rfl) $$ H0
  ihave H1' := (show (((half s 1).view.loc (c : Thread nD τ)) ↦[(half s 1).view.set]{fullShare} f 1 : sProp 𝕄) ⊢ ((bufM.view.loc (c : Thread nD τ)) ↦[H4s s 1]{fullShare} f 1) from by rw [half_set]; exact .rfl) $$ H1
  ihave H := (pointsTo_join (ℓ := bufM.view.loc (c : Thread nD τ)) (I := H4s s 0) (J := H4s s 1) (H4s_disjoint s)) $$ [H0' H1']
  · isplitl [H0']; · iexact H0'
    iexact H1'
  iexists _
  iapply (Entails.of_eq (congrArg (fun S => (bufM.view.loc (c : Thread nD τ) ↦[S]{fullShare} _ : sProp 𝕄)) ((H4s_union s).trans (rslot_set s).symm))); iexact H
/-- After the last trip every chunk is home and every slot free. -/
theorem ring_end : iprop(bigSep (Ring.homeSet 3 (9 + Scf.trips k0_t1_loop.lb k0_t1_loop.ub k0_t1_loop.st)) (homeP c XW)
      ∗ bigSep Finset.univ (Ring.slotAt 3 (cellP c) (pairP c) (flightP c XW) (9 + Scf.trips k0_t1_loop.lb k0_t1_loop.ub k0_t1_loop.st)))
    ⊢ iprop(bigSep Finset.univ (homeP c XW) ∗ (cellP c 0 ∗ ∃ g, slotP c 0 g) ∗ (cellP c 1 ∗ ∃ g, slotP c 1 g) ∗ (cellP c 2 ∗ ∃ g, slotP c 2 g) ∗ (cellP c 3 ∗ ∃ g, slotP c 3 g)) := by
  have h : iprop(bigSep (Ring.homeSet 3 78) (homeP c XW) ∗ bigSep Finset.univ (Ring.slotAt 3 (cellP c) (pairP c) (flightP c XW) 78))
      ⊢ iprop(bigSep Finset.univ (homeP c XW) ∗ Ring.free (cellP c) (pairP c) 0 ∗ Ring.free (cellP c) (pairP c) 1 ∗ Ring.free (cellP c) (pairP c) 2 ∗ Ring.free (cellP c) (pairP c) 3) := Ring.free4_of_At_last _ _ _ _
  have hp : ∀ s : Fin 4, (Ring.free (cellP c) (pairP c) s : sProp 𝕄) ⊢ iprop(cellP c s ∗ ∃ g, slotP c s g) := by
    intro s
    iintro ⟨Hc, ⟨%f, Hs⟩⟩
    isplitl [Hc]; · iexact Hc
    iapply (pair_whole c s f); iexact Hs
  rw [show Scf.trips k0_t1_loop.lb k0_t1_loop.ub k0_t1_loop.st = 69 from trips1]
  refine h.trans ?_
  iintro ⟨Hh, H0, H1, H2, H3⟩
  isplitl [Hh]; · iexact Hh
  isplitl [H0]; · iapply (hp 0); iexact H0
  isplitl [H1]; · iapply (hp 1); iexact H1
  isplitl [H2]; · iapply (hp 2); iexact H2
  iapply (hp 3); iexact H3

theorem p27 (a : Vec F S72x512 .f32) (b : Vec F S72x1 .f32) (d : Vec F S1x512 .f32) : k0_pay27 a b d = k0_pay50 a b d := rfl
theorem p28 (a : Vec F S72x512 .f32) (b : Vec F S72x1 .f32) (d : Vec F S1x512 .f32) : k0_pay28 a b d = k0_pay50 a b d := rfl
theorem p32 (a : Vec F S72x512 .f32) (b : Vec F S72x1 .f32) (d : Vec F S1x512 .f32) : k0_pay32 a b d = k0_pay50 a b d := rfl
theorem p35 (a : Vec F S72x512 .f32) (b : Vec F S72x1 .f32) (d : Vec F S1x512 .f32) : k0_pay35 a (k0_pay33 b) (k0_pay34 d) = k0_pay50 a b d := rfl
theorem p46 (a : Vec F S72x512 .f32) (b : Vec F S72x1 .f32) (d : Vec F S1x512 .f32) : k0_pay46 a b d = k0_pay49 a b d := rfl
theorem p47 (a : Vec F S72x512 .f32) (b : Vec F S72x1 .f32) (d : Vec F S1x512 .f32) : k0_pay47 a b d = k0_pay50 a b d := rfl
theorem p14 (s : Vec F S72x1 .f32) (b : Vec F S72x2048 .bf16) : k0_pay14 s b = k0_pay11 s b := rfl
theorem p15 (s : Vec F S72x1 .f32) (b : Vec F S72x2048 .bf16) : k0_pay15 s b = k0_pay12 s b := rfl
theorem p18 (s : Vec F S72x1 .f32) (b : Vec F S72x2048 .bf16) : k0_pay18 s (k0_pay16 b) = k0_pay11 s b := rfl
theorem p19 (s : Vec F S72x1 .f32) (b : Vec F S72x2048 .bf16) : k0_pay19 s (k0_pay16 b) = k0_pay12 s b := rfl
theorem step_congr {W W' : BitVec 32} {q q' : Vec F S1x72x2048 .bf16} {w w' : Vec F S1x1024x2048 .i8} {A A' : Vec F S72x1024 .f32} (hW : W = W') (hq : q = q') (hw : w = w') (hA : A = A') :
    k0_pay48 W (k0_pay1 q) w A = k0_pay48 W' (k0_pay1 q') w' A' := by subst hW hq hw hA; rfl
theorem AL_succ (X : Vec F S72x6144 .bf16) (A0 : Vec F S72x1024 .f32) (n : ℕ) : AL c XW X A0 (n + 1) = k0_pay48 (BitVec.ofNat 32 (n % 3)) (k0_pay1 (XQ X n)) (wChunk c XW (Ring.bk 78 n)) (AL c XW X A0 n) := rfl

set_option maxHeartbeats 6400000 in
theorem bodyRun (g0 g1 g2) (W) (Q : PUnit → sProp 𝕄) :
    iprop(PRE c XW arg0 arg1 arg2 arg4 arg5 arg6 arg7 arg8 g0 g1 g2 W ∗ (POST c XW arg0 arg1 arg2 arg4 arg5 arg6 arg7 arg8 g0 g1 g2 -∗ Q ⟨⟩))
      ⊢ wp frame (wpE (defs₀ (F := F)) 𝒱₀ (c : Thread nD τ) none) Set.univ (bodyG arg0 harg0 arg1 harg1 arg2 harg2 arg4 harg4 arg5 harg5 arg6 harg6 arg7 harg7 arg8 harg8) Q := by
  iintro ⟨⟨H0, H1, H2, ⟨%f4, H4⟩, ⟨%f5, H5⟩, ⟨%f6, H6⟩, ⟨%f7, H7⟩, ⟨%f8, H8⟩, ⟨Hh, Hdt⟩, ⟨⟨%s0, Hs0⟩, ⟨%s1, Hs1⟩, ⟨%s2, Hs2⟩, ⟨%s3, Hs3⟩, Hc0, Hc1, Hc2, Hc3, Hdc, ⟨%fq, HQ⟩, ⟨%fo, HO⟩, ⟨%fw, HD⟩⟩, HW⟩, Hk⟩
  ihave Hh := (Entails.of_eq (homes_12 c XW)) $$ Hh
  icases Hh with ⟨⟨Hb0a, Hb0b⟩, ⟨Hb1a, Hb1b⟩, ⟨Hb2a, Hb2b⟩, ⟨Hb3a, Hb3b⟩, ⟨Hb4a, Hb4b⟩, ⟨Hb5a, Hb5b⟩, ⟨Hb6a, Hb6b⟩, ⟨Hb7a, Hb7b⟩, ⟨Hb8a, Hb8b⟩, ⟨Hb9a, Hb9b⟩, ⟨Hb10a, Hb10b⟩, ⟨Hb11a, Hb11b⟩, HR⟩
  ihave Hp0 := slot_split c 0 s0 $$ Hs0
  icases Hp0 with ⟨%f0', Hp0a, Hp0b⟩
  imod (alloc c XW 0 0 f0') $$ Hc0 with HF0
  ihave Hp1 := slot_split c 1 s1 $$ Hs1
  icases Hp1 with ⟨%f1', Hp1a, Hp1b⟩
  imod (alloc c XW 1 1 f1') $$ Hc1 with HF1
  ihave Hp2 := slot_split c 2 s2 $$ Hs2
  icases Hp2 with ⟨%f2', Hp2a, Hp2b⟩
  imod (alloc c XW 2 2 f2') $$ Hc2 with HF2
  ihave Hp3 := slot_split c 3 s3 $$ Hs3
  icases Hp3 with ⟨%f3', Hp3a, Hp3b⟩
  imod (alloc c XW 3 3 f3') $$ Hc3 with HF3
  sl_exec
  ihave HS := slot_join c XW 0 0 (f0' 0) (f0' 1) $$ [HF0_dst0 HF0_dst1]
  · isplitl [HF0_dst0]; · iexact HF0_dst0
    iexact HF0_dst1
  ihave Hh0 := home_mk c XW 0 $$ [HF0_src0 HF0_src1]
  · isplitl [HF0_src0]; · iexact HF0_src0
    iexact HF0_src1
  sl_exec
  ihave HS2 := slot_cut c XW 0 0 $$ HS
  icases HS2 with ⟨%f4', Hp0a, Hp0b⟩
  ihave Hc0 := (show cellP c 0 ⊢ cellP c 0 from .rfl) $$ [HF0]
  · iexact HF0
  imod (alloc c XW 0 4 f4') $$ Hc0 with HF0
  sl_exec
  ihave HS := slot_join c XW 1 1 (f1' 0) (f1' 1) $$ [HF1_dst0 HF1_dst1]
  · isplitl [HF1_dst0]; · iexact HF1_dst0
    iexact HF1_dst1
  ihave Hh1 := home_mk c XW 1 $$ [HF1_src0 HF1_src1]
  · isplitl [HF1_src0]; · iexact HF1_src0
    iexact HF1_src1
  sl_exec
  ihave HS2 := slot_cut c XW 1 1 $$ HS
  icases HS2 with ⟨%f5', Hp1a, Hp1b⟩
  ihave Hc1 := (show cellP c 1 ⊢ cellP c 1 from .rfl) $$ [HF1]
  · iexact HF1
  imod (alloc c XW 1 5 f5') $$ Hc1 with HF1
  sl_exec
  ihave HS := slot_join c XW 2 2 (f2' 0) (f2' 1) $$ [HF2_dst0 HF2_dst1]
  · isplitl [HF2_dst0]; · iexact HF2_dst0
    iexact HF2_dst1
  ihave Hh2 := home_mk c XW 2 $$ [HF2_src0 HF2_src1]
  · isplitl [HF2_src0]; · iexact HF2_src0
    iexact HF2_src1
  sl_exec
  ihave HS2 := slot_cut c XW 2 2 $$ HS
  icases HS2 with ⟨%f6', Hp2a, Hp2b⟩
  ihave Hc2 := (show cellP c 2 ⊢ cellP c 2 from .rfl) $$ [HF2]
  · iexact HF2
  imod (alloc c XW 2 6 f6') $$ Hc2 with HF2
  sl_exec
  ihave HS := slot_join c XW 3 3 (f3' 0) (f3' 1) $$ [HF3_dst0 HF3_dst1]
  · isplitl [HF3_dst0]; · iexact HF3_dst0
    iexact HF3_dst1
  ihave Hh3 := home_mk c XW 3 $$ [HF3_src0 HF3_src1]
  · isplitl [HF3_src0]; · iexact HF3_src0
    iexact HF3_src1
  sl_exec
  ihave HS2 := slot_cut c XW 3 3 $$ HS
  icases HS2 with ⟨%f7', Hp3a, Hp3b⟩
  ihave Hc3 := (show cellP c 3 ⊢ cellP c 3 from .rfl) $$ [HF3]
  · iexact HF3
  imod (alloc c XW 3 7 f7') $$ Hc3 with HF3
  sl_exec
  ihave HS := slot_join c XW 0 4 (f4' 0) (f4' 1) $$ [HF0_dst0 HF0_dst1]
  · isplitl [HF0_dst0]; · iexact HF0_dst0
    iexact HF0_dst1
  ihave Hh4 := home_mk c XW 4 $$ [HF0_src0 HF0_src1]
  · isplitl [HF0_src0]; · iexact HF0_src0
    iexact HF0_src1
  sl_exec
  ihave HS2 := slot_cut c XW 0 4 $$ HS
  icases HS2 with ⟨%f8', Hp0a, Hp0b⟩
  ihave Hc0 := (show cellP c 0 ⊢ cellP c 0 from .rfl) $$ [HF0]
  · iexact HF0
  imod (alloc c XW 0 8 f8') $$ Hc0 with HF0
  sl_exec
  ihave HS := slot_join c XW 1 5 (f5' 0) (f5' 1) $$ [HF1_dst0 HF1_dst1]
  · isplitl [HF1_dst0]; · iexact HF1_dst0
    iexact HF1_dst1
  ihave Hh5 := home_mk c XW 5 $$ [HF1_src0 HF1_src1]
  · isplitl [HF1_src0]; · iexact HF1_src0
    iexact HF1_src1
  sl_exec
  ihave HS2 := slot_cut c XW 1 5 $$ HS
  icases HS2 with ⟨%f9', Hp1a, Hp1b⟩
  ihave Hc1 := (show cellP c 1 ⊢ cellP c 1 from .rfl) $$ [HF1]
  · iexact HF1
  imod (alloc c XW 1 9 f9') $$ Hc1 with HF1
  sl_exec
  ihave HS := slot_join c XW 2 6 (f6' 0) (f6' 1) $$ [HF2_dst0 HF2_dst1]
  · isplitl [HF2_dst0]; · iexact HF2_dst0
    iexact HF2_dst1
  ihave Hh6 := home_mk c XW 6 $$ [HF2_src0 HF2_src1]
  · isplitl [HF2_src0]; · iexact HF2_src0
    iexact HF2_src1
  sl_exec
  ihave HS2 := slot_cut c XW 2 6 $$ HS
  icases HS2 with ⟨%f10', Hp2a, Hp2b⟩
  ihave Hc2 := (show cellP c 2 ⊢ cellP c 2 from .rfl) $$ [HF2]
  · iexact HF2
  imod (alloc c XW 2 10 f10') $$ Hc2 with HF2
  sl_exec
  ihave HS := slot_join c XW 3 7 (f7' 0) (f7' 1) $$ [HF3_dst0 HF3_dst1]
  · isplitl [HF3_dst0]; · iexact HF3_dst0
    iexact HF3_dst1
  ihave Hh7 := home_mk c XW 7 $$ [HF3_src0 HF3_src1]
  · isplitl [HF3_src0]; · iexact HF3_src0
    iexact HF3_src1
  sl_exec
  ihave HS2 := slot_cut c XW 3 7 $$ HS
  icases HS2 with ⟨%f11', Hp3a, Hp3b⟩
  ihave Hc3 := (show cellP c 3 ⊢ cellP c 3 from .rfl) $$ [HF3]
  · iexact HF3
  imod (alloc c XW 3 11 f11') $$ Hc3 with HF3
  sl_exec
  ihave HS := slot_join c XW 0 8 (f8' 0) (f8' 1) $$ [HF0_dst0 HF0_dst1]
  · isplitl [HF0_dst0]; · iexact HF0_dst0
    iexact HF0_dst1
  ihave Hh8 := home_mk c XW 8 $$ [HF0_src0 HF0_src1]
  · isplitl [HF0_src0]; · iexact HF0_src0
    iexact HF0_src1
  sl_exec
  ihave HS2 := slot_cut c XW 0 8 $$ HS
  icases HS2 with ⟨%f12', Hp0a, Hp0b⟩
  ihave Hc0 := (show cellP c 0 ⊢ cellP c 0 from .rfl) $$ [HF0]
  · iexact HF0
  sl_exec
  ihave Hring := (ring_nine c XW f12' f9' f10' f11') $$ [HF1 HF2 HF3 Hh0 Hh1 Hh2 Hh3 Hh4 Hh5 Hh6 Hh7 Hh8 HR Hc0 Hp0a Hp0b]
  · isplitl [HF1]; · iexact HF1
    isplitl [HF2]; · iexact HF2
    isplitl [HF3]; · iexact HF3
    isplitr [Hc0 Hp0a Hp0b]
    · isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      iexact HR
    isplitl [Hc0]; · iexact Hc0
    isplitl [Hp0a]; · iexact Hp0a
    iexact Hp0b
  unfold ringAt Ring.At
  icases Hring with ⟨Hh, Hsl⟩
  let L := loopInv c XW arg0 harg0 arg1 harg1 arg2 harg2 arg4 harg4 arg5 harg5 arg6 harg6 arg7 harg7 arg8 harg8
  sl_exec
  sl_step
  iapply Hk
  have hs : bodyRun.sl.r_8 c arg0 g0 = SC (arg0.view.read (Elt F) g0) := by
    unfold SC MX
    delta bodyRun.sl.r_8 bodyRun.sl.r_7 bodyRun.sl.r_6 bodyRun.sl.r_5 bodyRun.sl.r_4 bodyRun.sl.r_3 bodyRun.sl.r_2 bodyRun.sl.r_1 bodyRun.sl.r
    exact congr (congr (congr (congr (congr (congr (congr (congrArg k0_pay9 (congr (congr (congr (congr (congr (congr (congr (congr (congrArg k0_pay7 (congr (congr (congr (congr (congr (congr (congr (congr (congr (congrArg k0_pay6 (congr (congr (congr (congr (congr (congr (congr (congr (congr (congrArg k0_pay5 (congr (congr (congr (congr (congr (congr (congr (congr (congrArg k0_pay3 (congr (congr (congr (congr (congr (congr (congrArg k0_pay2 (x_ld c arg0 0 _ g0)) (x_ld c arg0 128 _ g0)) (x_ld c arg0 256 _ g0)) (x_ld c arg0 384 _ g0)) (x_ld c arg0 512 _ g0)) (x_ld c arg0 640 _ g0)) (x_ld c arg0 768 _ g0))) (x_ld c arg0 896 _ g0)) (x_ld c arg0 1024 _ g0)) (x_ld c arg0 1152 _ g0)) (x_ld c arg0 1280 _ g0)) (x_ld c arg0 1408 _ g0)) (x_ld c arg0 1536 _ g0)) (x_ld c arg0 1664 _ g0)) (x_ld c arg0 1792 _ g0))) (congrArg k0_pay4 (x_ld c arg0 1920 _ g0))) (x_ld c arg0 2048 _ g0)) (x_ld c arg0 2176 _ g0)) (x_ld c arg0 2304 _ g0)) (x_ld c arg0 2432 _ g0)) (x_ld c arg0 2560 _ g0)) (x_ld c arg0 2688 _ g0)) (x_ld c arg0 2816 _ g0)) (x_ld c arg0 2944 _ g0))) (x_ld c arg0 3072 _ g0)) (x_ld c arg0 3200 _ g0)) (x_ld c arg0 3328 _ g0)) (x_ld c arg0 3456 _ g0)) (x_ld c arg0 3584 _ g0)) (x_ld c arg0 3712 _ g0)) (x_ld c arg0 3840 _ g0)) (x_ld c arg0 3968 _ g0)) (x_ld c arg0 4096 _ g0))) (x_ld c arg0 4224 _ g0)) (x_ld c arg0 4352 _ g0)) (x_ld c arg0 4480 _ g0)) (x_ld c arg0 4608 _ g0)) (x_ld c arg0 4736 _ g0)) (x_ld c arg0 4864 _ g0)) (x_ld c arg0 4992 _ g0)) (x_ld c arg0 5120 _ g0))) (congrArg k0_pay8 (x_ld c arg0 5248 _ g0))) (x_ld c arg0 5376 _ g0)) (x_ld c arg0 5504 _ g0)) (x_ld c arg0 5632 _ g0)) (x_ld c arg0 5760 _ g0)) (x_ld c arg0 5888 _ g0)) (x_ld c arg0 6016 _ g0)
  have hq : GQGood (arg0.view.read (Elt F) g0) 3 (bodyRun.sl.HQ_3 c arg0 g0) := by
    delta bodyRun.sl.HQ_3 bodyRun.sl.r_9
    refine gq_step _ 2 (by decide) _ rfl _ _ ((p19 _ _).trans (congr (congrArg k0_pay12 hs) (x_ldB c arg0 4096 _ g0))) _ ?_
    refine gq_step _ 1 (by decide) _ rfl _ _ ((p15 _ _).trans (congr (congrArg k0_pay12 hs) (x_ldB c arg0 2048 _ g0))) _ ?_
    refine gq_step _ 0 (by decide) _ rfl _ _ (congr (congrArg k0_pay12 hs) (x_ldB c arg0 0 _ g0)) _ ?_
    exact gq_nil _
  have h1 : k0_pay21 0#32 (bodyRun.sl.v537 c arg0 g0) (bodyRun.sl.r_10 c XW) (View.readAt (Elt F) accM.view (Rect.unit (s := S72x1024) ![0, 0] S72x1024.size inb_S72x1024_S72x1024_0_0).toLoadRect fo) = AL c XW (arg0.view.read (Elt F) g0) (accM.view.read (Elt F) fo) 1 :=
    (lead0 _ _ _ _).trans ((step_congr rfl (xq_cov c _ _ hq _ 0 rfl _) (slot_readAt c XW _ 0 rfl _ (Ring.bk 78 0)) (View.readAt_full _ _ _)).trans (AL_succ c XW (arg0.view.read (Elt F) g0) (accM.view.read (Elt F) fo) 0).symm)
  have u1 : bodyRun.sl.v611 c XW arg0 g0 fo = AL c XW (arg0.view.read (Elt F) g0) (accM.view.read (Elt F) fo) 1 :=
    (View.readCov_full accM.view _ _ _ _).trans h1
  have h2 : k0_pay23 1#32 (bodyRun.sl.r_11 c XW arg0 g0) 0#32 (bodyRun.sl.v611 c XW arg0 g0 fo) = AL c XW (arg0.view.read (Elt F) g0) (accM.view.read (Elt F) fo) 2 :=
    (lead1 _ _ _).trans ((step_congr rfl (xq_cov c _ _ hq _ 1 rfl _) (slot_readAt c XW _ 1 rfl _ (Ring.bk 78 1)) u1).trans (AL_succ c XW (arg0.view.read (Elt F) g0) (accM.view.read (Elt F) fo) 1).symm)
  have u2 : bodyRun.sl.v677 c XW arg0 g0 fo = AL c XW (arg0.view.read (Elt F) g0) (accM.view.read (Elt F) fo) 2 :=
    (View.readCov_full accM.view _ _ _ _).trans h2
  have h3 : k0_pay26 (bodyRun.sl.r_12 c XW arg0 g0) 0#1 (bodyRun.sl.r_13 c XW arg0 g0 fo) = AL c XW (arg0.view.read (Elt F) g0) (accM.view.read (Elt F) fo) 3 :=
    (lead2 _ _ _).trans ((step_congr rfl (xq_cov c _ _ hq _ 2 rfl _) (slot_readAt c XW _ 2 rfl _ (Ring.bk 78 2)) u2).trans (AL_succ c XW (arg0.view.read (Elt F) g0) (accM.view.read (Elt F) fo) 2).symm)
  have u3 : bodyRun.sl.v763 c XW arg0 g0 fo = AL c XW (arg0.view.read (Elt F) g0) (accM.view.read (Elt F) fo) 3 :=
    (View.readCov_full accM.view _ _ _ _).trans h3
  have h4 : k0_pay29 (bodyRun.sl.v754 c arg0 g0) (View.readAt (Elt F) bufM.view (Rect.unit (s := S4x1024x2048) ![3, 0, 0] S1x1024x2048.size k0_part33_skel._proof_3).toLoadRect (LC c XW 3)) (bodyRun.sl.v763 c XW arg0 g0 fo) = AL c XW (arg0.view.read (Elt F) g0) (accM.view.read (Elt F) fo) 4 :=
    (lead3 _ _ _).trans ((step_congr rem3 (xq_cov c _ _ hq _ 3 rfl _) (slot_readAt c XW _ 3 rfl _ (Ring.bk 78 3)) u3).trans (AL_succ c XW (arg0.view.read (Elt F) g0) (accM.view.read (Elt F) fo) 3).symm)
  have u4 : bodyRun.sl.v829 c XW arg0 g0 fo = AL c XW (arg0.view.read (Elt F) g0) (accM.view.read (Elt F) fo) 4 :=
    (View.readCov_full accM.view _ _ _ _).trans h4
  have h5 : k0_pay30 (bodyRun.sl.v820 c arg0 g0) (View.readAt (Elt F) bufM.view (Rect.unit (s := S4x1024x2048) ![0, 0, 0] S1x1024x2048.size k0_part35_skel._proof_9).toLoadRect (LC c XW 4)) (bodyRun.sl.v829 c XW arg0 g0 fo) = AL c XW (arg0.view.read (Elt F) g0) (accM.view.read (Elt F) fo) 5 :=
    (lead4 _ _ _).trans ((step_congr rem4 (xq_cov c _ _ hq _ 4 rfl _) (slot_readAt c XW _ 0 rfl _ (Ring.bk 78 4)) u4).trans (AL_succ c XW (arg0.view.read (Elt F) g0) (accM.view.read (Elt F) fo) 4).symm)
  have u5 : bodyRun.sl.v895 c XW arg0 g0 fo = AL c XW (arg0.view.read (Elt F) g0) (accM.view.read (Elt F) fo) 5 :=
    (View.readCov_full accM.view _ _ _ _).trans h5
  have h6 : k0_pay31 5#32 3#32 (bodyRun.sl.v886 c arg0 g0) (View.readAt (Elt F) bufM.view (Rect.unit (s := S4x1024x2048) ![1, 0, 0] S1x1024x2048.size k0_part37_skel._proof_3).toLoadRect (LC c XW 5)) (bodyRun.sl.v895 c XW arg0 g0 fo) = AL c XW (arg0.view.read (Elt F) g0) (accM.view.read (Elt F) fo) 6 :=
    (lead5 _ _ _).trans ((step_congr rem5 (xq_cov c _ _ hq _ 5 rfl _) (slot_readAt c XW _ 1 rfl _ (Ring.bk 78 5)) u5).trans (AL_succ c XW (arg0.view.read (Elt F) g0) (accM.view.read (Elt F) fo) 5).symm)
  have u6 : bodyRun.sl.v1024 c XW arg0 g0 fo = AL c XW (arg0.view.read (Elt F) g0) (accM.view.read (Elt F) fo) 6 :=
    (View.readCov_full accM.view _ _ _ _).trans h6
  have h7 : k0_pay40 0#32 (bodyRun.sl.v1016 c arg0 g0) (View.readAt (Elt F) bufM.view (Rect.unit (s := S4x1024x2048) ![2, 0, 0] S1x1024x2048.size k0_part41_skel._proof_1).toLoadRect (LC c XW 6)) (bodyRun.sl.v1024 c XW arg0 g0 fo) = AL c XW (arg0.view.read (Elt F) g0) (accM.view.read (Elt F) fo) 7 :=
    (lead6 _ _ _ _).trans ((step_congr rfl (xq_cov c _ _ hq _ 6 rfl _) (slot_readAt c XW _ 2 rfl _ (Ring.bk 78 6)) u6).trans (AL_succ c XW (arg0.view.read (Elt F) g0) (accM.view.read (Elt F) fo) 6).symm)
  have u7 : bodyRun.sl.v1090 c XW arg0 g0 fo = AL c XW (arg0.view.read (Elt F) g0) (accM.view.read (Elt F) fo) 7 :=
    (View.readCov_full accM.view _ _ _ _).trans h7
  have h8 : k0_pay43 1#32 (bodyRun.sl.r_19 c arg0 g0) (bodyRun.sl.r_20 c XW) (bodyRun.sl.v1090 c XW arg0 g0 fo) = AL c XW (arg0.view.read (Elt F) g0) (accM.view.read (Elt F) fo) 8 :=
    (lead7 _ _ _).trans ((step_congr rfl (xq_cov c _ _ hq _ 7 rfl _) (slot_readAt c XW _ 3 rfl _ (Ring.bk 78 7)) u7).trans (AL_succ c XW (arg0.view.read (Elt F) g0) (accM.view.read (Elt F) fo) 7).symm)
  have u8 : bodyRun.sl.v1156 c XW arg0 g0 fo = AL c XW (arg0.view.read (Elt F) g0) (accM.view.read (Elt F) fo) 8 :=
    (View.readCov_full accM.view _ _ _ _).trans h8
  have h9 : k0_pay45 (bodyRun.sl.r_21 c XW arg0 g0) 0#1 (bodyRun.sl.v1156 c XW arg0 g0 fo) = AL c XW (arg0.view.read (Elt F) g0) (accM.view.read (Elt F) fo) 9 :=
    (lead8 _ _ _).trans ((step_congr rfl (xq_cov c _ _ hq _ 8 rfl _) (slot_readAt c XW _ 0 rfl _ (Ring.bk 78 8)) u8).trans (AL_succ c XW (arg0.view.read (Elt F) g0) (accM.view.read (Elt F) fo) 8).symm)
  have w1 : bodyRun.sl.v684 c arg0 arg8 g0 = SC (arg0.view.read (Elt F) g0) :=
    (View.readCov_full arg8.view _ _ _ []).trans hs
  have w2 : bodyRun.sl.v902 c arg0 arg8 g0 = SC (arg0.view.read (Elt F) g0) :=
    (View.readCov_full arg8.view _ _ _ []).trans hs
  have w3 : bodyRun.sl.v1165 c arg0 arg8 g0 = SC (arg0.view.read (Elt F) g0) :=
    (View.readCov_full arg8.view _ _ _ []).trans hs
  have l3 : bodyRun.sl.v683 c XW arg0 g0 fo = accLo (AL c XW (arg0.view.read (Elt F) g0) (accM.view.read (Elt F) fo) 3) :=
    (acc_loL accM.view _ _ _ _).trans (congrArg accLo h3)
  have r3 : bodyRun.sl.v693 c XW arg0 g0 fo = accHi (AL c XW (arg0.view.read (Elt F) g0) (accM.view.read (Elt F) fo) 3) :=
    (acc_hiL accM.view _ _ _ _).trans (congrArg accHi h3)
  have l6 : bodyRun.sl.v901 c XW arg0 g0 fo = accLo (AL c XW (arg0.view.read (Elt F) g0) (accM.view.read (Elt F) fo) 6) :=
    (acc_loL accM.view _ _ _ _).trans (congrArg accLo h6)
  have r6 : bodyRun.sl.v911 c XW arg0 g0 fo = accHi (AL c XW (arg0.view.read (Elt F) g0) (accM.view.read (Elt F) fo) 6) :=
    (acc_hiL accM.view _ _ _ _).trans (congrArg accHi h6)
  have l9 : bodyRun.sl.v1164 c XW arg0 g0 fo = accLo (AL c XW (arg0.view.read (Elt F) g0) (accM.view.read (Elt F) fo) 9) :=
    (acc_loL accM.view _ _ _ _).trans (congrArg accLo h9)
  have r9 : bodyRun.sl.v1178 c XW arg0 g0 fo = accHi (AL c XW (arg0.view.read (Elt F) g0) (accM.view.read (Elt F) fo) 9) :=
    (acc_hiL accM.view _ _ _ _).trans (congrArg accHi h9)
  have hG : ∀ k, k < 69 → xqBlk c (xqM.view.writes (Elt F) xqM.view.junk (bodyRun.sl.HQ_3 c arg0 g0)) k = XQ (arg0.view.read (Elt F) g0) k := fun k _ => gq_read c _ _ _ hq k
  isplitl [H0]; · iexact H0
  isplitl [H1]; · iexact H1
  isplitl [H2]; · iexact H2
  isplitl [H4]
  · iexists _; isplitl [H4]; · iexact H4
    ipureintro
    refine ⟨accM.view.read (Elt F) fo, arg4.view.read (Elt F) f4, ?_⟩
    rw [read_zC, show Scf.trips k0_t1_loop.lb k0_t1_loop.ub k0_t1_loop.st = 69 from trips1, zAt_congr c XW _ _ _ _ _ _ 69 hG]
    unfold ZF
    refine zAt_args c XW _ _ ((View.read_writes_full arg8.view _ _ _ []).trans hs) ((View.read_writes_full accM.view _ _ _ _).trans h9) ?_
    refine (View.read_writes_cons_put arg4.view f4 _ _ [] (show k0_off54 = ![0, 0] by decide +kernel)).trans ?_
    refine put_congr _ _ rfl ?_
    exact (congr (congr (congrArg k0_pay46 l9) w3) (wsc_readAt c arg1 _ 0 (show k0_off53 = ![0, 0] by decide +kernel) (by decide) _ _)).trans (p46 _ _ _)
  isplitl [H5]
  · iexists _; isplitl [H5]; · iexact H5
    ipureintro
    refine ⟨accM.view.read (Elt F) fo, arg5.view.read (Elt F) f5, ?_⟩
    rw [read_yC, show Scf.trips k0_t1_loop.lb k0_t1_loop.ub k0_t1_loop.st = 69 from trips1, yAt_congr c XW _ _ _ _ _ _ 69 hG]
    unfold YF Y9
    refine yAt_args c XW _ _ ((View.read_writes_full arg8.view _ _ _ []).trans hs) ((View.read_writes_full accM.view _ _ _ _).trans h9) ?_
    refine (View.read_writes_cons_put arg5.view f5 _ _ _ (show k0_off56 = ![0, 0] by decide +kernel)).trans ?_
    refine put_congr _ _ ?_ ((congr (congr (congrArg k0_pay47 r9) w3) (wsc_readAt c arg1 _ 12288 (show k0_off55 = ![0, 12288] by decide +kernel) (by decide) _ _)).trans (p47 _ _ _))
    refine (View.read_writes_cons_put arg5.view f5 _ _ _ rfl).trans ?_
    refine put_congr _ _ ?_ ((congr (congr (congrArg k0_pay35 r6) (congrArg k0_pay33 w2)) (congrArg k0_pay34 (wsc_readAt c arg1 _ 26112 rfl (by decide) _ _))).trans (p35 _ _ _))
    refine (View.read_writes_cons_put arg5.view f5 _ _ _ rfl).trans ?_
    refine put_congr _ _ ?_ ((congr (congr (congrArg k0_pay32 l6) w2) (wsc_readAt c arg1 _ 25600 rfl (by decide) _ _)).trans (p32 _ _ _))
    refine (View.read_writes_cons_put arg5.view f5 _ _ _ rfl).trans ?_
    refine put_congr _ _ ?_ ((congr (congr (congrArg k0_pay28 r3) w1) (wsc_readAt c arg1 _ 25088 rfl (by decide) _ _)).trans (p28 _ _ _))
    refine (View.read_writes_cons_put arg5.view f5 _ _ [] rfl).trans ?_
    refine put_congr _ _ rfl ((congr (congr (congrArg k0_pay27 l3) w1) (wsc_readAt c arg1 _ 24576 rfl (by decide) _ _)).trans (p27 _ _ _))
  isplitl [H6]
  · iexists _; isplitl [H6]; · iexact H6
    ipureintro
    refine (View.read_writes_full arg6.view _ _ _ []).trans ?_
    exact congr (congr (congr (congrArg k0_pay38 (congr (congr (congr (congr (congr (congrArg k0_pay36 (xq_cov c _ _ hq _ 0 rfl _)) (dt_cov c XW 0 _ _ rfl)) (xq_cov c _ _ hq _ 1 rfl _)) (dt_cov c XW 2048 _ _ rfl)) (xq_cov c _ _ hq _ 2 rfl _)) (dt_cov c XW 4096 _ _ rfl)))
      (congrArg k0_pay37 w2)) (wscD_readAt c arg1 _ g1)) (View.readAt_full _ _ _)
  isplitl [H7]
  · iexists _; isplitl [H7]; · iexact H7
    ipureintro
    refine cd_read c arg7 _ _ _ ?_
    refine cd_step _ 2 (by decide) _ rfl _ _ ((p18 _ _).trans (congr (congrArg k0_pay11 hs) (x_ldB c arg0 4096 _ g0))) _ ?_
    refine cd_step _ 1 (by decide) _ rfl _ _ ((p14 _ _).trans (congr (congrArg k0_pay11 hs) (x_ldB c arg0 2048 _ g0))) _ ?_
    refine cd_step _ 0 (by decide) _ rfl _ _ (congr (congrArg k0_pay11 hs) (x_ldB c arg0 0 _ g0)) _ ?_
    exact cd_nil _
  isplitl [H8]
  · iexists _; isplitl [H8]; · iexact H8
    ipureintro
    exact (View.read_writes_full arg8.view _ _ _ []).trans hs
  ihave Hring := (ring_end c XW) $$ [Hh Hsl]
  · isplitl [Hh]; · iexact Hh
    iexact Hsl
  icases Hring with ⟨Hh, ⟨Hc0, Hs0⟩, ⟨Hc1, Hs1⟩, ⟨Hc2, Hs2⟩, ⟨Hc3, Hs3⟩⟩
  isplitl [Hh Hdt]
  · isplitl [Hh]; · iexact Hh
    iexact Hdt
  isplitr [HW]
  · isplitl [Hs0]; · iexact Hs0
    isplitl [Hs1]; · iexact Hs1
    isplitl [Hs2]; · iexact Hs2
    isplitl [Hs3]; · iexact Hs3
    isplitl [Hc0]; · iexact Hc0
    isplitl [Hc1]; · iexact Hc1
    isplitl [Hc2]; · iexact Hc2
    isplitl [Hc3]; · iexact Hc3
    isplitl [Hdc]; · iexact Hdc
    isplitl [HQ]; · iexists _; iexact HQ
    isplitl [HO]; · iexists _; iexact HO
    iexists _; iexact HD
  iexists _; iexact HW
end Body
end Cert.Proof.In
end
-- ==== Proof.InTiles.lean ====
module

public import proofs.«01_k».proof.Defs
public import proofs.«01_k».proof.Proof.Gen.KernelIn.Launch
public import proofs.«01_k».proof.Proof.Gen.KernelIn.Skeleton
public import proofs.«01_k».proof.Proof.Gen.KernelIn.Loops
public import proofs.«01_k».proof.Proof.Gen.KernelIn.Points
public import Idealize.ShloMosaic.Lib.Pipeline.KitQuiescent
public import Idealize.ShloMosaic.Lib.Ring
public import Idealize.ShloMosaic.Lib.Ring.AtN
public import Idealize.ShloMosaic.Lib.Batch
public import Idealize.ShloMosaic.Lib.Affine
public import Idealize.ShloMosaic.Lib.Tactic
public import Idealize.ShloMosaic.Lib.ValueIdxCore
public import Idealize.ShloMosaic.Lib.VecWindow
public import Idealize.ShloMosaic.Lib.Pipeline.Value
public import proofs.«01_k».proof.Proof.InBody

@[expose] public section

noncomputable section

namespace Cert.Proof.In

open Cert.KernelIn Cert.KernelIn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UU nD τ) ℕ

section Tiles
variable (c : Dev nD) (XW : Buf (Elt F) (wM.view.loc (c : Thread nD τ)))

/-! ## The outputs tile by tile, whatever the buffers held before -/

/-- The accumulator of tile `q`: the three column blocks' products summed. -/
def TL (X : Vec F S72x6144 .bf16) (q : ℕ) : Vec F S72x1024 .f32 :=
  accStep c XW (XQ X 2) (3 * q + 2) (accStep c XW (XQ X 1) (3 * q + 1) (accStep c XW (XQ X 0) (3 * q) (constant S72x1024 .f32 0x00000000#32)))
/-- Tile `t` of the first output. -/
def zTile (X : Vec F S72x6144 .bf16) (W : Vec F S1x26816 .f32) (t : ℕ) : Vec F S72x512 .f32 :=
  k0_pay49 (accLo (TL c XW X (2 + t))) (SC X) (wscT W (512 * t))
/-- Tile `t` of the second output. -/
def yTile (X : Vec F S72x6144 .bf16) (W : Vec F S1x26816 .f32) (t : ℕ) : Vec F S72x512 .f32 :=
  k0_pay50 (if t < 24 then accHi (TL c XW X (2 + t)) else if t % 2 = 0 then accLo (TL c XW X ((t - 24) / 2)) else accHi (TL c XW X ((t - 24) / 2)))
    (SC X) (wscT W (12288 + 512 * t))
/-- The first output. -/
def ZV (X : Vec F S72x6144 .bf16) (W : Vec F S1x26816 .f32) : Vec F S72x12288 .f32 :=
  fun i => zTile c XW X W ((i 1).val / 512) (ix2 (i 0 : Fin 72) (⟨(i 1).val % 512, Nat.mod_lt _ (by decide)⟩ : Fin 512))
/-- The second output. -/
def YV (X : Vec F S72x6144 .bf16) (W : Vec F S1x26816 .f32) : Vec F S72x14336 .f32 :=
  fun i => yTile c XW X W ((i 1).val / 512) (ix2 (i 0 : Fin 72) (⟨(i 1).val % 512, Nat.mod_lt _ (by decide)⟩ : Fin 512))

/-- The first chunk of a tile replaces the accumulator. -/
theorem first_any (G : Vec F S1x72x2048 .bf16) (q : ℕ) (A A' : Vec F S72x1024 .f32) : accStep c XW G (3 * q) A = accStep c XW G (3 * q) A' := by
  unfold accStep
  rw [show 3 * q % 3 = 0 by omega]
  rfl
theorem XQ_mod (X : Vec F S72x6144 .bf16) (i j : ℕ) (h : i % 3 = j % 3) : XQ X i = XQ X j := by unfold XQ; rw [h]
/-- After its third chunk a tile's accumulator is whole. -/
theorem AL_tile (X : Vec F S72x6144 .bf16) (A0 : Vec F S72x1024 .f32) (q : ℕ) : AL c XW X A0 (3 * q + 3) = TL c XW X q := by
  show accStep c XW (XQ X (3 * q + 2)) (3 * q + 2) (accStep c XW (XQ X (3 * q + 1)) (3 * q + 1) (accStep c XW (XQ X (3 * q)) (3 * q) (AL c XW X A0 (3 * q)))) = _
  rw [XQ_mod X (3 * q + 2) 2 (by omega), XQ_mod X (3 * q + 1) 1 (by omega), XQ_mod X (3 * q) 0 (by omega), first_any c XW _ q (AL c XW X A0 (3 * q)) (constant S72x1024 .f32 0x00000000#32)]
  rfl
theorem accAt_AL (X : Vec F S72x6144 .bf16) (A0 : Vec F S72x1024 .f32) (n : ℕ) : accAt c XW (XQ X) (AL c XW X A0 9) n = AL c XW X A0 (9 + n) := by
  induction n with
  | zero => rfl
  | succ n ih =>
    show accStep c XW (XQ X n) (9 + n) (accAt c XW (XQ X) (AL c XW X A0 9) n) = accStep c XW (XQ X (9 + n)) (9 + n) (AL c XW X A0 (9 + n))
    rw [ih, XQ_mod X n (9 + n) (by omega)]

omit [FloatOps F] in
theorem put_z (Z : Vec F S72x12288 .f32) (o : ℕ) (w : Vec F S72x512 .f32) (i : S72x12288.Idx) :
    VecWindow.put (s := S72x12288) Z ![0, o] S72x512.size w i
      = if o ≤ (i 1).val ∧ (i 1).val < o + 512 then w (ix2 (i 0 : Fin 72) (⟨((i 1).val - o) % 512, Nat.mod_lt _ (by decide)⟩ : Fin 512)) else Z i := by
  have h0 : (i 0).val < 72 := (i 0).isLt
  unfold VecWindow.put
  by_cases h : o ≤ (i 1).val ∧ (i 1).val < o + 512
  · have H : ∀ a : Fin 2, (![0, o] : Fin 2 → ℕ) a ≤ (i a).val ∧ (i a).val < (![0, o] : Fin 2 → ℕ) a + S72x512.size a := by
      intro a; fin_cases a
      · exact ⟨Nat.zero_le _, by show (i 0).val < 0 + 72; omega⟩
      · exact h
    rw [dif_pos H, if_pos h]
    refine congrArg w (funext fun a => Fin.ext ?_)
    fin_cases a
    · show (i 0).val - 0 = (i 0).val; omega
    · show (i 1).val - o = ((i 1).val - o) % 512; rw [Nat.mod_eq_of_lt (by omega)]
  · rw [dif_neg (fun H => h (H 1)), if_neg h]

omit [FloatOps F] in
theorem put_y (Y : Vec F S72x14336 .f32) (o : ℕ) (w : Vec F S72x512 .f32) (i : S72x14336.Idx) :
    VecWindow.put (s := S72x14336) Y ![0, o] S72x512.size w i
      = if o ≤ (i 1).val ∧ (i 1).val < o + 512 then w (ix2 (i 0 : Fin 72) (⟨((i 1).val - o) % 512, Nat.mod_lt _ (by decide)⟩ : Fin 512)) else Y i := by
  have h0 : (i 0).val < 72 := (i 0).isLt
  unfold VecWindow.put
  by_cases h : o ≤ (i 1).val ∧ (i 1).val < o + 512
  · have H : ∀ a : Fin 2, (![0, o] : Fin 2 → ℕ) a ≤ (i a).val ∧ (i a).val < (![0, o] : Fin 2 → ℕ) a + S72x512.size a := by
      intro a; fin_cases a
      · exact ⟨Nat.zero_le _, by show (i 0).val < 0 + 72; omega⟩
      · exact h
    rw [dif_pos H, if_pos h]
    refine congrArg w (funext fun a => Fin.ext ?_)
    fin_cases a
    · show (i 0).val - 0 = (i 0).val; omega
    · show (i 1).val - o = ((i 1).val - o) % 512; rw [Nat.mod_eq_of_lt (by omega)]
  · rw [dif_neg (fun H => h (H 1)), if_neg h]

theorem zAt_eq (X : Vec F S72x6144 .bf16) (W : Vec F S1x26816 .f32) (A0 : Vec F S72x1024 .f32) (Z0 : Vec F S72x12288 .f32) (n : ℕ) (i : S72x12288.Idx) :
    zAt c XW (XQ X) W (SC X) (AL c XW X A0 9) (VecWindow.put (s := S72x12288) Z0 ![0, 0] S72x512.size (k0_pay49 (accLo (AL c XW X A0 9)) (SC X) (wscT W 0))) n i
      = if (i 1).val < 512 * (n / 3 + 1) then ZV c XW X W i else Z0 i := by
  induction n with
  | zero =>
    show VecWindow.put (s := S72x12288) Z0 ![0, 0] S72x512.size _ i = _
    rw [put_z, AL_tile c XW X A0 2]
    by_cases h : (i 1).val < 512
    · rw [if_pos ⟨Nat.zero_le _, by omega⟩, if_pos (by omega)]
      unfold ZV zTile
      rw [show (i 1).val / 512 = 0 by omega]
      rfl
    · rw [if_neg (by omega), if_neg (by omega)]
  | succ n ih =>
    show zStep W (SC X) (accAt c XW (XQ X) (AL c XW X A0 9) (n + 1)) n _ i = _
    unfold zStep
    by_cases hn : n % 3 = 2
    · rw [if_pos hn, put_z, ih, accAt_AL, show 9 + (n + 1) = 3 * (2 + (n / 3 + 1)) + 3 by omega, AL_tile]
      by_cases h : 512 * (n / 3 + 1) ≤ (i 1).val ∧ (i 1).val < 512 * (n / 3 + 1) + 512
      · rw [if_pos h, if_pos (by omega)]
        unfold ZV zTile
        rw [show (i 1).val / 512 = n / 3 + 1 by omega]
        refine congrArg _ (congrArg (ix2 (i 0 : Fin 72)) (Fin.ext ?_))
        show ((i 1).val - 512 * (n / 3 + 1)) % 512 = (i 1).val % 512
        omega
      · rw [if_neg h]
        by_cases h2 : (i 1).val < 512 * (n / 3 + 1)
        · rw [if_pos h2, if_pos (by omega)]
        · rw [if_neg h2, if_neg (by omega)]
    · rw [if_neg hn, ih, show (n + 1) / 3 = n / 3 by omega]
/-- The first output does not depend on what the buffers held. -/
theorem ZF_eq (X : Vec F S72x6144 .bf16) (W : Vec F S1x26816 .f32) (A0 : Vec F S72x1024 .f32) (Z0 : Vec F S72x12288 .f32) : ZF c XW X W A0 Z0 = ZV c XW X W := by
  funext i
  have h1 : (i 1).val < 12288 := (i 1).isLt
  exact (zAt_eq c XW X W A0 Z0 69 i).trans (if_pos (by omega))

/-- The second output after the head: its last four tiles and its first. -/
theorem Y9_eq (X : Vec F S72x6144 .bf16) (W : Vec F S1x26816 .f32) (A0 : Vec F S72x1024 .f32) (Y0 : Vec F S72x14336 .f32) (i : S72x14336.Idx) :
    Y9 c XW X W A0 Y0 i = if (i 1).val < 512 ∨ 12288 ≤ (i 1).val then YV c XW X W i else Y0 i := by
  have h1 : (i 1).val < 14336 := (i 1).isLt
  unfold Y9
  rw [put_y, put_y, put_y, put_y, put_y, AL_tile c XW X A0 0, AL_tile c XW X A0 1, AL_tile c XW X A0 2]
  have key : ∀ t : ℕ, (i 1).val / 512 = t → YV c XW X W i = yTile c XW X W t (ix2 (i 0 : Fin 72) (⟨(i 1).val % 512, Nat.mod_lt _ (by decide)⟩ : Fin 512)) := by
    intro t ht; subst ht; rfl
  have e : ∀ (o : ℕ), o % 512 = 0 → o ≤ (i 1).val → ((ix2 (i 0 : Fin 72) (⟨((i 1).val - o) % 512, Nat.mod_lt _ (by decide)⟩ : Fin 512)) : S72x512.Idx) = ix2 (i 0 : Fin 72) (⟨(i 1).val % 512, Nat.mod_lt _ (by decide)⟩ : Fin 512) := by
    intro o ho hle
    refine congrArg (ix2 (i 0 : Fin 72)) (Fin.ext ?_)
    show ((i 1).val - o) % 512 = (i 1).val % 512
    omega
  by_cases a0 : (i 1).val < 512
  · rw [if_pos ⟨Nat.zero_le _, by omega⟩, if_pos (by omega), key 0 (by omega)]; rfl
  by_cases a1 : (i 1).val < 12288
  · rw [if_neg (by omega), if_neg (by omega), if_neg (by omega), if_neg (by omega), if_neg (by omega), if_neg (by omega)]
  rw [if_neg (by omega)]
  by_cases a2 : 13824 ≤ (i 1).val
  · rw [if_pos (by omega), if_pos (by omega), key 27 (by omega), e 13824 (by decide) a2]; rfl
  rw [if_neg (by omega)]
  by_cases a3 : 13312 ≤ (i 1).val
  · rw [if_pos (by omega), if_pos (by omega), key 26 (by omega), e 13312 (by decide) a3]; rfl
  rw [if_neg (by omega)]
  by_cases a4 : 12800 ≤ (i 1).val
  · rw [if_pos (by omega), if_pos (by omega), key 25 (by omega), e 12800 (by decide) a4]; rfl
  rw [if_neg (by omega), if_pos (by omega), if_pos (by omega), key 24 (by omega), e 12288 (by decide) (by omega)]; rfl

theorem yAt_eq (X : Vec F S72x6144 .bf16) (W : Vec F S1x26816 .f32) (A0 : Vec F S72x1024 .f32) (Y0 : Vec F S72x14336 .f32) (n : ℕ) (hn69 : n ≤ 69) (i : S72x14336.Idx) :
    yAt c XW (XQ X) W (SC X) (AL c XW X A0 9) (Y9 c XW X W A0 Y0) n i
      = if (i 1).val < 512 * (n / 3 + 1) ∨ 12288 ≤ (i 1).val then YV c XW X W i else Y0 i := by
  induction n with
  | zero => exact Y9_eq c XW X W A0 Y0 i
  | succ n ih =>
    show yStep W (SC X) (accAt c XW (XQ X) (AL c XW X A0 9) (n + 1)) n _ i = _
    unfold yStep
    by_cases hn : n % 3 = 2
    · rw [if_pos hn, put_y, ih (by omega), accAt_AL, show 9 + (n + 1) = 3 * (2 + (n / 3 + 1)) + 3 by omega, AL_tile]
      by_cases h : 512 * (n / 3 + 1) ≤ (i 1).val ∧ (i 1).val < 512 * (n / 3 + 1) + 512
      · rw [if_pos h, if_pos (by omega)]
        unfold YV yTile
        rw [show (i 1).val / 512 = n / 3 + 1 by omega, if_pos (show n / 3 + 1 < 24 by omega)]
        refine congrArg _ (congrArg (ix2 (i 0 : Fin 72)) (Fin.ext ?_))
        show ((i 1).val - 512 * (n / 3 + 1)) % 512 = (i 1).val % 512
        omega
      · rw [if_neg h]
        by_cases h2 : (i 1).val < 512 * (n / 3 + 1) ∨ 12288 ≤ (i 1).val
        · rw [if_pos h2, if_pos (by omega)]
        · rw [if_neg h2, if_neg (by omega)]
    · rw [if_neg hn, ih (by omega), show (n + 1) / 3 = n / 3 by omega]
/-- The second output does not depend on what the buffers held. -/
theorem YF_eq (X : Vec F S72x6144 .bf16) (W : Vec F S1x26816 .f32) (A0 : Vec F S72x1024 .f32) (Y0 : Vec F S72x14336 .f32) : YF c XW X W A0 Y0 = YV c XW X W := by
  funext i
  have h1 : (i 1).val < 14336 := (i 1).isLt
  exact (yAt_eq c XW X W A0 Y0 69 le_rfl i).trans (if_pos (by omega))
end Tiles
end Cert.Proof.In
end
-- ==== Proof.InLaunch.lean ====
module

public import proofs.«01_k».proof.Proof.InTiles

@[expose] public section

noncomputable section

namespace Cert.Proof.In

open Cert.KernelIn Cert.KernelIn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

private theorem entails_of_eq {P Q : sProp 𝕄} (e : P = Q) : P ⊢ Q := e ▸ .rfl

/-! ## The launch: the one region on every core -/

/-- A buffer's contents when the call is entered: after the host operations before it. -/
abbrev V (c : Dev nD) (b : Ref sig .tc) : Buf (Elt F) ((c : Thread nD τ).loc b) := StableHlo.after hostOps0 (fun b => m (c, b)) b
/-- The transposed weight's, as the chunks read it. -/
abbrev XA (c : Dev nD) : Buf (Elt F) (wM.view.loc (c : Thread nD τ)) := V m c main_v3

theorem hostOps0_fresh : (hostOps0 : List (HloOp τ sig (Elt F))).Forall fun op => op.fresh = ∅ := by
  simp only [List.Forall]; repeat' constructor
set_option maxHeartbeats 800000 in
/-- The program up to the call: the host operations, then the call. -/
theorem hmain (𝒱₀ : Variants) : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain
/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The kernel's own semaphores: the four slots' cells and the dt rows' cell. -/
abbrev osem : Fin 5 → SemLoc sig := fun | 0 => .dma (csm 0).sem | 1 => .dma (csm 1).sem | 2 => .dma (csm 2).sem | 3 => .dma (csm 3).sem | 4 => .dma dsm.sem
theorem ownSemFacts : Pipeline.OwnSemFacts spec0 osem := by decide

/-! ## Element sets: the weight's 78 chunks of two halves and its dt rows, the ring's four slots -/

abbrev KB (b : Fin 78) : Finset S26816x6144.Idx := G156 b 0 ∪ G156 b 1
abbrev KD : Finset S26816x6144.Idx := Finset.univ.filter fun y => 26624 ≤ (y 0).val

theorem mem_K2 (b : Fin 78) (i : Fin 2) (y : S26816x6144.Idx) : y ∈ G156 b i
    ↔ (rowOff b.val i.val ≤ (y 0).val ∧ (y 0).val < rowOff b.val i.val + 512) ∧ (2048 * (b.val % 3) ≤ (y 1).val ∧ (y 1).val < 2048 * (b.val % 3) + 2048) := by
  rw [Rect.mem_set_unit]
  constructor
  · intro H; exact ⟨H 0, H 1⟩
  · intro H i; fin_cases i
    · exact H.1
    · exact H.2
theorem mem_KB (b : Fin 78) (y : S26816x6144.Idx) : y ∈ KB b
    ↔ ((rowOff b.val 0 ≤ (y 0).val ∧ (y 0).val < rowOff b.val 0 + 512) ∨ (rowOff b.val 1 ≤ (y 0).val ∧ (y 0).val < rowOff b.val 1 + 512))
      ∧ (2048 * (b.val % 3) ≤ (y 1).val ∧ (y 1).val < 2048 * (b.val % 3) + 2048) := by
  rw [Finset.mem_union, mem_K2, mem_K2]
  show (((rowOff b.val 0 ≤ _ ∧ _) ∧ _) ∨ ((rowOff b.val 1 ≤ _ ∧ _) ∧ _)) ↔ _
  tauto
theorem K2_disjoint (b : Fin 78) : Disjoint (G156 b 0) (G156 b 1) := by
  rw [Finset.disjoint_left]; intro y hy hy'; rw [mem_K2] at hy hy'
  obtain ⟨⟨h1, h2⟩, -⟩ := hy; obtain ⟨⟨h3, h4⟩, -⟩ := hy'
  have := b.isLt
  have z : ((0 : Fin 2).val) = 0 := rfl
  have o : ((1 : Fin 2).val) = 1 := rfl
  rw [z] at h1 h2; rw [o] at h3 h4
  unfold rowOff at h1 h2 h3 h4
  split at h1 <;> rename_i hc <;> simp only [hc, if_true, if_false] at h2 h3 h4 <;> omega
/-- Which chunk an element of the weight's first 26624 rows belongs to. -/
def own (r cl : ℕ) : ℕ := if r < 12288 then 3 * (2 + r / 512) + cl / 2048 else if r < 24576 then 3 * (2 + (r - 12288) / 512) + cl / 2048 else 3 * ((r - 24576) / 1024) + cl / 2048
theorem own_of_mem (b : Fin 78) (y : S26816x6144.Idx) (h : y ∈ KB b) : (y 0).val < 26624 ∧ own (y 0).val (y 1).val = b.val := by
  rw [mem_KB] at h
  have := b.isLt
  unfold own
  by_cases hb : b.val < 6
  · have e0 : rowOff b.val 0 = 24576 + 1024 * (b.val / 3) := by unfold rowOff; rw [if_pos hb]; rfl
    have e1 : rowOff b.val 1 = 24576 + 1024 * (b.val / 3) + 512 := by unfold rowOff; rw [if_pos hb]
    rw [e0, e1] at h
    rw [if_neg (by omega), if_neg (by omega)]
    omega
  · have e0 : rowOff b.val 0 = 512 * (b.val / 3 - 2) := by unfold rowOff; rw [if_neg hb]; rfl
    have e1 : rowOff b.val 1 = 512 * (b.val / 3 - 2) + 12288 := by unfold rowOff; rw [if_neg hb]
    rw [e0, e1] at h
    by_cases h1 : (y 0).val < 12288
    · rw [if_pos h1]; omega
    · rw [if_neg h1, if_pos (by omega)]; omega
theorem KB_disjoint : ∀ b ∈ (Finset.univ : Finset (Fin 78)), ∀ b' ∈ (Finset.univ : Finset (Fin 78)), b ≠ b' → Disjoint (KB b) (KB b') := by
  intro b _ b' _ hne; rw [Finset.disjoint_left]; intro y hy hy'
  exact hne (Fin.ext ((own_of_mem b y hy).2.symm.trans (own_of_mem b' y hy').2))
theorem KD_disjoint : Disjoint ((Finset.univ : Finset (Fin 78)).biUnion KB) KD := by
  rw [Finset.disjoint_left]; intro y hy hy'
  obtain ⟨b, -, hb⟩ := Finset.mem_biUnion.mp hy
  have h1 := (own_of_mem b y hb).1
  have h2 : 26624 ≤ (y 0).val := (Finset.mem_filter.mp hy').2
  omega
theorem K_cover : (Finset.univ : Finset (Fin 78)).biUnion KB ∪ KD = Finset.univ := by
  ext y; simp only [Finset.mem_univ, iff_true, Finset.mem_union]
  have h0 : (y 0).val < 26816 := (y 0).isLt
  have h1 : (y 1).val < 6144 := (y 1).isLt
  by_cases hd : 26624 ≤ (y 0).val
  · exact Or.inr (Finset.mem_filter.mpr ⟨Finset.mem_univ _, hd⟩)
  refine Or.inl (Finset.mem_biUnion.mpr ?_)
  by_cases ha : (y 0).val < 12288
  · refine ⟨⟨3 * (2 + (y 0).val / 512) + (y 1).val / 2048, by omega⟩, Finset.mem_univ _, ?_⟩
    rw [mem_KB]; dsimp only; unfold rowOff
    rw [if_neg (by omega), if_neg (by omega)]; omega
  by_cases hb : (y 0).val < 24576
  · refine ⟨⟨3 * (2 + ((y 0).val - 12288) / 512) + (y 1).val / 2048, by omega⟩, Finset.mem_univ _, ?_⟩
    rw [mem_KB]; dsimp only; unfold rowOff
    rw [if_neg (by omega), if_neg (by omega)]; omega
  · refine ⟨⟨3 * (((y 0).val - 24576) / 1024) + (y 1).val / 2048, by omega⟩, Finset.mem_univ _, ?_⟩
    rw [mem_KB]; dsimp only; unfold rowOff
    rw [if_pos (by omega), if_pos (by omega)]; omega
omit [FloatOps F] in
theorem dt_set : (dtM : Memref sig .tc .hbm _ _).view.set = KD := by
  refine (View.set_slice_whole _ _).trans ?_
  ext y
  have h0 : (y 0).val < 26816 := (y 0).isLt
  have h1 : (y 1).val < 6144 := (y 1).isLt
  rw [Rect.mem_set_unit, Finset.mem_filter]
  constructor
  · intro H; exact ⟨Finset.mem_univ _, (H 0).1⟩
  · intro H i; have H2 := H.2; fin_cases i
    · show 26624 ≤ (y 0).val ∧ (y 0).val < 26624 + 192; omega
    · show 0 ≤ (y 1).val ∧ (y 1).val < 0 + 6144; omega

theorem union_eq {ℓ : Loc nD τ sig} {I J : Finset (Idx ℓ)} (h : Disjoint I J) (f : Buf (Elt F) ℓ) :
    (ℓ ↦[I ∪ J]{fullShare} f : sProp 𝕄) = iprop((ℓ ↦[I]{fullShare} f) ∗ ℓ ↦[J]{fullShare} f) :=
  Entails.antisymm (pointsTo_union h).1 (pointsTo_union h).2
/-- The transposed weight whole is its 78 chunks and its dt rows. -/
theorem w_eq (c : Dev nD) (f : Buf (Elt F) (wM.view.loc (c : Thread nD τ))) :
    (((c : Thread nD τ).loc main_v3) ↦{fullShare} f : sProp 𝕄) = iprop(bigSep Finset.univ (homeP c f) ∗ dtP c f) := by
  have e : (((c : Thread nD τ).loc main_v3) ↦{fullShare} f : sProp 𝕄) = (((c : Thread nD τ).loc main_v3) ↦[(Finset.univ : Finset (Fin 78)).biUnion KB ∪ KD]{fullShare} f : sProp 𝕄) :=
    congrArg (fun S => (((c : Thread nD τ).loc main_v3) ↦[S]{fullShare} f : sProp 𝕄)) K_cover.symm
  have e2 : (((c : Thread nD τ).loc main_v3) ↦[(Finset.univ : Finset (Fin 78)).biUnion KB]{fullShare} f : sProp 𝕄) = bigSep Finset.univ (homeP c f) := by
    refine (pointsTo_biUnion (ℓ := (c : Thread nD τ).loc main_v3) Finset.univ KB KB_disjoint).trans (bigSep_congr fun b _ => ?_)
    refine (union_eq (ℓ := (c : Thread nD τ).loc main_v3) (K2_disjoint b) f).trans ?_
    rw [← blk_set, ← blk_set]; rfl
  have e3 : (((c : Thread nD τ).loc main_v3) ↦[KD]{fullShare} f : sProp 𝕄) = dtP c f := by rw [← dt_set]
  exact e.trans ((union_eq (ℓ := (c : Thread nD τ).loc main_v3) KD_disjoint f).trans (by rw [e2, e3]))

theorem S4s_disjoint : ∀ s s' : Fin 4, s ≠ s' → Disjoint (S4s s) (S4s s') := by
  intro s s' hne; rw [Finset.disjoint_left]; intro y hy hy'; rw [mem_S4s] at hy hy'; exact hne (Fin.ext (hy.symm.trans hy'))
theorem S4s_cover : (Finset.univ : Finset (Fin 4)).biUnion S4s = Finset.univ := by
  ext y; simp only [Finset.mem_biUnion, Finset.mem_univ, true_and, iff_true]; exact ⟨(y 0).cast (by decide), by rw [mem_S4s]; rfl⟩

omit [FloatOps F] in
theorem slotP_eq (c : Dev nD) (s : Fin 4) (f) : slotP c s f = (((c : Thread nD τ).loc cc0_scratch1) ↦[S4s s]{fullShare} f : sProp 𝕄) :=
  congrArg (fun S => (_ ↦[S]{fullShare} f : sProp 𝕄)) (rslot_set s)
/-- The ring's buffer whole is its four slots, and back. -/
theorem buf_split (c : Dev nD) :
    iprop(∃ f : Buf (Elt F) ((c : Thread nD τ).loc cc0_scratch1), ((c : Thread nD τ).loc cc0_scratch1) ↦{fullShare} f)
      ⊢ (iprop((∃ f, slotP c 0 f) ∗ (∃ f, slotP c 1 f) ∗ (∃ f, slotP c 2 f) ∗ ∃ f, slotP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) S4s S4s_disjoint S4s_cover f).trans (Ring.bigSep_fin4 _))) $$ H
  icases H2 with ⟨H0, H1, H2, H3⟩
  isplitl [H0]
  · iexists f; iapply (entails_of_eq (slotP_eq c 0 f).symm); iexact H0
  isplitl [H1]
  · iexists f; iapply (entails_of_eq (slotP_eq c 1 f).symm); iexact H1
  isplitl [H2]
  · iexists f; iapply (entails_of_eq (slotP_eq c 2 f).symm); iexact H2
  · iexists f; iapply (entails_of_eq (slotP_eq c 3 f).symm); iexact H3
theorem buf_join (c : Dev nD) :
    iprop((∃ f, slotP c 0 f) ∗ (∃ f, slotP c 1 f) ∗ (∃ f, slotP c 2 f) ∗ ∃ f, slotP c 3 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch1) S4s S4s_disjoint S4s_cover f0)
  irw [Ring.bigSep_fin4]
  isplitl [H0]
  · iexists f0; iapply (entails_of_eq (slotP_eq c 0 f0)); iexact H0
  isplitl [H1]
  · iexists f1; iapply (entails_of_eq (slotP_eq c 1 f1)); iexact H1
  isplitl [H2]
  · iexists f2; iapply (entails_of_eq (slotP_eq c 2 f2)); iexact H2
  · iexists f3; iapply (entails_of_eq (slotP_eq c 3 f3)); iexact H3

omit [FloatOps F] in
/-- A scratch buffer whole, as its memref states it. -/
theorem xq_whole (c : Dev nD) (f) : xqP c f = (((c : Thread nD τ).loc cc0_scratch0) ↦{fullShare} f : sProp 𝕄) :=
  congrArg (fun S => (_ ↦[S]{fullShare} f : sProp 𝕄)) (View.set_whole _)
omit [FloatOps F] in
/-- A scratch buffer whole, as its memref states it. -/
theorem wdt_whole (c : Dev nD) (f) : wdtP c f = (((c : Thread nD τ).loc cc0_scratch2) ↦{fullShare} f : sProp 𝕄) :=
  congrArg (fun S => (_ ↦[S]{fullShare} f : sProp 𝕄)) (View.set_whole _)
omit [FloatOps F] in
/-- A scratch buffer whole, as its memref states it. -/
theorem acc_whole (c : Dev nD) (f) : accP c f = (((c : Thread nD τ).loc cc0_scratch3) ↦{fullShare} f : sProp 𝕄) :=
  congrArg (fun S => (_ ↦[S]{fullShare} f : sProp 𝕄)) (View.set_whole _)

/-- The kernel's own cells at zero. -/
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2 ∗ cellP c 3 ∗ dcellP c) := by
  unfold Pipeline.ownSems0
  exact bigSep_univ_eq_bigSepL [(0 : Fin 5), (1 : Fin 5), (2 : Fin 5), (3 : Fin 5), (4 : Fin 5)] (by decide) (by decide) _

/-! ## The pipeline's proof data -/

/-- The region invariant, the same before and after the one point: the weight home, the kernel's own buffers at
    anything, its cells at zero. -/
def Φ (c : Dev nD) : sProp 𝕄 := iprop((bigSep Finset.univ (homeP c (XA m c)) ∗ dtP c (XA m c)) ∗ OWN c)

/-- Window `w`'s block at point `t`, read off its array at launch. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => ZV c (XA m c) (iblk m c 0 t) (iblk m c 1 t)
    | ⟨4, _⟩ => YV c (XA m c) (iblk m c 0 t) (iblk m c 1 t)
    | ⟨5, _⟩ => DT c (XA m c) (iblk m c 0 t) (iblk m c 1 t) (iblk m c 2 t)
    | ⟨6, _⟩ => CODES (iblk m c 0 t)
    | ⟨7, _⟩ => SC (iblk m c 0 t)
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = ZV c (XA m c) (iblk m c 0 t) (iblk m c 1 t) := by dsimp only [dats]
theorem after_w4 (c : Dev nD) (t : Fin cfg0.N) : (dats m 0 c).after 4 t = YV c (XA m c) (iblk m c 0 t) (iblk m c 1 t) := by dsimp only [dats]
theorem after_w5 (c : Dev nD) (t : Fin cfg0.N) : (dats m 0 c).after 5 t = DT c (XA m c) (iblk m c 0 t) (iblk m c 1 t) (iblk m c 2 t) := by dsimp only [dats]
theorem after_w6 (c : Dev nD) (t : Fin cfg0.N) : (dats m 0 c).after 6 t = CODES (iblk m c 0 t) := by dsimp only [dats]
theorem after_w7 (c : Dev nD) (t : Fin cfg0.N) : (dats m 0 c).after 7 t = SC (iblk m c 0 t) := by dsimp only [dats]

/-! ## The body obligation -/

/-- The body table's entry is the kernel on the point's staging memrefs. -/
theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (win0_6.stage (a.2 6)) (hstage0_6 0) (win0_7.stage (a.2 7)) (hstage0_7 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2, after_w3, after_w4, after_w5, after_w6, after_w7]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hh, HOWN⟩, ⟨%W, -, HW⟩, ⟨%d0, %g0, %hg0, H0⟩, ⟨%d1, %g1, %hg1, H1⟩, ⟨%d2, %g2, %hg2, H2⟩, ⟨%d3, %g3, -, H3⟩, ⟨%d4, %g4, -, H4⟩, ⟨%d5, %g5, -, H5⟩, ⟨%d6, %g6, -, H6⟩, ⟨%d7, %g7, -, H7⟩⟩
  sl_rw [prog_eq t]
  iapply (bodyRun c (XA m c) (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) g0 g1 g2 W)
  isplitl [H0 H1 H2 H3 H4 H5 H6 H7 Hh HOWN HW]
  · isplitl [H0]; · iexact H0
    isplitl [H1]; · iexact H1
    isplitl [H2]; · iexact H2
    isplitl [H3]; · iexists g3; iexact H3
    isplitl [H4]; · iexists g4; iexact H4
    isplitl [H5]; · iexists g5; iexact H5
    isplitl [H6]; · iexists g6; iexact H6
    isplitl [H7]; · iexists g7; iexact H7
    isplitl [Hh]; · iexact Hh
    isplitl [HOWN]; · iexact HOWN
    iexact HW
  · iintro ⟨H0, H1, H2, ⟨%f3, H3, %h3⟩, ⟨%f4, H4, %h4⟩, ⟨%f5, H5, %h5⟩, ⟨%f6, H6, %h6⟩, ⟨%f7, H7, %h7⟩, Hh, HOWN, ⟨%W', HW⟩⟩
    obtain ⟨A3, Z3, h3⟩ := h3
    obtain ⟨A4, Z4, h4⟩ := h4
    isplitl [Hh HOWN]
    · isplitl [Hh]; · iexact Hh
      iexact HOWN
    isplitl [HW]
    · iexists W'; isplitr; · ipureintro; exact fun _ _ => Or.inl trivial
      iexact HW
    isplitl [H0]
    · iexists g0; isplitr; · ipureintro; exact hg0
      iexact H0
    isplitl [H1]
    · iexists g1; isplitr; · ipureintro; exact hg1
      iexact H1
    isplitl [H2]
    · iexists g2; isplitr; · ipureintro; exact hg2
      iexact H2
    isplitl [H3]
    · iexists f3; isplitr; · ipureintro; exact (h3.trans (ZF_eq c (XA m c) _ _ A3 Z3)).trans (congrArg₂ (ZV c (XA m c)) hg0 hg1)
      iexact H3
    isplitl [H4]
    · iexists f4; isplitr; · ipureintro; exact (h4.trans (YF_eq c (XA m c) _ _ A4 Z4)).trans (congrArg₂ (YV c (XA m c)) hg0 hg1)
      iexact H4
    isplitl [H5]
    · iexists f5; isplitr; · ipureintro; exact h5.trans (congr (congrArg₂ (DT c (XA m c)) hg0 hg1) hg2)
      iexact H5
    isplitl [H6]
    · iexists f6; isplitr; · ipureintro; exact h6.trans (congrArg CODES hg0)
      iexact H6
    · iexists f7; isplitr; · ipureintro; exact h7.trans (congrArg SC hg0)
      iexact H7

/-! ## The run -/

def intoΦ (c : Dev nD) : sProp 𝕄 := iprop((bigSep Finset.univ (homeP c (XA m c)) ∗ dtP c (XA m c)) ∗ Pipeline.ownSems0 osem c)
def outOfΦ (c : Dev nD) : sProp 𝕄 := ((c : Thread nD τ).loc main_v3) ↦{fullShare} XA m c
def besides (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3))
def u₀ : UU nD τ := (initOf (Pipeline.cells cfgs Cert.KernelIn.Gen.cellOf_inj) (Pipeline.launchToks cfgs Cert.KernelIn.Gen.cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3)
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- For any float values, from any memory with zero counters: every weakly fair execution of @main on the TensorCores
    terminates, and every final state has each window's array at its computed contents, the arguments unchanged, every
    semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain m 𝒱₀)
    (hA := fun _ _ => rfl)
    (X := intoΦ m) (Y := outOfΦ m) (Z := besides m)
    (hX := fun c => by
      rw [unscopedRest0_eq, w_eq c (XA m c)]
      unfold intoΦ besides
      iintro ⟨⟨A0, A1, A2, A3, H0⟩, HS, -, -, -⟩; imodintro
      isplitl [H0 HS]
      · isplitl [H0]; · iexact H0
        iexact HS
      isplitl [A0]; · iexact A0
      isplitl [A1]; · iexact A1
      isplitl [A2]; · iexact A2
      iexact A3)
    (hin := fun c => by
      rw [scopedRest0_eq, show (dats m 0 c).Φ 0 = Φ m c from rfl]
      unfold intoΦ Φ; rw [ownSems0_eq]
      iintro ⟨⟨H0, Hc0, Hc1, Hc2, Hc3, Hcd⟩, ⟨%f1, Hm⟩, Hb, ⟨%f2, Hq⟩, ⟨%f3, Ha⟩⟩
      ihave Hs := (buf_split c) $$ Hb
      icases Hs with ⟨Hs0, Hs1, Hs2, Hs3⟩
      isplitl [H0]; · iexact H0
      isplitl [Hs0]; · iexact Hs0
      isplitl [Hs1]; · iexact Hs1
      isplitl [Hs2]; · iexact Hs2
      isplitl [Hs3]; · iexact Hs3
      isplitl [Hc0]; · iexact Hc0
      isplitl [Hc1]; · iexact Hc1
      isplitl [Hc2]; · iexact Hc2
      isplitl [Hc3]; · iexact Hc3
      isplitl [Hcd]; · iexact Hcd
      isplitl [Hm]; · iexists f1; iapply (entails_of_eq (xq_whole c f1).symm); iexact Hm
      isplitl [Ha]; · iexists f3; iapply (entails_of_eq (acc_whole c f3).symm); iexact Ha
      iexists f2; iapply (entails_of_eq (wdt_whole c f2).symm); iexact Hq)
    (hout := fun c => by
      rw [scopedRest0_eq, show (dats m 0 c).Φ (Fin.last cfg0.N) = Φ m c from rfl, ownSems0_eq]
      unfold Φ outOfΦ; rw [w_eq c (XA m c)]
      iintro ⟨H0, Hs0, Hs1, Hs2, Hs3, Hc0, Hc1, Hc2, Hc3, Hcd, ⟨%f1, Hm⟩, ⟨%f3, Ha⟩, ⟨%f2, Hq⟩⟩
      isplitl [H0]; · iexact H0
      isplitl [Hc0 Hc1 Hc2 Hc3 Hcd]
      · isplitl [Hc0]; · iexact Hc0
        isplitl [Hc1]; · iexact Hc1
        isplitl [Hc2]; · iexact Hc2
        isplitl [Hc3]; · iexact Hc3
        iexact Hcd
      isplitl [Hm]; · iexists f1; iapply (entails_of_eq (xq_whole c f1)); iexact Hm
      isplitl [Hs0 Hs1 Hs2 Hs3]
      · iapply (buf_join c)
        isplitl [Hs0]; · iexact Hs0
        isplitl [Hs1]; · iexact Hs1
        isplitl [Hs2]; · iexact Hs2
        iexact Hs3
      isplitl [Hq]; · iexists f2; iapply (entails_of_eq (wdt_whole c f2)); iexact Hq
      iexists f3; iapply (entails_of_eq (acc_whole c f3)); iexact Ha)
    (QY := QY m)
    (hY := fun c s' => by
      unfold besides
      iintro ⟨-, ⟨A0, A1, A2, A3⟩, HSI⟩
      icombine HSI A0 gives %h0
      icombine HSI A1 gives %h1
      icombine HSI A2 gives %h2
      icombine HSI A3 gives %h3
      imodintro
      isplitr
      · ipureintro
        exact ⟨(Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c)⟩
      iexact HSI)
    (hQ := fun _ hh hz => ⟨hh, hz⟩)

/-! ## The claim -/

/-- The kernel terminates from every memory, leaves its arguments as they were and every semaphore at zero. -/
theorem frame : Cert.quiescent_KernelIn := fun m ρ _ =>
  (θ_run defs _ _).mono (fun _ hh => ⟨fun c => (hh.1 c).2, hh.2⟩) (run_main m ρ)

end Cert.Proof.In

end
-- ==== Proof.InIdealBase.lean ====
module

public import proofs.«01_k».proof.Defs
public import proofs.«01_k».proof.Proof.Gen.KernelInIdeal.Launch
public import proofs.«01_k».proof.Proof.Gen.KernelInIdeal.Skeleton
public import proofs.«01_k».proof.Proof.Gen.KernelInIdeal.Loops
public import proofs.«01_k».proof.Proof.Gen.KernelInIdeal.Points
public import Idealize.ShloMosaic.Lib.Pipeline.KitQuiescent
public import Idealize.ShloMosaic.Lib.Ring
public import Idealize.ShloMosaic.Lib.Ring.AtN
public import Idealize.ShloMosaic.Lib.Batch
public import Idealize.ShloMosaic.Lib.Affine
public import Idealize.ShloMosaic.Lib.Tactic
public import Idealize.ShloMosaic.Lib.ValueIdxCore
public import Idealize.ShloMosaic.Lib.VecWindow
public import Idealize.ShloMosaic.Lib.Pipeline.Value

@[expose] public section

noncomputable section

namespace Cert.Proof.InIdeal

open Cert.KernelInIdeal Cert.KernelInIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The resource algebra: the pipeline library's, beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## Canonical names: half `i` of chunk `b` of the weights, half `i` of ring slot `s`, the slot whole, its semaphore -/

abbrev wM : Memref sig .tc .hbm S26816x6144 .i8 := Memref.whole main_v3
abbrev xqM : Memref sig .tc .vmem S3x72x2048 .bf16 := Memref.whole cc0_scratch0
abbrev bufM : Memref sig .tc .vmem S4x1024x2048 .i8 := Memref.whole cc0_scratch1
abbrev wdtM : Memref sig .tc .vmem S192x6144 .i8 := Memref.whole cc0_scratch2
abbrev accM : Memref sig .tc .vmem S72x1024 .f32 := Memref.whole cc0_scratch3

/-- The first weight row of half `i` of chunk `b`: chunks 0 to 5 read rows 24576 on, two adjacent halves each; chunk `3 (2 + t) + k`
    reads rows `512 t` on and `12288 + 512 t` on. -/
abbrev rowOff (b i : ℕ) : ℕ := if b < 6 then 24576 + 1024 * (b / 3) + 512 * i else 512 * (b / 3 - 2) + 12288 * i
abbrev blkOff (b : Fin 78) (i : Fin 2) : Fin 2 → Nat := ![rowOff b.val i.val, 2048 * (b.val % 3)]
theorem blkOff_inb (b : Fin 78) (i : Fin 2) : ∀ a, blkOff b i a + S512x2048.size a ≤ S26816x6144.size a := by
  have := b.isLt; have := i.isLt; intro a; fin_cases a
  · show (if b.val < 6 then 24576 + 1024 * (b.val / 3) + 512 * i.val else 512 * (b.val / 3 - 2) + 12288 * i.val) + 512 ≤ 26816
    split <;> omega
  · show 2048 * (b.val % 3) + 2048 ≤ 6144; omega
abbrev halfOff (s : Fin 4) (i : Fin 2) : Fin 3 → Nat := ![s.val, 512 * i.val, 0]
theorem halfOff_inb (s : Fin 4) (i : Fin 2) : ∀ a, halfOff s i a + S1x512x2048.size a ≤ S4x1024x2048.size a := by
  have := s.isLt; have := i.isLt; intro a; fin_cases a
  · show s.val + 1 ≤ 4; omega
  · show 512 * i.val + 512 ≤ 1024; omega
  · show 0 + 2048 ≤ 2048; omega
abbrev slotOff (s : Fin 4) : Fin 3 → Nat := ![s.val, 0, 0]
theorem slotOff_inb (s : Fin 4) : ∀ a, slotOff s a + S1x1024x2048.size a ≤ S4x1024x2048.size a := by
  have := s.isLt; intro a; fin_cases a
  · show s.val + 1 ≤ 4; omega
  · show 0 + 1024 ≤ 1024; omega
  · show 0 + 2048 ≤ 2048; omega
abbrev semOff (s : Fin 4) : Fin 1 → Nat := ![s.val]
theorem semOff_inb (s : Fin 4) : ∀ a, semOff s a + S1.size a ≤ S4.size a := by
  have := s.isLt; intro a; fin_cases a; show s.val + 1 ≤ 4; omega

/-- Half `i` of chunk `b` of the weights (512 rows by 2048 columns), as the body slices it. -/
def blk (b : Fin 78) (i : Fin 2) : Memref sig .tc .hbm S512x2048 .i8 :=
  wM.slice (Rect.unit (s := S26816x6144) (blkOff b i) S512x2048.size (blkOff_inb b i)) (fun _ => rfl)
/-- Half `i` of slot `s` of the ring buffer, as the body slices and squeezes it. -/
def half (s : Fin 4) (i : Fin 2) : Memref sig .tc .vmem S512x2048 .i8 :=
  (bufM.slice (Rect.unit (s := S4x1024x2048) (halfOff s i) S1x512x2048.size (halfOff_inb s i)) (fun _ => rfl)).squeeze S512x2048 squeezes_S1x512x2048_S512x2048
/-- Slot `s` of the ring buffer. -/
def rslot (s : Fin 4) : Memref sig .tc .vmem S1x1024x2048 .i8 :=
  bufM.slice (Rect.unit (s := S4x1024x2048) (slotOff s) S1x1024x2048.size (slotOff_inb s)) (fun _ => rfl)
/-- Slot `s`'s semaphore. -/
def csm (s : Fin 4) : DmaSems sig S_ := (cc0_scratch4.slice (Rect.unit (s := S4) (semOff s) S1.size (semOff_inb s))).squeeze S_ squeezes_S1_S_

instance (s : Fin 4) : ClosedOff (slotOff s) := ⟨slotOff s, rfl⟩
instance (s : Fin 4) (i : Fin 2) : ClosedOff (halfOff s i) := ⟨halfOff s i, rfl⟩
instance (b : Fin 78) (i : Fin 2) : ClosedOff (blkOff b i) := ⟨blkOff b i, rfl⟩

/-! ### The printed offsets in closed form, checked trip by trip -/

theorem trips1 : k0_t1_loop.trips = 69 := by decide +kernel
theorem off57_eq : ∀ k : Fin k0_t1_loop.trips, k.val + 12 < 78 → k0_off57 k = semOff (Ring.sl 4 (9 + k.val + 3)) := by decide +kernel
theorem off58_eq : ∀ k : Fin k0_t1_loop.trips, k.val + 12 < 78 → k0_off58 k = halfOff (Ring.sl 4 (9 + k.val + 3)) 0 := by decide +kernel
theorem off59_eq : ∀ k : Fin k0_t1_loop.trips, k.val + 12 < 78 → k0_off59 k = blkOff (Ring.bk 78 (9 + k.val + 3)) 0 := by decide +kernel
theorem off60_eq : ∀ k : Fin k0_t1_loop.trips, k.val + 12 < 78 → k0_off60 k = halfOff (Ring.sl 4 (9 + k.val + 3)) 1 := by decide +kernel
theorem off61_eq : ∀ k : Fin k0_t1_loop.trips, k.val + 12 < 78 → k0_off61 k = blkOff (Ring.bk 78 (9 + k.val + 3)) 1 := by decide +kernel
theorem off62_eq : ∀ k : Fin k0_t1_loop.trips, k0_off62 k = semOff (Ring.sl 4 (9 + k.val)) := by decide +kernel
theorem off63_eq : ∀ k : Fin k0_t1_loop.trips, k0_off63 k = halfOff (Ring.sl 4 (9 + k.val)) 0 := by decide +kernel
theorem off64_eq : ∀ k : Fin k0_t1_loop.trips, k0_off64 k = blkOff (Ring.bk 78 (9 + k.val)) 0 := by decide +kernel
theorem off65_eq : ∀ k : Fin k0_t1_loop.trips, k0_off65 k = halfOff (Ring.sl 4 (9 + k.val)) 1 := by decide +kernel
theorem off66_eq : ∀ k : Fin k0_t1_loop.trips, k0_off66 k = blkOff (Ring.bk 78 (9 + k.val)) 1 := by decide +kernel
theorem off67_eq : ∀ k : Fin k0_t1_loop.trips, k0_off67 k = ![k.val % 3, 0, 0] := by decide +kernel
theorem off68_eq : ∀ k : Fin k0_t1_loop.trips, k0_off68 k = slotOff (Ring.sl 4 (9 + k.val)) := by decide +kernel
theorem off69_eq : ∀ k : Fin k0_t1_loop.trips, k.val % 3 = 2 → k0_off69 k = ![0, 512 * (k.val / 3 + 1)] := by decide +kernel
theorem off70_eq : ∀ k : Fin k0_t1_loop.trips, k.val % 3 = 2 → k0_off70 k = ![0, 512 * (k.val / 3 + 1)] := by decide +kernel
theorem off71_eq : ∀ k : Fin k0_t1_loop.trips, k.val % 3 = 2 → k0_off71 k = ![0, 12288 + 512 * (k.val / 3 + 1)] := by decide +kernel
theorem off72_eq : ∀ k : Fin k0_t1_loop.trips, k.val % 3 = 2 → k0_off72 k = ![0, 512 * (k.val / 3 + 1)] := by decide +kernel
theorem cond10_pos : ∀ k : Fin k0_t1_loop.trips, k.val + 12 < 78 → k0_cond10 k = 1#1 := by decide +kernel
theorem cond10_neg : ∀ k : Fin k0_t1_loop.trips, 78 ≤ k.val + 12 → ¬k0_cond10 k = 1#1 := by decide +kernel
theorem cond11_pos : ∀ k : Fin k0_t1_loop.trips, k.val % 3 = 2 → k0_cond11 k = 1#1 := by decide +kernel
theorem cond11_neg : ∀ k : Fin k0_t1_loop.trips, k.val % 3 ≠ 2 → ¬k0_cond11 k = 1#1 := by decide +kernel

theorem off1_eq : ∀ r : Fin 9, k0_off1 (BitVec.ofNat 32 r.val) = semOff (Ring.sl 4 r.val) := by decide +kernel
theorem off2_eq : ∀ r : Fin 9, k0_off2 (BitVec.ofNat 32 r.val) = halfOff (Ring.sl 4 r.val) 0 := by decide +kernel
theorem off3_eq : ∀ r : Fin 9, k0_off3 (BitVec.ofNat 32 r.val) (BitVec.ofNat 32 r.val) = blkOff (Ring.bk 78 r.val) 0 := by decide +kernel
theorem off4_eq : ∀ r : Fin 9, k0_off4 (BitVec.ofNat 32 r.val) = halfOff (Ring.sl 4 r.val) 1 := by decide +kernel
theorem off5_eq : ∀ r : Fin 9, k0_off5 (BitVec.ofNat 32 r.val) (BitVec.ofNat 32 r.val) = blkOff (Ring.bk 78 r.val) 1 := by decide +kernel
theorem off11_eq : ∀ r : Fin 9, k0_off11 (BitVec.ofNat 32 r.val) = ![r.val % 3, 0, 0] := by decide +kernel
theorem off12_eq : ∀ r : Fin 9, k0_off12 (BitVec.ofNat 32 r.val) = slotOff (Ring.sl 4 r.val) := by decide +kernel

theorem off13_eq : k0_off13 = semOff 0 := by decide +kernel
theorem off14_eq : k0_off14 = halfOff 0 0 := by decide +kernel
theorem off15_eq : k0_off15 = blkOff 4 0 := by decide +kernel
theorem off16_eq : k0_off16 = halfOff 0 1 := by decide +kernel
theorem off17_eq : k0_off17 = blkOff 4 1 := by decide +kernel
theorem off18_eq : k0_off18 = semOff 1 := by decide +kernel
theorem off19_eq : k0_off19 = halfOff 1 0 := by decide +kernel
theorem off20_eq : k0_off20 = blkOff 5 0 := by decide +kernel
theorem off21_eq : k0_off21 = halfOff 1 1 := by decide +kernel
theorem off22_eq : k0_off22 = blkOff 5 1 := by decide +kernel
theorem off23_eq : k0_off23 = semOff 2 := by decide +kernel
theorem off24_eq : k0_off24 = halfOff 2 0 := by decide +kernel
theorem off25_eq : k0_off25 = blkOff 6 0 := by decide +kernel
theorem off26_eq : k0_off26 = halfOff 2 1 := by decide +kernel
theorem off27_eq : k0_off27 = blkOff 6 1 := by decide +kernel
theorem off28_eq : k0_off28 = semOff 3 := by decide +kernel
theorem off29_eq : k0_off29 = halfOff 3 0 := by decide +kernel
theorem off30_eq : k0_off30 = blkOff 7 0 := by decide +kernel
theorem off31_eq : k0_off31 = halfOff 3 1 := by decide +kernel
theorem off32_eq : k0_off32 = blkOff 7 1 := by decide +kernel
theorem off33_eq : k0_off33 = semOff 0 := by decide +kernel
theorem off34_eq : k0_off34 = halfOff 0 0 := by decide +kernel
theorem off35_eq : k0_off35 = blkOff 8 0 := by decide +kernel
theorem off36_eq : k0_off36 = halfOff 0 1 := by decide +kernel
theorem off37_eq : k0_off37 = blkOff 8 1 := by decide +kernel
theorem off38_eq : k0_off38 = semOff 1 := by decide +kernel
theorem off39_eq : k0_off39 = halfOff 1 0 := by decide +kernel
theorem off40_eq : k0_off40 = blkOff 9 0 := by decide +kernel
theorem off41_eq : k0_off41 = halfOff 1 1 := by decide +kernel
theorem off42_eq : k0_off42 = blkOff 9 1 := by decide +kernel
theorem off43_eq : k0_off43 = semOff 2 := by decide +kernel
theorem off44_eq : k0_off44 = halfOff 2 0 := by decide +kernel
theorem off45_eq : k0_off45 = blkOff 10 0 := by decide +kernel
theorem off46_eq : k0_off46 = halfOff 2 1 := by decide +kernel
theorem off47_eq : k0_off47 = blkOff 10 1 := by decide +kernel
theorem off48_eq : k0_off48 = semOff 3 := by decide +kernel
theorem off49_eq : k0_off49 = halfOff 3 0 := by decide +kernel
theorem off50_eq : k0_off50 = blkOff 11 0 := by decide +kernel
theorem off51_eq : k0_off51 = halfOff 3 1 := by decide +kernel
theorem off52_eq : k0_off52 = blkOff 11 1 := by decide +kernel

private theorem csm_congr {off : Fin 1 → Nat} {s : Fin 4} (e : off = semOff s) (hh) :
    (cc0_scratch4.slice (Rect.unit (s := S4) off S1.size hh)).squeeze S_ squeezes_S1_S_ = csm s :=
  congrArg (fun A : DmaSems sig S1 => A.squeeze S_ squeezes_S1_S_) (SemArray.slice_unit_congr _ e _ _)
private theorem half_congr {off : Fin 3 → Nat} {s : Fin 4} {i : Fin 2} (e : off = halfOff s i) (hh hs) :
    (bufM.slice (Rect.unit (s := S4x1024x2048) off S1x512x2048.size hh) hs).squeeze S512x2048 squeezes_S1x512x2048_S512x2048 = half s i :=
  congrArg (fun M : Memref sig .tc .vmem S1x512x2048 .i8 => M.squeeze S512x2048 squeezes_S1x512x2048_S512x2048) (Memref.slice_unit_congr _ e _ _ _ _)
private theorem blk_congr {off : Fin 2 → Nat} {b : Fin 78} {i : Fin 2} (e : off = blkOff b i) (hh hs) :
    wM.slice (Rect.unit (s := S26816x6144) off S512x2048.size hh) hs = blk b i := Memref.slice_unit_congr _ e _ _ hs (fun _ => rfl)

@[sl_canon] theorem semP0 (hh) : (cc0_scratch4.slice (Rect.unit (s := S4) (k0_off1 0#32) S1.size hh)).squeeze S_ squeezes_S1_S_ = csm 0 := csm_congr (off1_eq 0) _
@[sl_canon] theorem half0P0 (hh hs) : (bufM.slice (Rect.unit (s := S4x1024x2048) (k0_off2 0#32) S1x512x2048.size hh) hs).squeeze S512x2048 squeezes_S1x512x2048_S512x2048 = half 0 0 := half_congr (off2_eq 0) _ _
@[sl_canon] theorem blk0P0 (hh hs) : wM.slice (Rect.unit (s := S26816x6144) (k0_off3 0#32 0#32) S512x2048.size hh) hs = blk 0 0 := blk_congr (off3_eq 0) _ _
@[sl_canon] theorem half1P0 (hh hs) : (bufM.slice (Rect.unit (s := S4x1024x2048) (k0_off4 0#32) S1x512x2048.size hh) hs).squeeze S512x2048 squeezes_S1x512x2048_S512x2048 = half 0 1 := half_congr (off4_eq 0) _ _
@[sl_canon] theorem blk1P0 (hh hs) : wM.slice (Rect.unit (s := S26816x6144) (k0_off5 0#32 0#32) S512x2048.size hh) hs = blk 0 1 := blk_congr (off5_eq 0) _ _
@[sl_canon] theorem semP1 (hh) : (cc0_scratch4.slice (Rect.unit (s := S4) (k0_off1 1#32) S1.size hh)).squeeze S_ squeezes_S1_S_ = csm 1 := csm_congr (off1_eq 1) _
@[sl_canon] theorem half0P1 (hh hs) : (bufM.slice (Rect.unit (s := S4x1024x2048) (k0_off2 1#32) S1x512x2048.size hh) hs).squeeze S512x2048 squeezes_S1x512x2048_S512x2048 = half 1 0 := half_congr (off2_eq 1) _ _
@[sl_canon] theorem blk0P1 (hh hs) : wM.slice (Rect.unit (s := S26816x6144) (k0_off3 1#32 1#32) S512x2048.size hh) hs = blk 1 0 := blk_congr (off3_eq 1) _ _
@[sl_canon] theorem half1P1 (hh hs) : (bufM.slice (Rect.unit (s := S4x1024x2048) (k0_off4 1#32) S1x512x2048.size hh) hs).squeeze S512x2048 squeezes_S1x512x2048_S512x2048 = half 1 1 := half_congr (off4_eq 1) _ _
@[sl_canon] theorem blk1P1 (hh hs) : wM.slice (Rect.unit (s := S26816x6144) (k0_off5 1#32 1#32) S512x2048.size hh) hs = blk 1 1 := blk_congr (off5_eq 1) _ _
@[sl_canon] theorem semP2 (hh) : (cc0_scratch4.slice (Rect.unit (s := S4) (k0_off1 2#32) S1.size hh)).squeeze S_ squeezes_S1_S_ = csm 2 := csm_congr (off1_eq 2) _
@[sl_canon] theorem half0P2 (hh hs) : (bufM.slice (Rect.unit (s := S4x1024x2048) (k0_off2 2#32) S1x512x2048.size hh) hs).squeeze S512x2048 squeezes_S1x512x2048_S512x2048 = half 2 0 := half_congr (off2_eq 2) _ _
@[sl_canon] theorem blk0P2 (hh hs) : wM.slice (Rect.unit (s := S26816x6144) (k0_off3 2#32 2#32) S512x2048.size hh) hs = blk 2 0 := blk_congr (off3_eq 2) _ _
@[sl_canon] theorem half1P2 (hh hs) : (bufM.slice (Rect.unit (s := S4x1024x2048) (k0_off4 2#32) S1x512x2048.size hh) hs).squeeze S512x2048 squeezes_S1x512x2048_S512x2048 = half 2 1 := half_congr (off4_eq 2) _ _
@[sl_canon] theorem blk1P2 (hh hs) : wM.slice (Rect.unit (s := S26816x6144) (k0_off5 2#32 2#32) S512x2048.size hh) hs = blk 2 1 := blk_congr (off5_eq 2) _ _
@[sl_canon] theorem semP3 (hh) : (cc0_scratch4.slice (Rect.unit (s := S4) (k0_off1 3#32) S1.size hh)).squeeze S_ squeezes_S1_S_ = csm 3 := csm_congr (off1_eq 3) _
@[sl_canon] theorem half0P3 (hh hs) : (bufM.slice (Rect.unit (s := S4x1024x2048) (k0_off2 3#32) S1x512x2048.size hh) hs).squeeze S512x2048 squeezes_S1x512x2048_S512x2048 = half 3 0 := half_congr (off2_eq 3) _ _
@[sl_canon] theorem blk0P3 (hh hs) : wM.slice (Rect.unit (s := S26816x6144) (k0_off3 3#32 3#32) S512x2048.size hh) hs = blk 3 0 := blk_congr (off3_eq 3) _ _
@[sl_canon] theorem half1P3 (hh hs) : (bufM.slice (Rect.unit (s := S4x1024x2048) (k0_off4 3#32) S1x512x2048.size hh) hs).squeeze S512x2048 squeezes_S1x512x2048_S512x2048 = half 3 1 := half_congr (off4_eq 3) _ _
@[sl_canon] theorem blk1P3 (hh hs) : wM.slice (Rect.unit (s := S26816x6144) (k0_off5 3#32 3#32) S512x2048.size hh) hs = blk 3 1 := blk_congr (off5_eq 3) _ _
@[sl_canon] theorem semP4 (hh) : (cc0_scratch4.slice (Rect.unit (s := S4) (k0_off1 4#32) S1.size hh)).squeeze S_ squeezes_S1_S_ = csm 0 := csm_congr (off1_eq 4) _
@[sl_canon] theorem half0P4 (hh hs) : (bufM.slice (Rect.unit (s := S4x1024x2048) (k0_off2 4#32) S1x512x2048.size hh) hs).squeeze S512x2048 squeezes_S1x512x2048_S512x2048 = half 0 0 := half_congr (off2_eq 4) _ _
@[sl_canon] theorem blk0P4 (hh hs) : wM.slice (Rect.unit (s := S26816x6144) (k0_off3 4#32 4#32) S512x2048.size hh) hs = blk 4 0 := blk_congr (off3_eq 4) _ _
@[sl_canon] theorem half1P4 (hh hs) : (bufM.slice (Rect.unit (s := S4x1024x2048) (k0_off4 4#32) S1x512x2048.size hh) hs).squeeze S512x2048 squeezes_S1x512x2048_S512x2048 = half 0 1 := half_congr (off4_eq 4) _ _
@[sl_canon] theorem blk1P4 (hh hs) : wM.slice (Rect.unit (s := S26816x6144) (k0_off5 4#32 4#32) S512x2048.size hh) hs = blk 4 1 := blk_congr (off5_eq 4) _ _
@[sl_canon] theorem semP5 (hh) : (cc0_scratch4.slice (Rect.unit (s := S4) (k0_off1 5#32) S1.size hh)).squeeze S_ squeezes_S1_S_ = csm 1 := csm_congr (off1_eq 5) _
@[sl_canon] theorem half0P5 (hh hs) : (bufM.slice (Rect.unit (s := S4x1024x2048) (k0_off2 5#32) S1x512x2048.size hh) hs).squeeze S512x2048 squeezes_S1x512x2048_S512x2048 = half 1 0 := half_congr (off2_eq 5) _ _
@[sl_canon] theorem blk0P5 (hh hs) : wM.slice (Rect.unit (s := S26816x6144) (k0_off3 5#32 5#32) S512x2048.size hh) hs = blk 5 0 := blk_congr (off3_eq 5) _ _
@[sl_canon] theorem half1P5 (hh hs) : (bufM.slice (Rect.unit (s := S4x1024x2048) (k0_off4 5#32) S1x512x2048.size hh) hs).squeeze S512x2048 squeezes_S1x512x2048_S512x2048 = half 1 1 := half_congr (off4_eq 5) _ _
@[sl_canon] theorem blk1P5 (hh hs) : wM.slice (Rect.unit (s := S26816x6144) (k0_off5 5#32 5#32) S512x2048.size hh) hs = blk 5 1 := blk_congr (off5_eq 5) _ _
@[sl_canon] theorem semP6 (hh) : (cc0_scratch4.slice (Rect.unit (s := S4) (k0_off1 6#32) S1.size hh)).squeeze S_ squeezes_S1_S_ = csm 2 := csm_congr (off1_eq 6) _
@[sl_canon] theorem half0P6 (hh hs) : (bufM.slice (Rect.unit (s := S4x1024x2048) (k0_off2 6#32) S1x512x2048.size hh) hs).squeeze S512x2048 squeezes_S1x512x2048_S512x2048 = half 2 0 := half_congr (off2_eq 6) _ _
@[sl_canon] theorem blk0P6 (hh hs) : wM.slice (Rect.unit (s := S26816x6144) (k0_off3 6#32 6#32) S512x2048.size hh) hs = blk 6 0 := blk_congr (off3_eq 6) _ _
@[sl_canon] theorem half1P6 (hh hs) : (bufM.slice (Rect.unit (s := S4x1024x2048) (k0_off4 6#32) S1x512x2048.size hh) hs).squeeze S512x2048 squeezes_S1x512x2048_S512x2048 = half 2 1 := half_congr (off4_eq 6) _ _
@[sl_canon] theorem blk1P6 (hh hs) : wM.slice (Rect.unit (s := S26816x6144) (k0_off5 6#32 6#32) S512x2048.size hh) hs = blk 6 1 := blk_congr (off5_eq 6) _ _
@[sl_canon] theorem semP7 (hh) : (cc0_scratch4.slice (Rect.unit (s := S4) (k0_off1 7#32) S1.size hh)).squeeze S_ squeezes_S1_S_ = csm 3 := csm_congr (off1_eq 7) _
@[sl_canon] theorem half0P7 (hh hs) : (bufM.slice (Rect.unit (s := S4x1024x2048) (k0_off2 7#32) S1x512x2048.size hh) hs).squeeze S512x2048 squeezes_S1x512x2048_S512x2048 = half 3 0 := half_congr (off2_eq 7) _ _
@[sl_canon] theorem blk0P7 (hh hs) : wM.slice (Rect.unit (s := S26816x6144) (k0_off3 7#32 7#32) S512x2048.size hh) hs = blk 7 0 := blk_congr (off3_eq 7) _ _
@[sl_canon] theorem half1P7 (hh hs) : (bufM.slice (Rect.unit (s := S4x1024x2048) (k0_off4 7#32) S1x512x2048.size hh) hs).squeeze S512x2048 squeezes_S1x512x2048_S512x2048 = half 3 1 := half_congr (off4_eq 7) _ _
@[sl_canon] theorem blk1P7 (hh hs) : wM.slice (Rect.unit (s := S26816x6144) (k0_off5 7#32 7#32) S512x2048.size hh) hs = blk 7 1 := blk_congr (off5_eq 7) _ _
@[sl_canon] theorem semP8 (hh) : (cc0_scratch4.slice (Rect.unit (s := S4) (k0_off1 8#32) S1.size hh)).squeeze S_ squeezes_S1_S_ = csm 0 := csm_congr (off1_eq 8) _
@[sl_canon] theorem half0P8 (hh hs) : (bufM.slice (Rect.unit (s := S4x1024x2048) (k0_off2 8#32) S1x512x2048.size hh) hs).squeeze S512x2048 squeezes_S1x512x2048_S512x2048 = half 0 0 := half_congr (off2_eq 8) _ _
@[sl_canon] theorem blk0P8 (hh hs) : wM.slice (Rect.unit (s := S26816x6144) (k0_off3 8#32 8#32) S512x2048.size hh) hs = blk 8 0 := blk_congr (off3_eq 8) _ _
@[sl_canon] theorem half1P8 (hh hs) : (bufM.slice (Rect.unit (s := S4x1024x2048) (k0_off4 8#32) S1x512x2048.size hh) hs).squeeze S512x2048 squeezes_S1x512x2048_S512x2048 = half 0 1 := half_congr (off4_eq 8) _ _
@[sl_canon] theorem blk1P8 (hh hs) : wM.slice (Rect.unit (s := S26816x6144) (k0_off5 8#32 8#32) S512x2048.size hh) hs = blk 8 1 := blk_congr (off5_eq 8) _ _
@[sl_canon] theorem semS4 (hh) : (cc0_scratch4.slice (Rect.unit (s := S4) k0_off13 S1.size hh)).squeeze S_ squeezes_S1_S_ = csm 0 := csm_congr off13_eq _
@[sl_canon] theorem half0S4 (hh hs) : (bufM.slice (Rect.unit (s := S4x1024x2048) k0_off14 S1x512x2048.size hh) hs).squeeze S512x2048 squeezes_S1x512x2048_S512x2048 = half 0 0 := half_congr off14_eq _ _
@[sl_canon] theorem blk0S4 (hh hs) : wM.slice (Rect.unit (s := S26816x6144) k0_off15 S512x2048.size hh) hs = blk 4 0 := blk_congr off15_eq _ _
@[sl_canon] theorem half1S4 (hh hs) : (bufM.slice (Rect.unit (s := S4x1024x2048) k0_off16 S1x512x2048.size hh) hs).squeeze S512x2048 squeezes_S1x512x2048_S512x2048 = half 0 1 := half_congr off16_eq _ _
@[sl_canon] theorem blk1S4 (hh hs) : wM.slice (Rect.unit (s := S26816x6144) k0_off17 S512x2048.size hh) hs = blk 4 1 := blk_congr off17_eq _ _
@[sl_canon] theorem semS5 (hh) : (cc0_scratch4.slice (Rect.unit (s := S4) k0_off18 S1.size hh)).squeeze S_ squeezes_S1_S_ = csm 1 := csm_congr off18_eq _
@[sl_canon] theorem half0S5 (hh hs) : (bufM.slice (Rect.unit (s := S4x1024x2048) k0_off19 S1x512x2048.size hh) hs).squeeze S512x2048 squeezes_S1x512x2048_S512x2048 = half 1 0 := half_congr off19_eq _ _
@[sl_canon] theorem blk0S5 (hh hs) : wM.slice (Rect.unit (s := S26816x6144) k0_off20 S512x2048.size hh) hs = blk 5 0 := blk_congr off20_eq _ _
@[sl_canon] theorem half1S5 (hh hs) : (bufM.slice (Rect.unit (s := S4x1024x2048) k0_off21 S1x512x2048.size hh) hs).squeeze S512x2048 squeezes_S1x512x2048_S512x2048 = half 1 1 := half_congr off21_eq _ _
@[sl_canon] theorem blk1S5 (hh hs) : wM.slice (Rect.unit (s := S26816x6144) k0_off22 S512x2048.size hh) hs = blk 5 1 := blk_congr off22_eq _ _
@[sl_canon] theorem semS6 (hh) : (cc0_scratch4.slice (Rect.unit (s := S4) k0_off23 S1.size hh)).squeeze S_ squeezes_S1_S_ = csm 2 := csm_congr off23_eq _
@[sl_canon] theorem half0S6 (hh hs) : (bufM.slice (Rect.unit (s := S4x1024x2048) k0_off24 S1x512x2048.size hh) hs).squeeze S512x2048 squeezes_S1x512x2048_S512x2048 = half 2 0 := half_congr off24_eq _ _
@[sl_canon] theorem blk0S6 (hh hs) : wM.slice (Rect.unit (s := S26816x6144) k0_off25 S512x2048.size hh) hs = blk 6 0 := blk_congr off25_eq _ _
@[sl_canon] theorem half1S6 (hh hs) : (bufM.slice (Rect.unit (s := S4x1024x2048) k0_off26 S1x512x2048.size hh) hs).squeeze S512x2048 squeezes_S1x512x2048_S512x2048 = half 2 1 := half_congr off26_eq _ _
@[sl_canon] theorem blk1S6 (hh hs) : wM.slice (Rect.unit (s := S26816x6144) k0_off27 S512x2048.size hh) hs = blk 6 1 := blk_congr off27_eq _ _
@[sl_canon] theorem semS7 (hh) : (cc0_scratch4.slice (Rect.unit (s := S4) k0_off28 S1.size hh)).squeeze S_ squeezes_S1_S_ = csm 3 := csm_congr off28_eq _
@[sl_canon] theorem half0S7 (hh hs) : (bufM.slice (Rect.unit (s := S4x1024x2048) k0_off29 S1x512x2048.size hh) hs).squeeze S512x2048 squeezes_S1x512x2048_S512x2048 = half 3 0 := half_congr off29_eq _ _
@[sl_canon] theorem blk0S7 (hh hs) : wM.slice (Rect.unit (s := S26816x6144) k0_off30 S512x2048.size hh) hs = blk 7 0 := blk_congr off30_eq _ _
@[sl_canon] theorem half1S7 (hh hs) : (bufM.slice (Rect.unit (s := S4x1024x2048) k0_off31 S1x512x2048.size hh) hs).squeeze S512x2048 squeezes_S1x512x2048_S512x2048 = half 3 1 := half_congr off31_eq _ _
@[sl_canon] theorem blk1S7 (hh hs) : wM.slice (Rect.unit (s := S26816x6144) k0_off32 S512x2048.size hh) hs = blk 7 1 := blk_congr off32_eq _ _
@[sl_canon] theorem semS8 (hh) : (cc0_scratch4.slice (Rect.unit (s := S4) k0_off33 S1.size hh)).squeeze S_ squeezes_S1_S_ = csm 0 := csm_congr off33_eq _
@[sl_canon] theorem half0S8 (hh hs) : (bufM.slice (Rect.unit (s := S4x1024x2048) k0_off34 S1x512x2048.size hh) hs).squeeze S512x2048 squeezes_S1x512x2048_S512x2048 = half 0 0 := half_congr off34_eq _ _
@[sl_canon] theorem blk0S8 (hh hs) : wM.slice (Rect.unit (s := S26816x6144) k0_off35 S512x2048.size hh) hs = blk 8 0 := blk_congr off35_eq _ _
@[sl_canon] theorem half1S8 (hh hs) : (bufM.slice (Rect.unit (s := S4x1024x2048) k0_off36 S1x512x2048.size hh) hs).squeeze S512x2048 squeezes_S1x512x2048_S512x2048 = half 0 1 := half_congr off36_eq _ _
@[sl_canon] theorem blk1S8 (hh hs) : wM.slice (Rect.unit (s := S26816x6144) k0_off37 S512x2048.size hh) hs = blk 8 1 := blk_congr off37_eq _ _
@[sl_canon] theorem semS9 (hh) : (cc0_scratch4.slice (Rect.unit (s := S4) k0_off38 S1.size hh)).squeeze S_ squeezes_S1_S_ = csm 1 := csm_congr off38_eq _
@[sl_canon] theorem half0S9 (hh hs) : (bufM.slice (Rect.unit (s := S4x1024x2048) k0_off39 S1x512x2048.size hh) hs).squeeze S512x2048 squeezes_S1x512x2048_S512x2048 = half 1 0 := half_congr off39_eq _ _
@[sl_canon] theorem blk0S9 (hh hs) : wM.slice (Rect.unit (s := S26816x6144) k0_off40 S512x2048.size hh) hs = blk 9 0 := blk_congr off40_eq _ _
@[sl_canon] theorem half1S9 (hh hs) : (bufM.slice (Rect.unit (s := S4x1024x2048) k0_off41 S1x512x2048.size hh) hs).squeeze S512x2048 squeezes_S1x512x2048_S512x2048 = half 1 1 := half_congr off41_eq _ _
@[sl_canon] theorem blk1S9 (hh hs) : wM.slice (Rect.unit (s := S26816x6144) k0_off42 S512x2048.size hh) hs = blk 9 1 := blk_congr off42_eq _ _
@[sl_canon] theorem semS10 (hh) : (cc0_scratch4.slice (Rect.unit (s := S4) k0_off43 S1.size hh)).squeeze S_ squeezes_S1_S_ = csm 2 := csm_congr off43_eq _
@[sl_canon] theorem half0S10 (hh hs) : (bufM.slice (Rect.unit (s := S4x1024x2048) k0_off44 S1x512x2048.size hh) hs).squeeze S512x2048 squeezes_S1x512x2048_S512x2048 = half 2 0 := half_congr off44_eq _ _
@[sl_canon] theorem blk0S10 (hh hs) : wM.slice (Rect.unit (s := S26816x6144) k0_off45 S512x2048.size hh) hs = blk 10 0 := blk_congr off45_eq _ _
@[sl_canon] theorem half1S10 (hh hs) : (bufM.slice (Rect.unit (s := S4x1024x2048) k0_off46 S1x512x2048.size hh) hs).squeeze S512x2048 squeezes_S1x512x2048_S512x2048 = half 2 1 := half_congr off46_eq _ _
@[sl_canon] theorem blk1S10 (hh hs) : wM.slice (Rect.unit (s := S26816x6144) k0_off47 S512x2048.size hh) hs = blk 10 1 := blk_congr off47_eq _ _
@[sl_canon] theorem semS11 (hh) : (cc0_scratch4.slice (Rect.unit (s := S4) k0_off48 S1.size hh)).squeeze S_ squeezes_S1_S_ = csm 3 := csm_congr off48_eq _
@[sl_canon] theorem half0S11 (hh hs) : (bufM.slice (Rect.unit (s := S4x1024x2048) k0_off49 S1x512x2048.size hh) hs).squeeze S512x2048 squeezes_S1x512x2048_S512x2048 = half 3 0 := half_congr off49_eq _ _
@[sl_canon] theorem blk0S11 (hh hs) : wM.slice (Rect.unit (s := S26816x6144) k0_off50 S512x2048.size hh) hs = blk 11 0 := blk_congr off50_eq _ _
@[sl_canon] theorem half1S11 (hh hs) : (bufM.slice (Rect.unit (s := S4x1024x2048) k0_off51 S1x512x2048.size hh) hs).squeeze S512x2048 squeezes_S1x512x2048_S512x2048 = half 3 1 := half_congr off51_eq _ _
@[sl_canon] theorem blk1S11 (hh hs) : wM.slice (Rect.unit (s := S26816x6144) k0_off52 S512x2048.size hh) hs = blk 11 1 := blk_congr off52_eq _ _
@[sl_canon] theorem semI (k : Fin k0_t1_loop.trips) (hk : k.val + 12 < 78) (hh) : (cc0_scratch4.slice (Rect.unit (s := S4) (k0_off57 k) S1.size hh)).squeeze S_ squeezes_S1_S_ = csm (Ring.sl 4 (9 + k.val + 3)) := csm_congr (off57_eq k hk) _
@[sl_canon] theorem half0I (k : Fin k0_t1_loop.trips) (hk : k.val + 12 < 78) (hh hs) : (bufM.slice (Rect.unit (s := S4x1024x2048) (k0_off58 k) S1x512x2048.size hh) hs).squeeze S512x2048 squeezes_S1x512x2048_S512x2048 = half (Ring.sl 4 (9 + k.val + 3)) 0 := half_congr (off58_eq k hk) _ _
@[sl_canon] theorem blk0I (k : Fin k0_t1_loop.trips) (hk : k.val + 12 < 78) (hh hs) : wM.slice (Rect.unit (s := S26816x6144) (k0_off59 k) S512x2048.size hh) hs = blk (Ring.bk 78 (9 + k.val + 3)) 0 := blk_congr (off59_eq k hk) _ _
@[sl_canon] theorem half1I (k : Fin k0_t1_loop.trips) (hk : k.val + 12 < 78) (hh hs) : (bufM.slice (Rect.unit (s := S4x1024x2048) (k0_off60 k) S1x512x2048.size hh) hs).squeeze S512x2048 squeezes_S1x512x2048_S512x2048 = half (Ring.sl 4 (9 + k.val + 3)) 1 := half_congr (off60_eq k hk) _ _
@[sl_canon] theorem blk1I (k : Fin k0_t1_loop.trips) (hk : k.val + 12 < 78) (hh hs) : wM.slice (Rect.unit (s := S26816x6144) (k0_off61 k) S512x2048.size hh) hs = blk (Ring.bk 78 (9 + k.val + 3)) 1 := blk_congr (off61_eq k hk) _ _
@[sl_canon] theorem semW (k : Fin k0_t1_loop.trips) (hh) : (cc0_scratch4.slice (Rect.unit (s := S4) (k0_off62 k) S1.size hh)).squeeze S_ squeezes_S1_S_ = csm (Ring.sl 4 (9 + k.val)) := csm_congr (off62_eq k) _
@[sl_canon] theorem half0W (k : Fin k0_t1_loop.trips) (hh hs) : (bufM.slice (Rect.unit (s := S4x1024x2048) (k0_off63 k) S1x512x2048.size hh) hs).squeeze S512x2048 squeezes_S1x512x2048_S512x2048 = half (Ring.sl 4 (9 + k.val)) 0 := half_congr (off63_eq k) _ _
@[sl_canon] theorem blk0W (k : Fin k0_t1_loop.trips) (hh hs) : wM.slice (Rect.unit (s := S26816x6144) (k0_off64 k) S512x2048.size hh) hs = blk (Ring.bk 78 (9 + k.val)) 0 := blk_congr (off64_eq k) _ _
@[sl_canon] theorem half1W (k : Fin k0_t1_loop.trips) (hh hs) : (bufM.slice (Rect.unit (s := S4x1024x2048) (k0_off65 k) S1x512x2048.size hh) hs).squeeze S512x2048 squeezes_S1x512x2048_S512x2048 = half (Ring.sl 4 (9 + k.val)) 1 := half_congr (off65_eq k) _ _
@[sl_canon] theorem blk1W (k : Fin k0_t1_loop.trips) (hh hs) : wM.slice (Rect.unit (s := S26816x6144) (k0_off66 k) S512x2048.size hh) hs = blk (Ring.bk 78 (9 + k.val)) 1 := blk_congr (off66_eq k) _ _

instance (k : Fin k0_t1_loop.trips) : ClosedOff (k0_off67 k) := ⟨![k.val % 3, 0, 0], off67_eq k⟩
instance (k : Fin k0_t1_loop.trips) : ClosedOff (k0_off68 k) := ⟨slotOff (Ring.sl 4 (9 + k.val)), off68_eq k⟩

/-! ## The pieces: the two halves of a chunk home, a slot held, a slot's semaphore at zero, a slot in flight -/

abbrev S4s (s : Fin 4) : Finset S4x1024x2048.Idx := (Rect.unit (s := S4x1024x2048) (slotOff s) S1x1024x2048.size (slotOff_inb s)).set
abbrev H4s (s : Fin 4) (i : Fin 2) : Finset S4x1024x2048.Idx := (Rect.unit (s := S4x1024x2048) (halfOff s i) S1x512x2048.size (halfOff_inb s i)).set
abbrev G156 (b : Fin 78) (i : Fin 2) : Finset S26816x6144.Idx := (Rect.unit (s := S26816x6144) (blkOff b i) S512x2048.size (blkOff_inb b i)).set

theorem blk_set (b : Fin 78) (i : Fin 2) : (blk b i : Memref sig .tc .hbm _ _).view.set = G156 b i := View.set_slice_whole _ _
theorem rslot_set (s : Fin 4) : (rslot s : Memref sig .tc .vmem _ _).view.set = S4s s := View.set_slice_whole _ _
theorem half_set (s : Fin 4) (i : Fin 2) : (half s i : Memref sig .tc .vmem _ _).view.set = H4s s i := (View.set_reshape _ _).trans (View.set_slice_whole _ _)

theorem mem_S4s (s : Fin 4) (y : S4x1024x2048.Idx) : y ∈ S4s s ↔ (y 0).val = s.val := by
  rw [Rect.mem_set_unit]
  have h1 : (y 1).val < 1024 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 2048; omega
theorem mem_H4s (s : Fin 4) (i : Fin 2) (y : S4x1024x2048.Idx) : y ∈ H4s s i ↔ (y 0).val = s.val ∧ 512 * i.val ≤ (y 1).val ∧ (y 1).val < 512 * i.val + 512 := by
  rw [Rect.mem_set_unit]
  have h2 : (y 2).val < 2048 := (y 2).isLt
  constructor
  · intro H
    have a0 : s.val ≤ (y 0).val ∧ (y 0).val < s.val + 1 := H 0
    have a1 : 512 * i.val ≤ (y 1).val ∧ (y 1).val < 512 * i.val + 512 := H 1
    omega
  · intro H a; fin_cases a
    · show s.val ≤ (y 0).val ∧ (y 0).val < s.val + 1; omega
    · show 512 * i.val ≤ (y 1).val ∧ (y 1).val < 512 * i.val + 512; omega
    · show 0 ≤ (y 2).val ∧ (y 2).val < 0 + 2048; omega
theorem H4s_disjoint (s : Fin 4) : Disjoint (H4s s 0) (H4s s 1) := by
  rw [Finset.disjoint_left]; intro y h h'; rw [mem_H4s] at h h'
  have a : (y 1).val < 512 * 0 + 512 := h.2.2
  have b : 512 * 1 ≤ (y 1).val := h'.2.1
  omega
theorem H4s_union (s : Fin 4) : H4s s 0 ∪ H4s s 1 = S4s s := by
  ext y; rw [Finset.mem_union, mem_H4s, mem_H4s, mem_S4s]
  have h1 : (y 1).val < 1024 := (y 1).isLt
  show ((y 0).val = s.val ∧ 512 * 0 ≤ (y 1).val ∧ (y 1).val < 512 * 0 + 512) ∨ ((y 0).val = s.val ∧ 512 * 1 ≤ (y 1).val ∧ (y 1).val < 512 * 1 + 512) ↔ _
  omega

/-- The place in the ring buffer of element `x` of half `i` of slot `s`. -/
def halfIdx (s : Fin 4) (i : Fin 2) (x : S512x2048.Idx) : S4x1024x2048.Idx :=
  ix3 (s : Fin 4) (⟨512 * i.val + (x 0).val, by have := i.isLt; have h1 : (x 0).val < 512 := (x 0).isLt; omega⟩ : Fin 1024) (x 1 : Fin 2048)
theorem half_emb (s : Fin 4) (i : Fin 2) (x : S512x2048.Idx) : ((half s i : Memref sig .tc .vmem _ _).view.emb x : S4x1024x2048.Idx) = halfIdx s i x := by
  have e : (Shape.reshapeEquiv squeezes_S1x512x2048_S512x2048.numel_eq x : S1x512x2048.Idx) = ix3 (0 : Fin 1) (x 0 : Fin 512) (x 1 : Fin 2048) :=
    Shape.reshapeEquiv_eq_of_rowMajor _ ((Shape.rowMajor_val_three (d := S1x512x2048.size) _).trans (Eq.trans (by show ((0 : ℕ) * 512 + (x 0).val) * 2048 + (x 1).val = (x 0).val * 2048 + (x 1).val; omega) (Shape.rowMajor_val_two (d := S512x2048.size) x).symm))
  have e2 : ((half s i : Memref sig .tc .vmem _ _).view.emb x : S4x1024x2048.Idx)
      = (Rect.unit (s := S4x1024x2048) (halfOff s i) S1x512x2048.size (halfOff_inb s i)).emb (Shape.reshapeEquiv squeezes_S1x512x2048_S512x2048.numel_eq x) := rfl
  rw [e2, e]
  funext a; apply Fin.ext; fin_cases a
  · show s.val + 1 * 0 = s.val; omega
  · show 512 * i.val + 1 * (x 0).val = 512 * i.val + (x 0).val; omega
  · show 0 + 1 * (x 1).val = (x 1).val; omega

/-- The place in the weights of element `i` of chunk `b`. -/
def wIdx (b : Fin 78) (i : S1x1024x2048.Idx) : S26816x6144.Idx :=
  ix2 (⟨rowOff b.val ((i 1).val / 512) + (i 1).val % 512, by
        have := b.isLt; have h1 : (i 1).val < 1024 := (i 1).isLt
        show (if b.val < 6 then 24576 + 1024 * (b.val / 3) + 512 * ((i 1).val / 512) else 512 * (b.val / 3 - 2) + 12288 * ((i 1).val / 512)) + (i 1).val % 512 < 26816
        split <;> omega⟩ : Fin 26816)
    (⟨2048 * (b.val % 3) + (i 2).val, by have h2 : (i 2).val < 2048 := (i 2).isLt; omega⟩ : Fin 6144)

section Pieces
variable (c : Dev nD) (XW : Buf (Elt F) (wM.view.loc (c : Thread nD τ)))

abbrev cellP (s : Fin 4) : sProp 𝕄 := semVal ((c : Thread nD τ), SemLoc.dma (csm s).sem) 0
abbrev slotP (s : Fin 4) (f : Buf (Elt F) ((rslot s).view.loc (c : Thread nD τ))) : sProp 𝕄 :=
  (rslot s).view.loc (c : Thread nD τ) ↦[(rslot s).view.set]{fullShare} f
abbrev halfP (s : Fin 4) (i : Fin 2) (f : Buf (Elt F) ((half s i).view.loc (c : Thread nD τ))) : sProp 𝕄 :=
  (half s i).view.loc (c : Thread nD τ) ↦[(half s i).view.set]{fullShare} f
/-- Slot `s` held as its two halves. -/
abbrev pairP (s : Fin 4) (f : (i : Fin 2) → Buf (Elt F) ((half s i).view.loc (c : Thread nD τ))) : sProp 𝕄 := iprop(halfP c s 0 (f 0) ∗ halfP c s 1 (f 1))
abbrev blkP (b : Fin 78) (i : Fin 2) : sProp 𝕄 := (blk b i).view.loc (c : Thread nD τ) ↦[(blk b i).view.set]{fullShare} XW
abbrev homeP (b : Fin 78) : sProp 𝕄 := iprop(blkP c XW b 0 ∗ blkP c XW b 1)
/-- Half `i` of chunk `b` as a copy's payload. -/
abbrev payload (b : Fin 78) (i : Fin 2) : S512x2048.Idx → Elt F .i8 := ReadAs.same.apply ((blk b i).view.read (Elt F) XW)
/-- What that copy leaves in half `i` of slot `s` over prior contents `f`. -/
abbrev landed (s : Fin 4) (b : Fin 78) (i : Fin 2) (f : Buf (Elt F) ((half s i).view.loc (c : Thread nD τ))) : Buf (Elt F) ((half s i).view.loc (c : Thread nD τ)) :=
  (half s i).view.writes (Elt F) f [⟨Rect.whole S512x2048, payload c XW b i⟩]
/-- The units one copy puts on its semaphore. -/
abbrev NN : ℕ := (half 0 0).view.amount (SemLoc.dma (sig := sig) (csm 0).sem)
abbrev deliv (s : Fin 4) (b : Fin 78) (f : (i : Fin 2) → Buf (Elt F) ((half s i).view.loc (c : Thread nD τ))) (i : Fin 2) : sProp 𝕄 :=
  iprop(halfP c s i (landed c XW s b i (f i)) ∗ blkP c XW b i)
/-- Slot `s` in flight with chunk `b`: both copies issued, none waited for. -/
abbrev flightP (s : Fin 4) (b : Fin 78) (f : (i : Fin 2) → Buf (Elt F) ((half s i).view.loc (c : Thread nD τ))) : sProp 𝕄 :=
  Transfers.Batch countersEmb (c : Thread nD τ) (SemLoc.dma (csm s).sem) () NN (deliv c XW s b f) 2 0
/-- The ring before chunk `k` is multiplied: chunks `k`, `k + 1`, `k + 2` in flight, the others home. -/
abbrev ringAt (k : ℕ) : sProp 𝕄 := Ring.At 3 (cellP c) (pairP c) (homeP c XW) (flightP c XW) k

theorem blkP_storable (b i) : Storable (upEmb : UEmb _ 𝕄) (blkP c XW b i) :=
  (fun f : Buf (Elt F) ((blk b i).view.loc (c : Thread nD τ)) => (inferInstance : Storable (upEmb : UEmb _ 𝕄) ((blk b i).view.loc (c : Thread nD τ) ↦[(blk b i).view.set]{fullShare} f : sProp 𝕄))) XW
theorem deliv_storable (s b f) (i) : Storable (upEmb : UEmb _ 𝕄) (deliv c XW s b f i) :=
  haveI : Storable (upEmb : UEmb _ 𝕄) (halfP c s i (landed c XW s b i (f i))) := inferInstance
  haveI := blkP_storable c XW b i
  inferInstance
/-- A slot's semaphore at zero becomes the plan for the two copies of a chunk. -/
theorem alloc (s b f) : (cellP c s : sProp 𝕄) ⊢ |={Set.univ}=> Transfers.Batch countersEmb (c : Thread nD τ) (SemLoc.dma (csm s).sem) () NN (deliv c XW s b f) 0 0 :=
  haveI : ∀ t, Storable (upEmb : UEmb _ 𝕄) (deliv c XW s b f t) := fun t => deliv_storable c XW s b f t
  Transfers.batch_alloc' (Lvl := ℕ) countersEmb (c : Thread nD τ) () NN (deliv c XW s b f) (sm := .dma (csm s).sem) (E := Set.univ)

/-- Chunk `b` of the weights. -/
def wChunk (b : Fin 78) : Vec F S1x1024x2048 .i8 := fun i => XW (wIdx b i)
/-- The ring buffer's contents where chunk `b` has landed. -/
def LC (b : Fin 78) : Buf (Elt F) (bufM.view.loc (c : Thread nD τ)) := fun y : S4x1024x2048.Idx => wChunk c XW b (ix3 (0 : Fin 1) (y 1 : Fin 1024) (y 2 : Fin 2048))

omit [FloatOps F] in
theorem at_of_read {κ sp S e} (v : View sig κ sp S e) (f g : v.ty.Contents (Elt F)) (h : v.read (Elt F) f = v.read (Elt F) g) : ∀ i ∈ v.set, f i = g i := by
  intro i hi
  obtain ⟨x, -, rfl⟩ := Finset.mem_map.mp hi
  have := congrFun h x
  rw [View.read_apply, View.read_apply] at this
  exact (cast_bijective (congrArg (Elt F) v.elt_eq)).1 this

omit [FloatOps F] in
theorem payload_eq (s : Fin 4) (b : Fin 78) (i : Fin 2) (x : S512x2048.Idx) : payload c XW b i x = LC c XW b (halfIdx s i x) := by
  have hx0 : (x 0).val < 512 := (x 0).isLt
  have hi : i.val < 2 := i.isLt
  have e : ((blk b i).view.emb x : S26816x6144.Idx) = wIdx b (ix3 (0 : Fin 1) (halfIdx s i x 1 : Fin 1024) (halfIdx s i x 2 : Fin 2048)) := by
    refine funext fun a => Fin.ext ?_
    fin_cases a
    · show rowOff b.val i.val + 1 * (x 0).val = rowOff b.val ((512 * i.val + (x 0).val) / 512) + (512 * i.val + (x 0).val) % 512
      rw [show (512 * i.val + (x 0).val) / 512 = i.val by omega, show (512 * i.val + (x 0).val) % 512 = (x 0).val by omega]; omega
    · show 2048 * (b.val % 3) + 1 * (x 1).val = 2048 * (b.val % 3) + (x 1).val
      omega
  exact congrArg XW e

omit [FloatOps F] in
theorem landed_eq (s : Fin 4) (b : Fin 78) (i : Fin 2) (f : Buf (Elt F) ((half s i).view.loc (c : Thread nD τ))) :
    (halfP c s i (landed c XW s b i f) : sProp 𝕄) = (bufM.view.loc (c : Thread nD τ) ↦[H4s s i]{fullShare} LC c XW b) := by
  have h1 : (halfP c s i (landed c XW s b i f) : sProp 𝕄) = halfP c s i (LC c XW b) := by
    have e1 := View.read_writes_whole (half s i).view f (payload c XW b i)
    have e2 : (half s i).view.read (Elt F) (LC c XW b) = payload c XW b i := funext fun x =>
      (View.read_apply (Val := Elt F) (v := (half s i).view) (LC c XW b) x).trans ((cast_eq _ _).trans ((congrArg (LC c XW b) (half_emb s i x)).trans (payload_eq c XW s b i x).symm))
    exact pointsTo_congr (at_of_read (half s i).view _ _ (e1.trans e2.symm))
  exact h1.trans (congrArg (fun S => (bufM.view.loc (c : Thread nD τ) ↦[S]{fullShare} LC c XW b : sProp 𝕄)) (half_set s i))

omit [FloatOps F] in
/-- Both copies landed: the slot whole, at the chunk. -/
theorem slot_join (s : Fin 4) (b : Fin 78) (f0 : Buf (Elt F) ((half s 0).view.loc (c : Thread nD τ))) (f1 : Buf (Elt F) ((half s 1).view.loc (c : Thread nD τ))) :
    iprop(halfP c s 0 (landed c XW s b 0 f0) ∗ halfP c s 1 (landed c XW s b 1 f1)) ⊢ (slotP c s (LC c XW b) : sProp 𝕄) := by
  rw [landed_eq, landed_eq]
  refine (pointsTo_union (H4s_disjoint s)).2.trans (Entails.of_eq ?_)
  exact congrArg (fun S => (bufM.view.loc (c : Thread nD τ) ↦[S]{fullShare} LC c XW b : sProp 𝕄)) ((H4s_union s).trans (rslot_set s).symm)
omit [FloatOps F] in
/-- The slot whole is its two halves. -/
theorem slot_split (s : Fin 4) (g : Buf (Elt F) (bufM.view.loc (c : Thread nD τ))) : (slotP c s g : sProp 𝕄) ⊢ iprop(∃ f, pairP c s f) := by
  have e : (slotP c s g : sProp 𝕄) = (bufM.view.loc (c : Thread nD τ) ↦[H4s s 0 ∪ H4s s 1]{fullShare} g) :=
    congrArg (fun S => (bufM.view.loc (c : Thread nD τ) ↦[S]{fullShare} g : sProp 𝕄)) ((rslot_set s).trans (H4s_union s).symm)
  rw [e]
  refine (pointsTo_union (H4s_disjoint s)).1.trans ?_
  iintro ⟨H0, H1⟩
  iexists (fun _ => g)
  isplitl [H0]
  · iapply (Entails.of_eq (congrArg (fun S => (bufM.view.loc (c : Thread nD τ) ↦[S]{fullShare} g : sProp 𝕄)) (half_set s 0).symm)); iexact H0
  · iapply (Entails.of_eq (congrArg (fun S => (bufM.view.loc (c : Thread nD τ) ↦[S]{fullShare} g : sProp 𝕄)) (half_set s 1).symm)); iexact H1
end Pieces

end Cert.Proof.InIdeal

end
-- ==== Proof.InIdealTrip.lean ====
module

public import proofs.«01_k».proof.Defs
public import proofs.«01_k».proof.Proof.Gen.KernelInIdeal.Launch
public import proofs.«01_k».proof.Proof.Gen.KernelInIdeal.Skeleton
public import proofs.«01_k».proof.Proof.Gen.KernelInIdeal.Loops
public import proofs.«01_k».proof.Proof.Gen.KernelInIdeal.Points
public import Idealize.ShloMosaic.Lib.Pipeline.KitQuiescent
public import Idealize.ShloMosaic.Lib.Ring
public import Idealize.ShloMosaic.Lib.Ring.AtN
public import Idealize.ShloMosaic.Lib.Batch
public import Idealize.ShloMosaic.Lib.Affine
public import Idealize.ShloMosaic.Lib.Tactic
public import Idealize.ShloMosaic.Lib.ValueIdxCore
public import Idealize.ShloMosaic.Lib.VecWindow
public import Idealize.ShloMosaic.Lib.Pipeline.Value
public import proofs.«01_k».proof.Proof.InIdealBase

@[expose] public section

noncomputable section

namespace Cert.Proof.InIdeal

open Cert.KernelInIdeal Cert.KernelInIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UU nD τ) ℕ

section Trip
variable (c : Dev nD) (XW : Buf (Elt F) (wM.view.loc (c : Thread nD τ)))
  (arg0 : Memref sig .tc .vmem S72x6144 .bf16) (harg0 : arg0.IsWhole)
  (arg1 : Memref sig .tc .vmem S1x26816 .f32) (harg1 : arg1.IsWhole)
  (arg2 : Memref sig .tc .vmem S1x192 .f32) (harg2 : arg2.IsWhole)
  (arg4 : Memref sig .tc .vmem S72x12288 .f32) (harg4 : arg4.IsWhole)
  (arg5 : Memref sig .tc .vmem S72x14336 .f32) (harg5 : arg5.IsWhole)
  (arg6 : Memref sig .tc .vmem S72x192 .f32) (harg6 : arg6.IsWhole)
  (arg7 : Memref sig .tc .vmem S72x6144 .i8) (harg7 : arg7.IsWhole)
  (arg8 : Memref sig .tc .vmem S72x1 .f32) (harg8 : arg8.IsWhole)
  (v1154 : FVec F S72x1024 .f32) (v1155 : BitVec 1)

abbrev accP (f : Buf (Elt F) (accM.view.loc (c : Thread nD τ))) : sProp 𝕄 := accM.view.loc (c : Thread nD τ) ↦[accM.view.set]{fullShare} f
abbrev xqP (f : Buf (Elt F) (xqM.view.loc (c : Thread nD τ))) : sProp 𝕄 := xqM.view.loc (c : Thread nD τ) ↦[xqM.view.set]{fullShare} f

abbrev trip1 (k : Fin k0_t1_loop.trips) : Prog (TpuEff nD τ sig (Elt F) Λ₀ .tc) Unit :=
  k0_t1_body (F := F) arg0 harg0 arg1 harg1 arg2 harg2 wM (Memref.isWhole_whole _) arg4 harg4 arg5 harg5 arg6 harg6 arg7 harg7 arg8 harg8 xqM (Memref.isWhole_whole _) bufM (Memref.isWhole_whole _) wdtM (Memref.isWhole_whole _) accM (Memref.isWhole_whole _) cc0_scratch4 cc0_scratch5 v1154 v1155 k ()

/-- Column block `j` (2048 columns) of the quantised rows, as the trip loads it. -/
abbrev xqBlk (fq : Buf (Elt F) (xqM.view.loc (c : Thread nD τ))) (j : ℕ) : Vec F S1x72x2048 .bf16 :=
  fun i => xqM.view.read (Elt F) fq (ix3 (⟨j % 3, Nat.mod_lt _ (by decide)⟩ : Fin 3) (i 1) (i 2))
/-- The left 512 columns of the accumulator. -/
def accLo (A : Vec F S72x1024 .f32) : Vec F S72x512 .f32 :=
  fun i => A (ix2 (i 0 : Fin 72) (⟨(i 1).val, by have h : (i 1).val < 512 := (i 1).isLt; omega⟩ : Fin 1024))
/-- The right 512 columns of the accumulator. -/
def accHi (A : Vec F S72x1024 .f32) : Vec F S72x512 .f32 :=
  fun i => A (ix2 (i 0 : Fin 72) (⟨512 + (i 1).val, by have h : (i 1).val < 512 := (i 1).isLt; omega⟩ : Fin 1024))
/-- The 512 weight scales from column `o` on. -/
def wscT (W : Vec F S1x26816 .f32) (o : ℕ) : Vec F S1x512 .f32 :=
  fun i => W (ix2 (0 : Fin 1) (⟨(o + (i 1).val) % 26816, Nat.mod_lt _ (by decide)⟩ : Fin 26816))

/-- One chunk's product added into the accumulator (the first of a tile's three replaces it). -/
def accStep (X : Vec F S1x72x2048 .bf16) (b : ℕ) (A : Vec F S72x1024 .f32) : Vec F S72x1024 .f32 :=
  k0_pay48 (BitVec.ofNat 32 (b % 3)) (k0_pay1 X) (wChunk c XW (Ring.bk 78 b)) A
/-- The first output after a chunk: the left half of a finished tile is scaled into its columns. -/
def zStep (W : Vec F S1x26816 .f32) (xs : Vec F S72x1 .f32) (A : Vec F S72x1024 .f32) (k : ℕ) (Z : Vec F S72x12288 .f32) : Vec F S72x12288 .f32 :=
  if k % 3 = 2 then VecWindow.put (s := S72x12288) Z ![0, 512 * (k / 3 + 1)] S72x512.size (k0_pay49 (accLo A) xs (wscT W (512 * (k / 3 + 1)))) else Z
/-- The second output after a chunk: the right half of a finished tile is scaled into its columns. -/
def yStep (W : Vec F S1x26816 .f32) (xs : Vec F S72x1 .f32) (A : Vec F S72x1024 .f32) (k : ℕ) (Y : Vec F S72x14336 .f32) : Vec F S72x14336 .f32 :=
  if k % 3 = 2 then VecWindow.put (s := S72x14336) Y ![0, 512 * (k / 3 + 1)] S72x512.size (k0_pay50 (accHi A) xs (wscT W (12288 + 512 * (k / 3 + 1)))) else Y

abbrev arg1P (f : Buf (Elt F) (arg1.view.loc (c : Thread nD τ))) : sProp 𝕄 := arg1.view.loc (c : Thread nD τ) ↦[arg1.view.set]{fullShare} f
abbrev arg4P (f : Buf (Elt F) (arg4.view.loc (c : Thread nD τ))) : sProp 𝕄 := arg4.view.loc (c : Thread nD τ) ↦[arg4.view.set]{fullShare} f
abbrev arg5P (f : Buf (Elt F) (arg5.view.loc (c : Thread nD τ))) : sProp 𝕄 := arg5.view.loc (c : Thread nD τ) ↦[arg5.view.set]{fullShare} f
abbrev arg8P (f : Buf (Elt F) (arg8.view.loc (c : Thread nD τ))) : sProp 𝕄 := arg8.view.loc (c : Thread nD τ) ↦[arg8.view.set]{fullShare} f

/-- What the loop of the tiles holds before trip `k`: the accumulator at `A`, the outputs at `Z` and `Y`. -/
def resAt (f1 : Buf (Elt F) (arg1.view.loc (c : Thread nD τ))) (f8 : Buf (Elt F) (arg8.view.loc (c : Thread nD τ))) (fq : Buf (Elt F) (xqM.view.loc (c : Thread nD τ)))
    (A : Vec F S72x1024 .f32) (Z : Vec F S72x12288 .f32) (Y : Vec F S72x14336 .f32) (k : ℕ) : sProp 𝕄 :=
  iprop((∃ fo, accP c fo ∗ ⌜accM.view.read (Elt F) fo = A⌝) ∗ (∃ f4, arg4P c arg4 f4 ∗ ⌜arg4.view.read (Elt F) f4 = Z⌝) ∗ (∃ f5, arg5P c arg5 f5 ∗ ⌜arg5.view.read (Elt F) f5 = Y⌝)
    ∗ arg1P c arg1 f1 ∗ arg8P c arg8 f8 ∗ xqP c fq ∗ (∃ W, owes (c : Thread nD τ) 0 W) ∗ ringAt c XW (9 + k))

omit [FloatOps F] in
theorem xq_readAt (off : Fin 3 → Nat) (j : ℕ) (e : off = ![j % 3, 0, 0]) (inb) (fq : Buf (Elt F) (xqM.view.loc (c : Thread nD τ))) :
    View.readAt (Elt F) xqM.view (Rect.unit (s := S3x72x2048) off S1x72x2048.size inb).toLoadRect fq = xqBlk c fq j := by
  subst e
  funext i
  refine congrArg (xqM.view.read (Elt F) fq) (funext fun a => Fin.ext ?_)
  have h0 : (i 0).val < 1 := (i 0).isLt
  fin_cases a
  · show j % 3 + 1 * (i 0).val = j % 3; omega
  · show 0 + 1 * (i 1).val = (i 1).val; omega
  · show 0 + 1 * (i 2).val = (i 2).val; omega

omit [FloatOps F] in
theorem slot_readAt (off : Fin 3 → Nat) (s : Fin 4) (e : off = slotOff s) (inb) (b : Fin 78) :
    View.readAt (Elt F) bufM.view (Rect.unit (s := S4x1024x2048) off S1x1024x2048.size inb).toLoadRect (LC c XW b) = wChunk c XW b := by
  subst e
  funext i
  have h0 : (i 0).val < 1 := (i 0).isLt
  refine congrArg (wChunk c XW b) (funext fun a => Fin.ext ?_)
  fin_cases a
  · show 0 = (i 0).val; omega
  · show 0 + 1 * (i 1).val = (i 1).val; omega
  · show 0 + 1 * (i 2).val = (i 2).val; omega

theorem put_congr {S : Shape} {α : Type} {x x' : S.Idx → α} (off size : Fin S.rank → ℕ) {w w' : ((a : Fin S.rank) → Fin (size a)) → α} (hx : x = x') (hw : w = w') :
    VecWindow.put x off size w = VecWindow.put x' off size w' := by subst hx hw; rfl
theorem acc_lo (v : View sig .tc .vmem S72x1024 .f32) (w : Vec F S72x1024 .f32) (inb inb') : v.readCov (Val := Elt F) [⟨Rect.unit (s := S72x1024) ![0, 0] S72x1024.size inb, w⟩] (Rect.unit (s := S72x1024) ![0, 0] S72x512.size inb').toLoadRect = accLo w := by
  funext i
  refine (congrFun (View.read_writes_full v _ inb w []) _).trans ?_
  refine congrArg w (funext fun a => Fin.ext ?_)
  fin_cases a
  · show 0 + 1 * (i 0).val = (i 0).val; omega
  · show 0 + 1 * (i 1).val = (i 1).val; omega
theorem acc_hi (v : View sig .tc .vmem S72x1024 .f32) (w : Vec F S72x1024 .f32) (inb inb') : v.readCov (Val := Elt F) [⟨Rect.unit (s := S72x1024) ![0, 0] S72x1024.size inb, w⟩] (Rect.unit (s := S72x1024) ![0, 512] S72x512.size inb').toLoadRect = accHi w := by
  funext i
  refine (congrFun (View.read_writes_full v _ inb w []) _).trans ?_
  refine congrArg w (funext fun a => Fin.ext ?_)
  fin_cases a
  · show 0 + 1 * (i 0).val = (i 0).val; omega
  · show 512 + 1 * (i 1).val = 512 + (i 1).val; omega

omit [FloatOps F] in
theorem wsc_readAt (off : Fin 2 → Nat) (o : ℕ) (e : off = ![0, o]) (ho : o + 512 ≤ 26816) (inb) (f : Buf (Elt F) (arg1.view.loc (c : Thread nD τ))) :
    View.readAt (Elt F) arg1.view (Rect.unit (s := S1x26816) off S1x512.size inb).toLoadRect f = wscT (arg1.view.read (Elt F) f) o := by
  subst e
  funext i
  refine congrArg (arg1.view.read (Elt F) f) (funext fun a => Fin.ext ?_)
  have h0 : (i 0).val < 1 := (i 0).isLt
  have h1 : (i 1).val < 512 := (i 1).isLt
  fin_cases a
  · show 0 + 1 * (i 0).val = 0; omega
  · show o + 1 * (i 1).val = (o + (i 1).val) % 26816; rw [Nat.mod_eq_of_lt (by omega)]; omega

theorem acc_new (k : Fin k0_t1_loop.trips) (w : BitVec 32) (hw : w = BitVec.ofNat 32 ((9 + k.val) % 3)) (fq fo) (A : Vec F S72x1024 .f32) (hfo : accM.view.read (Elt F) fo = A) (i67 i68 i0) :
    k0_pay48 w (k0_pay1 (View.readAt (Elt F) xqM.view (Rect.unit (s := S3x72x2048) (k0_off67 k) S1x72x2048.size i67).toLoadRect fq))
      (View.readAt (Elt F) bufM.view (Rect.unit (s := S4x1024x2048) (k0_off68 k) S1x1024x2048.size i68).toLoadRect (LC c XW (Ring.bk 78 (9 + k.val))))
      (View.readAt (Elt F) accM.view (Rect.unit (s := S72x1024) ![0, 0] S72x1024.size i0).toLoadRect fo) = accStep c XW (xqBlk c fq k) (9 + k.val) A := by
  subst hw hfo
  rw [xq_readAt c _ k.val (off67_eq k), slot_readAt c XW _ _ (off68_eq k), View.readAt_full]; rfl

theorem trip_start_mid (k : Fin k0_t1_loop.trips) (hk : 9 + k.val + 3 < 78) (hj : k.val % 3 ≠ 2) (f1 f8 fq) (A : Vec F S72x1024 .f32) (Z Y) :
    resAt c XW arg1 arg4 arg5 arg8 f1 f8 fq A Z Y k ⊢ wp frame (wpE (defs₀ (F := F)) 𝒱₀ (c : Thread nD τ) none) Set.univ (trip1 arg0 harg0 arg1 harg1 arg2 harg2 arg4 harg4 arg5 harg5 arg6 harg6 arg7 harg7 arg8 harg8 v1154 v1155 k)
      (fun _ => resAt c XW arg1 arg4 arg5 arg8 f1 f8 fq (accStep c XW (xqBlk c fq k) (9 + k.val) A)
        (zStep (arg1.view.read (Elt F) f1) (arg8.view.read (Elt F) f8) (accStep c XW (xqBlk c fq k) (9 + k.val) A) k Z)
        (yStep (arg1.view.read (Elt F) f1) (arg8.view.read (Elt F) f8) (accStep c XW (xqBlk c fq k) (9 + k.val) A) k Y) (k.val + 1)) := by
  have hk69 : k.val < 69 := trips1 ▸ k.isLt
  have hc := cond10_pos k (by omega)
  have hc' := cond11_neg k hj
  unfold resAt ringAt
  rw [show 9 + (k.val + 1) = 9 + k.val + 1 from rfl]
  rw [Ring.At4_here _ _ _ _ (9 + k.val) hk, Ring.At4_next _ _ _ _ (9 + k.val) hk, Ring.slotAt4_next0 _ _ _ _ (by omega), Ring.slotAt4_next1 _ _ _ _ (by omega), Ring.slotAt4_next2 _ _ _ _ (by omega)]
  iintro ⟨⟨%fo, HO, %hfo⟩, ⟨%f4, H4, %hf4⟩, ⟨%f5, H5, %hf5⟩, H1, H8, HQ, ⟨%W, HW⟩, ⟨⟨Hb0, Hb1⟩, Hrest⟩, ⟨%g0, HF0⟩, ⟨%g1, HF1⟩, ⟨%g2, HF2⟩, ⟨Hc, ⟨%f3, Hs0, Hs1⟩⟩⟩
  imod (alloc c XW (Ring.sl 4 (9 + k.val + 3)) (Ring.bk 78 (9 + k.val + 3)) f3) $$ Hc with HB
  dsimp only [trip1]
  sl_unfold [k0_t1_body]
  sl_exec
  ihave HS := slot_join c XW (Ring.sl 4 (9 + k.val)) (Ring.bk 78 (9 + k.val)) (g0 0) (g0 1) $$ [HF0_dst0 HF0_dst1]
  · isplitl [HF0_dst0]; · iexact HF0_dst0
    iexact HF0_dst1
  sl_exec
  sl_step
  have hw : ∀ k : Fin k0_t1_loop.trips, Scalar.remsi (trip_start_mid.sl.v1210 k) 3#32 = BitVec.ofNat 32 ((9 + k.val) % 3) := by decide +kernel
  have ea := fun i67 i68 i0 => acc_new c XW k _ (hw k) fq fo A hfo i67 i68 i0
  try delta trip_start_mid.sl.v1228 trip_start_mid.sl.v1265
  isplitl [HO]
  · iexists _; isplitl [HO]; · iexact HO
    ipureintro
    rw [View.read_writes_full]
    exact ea _ _ _
  isplitl [H4]
  · iexists _; isplitl [H4]; · iexact H4
    ipureintro; unfold zStep; rw [if_neg hj]; exact hf4
  isplitl [H5]
  · iexists _; isplitl [H5]; · iexact H5
    ipureintro; unfold yStep; rw [if_neg hj]; exact hf5
  isplitl [H1]; · iexact H1
  isplitl [H8]; · iexact H8
  isplitl [HQ]; · iexact HQ
  isplitl [HW]; · iexists _; iexact HW
  isplitl [HF0_src0 HF0_src1 Hrest]
  · isplitl [HF0_src0 HF0_src1]
    · isplitl [HF0_src0]; · iexact HF0_src0
      iexact HF0_src1
    iexact Hrest
  isplitl [HF1]; · iexists g1; iexact HF1
  isplitl [HF2]; · iexists g2; iexact HF2
  isplitl [HB]; · iexists f3; iexact HB
  isplitl [HF0]; · iexact HF0
  iapply (slot_split c); iexact HS

theorem trip_start_end (k : Fin k0_t1_loop.trips) (hk : 9 + k.val + 3 < 78) (hj : k.val % 3 = 2) (f1 f8 fq) (A : Vec F S72x1024 .f32) (Z Y) :
    resAt c XW arg1 arg4 arg5 arg8 f1 f8 fq A Z Y k ⊢ wp frame (wpE (defs₀ (F := F)) 𝒱₀ (c : Thread nD τ) none) Set.univ (trip1 arg0 harg0 arg1 harg1 arg2 harg2 arg4 harg4 arg5 harg5 arg6 harg6 arg7 harg7 arg8 harg8 v1154 v1155 k)
      (fun _ => resAt c XW arg1 arg4 arg5 arg8 f1 f8 fq (accStep c XW (xqBlk c fq k) (9 + k.val) A)
        (zStep (arg1.view.read (Elt F) f1) (arg8.view.read (Elt F) f8) (accStep c XW (xqBlk c fq k) (9 + k.val) A) k Z)
        (yStep (arg1.view.read (Elt F) f1) (arg8.view.read (Elt F) f8) (accStep c XW (xqBlk c fq k) (9 + k.val) A) k Y) (k.val + 1)) := by
  have hk69 : k.val < 69 := trips1 ▸ k.isLt
  have hc := cond10_pos k (by omega)
  have hc' := cond11_pos k hj
  unfold resAt ringAt
  rw [show 9 + (k.val + 1) = 9 + k.val + 1 from rfl]
  rw [Ring.At4_here _ _ _ _ (9 + k.val) hk, Ring.At4_next _ _ _ _ (9 + k.val) hk, Ring.slotAt4_next0 _ _ _ _ (by omega), Ring.slotAt4_next1 _ _ _ _ (by omega), Ring.slotAt4_next2 _ _ _ _ (by omega)]
  iintro ⟨⟨%fo, HO, %hfo⟩, ⟨%f4, H4, %hf4⟩, ⟨%f5, H5, %hf5⟩, H1, H8, HQ, ⟨%W, HW⟩, ⟨⟨Hb0, Hb1⟩, Hrest⟩, ⟨%g0, HF0⟩, ⟨%g1, HF1⟩, ⟨%g2, HF2⟩, ⟨Hc, ⟨%f3, Hs0, Hs1⟩⟩⟩
  imod (alloc c XW (Ring.sl 4 (9 + k.val + 3)) (Ring.bk 78 (9 + k.val + 3)) f3) $$ Hc with HB
  dsimp only [trip1]
  sl_unfold [k0_t1_body]
  sl_exec
  ihave HS := slot_join c XW (Ring.sl 4 (9 + k.val)) (Ring.bk 78 (9 + k.val)) (g0 0) (g0 1) $$ [HF0_dst0 HF0_dst1]
  · isplitl [HF0_dst0]; · iexact HF0_dst0
    iexact HF0_dst1
  sl_exec
  sl_step
  have hw : ∀ k : Fin k0_t1_loop.trips, Scalar.remsi (trip_start_end.sl.v1210 k) 3#32 = BitVec.ofNat 32 ((9 + k.val) % 3) := by decide +kernel
  have ea := fun i67 i68 i0 => acc_new c XW k _ (hw k) fq fo A hfo i67 i68 i0
  try delta trip_start_end.sl.v1285 trip_start_end.sl.v1299 trip_start_end.sl.HO_1 trip_start_end.sl.v1228 trip_start_end.sl.v1265
  isplitl [HO]
  · iexists _; isplitl [HO]; · iexact HO
    ipureintro
    rw [View.read_writes_full]
    exact ea _ _ _
  isplitl [H4]
  · iexists _; isplitl [H4]; · iexact H4
    ipureintro
    refine (View.read_writes_cons_put _ _ _ _ _ (off70_eq k hj)).trans ?_
    unfold zStep; rw [if_pos hj]
    refine put_congr _ _ hf4 ?_
    refine congr (congr (congrArg k0_pay49 ((acc_lo _ _ _ _).trans (congrArg accLo (ea _ _ _)))) (View.readAt_full _ _ _)) (wsc_readAt c arg1 _ _ (off69_eq k hj) (by omega) _ _)
  isplitl [H5]
  · iexists _; isplitl [H5]; · iexact H5
    ipureintro
    refine (View.read_writes_cons_put _ _ _ _ _ (off72_eq k hj)).trans ?_
    unfold yStep; rw [if_pos hj]
    refine put_congr _ _ hf5 ?_
    refine congr (congr (congrArg k0_pay50 ((acc_hi _ _ _ _).trans (congrArg accHi (ea _ _ _)))) (View.readAt_full _ _ _)) (wsc_readAt c arg1 _ _ (off71_eq k hj) (by omega) _ _)
  isplitl [H1]; · iexact H1
  isplitl [H8]; · iexact H8
  isplitl [HQ]; · iexact HQ
  isplitl [HW]; · iexists _; iexact HW
  isplitl [HF0_src0 HF0_src1 Hrest]
  · isplitl [HF0_src0 HF0_src1]
    · isplitl [HF0_src0]; · iexact HF0_src0
      iexact HF0_src1
    iexact Hrest
  isplitl [HF1]; · iexists g1; iexact HF1
  isplitl [HF2]; · iexists g2; iexact HF2
  isplitl [HB]; · iexists f3; iexact HB
  isplitl [HF0]; · iexact HF0
  iapply (slot_split c); iexact HS

theorem trip_tail_mid (k : Fin k0_t1_loop.trips) (hk : 78 ≤ 9 + k.val + 3) (hj : k.val % 3 ≠ 2) (f1 f8 fq) (A : Vec F S72x1024 .f32) (Z Y) :
    resAt c XW arg1 arg4 arg5 arg8 f1 f8 fq A Z Y k ⊢ wp frame (wpE (defs₀ (F := F)) 𝒱₀ (c : Thread nD τ) none) Set.univ (trip1 arg0 harg0 arg1 harg1 arg2 harg2 arg4 harg4 arg5 harg5 arg6 harg6 arg7 harg7 arg8 harg8 v1154 v1155 k)
      (fun _ => resAt c XW arg1 arg4 arg5 arg8 f1 f8 fq (accStep c XW (xqBlk c fq k) (9 + k.val) A)
        (zStep (arg1.view.read (Elt F) f1) (arg8.view.read (Elt F) f8) (accStep c XW (xqBlk c fq k) (9 + k.val) A) k Z)
        (yStep (arg1.view.read (Elt F) f1) (arg8.view.read (Elt F) f8) (accStep c XW (xqBlk c fq k) (9 + k.val) A) k Y) (k.val + 1)) := by
  have hk69 : k.val < 69 := trips1 ▸ k.isLt
  have hc := cond10_neg k (by omega)
  have hc' := cond11_neg k hj
  unfold resAt ringAt
  rw [show 9 + (k.val + 1) = 9 + k.val + 1 from rfl]
  rw [Ring.At4_here_tail _ _ _ _ (9 + k.val) (by omega), Ring.At4_next_tail _ _ _ _ (9 + k.val) hk (by omega), Ring.slotAt4_tail_role, Ring.slotAt4_tail_role1]
  iintro ⟨⟨%fo, HO, %hfo⟩, ⟨%f4, H4, %hf4⟩, ⟨%f5, H5, %hf5⟩, H1, H8, HQ, ⟨%W, HW⟩, Hrest, ⟨%g0, HF0⟩, HF1, HF2, Hfr⟩
  dsimp only [trip1]
  sl_unfold [k0_t1_body]
  sl_exec
  ihave HS := slot_join c XW (Ring.sl 4 (9 + k.val)) (Ring.bk 78 (9 + k.val)) (g0 0) (g0 1) $$ [HF0_dst0 HF0_dst1]
  · isplitl [HF0_dst0]; · iexact HF0_dst0
    iexact HF0_dst1
  sl_exec
  sl_step
  have hw : ∀ k : Fin k0_t1_loop.trips, Scalar.remsi (trip_tail_mid.sl.v1210 k) 3#32 = BitVec.ofNat 32 ((9 + k.val) % 3) := by decide +kernel
  have ea := fun i67 i68 i0 => acc_new c XW k _ (hw k) fq fo A hfo i67 i68 i0
  try delta trip_tail_mid.sl.v1228 trip_tail_mid.sl.v1265
  isplitl [HO]
  · iexists _; isplitl [HO]; · iexact HO
    ipureintro
    rw [View.read_writes_full]
    exact ea _ _ _
  isplitl [H4]
  · iexists _; isplitl [H4]; · iexact H4
    ipureintro; unfold zStep; rw [if_neg hj]; exact hf4
  isplitl [H5]
  · iexists _; isplitl [H5]; · iexact H5
    ipureintro; unfold yStep; rw [if_neg hj]; exact hf5
  isplitl [H1]; · iexact H1
  isplitl [H8]; · iexact H8
  isplitl [HQ]; · iexact HQ
  isplitl [HW]; · iexists _; iexact HW
  isplitl [HF0_src0 HF0_src1 Hrest]
  · isplitl [HF0_src0 HF0_src1]
    · isplitl [HF0_src0]; · iexact HF0_src0
      iexact HF0_src1
    iexact Hrest
  isplitl [HF1]; · iexact HF1
  isplitl [HF2]; · iexact HF2
  isplitl [Hfr]; · iexact Hfr
  isplitl [HF0]; · iexact HF0
  iapply (slot_split c); iexact HS

theorem trip_tail_end (k : Fin k0_t1_loop.trips) (hk : 78 ≤ 9 + k.val + 3) (hj : k.val % 3 = 2) (f1 f8 fq) (A : Vec F S72x1024 .f32) (Z Y) :
    resAt c XW arg1 arg4 arg5 arg8 f1 f8 fq A Z Y k ⊢ wp frame (wpE (defs₀ (F := F)) 𝒱₀ (c : Thread nD τ) none) Set.univ (trip1 arg0 harg0 arg1 harg1 arg2 harg2 arg4 harg4 arg5 harg5 arg6 harg6 arg7 harg7 arg8 harg8 v1154 v1155 k)
      (fun _ => resAt c XW arg1 arg4 arg5 arg8 f1 f8 fq (accStep c XW (xqBlk c fq k) (9 + k.val) A)
        (zStep (arg1.view.read (Elt F) f1) (arg8.view.read (Elt F) f8) (accStep c XW (xqBlk c fq k) (9 + k.val) A) k Z)
        (yStep (arg1.view.read (Elt F) f1) (arg8.view.read (Elt F) f8) (accStep c XW (xqBlk c fq k) (9 + k.val) A) k Y) (k.val + 1)) := by
  have hk69 : k.val < 69 := trips1 ▸ k.isLt
  have hc := cond10_neg k (by omega)
  have hc' := cond11_pos k hj
  unfold resAt ringAt
  rw [show 9 + (k.val + 1) = 9 + k.val + 1 from rfl]
  rw [Ring.At4_here_tail _ _ _ _ (9 + k.val) (by omega), Ring.At4_next_tail _ _ _ _ (9 + k.val) hk (by omega), Ring.slotAt4_tail_role, Ring.slotAt4_tail_role1]
  iintro ⟨⟨%fo, HO, %hfo⟩, ⟨%f4, H4, %hf4⟩, ⟨%f5, H5, %hf5⟩, H1, H8, HQ, ⟨%W, HW⟩, Hrest, ⟨%g0, HF0⟩, HF1, HF2, Hfr⟩
  dsimp only [trip1]
  sl_unfold [k0_t1_body]
  sl_exec
  ihave HS := slot_join c XW (Ring.sl 4 (9 + k.val)) (Ring.bk 78 (9 + k.val)) (g0 0) (g0 1) $$ [HF0_dst0 HF0_dst1]
  · isplitl [HF0_dst0]; · iexact HF0_dst0
    iexact HF0_dst1
  sl_exec
  sl_step
  have hw : ∀ k : Fin k0_t1_loop.trips, Scalar.remsi (trip_tail_end.sl.v1210 k) 3#32 = BitVec.ofNat 32 ((9 + k.val) % 3) := by decide +kernel
  have ea := fun i67 i68 i0 => acc_new c XW k _ (hw k) fq fo A hfo i67 i68 i0
  try delta trip_tail_end.sl.v1285 trip_tail_end.sl.v1299 trip_tail_end.sl.HO_1 trip_tail_end.sl.v1228 trip_tail_end.sl.v1265
  isplitl [HO]
  · iexists _; isplitl [HO]; · iexact HO
    ipureintro
    rw [View.read_writes_full]
    exact ea _ _ _
  isplitl [H4]
  · iexists _; isplitl [H4]; · iexact H4
    ipureintro
    refine (View.read_writes_cons_put _ _ _ _ _ (off70_eq k hj)).trans ?_
    unfold zStep; rw [if_pos hj]
    refine put_congr _ _ hf4 ?_
    refine congr (congr (congrArg k0_pay49 ((acc_lo _ _ _ _).trans (congrArg accLo (ea _ _ _)))) (View.readAt_full _ _ _)) (wsc_readAt c arg1 _ _ (off69_eq k hj) (by omega) _ _)
  isplitl [H5]
  · iexists _; isplitl [H5]; · iexact H5
    ipureintro
    refine (View.read_writes_cons_put _ _ _ _ _ (off72_eq k hj)).trans ?_
    unfold yStep; rw [if_pos hj]
    refine put_congr _ _ hf5 ?_
    refine congr (congr (congrArg k0_pay50 ((acc_hi _ _ _ _).trans (congrArg accHi (ea _ _ _)))) (View.readAt_full _ _ _)) (wsc_readAt c arg1 _ _ (off71_eq k hj) (by omega) _ _)
  isplitl [H1]; · iexact H1
  isplitl [H8]; · iexact H8
  isplitl [HQ]; · iexact HQ
  isplitl [HW]; · iexists _; iexact HW
  isplitl [HF0_src0 HF0_src1 Hrest]
  · isplitl [HF0_src0 HF0_src1]
    · isplitl [HF0_src0]; · iexact HF0_src0
      iexact HF0_src1
    iexact Hrest
  isplitl [HF1]; · iexact HF1
  isplitl [HF2]; · iexact HF2
  isplitl [Hfr]; · iexact Hfr
  isplitl [HF0]; · iexact HF0
  iapply (slot_split c); iexact HS

end Trip

end Cert.Proof.InIdeal

end
-- ==== Proof.InIdealLoop.lean ====
module

public import proofs.«01_k».proof.Defs
public import proofs.«01_k».proof.Proof.Gen.KernelInIdeal.Launch
public import proofs.«01_k».proof.Proof.Gen.KernelInIdeal.Skeleton
public import proofs.«01_k».proof.Proof.Gen.KernelInIdeal.Loops
public import proofs.«01_k».proof.Proof.Gen.KernelInIdeal.Points
public import Idealize.ShloMosaic.Lib.Pipeline.KitQuiescent
public import Idealize.ShloMosaic.Lib.Ring
public import Idealize.ShloMosaic.Lib.Ring.AtN
public import Idealize.ShloMosaic.Lib.Batch
public import Idealize.ShloMosaic.Lib.Affine
public import Idealize.ShloMosaic.Lib.Tactic
public import Idealize.ShloMosaic.Lib.ValueIdxCore
public import Idealize.ShloMosaic.Lib.VecWindow
public import Idealize.ShloMosaic.Lib.Pipeline.Value
public import proofs.«01_k».proof.Proof.InIdealTrip

@[expose] public section

noncomputable section

namespace Cert.Proof.InIdeal

open Cert.KernelInIdeal Cert.KernelInIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UU nD τ) ℕ

section Trip
variable (c : Dev nD) (XW : Buf (Elt F) (wM.view.loc (c : Thread nD τ)))
  (arg0 : Memref sig .tc .vmem S72x6144 .bf16) (harg0 : arg0.IsWhole)
  (arg1 : Memref sig .tc .vmem S1x26816 .f32) (harg1 : arg1.IsWhole)
  (arg2 : Memref sig .tc .vmem S1x192 .f32) (harg2 : arg2.IsWhole)
  (arg4 : Memref sig .tc .vmem S72x12288 .f32) (harg4 : arg4.IsWhole)
  (arg5 : Memref sig .tc .vmem S72x14336 .f32) (harg5 : arg5.IsWhole)
  (arg6 : Memref sig .tc .vmem S72x192 .f32) (harg6 : arg6.IsWhole)
  (arg7 : Memref sig .tc .vmem S72x6144 .i8) (harg7 : arg7.IsWhole)
  (arg8 : Memref sig .tc .vmem S72x1 .f32) (harg8 : arg8.IsWhole)
  (v1154 : FVec F S72x1024 .f32) (v1155 : BitVec 1)

set_option maxHeartbeats 1600000 in
/-- Any trip of the loop: one more chunk multiplied, a finished tile scaled out, the ring moved on by one. -/
theorem trip_any (k : Fin k0_t1_loop.trips) (f1 : Buf (Elt F) (arg1.view.loc (c : Thread nD τ))) (f8 : Buf (Elt F) (arg8.view.loc (c : Thread nD τ))) (fq : Buf (Elt F) (xqM.view.loc (c : Thread nD τ))) (A : Vec F S72x1024 .f32) (Z : Vec F S72x12288 .f32) (Y : Vec F S72x14336 .f32) :
    resAt c XW arg1 arg4 arg5 arg8 f1 f8 fq A Z Y k ⊢ wp frame (wpE (defs₀ (F := F)) 𝒱₀ (c : Thread nD τ) none) Set.univ (trip1 arg0 harg0 arg1 harg1 arg2 harg2 arg4 harg4 arg5 harg5 arg6 harg6 arg7 harg7 arg8 harg8 v1154 v1155 k)
      (fun _ => resAt c XW arg1 arg4 arg5 arg8 f1 f8 fq (accStep c XW (xqBlk c fq k) (9 + k.val) A)
        (zStep (arg1.view.read (Elt F) f1) (arg8.view.read (Elt F) f8) (accStep c XW (xqBlk c fq k) (9 + k.val) A) k Z)
        (yStep (arg1.view.read (Elt F) f1) (arg8.view.read (Elt F) f8) (accStep c XW (xqBlk c fq k) (9 + k.val) A) k Y) (k.val + 1)) := by
  by_cases hk : 9 + k.val + 3 < 78
  · by_cases hj : k.val % 3 = 2
    · exact @trip_start_end F _ c XW arg0 harg0 arg1 harg1 arg2 harg2 arg4 harg4 arg5 harg5 arg6 harg6 arg7 harg7 arg8 harg8 v1154 v1155 k hk hj f1 f8 fq A Z Y
    · exact @trip_start_mid F _ c XW arg0 harg0 arg1 harg1 arg2 harg2 arg4 harg4 arg5 harg5 arg6 harg6 arg7 harg7 arg8 harg8 v1154 v1155 k hk hj f1 f8 fq A Z Y
  · by_cases hj : k.val % 3 = 2
    · exact @trip_tail_end F _ c XW arg0 harg0 arg1 harg1 arg2 harg2 arg4 harg4 arg5 harg5 arg6 harg6 arg7 harg7 arg8 harg8 v1154 v1155 k (Nat.le_of_not_lt hk) hj f1 f8 fq A Z Y
    · exact @trip_tail_mid F _ c XW arg0 harg0 arg1 harg1 arg2 harg2 arg4 harg4 arg5 harg5 arg6 harg6 arg7 harg7 arg8 harg8 v1154 v1155 k (Nat.le_of_not_lt hk) hj f1 f8 fq A Z Y

/-- The accumulator before trip `k`, from `A0` on, the quantised column blocks being `G`. -/
def accAt (G : ℕ → Vec F S1x72x2048 .bf16) (A0 : Vec F S72x1024 .f32) : ℕ → Vec F S72x1024 .f32
  | 0 => A0
  | k + 1 => accStep c XW (G k) (9 + k) (accAt G A0 k)
/-- The first output before trip `k`. -/
def zAt (G : ℕ → Vec F S1x72x2048 .bf16) (W : Vec F S1x26816 .f32) (xs : Vec F S72x1 .f32) (A0 : Vec F S72x1024 .f32) (Z0 : Vec F S72x12288 .f32) : ℕ → Vec F S72x12288 .f32
  | 0 => Z0
  | k + 1 => zStep W xs (accAt c XW G A0 (k + 1)) k (zAt G W xs A0 Z0 k)
/-- The second output before trip `k`. -/
def yAt (G : ℕ → Vec F S1x72x2048 .bf16) (W : Vec F S1x26816 .f32) (xs : Vec F S72x1 .f32) (A0 : Vec F S72x1024 .f32) (Y0 : Vec F S72x14336 .f32) : ℕ → Vec F S72x14336 .f32
  | 0 => Y0
  | k + 1 => yStep W xs (accAt c XW G A0 (k + 1)) k (yAt G W xs A0 Y0 k)

/-- The accumulator's buffer before trip `k`. -/
def accC (fq : Buf (Elt F) (xqM.view.loc (c : Thread nD τ))) (fo : Buf (Elt F) (accM.view.loc (c : Thread nD τ))) : ℕ → Buf (Elt F) (accM.view.loc (c : Thread nD τ))
  | 0 => fo
  | k + 1 => accM.view.rep (accAt c XW (xqBlk c fq) (accM.view.read (Elt F) fo) (k + 1))
theorem read_accC (fq) (fo : Buf (Elt F) (accM.view.loc (c : Thread nD τ))) (k : ℕ) : accM.view.read (Elt F) (accC c XW fq fo k) = accAt c XW (xqBlk c fq) (accM.view.read (Elt F) fo) k := by
  cases k with
  | zero => rfl
  | succ k => exact View.read_rep _ _
/-- The first output's buffer before trip `k`. -/
def zC (f1 : Buf (Elt F) (arg1.view.loc (c : Thread nD τ))) (f8 : Buf (Elt F) (arg8.view.loc (c : Thread nD τ))) (fq : Buf (Elt F) (xqM.view.loc (c : Thread nD τ))) (fo : Buf (Elt F) (accM.view.loc (c : Thread nD τ))) (f4 : Buf (Elt F) (arg4.view.loc (c : Thread nD τ))) : ℕ → Buf (Elt F) (arg4.view.loc (c : Thread nD τ))
  | 0 => f4
  | k + 1 => arg4.view.rep (zAt c XW (xqBlk c fq) (arg1.view.read (Elt F) f1) (arg8.view.read (Elt F) f8) (accM.view.read (Elt F) fo) (arg4.view.read (Elt F) f4) (k + 1))
theorem read_zC (f1 : Buf (Elt F) (arg1.view.loc (c : Thread nD τ))) (f8 : Buf (Elt F) (arg8.view.loc (c : Thread nD τ))) (fq : Buf (Elt F) (xqM.view.loc (c : Thread nD τ))) (fo : Buf (Elt F) (accM.view.loc (c : Thread nD τ))) (f4 : Buf (Elt F) (arg4.view.loc (c : Thread nD τ))) (k : ℕ) : arg4.view.read (Elt F) (zC c XW arg1 arg4 arg8 f1 f8 fq fo f4 k)
    = zAt c XW (xqBlk c fq) (arg1.view.read (Elt F) f1) (arg8.view.read (Elt F) f8) (accM.view.read (Elt F) fo) (arg4.view.read (Elt F) f4) k := by
  cases k with
  | zero => rfl
  | succ k => exact View.read_rep _ _
/-- The second output's buffer before trip `k`. -/
def yC (f1 : Buf (Elt F) (arg1.view.loc (c : Thread nD τ))) (f8 : Buf (Elt F) (arg8.view.loc (c : Thread nD τ))) (fq : Buf (Elt F) (xqM.view.loc (c : Thread nD τ))) (fo : Buf (Elt F) (accM.view.loc (c : Thread nD τ))) (f5 : Buf (Elt F) (arg5.view.loc (c : Thread nD τ))) : ℕ → Buf (Elt F) (arg5.view.loc (c : Thread nD τ))
  | 0 => f5
  | k + 1 => arg5.view.rep (yAt c XW (xqBlk c fq) (arg1.view.read (Elt F) f1) (arg8.view.read (Elt F) f8) (accM.view.read (Elt F) fo) (arg5.view.read (Elt F) f5) (k + 1))
theorem read_yC (f1 : Buf (Elt F) (arg1.view.loc (c : Thread nD τ))) (f8 : Buf (Elt F) (arg8.view.loc (c : Thread nD τ))) (fq : Buf (Elt F) (xqM.view.loc (c : Thread nD τ))) (fo : Buf (Elt F) (accM.view.loc (c : Thread nD τ))) (f5 : Buf (Elt F) (arg5.view.loc (c : Thread nD τ))) (k : ℕ) : arg5.view.read (Elt F) (yC c XW arg1 arg5 arg8 f1 f8 fq fo f5 k)
    = yAt c XW (xqBlk c fq) (arg1.view.read (Elt F) f1) (arg8.view.read (Elt F) f8) (accM.view.read (Elt F) fo) (arg5.view.read (Elt F) f5) k := by
  cases k with
  | zero => rfl
  | succ k => exact View.read_rep _ _

/-- The loop's resources before trip `k`, the buffers at named contents. -/
def invAt (f1 : Buf (Elt F) (arg1.view.loc (c : Thread nD τ))) (f8 : Buf (Elt F) (arg8.view.loc (c : Thread nD τ))) (fq : Buf (Elt F) (xqM.view.loc (c : Thread nD τ))) (fo : Buf (Elt F) (accM.view.loc (c : Thread nD τ))) (f4 : Buf (Elt F) (arg4.view.loc (c : Thread nD τ))) (f5 : Buf (Elt F) (arg5.view.loc (c : Thread nD τ))) (k : ℕ) : sProp 𝕄 :=
  iprop(accP c fo ∗ arg4P c arg4 f4 ∗ arg5P c arg5 f5 ∗ arg1P c arg1 f1 ∗ arg8P c arg8 f8 ∗ xqP c fq ∗ (∃ W, owes (c : Thread nD τ) 0 W) ∗ ringAt c XW (9 + k))

theorem invAt_step (k : Fin k0_t1_loop.trips) (f1 : Buf (Elt F) (arg1.view.loc (c : Thread nD τ))) (f8 : Buf (Elt F) (arg8.view.loc (c : Thread nD τ))) (fq : Buf (Elt F) (xqM.view.loc (c : Thread nD τ))) (fo : Buf (Elt F) (accM.view.loc (c : Thread nD τ))) (f4 : Buf (Elt F) (arg4.view.loc (c : Thread nD τ))) (f5 : Buf (Elt F) (arg5.view.loc (c : Thread nD τ))) :
    invAt c XW arg1 arg4 arg5 arg8 f1 f8 fq (accC c XW fq fo k) (zC c XW arg1 arg4 arg8 f1 f8 fq fo f4 k) (yC c XW arg1 arg5 arg8 f1 f8 fq fo f5 k) k
      ⊢ wp frame (wpE (defs₀ (F := F)) 𝒱₀ (c : Thread nD τ) none) Set.univ (trip1 arg0 harg0 arg1 harg1 arg2 harg2 arg4 harg4 arg5 harg5 arg6 harg6 arg7 harg7 arg8 harg8 v1154 v1155 k)
        (fun _ => invAt c XW arg1 arg4 arg5 arg8 f1 f8 fq (accC c XW fq fo (k.val + 1)) (zC c XW arg1 arg4 arg8 f1 f8 fq fo f4 (k.val + 1)) (yC c XW arg1 arg5 arg8 f1 f8 fq fo f5 (k.val + 1)) (k.val + 1)) := by
  iintro H
  iapply (wp_wand_r Idealize.ShloMosaic.frame (wpE (defs₀ (F := F)) 𝒱₀ (c : Thread nD τ) none) Set.univ)
  isplitl [H]
  · iapply (@trip_any F _ c XW arg0 harg0 arg1 harg1 arg2 harg2 arg4 harg4 arg5 harg5 arg6 harg6 arg7 harg7 arg8 harg8 v1154 v1155 k f1 f8 fq (accM.view.read (Elt F) (accC c XW fq fo k)) (arg4.view.read (Elt F) (zC c XW arg1 arg4 arg8 f1 f8 fq fo f4 k)) (arg5.view.read (Elt F) (yC c XW arg1 arg5 arg8 f1 f8 fq fo f5 k)))
    unfold resAt invAt
    icases H with ⟨HO, H4, H5, H⟩
    isplitl [HO]
    · iexists _; isplitl [HO]; · iexact HO
      ipureintro; rfl
    isplitl [H4]
    · iexists _; isplitl [H4]; · iexact H4
      ipureintro; rfl
    isplitl [H5]
    · iexists _; isplitl [H5]; · iexact H5
      ipureintro; rfl
    iexact H
  · iintro %_ H'
    unfold resAt invAt
    icases H' with ⟨⟨%f, HO, %hf⟩, ⟨%g, H4, %hg⟩, ⟨%h, H5, %hh⟩, H⟩
    have hA : accStep c XW (xqBlk c fq k) (9 + k.val) (accM.view.read (Elt F) (accC c XW fq fo k)) = accAt c XW (xqBlk c fq) (accM.view.read (Elt F) fo) (k.val + 1) := by rw [read_accC]; rfl
    rw [hA] at hf hg hh
    isplitl [HO]
    · iapply (pointsTo_rep_of_read (c : Thread nD τ) accM f fullShare (accAt c XW (xqBlk c fq) (accM.view.read (Elt F) fo) (k.val + 1)) hf)
      iexact HO
    isplitl [H4]
    · iapply (pointsTo_rep_of_read (c : Thread nD τ) arg4 g fullShare (zAt c XW (xqBlk c fq) (arg1.view.read (Elt F) f1) (arg8.view.read (Elt F) f8) (accM.view.read (Elt F) fo) (arg4.view.read (Elt F) f4) (k.val + 1)) (by rw [hg, read_zC]; rfl))
      iexact H4
    isplitl [H5]
    · iapply (pointsTo_rep_of_read (c : Thread nD τ) arg5 h fullShare (yAt c XW (xqBlk c fq) (arg1.view.read (Elt F) f1) (arg8.view.read (Elt F) f8) (accM.view.read (Elt F) fo) (arg5.view.read (Elt F) f5) (k.val + 1)) (by rw [hh, read_yC]; rfl))
      iexact H5
    iexact H

set_option maxHeartbeats 1600000 in
set_option warn.classDefReducibility false in
/-- The loop of the tiles, by `accC`, `zC`, `yC` and the ring. -/
def loopInv (f1 : Buf (Elt F) (arg1.view.loc (c : Thread nD τ))) (f8 : Buf (Elt F) (arg8.view.loc (c : Thread nD τ))) (fq : Buf (Elt F) (xqM.view.loc (c : Thread nD τ))) (fo : Buf (Elt F) (accM.view.loc (c : Thread nD τ))) (f4 : Buf (Elt F) (arg4.view.loc (c : Thread nD τ))) (f5 : Buf (Elt F) (arg5.view.loc (c : Thread nD τ))) :
    LoopInvTy_k0_t1 (F := F) Unit ℕ (UU nD τ) ℕ 𝒱₀ c none Set.univ arg0 harg0 arg1 harg1 arg2 harg2 wM (Memref.isWhole_whole _) arg4 harg4 arg5 harg5 arg6 harg6 arg7 harg7 arg8 harg8 xqM (Memref.isWhole_whole _) bufM (Memref.isWhole_whole _) wdtM (Memref.isWhole_whole _) accM (Memref.isWhole_whole _) cc0_scratch4 cc0_scratch5 v1154 v1155 where
  inv k _ := invAt c XW arg1 arg4 arg5 arg8 f1 f8 fq (accC c XW fq fo k) (zC c XW arg1 arg4 arg8 f1 f8 fq fo f4 k) (yC c XW arg1 arg5 arg8 f1 f8 fq fo f5 k) k
  step k _ := @invAt_step F _ c XW arg0 harg0 arg1 harg1 arg2 harg2 arg4 harg4 arg5 harg5 arg6 harg6 arg7 harg7 arg8 harg8 v1154 v1155 k f1 f8 fq fo f4 f5

end Trip

end Cert.Proof.InIdeal

end
-- ==== Proof.InIdealBody.lean ====
module

public import proofs.«01_k».proof.Defs
public import proofs.«01_k».proof.Proof.Gen.KernelInIdeal.Launch
public import proofs.«01_k».proof.Proof.Gen.KernelInIdeal.Skeleton
public import proofs.«01_k».proof.Proof.Gen.KernelInIdeal.Loops
public import proofs.«01_k».proof.Proof.Gen.KernelInIdeal.Points
public import Idealize.ShloMosaic.Lib.Pipeline.KitQuiescent
public import Idealize.ShloMosaic.Lib.Ring
public import Idealize.ShloMosaic.Lib.Ring.AtN
public import Idealize.ShloMosaic.Lib.Batch
public import Idealize.ShloMosaic.Lib.Affine
public import Idealize.ShloMosaic.Lib.Tactic
public import Idealize.ShloMosaic.Lib.ValueIdxCore
public import Idealize.ShloMosaic.Lib.VecWindow
public import Idealize.ShloMosaic.Lib.Pipeline.Value
public import proofs.«01_k».proof.Proof.InIdealLoop

@[expose] public section

noncomputable section

namespace Cert.Proof.InIdeal

open Cert.KernelInIdeal Cert.KernelInIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UU nD τ) ℕ

section Body
variable (c : Dev nD) (XW : Buf (Elt F) (wM.view.loc (c : Thread nD τ)))
  (arg0 : Memref sig .tc .vmem S72x6144 .bf16) (harg0 : arg0.IsWhole)
  (arg1 : Memref sig .tc .vmem S1x26816 .f32) (harg1 : arg1.IsWhole)
  (arg2 : Memref sig .tc .vmem S1x192 .f32) (harg2 : arg2.IsWhole)
  (arg4 : Memref sig .tc .vmem S72x12288 .f32) (harg4 : arg4.IsWhole)
  (arg5 : Memref sig .tc .vmem S72x14336 .f32) (harg5 : arg5.IsWhole)
  (arg6 : Memref sig .tc .vmem S72x192 .f32) (harg6 : arg6.IsWhole)
  (arg7 : Memref sig .tc .vmem S72x6144 .i8) (harg7 : arg7.IsWhole)
  (arg8 : Memref sig .tc .vmem S72x1 .f32) (harg8 : arg8.IsWhole)
instance : ClosedOff (k0_off11 0#32) := ⟨![0, 0, 0], off11_eq 0⟩
instance : ClosedOff (k0_off12 0#32) := ⟨slotOff 0, off12_eq 0⟩
instance : ClosedOff (k0_off11 1#32) := ⟨![1, 0, 0], off11_eq 1⟩
instance : ClosedOff (k0_off12 1#32) := ⟨slotOff 1, off12_eq 1⟩
instance : ClosedOff (k0_off11 2#32) := ⟨![2, 0, 0], off11_eq 2⟩
instance : ClosedOff (k0_off12 2#32) := ⟨slotOff 2, off12_eq 2⟩
instance : ClosedOff (k0_off11 3#32) := ⟨![0, 0, 0], off11_eq 3⟩
instance : ClosedOff (k0_off12 3#32) := ⟨slotOff 3, off12_eq 3⟩
instance : ClosedOff (k0_off11 4#32) := ⟨![1, 0, 0], off11_eq 4⟩
instance : ClosedOff (k0_off12 4#32) := ⟨slotOff 0, off12_eq 4⟩
instance : ClosedOff (k0_off11 5#32) := ⟨![2, 0, 0], off11_eq 5⟩
instance : ClosedOff (k0_off12 5#32) := ⟨slotOff 1, off12_eq 5⟩
instance : ClosedOff (k0_off11 6#32) := ⟨![0, 0, 0], off11_eq 6⟩
instance : ClosedOff (k0_off12 6#32) := ⟨slotOff 2, off12_eq 6⟩
instance : ClosedOff (k0_off11 7#32) := ⟨![1, 0, 0], off11_eq 7⟩
instance : ClosedOff (k0_off12 7#32) := ⟨slotOff 3, off12_eq 7⟩
instance : ClosedOff (k0_off11 8#32) := ⟨![2, 0, 0], off11_eq 8⟩
instance : ClosedOff (k0_off12 8#32) := ⟨slotOff 0, off12_eq 8⟩
instance : ClosedOff k0_off53 := ⟨![0, 0], by decide +kernel⟩
instance : ClosedOff k0_off54 := ⟨![0, 0], by decide +kernel⟩
instance : ClosedOff k0_off55 := ⟨![0, 12288], by decide +kernel⟩
instance : ClosedOff k0_off56 := ⟨![0, 0], by decide +kernel⟩

abbrev bodyG : Prog (TpuEff nD τ sig (Elt F) Λ₀ .tc) PUnit :=
  cc0_mamba2_decode_in arg0 harg0 arg1 harg1 arg2 harg2 wM (Memref.isWhole_whole _) arg4 harg4 arg5 harg5 arg6 harg6 arg7 harg7 arg8 harg8 xqM (Memref.isWhole_whole _) bufM (Memref.isWhole_whole _) wdtM (Memref.isWhole_whole _) accM (Memref.isWhole_whole _) cc0_scratch4 cc0_scratch5

abbrev arg0P (f : Buf (Elt F) (arg0.view.loc (c : Thread nD τ))) : sProp 𝕄 := arg0.view.loc (c : Thread nD τ) ↦[arg0.view.set]{fullShare} f
abbrev arg2P (f : Buf (Elt F) (arg2.view.loc (c : Thread nD τ))) : sProp 𝕄 := arg2.view.loc (c : Thread nD τ) ↦[arg2.view.set]{fullShare} f
abbrev arg6P (f : Buf (Elt F) (arg6.view.loc (c : Thread nD τ))) : sProp 𝕄 := arg6.view.loc (c : Thread nD τ) ↦[arg6.view.set]{fullShare} f
abbrev arg7P (f : Buf (Elt F) (arg7.view.loc (c : Thread nD τ))) : sProp 𝕄 := arg7.view.loc (c : Thread nD τ) ↦[arg7.view.set]{fullShare} f
abbrev wdtP (f : Buf (Elt F) (wdtM.view.loc (c : Thread nD τ))) : sProp 𝕄 := wdtM.view.loc (c : Thread nD τ) ↦[wdtM.view.set]{fullShare} f

/-- The last 192 weight rows, as the body slices them. -/
abbrev dtM : Memref sig .tc .hbm S192x6144 .i8 := wM.slice (Rect.unit (s := S26816x6144) ![26624, 0] S192x6144.size inb_S26816x6144_S192x6144_26624_0) (fun _ => rfl)
abbrev dsm : DmaSems sig S_ := (cc0_scratch5.slice (Rect.unit (s := S1) ![0] S1.size inb_S1_S1_0)).squeeze S_ squeezes_S1_S_
abbrev dtP : sProp 𝕄 := dtM.view.loc (c : Thread nD τ) ↦[dtM.view.set]{fullShare} XW
abbrev dcellP : sProp 𝕄 := semVal ((c : Thread nD τ), SemLoc.dma dsm.sem) 0

/-! ## What the body computes -/

/-- 128 columns of the rows from column `o` on. -/
def ld (X : Vec F S72x6144 .bf16) (o : ℕ) : Vec F S72x128 .bf16 :=
  fun i => X (ix2 (i 0 : Fin 72) (⟨(o + (i 1).val) % 6144, Nat.mod_lt _ (by decide)⟩ : Fin 6144))
/-- 2048 columns of the rows from column `o` on. -/
def ldB (X : Vec F S72x6144 .bf16) (o : ℕ) : Vec F S72x2048 .bf16 :=
  fun i => X (ix2 (i 0 : Fin 72) (⟨(o + (i 1).val) % 6144, Nat.mod_lt _ (by decide)⟩ : Fin 6144))
/-- The rows' running maximum over the first 33 groups of 128 columns. -/
def MX (X : Vec F S72x6144 .bf16) : Vec F S72x128 .f32 :=
  k0_pay6 (k0_pay5 (k0_pay3 (k0_pay2 (ld X 0) (ld X 128) (ld X 256) (ld X 384) (ld X 512) (ld X 640) (ld X 768))
      (ld X 896) (ld X 1024) (ld X 1152) (ld X 1280) (ld X 1408) (ld X 1536) (ld X 1664) (ld X 1792))
      (k0_pay4 (ld X 1920)) (ld X 2048) (ld X 2176) (ld X 2304) (ld X 2432) (ld X 2560) (ld X 2688) (ld X 2816) (ld X 2944))
    (ld X 3072) (ld X 3200) (ld X 3328) (ld X 3456) (ld X 3584) (ld X 3712) (ld X 3840) (ld X 3968) (ld X 4096)
/-- The rows' scales. -/
def SC (X : Vec F S72x6144 .bf16) : Vec F S72x1 .f32 :=
  k0_pay9 (k0_pay7 (MX X) (ld X 4224) (ld X 4352) (ld X 4480) (ld X 4608) (ld X 4736) (ld X 4864) (ld X 4992) (ld X 5120))
    (k0_pay8 (ld X 5248)) (ld X 5376) (ld X 5504) (ld X 5632) (ld X 5760) (ld X 5888) (ld X 6016)
/-- The int8 codes. -/
def CODES (X : Vec F S72x6144 .bf16) : Vec F S72x6144 .i8 :=
  fun i => k0_pay11 (SC X) (ldB X (2048 * ((i 1).val / 2048))) (ix2 (i 0 : Fin 72) (⟨(i 1).val % 2048, Nat.mod_lt _ (by decide)⟩ : Fin 2048))
/-- Column block `j` of the codes, as they are multiplied. -/
def XQ (X : Vec F S72x6144 .bf16) (j : ℕ) : Vec F S1x72x2048 .bf16 := k0_pay12 (SC X) (ldB X (2048 * (j % 3)))
/-- The last 192 weight rows, 2048 columns from `o` on. -/
def dtW (o : ℕ) : Vec F S192x2048 .i8 :=
  fun i => XW (ix2 (⟨26624 + (i 0).val, by have h : (i 0).val < 192 := (i 0).isLt; omega⟩ : Fin 26816) (⟨(o + (i 1).val) % 6144, Nat.mod_lt _ (by decide)⟩ : Fin 6144))
/-- The last 192 weight scales. -/
def wscD (W : Vec F S1x26816 .f32) : Vec F S1x192 .f32 :=
  fun i => W (ix2 (0 : Fin 1) (⟨26624 + (i 1).val, by have h : (i 1).val < 192 := (i 1).isLt; omega⟩ : Fin 26816))
/-- The third output. -/
def DT (X : Vec F S72x6144 .bf16) (W : Vec F S1x26816 .f32) (B : Vec F S1x192 .f32) : Vec F S72x192 .f32 :=
  k0_pay38 (k0_pay36 (XQ X 0) (dtW c XW 0) (XQ X 1) (dtW c XW 2048) (XQ X 2) (dtW c XW 4096)) (k0_pay37 (SC X)) (wscD W) B
/-- The accumulator after the first `n` chunks. -/
def AL (X : Vec F S72x6144 .bf16) (A0 : Vec F S72x1024 .f32) : ℕ → Vec F S72x1024 .f32
  | 0 => A0
  | n + 1 => accStep c XW (XQ X n) n (AL X A0 n)
/-- The first output, over prior contents `Z0` and `A0`. -/
def ZF (X : Vec F S72x6144 .bf16) (W : Vec F S1x26816 .f32) (A0 : Vec F S72x1024 .f32) (Z0 : Vec F S72x12288 .f32) : Vec F S72x12288 .f32 :=
  zAt c XW (XQ X) W (SC X) (AL c XW X A0 9)
    (VecWindow.put (s := S72x12288) Z0 ![0, 0] S72x512.size (k0_pay49 (accLo (AL c XW X A0 9)) (SC X) (wscT W 0))) 69
/-- The second output before the loop, over prior contents `Y0` and `A0`. -/
def Y9 (X : Vec F S72x6144 .bf16) (W : Vec F S1x26816 .f32) (A0 : Vec F S72x1024 .f32) (Y0 : Vec F S72x14336 .f32) : Vec F S72x14336 .f32 :=
  VecWindow.put (s := S72x14336) (VecWindow.put (s := S72x14336) (VecWindow.put (s := S72x14336) (VecWindow.put (s := S72x14336) (VecWindow.put (s := S72x14336) Y0
    ![0, 12288] S72x512.size (k0_pay50 (accLo (AL c XW X A0 3)) (SC X) (wscT W 24576)))
    ![0, 12800] S72x512.size (k0_pay50 (accHi (AL c XW X A0 3)) (SC X) (wscT W 25088)))
    ![0, 13312] S72x512.size (k0_pay50 (accLo (AL c XW X A0 6)) (SC X) (wscT W 25600)))
    ![0, 13824] S72x512.size (k0_pay50 (accHi (AL c XW X A0 6)) (SC X) (wscT W 26112)))
    ![0, 0] S72x512.size (k0_pay50 (accHi (AL c XW X A0 9)) (SC X) (wscT W 12288))
/-- The second output, over prior contents `Y0` and `A0`. -/
def YF (X : Vec F S72x6144 .bf16) (W : Vec F S1x26816 .f32) (A0 : Vec F S72x1024 .f32) (Y0 : Vec F S72x14336 .f32) : Vec F S72x14336 .f32 :=
  yAt c XW (XQ X) W (SC X) (AL c XW X A0 9) (Y9 c XW X W A0 Y0) 69

theorem accAt_congr (G G' : ℕ → Vec F S1x72x2048 .bf16) (A0 : Vec F S72x1024 .f32) (n : ℕ) (h : ∀ k, k < n → G k = G' k) : accAt c XW G A0 n = accAt c XW G' A0 n := by
  induction n with
  | zero => rfl
  | succ n ih => show accStep c XW (G n) (9 + n) _ = accStep c XW (G' n) (9 + n) _; rw [h n (by omega), ih fun k hk => h k (by omega)]
theorem zAt_congr (G G' : ℕ → Vec F S1x72x2048 .bf16) (W xs) (A0 : Vec F S72x1024 .f32) (Z0) (n : ℕ) (h : ∀ k, k < n → G k = G' k) : zAt c XW G W xs A0 Z0 n = zAt c XW G' W xs A0 Z0 n := by
  induction n with
  | zero => rfl
  | succ n ih => show zStep W xs (accAt c XW G A0 (n + 1)) n _ = zStep W xs (accAt c XW G' A0 (n + 1)) n _; rw [accAt_congr c XW G G' A0 (n + 1) h, ih fun k hk => h k (by omega)]
theorem yAt_congr (G G' : ℕ → Vec F S1x72x2048 .bf16) (W xs) (A0 : Vec F S72x1024 .f32) (Y0) (n : ℕ) (h : ∀ k, k < n → G k = G' k) : yAt c XW G W xs A0 Y0 n = yAt c XW G' W xs A0 Y0 n := by
  induction n with
  | zero => rfl
  | succ n ih => show yStep W xs (accAt c XW G A0 (n + 1)) n _ = yStep W xs (accAt c XW G' A0 (n + 1)) n _; rw [accAt_congr c XW G G' A0 (n + 1) h, ih fun k hk => h k (by omega)]

omit [FloatOps F] in
theorem x_ld (o : ℕ) (inb) (g0 : Buf (Elt F) (arg0.view.loc (c : Thread nD τ))) :
    View.readAt (Elt F) arg0.view (Rect.unit (s := S72x6144) ![0, o] S72x128.size inb).toLoadRect g0 = ld (arg0.view.read (Elt F) g0) o := by
  have ho : o + 128 ≤ 6144 := inb 1
  funext i
  refine congrArg (arg0.view.read (Elt F) g0) (funext fun a => Fin.ext ?_)
  have h1 : (i 1).val < 128 := (i 1).isLt
  fin_cases a
  · show 0 + 1 * (i 0).val = (i 0).val; omega
  · show o + 1 * (i 1).val = (o + (i 1).val) % 6144; rw [Nat.mod_eq_of_lt (by omega)]; omega
omit [FloatOps F] in
theorem x_ldB (o : ℕ) (inb) (g0 : Buf (Elt F) (arg0.view.loc (c : Thread nD τ))) :
    View.readAt (Elt F) arg0.view (Rect.unit (s := S72x6144) ![0, o] S72x2048.size inb).toLoadRect g0 = ldB (arg0.view.read (Elt F) g0) o := by
  have ho : o + 2048 ≤ 6144 := inb 1
  funext i
  refine congrArg (arg0.view.read (Elt F) g0) (funext fun a => Fin.ext ?_)
  have h1 : (i 1).val < 2048 := (i 1).isLt
  fin_cases a
  · show 0 + 1 * (i 0).val = (i 0).val; omega
  · show o + 1 * (i 1).val = (o + (i 1).val) % 6144; rw [Nat.mod_eq_of_lt (by omega)]; omega
theorem wdt_covV (v : View sig .tc .vmem S192x6144 .i8) (o : ℕ) (inb) (pay : S192x6144.Idx → Elt F .i8) :
    v.readCov (Val := Elt F) [⟨Rect.whole S192x6144, pay⟩] (Rect.unit (s := S192x6144) ![0, o] S192x2048.size inb).toLoadRect
      = fun i => pay ((Rect.unit (s := S192x6144) ![0, o] S192x2048.size inb).emb i) := by
  funext i
  exact congrFun (View.read_writes_whole v _ pay) _
theorem dt_cov (o : ℕ) (inb) (pay : S192x6144.Idx → Elt F .i8) (hp : pay = ReadAs.same.apply (dtM.view.read (Elt F) XW)) :
    wdtM.view.readCov (Val := Elt F) [⟨Rect.whole S192x6144, pay⟩] (Rect.unit (s := S192x6144) ![0, o] S192x2048.size inb).toLoadRect = dtW c XW o := by
  have ho : o + 2048 ≤ 6144 := inb 1
  rw [wdt_covV, hp]
  funext i
  have h1 : (i 1).val < 2048 := (i 1).isLt
  have e : (dtM.view.emb ((Rect.unit (s := S192x6144) ![0, o] S192x2048.size inb).emb i) : S26816x6144.Idx)
      = ix2 (⟨26624 + (i 0).val, by have h : (i 0).val < 192 := (i 0).isLt; omega⟩ : Fin 26816) (⟨(o + (i 1).val) % 6144, Nat.mod_lt _ (by decide)⟩ : Fin 6144) := by
    refine funext fun a => Fin.ext ?_
    fin_cases a
    · show 26624 + 1 * (0 + 1 * (i 0).val) = 26624 + (i 0).val; omega
    · show 0 + 1 * (o + 1 * (i 1).val) = (o + (i 1).val) % 6144; rw [Nat.mod_eq_of_lt (by omega)]; omega
  exact congrArg XW e
omit [FloatOps F] in
theorem wscD_readAt (inb) (f : Buf (Elt F) (arg1.view.loc (c : Thread nD τ))) :
    View.readAt (Elt F) arg1.view (Rect.unit (s := S1x26816) ![0, 26624] S1x192.size inb).toLoadRect f = wscD (arg1.view.read (Elt F) f) := by
  funext i
  refine congrArg (arg1.view.read (Elt F) f) (funext fun a => Fin.ext ?_)
  have h0 : (i 0).val < 1 := (i 0).isLt
  fin_cases a
  · show 0 + 1 * (i 0).val = 0; omega
  · show 26624 + 1 * (i 1).val = 26624 + (i 1).val; omega
theorem acc_loL (v : View sig .tc .vmem S72x1024 .f32) (w : Vec F S72x1024 .f32) (L) (inb inb') : v.readCov (Val := Elt F) (⟨Rect.unit (s := S72x1024) ![0, 0] S72x1024.size inb, w⟩ :: L) (Rect.unit (s := S72x1024) ![0, 0] S72x512.size inb').toLoadRect = accLo w := by
  funext i
  refine (congrFun (View.read_writes_full v _ inb w L) _).trans ?_
  refine congrArg w (funext fun a => Fin.ext ?_)
  fin_cases a
  · show 0 + 1 * (i 0).val = (i 0).val; omega
  · show 0 + 1 * (i 1).val = (i 1).val; omega
theorem acc_hiL (v : View sig .tc .vmem S72x1024 .f32) (w : Vec F S72x1024 .f32) (L) (inb inb') : v.readCov (Val := Elt F) (⟨Rect.unit (s := S72x1024) ![0, 0] S72x1024.size inb, w⟩ :: L) (Rect.unit (s := S72x1024) ![0, 512] S72x512.size inb').toLoadRect = accHi w := by
  funext i
  refine (congrFun (View.read_writes_full v _ inb w L) _).trans ?_
  refine congrArg w (funext fun a => Fin.ext ?_)
  fin_cases a
  · show 0 + 1 * (i 0).val = (i 0).val; omega
  · show 512 + 1 * (i 1).val = 512 + (i 1).val; omega

/-- Pieces that write the codes of the first `n` column blocks. -/
def CDGood (X : Vec F S72x6144 .bf16) (n : ℕ) (L : List (View.Piece (Elt F) S72x6144 .i8)) : Prop :=
  (∀ p ∈ L, ∀ x : p.1.shape.Idx, p.2 x = CODES X (p.1.emb x)) ∧ ∀ y : S72x6144.Idx, (y 1).val < 2048 * n → ∃ p ∈ L, y ∈ p.1.set

theorem cd_nil (X : Vec F S72x6144 .bf16) : CDGood X 0 [] := ⟨fun p hp => absurd hp (by simp), fun y hy => absurd hy (by omega)⟩

theorem cd_step (X : Vec F S72x6144 .bf16) (n : ℕ) (hn : n < 3) (off : Fin 2 → Nat) (e : off = ![0, 2048 * n]) (inb) (pay : S72x2048.Idx → Elt F .i8)
    (hp : pay = k0_pay11 (SC X) (ldB X (2048 * n)))
    (L : List (View.Piece (Elt F) S72x6144 .i8)) (h : CDGood X n L) :
    CDGood X (n + 1) (⟨Rect.unit (s := S72x6144) off S72x2048.size inb, pay⟩ :: L) := by
  subst e hp
  refine ⟨fun p hpm => ?_, fun y hy => ?_⟩
  · rcases List.mem_cons.mp hpm with rfl | hpm
    · intro x
      have h1 : (x 1).val < 2048 := (x 1).isLt
      have e1 : ((Rect.unit (s := S72x6144) ![0, 2048 * n] S72x2048.size inb).emb x 1).val = 2048 * n + (x 1).val := by
        show 2048 * n + 1 * (x 1).val = _; omega
      have ed : ((Rect.unit (s := S72x6144) ![0, 2048 * n] S72x2048.size inb).emb x 1).val / 2048 = n := by omega
      have em : ((Rect.unit (s := S72x6144) ![0, 2048 * n] S72x2048.size inb).emb x 1).val % 2048 = (x 1).val := by omega
      show k0_pay11 (SC X) (ldB X (2048 * n)) x = _
      unfold CODES
      rw [ed]
      refine congrArg _ (funext fun a => Fin.ext ?_)
      fin_cases a
      · show (x 0).val = 0 + 1 * (x 0).val; omega
      · exact em.symm
    · exact h.1 p hpm
  · by_cases hlt : (y 1).val < 2048 * n
    · obtain ⟨p, hpm, hy'⟩ := h.2 y hlt
      exact ⟨p, List.mem_cons_of_mem _ hpm, hy'⟩
    · refine ⟨_, List.mem_cons_self, ?_⟩
      rw [Rect.mem_set_unit]
      have h0 : (y 0).val < 72 := (y 0).isLt
      intro a; fin_cases a
      · show 0 ≤ (y 0).val ∧ (y 0).val < 0 + 72; omega
      · show 2048 * n ≤ (y 1).val ∧ (y 1).val < 2048 * n + 2048; omega

theorem cd_read (X : Vec F S72x6144 .bf16) (f : Buf (Elt F) (arg7.view.loc (c : Thread nD τ))) (L) (h : CDGood X 3 L) :
    arg7.view.read (Elt F) (arg7.view.writes (Elt F) f L) = CODES X := by
  have hc : ∀ y : S72x6144.Idx, ∃ p ∈ L, y ∈ p.1.set := fun y => h.2 y (y 1).isLt
  rw [View.read_writes_eq_canon arg7.view f L hc]
  exact funext fun y => View.canon_apply_of_pieces (CODES X) L h.1 y (hc y)

/-- Pieces that write the first `n` column blocks of the product's codes. -/
def GQGood (X : Vec F S72x6144 .bf16) (n : ℕ) (L : List (View.Piece (Elt F) S3x72x2048 .bf16)) : Prop :=
  (∀ p ∈ L, ∀ x : p.1.shape.Idx, p.2 x = XQ X (p.1.emb x 0).val (ix3 (0 : Fin 1) (p.1.emb x 1 : Fin 72) (p.1.emb x 2 : Fin 2048)))
    ∧ ∀ y : S3x72x2048.Idx, (y 0).val < n → ∃ p ∈ L, y ∈ p.1.set

theorem gq_nil (X : Vec F S72x6144 .bf16) : GQGood X 0 [] := ⟨fun p hp => absurd hp (by simp), fun y hy => absurd hy (by omega)⟩

theorem gq_step (X : Vec F S72x6144 .bf16) (n : ℕ) (hn : n < 3) (off : Fin 3 → Nat) (e : off = ![n, 0, 0]) (inb) (pay : S1x72x2048.Idx → Elt F .bf16)
    (hp : pay = k0_pay12 (SC X) (ldB X (2048 * n)))
    (L : List (View.Piece (Elt F) S3x72x2048 .bf16)) (h : GQGood X n L) :
    GQGood X (n + 1) (⟨Rect.unit (s := S3x72x2048) off S1x72x2048.size inb, pay⟩ :: L) := by
  subst e hp
  refine ⟨fun p hpm => ?_, fun y hy => ?_⟩
  · rcases List.mem_cons.mp hpm with rfl | hpm
    · intro x
      have h0 : (x 0).val < 1 := (x 0).isLt
      have e0 : ((Rect.unit (s := S3x72x2048) ![n, 0, 0] S1x72x2048.size inb).emb x 0).val = n := by
        show n + 1 * (x 0).val = _; omega
      show k0_pay12 (SC X) (ldB X (2048 * n)) x = _
      rw [e0]
      unfold XQ
      rw [Nat.mod_eq_of_lt hn]
      refine congrArg _ (funext fun a => Fin.ext ?_)
      fin_cases a
      · show (x 0).val = 0; omega
      · show (x 1).val = 0 + 1 * (x 1).val; omega
      · show (x 2).val = 0 + 1 * (x 2).val; omega
    · exact h.1 p hpm
  · by_cases hlt : (y 0).val < n
    · obtain ⟨p, hpm, hy'⟩ := h.2 y hlt
      exact ⟨p, List.mem_cons_of_mem _ hpm, hy'⟩
    · refine ⟨_, List.mem_cons_self, ?_⟩
      rw [Rect.mem_set_unit]
      have h1 : (y 1).val < 72 := (y 1).isLt
      have h2 : (y 2).val < 2048 := (y 2).isLt
      intro a; fin_cases a
      · show n ≤ (y 0).val ∧ (y 0).val < n + 1; omega
      · show 0 ≤ (y 1).val ∧ (y 1).val < 0 + 72; omega
      · show 0 ≤ (y 2).val ∧ (y 2).val < 0 + 2048; omega

theorem gq_read (X : Vec F S72x6144 .bf16) (f : Buf (Elt F) (xqM.view.loc (c : Thread nD τ))) (L) (h : GQGood X 3 L) (b : ℕ) :
    xqBlk c (xqM.view.writes (Elt F) f L) b = XQ X b := by
  have hc : ∀ y : S3x72x2048.Idx, ∃ p ∈ L, y ∈ p.1.set := fun y => h.2 y (y 0).isLt
  unfold xqBlk
  rw [View.read_writes_eq_canon xqM.view f L hc]
  funext i
  rw [View.canon_apply_of_pieces (fun y : S3x72x2048.Idx => XQ X (y 0).val (ix3 (0 : Fin 1) (y 1 : Fin 72) (y 2 : Fin 2048))) L h.1 _ (hc _)]
  have h0 : (i 0).val < 1 := (i 0).isLt
  show k0_pay12 (SC X) (ldB X (2048 * (b % 3 % 3))) _ = k0_pay12 (SC X) (ldB X (2048 * (b % 3))) i
  rw [Nat.mod_mod]
  refine congrArg _ (funext fun a => Fin.ext ?_)
  fin_cases a
  · show 0 = (i 0).val; omega
  · rfl
  · rfl

theorem xq_cov (c : Dev nD) (X : Vec F S72x6144 .bf16) (L) (h : GQGood X 3 L) (off : Fin 3 → Nat) (j : ℕ) (e : off = ![j % 3, 0, 0]) (inb) :
    xqM.view.readCov (Val := Elt F) L (Rect.unit (s := S3x72x2048) off S1x72x2048.size inb).toLoadRect = XQ X j :=
  (xq_readAt c off j e inb _).trans (gq_read c X _ L h j)

/-! ### One lead's product is one step of the accumulator -/

theorem lead0 (q : Vec F S1x72x2048 .bf16) (h) (w : Vec F S1x1024x2048 .i8) (A : Vec F S72x1024 .f32) : k0_pay21 0#32 (shapeCast S72x2048 q h) w A = k0_pay48 0#32 (k0_pay1 q) w A := rfl
theorem lead1 (q : Vec F S1x72x2048 .bf16) (w : Vec F S1x1024x2048 .i8) (A : Vec F S72x1024 .f32) : k0_pay23 1#32 (k0_pay22 q w) 0#32 A = k0_pay48 1#32 (k0_pay1 q) w A := rfl
theorem lead2 (q : Vec F S1x72x2048 .bf16) (w : Vec F S1x1024x2048 .i8) (A : Vec F S72x1024 .f32) : k0_pay26 (k0_pay24 q w) 0#1 (k0_pay25 q w A) = k0_pay48 2#32 (k0_pay1 q) w A := by
  show k0_pay26 (k0_pay24 q w) (Scalar.cmpi .eq 2#32 0#32) (k0_pay25 q w A) = _
  rfl
theorem lead3 (q : Vec F S1x72x2048 .bf16) (w : Vec F S1x1024x2048 .i8) (A : Vec F S72x1024 .f32) : k0_pay29 q w A = k0_pay48 (Scalar.remsi 3#32 3#32) (k0_pay1 q) w A := rfl
theorem lead4 (q : Vec F S1x72x2048 .bf16) (w : Vec F S1x1024x2048 .i8) (A : Vec F S72x1024 .f32) : k0_pay30 q w A = k0_pay48 (Scalar.remsi 4#32 3#32) (k0_pay1 q) w A := rfl
theorem lead5 (q : Vec F S1x72x2048 .bf16) (w : Vec F S1x1024x2048 .i8) (A : Vec F S72x1024 .f32) : k0_pay31 5#32 3#32 q w A = k0_pay48 (Scalar.remsi 5#32 3#32) (k0_pay1 q) w A := rfl
theorem lead6 (q : Vec F S1x72x2048 .bf16) (h) (w : Vec F S1x1024x2048 .i8) (A : Vec F S72x1024 .f32) : k0_pay40 0#32 (shapeCast S72x2048 q h) w A = k0_pay48 0#32 (k0_pay1 q) w A := rfl
theorem lead7 (q : Vec F S1x72x2048 .bf16) (w : Vec F S1x1024x2048 .i8) (A : Vec F S72x1024 .f32) : k0_pay43 1#32 (k0_pay41 q) (k0_pay42 w) A = k0_pay48 1#32 (k0_pay1 q) w A := rfl
theorem lead8 (q : Vec F S1x72x2048 .bf16) (w : Vec F S1x1024x2048 .i8) (A : Vec F S72x1024 .f32) : k0_pay45 (k0_pay44 q w) 0#1 A = k0_pay48 2#32 (k0_pay1 q) w A := by
  show k0_pay45 (k0_pay44 q w) (Scalar.cmpi .eq 2#32 0#32) A = _
  rfl
theorem rem3 : Scalar.remsi 3#32 3#32 = 0#32 := by decide
theorem rem4 : Scalar.remsi 4#32 3#32 = 1#32 := by decide
theorem rem5 : Scalar.remsi 5#32 3#32 = 2#32 := by decide

/-- The kernel's own buffers at anything and its semaphores at zero. -/
abbrev OWN : sProp 𝕄 :=
  iprop((∃ f, slotP c 0 f) ∗ (∃ f, slotP c 1 f) ∗ (∃ f, slotP c 2 f) ∗ (∃ f, slotP c 3 f)
    ∗ cellP c 0 ∗ cellP c 1 ∗ cellP c 2 ∗ cellP c 3 ∗ dcellP c ∗ (∃ f, xqP c f) ∗ (∃ f, accP c f) ∗ (∃ f, wdtP c f))
/-- The chunks from the thirteenth on. -/
def REST : Finset (Fin 78) := Finset.univ.filter fun b => 12 ≤ b.val
/-- What the body is handed. -/
abbrev PRE (g0 : Buf (Elt F) (arg0.view.loc (c : Thread nD τ))) (g1 : Buf (Elt F) (arg1.view.loc (c : Thread nD τ))) (g2 : Buf (Elt F) (arg2.view.loc (c : Thread nD τ))) (W : Waits sig Unit) : sProp 𝕄 :=
  iprop(arg0P c arg0 g0 ∗ arg1P c arg1 g1 ∗ arg2P c arg2 g2 ∗ (∃ f, arg4P c arg4 f) ∗ (∃ f, arg5P c arg5 f) ∗ (∃ f, arg6P c arg6 f) ∗ (∃ f, arg7P c arg7 f) ∗ (∃ f, arg8P c arg8 f)
    ∗ (bigSep Finset.univ (homeP c XW) ∗ dtP c XW) ∗ OWN c ∗ owes (c : Thread nD τ) 0 W)
/-- What it hands back. -/
abbrev POST (g0 : Buf (Elt F) (arg0.view.loc (c : Thread nD τ))) (g1 : Buf (Elt F) (arg1.view.loc (c : Thread nD τ))) (g2 : Buf (Elt F) (arg2.view.loc (c : Thread nD τ))) : sProp 𝕄 :=
  iprop(arg0P c arg0 g0 ∗ arg1P c arg1 g1 ∗ arg2P c arg2 g2
    ∗ (∃ f, arg4P c arg4 f ∗ ⌜∃ A0 Z0, arg4.view.read (Elt F) f = ZF c XW (arg0.view.read (Elt F) g0) (arg1.view.read (Elt F) g1) A0 Z0⌝)
    ∗ (∃ f, arg5P c arg5 f ∗ ⌜∃ A0 Y0, arg5.view.read (Elt F) f = YF c XW (arg0.view.read (Elt F) g0) (arg1.view.read (Elt F) g1) A0 Y0⌝)
    ∗ (∃ f, arg6P c arg6 f ∗ ⌜arg6.view.read (Elt F) f = DT c XW (arg0.view.read (Elt F) g0) (arg1.view.read (Elt F) g1) (arg2.view.read (Elt F) g2)⌝)
    ∗ (∃ f, arg7P c arg7 f ∗ ⌜arg7.view.read (Elt F) f = CODES (arg0.view.read (Elt F) g0)⌝)
    ∗ (∃ f, arg8P c arg8 f ∗ ⌜arg8.view.read (Elt F) f = SC (arg0.view.read (Elt F) g0)⌝)
    ∗ (bigSep Finset.univ (homeP c XW) ∗ dtP c XW) ∗ OWN c ∗ ∃ W, owes (c : Thread nD τ) 0 W)
theorem univ_12 : (Finset.univ : Finset (Fin 78)) = (insert (0 : Fin 78) (insert (1 : Fin 78) (insert (2 : Fin 78) (insert (3 : Fin 78) (insert (4 : Fin 78) (insert (5 : Fin 78) (insert (6 : Fin 78) (insert (7 : Fin 78) (insert (8 : Fin 78) (insert (9 : Fin 78) (insert (10 : Fin 78) (insert (11 : Fin 78) REST)))))))))))) := by decide +kernel
theorem homeSet_9 : Ring.homeSet (NB := 78) 3 9 = (insert (0 : Fin 78) (insert (1 : Fin 78) (insert (2 : Fin 78) (insert (3 : Fin 78) (insert (4 : Fin 78) (insert (5 : Fin 78) (insert (6 : Fin 78) (insert (7 : Fin 78) (insert (8 : Fin 78) REST))))))))) := by decide +kernel
omit [FloatOps F] in
theorem homes_12 : (bigSep (Finset.univ : Finset (Fin 78)) (homeP c XW) : sProp 𝕄) = iprop(homeP c XW 0 ∗ homeP c XW 1 ∗ homeP c XW 2 ∗ homeP c XW 3 ∗ homeP c XW 4 ∗ homeP c XW 5 ∗ homeP c XW 6 ∗ homeP c XW 7 ∗ homeP c XW 8 ∗ homeP c XW 9 ∗ homeP c XW 10 ∗ homeP c XW 11 ∗ bigSep REST (homeP c XW)) := by
  rw [univ_12]
  rw [bigSep_insert (show (0 : Fin 78) ∉ (insert (1 : Fin 78) (insert (2 : Fin 78) (insert (3 : Fin 78) (insert (4 : Fin 78) (insert (5 : Fin 78) (insert (6 : Fin 78) (insert (7 : Fin 78) (insert (8 : Fin 78) (insert (9 : Fin 78) (insert (10 : Fin 78) (insert (11 : Fin 78) REST))))))))))) from by decide +kernel)]
  rw [bigSep_insert (show (1 : Fin 78) ∉ (insert (2 : Fin 78) (insert (3 : Fin 78) (insert (4 : Fin 78) (insert (5 : Fin 78) (insert (6 : Fin 78) (insert (7 : Fin 78) (insert (8 : Fin 78) (insert (9 : Fin 78) (insert (10 : Fin 78) (insert (11 : Fin 78) REST)))))))))) from by decide +kernel)]
  rw [bigSep_insert (show (2 : Fin 78) ∉ (insert (3 : Fin 78) (insert (4 : Fin 78) (insert (5 : Fin 78) (insert (6 : Fin 78) (insert (7 : Fin 78) (insert (8 : Fin 78) (insert (9 : Fin 78) (insert (10 : Fin 78) (insert (11 : Fin 78) REST))))))))) from by decide +kernel)]
  rw [bigSep_insert (show (3 : Fin 78) ∉ (insert (4 : Fin 78) (insert (5 : Fin 78) (insert (6 : Fin 78) (insert (7 : Fin 78) (insert (8 : Fin 78) (insert (9 : Fin 78) (insert (10 : Fin 78) (insert (11 : Fin 78) REST)))))))) from by decide +kernel)]
  rw [bigSep_insert (show (4 : Fin 78) ∉ (insert (5 : Fin 78) (insert (6 : Fin 78) (insert (7 : Fin 78) (insert (8 : Fin 78) (insert (9 : Fin 78) (insert (10 : Fin 78) (insert (11 : Fin 78) REST))))))) from by decide +kernel)]
  rw [bigSep_insert (show (5 : Fin 78) ∉ (insert (6 : Fin 78) (insert (7 : Fin 78) (insert (8 : Fin 78) (insert (9 : Fin 78) (insert (10 : Fin 78) (insert (11 : Fin 78) REST)))))) from by decide +kernel)]
  rw [bigSep_insert (show (6 : Fin 78) ∉ (insert (7 : Fin 78) (insert (8 : Fin 78) (insert (9 : Fin 78) (insert (10 : Fin 78) (insert (11 : Fin 78) REST))))) from by decide +kernel)]
  rw [bigSep_insert (show (7 : Fin 78) ∉ (insert (8 : Fin 78) (insert (9 : Fin 78) (insert (10 : Fin 78) (insert (11 : Fin 78) REST)))) from by decide +kernel)]
  rw [bigSep_insert (show (8 : Fin 78) ∉ (insert (9 : Fin 78) (insert (10 : Fin 78) (insert (11 : Fin 78) REST))) from by decide +kernel)]
  rw [bigSep_insert (show (9 : Fin 78) ∉ (insert (10 : Fin 78) (insert (11 : Fin 78) REST)) from by decide +kernel)]
  rw [bigSep_insert (show (10 : Fin 78) ∉ (insert (11 : Fin 78) REST) from by decide +kernel)]
  rw [bigSep_insert (show (11 : Fin 78) ∉ REST from by decide +kernel)]
  rfl

omit [FloatOps F] in
theorem homes_9 : (bigSep (Ring.homeSet (NB := 78) 3 9) (homeP c XW) : sProp 𝕄) = iprop(homeP c XW 0 ∗ homeP c XW 1 ∗ homeP c XW 2 ∗ homeP c XW 3 ∗ homeP c XW 4 ∗ homeP c XW 5 ∗ homeP c XW 6 ∗ homeP c XW 7 ∗ homeP c XW 8 ∗ bigSep REST (homeP c XW)) := by
  rw [homeSet_9]
  rw [bigSep_insert (show (0 : Fin 78) ∉ (insert (1 : Fin 78) (insert (2 : Fin 78) (insert (3 : Fin 78) (insert (4 : Fin 78) (insert (5 : Fin 78) (insert (6 : Fin 78) (insert (7 : Fin 78) (insert (8 : Fin 78) REST)))))))) from by decide +kernel)]
  rw [bigSep_insert (show (1 : Fin 78) ∉ (insert (2 : Fin 78) (insert (3 : Fin 78) (insert (4 : Fin 78) (insert (5 : Fin 78) (insert (6 : Fin 78) (insert (7 : Fin 78) (insert (8 : Fin 78) REST))))))) from by decide +kernel)]
  rw [bigSep_insert (show (2 : Fin 78) ∉ (insert (3 : Fin 78) (insert (4 : Fin 78) (insert (5 : Fin 78) (insert (6 : Fin 78) (insert (7 : Fin 78) (insert (8 : Fin 78) REST)))))) from by decide +kernel)]
  rw [bigSep_insert (show (3 : Fin 78) ∉ (insert (4 : Fin 78) (insert (5 : Fin 78) (insert (6 : Fin 78) (insert (7 : Fin 78) (insert (8 : Fin 78) REST))))) from by decide +kernel)]
  rw [bigSep_insert (show (4 : Fin 78) ∉ (insert (5 : Fin 78) (insert (6 : Fin 78) (insert (7 : Fin 78) (insert (8 : Fin 78) REST)))) from by decide +kernel)]
  rw [bigSep_insert (show (5 : Fin 78) ∉ (insert (6 : Fin 78) (insert (7 : Fin 78) (insert (8 : Fin 78) REST))) from by decide +kernel)]
  rw [bigSep_insert (show (6 : Fin 78) ∉ (insert (7 : Fin 78) (insert (8 : Fin 78) REST)) from by decide +kernel)]
  rw [bigSep_insert (show (7 : Fin 78) ∉ (insert (8 : Fin 78) REST) from by decide +kernel)]
  rw [bigSep_insert (show (8 : Fin 78) ∉ REST from by decide +kernel)]
  rfl

omit [FloatOps F] in
theorem home_mk (b : Fin 78) : iprop(blkP c XW b 0 ∗ blkP c XW b 1) ⊢ (homeP c XW b : sProp 𝕄) := .rfl
omit [FloatOps F] in
theorem slot_cut (s : Fin 4) (b : Fin 78) : (slotP c s (LC c XW b) : sProp 𝕄) ⊢ iprop(∃ f, pairP c s f) := slot_split c s _

/-- After nine chunks the ring is as before trip 0. -/
theorem ring_nine (f0 : (i : Fin 2) → Buf (Elt F) ((half 0 i).view.loc (c : Thread nD τ))) (f1 : (i : Fin 2) → Buf (Elt F) ((half 1 i).view.loc (c : Thread nD τ)))
    (f2 : (i : Fin 2) → Buf (Elt F) ((half 2 i).view.loc (c : Thread nD τ))) (f3 : (i : Fin 2) → Buf (Elt F) ((half 3 i).view.loc (c : Thread nD τ))) :
    iprop(flightP c XW 1 9 f1 ∗ flightP c XW 2 10 f2 ∗ flightP c XW 3 11 f3 ∗ (homeP c XW 0 ∗ homeP c XW 1 ∗ homeP c XW 2 ∗ homeP c XW 3 ∗ homeP c XW 4 ∗ homeP c XW 5 ∗ homeP c XW 6 ∗ homeP c XW 7 ∗ homeP c XW 8 ∗ bigSep REST (homeP c XW)) ∗ cellP c 0 ∗ pairP c 0 f0) ⊢ ringAt c XW (9 + 0) := by
  rw [← homes_9 c XW]
  unfold ringAt
  rw [Ring.At4_here _ _ _ _ (9 + 0) (by decide)]
  have hh : bigSep (Ring.homeSet 3 9) (homeP c XW) = iprop(homeP c XW (Ring.bk 78 (9 + 0 + 3)) ∗ bigSep ((Ring.homeSet 3 (9 + 0)).erase (Ring.bk 78 (9 + 0 + 3))) (homeP c XW)) := by
    conv_lhs => rw [Ring.homeSet_out 3 9 (by decide), bigSep_insert (Ring.bkL_not_mem_erase 3 9)]
    rfl
  rw [hh]
  iintro ⟨H0, H1, H2, Hh, Hc, Hs⟩
  isplitl [Hh]; · iexact Hh
  isplitl [H0]; · iexists f1; iexact H0
  isplitl [H1]; · iexists f2; iexact H1
  isplitl [H2]; · iexists f3; iexact H2
  isplitl [Hc]; · iexact Hc
  iexists f0; iexact Hs

theorem zAt_args (G : ℕ → Vec F S1x72x2048 .bf16) (W : Vec F S1x26816 .f32) {xs xs' : Vec F S72x1 .f32} {A A' : Vec F S72x1024 .f32} {Z Z' : Vec F S72x12288 .f32} {n : ℕ} (hx : xs = xs') (hA : A = A') (hZ : Z = Z') :
    zAt c XW G W xs A Z n = zAt c XW G W xs' A' Z' n := by subst hx hA hZ; rfl
theorem yAt_args (G : ℕ → Vec F S1x72x2048 .bf16) (W : Vec F S1x26816 .f32) {xs xs' : Vec F S72x1 .f32} {A A' : Vec F S72x1024 .f32} {Y Y' : Vec F S72x14336 .f32} {n : ℕ} (hx : xs = xs') (hA : A = A') (hY : Y = Y') :
    yAt c XW G W xs A Y n = yAt c XW G W xs' A' Y' n := by subst hx hA hY; rfl
/-- Before a slot is halved: its two halves, whatever they hold, are the slot. -/
theorem pair_whole (s : Fin 4) (f : (i : Fin 2) → Buf (Elt F) ((half s i).view.loc (c : Thread nD τ))) : (pairP c s f : sProp 𝕄) ⊢ iprop(∃ g, slotP c s g) := by
  unfold pairP
  iintro ⟨H0, H1⟩
  ihave H0' := (show (((half s 0).view.loc (c : Thread nD τ)) ↦[(half s 0).view.set]{fullShare} f 0 : sProp 𝕄) ⊢ ((bufM.view.loc (c : Thread nD τ)) ↦[H4s s 0]{fullShare} f 0) from by rw [half_set]; exact .rfl) $$ H0
  ihave H1' := (show (((half s 1).view.loc (c : Thread nD τ)) ↦[(half s 1).view.set]{fullShare} f 1 : sProp 𝕄) ⊢ ((bufM.view.loc (c : Thread nD τ)) ↦[H4s s 1]{fullShare} f 1) from by rw [half_set]; exact .rfl) $$ H1
  ihave H := (pointsTo_join (ℓ := bufM.view.loc (c : Thread nD τ)) (I := H4s s 0) (J := H4s s 1) (H4s_disjoint s)) $$ [H0' H1']
  · isplitl [H0']; · iexact H0'
    iexact H1'
  iexists _
  iapply (Entails.of_eq (congrArg (fun S => (bufM.view.loc (c : Thread nD τ) ↦[S]{fullShare} _ : sProp 𝕄)) ((H4s_union s).trans (rslot_set s).symm))); iexact H
/-- After the last trip every chunk is home and every slot free. -/
theorem ring_end : iprop(bigSep (Ring.homeSet 3 (9 + Scf.trips k0_t1_loop.lb k0_t1_loop.ub k0_t1_loop.st)) (homeP c XW)
      ∗ bigSep Finset.univ (Ring.slotAt 3 (cellP c) (pairP c) (flightP c XW) (9 + Scf.trips k0_t1_loop.lb k0_t1_loop.ub k0_t1_loop.st)))
    ⊢ iprop(bigSep Finset.univ (homeP c XW) ∗ (cellP c 0 ∗ ∃ g, slotP c 0 g) ∗ (cellP c 1 ∗ ∃ g, slotP c 1 g) ∗ (cellP c 2 ∗ ∃ g, slotP c 2 g) ∗ (cellP c 3 ∗ ∃ g, slotP c 3 g)) := by
  have h : iprop(bigSep (Ring.homeSet 3 78) (homeP c XW) ∗ bigSep Finset.univ (Ring.slotAt 3 (cellP c) (pairP c) (flightP c XW) 78))
      ⊢ iprop(bigSep Finset.univ (homeP c XW) ∗ Ring.free (cellP c) (pairP c) 0 ∗ Ring.free (cellP c) (pairP c) 1 ∗ Ring.free (cellP c) (pairP c) 2 ∗ Ring.free (cellP c) (pairP c) 3) := Ring.free4_of_At_last _ _ _ _
  have hp : ∀ s : Fin 4, (Ring.free (cellP c) (pairP c) s : sProp 𝕄) ⊢ iprop(cellP c s ∗ ∃ g, slotP c s g) := by
    intro s
    iintro ⟨Hc, ⟨%f, Hs⟩⟩
    isplitl [Hc]; · iexact Hc
    iapply (pair_whole c s f); iexact Hs
  rw [show Scf.trips k0_t1_loop.lb k0_t1_loop.ub k0_t1_loop.st = 69 from trips1]
  refine h.trans ?_
  iintro ⟨Hh, H0, H1, H2, H3⟩
  isplitl [Hh]; · iexact Hh
  isplitl [H0]; · iapply (hp 0); iexact H0
  isplitl [H1]; · iapply (hp 1); iexact H1
  isplitl [H2]; · iapply (hp 2); iexact H2
  iapply (hp 3); iexact H3

theorem p27 (a : Vec F S72x512 .f32) (b : Vec F S72x1 .f32) (d : Vec F S1x512 .f32) : k0_pay27 a b d = k0_pay50 a b d := rfl
theorem p28 (a : Vec F S72x512 .f32) (b : Vec F S72x1 .f32) (d : Vec F S1x512 .f32) : k0_pay28 a b d = k0_pay50 a b d := rfl
theorem p32 (a : Vec F S72x512 .f32) (b : Vec F S72x1 .f32) (d : Vec F S1x512 .f32) : k0_pay32 a b d = k0_pay50 a b d := rfl
theorem p35 (a : Vec F S72x512 .f32) (b : Vec F S72x1 .f32) (d : Vec F S1x512 .f32) : k0_pay35 a (k0_pay33 b) (k0_pay34 d) = k0_pay50 a b d := rfl
theorem p46 (a : Vec F S72x512 .f32) (b : Vec F S72x1 .f32) (d : Vec F S1x512 .f32) : k0_pay46 a b d = k0_pay49 a b d := rfl
theorem p47 (a : Vec F S72x512 .f32) (b : Vec F S72x1 .f32) (d : Vec F S1x512 .f32) : k0_pay47 a b d = k0_pay50 a b d := rfl
theorem p14 (s : Vec F S72x1 .f32) (b : Vec F S72x2048 .bf16) : k0_pay14 s b = k0_pay11 s b := rfl
theorem p15 (s : Vec F S72x1 .f32) (b : Vec F S72x2048 .bf16) : k0_pay15 s b = k0_pay12 s b := rfl
theorem p18 (s : Vec F S72x1 .f32) (b : Vec F S72x2048 .bf16) : k0_pay18 s (k0_pay16 b) = k0_pay11 s b := rfl
theorem p19 (s : Vec F S72x1 .f32) (b : Vec F S72x2048 .bf16) : k0_pay19 s (k0_pay16 b) = k0_pay12 s b := rfl
theorem step_congr {W W' : BitVec 32} {q q' : Vec F S1x72x2048 .bf16} {w w' : Vec F S1x1024x2048 .i8} {A A' : Vec F S72x1024 .f32} (hW : W = W') (hq : q = q') (hw : w = w') (hA : A = A') :
    k0_pay48 W (k0_pay1 q) w A = k0_pay48 W' (k0_pay1 q') w' A' := by subst hW hq hw hA; rfl
theorem AL_succ (X : Vec F S72x6144 .bf16) (A0 : Vec F S72x1024 .f32) (n : ℕ) : AL c XW X A0 (n + 1) = k0_pay48 (BitVec.ofNat 32 (n % 3)) (k0_pay1 (XQ X n)) (wChunk c XW (Ring.bk 78 n)) (AL c XW X A0 n) := rfl

set_option maxHeartbeats 6400000 in
theorem bodyRun (g0 g1 g2) (W) (Q : PUnit → sProp 𝕄) :
    iprop(PRE c XW arg0 arg1 arg2 arg4 arg5 arg6 arg7 arg8 g0 g1 g2 W ∗ (POST c XW arg0 arg1 arg2 arg4 arg5 arg6 arg7 arg8 g0 g1 g2 -∗ Q ⟨⟩))
      ⊢ wp frame (wpE (defs₀ (F := F)) 𝒱₀ (c : Thread nD τ) none) Set.univ (bodyG arg0 harg0 arg1 harg1 arg2 harg2 arg4 harg4 arg5 harg5 arg6 harg6 arg7 harg7 arg8 harg8) Q := by
  iintro ⟨⟨H0, H1, H2, ⟨%f4, H4⟩, ⟨%f5, H5⟩, ⟨%f6, H6⟩, ⟨%f7, H7⟩, ⟨%f8, H8⟩, ⟨Hh, Hdt⟩, ⟨⟨%s0, Hs0⟩, ⟨%s1, Hs1⟩, ⟨%s2, Hs2⟩, ⟨%s3, Hs3⟩, Hc0, Hc1, Hc2, Hc3, Hdc, ⟨%fq, HQ⟩, ⟨%fo, HO⟩, ⟨%fw, HD⟩⟩, HW⟩, Hk⟩
  ihave Hh := (Entails.of_eq (homes_12 c XW)) $$ Hh
  icases Hh with ⟨⟨Hb0a, Hb0b⟩, ⟨Hb1a, Hb1b⟩, ⟨Hb2a, Hb2b⟩, ⟨Hb3a, Hb3b⟩, ⟨Hb4a, Hb4b⟩, ⟨Hb5a, Hb5b⟩, ⟨Hb6a, Hb6b⟩, ⟨Hb7a, Hb7b⟩, ⟨Hb8a, Hb8b⟩, ⟨Hb9a, Hb9b⟩, ⟨Hb10a, Hb10b⟩, ⟨Hb11a, Hb11b⟩, HR⟩
  ihave Hp0 := slot_split c 0 s0 $$ Hs0
  icases Hp0 with ⟨%f0', Hp0a, Hp0b⟩
  imod (alloc c XW 0 0 f0') $$ Hc0 with HF0
  ihave Hp1 := slot_split c 1 s1 $$ Hs1
  icases Hp1 with ⟨%f1', Hp1a, Hp1b⟩
  imod (alloc c XW 1 1 f1') $$ Hc1 with HF1
  ihave Hp2 := slot_split c 2 s2 $$ Hs2
  icases Hp2 with ⟨%f2', Hp2a, Hp2b⟩
  imod (alloc c XW 2 2 f2') $$ Hc2 with HF2
  ihave Hp3 := slot_split c 3 s3 $$ Hs3
  icases Hp3 with ⟨%f3', Hp3a, Hp3b⟩
  imod (alloc c XW 3 3 f3') $$ Hc3 with HF3
  sl_exec
  ihave HS := slot_join c XW 0 0 (f0' 0) (f0' 1) $$ [HF0_dst0 HF0_dst1]
  · isplitl [HF0_dst0]; · iexact HF0_dst0
    iexact HF0_dst1
  ihave Hh0 := home_mk c XW 0 $$ [HF0_src0 HF0_src1]
  · isplitl [HF0_src0]; · iexact HF0_src0
    iexact HF0_src1
  sl_exec
  ihave HS2 := slot_cut c XW 0 0 $$ HS
  icases HS2 with ⟨%f4', Hp0a, Hp0b⟩
  ihave Hc0 := (show cellP c 0 ⊢ cellP c 0 from .rfl) $$ [HF0]
  · iexact HF0
  imod (alloc c XW 0 4 f4') $$ Hc0 with HF0
  sl_exec
  ihave HS := slot_join c XW 1 1 (f1' 0) (f1' 1) $$ [HF1_dst0 HF1_dst1]
  · isplitl [HF1_dst0]; · iexact HF1_dst0
    iexact HF1_dst1
  ihave Hh1 := home_mk c XW 1 $$ [HF1_src0 HF1_src1]
  · isplitl [HF1_src0]; · iexact HF1_src0
    iexact HF1_src1
  sl_exec
  ihave HS2 := slot_cut c XW 1 1 $$ HS
  icases HS2 with ⟨%f5', Hp1a, Hp1b⟩
  ihave Hc1 := (show cellP c 1 ⊢ cellP c 1 from .rfl) $$ [HF1]
  · iexact HF1
  imod (alloc c XW 1 5 f5') $$ Hc1 with HF1
  sl_exec
  ihave HS := slot_join c XW 2 2 (f2' 0) (f2' 1) $$ [HF2_dst0 HF2_dst1]
  · isplitl [HF2_dst0]; · iexact HF2_dst0
    iexact HF2_dst1
  ihave Hh2 := home_mk c XW 2 $$ [HF2_src0 HF2_src1]
  · isplitl [HF2_src0]; · iexact HF2_src0
    iexact HF2_src1
  sl_exec
  ihave HS2 := slot_cut c XW 2 2 $$ HS
  icases HS2 with ⟨%f6', Hp2a, Hp2b⟩
  ihave Hc2 := (show cellP c 2 ⊢ cellP c 2 from .rfl) $$ [HF2]
  · iexact HF2
  imod (alloc c XW 2 6 f6') $$ Hc2 with HF2
  sl_exec
  ihave HS := slot_join c XW 3 3 (f3' 0) (f3' 1) $$ [HF3_dst0 HF3_dst1]
  · isplitl [HF3_dst0]; · iexact HF3_dst0
    iexact HF3_dst1
  ihave Hh3 := home_mk c XW 3 $$ [HF3_src0 HF3_src1]
  · isplitl [HF3_src0]; · iexact HF3_src0
    iexact HF3_src1
  sl_exec
  ihave HS2 := slot_cut c XW 3 3 $$ HS
  icases HS2 with ⟨%f7', Hp3a, Hp3b⟩
  ihave Hc3 := (show cellP c 3 ⊢ cellP c 3 from .rfl) $$ [HF3]
  · iexact HF3
  imod (alloc c XW 3 7 f7') $$ Hc3 with HF3
  sl_exec
  ihave HS := slot_join c XW 0 4 (f4' 0) (f4' 1) $$ [HF0_dst0 HF0_dst1]
  · isplitl [HF0_dst0]; · iexact HF0_dst0
    iexact HF0_dst1
  ihave Hh4 := home_mk c XW 4 $$ [HF0_src0 HF0_src1]
  · isplitl [HF0_src0]; · iexact HF0_src0
    iexact HF0_src1
  sl_exec
  ihave HS2 := slot_cut c XW 0 4 $$ HS
  icases HS2 with ⟨%f8', Hp0a, Hp0b⟩
  ihave Hc0 := (show cellP c 0 ⊢ cellP c 0 from .rfl) $$ [HF0]
  · iexact HF0
  imod (alloc c XW 0 8 f8') $$ Hc0 with HF0
  sl_exec
  ihave HS := slot_join c XW 1 5 (f5' 0) (f5' 1) $$ [HF1_dst0 HF1_dst1]
  · isplitl [HF1_dst0]; · iexact HF1_dst0
    iexact HF1_dst1
  ihave Hh5 := home_mk c XW 5 $$ [HF1_src0 HF1_src1]
  · isplitl [HF1_src0]; · iexact HF1_src0
    iexact HF1_src1
  sl_exec
  ihave HS2 := slot_cut c XW 1 5 $$ HS
  icases HS2 with ⟨%f9', Hp1a, Hp1b⟩
  ihave Hc1 := (show cellP c 1 ⊢ cellP c 1 from .rfl) $$ [HF1]
  · iexact HF1
  imod (alloc c XW 1 9 f9') $$ Hc1 with HF1
  sl_exec
  ihave HS := slot_join c XW 2 6 (f6' 0) (f6' 1) $$ [HF2_dst0 HF2_dst1]
  · isplitl [HF2_dst0]; · iexact HF2_dst0
    iexact HF2_dst1
  ihave Hh6 := home_mk c XW 6 $$ [HF2_src0 HF2_src1]
  · isplitl [HF2_src0]; · iexact HF2_src0
    iexact HF2_src1
  sl_exec
  ihave HS2 := slot_cut c XW 2 6 $$ HS
  icases HS2 with ⟨%f10', Hp2a, Hp2b⟩
  ihave Hc2 := (show cellP c 2 ⊢ cellP c 2 from .rfl) $$ [HF2]
  · iexact HF2
  imod (alloc c XW 2 10 f10') $$ Hc2 with HF2
  sl_exec
  ihave HS := slot_join c XW 3 7 (f7' 0) (f7' 1) $$ [HF3_dst0 HF3_dst1]
  · isplitl [HF3_dst0]; · iexact HF3_dst0
    iexact HF3_dst1
  ihave Hh7 := home_mk c XW 7 $$ [HF3_src0 HF3_src1]
  · isplitl [HF3_src0]; · iexact HF3_src0
    iexact HF3_src1
  sl_exec
  ihave HS2 := slot_cut c XW 3 7 $$ HS
  icases HS2 with ⟨%f11', Hp3a, Hp3b⟩
  ihave Hc3 := (show cellP c 3 ⊢ cellP c 3 from .rfl) $$ [HF3]
  · iexact HF3
  imod (alloc c XW 3 11 f11') $$ Hc3 with HF3
  sl_exec
  ihave HS := slot_join c XW 0 8 (f8' 0) (f8' 1) $$ [HF0_dst0 HF0_dst1]
  · isplitl [HF0_dst0]; · iexact HF0_dst0
    iexact HF0_dst1
  ihave Hh8 := home_mk c XW 8 $$ [HF0_src0 HF0_src1]
  · isplitl [HF0_src0]; · iexact HF0_src0
    iexact HF0_src1
  sl_exec
  ihave HS2 := slot_cut c XW 0 8 $$ HS
  icases HS2 with ⟨%f12', Hp0a, Hp0b⟩
  ihave Hc0 := (show cellP c 0 ⊢ cellP c 0 from .rfl) $$ [HF0]
  · iexact HF0
  sl_exec
  ihave Hring := (ring_nine c XW f12' f9' f10' f11') $$ [HF1 HF2 HF3 Hh0 Hh1 Hh2 Hh3 Hh4 Hh5 Hh6 Hh7 Hh8 HR Hc0 Hp0a Hp0b]
  · isplitl [HF1]; · iexact HF1
    isplitl [HF2]; · iexact HF2
    isplitl [HF3]; · iexact HF3
    isplitr [Hc0 Hp0a Hp0b]
    · isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      iexact HR
    isplitl [Hc0]; · iexact Hc0
    isplitl [Hp0a]; · iexact Hp0a
    iexact Hp0b
  unfold ringAt Ring.At
  icases Hring with ⟨Hh, Hsl⟩
  let L := loopInv c XW arg0 harg0 arg1 harg1 arg2 harg2 arg4 harg4 arg5 harg5 arg6 harg6 arg7 harg7 arg8 harg8
  sl_exec
  sl_step
  iapply Hk
  have hs : bodyRun.sl.r_8 c arg0 g0 = SC (arg0.view.read (Elt F) g0) := by
    unfold SC MX
    delta bodyRun.sl.r_8 bodyRun.sl.r_7 bodyRun.sl.r_6 bodyRun.sl.r_5 bodyRun.sl.r_4 bodyRun.sl.r_3 bodyRun.sl.r_2 bodyRun.sl.r_1 bodyRun.sl.r
    exact congr (congr (congr (congr (congr (congr (congr (congrArg k0_pay9 (congr (congr (congr (congr (congr (congr (congr (congr (congrArg k0_pay7 (congr (congr (congr (congr (congr (congr (congr (congr (congr (congrArg k0_pay6 (congr (congr (congr (congr (congr (congr (congr (congr (congr (congrArg k0_pay5 (congr (congr (congr (congr (congr (congr (congr (congr (congrArg k0_pay3 (congr (congr (congr (congr (congr (congr (congrArg k0_pay2 (x_ld c arg0 0 _ g0)) (x_ld c arg0 128 _ g0)) (x_ld c arg0 256 _ g0)) (x_ld c arg0 384 _ g0)) (x_ld c arg0 512 _ g0)) (x_ld c arg0 640 _ g0)) (x_ld c arg0 768 _ g0))) (x_ld c arg0 896 _ g0)) (x_ld c arg0 1024 _ g0)) (x_ld c arg0 1152 _ g0)) (x_ld c arg0 1280 _ g0)) (x_ld c arg0 1408 _ g0)) (x_ld c arg0 1536 _ g0)) (x_ld c arg0 1664 _ g0)) (x_ld c arg0 1792 _ g0))) (congrArg k0_pay4 (x_ld c arg0 1920 _ g0))) (x_ld c arg0 2048 _ g0)) (x_ld c arg0 2176 _ g0)) (x_ld c arg0 2304 _ g0)) (x_ld c arg0 2432 _ g0)) (x_ld c arg0 2560 _ g0)) (x_ld c arg0 2688 _ g0)) (x_ld c arg0 2816 _ g0)) (x_ld c arg0 2944 _ g0))) (x_ld c arg0 3072 _ g0)) (x_ld c arg0 3200 _ g0)) (x_ld c arg0 3328 _ g0)) (x_ld c arg0 3456 _ g0)) (x_ld c arg0 3584 _ g0)) (x_ld c arg0 3712 _ g0)) (x_ld c arg0 3840 _ g0)) (x_ld c arg0 3968 _ g0)) (x_ld c arg0 4096 _ g0))) (x_ld c arg0 4224 _ g0)) (x_ld c arg0 4352 _ g0)) (x_ld c arg0 4480 _ g0)) (x_ld c arg0 4608 _ g0)) (x_ld c arg0 4736 _ g0)) (x_ld c arg0 4864 _ g0)) (x_ld c arg0 4992 _ g0)) (x_ld c arg0 5120 _ g0))) (congrArg k0_pay8 (x_ld c arg0 5248 _ g0))) (x_ld c arg0 5376 _ g0)) (x_ld c arg0 5504 _ g0)) (x_ld c arg0 5632 _ g0)) (x_ld c arg0 5760 _ g0)) (x_ld c arg0 5888 _ g0)) (x_ld c arg0 6016 _ g0)
  have hq : GQGood (arg0.view.read (Elt F) g0) 3 (bodyRun.sl.HQ_3 c arg0 g0) := by
    delta bodyRun.sl.HQ_3 bodyRun.sl.r_9
    refine gq_step _ 2 (by decide) _ rfl _ _ ((p19 _ _).trans (congr (congrArg k0_pay12 hs) (x_ldB c arg0 4096 _ g0))) _ ?_
    refine gq_step _ 1 (by decide) _ rfl _ _ ((p15 _ _).trans (congr (congrArg k0_pay12 hs) (x_ldB c arg0 2048 _ g0))) _ ?_
    refine gq_step _ 0 (by decide) _ rfl _ _ (congr (congrArg k0_pay12 hs) (x_ldB c arg0 0 _ g0)) _ ?_
    exact gq_nil _
  have h1 : k0_pay21 0#32 (bodyRun.sl.v537 c arg0 g0) (bodyRun.sl.r_10 c XW) (View.readAt (Elt F) accM.view (Rect.unit (s := S72x1024) ![0, 0] S72x1024.size inb_S72x1024_S72x1024_0_0).toLoadRect fo) = AL c XW (arg0.view.read (Elt F) g0) (accM.view.read (Elt F) fo) 1 :=
    (lead0 _ _ _ _).trans ((step_congr rfl (xq_cov c _ _ hq _ 0 rfl _) (slot_readAt c XW _ 0 rfl _ (Ring.bk 78 0)) (View.readAt_full _ _ _)).trans (AL_succ c XW (arg0.view.read (Elt F) g0) (accM.view.read (Elt F) fo) 0).symm)
  have u1 : bodyRun.sl.v611 c XW arg0 g0 fo = AL c XW (arg0.view.read (Elt F) g0) (accM.view.read (Elt F) fo) 1 :=
    (View.readCov_full accM.view _ _ _ _).trans h1
  have h2 : k0_pay23 1#32 (bodyRun.sl.r_11 c XW arg0 g0) 0#32 (bodyRun.sl.v611 c XW arg0 g0 fo) = AL c XW (arg0.view.read (Elt F) g0) (accM.view.read (Elt F) fo) 2 :=
    (lead1 _ _ _).trans ((step_congr rfl (xq_cov c _ _ hq _ 1 rfl _) (slot_readAt c XW _ 1 rfl _ (Ring.bk 78 1)) u1).trans (AL_succ c XW (arg0.view.read (Elt F) g0) (accM.view.read (Elt F) fo) 1).symm)
  have u2 : bodyRun.sl.v677 c XW arg0 g0 fo = AL c XW (arg0.view.read (Elt F) g0) (accM.view.read (Elt F) fo) 2 :=
    (View.readCov_full accM.view _ _ _ _).trans h2
  have h3 : k0_pay26 (bodyRun.sl.r_12 c XW arg0 g0) 0#1 (bodyRun.sl.r_13 c XW arg0 g0 fo) = AL c XW (arg0.view.read (Elt F) g0) (accM.view.read (Elt F) fo) 3 :=
    (lead2 _ _ _).trans ((step_congr rfl (xq_cov c _ _ hq _ 2 rfl _) (slot_readAt c XW _ 2 rfl _ (Ring.bk 78 2)) u2).trans (AL_succ c XW (arg0.view.read (Elt F) g0) (accM.view.read (Elt F) fo) 2).symm)
  have u3 : bodyRun.sl.v763 c XW arg0 g0 fo = AL c XW (arg0.view.read (Elt F) g0) (accM.view.read (Elt F) fo) 3 :=
    (View.readCov_full accM.view _ _ _ _).trans h3
  have h4 : k0_pay29 (bodyRun.sl.v754 c arg0 g0) (View.readAt (Elt F) bufM.view (Rect.unit (s := S4x1024x2048) ![3, 0, 0] S1x1024x2048.size k0_part33_skel._proof_3).toLoadRect (LC c XW 3)) (bodyRun.sl.v763 c XW arg0 g0 fo) = AL c XW (arg0.view.read (Elt F) g0) (accM.view.read (Elt F) fo) 4 :=
    (lead3 _ _ _).trans ((step_congr rem3 (xq_cov c _ _ hq _ 3 rfl _) (slot_readAt c XW _ 3 rfl _ (Ring.bk 78 3)) u3).trans (AL_succ c XW (arg0.view.read (Elt F) g0) (accM.view.read (Elt F) fo) 3).symm)
  have u4 : bodyRun.sl.v829 c XW arg0 g0 fo = AL c XW (arg0.view.read (Elt F) g0) (accM.view.read (Elt F) fo) 4 :=
    (View.readCov_full accM.view _ _ _ _).trans h4
  have h5 : k0_pay30 (bodyRun.sl.v820 c arg0 g0) (View.readAt (Elt F) bufM.view (Rect.unit (s := S4x1024x2048) ![0, 0, 0] S1x1024x2048.size k0_part35_skel._proof_9).toLoadRect (LC c XW 4)) (bodyRun.sl.v829 c XW arg0 g0 fo) = AL c XW (arg0.view.read (Elt F) g0) (accM.view.read (Elt F) fo) 5 :=
    (lead4 _ _ _).trans ((step_congr rem4 (xq_cov c _ _ hq _ 4 rfl _) (slot_readAt c XW _ 0 rfl _ (Ring.bk 78 4)) u4).trans (AL_succ c XW (arg0.view.read (Elt F) g0) (accM.view.read (Elt F) fo) 4).symm)
  have u5 : bodyRun.sl.v895 c XW arg0 g0 fo = AL c XW (arg0.view.read (Elt F) g0) (accM.view.read (Elt F) fo) 5 :=
    (View.readCov_full accM.view _ _ _ _).trans h5
  have h6 : k0_pay31 5#32 3#32 (bodyRun.sl.v886 c arg0 g0) (View.readAt (Elt F) bufM.view (Rect.unit (s := S4x1024x2048) ![1, 0, 0] S1x1024x2048.size k0_part37_skel._proof_3).toLoadRect (LC c XW 5)) (bodyRun.sl.v895 c XW arg0 g0 fo) = AL c XW (arg0.view.read (Elt F) g0) (accM.view.read (Elt F) fo) 6 :=
    (lead5 _ _ _).trans ((step_congr rem5 (xq_cov c _ _ hq _ 5 rfl _) (slot_readAt c XW _ 1 rfl _ (Ring.bk 78 5)) u5).trans (AL_succ c XW (arg0.view.read (Elt F) g0) (accM.view.read (Elt F) fo) 5).symm)
  have u6 : bodyRun.sl.v1024 c XW arg0 g0 fo = AL c XW (arg0.view.read (Elt F) g0) (accM.view.read (Elt F) fo) 6 :=
    (View.readCov_full accM.view _ _ _ _).trans h6
  have h7 : k0_pay40 0#32 (bodyRun.sl.v1016 c arg0 g0) (View.readAt (Elt F) bufM.view (Rect.unit (s := S4x1024x2048) ![2, 0, 0] S1x1024x2048.size k0_part41_skel._proof_1).toLoadRect (LC c XW 6)) (bodyRun.sl.v1024 c XW arg0 g0 fo) = AL c XW (arg0.view.read (Elt F) g0) (accM.view.read (Elt F) fo) 7 :=
    (lead6 _ _ _ _).trans ((step_congr rfl (xq_cov c _ _ hq _ 6 rfl _) (slot_readAt c XW _ 2 rfl _ (Ring.bk 78 6)) u6).trans (AL_succ c XW (arg0.view.read (Elt F) g0) (accM.view.read (Elt F) fo) 6).symm)
  have u7 : bodyRun.sl.v1090 c XW arg0 g0 fo = AL c XW (arg0.view.read (Elt F) g0) (accM.view.read (Elt F) fo) 7 :=
    (View.readCov_full accM.view _ _ _ _).trans h7
  have h8 : k0_pay43 1#32 (bodyRun.sl.r_19 c arg0 g0) (bodyRun.sl.r_20 c XW) (bodyRun.sl.v1090 c XW arg0 g0 fo) = AL c XW (arg0.view.read (Elt F) g0) (accM.view.read (Elt F) fo) 8 :=
    (lead7 _ _ _).trans ((step_congr rfl (xq_cov c _ _ hq _ 7 rfl _) (slot_readAt c XW _ 3 rfl _ (Ring.bk 78 7)) u7).trans (AL_succ c XW (arg0.view.read (Elt F) g0) (accM.view.read (Elt F) fo) 7).symm)
  have u8 : bodyRun.sl.v1156 c XW arg0 g0 fo = AL c XW (arg0.view.read (Elt F) g0) (accM.view.read (Elt F) fo) 8 :=
    (View.readCov_full accM.view _ _ _ _).trans h8
  have h9 : k0_pay45 (bodyRun.sl.r_21 c XW arg0 g0) 0#1 (bodyRun.sl.v1156 c XW arg0 g0 fo) = AL c XW (arg0.view.read (Elt F) g0) (accM.view.read (Elt F) fo) 9 :=
    (lead8 _ _ _).trans ((step_congr rfl (xq_cov c _ _ hq _ 8 rfl _) (slot_readAt c XW _ 0 rfl _ (Ring.bk 78 8)) u8).trans (AL_succ c XW (arg0.view.read (Elt F) g0) (accM.view.read (Elt F) fo) 8).symm)
  have w1 : bodyRun.sl.v684 c arg0 arg8 g0 = SC (arg0.view.read (Elt F) g0) :=
    (View.readCov_full arg8.view _ _ _ []).trans hs
  have w2 : bodyRun.sl.v902 c arg0 arg8 g0 = SC (arg0.view.read (Elt F) g0) :=
    (View.readCov_full arg8.view _ _ _ []).trans hs
  have w3 : bodyRun.sl.v1165 c arg0 arg8 g0 = SC (arg0.view.read (Elt F) g0) :=
    (View.readCov_full arg8.view _ _ _ []).trans hs
  have l3 : bodyRun.sl.v683 c XW arg0 g0 fo = accLo (AL c XW (arg0.view.read (Elt F) g0) (accM.view.read (Elt F) fo) 3) :=
    (acc_loL accM.view _ _ _ _).trans (congrArg accLo h3)
  have r3 : bodyRun.sl.v693 c XW arg0 g0 fo = accHi (AL c XW (arg0.view.read (Elt F) g0) (accM.view.read (Elt F) fo) 3) :=
    (acc_hiL accM.view _ _ _ _).trans (congrArg accHi h3)
  have l6 : bodyRun.sl.v901 c XW arg0 g0 fo = accLo (AL c XW (arg0.view.read (Elt F) g0) (accM.view.read (Elt F) fo) 6) :=
    (acc_loL accM.view _ _ _ _).trans (congrArg accLo h6)
  have r6 : bodyRun.sl.v911 c XW arg0 g0 fo = accHi (AL c XW (arg0.view.read (Elt F) g0) (accM.view.read (Elt F) fo) 6) :=
    (acc_hiL accM.view _ _ _ _).trans (congrArg accHi h6)
  have l9 : bodyRun.sl.v1164 c XW arg0 g0 fo = accLo (AL c XW (arg0.view.read (Elt F) g0) (accM.view.read (Elt F) fo) 9) :=
    (acc_loL accM.view _ _ _ _).trans (congrArg accLo h9)
  have r9 : bodyRun.sl.v1178 c XW arg0 g0 fo = accHi (AL c XW (arg0.view.read (Elt F) g0) (accM.view.read (Elt F) fo) 9) :=
    (acc_hiL accM.view _ _ _ _).trans (congrArg accHi h9)
  have hG : ∀ k, k < 69 → xqBlk c (xqM.view.writes (Elt F) xqM.view.junk (bodyRun.sl.HQ_3 c arg0 g0)) k = XQ (arg0.view.read (Elt F) g0) k := fun k _ => gq_read c _ _ _ hq k
  isplitl [H0]; · iexact H0
  isplitl [H1]; · iexact H1
  isplitl [H2]; · iexact H2
  isplitl [H4]
  · iexists _; isplitl [H4]; · iexact H4
    ipureintro
    refine ⟨accM.view.read (Elt F) fo, arg4.view.read (Elt F) f4, ?_⟩
    rw [read_zC, show Scf.trips k0_t1_loop.lb k0_t1_loop.ub k0_t1_loop.st = 69 from trips1, zAt_congr c XW _ _ _ _ _ _ 69 hG]
    unfold ZF
    refine zAt_args c XW _ _ ((View.read_writes_full arg8.view _ _ _ []).trans hs) ((View.read_writes_full accM.view _ _ _ _).trans h9) ?_
    refine (View.read_writes_cons_put arg4.view f4 _ _ [] (show k0_off54 = ![0, 0] by decide +kernel)).trans ?_
    refine put_congr _ _ rfl ?_
    exact (congr (congr (congrArg k0_pay46 l9) w3) (wsc_readAt c arg1 _ 0 (show k0_off53 = ![0, 0] by decide +kernel) (by decide) _ _)).trans (p46 _ _ _)
  isplitl [H5]
  · iexists _; isplitl [H5]; · iexact H5
    ipureintro
    refine ⟨accM.view.read (Elt F) fo, arg5.view.read (Elt F) f5, ?_⟩
    rw [read_yC, show Scf.trips k0_t1_loop.lb k0_t1_loop.ub k0_t1_loop.st = 69 from trips1, yAt_congr c XW _ _ _ _ _ _ 69 hG]
    unfold YF Y9
    refine yAt_args c XW _ _ ((View.read_writes_full arg8.view _ _ _ []).trans hs) ((View.read_writes_full accM.view _ _ _ _).trans h9) ?_
    refine (View.read_writes_cons_put arg5.view f5 _ _ _ (show k0_off56 = ![0, 0] by decide +kernel)).trans ?_
    refine put_congr _ _ ?_ ((congr (congr (congrArg k0_pay47 r9) w3) (wsc_readAt c arg1 _ 12288 (show k0_off55 = ![0, 12288] by decide +kernel) (by decide) _ _)).trans (p47 _ _ _))
    refine (View.read_writes_cons_put arg5.view f5 _ _ _ rfl).trans ?_
    refine put_congr _ _ ?_ ((congr (congr (congrArg k0_pay35 r6) (congrArg k0_pay33 w2)) (congrArg k0_pay34 (wsc_readAt c arg1 _ 26112 rfl (by decide) _ _))).trans (p35 _ _ _))
    refine (View.read_writes_cons_put arg5.view f5 _ _ _ rfl).trans ?_
    refine put_congr _ _ ?_ ((congr (congr (congrArg k0_pay32 l6) w2) (wsc_readAt c arg1 _ 25600 rfl (by decide) _ _)).trans (p32 _ _ _))
    refine (View.read_writes_cons_put arg5.view f5 _ _ _ rfl).trans ?_
    refine put_congr _ _ ?_ ((congr (congr (congrArg k0_pay28 r3) w1) (wsc_readAt c arg1 _ 25088 rfl (by decide) _ _)).trans (p28 _ _ _))
    refine (View.read_writes_cons_put arg5.view f5 _ _ [] rfl).trans ?_
    refine put_congr _ _ rfl ((congr (congr (congrArg k0_pay27 l3) w1) (wsc_readAt c arg1 _ 24576 rfl (by decide) _ _)).trans (p27 _ _ _))
  isplitl [H6]
  · iexists _; isplitl [H6]; · iexact H6
    ipureintro
    refine (View.read_writes_full arg6.view _ _ _ []).trans ?_
    exact congr (congr (congr (congrArg k0_pay38 (congr (congr (congr (congr (congr (congrArg k0_pay36 (xq_cov c _ _ hq _ 0 rfl _)) (dt_cov c XW 0 _ _ rfl)) (xq_cov c _ _ hq _ 1 rfl _)) (dt_cov c XW 2048 _ _ rfl)) (xq_cov c _ _ hq _ 2 rfl _)) (dt_cov c XW 4096 _ _ rfl)))
      (congrArg k0_pay37 w2)) (wscD_readAt c arg1 _ g1)) (View.readAt_full _ _ _)
  isplitl [H7]
  · iexists _; isplitl [H7]; · iexact H7
    ipureintro
    refine cd_read c arg7 _ _ _ ?_
    refine cd_step _ 2 (by decide) _ rfl _ _ ((p18 _ _).trans (congr (congrArg k0_pay11 hs) (x_ldB c arg0 4096 _ g0))) _ ?_
    refine cd_step _ 1 (by decide) _ rfl _ _ ((p14 _ _).trans (congr (congrArg k0_pay11 hs) (x_ldB c arg0 2048 _ g0))) _ ?_
    refine cd_step _ 0 (by decide) _ rfl _ _ (congr (congrArg k0_pay11 hs) (x_ldB c arg0 0 _ g0)) _ ?_
    exact cd_nil _
  isplitl [H8]
  · iexists _; isplitl [H8]; · iexact H8
    ipureintro
    exact (View.read_writes_full arg8.view _ _ _ []).trans hs
  ihave Hring := (ring_end c XW) $$ [Hh Hsl]
  · isplitl [Hh]; · iexact Hh
    iexact Hsl
  icases Hring with ⟨Hh, ⟨Hc0, Hs0⟩, ⟨Hc1, Hs1⟩, ⟨Hc2, Hs2⟩, ⟨Hc3, Hs3⟩⟩
  isplitl [Hh Hdt]
  · isplitl [Hh]; · iexact Hh
    iexact Hdt
  isplitr [HW]
  · isplitl [Hs0]; · iexact Hs0
    isplitl [Hs1]; · iexact Hs1
    isplitl [Hs2]; · iexact Hs2
    isplitl [Hs3]; · iexact Hs3
    isplitl [Hc0]; · iexact Hc0
    isplitl [Hc1]; · iexact Hc1
    isplitl [Hc2]; · iexact Hc2
    isplitl [Hc3]; · iexact Hc3
    isplitl [Hdc]; · iexact Hdc
    isplitl [HQ]; · iexists _; iexact HQ
    isplitl [HO]; · iexists _; iexact HO
    iexists _; iexact HD
  iexists _; iexact HW
end Body
end Cert.Proof.InIdeal
end
-- ==== Proof.InIdealTiles.lean ====
module

public import proofs.«01_k».proof.Defs
public import proofs.«01_k».proof.Proof.Gen.KernelInIdeal.Launch
public import proofs.«01_k».proof.Proof.Gen.KernelInIdeal.Skeleton
public import proofs.«01_k».proof.Proof.Gen.KernelInIdeal.Loops
public import proofs.«01_k».proof.Proof.Gen.KernelInIdeal.Points
public import Idealize.ShloMosaic.Lib.Pipeline.KitQuiescent
public import Idealize.ShloMosaic.Lib.Ring
public import Idealize.ShloMosaic.Lib.Ring.AtN
public import Idealize.ShloMosaic.Lib.Batch
public import Idealize.ShloMosaic.Lib.Affine
public import Idealize.ShloMosaic.Lib.Tactic
public import Idealize.ShloMosaic.Lib.ValueIdxCore
public import Idealize.ShloMosaic.Lib.VecWindow
public import Idealize.ShloMosaic.Lib.Pipeline.Value
public import proofs.«01_k».proof.Proof.InIdealBody

@[expose] public section

noncomputable section

namespace Cert.Proof.InIdeal

open Cert.KernelInIdeal Cert.KernelInIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UU nD τ) ℕ

section Tiles
variable (c : Dev nD) (XW : Buf (Elt F) (wM.view.loc (c : Thread nD τ)))

/-! ## The outputs tile by tile, whatever the buffers held before -/

/-- The accumulator of tile `q`: the three column blocks' products summed. -/
def TL (X : Vec F S72x6144 .bf16) (q : ℕ) : Vec F S72x1024 .f32 :=
  accStep c XW (XQ X 2) (3 * q + 2) (accStep c XW (XQ X 1) (3 * q + 1) (accStep c XW (XQ X 0) (3 * q) (constant S72x1024 .f32 0x00000000#32)))
/-- Tile `t` of the first output. -/
def zTile (X : Vec F S72x6144 .bf16) (W : Vec F S1x26816 .f32) (t : ℕ) : Vec F S72x512 .f32 :=
  k0_pay49 (accLo (TL c XW X (2 + t))) (SC X) (wscT W (512 * t))
/-- Tile `t` of the second output. -/
def yTile (X : Vec F S72x6144 .bf16) (W : Vec F S1x26816 .f32) (t : ℕ) : Vec F S72x512 .f32 :=
  k0_pay50 (if t < 24 then accHi (TL c XW X (2 + t)) else if t % 2 = 0 then accLo (TL c XW X ((t - 24) / 2)) else accHi (TL c XW X ((t - 24) / 2)))
    (SC X) (wscT W (12288 + 512 * t))
/-- The first output. -/
def ZV (X : Vec F S72x6144 .bf16) (W : Vec F S1x26816 .f32) : Vec F S72x12288 .f32 :=
  fun i => zTile c XW X W ((i 1).val / 512) (ix2 (i 0 : Fin 72) (⟨(i 1).val % 512, Nat.mod_lt _ (by decide)⟩ : Fin 512))
/-- The second output. -/
def YV (X : Vec F S72x6144 .bf16) (W : Vec F S1x26816 .f32) : Vec F S72x14336 .f32 :=
  fun i => yTile c XW X W ((i 1).val / 512) (ix2 (i 0 : Fin 72) (⟨(i 1).val % 512, Nat.mod_lt _ (by decide)⟩ : Fin 512))

/-- The first chunk of a tile replaces the accumulator. -/
theorem first_any (G : Vec F S1x72x2048 .bf16) (q : ℕ) (A A' : Vec F S72x1024 .f32) : accStep c XW G (3 * q) A = accStep c XW G (3 * q) A' := by
  unfold accStep
  rw [show 3 * q % 3 = 0 by omega]
  rfl
theorem XQ_mod (X : Vec F S72x6144 .bf16) (i j : ℕ) (h : i % 3 = j % 3) : XQ X i = XQ X j := by unfold XQ; rw [h]
/-- After its third chunk a tile's accumulator is whole. -/
theorem AL_tile (X : Vec F S72x6144 .bf16) (A0 : Vec F S72x1024 .f32) (q : ℕ) : AL c XW X A0 (3 * q + 3) = TL c XW X q := by
  show accStep c XW (XQ X (3 * q + 2)) (3 * q + 2) (accStep c XW (XQ X (3 * q + 1)) (3 * q + 1) (accStep c XW (XQ X (3 * q)) (3 * q) (AL c XW X A0 (3 * q)))) = _
  rw [XQ_mod X (3 * q + 2) 2 (by omega), XQ_mod X (3 * q + 1) 1 (by omega), XQ_mod X (3 * q) 0 (by omega), first_any c XW _ q (AL c XW X A0 (3 * q)) (constant S72x1024 .f32 0x00000000#32)]
  rfl
theorem accAt_AL (X : Vec F S72x6144 .bf16) (A0 : Vec F S72x1024 .f32) (n : ℕ) : accAt c XW (XQ X) (AL c XW X A0 9) n = AL c XW X A0 (9 + n) := by
  induction n with
  | zero => rfl
  | succ n ih =>
    show accStep c XW (XQ X n) (9 + n) (accAt c XW (XQ X) (AL c XW X A0 9) n) = accStep c XW (XQ X (9 + n)) (9 + n) (AL c XW X A0 (9 + n))
    rw [ih, XQ_mod X n (9 + n) (by omega)]

omit [FloatOps F] in
theorem put_z (Z : Vec F S72x12288 .f32) (o : ℕ) (w : Vec F S72x512 .f32) (i : S72x12288.Idx) :
    VecWindow.put (s := S72x12288) Z ![0, o] S72x512.size w i
      = if o ≤ (i 1).val ∧ (i 1).val < o + 512 then w (ix2 (i 0 : Fin 72) (⟨((i 1).val - o) % 512, Nat.mod_lt _ (by decide)⟩ : Fin 512)) else Z i := by
  have h0 : (i 0).val < 72 := (i 0).isLt
  unfold VecWindow.put
  by_cases h : o ≤ (i 1).val ∧ (i 1).val < o + 512
  · have H : ∀ a : Fin 2, (![0, o] : Fin 2 → ℕ) a ≤ (i a).val ∧ (i a).val < (![0, o] : Fin 2 → ℕ) a + S72x512.size a := by
      intro a; fin_cases a
      · exact ⟨Nat.zero_le _, by show (i 0).val < 0 + 72; omega⟩
      · exact h
    rw [dif_pos H, if_pos h]
    refine congrArg w (funext fun a => Fin.ext ?_)
    fin_cases a
    · show (i 0).val - 0 = (i 0).val; omega
    · show (i 1).val - o = ((i 1).val - o) % 512; rw [Nat.mod_eq_of_lt (by omega)]
  · rw [dif_neg (fun H => h (H 1)), if_neg h]

omit [FloatOps F] in
theorem put_y (Y : Vec F S72x14336 .f32) (o : ℕ) (w : Vec F S72x512 .f32) (i : S72x14336.Idx) :
    VecWindow.put (s := S72x14336) Y ![0, o] S72x512.size w i
      = if o ≤ (i 1).val ∧ (i 1).val < o + 512 then w (ix2 (i 0 : Fin 72) (⟨((i 1).val - o) % 512, Nat.mod_lt _ (by decide)⟩ : Fin 512)) else Y i := by
  have h0 : (i 0).val < 72 := (i 0).isLt
  unfold VecWindow.put
  by_cases h : o ≤ (i 1).val ∧ (i 1).val < o + 512
  · have H : ∀ a : Fin 2, (![0, o] : Fin 2 → ℕ) a ≤ (i a).val ∧ (i a).val < (![0, o] : Fin 2 → ℕ) a + S72x512.size a := by
      intro a; fin_cases a
      · exact ⟨Nat.zero_le _, by show (i 0).val < 0 + 72; omega⟩
      · exact h
    rw [dif_pos H, if_pos h]
    refine congrArg w (funext fun a => Fin.ext ?_)
    fin_cases a
    · show (i 0).val - 0 = (i 0).val; omega
    · show (i 1).val - o = ((i 1).val - o) % 512; rw [Nat.mod_eq_of_lt (by omega)]
  · rw [dif_neg (fun H => h (H 1)), if_neg h]

theorem zAt_eq (X : Vec F S72x6144 .bf16) (W : Vec F S1x26816 .f32) (A0 : Vec F S72x1024 .f32) (Z0 : Vec F S72x12288 .f32) (n : ℕ) (i : S72x12288.Idx) :
    zAt c XW (XQ X) W (SC X) (AL c XW X A0 9) (VecWindow.put (s := S72x12288) Z0 ![0, 0] S72x512.size (k0_pay49 (accLo (AL c XW X A0 9)) (SC X) (wscT W 0))) n i
      = if (i 1).val < 512 * (n / 3 + 1) then ZV c XW X W i else Z0 i := by
  induction n with
  | zero =>
    show VecWindow.put (s := S72x12288) Z0 ![0, 0] S72x512.size _ i = _
    rw [put_z, AL_tile c XW X A0 2]
    by_cases h : (i 1).val < 512
    · rw [if_pos ⟨Nat.zero_le _, by omega⟩, if_pos (by omega)]
      unfold ZV zTile
      rw [show (i 1).val / 512 = 0 by omega]
      rfl
    · rw [if_neg (by omega), if_neg (by omega)]
  | succ n ih =>
    show zStep W (SC X) (accAt c XW (XQ X) (AL c XW X A0 9) (n + 1)) n _ i = _
    unfold zStep
    by_cases hn : n % 3 = 2
    · rw [if_pos hn, put_z, ih, accAt_AL, show 9 + (n + 1) = 3 * (2 + (n / 3 + 1)) + 3 by omega, AL_tile]
      by_cases h : 512 * (n / 3 + 1) ≤ (i 1).val ∧ (i 1).val < 512 * (n / 3 + 1) + 512
      · rw [if_pos h, if_pos (by omega)]
        unfold ZV zTile
        rw [show (i 1).val / 512 = n / 3 + 1 by omega]
        refine congrArg _ (congrArg (ix2 (i 0 : Fin 72)) (Fin.ext ?_))
        show ((i 1).val - 512 * (n / 3 + 1)) % 512 = (i 1).val % 512
        omega
      · rw [if_neg h]
        by_cases h2 : (i 1).val < 512 * (n / 3 + 1)
        · rw [if_pos h2, if_pos (by omega)]
        · rw [if_neg h2, if_neg (by omega)]
    · rw [if_neg hn, ih, show (n + 1) / 3 = n / 3 by omega]
/-- The first output does not depend on what the buffers held. -/
theorem ZF_eq (X : Vec F S72x6144 .bf16) (W : Vec F S1x26816 .f32) (A0 : Vec F S72x1024 .f32) (Z0 : Vec F S72x12288 .f32) : ZF c XW X W A0 Z0 = ZV c XW X W := by
  funext i
  have h1 : (i 1).val < 12288 := (i 1).isLt
  exact (zAt_eq c XW X W A0 Z0 69 i).trans (if_pos (by omega))

/-- The second output after the head: its last four tiles and its first. -/
theorem Y9_eq (X : Vec F S72x6144 .bf16) (W : Vec F S1x26816 .f32) (A0 : Vec F S72x1024 .f32) (Y0 : Vec F S72x14336 .f32) (i : S72x14336.Idx) :
    Y9 c XW X W A0 Y0 i = if (i 1).val < 512 ∨ 12288 ≤ (i 1).val then YV c XW X W i else Y0 i := by
  have h1 : (i 1).val < 14336 := (i 1).isLt
  unfold Y9
  rw [put_y, put_y, put_y, put_y, put_y, AL_tile c XW X A0 0, AL_tile c XW X A0 1, AL_tile c XW X A0 2]
  have key : ∀ t : ℕ, (i 1).val / 512 = t → YV c XW X W i = yTile c XW X W t (ix2 (i 0 : Fin 72) (⟨(i 1).val % 512, Nat.mod_lt _ (by decide)⟩ : Fin 512)) := by
    intro t ht; subst ht; rfl
  have e : ∀ (o : ℕ), o % 512 = 0 → o ≤ (i 1).val → ((ix2 (i 0 : Fin 72) (⟨((i 1).val - o) % 512, Nat.mod_lt _ (by decide)⟩ : Fin 512)) : S72x512.Idx) = ix2 (i 0 : Fin 72) (⟨(i 1).val % 512, Nat.mod_lt _ (by decide)⟩ : Fin 512) := by
    intro o ho hle
    refine congrArg (ix2 (i 0 : Fin 72)) (Fin.ext ?_)
    show ((i 1).val - o) % 512 = (i 1).val % 512
    omega
  by_cases a0 : (i 1).val < 512
  · rw [if_pos ⟨Nat.zero_le _, by omega⟩, if_pos (by omega), key 0 (by omega)]; rfl
  by_cases a1 : (i 1).val < 12288
  · rw [if_neg (by omega), if_neg (by omega), if_neg (by omega), if_neg (by omega), if_neg (by omega), if_neg (by omega)]
  rw [if_neg (by omega)]
  by_cases a2 : 13824 ≤ (i 1).val
  · rw [if_pos (by omega), if_pos (by omega), key 27 (by omega), e 13824 (by decide) a2]; rfl
  rw [if_neg (by omega)]
  by_cases a3 : 13312 ≤ (i 1).val
  · rw [if_pos (by omega), if_pos (by omega), key 26 (by omega), e 13312 (by decide) a3]; rfl
  rw [if_neg (by omega)]
  by_cases a4 : 12800 ≤ (i 1).val
  · rw [if_pos (by omega), if_pos (by omega), key 25 (by omega), e 12800 (by decide) a4]; rfl
  rw [if_neg (by omega), if_pos (by omega), if_pos (by omega), key 24 (by omega), e 12288 (by decide) (by omega)]; rfl

theorem yAt_eq (X : Vec F S72x6144 .bf16) (W : Vec F S1x26816 .f32) (A0 : Vec F S72x1024 .f32) (Y0 : Vec F S72x14336 .f32) (n : ℕ) (hn69 : n ≤ 69) (i : S72x14336.Idx) :
    yAt c XW (XQ X) W (SC X) (AL c XW X A0 9) (Y9 c XW X W A0 Y0) n i
      = if (i 1).val < 512 * (n / 3 + 1) ∨ 12288 ≤ (i 1).val then YV c XW X W i else Y0 i := by
  induction n with
  | zero => exact Y9_eq c XW X W A0 Y0 i
  | succ n ih =>
    show yStep W (SC X) (accAt c XW (XQ X) (AL c XW X A0 9) (n + 1)) n _ i = _
    unfold yStep
    by_cases hn : n % 3 = 2
    · rw [if_pos hn, put_y, ih (by omega), accAt_AL, show 9 + (n + 1) = 3 * (2 + (n / 3 + 1)) + 3 by omega, AL_tile]
      by_cases h : 512 * (n / 3 + 1) ≤ (i 1).val ∧ (i 1).val < 512 * (n / 3 + 1) + 512
      · rw [if_pos h, if_pos (by omega)]
        unfold YV yTile
        rw [show (i 1).val / 512 = n / 3 + 1 by omega, if_pos (show n / 3 + 1 < 24 by omega)]
        refine congrArg _ (congrArg (ix2 (i 0 : Fin 72)) (Fin.ext ?_))
        show ((i 1).val - 512 * (n / 3 + 1)) % 512 = (i 1).val % 512
        omega
      · rw [if_neg h]
        by_cases h2 : (i 1).val < 512 * (n / 3 + 1) ∨ 12288 ≤ (i 1).val
        · rw [if_pos h2, if_pos (by omega)]
        · rw [if_neg h2, if_neg (by omega)]
    · rw [if_neg hn, ih (by omega), show (n + 1) / 3 = n / 3 by omega]
/-- The second output does not depend on what the buffers held. -/
theorem YF_eq (X : Vec F S72x6144 .bf16) (W : Vec F S1x26816 .f32) (A0 : Vec F S72x1024 .f32) (Y0 : Vec F S72x14336 .f32) : YF c XW X W A0 Y0 = YV c XW X W := by
  funext i
  have h1 : (i 1).val < 14336 := (i 1).isLt
  exact (yAt_eq c XW X W A0 Y0 69 le_rfl i).trans (if_pos (by omega))
end Tiles
end Cert.Proof.InIdeal
end
-- ==== Proof.InIdealLaunch.lean ====
module

public import proofs.«01_k».proof.Proof.InIdealTiles

@[expose] public section

noncomputable section

namespace Cert.Proof.InIdeal

open Cert.KernelInIdeal Cert.KernelInIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

private theorem entails_of_eq {P Q : sProp 𝕄} (e : P = Q) : P ⊢ Q := e ▸ .rfl

/-! ## The launch: the one region on every core -/

/-- A buffer's contents when the call is entered: after the host operations before it. -/
abbrev V (c : Dev nD) (b : Ref sig .tc) : Buf (Elt F) ((c : Thread nD τ).loc b) := StableHlo.after hostOps0 (fun b => m (c, b)) b
/-- The transposed weight's, as the chunks read it. -/
abbrev XA (c : Dev nD) : Buf (Elt F) (wM.view.loc (c : Thread nD τ)) := V m c main_v3

theorem hostOps0_fresh : (hostOps0 : List (HloOp τ sig (Elt F))).Forall fun op => op.fresh = ∅ := by
  simp only [List.Forall]; repeat' constructor
set_option maxHeartbeats 800000 in
/-- The program up to the call: the host operations, then the call. -/
theorem hmain (𝒱₀ : Variants) : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain
/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The kernel's own semaphores: the four slots' cells and the dt rows' cell. -/
abbrev osem : Fin 5 → SemLoc sig := fun | 0 => .dma (csm 0).sem | 1 => .dma (csm 1).sem | 2 => .dma (csm 2).sem | 3 => .dma (csm 3).sem | 4 => .dma dsm.sem
theorem ownSemFacts : Pipeline.OwnSemFacts spec0 osem := by decide

/-! ## Element sets: the weight's 78 chunks of two halves and its dt rows, the ring's four slots -/

abbrev KB (b : Fin 78) : Finset S26816x6144.Idx := G156 b 0 ∪ G156 b 1
abbrev KD : Finset S26816x6144.Idx := Finset.univ.filter fun y => 26624 ≤ (y 0).val

theorem mem_K2 (b : Fin 78) (i : Fin 2) (y : S26816x6144.Idx) : y ∈ G156 b i
    ↔ (rowOff b.val i.val ≤ (y 0).val ∧ (y 0).val < rowOff b.val i.val + 512) ∧ (2048 * (b.val % 3) ≤ (y 1).val ∧ (y 1).val < 2048 * (b.val % 3) + 2048) := by
  rw [Rect.mem_set_unit]
  constructor
  · intro H; exact ⟨H 0, H 1⟩
  · intro H i; fin_cases i
    · exact H.1
    · exact H.2
theorem mem_KB (b : Fin 78) (y : S26816x6144.Idx) : y ∈ KB b
    ↔ ((rowOff b.val 0 ≤ (y 0).val ∧ (y 0).val < rowOff b.val 0 + 512) ∨ (rowOff b.val 1 ≤ (y 0).val ∧ (y 0).val < rowOff b.val 1 + 512))
      ∧ (2048 * (b.val % 3) ≤ (y 1).val ∧ (y 1).val < 2048 * (b.val % 3) + 2048) := by
  rw [Finset.mem_union, mem_K2, mem_K2]
  show (((rowOff b.val 0 ≤ _ ∧ _) ∧ _) ∨ ((rowOff b.val 1 ≤ _ ∧ _) ∧ _)) ↔ _
  tauto
theorem K2_disjoint (b : Fin 78) : Disjoint (G156 b 0) (G156 b 1) := by
  rw [Finset.disjoint_left]; intro y hy hy'; rw [mem_K2] at hy hy'
  obtain ⟨⟨h1, h2⟩, -⟩ := hy; obtain ⟨⟨h3, h4⟩, -⟩ := hy'
  have := b.isLt
  have z : ((0 : Fin 2).val) = 0 := rfl
  have o : ((1 : Fin 2).val) = 1 := rfl
  rw [z] at h1 h2; rw [o] at h3 h4
  unfold rowOff at h1 h2 h3 h4
  split at h1 <;> rename_i hc <;> simp only [hc, if_true, if_false] at h2 h3 h4 <;> omega
/-- Which chunk an element of the weight's first 26624 rows belongs to. -/
def own (r cl : ℕ) : ℕ := if r < 12288 then 3 * (2 + r / 512) + cl / 2048 else if r < 24576 then 3 * (2 + (r - 12288) / 512) + cl / 2048 else 3 * ((r - 24576) / 1024) + cl / 2048
theorem own_of_mem (b : Fin 78) (y : S26816x6144.Idx) (h : y ∈ KB b) : (y 0).val < 26624 ∧ own (y 0).val (y 1).val = b.val := by
  rw [mem_KB] at h
  have := b.isLt
  unfold own
  by_cases hb : b.val < 6
  · have e0 : rowOff b.val 0 = 24576 + 1024 * (b.val / 3) := by unfold rowOff; rw [if_pos hb]; rfl
    have e1 : rowOff b.val 1 = 24576 + 1024 * (b.val / 3) + 512 := by unfold rowOff; rw [if_pos hb]
    rw [e0, e1] at h
    rw [if_neg (by omega), if_neg (by omega)]
    omega
  · have e0 : rowOff b.val 0 = 512 * (b.val / 3 - 2) := by unfold rowOff; rw [if_neg hb]; rfl
    have e1 : rowOff b.val 1 = 512 * (b.val / 3 - 2) + 12288 := by unfold rowOff; rw [if_neg hb]
    rw [e0, e1] at h
    by_cases h1 : (y 0).val < 12288
    · rw [if_pos h1]; omega
    · rw [if_neg h1, if_pos (by omega)]; omega
theorem KB_disjoint : ∀ b ∈ (Finset.univ : Finset (Fin 78)), ∀ b' ∈ (Finset.univ : Finset (Fin 78)), b ≠ b' → Disjoint (KB b) (KB b') := by
  intro b _ b' _ hne; rw [Finset.disjoint_left]; intro y hy hy'
  exact hne (Fin.ext ((own_of_mem b y hy).2.symm.trans (own_of_mem b' y hy').2))
theorem KD_disjoint : Disjoint ((Finset.univ : Finset (Fin 78)).biUnion KB) KD := by
  rw [Finset.disjoint_left]; intro y hy hy'
  obtain ⟨b, -, hb⟩ := Finset.mem_biUnion.mp hy
  have h1 := (own_of_mem b y hb).1
  have h2 : 26624 ≤ (y 0).val := (Finset.mem_filter.mp hy').2
  omega
theorem K_cover : (Finset.univ : Finset (Fin 78)).biUnion KB ∪ KD = Finset.univ := by
  ext y; simp only [Finset.mem_univ, iff_true, Finset.mem_union]
  have h0 : (y 0).val < 26816 := (y 0).isLt
  have h1 : (y 1).val < 6144 := (y 1).isLt
  by_cases hd : 26624 ≤ (y 0).val
  · exact Or.inr (Finset.mem_filter.mpr ⟨Finset.mem_univ _, hd⟩)
  refine Or.inl (Finset.mem_biUnion.mpr ?_)
  by_cases ha : (y 0).val < 12288
  · refine ⟨⟨3 * (2 + (y 0).val / 512) + (y 1).val / 2048, by omega⟩, Finset.mem_univ _, ?_⟩
    rw [mem_KB]; dsimp only; unfold rowOff
    rw [if_neg (by omega), if_neg (by omega)]; omega
  by_cases hb : (y 0).val < 24576
  · refine ⟨⟨3 * (2 + ((y 0).val - 12288) / 512) + (y 1).val / 2048, by omega⟩, Finset.mem_univ _, ?_⟩
    rw [mem_KB]; dsimp only; unfold rowOff
    rw [if_neg (by omega), if_neg (by omega)]; omega
  · refine ⟨⟨3 * (((y 0).val - 24576) / 1024) + (y 1).val / 2048, by omega⟩, Finset.mem_univ _, ?_⟩
    rw [mem_KB]; dsimp only; unfold rowOff
    rw [if_pos (by omega), if_pos (by omega)]; omega
omit [FloatOps F] in
theorem dt_set : (dtM : Memref sig .tc .hbm _ _).view.set = KD := by
  refine (View.set_slice_whole _ _).trans ?_
  ext y
  have h0 : (y 0).val < 26816 := (y 0).isLt
  have h1 : (y 1).val < 6144 := (y 1).isLt
  rw [Rect.mem_set_unit, Finset.mem_filter]
  constructor
  · intro H; exact ⟨Finset.mem_univ _, (H 0).1⟩
  · intro H i; have H2 := H.2; fin_cases i
    · show 26624 ≤ (y 0).val ∧ (y 0).val < 26624 + 192; omega
    · show 0 ≤ (y 1).val ∧ (y 1).val < 0 + 6144; omega

theorem union_eq {ℓ : Loc nD τ sig} {I J : Finset (Idx ℓ)} (h : Disjoint I J) (f : Buf (Elt F) ℓ) :
    (ℓ ↦[I ∪ J]{fullShare} f : sProp 𝕄) = iprop((ℓ ↦[I]{fullShare} f) ∗ ℓ ↦[J]{fullShare} f) :=
  Entails.antisymm (pointsTo_union h).1 (pointsTo_union h).2
/-- The transposed weight whole is its 78 chunks and its dt rows. -/
theorem w_eq (c : Dev nD) (f : Buf (Elt F) (wM.view.loc (c : Thread nD τ))) :
    (((c : Thread nD τ).loc main_v3) ↦{fullShare} f : sProp 𝕄) = iprop(bigSep Finset.univ (homeP c f) ∗ dtP c f) := by
  have e : (((c : Thread nD τ).loc main_v3) ↦{fullShare} f : sProp 𝕄) = (((c : Thread nD τ).loc main_v3) ↦[(Finset.univ : Finset (Fin 78)).biUnion KB ∪ KD]{fullShare} f : sProp 𝕄) :=
    congrArg (fun S => (((c : Thread nD τ).loc main_v3) ↦[S]{fullShare} f : sProp 𝕄)) K_cover.symm
  have e2 : (((c : Thread nD τ).loc main_v3) ↦[(Finset.univ : Finset (Fin 78)).biUnion KB]{fullShare} f : sProp 𝕄) = bigSep Finset.univ (homeP c f) := by
    refine (pointsTo_biUnion (ℓ := (c : Thread nD τ).loc main_v3) Finset.univ KB KB_disjoint).trans (bigSep_congr fun b _ => ?_)
    refine (union_eq (ℓ := (c : Thread nD τ).loc main_v3) (K2_disjoint b) f).trans ?_
    rw [← blk_set, ← blk_set]; rfl
  have e3 : (((c : Thread nD τ).loc main_v3) ↦[KD]{fullShare} f : sProp 𝕄) = dtP c f := by rw [← dt_set]
  exact e.trans ((union_eq (ℓ := (c : Thread nD τ).loc main_v3) KD_disjoint f).trans (by rw [e2, e3]))

theorem S4s_disjoint : ∀ s s' : Fin 4, s ≠ s' → Disjoint (S4s s) (S4s s') := by
  intro s s' hne; rw [Finset.disjoint_left]; intro y hy hy'; rw [mem_S4s] at hy hy'; exact hne (Fin.ext (hy.symm.trans hy'))
theorem S4s_cover : (Finset.univ : Finset (Fin 4)).biUnion S4s = Finset.univ := by
  ext y; simp only [Finset.mem_biUnion, Finset.mem_univ, true_and, iff_true]; exact ⟨(y 0).cast (by decide), by rw [mem_S4s]; rfl⟩

omit [FloatOps F] in
theorem slotP_eq (c : Dev nD) (s : Fin 4) (f) : slotP c s f = (((c : Thread nD τ).loc cc0_scratch1) ↦[S4s s]{fullShare} f : sProp 𝕄) :=
  congrArg (fun S => (_ ↦[S]{fullShare} f : sProp 𝕄)) (rslot_set s)
/-- The ring's buffer whole is its four slots, and back. -/
theorem buf_split (c : Dev nD) :
    iprop(∃ f : Buf (Elt F) ((c : Thread nD τ).loc cc0_scratch1), ((c : Thread nD τ).loc cc0_scratch1) ↦{fullShare} f)
      ⊢ (iprop((∃ f, slotP c 0 f) ∗ (∃ f, slotP c 1 f) ∗ (∃ f, slotP c 2 f) ∗ ∃ f, slotP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) S4s S4s_disjoint S4s_cover f).trans (Ring.bigSep_fin4 _))) $$ H
  icases H2 with ⟨H0, H1, H2, H3⟩
  isplitl [H0]
  · iexists f; iapply (entails_of_eq (slotP_eq c 0 f).symm); iexact H0
  isplitl [H1]
  · iexists f; iapply (entails_of_eq (slotP_eq c 1 f).symm); iexact H1
  isplitl [H2]
  · iexists f; iapply (entails_of_eq (slotP_eq c 2 f).symm); iexact H2
  · iexists f; iapply (entails_of_eq (slotP_eq c 3 f).symm); iexact H3
theorem buf_join (c : Dev nD) :
    iprop((∃ f, slotP c 0 f) ∗ (∃ f, slotP c 1 f) ∗ (∃ f, slotP c 2 f) ∗ ∃ f, slotP c 3 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch1) S4s S4s_disjoint S4s_cover f0)
  irw [Ring.bigSep_fin4]
  isplitl [H0]
  · iexists f0; iapply (entails_of_eq (slotP_eq c 0 f0)); iexact H0
  isplitl [H1]
  · iexists f1; iapply (entails_of_eq (slotP_eq c 1 f1)); iexact H1
  isplitl [H2]
  · iexists f2; iapply (entails_of_eq (slotP_eq c 2 f2)); iexact H2
  · iexists f3; iapply (entails_of_eq (slotP_eq c 3 f3)); iexact H3

omit [FloatOps F] in
/-- A scratch buffer whole, as its memref states it. -/
theorem xq_whole (c : Dev nD) (f) : xqP c f = (((c : Thread nD τ).loc cc0_scratch0) ↦{fullShare} f : sProp 𝕄) :=
  congrArg (fun S => (_ ↦[S]{fullShare} f : sProp 𝕄)) (View.set_whole _)
omit [FloatOps F] in
/-- A scratch buffer whole, as its memref states it. -/
theorem wdt_whole (c : Dev nD) (f) : wdtP c f = (((c : Thread nD τ).loc cc0_scratch2) ↦{fullShare} f : sProp 𝕄) :=
  congrArg (fun S => (_ ↦[S]{fullShare} f : sProp 𝕄)) (View.set_whole _)
omit [FloatOps F] in
/-- A scratch buffer whole, as its memref states it. -/
theorem acc_whole (c : Dev nD) (f) : accP c f = (((c : Thread nD τ).loc cc0_scratch3) ↦{fullShare} f : sProp 𝕄) :=
  congrArg (fun S => (_ ↦[S]{fullShare} f : sProp 𝕄)) (View.set_whole _)

/-- The kernel's own cells at zero. -/
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2 ∗ cellP c 3 ∗ dcellP c) := by
  unfold Pipeline.ownSems0
  exact bigSep_univ_eq_bigSepL [(0 : Fin 5), (1 : Fin 5), (2 : Fin 5), (3 : Fin 5), (4 : Fin 5)] (by decide) (by decide) _

/-! ## The pipeline's proof data -/

/-- The region invariant, the same before and after the one point: the weight home, the kernel's own buffers at
    anything, its cells at zero. -/
def Φ (c : Dev nD) : sProp 𝕄 := iprop((bigSep Finset.univ (homeP c (XA m c)) ∗ dtP c (XA m c)) ∗ OWN c)

/-- Window `w`'s block at point `t`, read off its array at launch. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => ZV c (XA m c) (iblk m c 0 t) (iblk m c 1 t)
    | ⟨4, _⟩ => YV c (XA m c) (iblk m c 0 t) (iblk m c 1 t)
    | ⟨5, _⟩ => DT c (XA m c) (iblk m c 0 t) (iblk m c 1 t) (iblk m c 2 t)
    | ⟨6, _⟩ => CODES (iblk m c 0 t)
    | ⟨7, _⟩ => SC (iblk m c 0 t)
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = ZV c (XA m c) (iblk m c 0 t) (iblk m c 1 t) := by dsimp only [dats]
theorem after_w4 (c : Dev nD) (t : Fin cfg0.N) : (dats m 0 c).after 4 t = YV c (XA m c) (iblk m c 0 t) (iblk m c 1 t) := by dsimp only [dats]
theorem after_w5 (c : Dev nD) (t : Fin cfg0.N) : (dats m 0 c).after 5 t = DT c (XA m c) (iblk m c 0 t) (iblk m c 1 t) (iblk m c 2 t) := by dsimp only [dats]
theorem after_w6 (c : Dev nD) (t : Fin cfg0.N) : (dats m 0 c).after 6 t = CODES (iblk m c 0 t) := by dsimp only [dats]
theorem after_w7 (c : Dev nD) (t : Fin cfg0.N) : (dats m 0 c).after 7 t = SC (iblk m c 0 t) := by dsimp only [dats]

/-! ## The body obligation -/

/-- The body table's entry is the kernel on the point's staging memrefs. -/
theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (win0_6.stage (a.2 6)) (hstage0_6 0) (win0_7.stage (a.2 7)) (hstage0_7 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2, after_w3, after_w4, after_w5, after_w6, after_w7]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hh, HOWN⟩, ⟨%W, -, HW⟩, ⟨%d0, %g0, %hg0, H0⟩, ⟨%d1, %g1, %hg1, H1⟩, ⟨%d2, %g2, %hg2, H2⟩, ⟨%d3, %g3, -, H3⟩, ⟨%d4, %g4, -, H4⟩, ⟨%d5, %g5, -, H5⟩, ⟨%d6, %g6, -, H6⟩, ⟨%d7, %g7, -, H7⟩⟩
  sl_rw [prog_eq t]
  iapply (bodyRun c (XA m c) (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) g0 g1 g2 W)
  isplitl [H0 H1 H2 H3 H4 H5 H6 H7 Hh HOWN HW]
  · isplitl [H0]; · iexact H0
    isplitl [H1]; · iexact H1
    isplitl [H2]; · iexact H2
    isplitl [H3]; · iexists g3; iexact H3
    isplitl [H4]; · iexists g4; iexact H4
    isplitl [H5]; · iexists g5; iexact H5
    isplitl [H6]; · iexists g6; iexact H6
    isplitl [H7]; · iexists g7; iexact H7
    isplitl [Hh]; · iexact Hh
    isplitl [HOWN]; · iexact HOWN
    iexact HW
  · iintro ⟨H0, H1, H2, ⟨%f3, H3, %h3⟩, ⟨%f4, H4, %h4⟩, ⟨%f5, H5, %h5⟩, ⟨%f6, H6, %h6⟩, ⟨%f7, H7, %h7⟩, Hh, HOWN, ⟨%W', HW⟩⟩
    obtain ⟨A3, Z3, h3⟩ := h3
    obtain ⟨A4, Z4, h4⟩ := h4
    isplitl [Hh HOWN]
    · isplitl [Hh]; · iexact Hh
      iexact HOWN
    isplitl [HW]
    · iexists W'; isplitr; · ipureintro; exact fun _ _ => Or.inl trivial
      iexact HW
    isplitl [H0]
    · iexists g0; isplitr; · ipureintro; exact hg0
      iexact H0
    isplitl [H1]
    · iexists g1; isplitr; · ipureintro; exact hg1
      iexact H1
    isplitl [H2]
    · iexists g2; isplitr; · ipureintro; exact hg2
      iexact H2
    isplitl [H3]
    · iexists f3; isplitr; · ipureintro; exact (h3.trans (ZF_eq c (XA m c) _ _ A3 Z3)).trans (congrArg₂ (ZV c (XA m c)) hg0 hg1)
      iexact H3
    isplitl [H4]
    · iexists f4; isplitr; · ipureintro; exact (h4.trans (YF_eq c (XA m c) _ _ A4 Z4)).trans (congrArg₂ (YV c (XA m c)) hg0 hg1)
      iexact H4
    isplitl [H5]
    · iexists f5; isplitr; · ipureintro; exact h5.trans (congr (congrArg₂ (DT c (XA m c)) hg0 hg1) hg2)
      iexact H5
    isplitl [H6]
    · iexists f6; isplitr; · ipureintro; exact h6.trans (congrArg CODES hg0)
      iexact H6
    · iexists f7; isplitr; · ipureintro; exact h7.trans (congrArg SC hg0)
      iexact H7

/-! ## The run -/

def intoΦ (c : Dev nD) : sProp 𝕄 := iprop((bigSep Finset.univ (homeP c (XA m c)) ∗ dtP c (XA m c)) ∗ Pipeline.ownSems0 osem c)
def outOfΦ (c : Dev nD) : sProp 𝕄 := ((c : Thread nD τ).loc main_v3) ↦{fullShare} XA m c
def besides (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3))
def u₀ : UU nD τ := (initOf (Pipeline.cells cfgs Cert.KernelInIdeal.Gen.cellOf_inj) (Pipeline.launchToks cfgs Cert.KernelInIdeal.Gen.cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3)
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- For any float values, from any memory with zero counters: every weakly fair execution of @main on the TensorCores
    terminates, and every final state has each window's array at its computed contents, the arguments unchanged, every
    semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain m 𝒱₀)
    (hA := fun _ _ => rfl)
    (X := intoΦ m) (Y := outOfΦ m) (Z := besides m)
    (hX := fun c => by
      rw [unscopedRest0_eq, w_eq c (XA m c)]
      unfold intoΦ besides
      iintro ⟨⟨A0, A1, A2, A3, H0⟩, HS, -, -, -⟩; imodintro
      isplitl [H0 HS]
      · isplitl [H0]; · iexact H0
        iexact HS
      isplitl [A0]; · iexact A0
      isplitl [A1]; · iexact A1
      isplitl [A2]; · iexact A2
      iexact A3)
    (hin := fun c => by
      rw [scopedRest0_eq, show (dats m 0 c).Φ 0 = Φ m c from rfl]
      unfold intoΦ Φ; rw [ownSems0_eq]
      iintro ⟨⟨H0, Hc0, Hc1, Hc2, Hc3, Hcd⟩, ⟨%f1, Hm⟩, Hb, ⟨%f2, Hq⟩, ⟨%f3, Ha⟩⟩
      ihave Hs := (buf_split c) $$ Hb
      icases Hs with ⟨Hs0, Hs1, Hs2, Hs3⟩
      isplitl [H0]; · iexact H0
      isplitl [Hs0]; · iexact Hs0
      isplitl [Hs1]; · iexact Hs1
      isplitl [Hs2]; · iexact Hs2
      isplitl [Hs3]; · iexact Hs3
      isplitl [Hc0]; · iexact Hc0
      isplitl [Hc1]; · iexact Hc1
      isplitl [Hc2]; · iexact Hc2
      isplitl [Hc3]; · iexact Hc3
      isplitl [Hcd]; · iexact Hcd
      isplitl [Hm]; · iexists f1; iapply (entails_of_eq (xq_whole c f1).symm); iexact Hm
      isplitl [Ha]; · iexists f3; iapply (entails_of_eq (acc_whole c f3).symm); iexact Ha
      iexists f2; iapply (entails_of_eq (wdt_whole c f2).symm); iexact Hq)
    (hout := fun c => by
      rw [scopedRest0_eq, show (dats m 0 c).Φ (Fin.last cfg0.N) = Φ m c from rfl, ownSems0_eq]
      unfold Φ outOfΦ; rw [w_eq c (XA m c)]
      iintro ⟨H0, Hs0, Hs1, Hs2, Hs3, Hc0, Hc1, Hc2, Hc3, Hcd, ⟨%f1, Hm⟩, ⟨%f3, Ha⟩, ⟨%f2, Hq⟩⟩
      isplitl [H0]; · iexact H0
      isplitl [Hc0 Hc1 Hc2 Hc3 Hcd]
      · isplitl [Hc0]; · iexact Hc0
        isplitl [Hc1]; · iexact Hc1
        isplitl [Hc2]; · iexact Hc2
        isplitl [Hc3]; · iexact Hc3
        iexact Hcd
      isplitl [Hm]; · iexists f1; iapply (entails_of_eq (xq_whole c f1)); iexact Hm
      isplitl [Hs0 Hs1 Hs2 Hs3]
      · iapply (buf_join c)
        isplitl [Hs0]; · iexact Hs0
        isplitl [Hs1]; · iexact Hs1
        isplitl [Hs2]; · iexact Hs2
        iexact Hs3
      isplitl [Hq]; · iexists f2; iapply (entails_of_eq (wdt_whole c f2)); iexact Hq
      iexists f3; iapply (entails_of_eq (acc_whole c f3)); iexact Ha)
    (QY := QY m)
    (hY := fun c s' => by
      unfold besides
      iintro ⟨-, ⟨A0, A1, A2, A3⟩, HSI⟩
      icombine HSI A0 gives %h0
      icombine HSI A1 gives %h1
      icombine HSI A2 gives %h2
      icombine HSI A3 gives %h3
      imodintro
      isplitr
      · ipureintro
        exact ⟨(Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c)⟩
      iexact HSI)
    (hQ := fun _ hh hz => ⟨hh, hz⟩)

/-! ## The claim -/

/-- The kernel terminates from every memory, leaves its arguments as they were and every semaphore at zero. -/
theorem frame : Cert.quiescent_KernelInIdeal := fun m ρ _ =>
  (θ_run defs _ _).mono (fun _ hh => ⟨fun c => (hh.1 c).2, hh.2⟩) (run_main m ρ)

end Cert.Proof.InIdeal

end
-- ==== Proof.InValue.lean ====
module

public import proofs.«01_k».proof.Proof.InIdealLaunch
public import proofs.«01_k».proof.Proof.Gen.ReferenceInIdeal.Value
public import proofs.«01_k».proof.Proof.Quant

@[expose] public section

noncomputable section

/-! The kernel's five results, over the extended reals, are the reference's. -/

namespace Cert.Proof.InIdeal

open Cert.KernelInIdeal Cert.KernelInIdeal.Gen Cert.Proof.Quant
open Idealize.ShloMosaic Idealize.ShloMosaic.TcCoe Idealize.ShloMosaic.ValueIdx Idealize.SL.Sem

theorem eta2 {a b : ℕ} (i : (⟨2, ![a, b]⟩ : Shape).Idx) : ∃ (r : Fin a) (k : Fin b), i = ix2 r k :=
  ⟨i 0, i 1, by funext d; fin_cases d <;> rfl⟩

/-! ## The scale -/

/-- Entry `K` of row `r`, the columns counted around the row. -/
def at_ (X : Vec Ideal S72x6144 .bf16) (r : Fin 72) (K : ℕ) : EReal := X (ix2 r (⟨K % 6144, Nat.mod_lt _ (by decide)⟩ : Fin 6144))

theorem at_lt (X : Vec Ideal S72x6144 .bf16) (r : Fin 72) (K : Fin 6144) : at_ X r K.val = X (ix2 r K) :=
  congrArg (fun z => X (ix2 r z)) (Fin.ext (Nat.mod_eq_of_lt K.isLt))

/-- One group of 128 columns taken into the running maximum. -/
def mstep (M : FVec Ideal S72x128 .f32) (v : Vec Ideal S72x128 .bf16) : FVec Ideal S72x128 .f32 :=
  maximumf M (absf (extf .f32 (shapeCast S72x128 v shapeCasts_S72x128_S72x128 : FVec Ideal S72x128 .bf16) bitsLt_bf16_f32))

/-- The running maximum over the first `n` groups of 128 columns. -/
def mxf (X : Vec Ideal S72x6144 .bf16) : ℕ → FVec Ideal S72x128 .f32
  | 0 => broadcast S72x128 (Scalar.ofBits .f32 0x00000000#32)
  | n + 1 => mstep (mxf X n) (ld X (128 * n))

/-- The scale of a row's maximum. -/
def scaleOf (v : FVec Ideal S72 .f32) : FVec Ideal S72x1 .f32 :=
  select (cmpf .oeq (shapeCast S72x1 v shapeCasts_S72_S72x1 : FVec Ideal S72x1 .f32) (broadcast S72x1 (Scalar.ofBits .f32 0x00000000#32)))
    (broadcast S72x1 (Scalar.ofBits .f32 0x3F800000#32))
    (divf (shapeCast S72x1 v shapeCasts_S72_S72x1 : FVec Ideal S72x1 .f32) (broadcast S72x1 (Scalar.ofBits .f32 0x42FE0000#32)))

theorem SC_form (X : Vec Ideal S72x6144 .bf16) :
    SC X = scaleOf (multiReduction .maximumf [1] S72 (mxf X 48) 0xFF800000#32 reduces_S72x128_S72 (.inl rfl) rfl) := rfl

theorem mxf_le (X : Vec Ideal S72x6144 .bf16) (r : Fin 72) (l : Fin 128) (c : EReal) (n : ℕ) :
    mxf X n (ix2 r l) ≤ c ↔ 0 ≤ c ∧ ∀ j : ℕ, j < n → ab (at_ X r (128 * j + l.val)) ≤ c := by
  induction n with
  | zero =>
    have h : mxf X 0 (ix2 r l) = 0 := Ideal.ofBits_zero_f32
    rw [h]
    exact ⟨fun h => ⟨h, fun j hj => absurd hj (by omega)⟩, fun h => h.1⟩
  | succ n ih =>
    have e : mxf X (n + 1) (ix2 r l) = max (mxf X n (ix2 r l)) (ab (at_ X r (128 * n + l.val))) := by
      show mstep (mxf X n) (ld X (128 * n)) (ix2 r l) = _
      unfold mstep
      rw [shapeCast_self]
      rfl
    rw [e, max_le_iff, ih]
    constructor
    · rintro ⟨⟨h, h0⟩, h1⟩
      refine ⟨h, fun j hj => ?_⟩
      rcases Nat.lt_succ_iff_lt_or_eq.mp hj with q | rfl
      exacts [h0 j q, h1]
    · rintro ⟨h, H⟩
      exact ⟨⟨h, fun j hj => H j (by omega)⟩, H n (by omega)⟩

/-- The running maximum over the column groups, maximised over the lanes, is the row's maximum. -/
theorem rowMax_eq (X : Vec Ideal S72x6144 .bf16) (r : Fin 72) :
    multiReduction .maximumf [1] S72 (mxf X 48) 0xFF800000#32 reduces_S72x128_S72 (.inl rfl) rfl (ix1 r)
      = multiReduction .maximumf [1] Cert.ReferenceInIdeal.S72 (absf (Cert.ReferenceInIdeal.Gen.k0_pay2 (F := Ideal) X) : FVec Ideal Cert.ReferenceInIdeal.S72x6144 .f32) 0xFF800000#32
          Cert.ReferenceInIdeal.Gen.reduces_S72x6144_S72 (.inl rfl) rfl (ix1 r) := by
  refine eq_of_forall_ge_iff fun c => ?_
  refine (rowMax_le (R := 72) (N := 128) _ _ _ _ _ r c).trans ((and_congr Iff.rfl ?_).trans (rowMax_le (R := 72) (N := 6144) _ _ _ _ _ r c).symm)
  have hv : ∀ K : Fin 6144, (absf (Cert.ReferenceInIdeal.Gen.k0_pay2 (F := Ideal) X) : FVec Ideal Cert.ReferenceInIdeal.S72x6144 .f32) (ix2 r K) = ab (X (ix2 r K)) := by
    intro K
    unfold Cert.ReferenceInIdeal.Gen.k0_pay2
    rw [shapeCast_self]
    rfl
  constructor
  · intro H K
    have h1 := ((mxf_le X r ⟨K.val % 128, Nat.mod_lt _ (by decide)⟩ c 48).1 (H _)).2 (K.val / 128) (by have := K.isLt; omega)
    refine le_of_eq_of_le ((hv K).trans ?_) h1
    refine congrArg (fun z => ab (X (ix2 r z))) (Fin.ext ?_)
    show K.val = (128 * (K.val / 128) + K.val % 128) % 6144
    have := K.isLt; omega
  · intro H l
    exact (mxf_le X r l c 48).2 ⟨((ab_nonneg (X (ix2 r 0))).trans (le_of_eq (hv 0).symm)).trans (H 0), fun j _ => le_of_eq_of_le (hv _).symm (H _)⟩

/-- The scales are the reference's. -/
theorem SC_eq (X : Vec Ideal S72x6144 .bf16) : SC X = Cert.ReferenceInIdeal.Gen.k0_pay3 (F := Ideal) X := by
  have e : multiReduction .maximumf [1] S72 (mxf X 48) 0xFF800000#32 reduces_S72x128_S72 (.inl rfl) rfl
      = multiReduction .maximumf [1] Cert.ReferenceInIdeal.S72 (absf (Cert.ReferenceInIdeal.Gen.k0_pay2 (F := Ideal) X) : FVec Ideal Cert.ReferenceInIdeal.S72x6144 .f32) 0xFF800000#32
          Cert.ReferenceInIdeal.Gen.reduces_S72x6144_S72 (.inl rfl) rfl := by
    funext i
    obtain ⟨r, rfl⟩ : ∃ r : Fin 72, i = ix1 r := ⟨i 0, by funext d; fin_cases d; rfl⟩
    exact rowMax_eq X r
  exact (SC_form X).trans (congrArg scaleOf e)

/-! ## The codes -/

theorem qB_apply (X : Vec Ideal S72x6144 .bf16) (o : ℕ) (r : Fin 72) (k : Fin 2048) :
    k0_pay10 (F := Ideal) (SC X) (ldB X o) (ix2 r k) = qz (at_ X r (o + k.val)) (SC X (ix2 r 0)) := by
  unfold k0_pay10
  rw [shapeCast_self]
  refine (clip_apply (extf .f32 (ldB X o : FVec Ideal S72x2048 .bf16) bitsLt_bf16_f32) (broadcastTo S72x2048 (SC X) broadcasts_S72x1_S72x2048) (ix2 r k)).trans ?_
  exact congrArg (qz (at_ X r (o + k.val))) (bcCol (a := 72) (b := 2048) (SC X) _ r k)

/-- A column block of the codes, as it enters the products. -/
theorem xq_apply (X : Vec Ideal S72x6144 .bf16) (j : ℕ) (r : Fin 72) (k : Fin 2048) :
    (shapeCast S72x2048 (XQ X j) shapeCasts_S1x72x2048_S72x2048 : FVec Ideal S72x2048 .bf16) (ix2 r k)
      = qz (at_ X r (2048 * (j % 3) + k.val)) (SC X (ix2 r 0)) := by
  unfold XQ k0_pay12
  rw [shapeCast_1ab_ab_apply (a := 72) (b := 2048), shapeCast_ab_1ab_apply (a := 72) (b := 2048)]
  exact qB_apply X _ r k

theorem ref_code (X : Vec Ideal S72x6144 .bf16) (r : Fin 72) (K : Fin 6144) :
    Cert.ReferenceInIdeal.Gen.k0_pay4 (F := Ideal) X (ix2 r K) = Ideal.fptosi 8 (qz (X (ix2 r K)) (SC X (ix2 r 0))) := by
  rw [SC_eq]
  unfold Cert.ReferenceInIdeal.Gen.k0_pay4
  refine congrArg (Ideal.fptosi 8) ((clip_apply (Cert.ReferenceInIdeal.Gen.k0_pay2 (F := Ideal) X) (broadcastTo Cert.ReferenceInIdeal.S72x6144 (Cert.ReferenceInIdeal.Gen.k0_pay3 (F := Ideal) X)
    Cert.ReferenceInIdeal.Gen.broadcasts_S72x1_S72x6144) (ix2 r K)).trans ?_)
  refine (congrArg (qz _) (bcCol (a := 72) (b := 6144) _ _ r K)).trans ?_
  refine congrArg (fun z => qz z _) ?_
  unfold Cert.ReferenceInIdeal.Gen.k0_pay2
  rw [shapeCast_self]
  rfl

/-- The int8 codes are the reference's. -/
theorem CODES_eq (X : Vec Ideal S72x6144 .bf16) : CODES X = Cert.ReferenceInIdeal.Gen.k0_pay4 (F := Ideal) X := by
  funext i
  obtain ⟨r, K, rfl⟩ := eta2 (a := 72) (b := 6144) i
  rw [ref_code]
  show Ideal.fptosi 8 (k0_pay10 (F := Ideal) (SC X) (ldB X (2048 * (K.val / 2048))) (ix2 r (⟨K.val % 2048, Nat.mod_lt _ (by decide)⟩ : Fin 2048))) = _
  rw [qB_apply, ← at_lt X r K]
  have e : 2048 * (K.val / 2048) + K.val % 2048 = K.val := by omega
  exact congrArg (fun z => Ideal.fptosi 8 (qz (at_ X r z) (SC X (ix2 r 0)))) e

/-! ## The products -/

/-- Three sums of 2048 terms are one of 6144. -/
theorem sum3 (f : ℕ → EReal) :
    ((∑ k ∈ Finset.range 2048, f (2048 * 0 + k)) + ∑ k ∈ Finset.range 2048, f (2048 * 1 + k)) + ∑ k ∈ Finset.range 2048, f (2048 * 2 + k)
      = ∑ K ∈ Finset.range 6144, f K := by
  rw [show (6144 : ℕ) = (2048 + 2048) + 2048 from rfl, Finset.sum_range_add, Finset.sum_range_add]
  simp only [Nat.mul_zero, Nat.zero_add, Nat.mul_one]

section Product

variable (c : Dev nD) (XW : Buf (Elt Ideal) (wM.view.loc (c : Thread nD τ)))

/-- Weight `(N, K)` of the transposed weights as a real, both coordinates counted around. -/
def wAt (N K : ℕ) : EReal :=
  ((((show Vec Ideal S26816x6144 .i8 from XW) (ix2 (⟨N % 26816, Nat.mod_lt _ (by decide)⟩ : Fin 26816) (⟨K % 6144, Nat.mod_lt _ (by decide)⟩ : Fin 6144)) : BitVec 8).toInt : ℝ) : EReal)

/-- The quantised row `r` times row `N` of the transposed weights. -/
def dotAt (X : Vec Ideal S72x6144 .bf16) (r : Fin 72) (N : ℕ) : EReal :=
  ∑ K ∈ Finset.range 6144, qz (at_ X r K) (SC X (ix2 r 0)) * wAt c XW N K

/-- One chunk's product. -/
def chunkDot (X : Vec Ideal S72x6144 .bf16) (b : ℕ) : FVec Ideal S72x1024 .f32 :=
  FloatOps.matmul (DotDims.transposedRhs 72 2048 1024) none (shapeCast S72x2048 (XQ X b) shapeCasts_S1x72x2048_S72x2048 : FVec Ideal S72x2048 .bf16)
    (sitofp .bf16 (shapeCast S1024x2048 (wChunk c XW (Ring.bk 78 b)) shapeCasts_S1x1024x2048_S1024x2048 : IVec S1024x2048 8) : FVec Ideal S1024x2048 .bf16)
    (constant S72x1024 .f32 0x00000000#32)

theorem chunkDot_apply (X : Vec Ideal S72x6144 .bf16) (b : ℕ) (hb : b < 78) (r : Fin 72) (j : Fin 1024) :
    chunkDot c XW X b (ix2 r j) = ∑ k ∈ Finset.range 2048, qz (at_ X r (2048 * (b % 3) + k)) (SC X (ix2 r 0))
      * wAt c XW (rowOff b (j.val / 512) + j.val % 512) (2048 * (b % 3) + k) := by
  unfold chunkDot
  rw [Ideal.matmul_transposedRhs_apply]
  have hz : (constant S72x1024 .f32 0x00000000#32 : FVec Ideal S72x1024 .f32) (ix2 r j) = 0 := Ideal.ofBits_zero_f32
  rw [hz, zero_add, Finset.sum_range]
  refine Finset.sum_congr rfl fun k _ => ?_
  rw [xq_apply]
  refine congrArg (fun z : EReal => qz (at_ X r (2048 * (b % 3) + k.val)) (SC X (ix2 r 0)) * z) ?_
  show (((shapeCast S1024x2048 (wChunk c XW (Ring.bk 78 b)) shapeCasts_S1x1024x2048_S1024x2048 (ix2 j k) : BitVec 8).toInt : ℝ) : EReal) = _
  refine (congrArg (fun z : BitVec 8 => ((z.toInt : ℝ) : EReal)) (shapeCast_1ab_ab_apply (a := 1024) (b := 2048) _ _ j k)).trans ?_
  unfold wAt
  refine congrArg (fun z : BitVec 8 => ((z.toInt : ℝ) : EReal)) ?_
  refine congrArg (show Vec Ideal S26816x6144 .i8 from XW) (funext fun a => Fin.ext ?_)
  have hj := j.isLt
  have hk := k.isLt
  have hv : (Ring.bk 78 b).val = b := Ring.bk_val hb
  fin_cases a
  · show rowOff (Ring.bk 78 b).val (j.val / 512) + j.val % 512 = (rowOff b (j.val / 512) + j.val % 512) % 26816
    rw [hv]
    refine (Nat.mod_eq_of_lt ?_).symm
    unfold rowOff
    split <;> omega
  · show 2048 * ((Ring.bk 78 b).val % 3) + k.val = (2048 * (b % 3) + k.val) % 6144
    rw [hv]; omega

theorem accStep_first (X : Vec Ideal S72x6144 .bf16) (b : ℕ) (hb : b % 3 = 0) (A : Vec Ideal S72x1024 .f32) :
    accStep c XW (XQ X b) b A = chunkDot c XW X b := by
  unfold accStep
  rw [hb]
  unfold k0_pay48 k0_pay1
  dsimp only
  rw [shapeCast_self]
  rfl

theorem accStep_next (X : Vec Ideal S72x6144 .bf16) (b : ℕ) (hb : b % 3 = 1 ∨ b % 3 = 2) (A : Vec Ideal S72x1024 .f32) :
    accStep c XW (XQ X b) b A = addf A (chunkDot c XW X b) := by
  unfold accStep
  rcases hb with hb | hb <;> rw [hb] <;> unfold k0_pay48 k0_pay1 <;> dsimp only <;> rw [shapeCast_self] <;> rfl

/-- The weight row of column `j` of super-column `q`. -/
def rowQ (q j : ℕ) : ℕ := if q < 2 then 24576 + 1024 * q + j else 512 * (q - 2) + 12288 * (j / 512) + j % 512

theorem rowQ_eq (q k j : ℕ) (hk : k < 3) (hj : j < 1024) : rowOff (3 * q + k) (j / 512) + j % 512 = rowQ q j := by
  unfold rowOff rowQ
  by_cases h : q < 2
  · rw [if_pos (by omega), if_pos h]; omega
  · rw [if_neg (by omega), if_neg h, show (3 * q + k) / 3 = q by omega]

/-- A super-column's accumulator holds the whole products. -/
theorem TL_apply (X : Vec Ideal S72x6144 .bf16) (q : ℕ) (hq : q < 26) (r : Fin 72) (j : Fin 1024) :
    TL c XW X q (ix2 r j) = dotAt c XW X r (rowQ q j.val) := by
  have hx : ∀ k, k < 3 → XQ X k = XQ X (3 * q + k) := by
    intro k hk
    unfold XQ
    rw [show (3 * q + k) % 3 = k % 3 by omega]
  unfold TL
  rw [hx 2 (by omega), hx 1 (by omega), accStep_next c XW X (3 * q + 2) (by omega), accStep_next c XW X (3 * q + 1) (by omega),
    show XQ X 0 = XQ X (3 * q) from hx 0 (by omega), accStep_first c XW X (3 * q) (by omega)]
  show (chunkDot c XW X (3 * q) (ix2 r j) + chunkDot c XW X (3 * q + 1) (ix2 r j)) + chunkDot c XW X (3 * q + 2) (ix2 r j) = _
  have hj := j.isLt
  rw [chunkDot_apply c XW X _ (by omega), chunkDot_apply c XW X _ (by omega), chunkDot_apply c XW X _ (by omega),
    rowQ_eq q 1 j.val (by omega) hj, rowQ_eq q 2 j.val (by omega) hj, show rowOff (3 * q) (j.val / 512) + j.val % 512 = rowQ q j.val from rowQ_eq q 0 j.val (by omega) hj,
    show (3 * q) % 3 = 0 by omega, show (3 * q + 1) % 3 = 1 by omega, show (3 * q + 2) % 3 = 2 by omega]
  exact sum3 (fun K => qz (at_ X r K) (SC X (ix2 r 0)) * wAt c XW (rowQ q j.val) K)

theorem pay49_apply (a : Vec Ideal S72x512 .f32) (s : Vec Ideal S72x1 .f32) (w : Vec Ideal S1x512 .f32) (r : Fin 72) (k : Fin 512) :
    k0_pay49 (F := Ideal) a s w (ix2 r k) = a (ix2 r k) * (s (ix2 r 0) * w (ix2 0 k)) := by
  unfold k0_pay49
  rw [shapeCast_self, shapeCast_self]
  refine congrArg (fun z : EReal => a (ix2 r k) * z) (congrArg₂ (fun x y : EReal => x * y) (bcCol (a := 72) (b := 512) s _ r k) ?_)
  exact broadcastTo_1b_ab_apply (a := 72) (b := 512) w _ r k

theorem pay50_apply (a : Vec Ideal S72x512 .f32) (s : Vec Ideal S72x1 .f32) (w : Vec Ideal S1x512 .f32) (r : Fin 72) (k : Fin 512) :
    k0_pay50 (F := Ideal) a s w (ix2 r k) = a (ix2 r k) * (s (ix2 r 0) * w (ix2 0 k)) := pay49_apply a s w r k

/-- The scaled product at row `r` and column `N`. -/
def outAt (X : Vec Ideal S72x6144 .bf16) (W : Vec Ideal S1x26816 .f32) (r : Fin 72) (N : ℕ) : EReal :=
  dotAt c XW X r N * (SC X (ix2 r 0) * W (ix2 (0 : Fin 1) (⟨N % 26816, Nat.mod_lt _ (by decide)⟩ : Fin 26816)))

theorem zTile_apply (X : Vec Ideal S72x6144 .bf16) (W : Vec Ideal S1x26816 .f32) (t : ℕ) (ht : t < 24) (r : Fin 72) (k : Fin 512) :
    zTile c XW X W t (ix2 r k) = outAt c XW X W r (512 * t + k.val) := by
  unfold zTile
  rw [pay49_apply]
  have hk := k.isLt
  have h := TL_apply c XW X (2 + t) (by omega) r (⟨k.val, by omega⟩ : Fin 1024)
  have e : rowQ (2 + t) k.val = 512 * t + k.val := by
    unfold rowQ; rw [if_neg (by omega)]; omega
  exact congrArg₂ (fun x y : EReal => x * y) (h.trans (congrArg (dotAt c XW X r) e)) rfl

theorem yTile_apply (X : Vec Ideal S72x6144 .bf16) (W : Vec Ideal S1x26816 .f32) (t : ℕ) (ht : t < 28) (r : Fin 72) (k : Fin 512) :
    yTile c XW X W t (ix2 r k) = outAt c XW X W r (12288 + 512 * t + k.val) := by
  unfold yTile
  rw [pay50_apply]
  have hk := k.isLt
  refine congrArg₂ (fun x y : EReal => x * y) ?_ rfl
  by_cases h1 : t < 24
  · rw [if_pos h1]
    have h := TL_apply c XW X (2 + t) (by omega) r (⟨512 + k.val, by omega⟩ : Fin 1024)
    have e : rowQ (2 + t) (512 + k.val) = 12288 + 512 * t + k.val := by
      unfold rowQ; rw [if_neg (by omega)]; omega
    exact h.trans (congrArg (dotAt c XW X r) e)
  · rw [if_neg h1]
    by_cases h2 : t % 2 = 0
    · rw [if_pos h2]
      have h := TL_apply c XW X ((t - 24) / 2) (by omega) r (⟨k.val, by omega⟩ : Fin 1024)
      have e : rowQ ((t - 24) / 2) k.val = 12288 + 512 * t + k.val := by
        unfold rowQ; rw [if_pos (by omega)]; omega
      exact h.trans (congrArg (dotAt c XW X r) e)
    · rw [if_neg h2]
      have h := TL_apply c XW X ((t - 24) / 2) (by omega) r (⟨512 + k.val, by omega⟩ : Fin 1024)
      have e : rowQ ((t - 24) / 2) (512 + k.val) = 12288 + 512 * t + k.val := by
        unfold rowQ; rw [if_pos (by omega)]; omega
      exact h.trans (congrArg (dotAt c XW X r) e)

theorem ZV_apply (X : Vec Ideal S72x6144 .bf16) (W : Vec Ideal S1x26816 .f32) (r : Fin 72) (N : Fin 12288) :
    ZV c XW X W (ix2 r N) = outAt c XW X W r N.val := by
  have hN := N.isLt
  refine (zTile_apply c XW X W (N.val / 512) (by omega) r (⟨N.val % 512, Nat.mod_lt _ (by decide)⟩ : Fin 512)).trans ?_
  exact congrArg (outAt c XW X W r) (by show 512 * (N.val / 512) + N.val % 512 = N.val; omega)

theorem YV_apply (X : Vec Ideal S72x6144 .bf16) (W : Vec Ideal S1x26816 .f32) (r : Fin 72) (N : Fin 14336) :
    YV c XW X W (ix2 r N) = outAt c XW X W r (12288 + N.val) := by
  have hN := N.isLt
  refine (yTile_apply c XW X W (N.val / 512) (by omega) r (⟨N.val % 512, Nat.mod_lt _ (by decide)⟩ : Fin 512)).trans ?_
  exact congrArg (outAt c XW X W r) (by show 12288 + 512 * (N.val / 512) + N.val % 512 = 12288 + N.val; omega)

/-! ## The reference's products -/

variable (w : Vec Ideal Cert.ReferenceInIdeal.S6144x26816 .i8)
  (hw : ∀ (N : Fin 26816) (K : Fin 6144), (show Vec Ideal S26816x6144 .i8 from XW) (ix2 N K) = w (ix2 K N))

include hw in
theorem ref_apply (X : Vec Ideal S72x6144 .bf16) (W : Vec Ideal S1x26816 .f32) (r : Fin 72) (N : Fin 26816) :
    Cert.ReferenceInIdeal.Gen.k0_pay5 (F := Ideal) X w W (ix2 r N) = outAt c XW X W r N.val := by
  unfold Cert.ReferenceInIdeal.Gen.k0_pay5
  rw [shapeCast_self]
  have hN := N.isLt
  refine congrArg₂ (fun x y : EReal => x * y) ?_ (congrArg₂ (fun x y : EReal => x * y) ((bcCol (a := 72) (b := 26816) _ _ r N).trans (congrFun (SC_eq X).symm _)) ?_)
  · show FloatOps.matmul (DotDims.plain 72 6144 26816) none
      (sitofp .bf16 (Cert.ReferenceInIdeal.Gen.k0_pay4 (F := Ideal) X) : FVec Ideal S72x6144 .bf16)
      (sitofp .bf16 w : FVec Ideal Cert.ReferenceInIdeal.S6144x26816 .bf16)
      (constant Cert.ReferenceInIdeal.S72x26816 .f32 0x00000000#32) (ix2 r N) = dotAt c XW X r N.val
    rw [Ideal.matmul_plain_apply]
    have hz : (constant Cert.ReferenceInIdeal.S72x26816 .f32 0x00000000#32 : FVec Ideal Cert.ReferenceInIdeal.S72x26816 .f32) (ix2 r N) = 0 := Ideal.ofBits_zero_f32
    unfold dotAt
    rw [hz, zero_add, Finset.sum_range]
    refine Finset.sum_congr rfl fun K _ => ?_
    refine congrArg₂ (fun x y : EReal => x * y) ?_ ?_
    · show (((Cert.ReferenceInIdeal.Gen.k0_pay4 (F := Ideal) X (ix2 r K) : BitVec 8).toInt : ℝ) : EReal) = _
      rw [ref_code, code_fix, at_lt]
    · show ((((w (ix2 K N)) : BitVec 8).toInt : ℝ) : EReal) = _
      rw [← hw N K]
      unfold wAt
      refine congrArg (fun z : BitVec 8 => ((z.toInt : ℝ) : EReal)) ?_
      refine congrArg (show Vec Ideal S26816x6144 .i8 from XW) (funext fun a => Fin.ext ?_)
      fin_cases a
      · exact (Nat.mod_eq_of_lt N.isLt).symm
      · exact (Nat.mod_eq_of_lt K.isLt).symm
  · refine (broadcastTo_1b_ab_apply (a := 72) (b := 26816) W _ r N).trans ?_
    exact congrArg (fun z => W (ix2 (0 : Fin 1) z)) (Fin.ext (Nat.mod_eq_of_lt N.isLt).symm)

include hw in
/-- The first output is the reference's. -/
theorem ZV_eq (X : Vec Ideal S72x6144 .bf16) (W : Vec Ideal S1x26816 .f32) :
    ZV c XW X W = Cert.ReferenceInIdeal.Gen.k0_pay6 (F := Ideal) X w W := by
  funext i
  obtain ⟨r, N, rfl⟩ := eta2 (a := 72) (b := 12288) i
  have hN := N.isLt
  rw [ZV_apply]
  unfold Cert.ReferenceInIdeal.Gen.k0_pay6
  refine Eq.symm ((extractStridedSlice_apply _ _ _ (ix2 r N) (ix2 r (⟨N.val, by omega⟩ : Fin 26816)) ?_).trans (ref_apply c XW w hw X W r _))
  intro a
  fin_cases a
  · show r.val = 0 + r.val; omega
  · show N.val = 0 + N.val; omega

include hw in
/-- The second output is the reference's. -/
theorem YV_eq (X : Vec Ideal S72x6144 .bf16) (W : Vec Ideal S1x26816 .f32) :
    YV c XW X W = Cert.ReferenceInIdeal.Gen.k0_pay7 (F := Ideal) X w W := by
  funext i
  obtain ⟨r, N, rfl⟩ := eta2 (a := 72) (b := 14336) i
  have hN := N.isLt
  rw [YV_apply]
  unfold Cert.ReferenceInIdeal.Gen.k0_pay7
  refine Eq.symm ((extractStridedSlice_apply _ _ _ (ix2 r N) (ix2 r (⟨12288 + N.val, by omega⟩ : Fin 26816)) ?_).trans (ref_apply c XW w hw X W r _))
  intro a
  fin_cases a
  · show r.val = 0 + r.val; omega
  · show 12288 + N.val = 12288 + N.val; rfl

/-! ## The step sizes -/

/-- One block's product with the last 192 weight rows. -/
def dtDot (X : Vec Ideal S72x6144 .bf16) (k : ℕ) : FVec Ideal S72x192 .f32 :=
  FloatOps.matmul (DotDims.transposedRhs 72 2048 192) none (shapeCast S72x2048 (XQ X k) shapeCasts_S1x72x2048_S72x2048 : FVec Ideal S72x2048 .bf16)
    (sitofp .bf16 (dtW c XW (2048 * k)) : FVec Ideal S192x2048 .bf16) (constant S72x192 .f32 0x00000000#32)

theorem dtDot_apply (X : Vec Ideal S72x6144 .bf16) (b : ℕ) (hb : b < 3) (r : Fin 72) (j : Fin 192) :
    dtDot c XW X b (ix2 r j) = ∑ k ∈ Finset.range 2048, qz (at_ X r (2048 * b + k)) (SC X (ix2 r 0)) * wAt c XW (26624 + j.val) (2048 * b + k) := by
  unfold dtDot
  rw [Ideal.matmul_transposedRhs_apply]
  have hz : (constant S72x192 .f32 0x00000000#32 : FVec Ideal S72x192 .f32) (ix2 r j) = 0 := Ideal.ofBits_zero_f32
  rw [hz, zero_add, Finset.sum_range]
  refine Finset.sum_congr rfl fun k _ => ?_
  rw [xq_apply, Nat.mod_eq_of_lt hb]
  refine congrArg (fun z : EReal => qz (at_ X r (2048 * b + k.val)) (SC X (ix2 r 0)) * z) ?_
  unfold wAt
  refine congrArg (fun z : BitVec 8 => ((z.toInt : ℝ) : EReal)) ?_
  refine congrArg (show Vec Ideal S26816x6144 .i8 from XW) (funext fun a => Fin.ext ?_)
  have hj := j.isLt
  fin_cases a
  · show 26624 + j.val = (26624 + j.val) % 26816; omega
  · rfl

/-- The argument of the softplus: the scaled product and the bias. -/
def preDT (X : Vec Ideal S72x6144 .bf16) (W : Vec Ideal S1x26816 .f32) (B : Vec Ideal S1x192 .f32) : FVec Ideal S72x192 .f32 :=
  addf (mulf (k0_pay36 (F := Ideal) (XQ X 0) (dtW c XW 0) (XQ X 1) (dtW c XW 2048) (XQ X 2) (dtW c XW 4096))
      (mulf (broadcastTo S72x192 (k0_pay37 (F := Ideal) (SC X)) broadcasts_S72x1_S72x192)
        (broadcastTo S72x192 (shapeCast S1x192 (wscD W) shapeCasts_S1x192_S1x192 : FVec Ideal S1x192 .f32) broadcasts_S1x192_S72x192)))
    (broadcastTo S72x192 (shapeCast S1x192 B shapeCasts_S1x192_S1x192 : FVec Ideal S1x192 .f32) broadcasts_S1x192_S72x192)

/-- The kernel's softplus, element by element. -/
def softp (v : FVec Ideal S72x192 .f32) : FVec Ideal S72x192 .f32 :=
  addf (maximumf v (broadcast S72x192 (Scalar.ofBits .f32 0x00000000#32 : Ideal .f32)))
    (log1p (exp (subf (broadcast S72x192 (Scalar.ofBits .f32 0x00000000#32 : Ideal .f32)) (absf v))))

theorem DT_form (X : Vec Ideal S72x6144 .bf16) (W : Vec Ideal S1x26816 .f32) (B : Vec Ideal S1x192 .f32) :
    DT c XW X W B = softp (preDT c XW X W B) := rfl

theorem cmp_self (x : EReal) : Ideal.cmp .one x x = 0#1 := by
  show BitVec.ofBool (decide (x ≠ x)) = 0#1
  simp

/-- The reference's softplus, the logarithm of a sum of two exponentials, is the kernel's: no extended real differs from
itself, and the second exponent is zero. -/
theorem softp_eq (v : FVec Ideal S72x192 .f32) : softp v = Cert.ReferenceInIdeal.Gen.k0_pay1 (F := Ideal) v := by
  have hz : Ideal.ofBits .f32 0x00000000#32 = 0 := Ideal.ofBits_zero_f32
  have hs : subf v (broadcast S72x192 (Scalar.ofBits .f32 0x00000000#32 : Ideal .f32)) = v := by
    funext i
    show (v i : EReal) - Ideal.ofBits .f32 0x00000000#32 = v i
    rw [hz, sub_zero]
  unfold Cert.ReferenceInIdeal.Gen.k0_pay1
  dsimp only
  rw [hs]
  funext i
  show softp v i = if Ideal.cmp .one (v i) (v i) = 1#1 then _ else _
  rw [cmp_self, if_neg (by decide)]
  rfl

theorem pay36_apply (X : Vec Ideal S72x6144 .bf16) (r : Fin 72) (j : Fin 192) :
    k0_pay36 (F := Ideal) (XQ X 0) (dtW c XW 0) (XQ X 1) (dtW c XW 2048) (XQ X 2) (dtW c XW 4096) (ix2 r j) = dotAt c XW X r (26624 + j.val) := by
  have hz : Ideal.ofBits .f32 0x00000000#32 = 0 := Ideal.ofBits_zero_f32
  show ((Ideal.ofBits .f32 0x00000000#32 + dtDot c XW X 0 (ix2 r j)) + dtDot c XW X 1 (ix2 r j)) + dtDot c XW X 2 (ix2 r j) = _
  rw [hz, zero_add, dtDot_apply c XW X 0 (by omega), dtDot_apply c XW X 1 (by omega), dtDot_apply c XW X 2 (by omega)]
  exact sum3 (fun K => qz (at_ X r K) (SC X (ix2 r 0)) * wAt c XW (26624 + j.val) K)

include hw in
/-- The third output is the reference's. -/
theorem DT_eq (X : Vec Ideal S72x6144 .bf16) (W : Vec Ideal S1x26816 .f32) (B : Vec Ideal S1x192 .f32) :
    DT c XW X W B = Cert.ReferenceInIdeal.Gen.k0_pay1 (F := Ideal) (Cert.ReferenceInIdeal.Gen.k0_pay8 (F := Ideal) X w W B) := by
  refine ((DT_form c XW X W B).trans (softp_eq _)).trans (congrArg (Cert.ReferenceInIdeal.Gen.k0_pay1 (F := Ideal)) ?_)
  funext i
  obtain ⟨r, j, rfl⟩ := eta2 (a := 72) (b := 192) i
  have hj := j.isLt
  unfold preDT k0_pay37 Cert.ReferenceInIdeal.Gen.k0_pay8
  dsimp only
  simp only [shapeCast_self]
  refine congrArg₂ (fun x y : EReal => x + y) ?_ rfl
  refine Eq.trans ?_ (Eq.symm ((extractStridedSlice_apply _ _ _ (ix2 r j) (ix2 r (⟨26624 + j.val, by omega⟩ : Fin 26816)) ?_).trans (ref_apply c XW w hw X W r _)))
  · refine congrArg₂ (fun x y : EReal => x * y) (pay36_apply c XW X r j) (congrArg₂ (fun x y : EReal => x * y) (bcCol (a := 72) (b := 192) _ _ r j) ?_)
    refine (broadcastTo_1b_ab_apply (a := 72) (b := 192) (wscD W) _ r j).trans ?_
    refine congrArg W (funext fun a => Fin.ext ?_)
    fin_cases a
    · rfl
    · show 26624 + j.val = (26624 + j.val) % 26816; omega
  · intro a
    fin_cases a
    · show r.val = 0 + r.val; omega
    · show 26624 + j.val = 26624 + j.val; rfl

end Product

end Cert.Proof.InIdeal

end
-- ==== Proof.InReference.lean ====
module

public import proofs.«01_k».proof.Proof.Gen.ReferenceInIdeal.Value
public import proofs.«01_k».proof.Proof.Quant

@[expose] public section

noncomputable section

/-! The arrays the reference of the input projection leaves, as functions of its arguments. -/

namespace Cert.Proof.InReference

open Cert.ReferenceInIdeal Cert.ReferenceInIdeal.Gen
open Idealize.ShloMosaic Idealize.ShloMosaic.TcCoe Idealize.SL.Sem
open Idealize.ShloMosaic.Pipeline Idealize.ShloMosaic.StableHlo

variable (m : (ℓ : Loc nD τ sig) → Buf (Elt Ideal) ℓ)

theorem V_main_v0 (c : Dev nD) : V m c main_v0 = shapeCast S72x6144 (m ((c : Thread nD τ).loc main_arg0)) shapeCasts_S72x1x6144_S72x6144 := by
  show StableHlo.after hostOps0 _ (Proc.devRef .tc main_v0) = _
  unfold hostOps0
  after_results
  rfl

theorem V_main_v1 (c : Dev nD) : V m c main_v1 = shapeCast S1x26816 (m ((c : Thread nD τ).loc main_arg2)) shapeCasts_S26816_S1x26816 := by
  show StableHlo.after hostOps0 _ (Proc.devRef .tc main_v1) = _
  unfold hostOps0
  after_results
  rfl

theorem V_main_v2 (c : Dev nD) : V m c main_v2 = shapeCast S1x192 (m ((c : Thread nD τ).loc main_arg3)) shapeCasts_S192_S1x192 := by
  show StableHlo.after hostOps0 _ (Proc.devRef .tc main_v2) = _
  unfold hostOps0
  after_results
  rfl

theorem idx_zero0 : ∀ t : Fin cfg0.N, win0_0.index t 0 = 0 ∧ win0_0.index t 1 = 0 :=
  (by decide +kernel : ∀ t : Fin grid0.N, win0_0.index t 0 = 0 ∧ win0_0.index t 1 = 0)
theorem emb0 (t : Fin cfg0.N) (j : ((cfg0.win 0).xblock (cfg0.grid.coords t)).Idx) : ((cfg0.win 0).blk t).view.emb j = j := by
  obtain ⟨e0, e1⟩ := idx_zero0 t
  funext a
  refine Fin.ext ?_
  match a with
  | ⟨0, _⟩ => show win0_0.index t (0 : Fin 2) * 72 + 1 * (j (0 : Fin 2)).val = (j (0 : Fin 2)).val; omega
  | ⟨1, _⟩ => show win0_0.index t (1 : Fin 2) * 6144 + 1 * (j (1 : Fin 2)).val = (j (1 : Fin 2)).val; omega

theorem idx_zero1 : ∀ t : Fin cfg0.N, win0_1.index t 0 = 0 ∧ win0_1.index t 1 = 0 :=
  (by decide +kernel : ∀ t : Fin grid0.N, win0_1.index t 0 = 0 ∧ win0_1.index t 1 = 0)
theorem emb1 (t : Fin cfg0.N) (j : ((cfg0.win 1).xblock (cfg0.grid.coords t)).Idx) : ((cfg0.win 1).blk t).view.emb j = j := by
  obtain ⟨e0, e1⟩ := idx_zero1 t
  funext a
  refine Fin.ext ?_
  match a with
  | ⟨0, _⟩ => show win0_1.index t (0 : Fin 2) * 6144 + 1 * (j (0 : Fin 2)).val = (j (0 : Fin 2)).val; omega
  | ⟨1, _⟩ => show win0_1.index t (1 : Fin 2) * 26816 + 1 * (j (1 : Fin 2)).val = (j (1 : Fin 2)).val; omega

theorem idx_zero2 : ∀ t : Fin cfg0.N, win0_2.index t 0 = 0 ∧ win0_2.index t 1 = 0 :=
  (by decide +kernel : ∀ t : Fin grid0.N, win0_2.index t 0 = 0 ∧ win0_2.index t 1 = 0)
theorem emb2 (t : Fin cfg0.N) (j : ((cfg0.win 2).xblock (cfg0.grid.coords t)).Idx) : ((cfg0.win 2).blk t).view.emb j = j := by
  obtain ⟨e0, e1⟩ := idx_zero2 t
  funext a
  refine Fin.ext ?_
  match a with
  | ⟨0, _⟩ => show win0_2.index t (0 : Fin 2) * 1 + 1 * (j (0 : Fin 2)).val = (j (0 : Fin 2)).val; omega
  | ⟨1, _⟩ => show win0_2.index t (1 : Fin 2) * 26816 + 1 * (j (1 : Fin 2)).val = (j (1 : Fin 2)).val; omega

theorem idx_zero3 : ∀ t : Fin cfg0.N, win0_3.index t 0 = 0 ∧ win0_3.index t 1 = 0 :=
  (by decide +kernel : ∀ t : Fin grid0.N, win0_3.index t 0 = 0 ∧ win0_3.index t 1 = 0)
theorem emb3 (t : Fin cfg0.N) (j : ((cfg0.win 3).xblock (cfg0.grid.coords t)).Idx) : ((cfg0.win 3).blk t).view.emb j = j := by
  obtain ⟨e0, e1⟩ := idx_zero3 t
  funext a
  refine Fin.ext ?_
  match a with
  | ⟨0, _⟩ => show win0_3.index t (0 : Fin 2) * 1 + 1 * (j (0 : Fin 2)).val = (j (0 : Fin 2)).val; omega
  | ⟨1, _⟩ => show win0_3.index t (1 : Fin 2) * 192 + 1 * (j (1 : Fin 2)).val = (j (1 : Fin 2)).val; omega

theorem idx_zero4 : ∀ t : Fin cfg0.N, win0_4.index t 0 = 0 ∧ win0_4.index t 1 = 0 :=
  (by decide +kernel : ∀ t : Fin grid0.N, win0_4.index t 0 = 0 ∧ win0_4.index t 1 = 0)
theorem emb4 (t : Fin cfg0.N) (j : ((cfg0.win 4).xblock (cfg0.grid.coords t)).Idx) : ((cfg0.win 4).blk t).view.emb j = j := by
  obtain ⟨e0, e1⟩ := idx_zero4 t
  funext a
  refine Fin.ext ?_
  match a with
  | ⟨0, _⟩ => show win0_4.index t (0 : Fin 2) * 72 + 1 * (j (0 : Fin 2)).val = (j (0 : Fin 2)).val; omega
  | ⟨1, _⟩ => show win0_4.index t (1 : Fin 2) * 12288 + 1 * (j (1 : Fin 2)).val = (j (1 : Fin 2)).val; omega

theorem idx_zero5 : ∀ t : Fin cfg0.N, win0_5.index t 0 = 0 ∧ win0_5.index t 1 = 0 :=
  (by decide +kernel : ∀ t : Fin grid0.N, win0_5.index t 0 = 0 ∧ win0_5.index t 1 = 0)
theorem emb5 (t : Fin cfg0.N) (j : ((cfg0.win 5).xblock (cfg0.grid.coords t)).Idx) : ((cfg0.win 5).blk t).view.emb j = j := by
  obtain ⟨e0, e1⟩ := idx_zero5 t
  funext a
  refine Fin.ext ?_
  match a with
  | ⟨0, _⟩ => show win0_5.index t (0 : Fin 2) * 72 + 1 * (j (0 : Fin 2)).val = (j (0 : Fin 2)).val; omega
  | ⟨1, _⟩ => show win0_5.index t (1 : Fin 2) * 14336 + 1 * (j (1 : Fin 2)).val = (j (1 : Fin 2)).val; omega

theorem idx_zero6 : ∀ t : Fin cfg0.N, win0_6.index t 0 = 0 ∧ win0_6.index t 1 = 0 :=
  (by decide +kernel : ∀ t : Fin grid0.N, win0_6.index t 0 = 0 ∧ win0_6.index t 1 = 0)
theorem emb6 (t : Fin cfg0.N) (j : ((cfg0.win 6).xblock (cfg0.grid.coords t)).Idx) : ((cfg0.win 6).blk t).view.emb j = j := by
  obtain ⟨e0, e1⟩ := idx_zero6 t
  funext a
  refine Fin.ext ?_
  match a with
  | ⟨0, _⟩ => show win0_6.index t (0 : Fin 2) * 72 + 1 * (j (0 : Fin 2)).val = (j (0 : Fin 2)).val; omega
  | ⟨1, _⟩ => show win0_6.index t (1 : Fin 2) * 192 + 1 * (j (1 : Fin 2)).val = (j (1 : Fin 2)).val; omega

theorem idx_zero7 : ∀ t : Fin cfg0.N, win0_7.index t 0 = 0 ∧ win0_7.index t 1 = 0 :=
  (by decide +kernel : ∀ t : Fin grid0.N, win0_7.index t 0 = 0 ∧ win0_7.index t 1 = 0)
theorem emb7 (t : Fin cfg0.N) (j : ((cfg0.win 7).xblock (cfg0.grid.coords t)).Idx) : ((cfg0.win 7).blk t).view.emb j = j := by
  obtain ⟨e0, e1⟩ := idx_zero7 t
  funext a
  refine Fin.ext ?_
  match a with
  | ⟨0, _⟩ => show win0_7.index t (0 : Fin 2) * 72 + 1 * (j (0 : Fin 2)).val = (j (0 : Fin 2)).val; omega
  | ⟨1, _⟩ => show win0_7.index t (1 : Fin 2) * 6144 + 1 * (j (1 : Fin 2)).val = (j (1 : Fin 2)).val; omega

theorem idx_zero8 : ∀ t : Fin cfg0.N, win0_8.index t 0 = 0 ∧ win0_8.index t 1 = 0 :=
  (by decide +kernel : ∀ t : Fin grid0.N, win0_8.index t 0 = 0 ∧ win0_8.index t 1 = 0)
theorem emb8 (t : Fin cfg0.N) (j : ((cfg0.win 8).xblock (cfg0.grid.coords t)).Idx) : ((cfg0.win 8).blk t).view.emb j = j := by
  obtain ⟨e0, e1⟩ := idx_zero8 t
  funext a
  refine Fin.ext ?_
  match a with
  | ⟨0, _⟩ => show win0_8.index t (0 : Fin 2) * 72 + 1 * (j (0 : Fin 2)).val = (j (0 : Fin 2)).val; omega
  | ⟨1, _⟩ => show win0_8.index t (1 : Fin 2) * 1 + 1 * (j (1 : Fin 2)).val = (j (1 : Fin 2)).val; omega

theorem iblk0_eq (c : Dev nD) (t : Fin cfg0.N) : iblk m c 0 t = V m c main_v0 := by
  funext j
  show V m c main_v0 (((cfg0.win 0).blk t).view.emb j) = V m c main_v0 j
  rw [emb0]

theorem iblk1_eq (c : Dev nD) (t : Fin cfg0.N) : iblk m c 1 t = V m c main_arg1 := by
  funext j
  show V m c main_arg1 (((cfg0.win 1).blk t).view.emb j) = V m c main_arg1 j
  rw [emb1]

theorem iblk2_eq (c : Dev nD) (t : Fin cfg0.N) : iblk m c 2 t = V m c main_v1 := by
  funext j
  show V m c main_v1 (((cfg0.win 2).blk t).view.emb j) = V m c main_v1 j
  rw [emb2]

theorem iblk3_eq (c : Dev nD) (t : Fin cfg0.N) : iblk m c 3 t = V m c main_v2 := by
  funext j
  show V m c main_v2 (((cfg0.win 3).blk t).view.emb j) = V m c main_v2 j
  rw [emb3]

theorem hz : (![0, 0] : Fin 2 → Nat) = fun _ => 0 := funext fun a => by fin_cases a <;> rfl

theorem out4_eq (a0 : Vec Ideal S72x6144 .bf16) (a1 : Vec Ideal S6144x26816 .i8) (a2 : Vec Ideal S1x26816 .f32) (a3 : Vec Ideal S1x192 .f32) : out0_4 (F := Ideal) a0 a1 a2 a3 = k0_pay6 a0 a1 a2 := by
  unfold out0_4
  rw [View.canon_unit_zero hz, View.ld_unit_zero (S := S72x6144) hz _ a0, View.ld_unit_zero (S := S6144x26816) hz _ a1, View.ld_unit_zero (S := S1x26816) hz _ a2]

theorem cut4 (t : Fin cfg0.N) (X : Vec Ideal S72x12288 .f32) :
    (cfg0.win 4).cut (grid0.coords t) X = ((cfg0.win 4).blk t).view.read (Elt Ideal) X := by
  funext j
  show X j = X (((cfg0.win 4).blk t).view.emb j)
  rw [emb4]
theorem flushedV4 (c : Dev nD) (t : Fin cfg0.N) :
    (dats m 0 c).flushed 4 t = ((cfg0.win 4).blk t).view.read (Elt Ideal) (k0_pay6 (V m c main_v0) (V m c main_arg1) (V m c main_v1)) := by
  show (cfg0.win 4).cut (grid0.coords t) ((dats m 0 c).after 4 t) = _
  rw [after0_4, out4_eq, iblk0_eq, iblk1_eq, iblk2_eq]
  exact cut4 t _
theorem covered4 (i : S72x12288.Idx) : ∃ t : Fin cfg0.N, (cfg0.win 4).flush t = true ∧ i ∈ ((cfg0.win 4).blk t).view.set := by
  refine ⟨⟨0, by decide⟩, flush0_4 _, ?_⟩
  have h := ((cfg0.win 4).blk (⟨0, by decide⟩ : Fin cfg0.N)).view.emb_mem_set i
  rwa [emb4] at h
theorem final4 (c : Dev nD) : (dats m 0 c).arrAt 4 cfg0.N = k0_pay6 (V m c main_v0) (V m c main_arg1) (V m c main_v1) :=
  (dats m 0 c).arrAt_eq_of_cover 4 (k0_pay6 (V m c main_v0) (V m c main_arg1) (V m c main_v1)) (fun t _ => flushedV4 m c t) covered4

theorem out5_eq (a0 : Vec Ideal S72x6144 .bf16) (a1 : Vec Ideal S6144x26816 .i8) (a2 : Vec Ideal S1x26816 .f32) (a3 : Vec Ideal S1x192 .f32) : out0_5 (F := Ideal) a0 a1 a2 a3 = k0_pay7 a0 a1 a2 := by
  unfold out0_5
  rw [View.canon_unit_zero hz, View.ld_unit_zero (S := S72x6144) hz _ a0, View.ld_unit_zero (S := S6144x26816) hz _ a1, View.ld_unit_zero (S := S1x26816) hz _ a2]

theorem cut5 (t : Fin cfg0.N) (X : Vec Ideal S72x14336 .f32) :
    (cfg0.win 5).cut (grid0.coords t) X = ((cfg0.win 5).blk t).view.read (Elt Ideal) X := by
  funext j
  show X j = X (((cfg0.win 5).blk t).view.emb j)
  rw [emb5]
theorem flushedV5 (c : Dev nD) (t : Fin cfg0.N) :
    (dats m 0 c).flushed 5 t = ((cfg0.win 5).blk t).view.read (Elt Ideal) (k0_pay7 (V m c main_v0) (V m c main_arg1) (V m c main_v1)) := by
  show (cfg0.win 5).cut (grid0.coords t) ((dats m 0 c).after 5 t) = _
  rw [after0_5, out5_eq, iblk0_eq, iblk1_eq, iblk2_eq]
  exact cut5 t _
theorem covered5 (i : S72x14336.Idx) : ∃ t : Fin cfg0.N, (cfg0.win 5).flush t = true ∧ i ∈ ((cfg0.win 5).blk t).view.set := by
  refine ⟨⟨0, by decide⟩, flush0_5 _, ?_⟩
  have h := ((cfg0.win 5).blk (⟨0, by decide⟩ : Fin cfg0.N)).view.emb_mem_set i
  rwa [emb5] at h
theorem final5 (c : Dev nD) : (dats m 0 c).arrAt 5 cfg0.N = k0_pay7 (V m c main_v0) (V m c main_arg1) (V m c main_v1) :=
  (dats m 0 c).arrAt_eq_of_cover 5 (k0_pay7 (V m c main_v0) (V m c main_arg1) (V m c main_v1)) (fun t _ => flushedV5 m c t) covered5

theorem out6_eq (a0 : Vec Ideal S72x6144 .bf16) (a1 : Vec Ideal S6144x26816 .i8) (a2 : Vec Ideal S1x26816 .f32) (a3 : Vec Ideal S1x192 .f32) : out0_6 (F := Ideal) a0 a1 a2 a3 = k0_pay1 (k0_pay8 a0 a1 a2 a3) := by
  unfold out0_6
  rw [View.canon_unit_zero hz, View.ld_unit_zero (S := S72x6144) hz _ a0, View.ld_unit_zero (S := S6144x26816) hz _ a1, View.ld_unit_zero (S := S1x26816) hz _ a2, View.ld_unit_zero (S := S1x192) hz _ a3]

theorem cut6 (t : Fin cfg0.N) (X : Vec Ideal S72x192 .f32) :
    (cfg0.win 6).cut (grid0.coords t) X = ((cfg0.win 6).blk t).view.read (Elt Ideal) X := by
  funext j
  show X j = X (((cfg0.win 6).blk t).view.emb j)
  rw [emb6]
theorem flushedV6 (c : Dev nD) (t : Fin cfg0.N) :
    (dats m 0 c).flushed 6 t = ((cfg0.win 6).blk t).view.read (Elt Ideal) (k0_pay1 (k0_pay8 (V m c main_v0) (V m c main_arg1) (V m c main_v1) (V m c main_v2))) := by
  show (cfg0.win 6).cut (grid0.coords t) ((dats m 0 c).after 6 t) = _
  rw [after0_6, out6_eq, iblk0_eq, iblk1_eq, iblk2_eq, iblk3_eq]
  exact cut6 t _
theorem covered6 (i : S72x192.Idx) : ∃ t : Fin cfg0.N, (cfg0.win 6).flush t = true ∧ i ∈ ((cfg0.win 6).blk t).view.set := by
  refine ⟨⟨0, by decide⟩, flush0_6 _, ?_⟩
  have h := ((cfg0.win 6).blk (⟨0, by decide⟩ : Fin cfg0.N)).view.emb_mem_set i
  rwa [emb6] at h
theorem final6 (c : Dev nD) : (dats m 0 c).arrAt 6 cfg0.N = k0_pay1 (k0_pay8 (V m c main_v0) (V m c main_arg1) (V m c main_v1) (V m c main_v2)) :=
  (dats m 0 c).arrAt_eq_of_cover 6 (k0_pay1 (k0_pay8 (V m c main_v0) (V m c main_arg1) (V m c main_v1) (V m c main_v2))) (fun t _ => flushedV6 m c t) covered6

theorem out7_eq (a0 : Vec Ideal S72x6144 .bf16) (a1 : Vec Ideal S6144x26816 .i8) (a2 : Vec Ideal S1x26816 .f32) (a3 : Vec Ideal S1x192 .f32) : out0_7 (F := Ideal) a0 a1 a2 a3 = k0_pay4 a0 := by
  unfold out0_7
  rw [View.canon_unit_zero hz, View.ld_unit_zero (S := S72x6144) hz _ a0]

theorem cut7 (t : Fin cfg0.N) (X : Vec Ideal S72x6144 .i8) :
    (cfg0.win 7).cut (grid0.coords t) X = ((cfg0.win 7).blk t).view.read (Elt Ideal) X := by
  funext j
  show X j = X (((cfg0.win 7).blk t).view.emb j)
  rw [emb7]
theorem flushedV7 (c : Dev nD) (t : Fin cfg0.N) :
    (dats m 0 c).flushed 7 t = ((cfg0.win 7).blk t).view.read (Elt Ideal) (k0_pay4 (V m c main_v0)) := by
  show (cfg0.win 7).cut (grid0.coords t) ((dats m 0 c).after 7 t) = _
  rw [after0_7, out7_eq, iblk0_eq]
  exact cut7 t _
theorem covered7 (i : S72x6144.Idx) : ∃ t : Fin cfg0.N, (cfg0.win 7).flush t = true ∧ i ∈ ((cfg0.win 7).blk t).view.set := by
  refine ⟨⟨0, by decide⟩, flush0_7 _, ?_⟩
  have h := ((cfg0.win 7).blk (⟨0, by decide⟩ : Fin cfg0.N)).view.emb_mem_set i
  rwa [emb7] at h
theorem final7 (c : Dev nD) : (dats m 0 c).arrAt 7 cfg0.N = k0_pay4 (V m c main_v0) :=
  (dats m 0 c).arrAt_eq_of_cover 7 (k0_pay4 (V m c main_v0)) (fun t _ => flushedV7 m c t) covered7

theorem out8_eq (a0 : Vec Ideal S72x6144 .bf16) (a1 : Vec Ideal S6144x26816 .i8) (a2 : Vec Ideal S1x26816 .f32) (a3 : Vec Ideal S1x192 .f32) : out0_8 (F := Ideal) a0 a1 a2 a3 = k0_pay3 a0 := by
  unfold out0_8
  rw [View.canon_unit_zero hz, View.ld_unit_zero (S := S72x6144) hz _ a0]

theorem cut8 (t : Fin cfg0.N) (X : Vec Ideal S72x1 .f32) :
    (cfg0.win 8).cut (grid0.coords t) X = ((cfg0.win 8).blk t).view.read (Elt Ideal) X := by
  funext j
  show X j = X (((cfg0.win 8).blk t).view.emb j)
  rw [emb8]
theorem flushedV8 (c : Dev nD) (t : Fin cfg0.N) :
    (dats m 0 c).flushed 8 t = ((cfg0.win 8).blk t).view.read (Elt Ideal) (k0_pay3 (V m c main_v0)) := by
  show (cfg0.win 8).cut (grid0.coords t) ((dats m 0 c).after 8 t) = _
  rw [after0_8, out8_eq, iblk0_eq]
  exact cut8 t _
theorem covered8 (i : S72x1.Idx) : ∃ t : Fin cfg0.N, (cfg0.win 8).flush t = true ∧ i ∈ ((cfg0.win 8).blk t).view.set := by
  refine ⟨⟨0, by decide⟩, flush0_8 _, ?_⟩
  have h := ((cfg0.win 8).blk (⟨0, by decide⟩ : Fin cfg0.N)).view.emb_mem_set i
  rwa [emb8] at h
theorem final8 (c : Dev nD) : (dats m 0 c).arrAt 8 cfg0.N = k0_pay3 (V m c main_v0) :=
  (dats m 0 c).arrAt_eq_of_cover 8 (k0_pay3 (V m c main_v0)) (fun t _ => flushedV8 m c t) covered8

end Cert.Proof.InReference

end
-- ==== Proof.InAlgebraic.lean ====
module

public import proofs.«01_k».proof.Proof.InValue
public import proofs.«01_k».proof.Proof.InReference

@[expose] public section

noncomputable section

/-! The arrays the input projection leaves are the reference's results. -/

namespace Cert.Proof.InIdeal

open Cert.KernelInIdeal Cert.KernelInIdeal.Gen
open Idealize.ShloMosaic Idealize.ShloMosaic.TcCoe Idealize.ShloMosaic.ValueIdx Idealize.SL.Sem
open Idealize.ShloMosaic.Pipeline Idealize.ShloMosaic.StableHlo

variable (m : (ℓ : Loc nD τ sig) → Buf (Elt Ideal) ℓ) (ρ : Dev nD → PrngReg)

theorem V_main_v0 (c : Dev nD) : V m c main_v0 = shapeCast S72x6144 (m ((c : Thread nD τ).loc main_arg0)) shapeCasts_S72x1x6144_S72x6144 := by
  show StableHlo.after hostOps0 _ (Proc.devRef .tc main_v0) = _
  unfold hostOps0
  after_results
  rfl

theorem V_main_v1 (c : Dev nD) : V m c main_v1 = shapeCast S1x26816 (m ((c : Thread nD τ).loc main_arg2)) shapeCasts_S26816_S1x26816 := by
  show StableHlo.after hostOps0 _ (Proc.devRef .tc main_v1) = _
  unfold hostOps0
  after_results
  rfl

theorem V_main_v2 (c : Dev nD) : V m c main_v2 = shapeCast S1x192 (m ((c : Thread nD τ).loc main_arg3)) shapeCasts_S192_S1x192 := by
  show StableHlo.after hostOps0 _ (Proc.devRef .tc main_v2) = _
  unfold hostOps0
  after_results
  rfl

theorem V_main_v3 (c : Dev nD) : V m c main_v3 = transpose S26816x6144 [1, 0] (m ((c : Thread nD τ).loc main_arg1)) transposes_S6144x26816_S26816x6144_1_0 := by
  show StableHlo.after hostOps0 _ (Proc.devRef .tc main_v3) = _
  unfold hostOps0
  after_results

/-- The weights the kernel reads are the argument's, transposed. -/
theorem XA_apply (c : Dev nD) (N : Fin 26816) (K : Fin 6144) :
    (show Vec Ideal S26816x6144 .i8 from XA m c) (ix2 N K) = (show Vec Ideal S6144x26816 .i8 from m ((c : Thread nD τ).loc main_arg1)) (ix2 K N) := by
  refine (congrFun (V_main_v3 m c) (ix2 N K)).trans ?_
  exact transpose_ix2_apply _ _ N K

theorem idx_zero0 : ∀ t : Fin cfg0.N, win0_0.index t 0 = 0 ∧ win0_0.index t 1 = 0 :=
  (by decide +kernel : ∀ t : Fin grid0.N, win0_0.index t 0 = 0 ∧ win0_0.index t 1 = 0)
theorem emb0 (t : Fin cfg0.N) (j : ((cfg0.win 0).xblock (cfg0.grid.coords t)).Idx) : ((cfg0.win 0).blk t).view.emb j = j := by
  obtain ⟨e0, e1⟩ := idx_zero0 t
  funext a
  refine Fin.ext ?_
  match a with
  | ⟨0, _⟩ => show win0_0.index t (0 : Fin 2) * 72 + 1 * (j (0 : Fin 2)).val = (j (0 : Fin 2)).val; omega
  | ⟨1, _⟩ => show win0_0.index t (1 : Fin 2) * 6144 + 1 * (j (1 : Fin 2)).val = (j (1 : Fin 2)).val; omega

theorem idx_zero1 : ∀ t : Fin cfg0.N, win0_1.index t 0 = 0 ∧ win0_1.index t 1 = 0 :=
  (by decide +kernel : ∀ t : Fin grid0.N, win0_1.index t 0 = 0 ∧ win0_1.index t 1 = 0)
theorem emb1 (t : Fin cfg0.N) (j : ((cfg0.win 1).xblock (cfg0.grid.coords t)).Idx) : ((cfg0.win 1).blk t).view.emb j = j := by
  obtain ⟨e0, e1⟩ := idx_zero1 t
  funext a
  refine Fin.ext ?_
  match a with
  | ⟨0, _⟩ => show win0_1.index t (0 : Fin 2) * 1 + 1 * (j (0 : Fin 2)).val = (j (0 : Fin 2)).val; omega
  | ⟨1, _⟩ => show win0_1.index t (1 : Fin 2) * 26816 + 1 * (j (1 : Fin 2)).val = (j (1 : Fin 2)).val; omega

theorem idx_zero2 : ∀ t : Fin cfg0.N, win0_2.index t 0 = 0 ∧ win0_2.index t 1 = 0 :=
  (by decide +kernel : ∀ t : Fin grid0.N, win0_2.index t 0 = 0 ∧ win0_2.index t 1 = 0)
theorem emb2 (t : Fin cfg0.N) (j : ((cfg0.win 2).xblock (cfg0.grid.coords t)).Idx) : ((cfg0.win 2).blk t).view.emb j = j := by
  obtain ⟨e0, e1⟩ := idx_zero2 t
  funext a
  refine Fin.ext ?_
  match a with
  | ⟨0, _⟩ => show win0_2.index t (0 : Fin 2) * 1 + 1 * (j (0 : Fin 2)).val = (j (0 : Fin 2)).val; omega
  | ⟨1, _⟩ => show win0_2.index t (1 : Fin 2) * 192 + 1 * (j (1 : Fin 2)).val = (j (1 : Fin 2)).val; omega

theorem idx_zero3 : ∀ t : Fin cfg0.N, win0_3.index t 0 = 0 ∧ win0_3.index t 1 = 0 :=
  (by decide +kernel : ∀ t : Fin grid0.N, win0_3.index t 0 = 0 ∧ win0_3.index t 1 = 0)
theorem emb3 (t : Fin cfg0.N) (j : ((cfg0.win 3).xblock (cfg0.grid.coords t)).Idx) : ((cfg0.win 3).blk t).view.emb j = j := by
  obtain ⟨e0, e1⟩ := idx_zero3 t
  funext a
  refine Fin.ext ?_
  match a with
  | ⟨0, _⟩ => show win0_3.index t (0 : Fin 2) * 72 + 1 * (j (0 : Fin 2)).val = (j (0 : Fin 2)).val; omega
  | ⟨1, _⟩ => show win0_3.index t (1 : Fin 2) * 12288 + 1 * (j (1 : Fin 2)).val = (j (1 : Fin 2)).val; omega

theorem idx_zero4 : ∀ t : Fin cfg0.N, win0_4.index t 0 = 0 ∧ win0_4.index t 1 = 0 :=
  (by decide +kernel : ∀ t : Fin grid0.N, win0_4.index t 0 = 0 ∧ win0_4.index t 1 = 0)
theorem emb4 (t : Fin cfg0.N) (j : ((cfg0.win 4).xblock (cfg0.grid.coords t)).Idx) : ((cfg0.win 4).blk t).view.emb j = j := by
  obtain ⟨e0, e1⟩ := idx_zero4 t
  funext a
  refine Fin.ext ?_
  match a with
  | ⟨0, _⟩ => show win0_4.index t (0 : Fin 2) * 72 + 1 * (j (0 : Fin 2)).val = (j (0 : Fin 2)).val; omega
  | ⟨1, _⟩ => show win0_4.index t (1 : Fin 2) * 14336 + 1 * (j (1 : Fin 2)).val = (j (1 : Fin 2)).val; omega

theorem idx_zero5 : ∀ t : Fin cfg0.N, win0_5.index t 0 = 0 ∧ win0_5.index t 1 = 0 :=
  (by decide +kernel : ∀ t : Fin grid0.N, win0_5.index t 0 = 0 ∧ win0_5.index t 1 = 0)
theorem emb5 (t : Fin cfg0.N) (j : ((cfg0.win 5).xblock (cfg0.grid.coords t)).Idx) : ((cfg0.win 5).blk t).view.emb j = j := by
  obtain ⟨e0, e1⟩ := idx_zero5 t
  funext a
  refine Fin.ext ?_
  match a with
  | ⟨0, _⟩ => show win0_5.index t (0 : Fin 2) * 72 + 1 * (j (0 : Fin 2)).val = (j (0 : Fin 2)).val; omega
  | ⟨1, _⟩ => show win0_5.index t (1 : Fin 2) * 192 + 1 * (j (1 : Fin 2)).val = (j (1 : Fin 2)).val; omega

theorem idx_zero6 : ∀ t : Fin cfg0.N, win0_6.index t 0 = 0 ∧ win0_6.index t 1 = 0 :=
  (by decide +kernel : ∀ t : Fin grid0.N, win0_6.index t 0 = 0 ∧ win0_6.index t 1 = 0)
theorem emb6 (t : Fin cfg0.N) (j : ((cfg0.win 6).xblock (cfg0.grid.coords t)).Idx) : ((cfg0.win 6).blk t).view.emb j = j := by
  obtain ⟨e0, e1⟩ := idx_zero6 t
  funext a
  refine Fin.ext ?_
  match a with
  | ⟨0, _⟩ => show win0_6.index t (0 : Fin 2) * 72 + 1 * (j (0 : Fin 2)).val = (j (0 : Fin 2)).val; omega
  | ⟨1, _⟩ => show win0_6.index t (1 : Fin 2) * 6144 + 1 * (j (1 : Fin 2)).val = (j (1 : Fin 2)).val; omega

theorem idx_zero7 : ∀ t : Fin cfg0.N, win0_7.index t 0 = 0 ∧ win0_7.index t 1 = 0 :=
  (by decide +kernel : ∀ t : Fin grid0.N, win0_7.index t 0 = 0 ∧ win0_7.index t 1 = 0)
theorem emb7 (t : Fin cfg0.N) (j : ((cfg0.win 7).xblock (cfg0.grid.coords t)).Idx) : ((cfg0.win 7).blk t).view.emb j = j := by
  obtain ⟨e0, e1⟩ := idx_zero7 t
  funext a
  refine Fin.ext ?_
  match a with
  | ⟨0, _⟩ => show win0_7.index t (0 : Fin 2) * 72 + 1 * (j (0 : Fin 2)).val = (j (0 : Fin 2)).val; omega
  | ⟨1, _⟩ => show win0_7.index t (1 : Fin 2) * 1 + 1 * (j (1 : Fin 2)).val = (j (1 : Fin 2)).val; omega

theorem iblk0_eq (c : Dev nD) (t : Fin cfg0.N) : iblk m c 0 t = V m c main_v0 := by
  funext j
  show V m c main_v0 (((cfg0.win 0).blk t).view.emb j) = V m c main_v0 j
  rw [emb0]

theorem iblk1_eq (c : Dev nD) (t : Fin cfg0.N) : iblk m c 1 t = V m c main_v1 := by
  funext j
  show V m c main_v1 (((cfg0.win 1).blk t).view.emb j) = V m c main_v1 j
  rw [emb1]

theorem iblk2_eq (c : Dev nD) (t : Fin cfg0.N) : iblk m c 2 t = V m c main_v2 := by
  funext j
  show V m c main_v2 (((cfg0.win 2).blk t).view.emb j) = V m c main_v2 j
  rw [emb2]

theorem cut3 (t : Fin cfg0.N) (X : Vec Ideal S72x12288 .f32) :
    (cfg0.win 3).cut (grid0.coords t) X = ((cfg0.win 3).blk t).view.read (Elt Ideal) X := by
  funext j
  show X j = X (((cfg0.win 3).blk t).view.emb j)
  rw [emb3]
theorem flushedV3 (c : Dev nD) (t : Fin cfg0.N) :
    (dats m 0 c).flushed 3 t = ((cfg0.win 3).blk t).view.read (Elt Ideal) (ZV c (XA m c) (V m c main_v0) (V m c main_v1)) := by
  show (cfg0.win 3).cut (grid0.coords t) ((dats m 0 c).after 3 t) = _
  rw [after_w3, iblk0_eq, iblk1_eq]
  exact cut3 t _
theorem covered3 (i : S72x12288.Idx) : ∃ t : Fin cfg0.N, (cfg0.win 3).flush t = true ∧ i ∈ ((cfg0.win 3).blk t).view.set := by
  refine ⟨⟨0, by decide⟩, flush0_3 _, ?_⟩
  have h := ((cfg0.win 3).blk (⟨0, by decide⟩ : Fin cfg0.N)).view.emb_mem_set i
  rwa [emb3] at h
theorem final3 (c : Dev nD) : finalA m c 3 = ZV c (XA m c) (V m c main_v0) (V m c main_v1) :=
  (dats m 0 c).arrAt_eq_of_cover 3 (ZV c (XA m c) (V m c main_v0) (V m c main_v1)) (fun t _ => flushedV3 m c t) covered3

theorem cut4 (t : Fin cfg0.N) (X : Vec Ideal S72x14336 .f32) :
    (cfg0.win 4).cut (grid0.coords t) X = ((cfg0.win 4).blk t).view.read (Elt Ideal) X := by
  funext j
  show X j = X (((cfg0.win 4).blk t).view.emb j)
  rw [emb4]
theorem flushedV4 (c : Dev nD) (t : Fin cfg0.N) :
    (dats m 0 c).flushed 4 t = ((cfg0.win 4).blk t).view.read (Elt Ideal) (YV c (XA m c) (V m c main_v0) (V m c main_v1)) := by
  show (cfg0.win 4).cut (grid0.coords t) ((dats m 0 c).after 4 t) = _
  rw [after_w4, iblk0_eq, iblk1_eq]
  exact cut4 t _
theorem covered4 (i : S72x14336.Idx) : ∃ t : Fin cfg0.N, (cfg0.win 4).flush t = true ∧ i ∈ ((cfg0.win 4).blk t).view.set := by
  refine ⟨⟨0, by decide⟩, flush0_4 _, ?_⟩
  have h := ((cfg0.win 4).blk (⟨0, by decide⟩ : Fin cfg0.N)).view.emb_mem_set i
  rwa [emb4] at h
theorem final4 (c : Dev nD) : finalA m c 4 = YV c (XA m c) (V m c main_v0) (V m c main_v1) :=
  (dats m 0 c).arrAt_eq_of_cover 4 (YV c (XA m c) (V m c main_v0) (V m c main_v1)) (fun t _ => flushedV4 m c t) covered4

theorem cut5 (t : Fin cfg0.N) (X : Vec Ideal S72x192 .f32) :
    (cfg0.win 5).cut (grid0.coords t) X = ((cfg0.win 5).blk t).view.read (Elt Ideal) X := by
  funext j
  show X j = X (((cfg0.win 5).blk t).view.emb j)
  rw [emb5]
theorem flushedV5 (c : Dev nD) (t : Fin cfg0.N) :
    (dats m 0 c).flushed 5 t = ((cfg0.win 5).blk t).view.read (Elt Ideal) (DT c (XA m c) (V m c main_v0) (V m c main_v1) (V m c main_v2)) := by
  show (cfg0.win 5).cut (grid0.coords t) ((dats m 0 c).after 5 t) = _
  rw [after_w5, iblk0_eq, iblk1_eq, iblk2_eq]
  exact cut5 t _
theorem covered5 (i : S72x192.Idx) : ∃ t : Fin cfg0.N, (cfg0.win 5).flush t = true ∧ i ∈ ((cfg0.win 5).blk t).view.set := by
  refine ⟨⟨0, by decide⟩, flush0_5 _, ?_⟩
  have h := ((cfg0.win 5).blk (⟨0, by decide⟩ : Fin cfg0.N)).view.emb_mem_set i
  rwa [emb5] at h
theorem final5 (c : Dev nD) : finalA m c 5 = DT c (XA m c) (V m c main_v0) (V m c main_v1) (V m c main_v2) :=
  (dats m 0 c).arrAt_eq_of_cover 5 (DT c (XA m c) (V m c main_v0) (V m c main_v1) (V m c main_v2)) (fun t _ => flushedV5 m c t) covered5

theorem cut6 (t : Fin cfg0.N) (X : Vec Ideal S72x6144 .i8) :
    (cfg0.win 6).cut (grid0.coords t) X = ((cfg0.win 6).blk t).view.read (Elt Ideal) X := by
  funext j
  show X j = X (((cfg0.win 6).blk t).view.emb j)
  rw [emb6]
theorem flushedV6 (c : Dev nD) (t : Fin cfg0.N) :
    (dats m 0 c).flushed 6 t = ((cfg0.win 6).blk t).view.read (Elt Ideal) (CODES (V m c main_v0)) := by
  show (cfg0.win 6).cut (grid0.coords t) ((dats m 0 c).after 6 t) = _
  rw [after_w6, iblk0_eq]
  exact cut6 t _
theorem covered6 (i : S72x6144.Idx) : ∃ t : Fin cfg0.N, (cfg0.win 6).flush t = true ∧ i ∈ ((cfg0.win 6).blk t).view.set := by
  refine ⟨⟨0, by decide⟩, flush0_6 _, ?_⟩
  have h := ((cfg0.win 6).blk (⟨0, by decide⟩ : Fin cfg0.N)).view.emb_mem_set i
  rwa [emb6] at h
theorem final6 (c : Dev nD) : finalA m c 6 = CODES (V m c main_v0) :=
  (dats m 0 c).arrAt_eq_of_cover 6 (CODES (V m c main_v0)) (fun t _ => flushedV6 m c t) covered6

theorem cut7 (t : Fin cfg0.N) (X : Vec Ideal S72x1 .f32) :
    (cfg0.win 7).cut (grid0.coords t) X = ((cfg0.win 7).blk t).view.read (Elt Ideal) X := by
  funext j
  show X j = X (((cfg0.win 7).blk t).view.emb j)
  rw [emb7]
theorem flushedV7 (c : Dev nD) (t : Fin cfg0.N) :
    (dats m 0 c).flushed 7 t = ((cfg0.win 7).blk t).view.read (Elt Ideal) (SC (V m c main_v0)) := by
  show (cfg0.win 7).cut (grid0.coords t) ((dats m 0 c).after 7 t) = _
  rw [after_w7, iblk0_eq]
  exact cut7 t _
theorem covered7 (i : S72x1.Idx) : ∃ t : Fin cfg0.N, (cfg0.win 7).flush t = true ∧ i ∈ ((cfg0.win 7).blk t).view.set := by
  refine ⟨⟨0, by decide⟩, flush0_7 _, ?_⟩
  have h := ((cfg0.win 7).blk (⟨0, by decide⟩ : Fin cfg0.N)).view.emb_mem_set i
  rwa [emb7] at h
theorem final7 (c : Dev nD) : finalA m c 7 = SC (V m c main_v0) :=
  (dats m 0 c).arrAt_eq_of_cover 7 (SC (V m c main_v0)) (fun t _ => flushedV7 m c t) covered7

/-- Over the extended reals, from the same arguments, the kernel's five results — the gate rows, the convolution's input
rows, the step sizes, the int8 codes and the scales — are the reference's, on every device. -/
theorem algebraic : Cert.algebraic_KernelInIdeal_ReferenceInIdeal (hKernelInIdeal := Cert.KernelInIdeal.Gen.facts)
    (hReferenceInIdeal := Cert.ReferenceInIdeal.Gen.facts) := fun m g m' g' _ hargs =>
  ⟨fun c => ZV c (XA m c) (V m c main_v0) (V m c main_v1), fun c => YV c (XA m c) (V m c main_v0) (V m c main_v1),
    fun c => DT c (XA m c) (V m c main_v0) (V m c main_v1) (V m c main_v2), fun c => CODES (V m c main_v0), fun c => SC (V m c main_v0),
    (θ_run defs _ _).mono (fun r hh c => ⟨((hh.1 c).1 3).trans (final3 m c), ((hh.1 c).1 4).trans (final4 m c), ((hh.1 c).1 5).trans (final5 m c),
      ((hh.1 c).1 6).trans (final6 m c), ((hh.1 c).1 7).trans (final7 m c), (hh.1 c).2⟩) (run_main m g),
    (θ_run _ _ _).mono (fun r hh c => by
      obtain ⟨h0, h1, h2, h3, h4, k⟩ := hh c
      obtain ⟨a0, a1, a2, a3⟩ := hargs c
      have e0 : Cert.ReferenceInIdeal.Gen.V m' c Cert.ReferenceInIdeal.main_v0 = V m c main_v0 :=
        (InReference.V_main_v0 m' c).trans ((congrArg (fun z => shapeCast S72x6144 z shapeCasts_S72x1x6144_S72x6144) a0).trans (V_main_v0 m c).symm)
      have e1 : Cert.ReferenceInIdeal.Gen.V m' c Cert.ReferenceInIdeal.main_arg1 = m ((c : Thread nD τ).loc main_arg1) :=
        (Cert.ReferenceInIdeal.Gen.V_main_arg1 m' c).trans a1
      have e2 : Cert.ReferenceInIdeal.Gen.V m' c Cert.ReferenceInIdeal.main_v1 = V m c main_v1 :=
        (InReference.V_main_v1 m' c).trans ((congrArg (fun z => shapeCast S1x26816 z shapeCasts_S26816_S1x26816) a2).trans (V_main_v1 m c).symm)
      have e3 : Cert.ReferenceInIdeal.Gen.V m' c Cert.ReferenceInIdeal.main_v2 = V m c main_v2 :=
        (InReference.V_main_v2 m' c).trans ((congrArg (fun z => shapeCast S1x192 z shapeCasts_S192_S1x192) a3).trans (V_main_v2 m c).symm)
      have f0 := h0.trans (InReference.final4 m' c)
      have f1 := h1.trans (InReference.final5 m' c)
      have f2 := h2.trans (InReference.final6 m' c)
      have f3 := h3.trans (InReference.final7 m' c)
      have f4 := h4.trans (InReference.final8 m' c)
      rw [e0, e1, e2] at f0 f1
      rw [e0, e1, e2, e3] at f2
      rw [e0] at f3 f4
      exact ⟨f0.trans (ZV_eq c (XA m c) _ (XA_apply m c) _ _).symm, f1.trans (YV_eq c (XA m c) _ (XA_apply m c) _ _).symm,
        f2.trans (DT_eq c (XA m c) _ (XA_apply m c) _ _ _).symm, f3.trans (CODES_eq _).symm, f4.trans (SC_eq _).symm, k⟩)
      (Cert.ReferenceInIdeal.Value.run_blocks (F := Ideal) m' g')⟩

end Cert.Proof.InIdeal

end
-- ==== Proof.lean ====
module

public import proofs.«01_k».proof.Defs
public import proofs.«01_k».proof.Proof.OutLaunch
public import proofs.«01_k».proof.Proof.OutIdealLaunch
public import proofs.«01_k».proof.Proof.OutAlgebraic
public import proofs.«01_k».proof.Proof.InLaunch
public import proofs.«01_k».proof.Proof.InIdealLaunch
public import proofs.«01_k».proof.Proof.InAlgebraic
public import proofs.«01_k».proof.Proof.Gen.KernelOut
public import proofs.«01_k».proof.Proof.Gen.KernelOutIdeal
public import proofs.«01_k».proof.Proof.Gen.ReferenceOutIdeal
public import proofs.«01_k».proof.Proof.Gen.ReferenceOutIdeal.Frame
public import proofs.«01_k».proof.Proof.Gen.ReferenceOutIdeal.Value
public import proofs.«01_k».proof.Proof.Gen.KernelIn
public import proofs.«01_k».proof.Proof.Gen.KernelIn.Launch
public import proofs.«01_k».proof.Proof.Gen.KernelIn.Skeleton
public import proofs.«01_k».proof.Proof.Gen.KernelIn.Loops
public import proofs.«01_k».proof.Proof.Gen.KernelIn.Points
public import proofs.«01_k».proof.Proof.Gen.KernelInIdeal
public import proofs.«01_k».proof.Proof.Gen.KernelInIdeal.Launch
public import proofs.«01_k».proof.Proof.Gen.KernelInIdeal.Skeleton
public import proofs.«01_k».proof.Proof.Gen.KernelInIdeal.Loops
public import proofs.«01_k».proof.Proof.Gen.KernelInIdeal.Points
public import proofs.«01_k».proof.Proof.Gen.ReferenceInIdeal
public import proofs.«01_k».proof.Proof.Gen.ReferenceInIdeal.Frame
public import proofs.«01_k».proof.Proof.Gen.ReferenceInIdeal.Value

@[expose] public section

/-- Everything the certificate states, proved. -/
theorem Cert.Proof.claim : Cert.Claim :=
  ⟨Cert.KernelOut.Gen.facts, Cert.KernelOutIdeal.Gen.facts, Cert.ReferenceOutIdeal.Gen.facts,
    Cert.KernelIn.Gen.facts, Cert.KernelInIdeal.Gen.facts, Cert.ReferenceInIdeal.Gen.facts,
    Cert.Proof.Out.frame, Cert.Proof.OutIdeal.frame, fun m ρ _ => Cert.ReferenceOutIdeal.Gen.frame m ρ,
    Cert.Proof.In.frame, Cert.Proof.InIdeal.frame, fun m ρ _ => Cert.ReferenceInIdeal.Gen.frame m ρ,
    trivial, Cert.Proof.OutIdeal.algebraic, trivial, Cert.Proof.InIdeal.algebraic⟩

end
